-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_queries_and_keys_finite [hPre_queries_and_keys_finite : Cert.Pre_queries_and_keys_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_queries_and_keys_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_queries_and_keys_finite [hPre_queries_and_keys_finite : Cert.Pre_queries_and_keys_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_queries_and_keys_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))) = (fun _ => 1#1)

def Pre_NaKernel (m : (ℓ : Loc Cert.NaKernel.nD Cert.NaKernel.τ Cert.NaKernel.sig) → Buf (Elt Bits) ℓ) : Prop :=
  True

def Pre_NaKernelIdeal (m : (ℓ : Loc Cert.NaKernelIdeal.nD Cert.NaKernelIdeal.τ Cert.NaKernelIdeal.sig) → Buf (Elt Ideal) ℓ) : Prop :=
  True

def Pre_NaReferenceIdeal (m : (ℓ : Loc Cert.NaReferenceIdeal.nD Cert.NaReferenceIdeal.τ Cert.NaReferenceIdeal.sig) → Buf (Elt Ideal) ℓ) : Prop :=
  True

def Pre_ColumnsKernel (m : (ℓ : Loc Cert.ColumnsKernel.nD Cert.ColumnsKernel.τ Cert.ColumnsKernel.sig) → Buf (Elt Bits) ℓ) : Prop :=
  True

def Pre_ColumnsKernelIdeal (m : (ℓ : Loc Cert.ColumnsKernelIdeal.nD Cert.ColumnsKernelIdeal.τ Cert.ColumnsKernelIdeal.sig) → Buf (Elt Ideal) ℓ) : Prop :=
  True

def Pre_ColumnsReferenceIdeal (m : (ℓ : Loc Cert.ColumnsReferenceIdeal.nD Cert.ColumnsReferenceIdeal.τ Cert.ColumnsReferenceIdeal.sig) → Buf (Elt Ideal) ℓ) : Prop :=
  True

def Pre_TableKernel (m : (ℓ : Loc Cert.TableKernel.nD Cert.TableKernel.τ Cert.TableKernel.sig) → Buf (Elt Bits) ℓ) : Prop :=
  True

def Pre_TableKernelIdeal (m : (ℓ : Loc Cert.TableKernelIdeal.nD Cert.TableKernelIdeal.τ Cert.TableKernelIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_all_but_gate_finite [hPre_all_but_gate_finite : Cert.Pre_all_but_gate_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_all_but_gate_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_all_but_gate_finite [hPre_all_but_gate_finite : Cert.Pre_all_but_gate_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_all_but_gate_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_LatentKernel (m : (ℓ : Loc Cert.LatentKernel.nD Cert.LatentKernel.τ Cert.LatentKernel.sig) → Buf (Elt Bits) ℓ) : Prop :=
  True

def Pre_LatentKernelIdeal (m : (ℓ : Loc Cert.LatentKernelIdeal.nD Cert.LatentKernelIdeal.τ Cert.LatentKernelIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_MlafwdKernel (m : (ℓ : Loc Cert.MlafwdKernel.nD Cert.MlafwdKernel.τ Cert.MlafwdKernel.sig) → Buf (Elt Bits) ℓ) : Prop :=
  True

def Pre_MlafwdKernelIdeal (m : (ℓ : Loc Cert.MlafwdKernelIdeal.nD Cert.MlafwdKernelIdeal.τ Cert.MlafwdKernelIdeal.sig) → Buf (Elt Ideal) ℓ) : Prop :=
  True

def Pre_MlafwdReferenceIdeal (m : (ℓ : Loc Cert.MlafwdReferenceIdeal.nD Cert.MlafwdReferenceIdeal.τ Cert.MlafwdReferenceIdeal.sig) → Buf (Elt Ideal) ℓ) : Prop :=
  True

def Pre_RmsfwdKernel (m : (ℓ : Loc Cert.RmsfwdKernel.nD Cert.RmsfwdKernel.τ Cert.RmsfwdKernel.sig) → Buf (Elt Bits) ℓ) : Prop :=
  True

def Pre_RmsfwdKernelIdeal (m : (ℓ : Loc Cert.RmsfwdKernelIdeal.nD Cert.RmsfwdKernelIdeal.τ Cert.RmsfwdKernelIdeal.sig) → Buf (Elt Ideal) ℓ) : Prop :=
  True

def Pre_RmsfwdReferenceIdeal (m : (ℓ : Loc Cert.RmsfwdReferenceIdeal.nD Cert.RmsfwdReferenceIdeal.τ Cert.RmsfwdReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_EmbedKernel (m : (ℓ : Loc Cert.EmbedKernel.nD Cert.EmbedKernel.τ Cert.EmbedKernel.sig) → Buf (Elt Bits) ℓ) : Prop :=
  True

def Pre_EmbedKernelIdeal (m : (ℓ : Loc Cert.EmbedKernelIdeal.nD Cert.EmbedKernelIdeal.τ Cert.EmbedKernelIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_QueriesKernel (m : (ℓ : Loc Cert.QueriesKernel.nD Cert.QueriesKernel.τ Cert.QueriesKernel.sig) → Buf (Elt Bits) ℓ) : Prop :=
  True

def Pre_QueriesKernelIdeal (m : (ℓ : Loc Cert.QueriesKernelIdeal.nD Cert.QueriesKernelIdeal.τ Cert.QueriesKernelIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def Pre_KeysKernel (m : (ℓ : Loc Cert.KeysKernel.nD Cert.KeysKernel.τ Cert.KeysKernel.sig) → Buf (Elt Bits) ℓ) : Prop :=
  True

def Pre_KeysKernelIdeal (m : (ℓ : Loc Cert.KeysKernelIdeal.nD Cert.KeysKernelIdeal.τ Cert.KeysKernelIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_NafwdKernel (m : (ℓ : Loc Cert.NafwdKernel.nD Cert.NafwdKernel.τ Cert.NafwdKernel.sig) → Buf (Elt Bits) ℓ) : Prop :=
  True

def Pre_NafwdKernelIdeal (m : (ℓ : Loc Cert.NafwdKernelIdeal.nD Cert.NafwdKernelIdeal.τ Cert.NafwdKernelIdeal.sig) → Buf (Elt Ideal) ℓ) : Prop :=
  True

def Pre_NafwdReferenceIdeal (m : (ℓ : Loc Cert.NafwdReferenceIdeal.nD Cert.NafwdReferenceIdeal.τ Cert.NafwdReferenceIdeal.sig) → Buf (Elt Ideal) ℓ) : Prop :=
  True

def Pre_DowndwKernel (m : (ℓ : Loc Cert.DowndwKernel.nD Cert.DowndwKernel.τ Cert.DowndwKernel.sig) → Buf (Elt Bits) ℓ) : Prop :=
  True

def Pre_DowndwKernelIdeal (m : (ℓ : Loc Cert.DowndwKernelIdeal.nD Cert.DowndwKernelIdeal.τ Cert.DowndwKernelIdeal.sig) → Buf (Elt Ideal) ℓ) : Prop :=
  True

def Pre_DowndwReferenceIdeal (m : (ℓ : Loc Cert.DowndwReferenceIdeal.nD Cert.DowndwReferenceIdeal.τ Cert.DowndwReferenceIdeal.sig) → Buf (Elt Ideal) ℓ) : Prop :=
  True

def Pre_UpdwKernel (m : (ℓ : Loc Cert.UpdwKernel.nD Cert.UpdwKernel.τ Cert.UpdwKernel.sig) → Buf (Elt Bits) ℓ) : Prop :=
  True

def Pre_UpdwKernelIdeal (m : (ℓ : Loc Cert.UpdwKernelIdeal.nD Cert.UpdwKernelIdeal.τ Cert.UpdwKernelIdeal.sig) → Buf (Elt Ideal) ℓ) : Prop :=
  True

def Pre_UpdwReferenceIdeal (m : (ℓ : Loc Cert.UpdwReferenceIdeal.nD Cert.UpdwReferenceIdeal.τ Cert.UpdwReferenceIdeal.sig) → Buf (Elt Ideal) ℓ) : Prop :=
  True

def Pre_UpdxKernel (m : (ℓ : Loc Cert.UpdxKernel.nD Cert.UpdxKernel.τ Cert.UpdxKernel.sig) → Buf (Elt Bits) ℓ) : Prop :=
  True

def Pre_UpdxKernelIdeal (m : (ℓ : Loc Cert.UpdxKernelIdeal.nD Cert.UpdxKernelIdeal.τ Cert.UpdxKernelIdeal.sig) → Buf (Elt Ideal) ℓ) : Prop :=
  True

def Pre_UpdxReferenceIdeal (m : (ℓ : Loc Cert.UpdxReferenceIdeal.nD Cert.UpdxReferenceIdeal.τ Cert.UpdxReferenceIdeal.sig) → Buf (Elt Ideal) ℓ) : Prop :=
  True

def Pre_InqkvKernel (m : (ℓ : Loc Cert.InqkvKernel.nD Cert.InqkvKernel.τ Cert.InqkvKernel.sig) → Buf (Elt Bits) ℓ) : Prop :=
  True

def Pre_InqkvKernelIdeal (m : (ℓ : Loc Cert.InqkvKernelIdeal.nD Cert.InqkvKernelIdeal.τ Cert.InqkvKernelIdeal.sig) → Buf (Elt Ideal) ℓ) : Prop :=
  True

def Pre_InqkvReferenceIdeal (m : (ℓ : Loc Cert.InqkvReferenceIdeal.nD Cert.InqkvReferenceIdeal.τ Cert.InqkvReferenceIdeal.sig) → Buf (Elt Ideal) ℓ) : Prop :=
  True

def Pre_BranchdwKernel (m : (ℓ : Loc Cert.BranchdwKernel.nD Cert.BranchdwKernel.τ Cert.BranchdwKernel.sig) → Buf (Elt Bits) ℓ) : Prop :=
  True

def Pre_BranchdwKernelIdeal (m : (ℓ : Loc Cert.BranchdwKernelIdeal.nD Cert.BranchdwKernelIdeal.τ Cert.BranchdwKernelIdeal.sig) → Buf (Elt Ideal) ℓ) : Prop :=
  True

def Pre_BranchdwReferenceIdeal (m : (ℓ : Loc Cert.BranchdwReferenceIdeal.nD Cert.BranchdwReferenceIdeal.τ Cert.BranchdwReferenceIdeal.sig) → Buf (Elt Ideal) ℓ) : Prop :=
  True

def Pre_QueriesdwKernel (m : (ℓ : Loc Cert.QueriesdwKernel.nD Cert.QueriesdwKernel.τ Cert.QueriesdwKernel.sig) → Buf (Elt Bits) ℓ) : Prop :=
  True

def Pre_QueriesdwKernelIdeal (m : (ℓ : Loc Cert.QueriesdwKernelIdeal.nD Cert.QueriesdwKernelIdeal.τ Cert.QueriesdwKernelIdeal.sig) → Buf (Elt Ideal) ℓ) : Prop :=
  True

def Pre_QueriesdwReferenceIdeal (m : (ℓ : Loc Cert.QueriesdwReferenceIdeal.nD Cert.QueriesdwReferenceIdeal.τ Cert.QueriesdwReferenceIdeal.sig) → Buf (Elt Ideal) ℓ) : Prop :=
  True

def Pre_QueriesdxKernel (m : (ℓ : Loc Cert.QueriesdxKernel.nD Cert.QueriesdxKernel.τ Cert.QueriesdxKernel.sig) → Buf (Elt Bits) ℓ) : Prop :=
  True

def Pre_QueriesdxKernelIdeal (m : (ℓ : Loc Cert.QueriesdxKernelIdeal.nD Cert.QueriesdxKernelIdeal.τ Cert.QueriesdxKernelIdeal.sig) → Buf (Elt Ideal) ℓ) : Prop :=
  True

def Pre_QueriesdxReferenceIdeal (m : (ℓ : Loc Cert.QueriesdxReferenceIdeal.nD Cert.QueriesdxReferenceIdeal.τ Cert.QueriesdxReferenceIdeal.sig) → Buf (Elt Ideal) ℓ) : Prop :=
  True

def Pre_BranchdxKernel (m : (ℓ : Loc Cert.BranchdxKernel.nD Cert.BranchdxKernel.τ Cert.BranchdxKernel.sig) → Buf (Elt Bits) ℓ) : Prop :=
  True

def Pre_BranchdxKernelIdeal (m : (ℓ : Loc Cert.BranchdxKernelIdeal.nD Cert.BranchdxKernelIdeal.τ Cert.BranchdxKernelIdeal.sig) → Buf (Elt Ideal) ℓ) : Prop :=
  True

def Pre_BranchdxReferenceIdeal (m : (ℓ : Loc Cert.BranchdxReferenceIdeal.nD Cert.BranchdxReferenceIdeal.τ Cert.BranchdxReferenceIdeal.sig) → Buf (Elt Ideal) ℓ) : Prop :=
  True

def Pre_GatedwKernel (m : (ℓ : Loc Cert.GatedwKernel.nD Cert.GatedwKernel.τ Cert.GatedwKernel.sig) → Buf (Elt Bits) ℓ) : Prop :=
  True

def Pre_GatedwKernelIdeal (m : (ℓ : Loc Cert.GatedwKernelIdeal.nD Cert.GatedwKernelIdeal.τ Cert.GatedwKernelIdeal.sig) → Buf (Elt Ideal) ℓ) : Prop :=
  True

def Pre_GatedwReferenceIdeal (m : (ℓ : Loc Cert.GatedwReferenceIdeal.nD Cert.GatedwReferenceIdeal.τ Cert.GatedwReferenceIdeal.sig) → Buf (Elt Ideal) ℓ) : Prop :=
  True

def Pre_GatedxKernel (m : (ℓ : Loc Cert.GatedxKernel.nD Cert.GatedxKernel.τ Cert.GatedxKernel.sig) → Buf (Elt Bits) ℓ) : Prop :=
  True

def Pre_GatedxKernelIdeal (m : (ℓ : Loc Cert.GatedxKernelIdeal.nD Cert.GatedxKernelIdeal.τ Cert.GatedxKernelIdeal.sig) → Buf (Elt Ideal) ℓ) : Prop :=
  True

def Pre_GatedxReferenceIdeal (m : (ℓ : Loc Cert.GatedxReferenceIdeal.nD Cert.GatedxReferenceIdeal.τ Cert.GatedxReferenceIdeal.sig) → Buf (Elt Ideal) ℓ) : Prop :=
  True

def Pre_IndxKernel (m : (ℓ : Loc Cert.IndxKernel.nD Cert.IndxKernel.τ Cert.IndxKernel.sig) → Buf (Elt Bits) ℓ) : Prop :=
  True

def Pre_IndxKernelIdeal (m : (ℓ : Loc Cert.IndxKernelIdeal.nD Cert.IndxKernelIdeal.τ Cert.IndxKernelIdeal.sig) → Buf (Elt Ideal) ℓ) : Prop :=
  True

def Pre_IndxReferenceIdeal (m : (ℓ : Loc Cert.IndxReferenceIdeal.nD Cert.IndxReferenceIdeal.τ Cert.IndxReferenceIdeal.sig) → Buf (Elt Ideal) ℓ) : Prop :=
  True

def Pre_AdamKernel [hPre_chip_in_range : Cert.Pre_chip_in_range.Facts] (m : (ℓ : Loc Cert.AdamKernel.nD Cert.AdamKernel.τ Cert.AdamKernel.sig) → Buf (Elt Bits) ℓ) : Prop :=
  ∀ c : Dev Cert.AdamKernel.nD,
    (Cert.Pre_chip_in_range.fn (F := Bits) (m ((c.tc : Thread Cert.AdamKernel.nD Cert.AdamKernel.τ).loc Cert.AdamKernel.main_arg0)) (m ((c.tc : Thread Cert.AdamKernel.nD Cert.AdamKernel.τ).loc Cert.AdamKernel.main_arg1)) (m ((c.tc : Thread Cert.AdamKernel.nD Cert.AdamKernel.τ).loc Cert.AdamKernel.main_arg2)) (m ((c.tc : Thread Cert.AdamKernel.nD Cert.AdamKernel.τ).loc Cert.AdamKernel.main_arg3)) (m ((c.tc : Thread Cert.AdamKernel.nD Cert.AdamKernel.τ).loc Cert.AdamKernel.main_arg4)) (m ((c.tc : Thread Cert.AdamKernel.nD Cert.AdamKernel.τ).loc Cert.AdamKernel.main_arg5))) = (fun _ => 1#1)

def Pre_AdamKernelIdeal [hPre_chip_in_range : Cert.Pre_chip_in_range.Facts] (m : (ℓ : Loc Cert.AdamKernelIdeal.nD Cert.AdamKernelIdeal.τ Cert.AdamKernelIdeal.sig) → Buf (Elt Ideal) ℓ) : Prop :=
  ∀ c : Dev Cert.AdamKernelIdeal.nD,
    (Cert.Pre_chip_in_range.fn (F := Ideal) (m ((c.tc : Thread Cert.AdamKernelIdeal.nD Cert.AdamKernelIdeal.τ).loc Cert.AdamKernelIdeal.main_arg0)) (m ((c.tc : Thread Cert.AdamKernelIdeal.nD Cert.AdamKernelIdeal.τ).loc Cert.AdamKernelIdeal.main_arg1)) (m ((c.tc : Thread Cert.AdamKernelIdeal.nD Cert.AdamKernelIdeal.τ).loc Cert.AdamKernelIdeal.main_arg2)) (m ((c.tc : Thread Cert.AdamKernelIdeal.nD Cert.AdamKernelIdeal.τ).loc Cert.AdamKernelIdeal.main_arg3)) (m ((c.tc : Thread Cert.AdamKernelIdeal.nD Cert.AdamKernelIdeal.τ).loc Cert.AdamKernelIdeal.main_arg4)) (m ((c.tc : Thread Cert.AdamKernelIdeal.nD Cert.AdamKernelIdeal.τ).loc Cert.AdamKernelIdeal.main_arg5))) = (fun _ => 1#1)

def Pre_AdamReferenceIdeal (m : (ℓ : Loc Cert.AdamReferenceIdeal.nD Cert.AdamReferenceIdeal.τ Cert.AdamReferenceIdeal.sig) → Buf (Elt Ideal) ℓ) : Prop :=
  True

def Pre_AdamReferenceIdeal_chip_in_range [hPre_chip_in_range : Cert.Pre_chip_in_range.Facts] (m : (ℓ : Loc Cert.AdamReferenceIdeal.nD Cert.AdamReferenceIdeal.τ Cert.AdamReferenceIdeal.sig) → Buf (Elt Ideal) ℓ) : Prop :=
  ∀ c : Dev Cert.AdamReferenceIdeal.nD,
    (Cert.Pre_chip_in_range.fn (F := Ideal) (m ((c.tc : Thread Cert.AdamReferenceIdeal.nD Cert.AdamReferenceIdeal.τ).loc Cert.AdamReferenceIdeal.main_arg0)) (m ((c.tc : Thread Cert.AdamReferenceIdeal.nD Cert.AdamReferenceIdeal.τ).loc Cert.AdamReferenceIdeal.main_arg1)) (m ((c.tc : Thread Cert.AdamReferenceIdeal.nD Cert.AdamReferenceIdeal.τ).loc Cert.AdamReferenceIdeal.main_arg2)) (m ((c.tc : Thread Cert.AdamReferenceIdeal.nD Cert.AdamReferenceIdeal.τ).loc Cert.AdamReferenceIdeal.main_arg3)) (m ((c.tc : Thread Cert.AdamReferenceIdeal.nD Cert.AdamReferenceIdeal.τ).loc Cert.AdamReferenceIdeal.main_arg4)) (m ((c.tc : Thread Cert.AdamReferenceIdeal.nD Cert.AdamReferenceIdeal.τ).loc Cert.AdamReferenceIdeal.main_arg5))) = (fun _ => 1#1)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ r.2.sem = fun _ => 0)

def quiescent_MlaKernelIdeal_pre_queries_and_keys_finite [hMlaKernelIdeal : Cert.MlaKernelIdeal.Facts] [hPre_queries_and_keys_finite : Cert.Pre_queries_and_keys_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_queries_and_keys_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_queries_and_keys_finite [hMlaReferenceIdeal : Cert.MlaReferenceIdeal.Facts] [hPre_queries_and_keys_finite : Cert.Pre_queries_and_keys_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_queries_and_keys_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_NaKernel [hNaKernel : Cert.NaKernel.Facts] : Prop :=
  ∀ (m : (ℓ : Loc Cert.NaKernel.nD Cert.NaKernel.τ Cert.NaKernel.sig) → Buf (Elt Bits) ℓ) (g : Dev Cert.NaKernel.nD → PrngReg), Pre_NaKernel m →
    θ_run (Cert.NaKernel.defs (F := Bits)) (onTc (τ := Cert.NaKernel.τ) (Cert.NaKernel.main (F := Bits))) ⟨m, fun _ => 0, g⟩ (fun r => (∀ c : Dev Cert.NaKernel.nD,
      r.2.mem ((c.tc : Thread Cert.NaKernel.nD Cert.NaKernel.τ).loc Cert.NaKernel.main_arg0) = m ((c.tc : Thread Cert.NaKernel.nD Cert.NaKernel.τ).loc Cert.NaKernel.main_arg0)
      ∧ r.2.mem ((c.tc : Thread Cert.NaKernel.nD Cert.NaKernel.τ).loc Cert.NaKernel.main_arg1) = m ((c.tc : Thread Cert.NaKernel.nD Cert.NaKernel.τ).loc Cert.NaKernel.main_arg1)
      ∧ r.2.mem ((c.tc : Thread Cert.NaKernel.nD Cert.NaKernel.τ).loc Cert.NaKernel.main_arg2) = m ((c.tc : Thread Cert.NaKernel.nD Cert.NaKernel.τ).loc Cert.NaKernel.main_arg2)
      ∧ r.2.mem ((c.tc : Thread Cert.NaKernel.nD Cert.NaKernel.τ).loc Cert.NaKernel.main_arg3) = m ((c.tc : Thread Cert.NaKernel.nD Cert.NaKernel.τ).loc Cert.NaKernel.main_arg3)
      ∧ r.2.mem ((c.tc : Thread Cert.NaKernel.nD Cert.NaKernel.τ).loc Cert.NaKernel.main_arg4) = m ((c.tc : Thread Cert.NaKernel.nD Cert.NaKernel.τ).loc Cert.NaKernel.main_arg4))
      ∧ r.2.sem = fun _ => 0)

def quiescent_NaKernelIdeal [hNaKernelIdeal : Cert.NaKernelIdeal.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
      ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
      ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3)
      ∧ r.2.mem ((c.tc : Thread Cert.NaKernelIdeal.nD Cert.NaKernelIdeal.τ).loc Cert.NaKernelIdeal.main_arg4) = m ((c.tc : Thread Cert.NaKernelIdeal.nD Cert.NaKernelIdeal.τ).loc Cert.NaKernelIdeal.main_arg4))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3)
      ∧ r.2.mem ((c.tc : Thread Cert.NaReferenceIdeal.nD Cert.NaReferenceIdeal.τ).loc Cert.NaReferenceIdeal.main_arg4) = m ((c.tc : Thread Cert.NaReferenceIdeal.nD Cert.NaReferenceIdeal.τ).loc Cert.NaReferenceIdeal.main_arg4))
      ∧ r.2.sem = fun _ => 0)

def quiescent_ColumnsKernel [hColumnsKernel : Cert.ColumnsKernel.Facts] : Prop :=
  ∀ (m : (ℓ : Loc Cert.ColumnsKernel.nD Cert.ColumnsKernel.τ Cert.ColumnsKernel.sig) → Buf (Elt Bits) ℓ) (g : Dev Cert.ColumnsKernel.nD → PrngReg), Pre_ColumnsKernel m →
    θ_run (Cert.ColumnsKernel.defs (F := Bits)) (onTc (τ := Cert.ColumnsKernel.τ) (Cert.ColumnsKernel.main (F := Bits))) ⟨m, fun _ => 0, g⟩ (fun r => (∀ c : Dev Cert.ColumnsKernel.nD,
      r.2.mem ((c.tc : Thread Cert.ColumnsKernel.nD Cert.ColumnsKernel.τ).loc Cert.ColumnsKernel.main_arg0) = m ((c.tc : Thread Cert.ColumnsKernel.nD Cert.ColumnsKernel.τ).loc Cert.ColumnsKernel.main_arg0))
      ∧ r.2.sem = fun _ => 0)

def quiescent_ColumnsKernelIdeal [hColumnsKernelIdeal : Cert.ColumnsKernelIdeal.Facts] : Prop :=
  ∀ (m : (ℓ : Loc Cert.ColumnsKernelIdeal.nD Cert.ColumnsKernelIdeal.τ Cert.ColumnsKernelIdeal.sig) → Buf (Elt Ideal) ℓ) (g : Dev Cert.ColumnsKernelIdeal.nD → PrngReg), Pre_ColumnsKernelIdeal m →
    θ_run (Cert.ColumnsKernelIdeal.defs (F := Ideal)) (onTc (τ := Cert.ColumnsKernelIdeal.τ) (Cert.ColumnsKernelIdeal.main (F := Ideal))) ⟨m, fun _ => 0, g⟩ (fun r => (∀ c : Dev Cert.ColumnsKernelIdeal.nD,
      r.2.mem ((c.tc : Thread Cert.ColumnsKernelIdeal.nD Cert.ColumnsKernelIdeal.τ).loc Cert.ColumnsKernelIdeal.main_arg0) = m ((c.tc : Thread Cert.ColumnsKernelIdeal.nD Cert.ColumnsKernelIdeal.τ).loc Cert.ColumnsKernelIdeal.main_arg0))
      ∧ r.2.sem = fun _ => 0)

def quiescent_ColumnsReferenceIdeal [hColumnsReferenceIdeal : Cert.ColumnsReferenceIdeal.Facts] : Prop :=
  ∀ (m : (ℓ : Loc Cert.ColumnsReferenceIdeal.nD Cert.ColumnsReferenceIdeal.τ Cert.ColumnsReferenceIdeal.sig) → Buf (Elt Ideal) ℓ) (g : Dev Cert.ColumnsReferenceIdeal.nD → PrngReg), Pre_ColumnsReferenceIdeal m →
    θ_run (Cert.ColumnsReferenceIdeal.defs (F := Ideal)) (onTc (τ := Cert.ColumnsReferenceIdeal.τ) (Cert.ColumnsReferenceIdeal.main (F := Ideal))) ⟨m, fun _ => 0, g⟩ (fun r => (∀ c : Dev Cert.ColumnsReferenceIdeal.nD,
      r.2.mem ((c.tc : Thread Cert.ColumnsReferenceIdeal.nD Cert.ColumnsReferenceIdeal.τ).loc Cert.ColumnsReferenceIdeal.main_arg0) = m ((c.tc : Thread Cert.ColumnsReferenceIdeal.nD Cert.ColumnsReferenceIdeal.τ).loc Cert.ColumnsReferenceIdeal.main_arg0))
      ∧ r.2.sem = fun _ => 0)

def quiescent_TableKernel [hTableKernel : Cert.TableKernel.Facts] : Prop :=
  ∀ (m : (ℓ : Loc Cert.TableKernel.nD Cert.TableKernel.τ Cert.TableKernel.sig) → Buf (Elt Bits) ℓ) (g : Dev Cert.TableKernel.nD → PrngReg), Pre_TableKernel m →
    θ_run (Cert.TableKernel.defs (F := Bits)) (onTc (τ := Cert.TableKernel.τ) (Cert.TableKernel.main (F := Bits))) ⟨m, fun _ => 0, g⟩ (fun r => (∀ c : Dev Cert.TableKernel.nD,
      r.2.mem ((c.tc : Thread Cert.TableKernel.nD Cert.TableKernel.τ).loc Cert.TableKernel.main_arg0) = m ((c.tc : Thread Cert.TableKernel.nD Cert.TableKernel.τ).loc Cert.TableKernel.main_arg0))
      ∧ r.2.sem = fun _ => 0)

def quiescent_TableKernelIdeal [hTableKernelIdeal : Cert.TableKernelIdeal.Facts] : Prop :=
  ∀ (m : (ℓ : Loc Cert.TableKernelIdeal.nD Cert.TableKernelIdeal.τ Cert.TableKernelIdeal.sig) → Buf (Elt Ideal) ℓ) (g : Dev Cert.TableKernelIdeal.nD → PrngReg), Pre_TableKernelIdeal m →
    θ_run (Cert.TableKernelIdeal.defs (F := Ideal)) (onTc (τ := Cert.TableKernelIdeal.τ) (Cert.TableKernelIdeal.main (F := Ideal))) ⟨m, fun _ => 0, g⟩ (fun r => (∀ c : Dev Cert.TableKernelIdeal.nD,
      r.2.mem ((c.tc : Thread Cert.TableKernelIdeal.nD Cert.TableKernelIdeal.τ).loc Cert.TableKernelIdeal.main_arg0) = m ((c.tc : Thread Cert.TableKernelIdeal.nD Cert.TableKernelIdeal.τ).loc Cert.TableKernelIdeal.main_arg0))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_all_but_gate_finite [hFfnKernelIdeal : Cert.FfnKernelIdeal.Facts] [hPre_all_but_gate_finite : Cert.Pre_all_but_gate_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_all_but_gate_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_all_but_gate_finite [hFfnReferenceIdeal : Cert.FfnReferenceIdeal.Facts] [hPre_all_but_gate_finite : Cert.Pre_all_but_gate_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_all_but_gate_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2))
      ∧ r.2.sem = fun _ => 0)

def quiescent_LatentKernel [hLatentKernel : Cert.LatentKernel.Facts] : Prop :=
  ∀ (m : (ℓ : Loc Cert.LatentKernel.nD Cert.LatentKernel.τ Cert.LatentKernel.sig) → Buf (Elt Bits) ℓ) (g : Dev Cert.LatentKernel.nD → PrngReg), Pre_LatentKernel m →
    θ_run (Cert.LatentKernel.defs (F := Bits)) (onTc (τ := Cert.LatentKernel.τ) (Cert.LatentKernel.main (F := Bits))) ⟨m, fun _ => 0, g⟩ (fun r => (∀ c : Dev Cert.LatentKernel.nD,
      r.2.mem ((c.tc : Thread Cert.LatentKernel.nD Cert.LatentKernel.τ).loc Cert.LatentKernel.main_arg0) = m ((c.tc : Thread Cert.LatentKernel.nD Cert.LatentKernel.τ).loc Cert.LatentKernel.main_arg0)
      ∧ r.2.mem ((c.tc : Thread Cert.LatentKernel.nD Cert.LatentKernel.τ).loc Cert.LatentKernel.main_arg1) = m ((c.tc : Thread Cert.LatentKernel.nD Cert.LatentKernel.τ).loc Cert.LatentKernel.main_arg1)
      ∧ r.2.mem ((c.tc : Thread Cert.LatentKernel.nD Cert.LatentKernel.τ).loc Cert.LatentKernel.main_arg2) = m ((c.tc : Thread Cert.LatentKernel.nD Cert.LatentKernel.τ).loc Cert.LatentKernel.main_arg2)
      ∧ r.2.mem ((c.tc : Thread Cert.LatentKernel.nD Cert.LatentKernel.τ).loc Cert.LatentKernel.main_arg3) = m ((c.tc : Thread Cert.LatentKernel.nD Cert.LatentKernel.τ).loc Cert.LatentKernel.main_arg3)
      ∧ r.2.mem ((c.tc : Thread Cert.LatentKernel.nD Cert.LatentKernel.τ).loc Cert.LatentKernel.main_arg4) = m ((c.tc : Thread Cert.LatentKernel.nD Cert.LatentKernel.τ).loc Cert.LatentKernel.main_arg4)
      ∧ r.2.mem ((c.tc : Thread Cert.LatentKernel.nD Cert.LatentKernel.τ).loc Cert.LatentKernel.main_arg5) = m ((c.tc : Thread Cert.LatentKernel.nD Cert.LatentKernel.τ).loc Cert.LatentKernel.main_arg5))
      ∧ r.2.sem = fun _ => 0)

def quiescent_LatentKernelIdeal [hLatentKernelIdeal : Cert.LatentKernelIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg), Pre_LatentKernelIdeal m →
    θ_run (Cert.LatentKernelIdeal.defs (F := Ideal)) (onTc (τ := Cert.LatentKernelIdeal.τ) (Cert.LatentKernelIdeal.main (F := Ideal))) ⟨m, fun _ => 0, g⟩ (fun r => (∀ c : Dev Cert.LatentKernelIdeal.nD,
      r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
      ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
      ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
      ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
      ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
      ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_MlafwdKernel [hMlafwdKernel : Cert.MlafwdKernel.Facts] : Prop :=
  ∀ (m : (ℓ : Loc Cert.MlafwdKernel.nD Cert.MlafwdKernel.τ Cert.MlafwdKernel.sig) → Buf (Elt Bits) ℓ) (g : Dev Cert.MlafwdKernel.nD → PrngReg), Pre_MlafwdKernel m →
    θ_run (Cert.MlafwdKernel.defs (F := Bits)) (onTc (τ := Cert.MlafwdKernel.τ) (Cert.MlafwdKernel.main (F := Bits))) ⟨m, fun _ => 0, g⟩ (fun r => (∀ c : Dev Cert.MlafwdKernel.nD,
      r.2.mem ((c.tc : Thread Cert.MlafwdKernel.nD Cert.MlafwdKernel.τ).loc Cert.MlafwdKernel.main_arg0) = m ((c.tc : Thread Cert.MlafwdKernel.nD Cert.MlafwdKernel.τ).loc Cert.MlafwdKernel.main_arg0)
      ∧ r.2.mem ((c.tc : Thread Cert.MlafwdKernel.nD Cert.MlafwdKernel.τ).loc Cert.MlafwdKernel.main_arg1) = m ((c.tc : Thread Cert.MlafwdKernel.nD Cert.MlafwdKernel.τ).loc Cert.MlafwdKernel.main_arg1)
      ∧ r.2.mem ((c.tc : Thread Cert.MlafwdKernel.nD Cert.MlafwdKernel.τ).loc Cert.MlafwdKernel.main_arg2) = m ((c.tc : Thread Cert.MlafwdKernel.nD Cert.MlafwdKernel.τ).loc Cert.MlafwdKernel.main_arg2))
      ∧ r.2.sem = fun _ => 0)

def quiescent_MlafwdKernelIdeal [hMlafwdKernelIdeal : Cert.MlafwdKernelIdeal.Facts] : Prop :=
  ∀ (m : (ℓ : Loc Cert.MlafwdKernelIdeal.nD Cert.MlafwdKernelIdeal.τ Cert.MlafwdKernelIdeal.sig) → Buf (Elt Ideal) ℓ) (g : Dev Cert.MlafwdKernelIdeal.nD → PrngReg), Pre_MlafwdKernelIdeal m →
    θ_run (Cert.MlafwdKernelIdeal.defs (F := Ideal)) (onTc (τ := Cert.MlafwdKernelIdeal.τ) (Cert.MlafwdKernelIdeal.main (F := Ideal))) ⟨m, fun _ => 0, g⟩ (fun r => (∀ c : Dev Cert.MlafwdKernelIdeal.nD,
      r.2.mem ((c.tc : Thread Cert.MlafwdKernelIdeal.nD Cert.MlafwdKernelIdeal.τ).loc Cert.MlafwdKernelIdeal.main_arg0) = m ((c.tc : Thread Cert.MlafwdKernelIdeal.nD Cert.MlafwdKernelIdeal.τ).loc Cert.MlafwdKernelIdeal.main_arg0)
      ∧ r.2.mem ((c.tc : Thread Cert.MlafwdKernelIdeal.nD Cert.MlafwdKernelIdeal.τ).loc Cert.MlafwdKernelIdeal.main_arg1) = m ((c.tc : Thread Cert.MlafwdKernelIdeal.nD Cert.MlafwdKernelIdeal.τ).loc Cert.MlafwdKernelIdeal.main_arg1)
      ∧ r.2.mem ((c.tc : Thread Cert.MlafwdKernelIdeal.nD Cert.MlafwdKernelIdeal.τ).loc Cert.MlafwdKernelIdeal.main_arg2) = m ((c.tc : Thread Cert.MlafwdKernelIdeal.nD Cert.MlafwdKernelIdeal.τ).loc Cert.MlafwdKernelIdeal.main_arg2))
      ∧ r.2.sem = fun _ => 0)

def quiescent_MlafwdReferenceIdeal [hMlafwdReferenceIdeal : Cert.MlafwdReferenceIdeal.Facts] : Prop :=
  ∀ (m : (ℓ : Loc Cert.MlafwdReferenceIdeal.nD Cert.MlafwdReferenceIdeal.τ Cert.MlafwdReferenceIdeal.sig) → Buf (Elt Ideal) ℓ) (g : Dev Cert.MlafwdReferenceIdeal.nD → PrngReg), Pre_MlafwdReferenceIdeal m →
    θ_run (Cert.MlafwdReferenceIdeal.defs (F := Ideal)) (onTc (τ := Cert.MlafwdReferenceIdeal.τ) (Cert.MlafwdReferenceIdeal.main (F := Ideal))) ⟨m, fun _ => 0, g⟩ (fun r => (∀ c : Dev Cert.MlafwdReferenceIdeal.nD,
      r.2.mem ((c.tc : Thread Cert.MlafwdReferenceIdeal.nD Cert.MlafwdReferenceIdeal.τ).loc Cert.MlafwdReferenceIdeal.main_arg0) = m ((c.tc : Thread Cert.MlafwdReferenceIdeal.nD Cert.MlafwdReferenceIdeal.τ).loc Cert.MlafwdReferenceIdeal.main_arg0)
      ∧ r.2.mem ((c.tc : Thread Cert.MlafwdReferenceIdeal.nD Cert.MlafwdReferenceIdeal.τ).loc Cert.MlafwdReferenceIdeal.main_arg1) = m ((c.tc : Thread Cert.MlafwdReferenceIdeal.nD Cert.MlafwdReferenceIdeal.τ).loc Cert.MlafwdReferenceIdeal.main_arg1)
      ∧ r.2.mem ((c.tc : Thread Cert.MlafwdReferenceIdeal.nD Cert.MlafwdReferenceIdeal.τ).loc Cert.MlafwdReferenceIdeal.main_arg2) = m ((c.tc : Thread Cert.MlafwdReferenceIdeal.nD Cert.MlafwdReferenceIdeal.τ).loc Cert.MlafwdReferenceIdeal.main_arg2))
      ∧ r.2.sem = fun _ => 0)

def quiescent_RmsfwdKernel [hRmsfwdKernel : Cert.RmsfwdKernel.Facts] : Prop :=
  ∀ (m : (ℓ : Loc Cert.RmsfwdKernel.nD Cert.RmsfwdKernel.τ Cert.RmsfwdKernel.sig) → Buf (Elt Bits) ℓ) (g : Dev Cert.RmsfwdKernel.nD → PrngReg), Pre_RmsfwdKernel m →
    θ_run (Cert.RmsfwdKernel.defs (F := Bits)) (onTc (τ := Cert.RmsfwdKernel.τ) (Cert.RmsfwdKernel.main (F := Bits))) ⟨m, fun _ => 0, g⟩ (fun r => (∀ c : Dev Cert.RmsfwdKernel.nD,
      r.2.mem ((c.tc : Thread Cert.RmsfwdKernel.nD Cert.RmsfwdKernel.τ).loc Cert.RmsfwdKernel.main_arg0) = m ((c.tc : Thread Cert.RmsfwdKernel.nD Cert.RmsfwdKernel.τ).loc Cert.RmsfwdKernel.main_arg0)
      ∧ r.2.mem ((c.tc : Thread Cert.RmsfwdKernel.nD Cert.RmsfwdKernel.τ).loc Cert.RmsfwdKernel.main_arg1) = m ((c.tc : Thread Cert.RmsfwdKernel.nD Cert.RmsfwdKernel.τ).loc Cert.RmsfwdKernel.main_arg1))
      ∧ r.2.sem = fun _ => 0)

def quiescent_RmsfwdKernelIdeal [hRmsfwdKernelIdeal : Cert.RmsfwdKernelIdeal.Facts] : Prop :=
  ∀ (m : (ℓ : Loc Cert.RmsfwdKernelIdeal.nD Cert.RmsfwdKernelIdeal.τ Cert.RmsfwdKernelIdeal.sig) → Buf (Elt Ideal) ℓ) (g : Dev Cert.RmsfwdKernelIdeal.nD → PrngReg), Pre_RmsfwdKernelIdeal m →
    θ_run (Cert.RmsfwdKernelIdeal.defs (F := Ideal)) (onTc (τ := Cert.RmsfwdKernelIdeal.τ) (Cert.RmsfwdKernelIdeal.main (F := Ideal))) ⟨m, fun _ => 0, g⟩ (fun r => (∀ c : Dev Cert.RmsfwdKernelIdeal.nD,
      r.2.mem ((c.tc : Thread Cert.RmsfwdKernelIdeal.nD Cert.RmsfwdKernelIdeal.τ).loc Cert.RmsfwdKernelIdeal.main_arg0) = m ((c.tc : Thread Cert.RmsfwdKernelIdeal.nD Cert.RmsfwdKernelIdeal.τ).loc Cert.RmsfwdKernelIdeal.main_arg0)
      ∧ r.2.mem ((c.tc : Thread Cert.RmsfwdKernelIdeal.nD Cert.RmsfwdKernelIdeal.τ).loc Cert.RmsfwdKernelIdeal.main_arg1) = m ((c.tc : Thread Cert.RmsfwdKernelIdeal.nD Cert.RmsfwdKernelIdeal.τ).loc Cert.RmsfwdKernelIdeal.main_arg1))
      ∧ r.2.sem = fun _ => 0)

def quiescent_RmsfwdReferenceIdeal [hRmsfwdReferenceIdeal : Cert.RmsfwdReferenceIdeal.Facts] : Prop :=
  ∀ (m : (ℓ : Loc Cert.RmsfwdReferenceIdeal.nD Cert.RmsfwdReferenceIdeal.τ Cert.RmsfwdReferenceIdeal.sig) → Buf (Elt Ideal) ℓ) (g : Dev Cert.RmsfwdReferenceIdeal.nD → PrngReg), Pre_RmsfwdReferenceIdeal m →
    θ_run (Cert.RmsfwdReferenceIdeal.defs (F := Ideal)) (onTc (τ := Cert.RmsfwdReferenceIdeal.τ) (Cert.RmsfwdReferenceIdeal.main (F := Ideal))) ⟨m, fun _ => 0, g⟩ (fun r => (∀ c : Dev Cert.RmsfwdReferenceIdeal.nD,
      r.2.mem ((c.tc : Thread Cert.RmsfwdReferenceIdeal.nD Cert.RmsfwdReferenceIdeal.τ).loc Cert.RmsfwdReferenceIdeal.main_arg0) = m ((c.tc : Thread Cert.RmsfwdReferenceIdeal.nD Cert.RmsfwdReferenceIdeal.τ).loc Cert.RmsfwdReferenceIdeal.main_arg0)
      ∧ r.2.mem ((c.tc : Thread Cert.RmsfwdReferenceIdeal.nD Cert.RmsfwdReferenceIdeal.τ).loc Cert.RmsfwdReferenceIdeal.main_arg1) = m ((c.tc : Thread Cert.RmsfwdReferenceIdeal.nD Cert.RmsfwdReferenceIdeal.τ).loc Cert.RmsfwdReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_EmbedKernel [hEmbedKernel : Cert.EmbedKernel.Facts] : Prop :=
  ∀ (m : (ℓ : Loc Cert.EmbedKernel.nD Cert.EmbedKernel.τ Cert.EmbedKernel.sig) → Buf (Elt Bits) ℓ) (g : Dev Cert.EmbedKernel.nD → PrngReg), Pre_EmbedKernel m →
    θ_run (Cert.EmbedKernel.defs (F := Bits)) (onTc (τ := Cert.EmbedKernel.τ) (Cert.EmbedKernel.main (F := Bits))) ⟨m, fun _ => 0, g⟩ (fun r => (∀ c : Dev Cert.EmbedKernel.nD,
      r.2.mem ((c.tc : Thread Cert.EmbedKernel.nD Cert.EmbedKernel.τ).loc Cert.EmbedKernel.main_arg0) = m ((c.tc : Thread Cert.EmbedKernel.nD Cert.EmbedKernel.τ).loc Cert.EmbedKernel.main_arg0)
      ∧ r.2.mem ((c.tc : Thread Cert.EmbedKernel.nD Cert.EmbedKernel.τ).loc Cert.EmbedKernel.main_arg1) = m ((c.tc : Thread Cert.EmbedKernel.nD Cert.EmbedKernel.τ).loc Cert.EmbedKernel.main_arg1)
      ∧ r.2.mem ((c.tc : Thread Cert.EmbedKernel.nD Cert.EmbedKernel.τ).loc Cert.EmbedKernel.main_arg2) = m ((c.tc : Thread Cert.EmbedKernel.nD Cert.EmbedKernel.τ).loc Cert.EmbedKernel.main_arg2)
      ∧ r.2.mem ((c.tc : Thread Cert.EmbedKernel.nD Cert.EmbedKernel.τ).loc Cert.EmbedKernel.main_arg3) = m ((c.tc : Thread Cert.EmbedKernel.nD Cert.EmbedKernel.τ).loc Cert.EmbedKernel.main_arg3)
      ∧ r.2.mem ((c.tc : Thread Cert.EmbedKernel.nD Cert.EmbedKernel.τ).loc Cert.EmbedKernel.main_arg4) = m ((c.tc : Thread Cert.EmbedKernel.nD Cert.EmbedKernel.τ).loc Cert.EmbedKernel.main_arg4))
      ∧ r.2.sem = fun _ => 0)

def quiescent_EmbedKernelIdeal [hEmbedKernelIdeal : Cert.EmbedKernelIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg), Pre_EmbedKernelIdeal m →
    θ_run (Cert.EmbedKernelIdeal.defs (F := Ideal)) (onTc (τ := Cert.EmbedKernelIdeal.τ) (Cert.EmbedKernelIdeal.main (F := Ideal))) ⟨m, fun _ => 0, g⟩ (fun r => (∀ c : Dev Cert.EmbedKernelIdeal.nD,
      r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
      ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
      ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
      ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3)
      ∧ r.2.mem ((c.tc : Thread Cert.EmbedKernelIdeal.nD Cert.EmbedKernelIdeal.τ).loc Cert.EmbedKernelIdeal.main_arg4) = m ((c.tc : Thread Cert.EmbedKernelIdeal.nD Cert.EmbedKernelIdeal.τ).loc Cert.EmbedKernelIdeal.main_arg4))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2)
      ∧ r.2.mem ((c.tc : Thread Cert.EmbedReferenceIdeal.nD Cert.EmbedReferenceIdeal.τ).loc Cert.EmbedReferenceIdeal.main_arg3) = m ((c.tc : Thread Cert.EmbedReferenceIdeal.nD Cert.EmbedReferenceIdeal.τ).loc Cert.EmbedReferenceIdeal.main_arg3)
      ∧ r.2.mem ((c.tc : Thread Cert.EmbedReferenceIdeal.nD Cert.EmbedReferenceIdeal.τ).loc Cert.EmbedReferenceIdeal.main_arg4) = m ((c.tc : Thread Cert.EmbedReferenceIdeal.nD Cert.EmbedReferenceIdeal.τ).loc Cert.EmbedReferenceIdeal.main_arg4))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_QueriesKernel [hQueriesKernel : Cert.QueriesKernel.Facts] : Prop :=
  ∀ (m : (ℓ : Loc Cert.QueriesKernel.nD Cert.QueriesKernel.τ Cert.QueriesKernel.sig) → Buf (Elt Bits) ℓ) (g : Dev Cert.QueriesKernel.nD → PrngReg), Pre_QueriesKernel m →
    θ_run (Cert.QueriesKernel.defs (F := Bits)) (onTc (τ := Cert.QueriesKernel.τ) (Cert.QueriesKernel.main (F := Bits))) ⟨m, fun _ => 0, g⟩ (fun r => (∀ c : Dev Cert.QueriesKernel.nD,
      r.2.mem ((c.tc : Thread Cert.QueriesKernel.nD Cert.QueriesKernel.τ).loc Cert.QueriesKernel.main_arg0) = m ((c.tc : Thread Cert.QueriesKernel.nD Cert.QueriesKernel.τ).loc Cert.QueriesKernel.main_arg0)
      ∧ r.2.mem ((c.tc : Thread Cert.QueriesKernel.nD Cert.QueriesKernel.τ).loc Cert.QueriesKernel.main_arg1) = m ((c.tc : Thread Cert.QueriesKernel.nD Cert.QueriesKernel.τ).loc Cert.QueriesKernel.main_arg1))
      ∧ r.2.sem = fun _ => 0)

def quiescent_QueriesKernelIdeal [hQueriesKernelIdeal : Cert.QueriesKernelIdeal.Facts] : Prop :=
  ∀ (m : (ℓ : Loc Cert.QueriesKernelIdeal.nD Cert.QueriesKernelIdeal.τ Cert.QueriesKernelIdeal.sig) → Buf (Elt Ideal) ℓ) (g : Dev Cert.QueriesKernelIdeal.nD → PrngReg), Pre_QueriesKernelIdeal m →
    θ_run (Cert.QueriesKernelIdeal.defs (F := Ideal)) (onTc (τ := Cert.QueriesKernelIdeal.τ) (Cert.QueriesKernelIdeal.main (F := Ideal))) ⟨m, fun _ => 0, g⟩ (fun r => (∀ c : Dev Cert.QueriesKernelIdeal.nD,
      r.2.mem ((c.tc : Thread Cert.QueriesKernelIdeal.nD Cert.QueriesKernelIdeal.τ).loc Cert.QueriesKernelIdeal.main_arg0) = m ((c.tc : Thread Cert.QueriesKernelIdeal.nD Cert.QueriesKernelIdeal.τ).loc Cert.QueriesKernelIdeal.main_arg0)
      ∧ r.2.mem ((c.tc : Thread Cert.QueriesKernelIdeal.nD Cert.QueriesKernelIdeal.τ).loc Cert.QueriesKernelIdeal.main_arg1) = m ((c.tc : Thread Cert.QueriesKernelIdeal.nD Cert.QueriesKernelIdeal.τ).loc Cert.QueriesKernelIdeal.main_arg1))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1))
      ∧ r.2.sem = fun _ => 0)

def quiescent_KeysKernel [hKeysKernel : Cert.KeysKernel.Facts] : Prop :=
  ∀ (m : (ℓ : Loc Cert.KeysKernel.nD Cert.KeysKernel.τ Cert.KeysKernel.sig) → Buf (Elt Bits) ℓ) (g : Dev Cert.KeysKernel.nD → PrngReg), Pre_KeysKernel m →
    θ_run (Cert.KeysKernel.defs (F := Bits)) (onTc (τ := Cert.KeysKernel.τ) (Cert.KeysKernel.main (F := Bits))) ⟨m, fun _ => 0, g⟩ (fun r => (∀ c : Dev Cert.KeysKernel.nD,
      r.2.mem ((c.tc : Thread Cert.KeysKernel.nD Cert.KeysKernel.τ).loc Cert.KeysKernel.main_arg0) = m ((c.tc : Thread Cert.KeysKernel.nD Cert.KeysKernel.τ).loc Cert.KeysKernel.main_arg0)
      ∧ r.2.mem ((c.tc : Thread Cert.KeysKernel.nD Cert.KeysKernel.τ).loc Cert.KeysKernel.main_arg1) = m ((c.tc : Thread Cert.KeysKernel.nD Cert.KeysKernel.τ).loc Cert.KeysKernel.main_arg1)
      ∧ r.2.mem ((c.tc : Thread Cert.KeysKernel.nD Cert.KeysKernel.τ).loc Cert.KeysKernel.main_arg2) = m ((c.tc : Thread Cert.KeysKernel.nD Cert.KeysKernel.τ).loc Cert.KeysKernel.main_arg2))
      ∧ r.2.sem = fun _ => 0)

def quiescent_KeysKernelIdeal [hKeysKernelIdeal : Cert.KeysKernelIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg), Pre_KeysKernelIdeal m →
    θ_run (Cert.KeysKernelIdeal.defs (F := Ideal)) (onTc (τ := Cert.KeysKernelIdeal.τ) (Cert.KeysKernelIdeal.main (F := Ideal))) ⟨m, fun _ => 0, g⟩ (fun r => (∀ c : Dev Cert.KeysKernelIdeal.nD,
      r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
      ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
      ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_NafwdKernel [hNafwdKernel : Cert.NafwdKernel.Facts] : Prop :=
  ∀ (m : (ℓ : Loc Cert.NafwdKernel.nD Cert.NafwdKernel.τ Cert.NafwdKernel.sig) → Buf (Elt Bits) ℓ) (g : Dev Cert.NafwdKernel.nD → PrngReg), Pre_NafwdKernel m →
    θ_run (Cert.NafwdKernel.defs (F := Bits)) (onTc (τ := Cert.NafwdKernel.τ) (Cert.NafwdKernel.main (F := Bits))) ⟨m, fun _ => 0, g⟩ (fun r => (∀ c : Dev Cert.NafwdKernel.nD,
      r.2.mem ((c.tc : Thread Cert.NafwdKernel.nD Cert.NafwdKernel.τ).loc Cert.NafwdKernel.main_arg0) = m ((c.tc : Thread Cert.NafwdKernel.nD Cert.NafwdKernel.τ).loc Cert.NafwdKernel.main_arg0)
      ∧ r.2.mem ((c.tc : Thread Cert.NafwdKernel.nD Cert.NafwdKernel.τ).loc Cert.NafwdKernel.main_arg1) = m ((c.tc : Thread Cert.NafwdKernel.nD Cert.NafwdKernel.τ).loc Cert.NafwdKernel.main_arg1)
      ∧ r.2.mem ((c.tc : Thread Cert.NafwdKernel.nD Cert.NafwdKernel.τ).loc Cert.NafwdKernel.main_arg2) = m ((c.tc : Thread Cert.NafwdKernel.nD Cert.NafwdKernel.τ).loc Cert.NafwdKernel.main_arg2)
      ∧ r.2.mem ((c.tc : Thread Cert.NafwdKernel.nD Cert.NafwdKernel.τ).loc Cert.NafwdKernel.main_arg3) = m ((c.tc : Thread Cert.NafwdKernel.nD Cert.NafwdKernel.τ).loc Cert.NafwdKernel.main_arg3))
      ∧ r.2.sem = fun _ => 0)

def quiescent_NafwdKernelIdeal [hNafwdKernelIdeal : Cert.NafwdKernelIdeal.Facts] : Prop :=
  ∀ (m : (ℓ : Loc Cert.NafwdKernelIdeal.nD Cert.NafwdKernelIdeal.τ Cert.NafwdKernelIdeal.sig) → Buf (Elt Ideal) ℓ) (g : Dev Cert.NafwdKernelIdeal.nD → PrngReg), Pre_NafwdKernelIdeal m →
    θ_run (Cert.NafwdKernelIdeal.defs (F := Ideal)) (onTc (τ := Cert.NafwdKernelIdeal.τ) (Cert.NafwdKernelIdeal.main (F := Ideal))) ⟨m, fun _ => 0, g⟩ (fun r => (∀ c : Dev Cert.NafwdKernelIdeal.nD,
      r.2.mem ((c.tc : Thread Cert.NafwdKernelIdeal.nD Cert.NafwdKernelIdeal.τ).loc Cert.NafwdKernelIdeal.main_arg0) = m ((c.tc : Thread Cert.NafwdKernelIdeal.nD Cert.NafwdKernelIdeal.τ).loc Cert.NafwdKernelIdeal.main_arg0)
      ∧ r.2.mem ((c.tc : Thread Cert.NafwdKernelIdeal.nD Cert.NafwdKernelIdeal.τ).loc Cert.NafwdKernelIdeal.main_arg1) = m ((c.tc : Thread Cert.NafwdKernelIdeal.nD Cert.NafwdKernelIdeal.τ).loc Cert.NafwdKernelIdeal.main_arg1)
      ∧ r.2.mem ((c.tc : Thread Cert.NafwdKernelIdeal.nD Cert.NafwdKernelIdeal.τ).loc Cert.NafwdKernelIdeal.main_arg2) = m ((c.tc : Thread Cert.NafwdKernelIdeal.nD Cert.NafwdKernelIdeal.τ).loc Cert.NafwdKernelIdeal.main_arg2)
      ∧ r.2.mem ((c.tc : Thread Cert.NafwdKernelIdeal.nD Cert.NafwdKernelIdeal.τ).loc Cert.NafwdKernelIdeal.main_arg3) = m ((c.tc : Thread Cert.NafwdKernelIdeal.nD Cert.NafwdKernelIdeal.τ).loc Cert.NafwdKernelIdeal.main_arg3))
      ∧ r.2.sem = fun _ => 0)

def quiescent_NafwdReferenceIdeal [hNafwdReferenceIdeal : Cert.NafwdReferenceIdeal.Facts] : Prop :=
  ∀ (m : (ℓ : Loc Cert.NafwdReferenceIdeal.nD Cert.NafwdReferenceIdeal.τ Cert.NafwdReferenceIdeal.sig) → Buf (Elt Ideal) ℓ) (g : Dev Cert.NafwdReferenceIdeal.nD → PrngReg), Pre_NafwdReferenceIdeal m →
    θ_run (Cert.NafwdReferenceIdeal.defs (F := Ideal)) (onTc (τ := Cert.NafwdReferenceIdeal.τ) (Cert.NafwdReferenceIdeal.main (F := Ideal))) ⟨m, fun _ => 0, g⟩ (fun r => (∀ c : Dev Cert.NafwdReferenceIdeal.nD,
      r.2.mem ((c.tc : Thread Cert.NafwdReferenceIdeal.nD Cert.NafwdReferenceIdeal.τ).loc Cert.NafwdReferenceIdeal.main_arg0) = m ((c.tc : Thread Cert.NafwdReferenceIdeal.nD Cert.NafwdReferenceIdeal.τ).loc Cert.NafwdReferenceIdeal.main_arg0)
      ∧ r.2.mem ((c.tc : Thread Cert.NafwdReferenceIdeal.nD Cert.NafwdReferenceIdeal.τ).loc Cert.NafwdReferenceIdeal.main_arg1) = m ((c.tc : Thread Cert.NafwdReferenceIdeal.nD Cert.NafwdReferenceIdeal.τ).loc Cert.NafwdReferenceIdeal.main_arg1)
      ∧ r.2.mem ((c.tc : Thread Cert.NafwdReferenceIdeal.nD Cert.NafwdReferenceIdeal.τ).loc Cert.NafwdReferenceIdeal.main_arg2) = m ((c.tc : Thread Cert.NafwdReferenceIdeal.nD Cert.NafwdReferenceIdeal.τ).loc Cert.NafwdReferenceIdeal.main_arg2)
      ∧ r.2.mem ((c.tc : Thread Cert.NafwdReferenceIdeal.nD Cert.NafwdReferenceIdeal.τ).loc Cert.NafwdReferenceIdeal.main_arg3) = m ((c.tc : Thread Cert.NafwdReferenceIdeal.nD Cert.NafwdReferenceIdeal.τ).loc Cert.NafwdReferenceIdeal.main_arg3))
      ∧ r.2.sem = fun _ => 0)

def quiescent_DowndwKernel [hDowndwKernel : Cert.DowndwKernel.Facts] : Prop :=
  ∀ (m : (ℓ : Loc Cert.DowndwKernel.nD Cert.DowndwKernel.τ Cert.DowndwKernel.sig) → Buf (Elt Bits) ℓ) (g : Dev Cert.DowndwKernel.nD → PrngReg), Pre_DowndwKernel m →
    θ_run (Cert.DowndwKernel.defs (F := Bits)) (onTc (τ := Cert.DowndwKernel.τ) (Cert.DowndwKernel.main (F := Bits))) ⟨m, fun _ => 0, g⟩ (fun r => (∀ c : Dev Cert.DowndwKernel.nD,
      r.2.mem ((c.tc : Thread Cert.DowndwKernel.nD Cert.DowndwKernel.τ).loc Cert.DowndwKernel.main_arg0) = m ((c.tc : Thread Cert.DowndwKernel.nD Cert.DowndwKernel.τ).loc Cert.DowndwKernel.main_arg0)
      ∧ r.2.mem ((c.tc : Thread Cert.DowndwKernel.nD Cert.DowndwKernel.τ).loc Cert.DowndwKernel.main_arg1) = m ((c.tc : Thread Cert.DowndwKernel.nD Cert.DowndwKernel.τ).loc Cert.DowndwKernel.main_arg1))
      ∧ r.2.sem = fun _ => 0)

def quiescent_DowndwKernelIdeal [hDowndwKernelIdeal : Cert.DowndwKernelIdeal.Facts] : Prop :=
  ∀ (m : (ℓ : Loc Cert.DowndwKernelIdeal.nD Cert.DowndwKernelIdeal.τ Cert.DowndwKernelIdeal.sig) → Buf (Elt Ideal) ℓ) (g : Dev Cert.DowndwKernelIdeal.nD → PrngReg), Pre_DowndwKernelIdeal m →
    θ_run (Cert.DowndwKernelIdeal.defs (F := Ideal)) (onTc (τ := Cert.DowndwKernelIdeal.τ) (Cert.DowndwKernelIdeal.main (F := Ideal))) ⟨m, fun _ => 0, g⟩ (fun r => (∀ c : Dev Cert.DowndwKernelIdeal.nD,
      r.2.mem ((c.tc : Thread Cert.DowndwKernelIdeal.nD Cert.DowndwKernelIdeal.τ).loc Cert.DowndwKernelIdeal.main_arg0) = m ((c.tc : Thread Cert.DowndwKernelIdeal.nD Cert.DowndwKernelIdeal.τ).loc Cert.DowndwKernelIdeal.main_arg0)
      ∧ r.2.mem ((c.tc : Thread Cert.DowndwKernelIdeal.nD Cert.DowndwKernelIdeal.τ).loc Cert.DowndwKernelIdeal.main_arg1) = m ((c.tc : Thread Cert.DowndwKernelIdeal.nD Cert.DowndwKernelIdeal.τ).loc Cert.DowndwKernelIdeal.main_arg1))
      ∧ r.2.sem = fun _ => 0)

def quiescent_DowndwReferenceIdeal [hDowndwReferenceIdeal : Cert.DowndwReferenceIdeal.Facts] : Prop :=
  ∀ (m : (ℓ : Loc Cert.DowndwReferenceIdeal.nD Cert.DowndwReferenceIdeal.τ Cert.DowndwReferenceIdeal.sig) → Buf (Elt Ideal) ℓ) (g : Dev Cert.DowndwReferenceIdeal.nD → PrngReg), Pre_DowndwReferenceIdeal m →
    θ_run (Cert.DowndwReferenceIdeal.defs (F := Ideal)) (onTc (τ := Cert.DowndwReferenceIdeal.τ) (Cert.DowndwReferenceIdeal.main (F := Ideal))) ⟨m, fun _ => 0, g⟩ (fun r => (∀ c : Dev Cert.DowndwReferenceIdeal.nD,
      r.2.mem ((c.tc : Thread Cert.DowndwReferenceIdeal.nD Cert.DowndwReferenceIdeal.τ).loc Cert.DowndwReferenceIdeal.main_arg0) = m ((c.tc : Thread Cert.DowndwReferenceIdeal.nD Cert.DowndwReferenceIdeal.τ).loc Cert.DowndwReferenceIdeal.main_arg0)
      ∧ r.2.mem ((c.tc : Thread Cert.DowndwReferenceIdeal.nD Cert.DowndwReferenceIdeal.τ).loc Cert.DowndwReferenceIdeal.main_arg1) = m ((c.tc : Thread Cert.DowndwReferenceIdeal.nD Cert.DowndwReferenceIdeal.τ).loc Cert.DowndwReferenceIdeal.main_arg1))
      ∧ r.2.sem = fun _ => 0)

def quiescent_UpdwKernel [hUpdwKernel : Cert.UpdwKernel.Facts] : Prop :=
  ∀ (m : (ℓ : Loc Cert.UpdwKernel.nD Cert.UpdwKernel.τ Cert.UpdwKernel.sig) → Buf (Elt Bits) ℓ) (g : Dev Cert.UpdwKernel.nD → PrngReg), Pre_UpdwKernel m →
    θ_run (Cert.UpdwKernel.defs (F := Bits)) (onTc (τ := Cert.UpdwKernel.τ) (Cert.UpdwKernel.main (F := Bits))) ⟨m, fun _ => 0, g⟩ (fun r => (∀ c : Dev Cert.UpdwKernel.nD,
      r.2.mem ((c.tc : Thread Cert.UpdwKernel.nD Cert.UpdwKernel.τ).loc Cert.UpdwKernel.main_arg0) = m ((c.tc : Thread Cert.UpdwKernel.nD Cert.UpdwKernel.τ).loc Cert.UpdwKernel.main_arg0)
      ∧ r.2.mem ((c.tc : Thread Cert.UpdwKernel.nD Cert.UpdwKernel.τ).loc Cert.UpdwKernel.main_arg1) = m ((c.tc : Thread Cert.UpdwKernel.nD Cert.UpdwKernel.τ).loc Cert.UpdwKernel.main_arg1)
      ∧ r.2.mem ((c.tc : Thread Cert.UpdwKernel.nD Cert.UpdwKernel.τ).loc Cert.UpdwKernel.main_arg2) = m ((c.tc : Thread Cert.UpdwKernel.nD Cert.UpdwKernel.τ).loc Cert.UpdwKernel.main_arg2))
      ∧ r.2.sem = fun _ => 0)

def quiescent_UpdwKernelIdeal [hUpdwKernelIdeal : Cert.UpdwKernelIdeal.Facts] : Prop :=
  ∀ (m : (ℓ : Loc Cert.UpdwKernelIdeal.nD Cert.UpdwKernelIdeal.τ Cert.UpdwKernelIdeal.sig) → Buf (Elt Ideal) ℓ) (g : Dev Cert.UpdwKernelIdeal.nD → PrngReg), Pre_UpdwKernelIdeal m →
    θ_run (Cert.UpdwKernelIdeal.defs (F := Ideal)) (onTc (τ := Cert.UpdwKernelIdeal.τ) (Cert.UpdwKernelIdeal.main (F := Ideal))) ⟨m, fun _ => 0, g⟩ (fun r => (∀ c : Dev Cert.UpdwKernelIdeal.nD,
      r.2.mem ((c.tc : Thread Cert.UpdwKernelIdeal.nD Cert.UpdwKernelIdeal.τ).loc Cert.UpdwKernelIdeal.main_arg0) = m ((c.tc : Thread Cert.UpdwKernelIdeal.nD Cert.UpdwKernelIdeal.τ).loc Cert.UpdwKernelIdeal.main_arg0)
      ∧ r.2.mem ((c.tc : Thread Cert.UpdwKernelIdeal.nD Cert.UpdwKernelIdeal.τ).loc Cert.UpdwKernelIdeal.main_arg1) = m ((c.tc : Thread Cert.UpdwKernelIdeal.nD Cert.UpdwKernelIdeal.τ).loc Cert.UpdwKernelIdeal.main_arg1)
      ∧ r.2.mem ((c.tc : Thread Cert.UpdwKernelIdeal.nD Cert.UpdwKernelIdeal.τ).loc Cert.UpdwKernelIdeal.main_arg2) = m ((c.tc : Thread Cert.UpdwKernelIdeal.nD Cert.UpdwKernelIdeal.τ).loc Cert.UpdwKernelIdeal.main_arg2))
      ∧ r.2.sem = fun _ => 0)

def quiescent_UpdwReferenceIdeal [hUpdwReferenceIdeal : Cert.UpdwReferenceIdeal.Facts] : Prop :=
  ∀ (m : (ℓ : Loc Cert.UpdwReferenceIdeal.nD Cert.UpdwReferenceIdeal.τ Cert.UpdwReferenceIdeal.sig) → Buf (Elt Ideal) ℓ) (g : Dev Cert.UpdwReferenceIdeal.nD → PrngReg), Pre_UpdwReferenceIdeal m →
    θ_run (Cert.UpdwReferenceIdeal.defs (F := Ideal)) (onTc (τ := Cert.UpdwReferenceIdeal.τ) (Cert.UpdwReferenceIdeal.main (F := Ideal))) ⟨m, fun _ => 0, g⟩ (fun r => (∀ c : Dev Cert.UpdwReferenceIdeal.nD,
      r.2.mem ((c.tc : Thread Cert.UpdwReferenceIdeal.nD Cert.UpdwReferenceIdeal.τ).loc Cert.UpdwReferenceIdeal.main_arg0) = m ((c.tc : Thread Cert.UpdwReferenceIdeal.nD Cert.UpdwReferenceIdeal.τ).loc Cert.UpdwReferenceIdeal.main_arg0)
      ∧ r.2.mem ((c.tc : Thread Cert.UpdwReferenceIdeal.nD Cert.UpdwReferenceIdeal.τ).loc Cert.UpdwReferenceIdeal.main_arg1) = m ((c.tc : Thread Cert.UpdwReferenceIdeal.nD Cert.UpdwReferenceIdeal.τ).loc Cert.UpdwReferenceIdeal.main_arg1)
      ∧ r.2.mem ((c.tc : Thread Cert.UpdwReferenceIdeal.nD Cert.UpdwReferenceIdeal.τ).loc Cert.UpdwReferenceIdeal.main_arg2) = m ((c.tc : Thread Cert.UpdwReferenceIdeal.nD Cert.UpdwReferenceIdeal.τ).loc Cert.UpdwReferenceIdeal.main_arg2))
      ∧ r.2.sem = fun _ => 0)

def quiescent_UpdxKernel [hUpdxKernel : Cert.UpdxKernel.Facts] : Prop :=
  ∀ (m : (ℓ : Loc Cert.UpdxKernel.nD Cert.UpdxKernel.τ Cert.UpdxKernel.sig) → Buf (Elt Bits) ℓ) (g : Dev Cert.UpdxKernel.nD → PrngReg), Pre_UpdxKernel m →
    θ_run (Cert.UpdxKernel.defs (F := Bits)) (onTc (τ := Cert.UpdxKernel.τ) (Cert.UpdxKernel.main (F := Bits))) ⟨m, fun _ => 0, g⟩ (fun r => (∀ c : Dev Cert.UpdxKernel.nD,
      r.2.mem ((c.tc : Thread Cert.UpdxKernel.nD Cert.UpdxKernel.τ).loc Cert.UpdxKernel.main_arg0) = m ((c.tc : Thread Cert.UpdxKernel.nD Cert.UpdxKernel.τ).loc Cert.UpdxKernel.main_arg0)
      ∧ r.2.mem ((c.tc : Thread Cert.UpdxKernel.nD Cert.UpdxKernel.τ).loc Cert.UpdxKernel.main_arg1) = m ((c.tc : Thread Cert.UpdxKernel.nD Cert.UpdxKernel.τ).loc Cert.UpdxKernel.main_arg1)
      ∧ r.2.mem ((c.tc : Thread Cert.UpdxKernel.nD Cert.UpdxKernel.τ).loc Cert.UpdxKernel.main_arg2) = m ((c.tc : Thread Cert.UpdxKernel.nD Cert.UpdxKernel.τ).loc Cert.UpdxKernel.main_arg2)
      ∧ r.2.mem ((c.tc : Thread Cert.UpdxKernel.nD Cert.UpdxKernel.τ).loc Cert.UpdxKernel.main_arg3) = m ((c.tc : Thread Cert.UpdxKernel.nD Cert.UpdxKernel.τ).loc Cert.UpdxKernel.main_arg3))
      ∧ r.2.sem = fun _ => 0)

def quiescent_UpdxKernelIdeal [hUpdxKernelIdeal : Cert.UpdxKernelIdeal.Facts] : Prop :=
  ∀ (m : (ℓ : Loc Cert.UpdxKernelIdeal.nD Cert.UpdxKernelIdeal.τ Cert.UpdxKernelIdeal.sig) → Buf (Elt Ideal) ℓ) (g : Dev Cert.UpdxKernelIdeal.nD → PrngReg), Pre_UpdxKernelIdeal m →
    θ_run (Cert.UpdxKernelIdeal.defs (F := Ideal)) (onTc (τ := Cert.UpdxKernelIdeal.τ) (Cert.UpdxKernelIdeal.main (F := Ideal))) ⟨m, fun _ => 0, g⟩ (fun r => (∀ c : Dev Cert.UpdxKernelIdeal.nD,
      r.2.mem ((c.tc : Thread Cert.UpdxKernelIdeal.nD Cert.UpdxKernelIdeal.τ).loc Cert.UpdxKernelIdeal.main_arg0) = m ((c.tc : Thread Cert.UpdxKernelIdeal.nD Cert.UpdxKernelIdeal.τ).loc Cert.UpdxKernelIdeal.main_arg0)
      ∧ r.2.mem ((c.tc : Thread Cert.UpdxKernelIdeal.nD Cert.UpdxKernelIdeal.τ).loc Cert.UpdxKernelIdeal.main_arg1) = m ((c.tc : Thread Cert.UpdxKernelIdeal.nD Cert.UpdxKernelIdeal.τ).loc Cert.UpdxKernelIdeal.main_arg1)
      ∧ r.2.mem ((c.tc : Thread Cert.UpdxKernelIdeal.nD Cert.UpdxKernelIdeal.τ).loc Cert.UpdxKernelIdeal.main_arg2) = m ((c.tc : Thread Cert.UpdxKernelIdeal.nD Cert.UpdxKernelIdeal.τ).loc Cert.UpdxKernelIdeal.main_arg2)
      ∧ r.2.mem ((c.tc : Thread Cert.UpdxKernelIdeal.nD Cert.UpdxKernelIdeal.τ).loc Cert.UpdxKernelIdeal.main_arg3) = m ((c.tc : Thread Cert.UpdxKernelIdeal.nD Cert.UpdxKernelIdeal.τ).loc Cert.UpdxKernelIdeal.main_arg3))
      ∧ r.2.sem = fun _ => 0)

def quiescent_UpdxReferenceIdeal [hUpdxReferenceIdeal : Cert.UpdxReferenceIdeal.Facts] : Prop :=
  ∀ (m : (ℓ : Loc Cert.UpdxReferenceIdeal.nD Cert.UpdxReferenceIdeal.τ Cert.UpdxReferenceIdeal.sig) → Buf (Elt Ideal) ℓ) (g : Dev Cert.UpdxReferenceIdeal.nD → PrngReg), Pre_UpdxReferenceIdeal m →
    θ_run (Cert.UpdxReferenceIdeal.defs (F := Ideal)) (onTc (τ := Cert.UpdxReferenceIdeal.τ) (Cert.UpdxReferenceIdeal.main (F := Ideal))) ⟨m, fun _ => 0, g⟩ (fun r => (∀ c : Dev Cert.UpdxReferenceIdeal.nD,
      r.2.mem ((c.tc : Thread Cert.UpdxReferenceIdeal.nD Cert.UpdxReferenceIdeal.τ).loc Cert.UpdxReferenceIdeal.main_arg0) = m ((c.tc : Thread Cert.UpdxReferenceIdeal.nD Cert.UpdxReferenceIdeal.τ).loc Cert.UpdxReferenceIdeal.main_arg0)
      ∧ r.2.mem ((c.tc : Thread Cert.UpdxReferenceIdeal.nD Cert.UpdxReferenceIdeal.τ).loc Cert.UpdxReferenceIdeal.main_arg1) = m ((c.tc : Thread Cert.UpdxReferenceIdeal.nD Cert.UpdxReferenceIdeal.τ).loc Cert.UpdxReferenceIdeal.main_arg1)
      ∧ r.2.mem ((c.tc : Thread Cert.UpdxReferenceIdeal.nD Cert.UpdxReferenceIdeal.τ).loc Cert.UpdxReferenceIdeal.main_arg2) = m ((c.tc : Thread Cert.UpdxReferenceIdeal.nD Cert.UpdxReferenceIdeal.τ).loc Cert.UpdxReferenceIdeal.main_arg2)
      ∧ r.2.mem ((c.tc : Thread Cert.UpdxReferenceIdeal.nD Cert.UpdxReferenceIdeal.τ).loc Cert.UpdxReferenceIdeal.main_arg3) = m ((c.tc : Thread Cert.UpdxReferenceIdeal.nD Cert.UpdxReferenceIdeal.τ).loc Cert.UpdxReferenceIdeal.main_arg3))
      ∧ r.2.sem = fun _ => 0)

def quiescent_InqkvKernel [hInqkvKernel : Cert.InqkvKernel.Facts] : Prop :=
  ∀ (m : (ℓ : Loc Cert.InqkvKernel.nD Cert.InqkvKernel.τ Cert.InqkvKernel.sig) → Buf (Elt Bits) ℓ) (g : Dev Cert.InqkvKernel.nD → PrngReg), Pre_InqkvKernel m →
    θ_run (Cert.InqkvKernel.defs (F := Bits)) (onTc (τ := Cert.InqkvKernel.τ) (Cert.InqkvKernel.main (F := Bits))) ⟨m, fun _ => 0, g⟩ (fun r => (∀ c : Dev Cert.InqkvKernel.nD,
      r.2.mem ((c.tc : Thread Cert.InqkvKernel.nD Cert.InqkvKernel.τ).loc Cert.InqkvKernel.main_arg0) = m ((c.tc : Thread Cert.InqkvKernel.nD Cert.InqkvKernel.τ).loc Cert.InqkvKernel.main_arg0)
      ∧ r.2.mem ((c.tc : Thread Cert.InqkvKernel.nD Cert.InqkvKernel.τ).loc Cert.InqkvKernel.main_arg1) = m ((c.tc : Thread Cert.InqkvKernel.nD Cert.InqkvKernel.τ).loc Cert.InqkvKernel.main_arg1))
      ∧ r.2.sem = fun _ => 0)

def quiescent_InqkvKernelIdeal [hInqkvKernelIdeal : Cert.InqkvKernelIdeal.Facts] : Prop :=
  ∀ (m : (ℓ : Loc Cert.InqkvKernelIdeal.nD Cert.InqkvKernelIdeal.τ Cert.InqkvKernelIdeal.sig) → Buf (Elt Ideal) ℓ) (g : Dev Cert.InqkvKernelIdeal.nD → PrngReg), Pre_InqkvKernelIdeal m →
    θ_run (Cert.InqkvKernelIdeal.defs (F := Ideal)) (onTc (τ := Cert.InqkvKernelIdeal.τ) (Cert.InqkvKernelIdeal.main (F := Ideal))) ⟨m, fun _ => 0, g⟩ (fun r => (∀ c : Dev Cert.InqkvKernelIdeal.nD,
      r.2.mem ((c.tc : Thread Cert.InqkvKernelIdeal.nD Cert.InqkvKernelIdeal.τ).loc Cert.InqkvKernelIdeal.main_arg0) = m ((c.tc : Thread Cert.InqkvKernelIdeal.nD Cert.InqkvKernelIdeal.τ).loc Cert.InqkvKernelIdeal.main_arg0)
      ∧ r.2.mem ((c.tc : Thread Cert.InqkvKernelIdeal.nD Cert.InqkvKernelIdeal.τ).loc Cert.InqkvKernelIdeal.main_arg1) = m ((c.tc : Thread Cert.InqkvKernelIdeal.nD Cert.InqkvKernelIdeal.τ).loc Cert.InqkvKernelIdeal.main_arg1))
      ∧ r.2.sem = fun _ => 0)

def quiescent_InqkvReferenceIdeal [hInqkvReferenceIdeal : Cert.InqkvReferenceIdeal.Facts] : Prop :=
  ∀ (m : (ℓ : Loc Cert.InqkvReferenceIdeal.nD Cert.InqkvReferenceIdeal.τ Cert.InqkvReferenceIdeal.sig) → Buf (Elt Ideal) ℓ) (g : Dev Cert.InqkvReferenceIdeal.nD → PrngReg), Pre_InqkvReferenceIdeal m →
    θ_run (Cert.InqkvReferenceIdeal.defs (F := Ideal)) (onTc (τ := Cert.InqkvReferenceIdeal.τ) (Cert.InqkvReferenceIdeal.main (F := Ideal))) ⟨m, fun _ => 0, g⟩ (fun r => (∀ c : Dev Cert.InqkvReferenceIdeal.nD,
      r.2.mem ((c.tc : Thread Cert.InqkvReferenceIdeal.nD Cert.InqkvReferenceIdeal.τ).loc Cert.InqkvReferenceIdeal.main_arg0) = m ((c.tc : Thread Cert.InqkvReferenceIdeal.nD Cert.InqkvReferenceIdeal.τ).loc Cert.InqkvReferenceIdeal.main_arg0)
      ∧ r.2.mem ((c.tc : Thread Cert.InqkvReferenceIdeal.nD Cert.InqkvReferenceIdeal.τ).loc Cert.InqkvReferenceIdeal.main_arg1) = m ((c.tc : Thread Cert.InqkvReferenceIdeal.nD Cert.InqkvReferenceIdeal.τ).loc Cert.InqkvReferenceIdeal.main_arg1))
      ∧ r.2.sem = fun _ => 0)

def quiescent_BranchdwKernel [hBranchdwKernel : Cert.BranchdwKernel.Facts] : Prop :=
  ∀ (m : (ℓ : Loc Cert.BranchdwKernel.nD Cert.BranchdwKernel.τ Cert.BranchdwKernel.sig) → Buf (Elt Bits) ℓ) (g : Dev Cert.BranchdwKernel.nD → PrngReg), Pre_BranchdwKernel m →
    θ_run (Cert.BranchdwKernel.defs (F := Bits)) (onTc (τ := Cert.BranchdwKernel.τ) (Cert.BranchdwKernel.main (F := Bits))) ⟨m, fun _ => 0, g⟩ (fun r => (∀ c : Dev Cert.BranchdwKernel.nD,
      r.2.mem ((c.tc : Thread Cert.BranchdwKernel.nD Cert.BranchdwKernel.τ).loc Cert.BranchdwKernel.main_arg0) = m ((c.tc : Thread Cert.BranchdwKernel.nD Cert.BranchdwKernel.τ).loc Cert.BranchdwKernel.main_arg0)
      ∧ r.2.mem ((c.tc : Thread Cert.BranchdwKernel.nD Cert.BranchdwKernel.τ).loc Cert.BranchdwKernel.main_arg1) = m ((c.tc : Thread Cert.BranchdwKernel.nD Cert.BranchdwKernel.τ).loc Cert.BranchdwKernel.main_arg1))
      ∧ r.2.sem = fun _ => 0)

def quiescent_BranchdwKernelIdeal [hBranchdwKernelIdeal : Cert.BranchdwKernelIdeal.Facts] : Prop :=
  ∀ (m : (ℓ : Loc Cert.BranchdwKernelIdeal.nD Cert.BranchdwKernelIdeal.τ Cert.BranchdwKernelIdeal.sig) → Buf (Elt Ideal) ℓ) (g : Dev Cert.BranchdwKernelIdeal.nD → PrngReg), Pre_BranchdwKernelIdeal m →
    θ_run (Cert.BranchdwKernelIdeal.defs (F := Ideal)) (onTc (τ := Cert.BranchdwKernelIdeal.τ) (Cert.BranchdwKernelIdeal.main (F := Ideal))) ⟨m, fun _ => 0, g⟩ (fun r => (∀ c : Dev Cert.BranchdwKernelIdeal.nD,
      r.2.mem ((c.tc : Thread Cert.BranchdwKernelIdeal.nD Cert.BranchdwKernelIdeal.τ).loc Cert.BranchdwKernelIdeal.main_arg0) = m ((c.tc : Thread Cert.BranchdwKernelIdeal.nD Cert.BranchdwKernelIdeal.τ).loc Cert.BranchdwKernelIdeal.main_arg0)
      ∧ r.2.mem ((c.tc : Thread Cert.BranchdwKernelIdeal.nD Cert.BranchdwKernelIdeal.τ).loc Cert.BranchdwKernelIdeal.main_arg1) = m ((c.tc : Thread Cert.BranchdwKernelIdeal.nD Cert.BranchdwKernelIdeal.τ).loc Cert.BranchdwKernelIdeal.main_arg1))
      ∧ r.2.sem = fun _ => 0)

def quiescent_BranchdwReferenceIdeal [hBranchdwReferenceIdeal : Cert.BranchdwReferenceIdeal.Facts] : Prop :=
  ∀ (m : (ℓ : Loc Cert.BranchdwReferenceIdeal.nD Cert.BranchdwReferenceIdeal.τ Cert.BranchdwReferenceIdeal.sig) → Buf (Elt Ideal) ℓ) (g : Dev Cert.BranchdwReferenceIdeal.nD → PrngReg), Pre_BranchdwReferenceIdeal m →
    θ_run (Cert.BranchdwReferenceIdeal.defs (F := Ideal)) (onTc (τ := Cert.BranchdwReferenceIdeal.τ) (Cert.BranchdwReferenceIdeal.main (F := Ideal))) ⟨m, fun _ => 0, g⟩ (fun r => (∀ c : Dev Cert.BranchdwReferenceIdeal.nD,
      r.2.mem ((c.tc : Thread Cert.BranchdwReferenceIdeal.nD Cert.BranchdwReferenceIdeal.τ).loc Cert.BranchdwReferenceIdeal.main_arg0) = m ((c.tc : Thread Cert.BranchdwReferenceIdeal.nD Cert.BranchdwReferenceIdeal.τ).loc Cert.BranchdwReferenceIdeal.main_arg0)
      ∧ r.2.mem ((c.tc : Thread Cert.BranchdwReferenceIdeal.nD Cert.BranchdwReferenceIdeal.τ).loc Cert.BranchdwReferenceIdeal.main_arg1) = m ((c.tc : Thread Cert.BranchdwReferenceIdeal.nD Cert.BranchdwReferenceIdeal.τ).loc Cert.BranchdwReferenceIdeal.main_arg1))
      ∧ r.2.sem = fun _ => 0)

def quiescent_QueriesdwKernel [hQueriesdwKernel : Cert.QueriesdwKernel.Facts] : Prop :=
  ∀ (m : (ℓ : Loc Cert.QueriesdwKernel.nD Cert.QueriesdwKernel.τ Cert.QueriesdwKernel.sig) → Buf (Elt Bits) ℓ) (g : Dev Cert.QueriesdwKernel.nD → PrngReg), Pre_QueriesdwKernel m →
    θ_run (Cert.QueriesdwKernel.defs (F := Bits)) (onTc (τ := Cert.QueriesdwKernel.τ) (Cert.QueriesdwKernel.main (F := Bits))) ⟨m, fun _ => 0, g⟩ (fun r => (∀ c : Dev Cert.QueriesdwKernel.nD,
      r.2.mem ((c.tc : Thread Cert.QueriesdwKernel.nD Cert.QueriesdwKernel.τ).loc Cert.QueriesdwKernel.main_arg0) = m ((c.tc : Thread Cert.QueriesdwKernel.nD Cert.QueriesdwKernel.τ).loc Cert.QueriesdwKernel.main_arg0)
      ∧ r.2.mem ((c.tc : Thread Cert.QueriesdwKernel.nD Cert.QueriesdwKernel.τ).loc Cert.QueriesdwKernel.main_arg1) = m ((c.tc : Thread Cert.QueriesdwKernel.nD Cert.QueriesdwKernel.τ).loc Cert.QueriesdwKernel.main_arg1))
      ∧ r.2.sem = fun _ => 0)

def quiescent_QueriesdwKernelIdeal [hQueriesdwKernelIdeal : Cert.QueriesdwKernelIdeal.Facts] : Prop :=
  ∀ (m : (ℓ : Loc Cert.QueriesdwKernelIdeal.nD Cert.QueriesdwKernelIdeal.τ Cert.QueriesdwKernelIdeal.sig) → Buf (Elt Ideal) ℓ) (g : Dev Cert.QueriesdwKernelIdeal.nD → PrngReg), Pre_QueriesdwKernelIdeal m →
    θ_run (Cert.QueriesdwKernelIdeal.defs (F := Ideal)) (onTc (τ := Cert.QueriesdwKernelIdeal.τ) (Cert.QueriesdwKernelIdeal.main (F := Ideal))) ⟨m, fun _ => 0, g⟩ (fun r => (∀ c : Dev Cert.QueriesdwKernelIdeal.nD,
      r.2.mem ((c.tc : Thread Cert.QueriesdwKernelIdeal.nD Cert.QueriesdwKernelIdeal.τ).loc Cert.QueriesdwKernelIdeal.main_arg0) = m ((c.tc : Thread Cert.QueriesdwKernelIdeal.nD Cert.QueriesdwKernelIdeal.τ).loc Cert.QueriesdwKernelIdeal.main_arg0)
      ∧ r.2.mem ((c.tc : Thread Cert.QueriesdwKernelIdeal.nD Cert.QueriesdwKernelIdeal.τ).loc Cert.QueriesdwKernelIdeal.main_arg1) = m ((c.tc : Thread Cert.QueriesdwKernelIdeal.nD Cert.QueriesdwKernelIdeal.τ).loc Cert.QueriesdwKernelIdeal.main_arg1))
      ∧ r.2.sem = fun _ => 0)

def quiescent_QueriesdwReferenceIdeal [hQueriesdwReferenceIdeal : Cert.QueriesdwReferenceIdeal.Facts] : Prop :=
  ∀ (m : (ℓ : Loc Cert.QueriesdwReferenceIdeal.nD Cert.QueriesdwReferenceIdeal.τ Cert.QueriesdwReferenceIdeal.sig) → Buf (Elt Ideal) ℓ) (g : Dev Cert.QueriesdwReferenceIdeal.nD → PrngReg), Pre_QueriesdwReferenceIdeal m →
    θ_run (Cert.QueriesdwReferenceIdeal.defs (F := Ideal)) (onTc (τ := Cert.QueriesdwReferenceIdeal.τ) (Cert.QueriesdwReferenceIdeal.main (F := Ideal))) ⟨m, fun _ => 0, g⟩ (fun r => (∀ c : Dev Cert.QueriesdwReferenceIdeal.nD,
      r.2.mem ((c.tc : Thread Cert.QueriesdwReferenceIdeal.nD Cert.QueriesdwReferenceIdeal.τ).loc Cert.QueriesdwReferenceIdeal.main_arg0) = m ((c.tc : Thread Cert.QueriesdwReferenceIdeal.nD Cert.QueriesdwReferenceIdeal.τ).loc Cert.QueriesdwReferenceIdeal.main_arg0)
      ∧ r.2.mem ((c.tc : Thread Cert.QueriesdwReferenceIdeal.nD Cert.QueriesdwReferenceIdeal.τ).loc Cert.QueriesdwReferenceIdeal.main_arg1) = m ((c.tc : Thread Cert.QueriesdwReferenceIdeal.nD Cert.QueriesdwReferenceIdeal.τ).loc Cert.QueriesdwReferenceIdeal.main_arg1))
      ∧ r.2.sem = fun _ => 0)

def quiescent_QueriesdxKernel [hQueriesdxKernel : Cert.QueriesdxKernel.Facts] : Prop :=
  ∀ (m : (ℓ : Loc Cert.QueriesdxKernel.nD Cert.QueriesdxKernel.τ Cert.QueriesdxKernel.sig) → Buf (Elt Bits) ℓ) (g : Dev Cert.QueriesdxKernel.nD → PrngReg), Pre_QueriesdxKernel m →
    θ_run (Cert.QueriesdxKernel.defs (F := Bits)) (onTc (τ := Cert.QueriesdxKernel.τ) (Cert.QueriesdxKernel.main (F := Bits))) ⟨m, fun _ => 0, g⟩ (fun r => (∀ c : Dev Cert.QueriesdxKernel.nD,
      r.2.mem ((c.tc : Thread Cert.QueriesdxKernel.nD Cert.QueriesdxKernel.τ).loc Cert.QueriesdxKernel.main_arg0) = m ((c.tc : Thread Cert.QueriesdxKernel.nD Cert.QueriesdxKernel.τ).loc Cert.QueriesdxKernel.main_arg0)
      ∧ r.2.mem ((c.tc : Thread Cert.QueriesdxKernel.nD Cert.QueriesdxKernel.τ).loc Cert.QueriesdxKernel.main_arg1) = m ((c.tc : Thread Cert.QueriesdxKernel.nD Cert.QueriesdxKernel.τ).loc Cert.QueriesdxKernel.main_arg1))
      ∧ r.2.sem = fun _ => 0)

def quiescent_QueriesdxKernelIdeal [hQueriesdxKernelIdeal : Cert.QueriesdxKernelIdeal.Facts] : Prop :=
  ∀ (m : (ℓ : Loc Cert.QueriesdxKernelIdeal.nD Cert.QueriesdxKernelIdeal.τ Cert.QueriesdxKernelIdeal.sig) → Buf (Elt Ideal) ℓ) (g : Dev Cert.QueriesdxKernelIdeal.nD → PrngReg), Pre_QueriesdxKernelIdeal m →
    θ_run (Cert.QueriesdxKernelIdeal.defs (F := Ideal)) (onTc (τ := Cert.QueriesdxKernelIdeal.τ) (Cert.QueriesdxKernelIdeal.main (F := Ideal))) ⟨m, fun _ => 0, g⟩ (fun r => (∀ c : Dev Cert.QueriesdxKernelIdeal.nD,
      r.2.mem ((c.tc : Thread Cert.QueriesdxKernelIdeal.nD Cert.QueriesdxKernelIdeal.τ).loc Cert.QueriesdxKernelIdeal.main_arg0) = m ((c.tc : Thread Cert.QueriesdxKernelIdeal.nD Cert.QueriesdxKernelIdeal.τ).loc Cert.QueriesdxKernelIdeal.main_arg0)
      ∧ r.2.mem ((c.tc : Thread Cert.QueriesdxKernelIdeal.nD Cert.QueriesdxKernelIdeal.τ).loc Cert.QueriesdxKernelIdeal.main_arg1) = m ((c.tc : Thread Cert.QueriesdxKernelIdeal.nD Cert.QueriesdxKernelIdeal.τ).loc Cert.QueriesdxKernelIdeal.main_arg1))
      ∧ r.2.sem = fun _ => 0)

def quiescent_QueriesdxReferenceIdeal [hQueriesdxReferenceIdeal : Cert.QueriesdxReferenceIdeal.Facts] : Prop :=
  ∀ (m : (ℓ : Loc Cert.QueriesdxReferenceIdeal.nD Cert.QueriesdxReferenceIdeal.τ Cert.QueriesdxReferenceIdeal.sig) → Buf (Elt Ideal) ℓ) (g : Dev Cert.QueriesdxReferenceIdeal.nD → PrngReg), Pre_QueriesdxReferenceIdeal m →
    θ_run (Cert.QueriesdxReferenceIdeal.defs (F := Ideal)) (onTc (τ := Cert.QueriesdxReferenceIdeal.τ) (Cert.QueriesdxReferenceIdeal.main (F := Ideal))) ⟨m, fun _ => 0, g⟩ (fun r => (∀ c : Dev Cert.QueriesdxReferenceIdeal.nD,
      r.2.mem ((c.tc : Thread Cert.QueriesdxReferenceIdeal.nD Cert.QueriesdxReferenceIdeal.τ).loc Cert.QueriesdxReferenceIdeal.main_arg0) = m ((c.tc : Thread Cert.QueriesdxReferenceIdeal.nD Cert.QueriesdxReferenceIdeal.τ).loc Cert.QueriesdxReferenceIdeal.main_arg0)
      ∧ r.2.mem ((c.tc : Thread Cert.QueriesdxReferenceIdeal.nD Cert.QueriesdxReferenceIdeal.τ).loc Cert.QueriesdxReferenceIdeal.main_arg1) = m ((c.tc : Thread Cert.QueriesdxReferenceIdeal.nD Cert.QueriesdxReferenceIdeal.τ).loc Cert.QueriesdxReferenceIdeal.main_arg1))
      ∧ r.2.sem = fun _ => 0)

def quiescent_BranchdxKernel [hBranchdxKernel : Cert.BranchdxKernel.Facts] : Prop :=
  ∀ (m : (ℓ : Loc Cert.BranchdxKernel.nD Cert.BranchdxKernel.τ Cert.BranchdxKernel.sig) → Buf (Elt Bits) ℓ) (g : Dev Cert.BranchdxKernel.nD → PrngReg), Pre_BranchdxKernel m →
    θ_run (Cert.BranchdxKernel.defs (F := Bits)) (onTc (τ := Cert.BranchdxKernel.τ) (Cert.BranchdxKernel.main (F := Bits))) ⟨m, fun _ => 0, g⟩ (fun r => (∀ c : Dev Cert.BranchdxKernel.nD,
      r.2.mem ((c.tc : Thread Cert.BranchdxKernel.nD Cert.BranchdxKernel.τ).loc Cert.BranchdxKernel.main_arg0) = m ((c.tc : Thread Cert.BranchdxKernel.nD Cert.BranchdxKernel.τ).loc Cert.BranchdxKernel.main_arg0)
      ∧ r.2.mem ((c.tc : Thread Cert.BranchdxKernel.nD Cert.BranchdxKernel.τ).loc Cert.BranchdxKernel.main_arg1) = m ((c.tc : Thread Cert.BranchdxKernel.nD Cert.BranchdxKernel.τ).loc Cert.BranchdxKernel.main_arg1))
      ∧ r.2.sem = fun _ => 0)

def quiescent_BranchdxKernelIdeal [hBranchdxKernelIdeal : Cert.BranchdxKernelIdeal.Facts] : Prop :=
  ∀ (m : (ℓ : Loc Cert.BranchdxKernelIdeal.nD Cert.BranchdxKernelIdeal.τ Cert.BranchdxKernelIdeal.sig) → Buf (Elt Ideal) ℓ) (g : Dev Cert.BranchdxKernelIdeal.nD → PrngReg), Pre_BranchdxKernelIdeal m →
    θ_run (Cert.BranchdxKernelIdeal.defs (F := Ideal)) (onTc (τ := Cert.BranchdxKernelIdeal.τ) (Cert.BranchdxKernelIdeal.main (F := Ideal))) ⟨m, fun _ => 0, g⟩ (fun r => (∀ c : Dev Cert.BranchdxKernelIdeal.nD,
      r.2.mem ((c.tc : Thread Cert.BranchdxKernelIdeal.nD Cert.BranchdxKernelIdeal.τ).loc Cert.BranchdxKernelIdeal.main_arg0) = m ((c.tc : Thread Cert.BranchdxKernelIdeal.nD Cert.BranchdxKernelIdeal.τ).loc Cert.BranchdxKernelIdeal.main_arg0)
      ∧ r.2.mem ((c.tc : Thread Cert.BranchdxKernelIdeal.nD Cert.BranchdxKernelIdeal.τ).loc Cert.BranchdxKernelIdeal.main_arg1) = m ((c.tc : Thread Cert.BranchdxKernelIdeal.nD Cert.BranchdxKernelIdeal.τ).loc Cert.BranchdxKernelIdeal.main_arg1))
      ∧ r.2.sem = fun _ => 0)

def quiescent_BranchdxReferenceIdeal [hBranchdxReferenceIdeal : Cert.BranchdxReferenceIdeal.Facts] : Prop :=
  ∀ (m : (ℓ : Loc Cert.BranchdxReferenceIdeal.nD Cert.BranchdxReferenceIdeal.τ Cert.BranchdxReferenceIdeal.sig) → Buf (Elt Ideal) ℓ) (g : Dev Cert.BranchdxReferenceIdeal.nD → PrngReg), Pre_BranchdxReferenceIdeal m →
    θ_run (Cert.BranchdxReferenceIdeal.defs (F := Ideal)) (onTc (τ := Cert.BranchdxReferenceIdeal.τ) (Cert.BranchdxReferenceIdeal.main (F := Ideal))) ⟨m, fun _ => 0, g⟩ (fun r => (∀ c : Dev Cert.BranchdxReferenceIdeal.nD,
      r.2.mem ((c.tc : Thread Cert.BranchdxReferenceIdeal.nD Cert.BranchdxReferenceIdeal.τ).loc Cert.BranchdxReferenceIdeal.main_arg0) = m ((c.tc : Thread Cert.BranchdxReferenceIdeal.nD Cert.BranchdxReferenceIdeal.τ).loc Cert.BranchdxReferenceIdeal.main_arg0)
      ∧ r.2.mem ((c.tc : Thread Cert.BranchdxReferenceIdeal.nD Cert.BranchdxReferenceIdeal.τ).loc Cert.BranchdxReferenceIdeal.main_arg1) = m ((c.tc : Thread Cert.BranchdxReferenceIdeal.nD Cert.BranchdxReferenceIdeal.τ).loc Cert.BranchdxReferenceIdeal.main_arg1))
      ∧ r.2.sem = fun _ => 0)

def quiescent_GatedwKernel [hGatedwKernel : Cert.GatedwKernel.Facts] : Prop :=
  ∀ (m : (ℓ : Loc Cert.GatedwKernel.nD Cert.GatedwKernel.τ Cert.GatedwKernel.sig) → Buf (Elt Bits) ℓ) (g : Dev Cert.GatedwKernel.nD → PrngReg), Pre_GatedwKernel m →
    θ_run (Cert.GatedwKernel.defs (F := Bits)) (onTc (τ := Cert.GatedwKernel.τ) (Cert.GatedwKernel.main (F := Bits))) ⟨m, fun _ => 0, g⟩ (fun r => (∀ c : Dev Cert.GatedwKernel.nD,
      r.2.mem ((c.tc : Thread Cert.GatedwKernel.nD Cert.GatedwKernel.τ).loc Cert.GatedwKernel.main_arg0) = m ((c.tc : Thread Cert.GatedwKernel.nD Cert.GatedwKernel.τ).loc Cert.GatedwKernel.main_arg0)
      ∧ r.2.mem ((c.tc : Thread Cert.GatedwKernel.nD Cert.GatedwKernel.τ).loc Cert.GatedwKernel.main_arg1) = m ((c.tc : Thread Cert.GatedwKernel.nD Cert.GatedwKernel.τ).loc Cert.GatedwKernel.main_arg1))
      ∧ r.2.sem = fun _ => 0)

def quiescent_GatedwKernelIdeal [hGatedwKernelIdeal : Cert.GatedwKernelIdeal.Facts] : Prop :=
  ∀ (m : (ℓ : Loc Cert.GatedwKernelIdeal.nD Cert.GatedwKernelIdeal.τ Cert.GatedwKernelIdeal.sig) → Buf (Elt Ideal) ℓ) (g : Dev Cert.GatedwKernelIdeal.nD → PrngReg), Pre_GatedwKernelIdeal m →
    θ_run (Cert.GatedwKernelIdeal.defs (F := Ideal)) (onTc (τ := Cert.GatedwKernelIdeal.τ) (Cert.GatedwKernelIdeal.main (F := Ideal))) ⟨m, fun _ => 0, g⟩ (fun r => (∀ c : Dev Cert.GatedwKernelIdeal.nD,
      r.2.mem ((c.tc : Thread Cert.GatedwKernelIdeal.nD Cert.GatedwKernelIdeal.τ).loc Cert.GatedwKernelIdeal.main_arg0) = m ((c.tc : Thread Cert.GatedwKernelIdeal.nD Cert.GatedwKernelIdeal.τ).loc Cert.GatedwKernelIdeal.main_arg0)
      ∧ r.2.mem ((c.tc : Thread Cert.GatedwKernelIdeal.nD Cert.GatedwKernelIdeal.τ).loc Cert.GatedwKernelIdeal.main_arg1) = m ((c.tc : Thread Cert.GatedwKernelIdeal.nD Cert.GatedwKernelIdeal.τ).loc Cert.GatedwKernelIdeal.main_arg1))
      ∧ r.2.sem = fun _ => 0)

def quiescent_GatedwReferenceIdeal [hGatedwReferenceIdeal : Cert.GatedwReferenceIdeal.Facts] : Prop :=
  ∀ (m : (ℓ : Loc Cert.GatedwReferenceIdeal.nD Cert.GatedwReferenceIdeal.τ Cert.GatedwReferenceIdeal.sig) → Buf (Elt Ideal) ℓ) (g : Dev Cert.GatedwReferenceIdeal.nD → PrngReg), Pre_GatedwReferenceIdeal m →
    θ_run (Cert.GatedwReferenceIdeal.defs (F := Ideal)) (onTc (τ := Cert.GatedwReferenceIdeal.τ) (Cert.GatedwReferenceIdeal.main (F := Ideal))) ⟨m, fun _ => 0, g⟩ (fun r => (∀ c : Dev Cert.GatedwReferenceIdeal.nD,
      r.2.mem ((c.tc : Thread Cert.GatedwReferenceIdeal.nD Cert.GatedwReferenceIdeal.τ).loc Cert.GatedwReferenceIdeal.main_arg0) = m ((c.tc : Thread Cert.GatedwReferenceIdeal.nD Cert.GatedwReferenceIdeal.τ).loc Cert.GatedwReferenceIdeal.main_arg0)
      ∧ r.2.mem ((c.tc : Thread Cert.GatedwReferenceIdeal.nD Cert.GatedwReferenceIdeal.τ).loc Cert.GatedwReferenceIdeal.main_arg1) = m ((c.tc : Thread Cert.GatedwReferenceIdeal.nD Cert.GatedwReferenceIdeal.τ).loc Cert.GatedwReferenceIdeal.main_arg1))
      ∧ r.2.sem = fun _ => 0)

def quiescent_GatedxKernel [hGatedxKernel : Cert.GatedxKernel.Facts] : Prop :=
  ∀ (m : (ℓ : Loc Cert.GatedxKernel.nD Cert.GatedxKernel.τ Cert.GatedxKernel.sig) → Buf (Elt Bits) ℓ) (g : Dev Cert.GatedxKernel.nD → PrngReg), Pre_GatedxKernel m →
    θ_run (Cert.GatedxKernel.defs (F := Bits)) (onTc (τ := Cert.GatedxKernel.τ) (Cert.GatedxKernel.main (F := Bits))) ⟨m, fun _ => 0, g⟩ (fun r => (∀ c : Dev Cert.GatedxKernel.nD,
      r.2.mem ((c.tc : Thread Cert.GatedxKernel.nD Cert.GatedxKernel.τ).loc Cert.GatedxKernel.main_arg0) = m ((c.tc : Thread Cert.GatedxKernel.nD Cert.GatedxKernel.τ).loc Cert.GatedxKernel.main_arg0)
      ∧ r.2.mem ((c.tc : Thread Cert.GatedxKernel.nD Cert.GatedxKernel.τ).loc Cert.GatedxKernel.main_arg1) = m ((c.tc : Thread Cert.GatedxKernel.nD Cert.GatedxKernel.τ).loc Cert.GatedxKernel.main_arg1))
      ∧ r.2.sem = fun _ => 0)

def quiescent_GatedxKernelIdeal [hGatedxKernelIdeal : Cert.GatedxKernelIdeal.Facts] : Prop :=
  ∀ (m : (ℓ : Loc Cert.GatedxKernelIdeal.nD Cert.GatedxKernelIdeal.τ Cert.GatedxKernelIdeal.sig) → Buf (Elt Ideal) ℓ) (g : Dev Cert.GatedxKernelIdeal.nD → PrngReg), Pre_GatedxKernelIdeal m →
    θ_run (Cert.GatedxKernelIdeal.defs (F := Ideal)) (onTc (τ := Cert.GatedxKernelIdeal.τ) (Cert.GatedxKernelIdeal.main (F := Ideal))) ⟨m, fun _ => 0, g⟩ (fun r => (∀ c : Dev Cert.GatedxKernelIdeal.nD,
      r.2.mem ((c.tc : Thread Cert.GatedxKernelIdeal.nD Cert.GatedxKernelIdeal.τ).loc Cert.GatedxKernelIdeal.main_arg0) = m ((c.tc : Thread Cert.GatedxKernelIdeal.nD Cert.GatedxKernelIdeal.τ).loc Cert.GatedxKernelIdeal.main_arg0)
      ∧ r.2.mem ((c.tc : Thread Cert.GatedxKernelIdeal.nD Cert.GatedxKernelIdeal.τ).loc Cert.GatedxKernelIdeal.main_arg1) = m ((c.tc : Thread Cert.GatedxKernelIdeal.nD Cert.GatedxKernelIdeal.τ).loc Cert.GatedxKernelIdeal.main_arg1))
      ∧ r.2.sem = fun _ => 0)

def quiescent_GatedxReferenceIdeal [hGatedxReferenceIdeal : Cert.GatedxReferenceIdeal.Facts] : Prop :=
  ∀ (m : (ℓ : Loc Cert.GatedxReferenceIdeal.nD Cert.GatedxReferenceIdeal.τ Cert.GatedxReferenceIdeal.sig) → Buf (Elt Ideal) ℓ) (g : Dev Cert.GatedxReferenceIdeal.nD → PrngReg), Pre_GatedxReferenceIdeal m →
    θ_run (Cert.GatedxReferenceIdeal.defs (F := Ideal)) (onTc (τ := Cert.GatedxReferenceIdeal.τ) (Cert.GatedxReferenceIdeal.main (F := Ideal))) ⟨m, fun _ => 0, g⟩ (fun r => (∀ c : Dev Cert.GatedxReferenceIdeal.nD,
      r.2.mem ((c.tc : Thread Cert.GatedxReferenceIdeal.nD Cert.GatedxReferenceIdeal.τ).loc Cert.GatedxReferenceIdeal.main_arg0) = m ((c.tc : Thread Cert.GatedxReferenceIdeal.nD Cert.GatedxReferenceIdeal.τ).loc Cert.GatedxReferenceIdeal.main_arg0)
      ∧ r.2.mem ((c.tc : Thread Cert.GatedxReferenceIdeal.nD Cert.GatedxReferenceIdeal.τ).loc Cert.GatedxReferenceIdeal.main_arg1) = m ((c.tc : Thread Cert.GatedxReferenceIdeal.nD Cert.GatedxReferenceIdeal.τ).loc Cert.GatedxReferenceIdeal.main_arg1))
      ∧ r.2.sem = fun _ => 0)

def quiescent_IndxKernel [hIndxKernel : Cert.IndxKernel.Facts] : Prop :=
  ∀ (m : (ℓ : Loc Cert.IndxKernel.nD Cert.IndxKernel.τ Cert.IndxKernel.sig) → Buf (Elt Bits) ℓ) (g : Dev Cert.IndxKernel.nD → PrngReg), Pre_IndxKernel m →
    θ_run (Cert.IndxKernel.defs (F := Bits)) (onTc (τ := Cert.IndxKernel.τ) (Cert.IndxKernel.main (F := Bits))) ⟨m, fun _ => 0, g⟩ (fun r => (∀ c : Dev Cert.IndxKernel.nD,
      r.2.mem ((c.tc : Thread Cert.IndxKernel.nD Cert.IndxKernel.τ).loc Cert.IndxKernel.main_arg0) = m ((c.tc : Thread Cert.IndxKernel.nD Cert.IndxKernel.τ).loc Cert.IndxKernel.main_arg0)
      ∧ r.2.mem ((c.tc : Thread Cert.IndxKernel.nD Cert.IndxKernel.τ).loc Cert.IndxKernel.main_arg1) = m ((c.tc : Thread Cert.IndxKernel.nD Cert.IndxKernel.τ).loc Cert.IndxKernel.main_arg1))
      ∧ r.2.sem = fun _ => 0)

def quiescent_IndxKernelIdeal [hIndxKernelIdeal : Cert.IndxKernelIdeal.Facts] : Prop :=
  ∀ (m : (ℓ : Loc Cert.IndxKernelIdeal.nD Cert.IndxKernelIdeal.τ Cert.IndxKernelIdeal.sig) → Buf (Elt Ideal) ℓ) (g : Dev Cert.IndxKernelIdeal.nD → PrngReg), Pre_IndxKernelIdeal m →
    θ_run (Cert.IndxKernelIdeal.defs (F := Ideal)) (onTc (τ := Cert.IndxKernelIdeal.τ) (Cert.IndxKernelIdeal.main (F := Ideal))) ⟨m, fun _ => 0, g⟩ (fun r => (∀ c : Dev Cert.IndxKernelIdeal.nD,
      r.2.mem ((c.tc : Thread Cert.IndxKernelIdeal.nD Cert.IndxKernelIdeal.τ).loc Cert.IndxKernelIdeal.main_arg0) = m ((c.tc : Thread Cert.IndxKernelIdeal.nD Cert.IndxKernelIdeal.τ).loc Cert.IndxKernelIdeal.main_arg0)
      ∧ r.2.mem ((c.tc : Thread Cert.IndxKernelIdeal.nD Cert.IndxKernelIdeal.τ).loc Cert.IndxKernelIdeal.main_arg1) = m ((c.tc : Thread Cert.IndxKernelIdeal.nD Cert.IndxKernelIdeal.τ).loc Cert.IndxKernelIdeal.main_arg1))
      ∧ r.2.sem = fun _ => 0)

def quiescent_IndxReferenceIdeal [hIndxReferenceIdeal : Cert.IndxReferenceIdeal.Facts] : Prop :=
  ∀ (m : (ℓ : Loc Cert.IndxReferenceIdeal.nD Cert.IndxReferenceIdeal.τ Cert.IndxReferenceIdeal.sig) → Buf (Elt Ideal) ℓ) (g : Dev Cert.IndxReferenceIdeal.nD → PrngReg), Pre_IndxReferenceIdeal m →
    θ_run (Cert.IndxReferenceIdeal.defs (F := Ideal)) (onTc (τ := Cert.IndxReferenceIdeal.τ) (Cert.IndxReferenceIdeal.main (F := Ideal))) ⟨m, fun _ => 0, g⟩ (fun r => (∀ c : Dev Cert.IndxReferenceIdeal.nD,
      r.2.mem ((c.tc : Thread Cert.IndxReferenceIdeal.nD Cert.IndxReferenceIdeal.τ).loc Cert.IndxReferenceIdeal.main_arg0) = m ((c.tc : Thread Cert.IndxReferenceIdeal.nD Cert.IndxReferenceIdeal.τ).loc Cert.IndxReferenceIdeal.main_arg0)
      ∧ r.2.mem ((c.tc : Thread Cert.IndxReferenceIdeal.nD Cert.IndxReferenceIdeal.τ).loc Cert.IndxReferenceIdeal.main_arg1) = m ((c.tc : Thread Cert.IndxReferenceIdeal.nD Cert.IndxReferenceIdeal.τ).loc Cert.IndxReferenceIdeal.main_arg1))
      ∧ r.2.sem = fun _ => 0)

def quiescent_AdamKernel [hAdamKernel : Cert.AdamKernel.Facts] [hPre_chip_in_range : Cert.Pre_chip_in_range.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4)
      ∧ r.2.mem ((c.tc : Thread Cert.AdamKernel.nD Cert.AdamKernel.τ).loc Cert.AdamKernel.main_arg5) = m ((c.tc : Thread Cert.AdamKernel.nD Cert.AdamKernel.τ).loc Cert.AdamKernel.main_arg5))
      ∧ r.2.sem = fun _ => 0)

def quiescent_AdamKernelIdeal [hAdamKernelIdeal : Cert.AdamKernelIdeal.Facts] [hPre_chip_in_range : Cert.Pre_chip_in_range.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
      ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5))
      ∧ r.2.sem = fun _ => 0)

def quiescent_AdamReferenceIdeal_pre_chip_in_range [hAdamReferenceIdeal : Cert.AdamReferenceIdeal.Facts] [hPre_chip_in_range : Cert.Pre_chip_in_range.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal_chip_in_range m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4)
      ∧ r.2.mem ((c.tc : Thread Cert.AdamReferenceIdeal.nD Cert.AdamReferenceIdeal.τ).loc Cert.AdamReferenceIdeal.main_arg5) = m ((c.tc : Thread Cert.AdamReferenceIdeal.nD Cert.AdamReferenceIdeal.τ).loc Cert.AdamReferenceIdeal.main_arg5))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v1_0)) (v1 : (c : Dev Cert.GateKernelIdeal.nD) → Buf (Elt Ideal) ((c.tc : Thread Cert.GateKernelIdeal.nD Cert.GateKernelIdeal.τ).loc Cert.GateKernelIdeal.main_v1_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v1_0) = v0 c
          ∧ r.2.mem ((c.tc : Thread Cert.GateKernelIdeal.nD Cert.GateKernelIdeal.τ).loc Cert.GateKernelIdeal.main_v1_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v13) = v0 c
          ∧ r.2.mem ((c.tc : Thread Cert.GateReferenceIdeal.nD Cert.GateReferenceIdeal.τ).loc Cert.GateReferenceIdeal.main_v14) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_MlaKernel_MlaKernelIdeal : Prop :=
  True

def algebraic_MlaKernelIdeal_MlaReferenceIdeal_pre_queries_and_keys_finite [hMlaKernelIdeal : Cert.MlaKernelIdeal.Facts] [hMlaReferenceIdeal : Cert.MlaReferenceIdeal.Facts] [hPre_queries_and_keys_finite : Cert.Pre_queries_and_keys_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_queries_and_keys_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)) →
    ∃ (v0 : (c : Dev Cert.MlaKernelIdeal.nD) → Buf (Elt Ideal) ((c.tc : Thread Cert.MlaKernelIdeal.nD Cert.MlaKernelIdeal.τ).loc Cert.MlaKernelIdeal.main_v11_0)) (v1 : (c : Dev Cert.MlaKernelIdeal.nD) → Buf (Elt Ideal) ((c.tc : Thread Cert.MlaKernelIdeal.nD Cert.MlaKernelIdeal.τ).loc Cert.MlaKernelIdeal.main_v11_1)) (v2 : (c : Dev Cert.MlaKernelIdeal.nD) → Buf (Elt Ideal) ((c.tc : Thread Cert.MlaKernelIdeal.nD Cert.MlaKernelIdeal.τ).loc Cert.MlaKernelIdeal.main_v11_2)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v11_0) = v0 c
          ∧ r.2.mem ((c.tc : Thread Cert.MlaKernelIdeal.nD Cert.MlaKernelIdeal.τ).loc Cert.MlaKernelIdeal.main_v11_1) = v1 c
          ∧ r.2.mem ((c.tc : Thread Cert.MlaKernelIdeal.nD Cert.MlaKernelIdeal.τ).loc Cert.MlaKernelIdeal.main_v11_2) = v2 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v75) = v0 c
          ∧ r.2.mem ((c.tc : Thread Cert.MlaReferenceIdeal.nD Cert.MlaReferenceIdeal.τ).loc Cert.MlaReferenceIdeal.main_v77) = v1 c
          ∧ r.2.mem ((c.tc : Thread Cert.MlaReferenceIdeal.nD Cert.MlaReferenceIdeal.τ).loc Cert.MlaReferenceIdeal.main_v79) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_NaKernel_NaKernelIdeal : Prop :=
  IdealRules.named_const.Statement Cert.NaKernelIdeal.κ "mask" .f32 0xF149F2CA#32 ⊥

def preserves_ColumnsKernel_ColumnsKernelIdeal : Prop :=
  True

def algebraic_ColumnsKernelIdeal_ColumnsReferenceIdeal [hColumnsKernelIdeal : Cert.ColumnsKernelIdeal.Facts] [hColumnsReferenceIdeal : Cert.ColumnsReferenceIdeal.Facts] : Prop :=
  ∀ (m : (ℓ : Loc Cert.ColumnsKernelIdeal.nD Cert.ColumnsKernelIdeal.τ Cert.ColumnsKernelIdeal.sig) → Buf (Elt Ideal) ℓ) (g : Dev Cert.ColumnsKernelIdeal.nD → PrngReg)
    (m' : (ℓ : Loc Cert.ColumnsReferenceIdeal.nD Cert.ColumnsReferenceIdeal.τ Cert.ColumnsReferenceIdeal.sig) → Buf (Elt Ideal) ℓ) (g' : Dev Cert.ColumnsReferenceIdeal.nD → PrngReg), Pre_ColumnsKernelIdeal m →
    (∀ c : Dev Cert.ColumnsKernelIdeal.nD,
      m' ((c.tc : Thread Cert.ColumnsReferenceIdeal.nD Cert.ColumnsReferenceIdeal.τ).loc Cert.ColumnsReferenceIdeal.main_arg0) = m ((c.tc : Thread Cert.ColumnsKernelIdeal.nD Cert.ColumnsKernelIdeal.τ).loc Cert.ColumnsKernelIdeal.main_arg0)) →
    ∃ (v0 : (c : Dev Cert.ColumnsKernelIdeal.nD) → Buf (Elt Ideal) ((c.tc : Thread Cert.ColumnsKernelIdeal.nD Cert.ColumnsKernelIdeal.τ).loc Cert.ColumnsKernelIdeal.main_v35)),
      θ_run (Cert.ColumnsKernelIdeal.defs (F := Ideal)) (onTc (τ := Cert.ColumnsKernelIdeal.τ) (Cert.ColumnsKernelIdeal.main (F := Ideal))) ⟨m, fun _ => 0, g⟩ (fun r => ∀ c : Dev Cert.ColumnsKernelIdeal.nD,
          r.2.mem ((c.tc : Thread Cert.ColumnsKernelIdeal.nD Cert.ColumnsKernelIdeal.τ).loc Cert.ColumnsKernelIdeal.main_v35) = v0 c
          ∧ r.2.mem ((c.tc : Thread Cert.ColumnsKernelIdeal.nD Cert.ColumnsKernelIdeal.τ).loc Cert.ColumnsKernelIdeal.main_arg0) = m ((c.tc : Thread Cert.ColumnsKernelIdeal.nD Cert.ColumnsKernelIdeal.τ).loc Cert.ColumnsKernelIdeal.main_arg0))
      ∧ θ_run (Cert.ColumnsReferenceIdeal.defs (F := Ideal)) (onTc (τ := Cert.ColumnsReferenceIdeal.τ) (Cert.ColumnsReferenceIdeal.main (F := Ideal))) ⟨m', fun _ => 0, g'⟩ (fun r => ∀ c : Dev Cert.ColumnsReferenceIdeal.nD,
          r.2.mem ((c.tc : Thread Cert.ColumnsReferenceIdeal.nD Cert.ColumnsReferenceIdeal.τ).loc Cert.ColumnsReferenceIdeal.main_v38) = v0 c
          ∧ r.2.mem ((c.tc : Thread Cert.ColumnsReferenceIdeal.nD Cert.ColumnsReferenceIdeal.τ).loc Cert.ColumnsReferenceIdeal.main_arg0) = m' ((c.tc : Thread Cert.ColumnsReferenceIdeal.nD Cert.ColumnsReferenceIdeal.τ).loc Cert.ColumnsReferenceIdeal.main_arg0))

def preserves_TableKernel_TableKernelIdeal : Prop :=
  True

def algebraic_TableKernelIdeal_TableReferenceIdeal [hTableKernelIdeal : Cert.TableKernelIdeal.Facts] [hTableReferenceIdeal : Cert.TableReferenceIdeal.Facts] : Prop :=
  ∀ (m : (ℓ : Loc Cert.TableKernelIdeal.nD Cert.TableKernelIdeal.τ Cert.TableKernelIdeal.sig) → Buf (Elt Ideal) ℓ) (g : Dev Cert.TableKernelIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableKernelIdeal m →
    (∀ c : Dev Cert.TableKernelIdeal.nD,
      m' ((c.tc : Thread Cert.TableReferenceIdeal.nD Cert.TableReferenceIdeal.τ).loc Cert.TableReferenceIdeal.main_arg0) = m ((c.tc : Thread Cert.TableKernelIdeal.nD Cert.TableKernelIdeal.τ).loc Cert.TableKernelIdeal.main_arg0)) →
    ∃ (v0 : (c : Dev Cert.TableKernelIdeal.nD) → Buf (Elt Ideal) ((c.tc : Thread Cert.TableKernelIdeal.nD Cert.TableKernelIdeal.τ).loc Cert.TableKernelIdeal.main_v38)),
      θ_run (Cert.TableKernelIdeal.defs (F := Ideal)) (onTc (τ := Cert.TableKernelIdeal.τ) (Cert.TableKernelIdeal.main (F := Ideal))) ⟨m, fun _ => 0, g⟩ (fun r => ∀ c : Dev Cert.TableKernelIdeal.nD,
          r.2.mem ((c.tc : Thread Cert.TableKernelIdeal.nD Cert.TableKernelIdeal.τ).loc Cert.TableKernelIdeal.main_v38) = v0 c
          ∧ r.2.mem ((c.tc : Thread Cert.TableKernelIdeal.nD Cert.TableKernelIdeal.τ).loc Cert.TableKernelIdeal.main_arg0) = m ((c.tc : Thread Cert.TableKernelIdeal.nD Cert.TableKernelIdeal.τ).loc Cert.TableKernelIdeal.main_arg0))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v33) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0))

def preserves_FfnKernel_FfnKernelIdeal : Prop :=
  True

def algebraic_FfnKernelIdeal_FfnReferenceIdeal_pre_all_but_gate_finite [hFfnKernelIdeal : Cert.FfnKernelIdeal.Facts] [hFfnReferenceIdeal : Cert.FfnReferenceIdeal.Facts] [hPre_all_but_gate_finite : Cert.Pre_all_but_gate_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_all_but_gate_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v9_0)) (v1 : (c : Dev Cert.FfnKernelIdeal.nD) → Buf (Elt Ideal) ((c.tc : Thread Cert.FfnKernelIdeal.nD Cert.FfnKernelIdeal.τ).loc Cert.FfnKernelIdeal.main_v9_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9_0) = v0 c
          ∧ r.2.mem ((c.tc : Thread Cert.FfnKernelIdeal.nD Cert.FfnKernelIdeal.τ).loc Cert.FfnKernelIdeal.main_v9_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v13) = v0 c
          ∧ r.2.mem ((c.tc : Thread Cert.FfnReferenceIdeal.nD Cert.FfnReferenceIdeal.τ).loc Cert.FfnReferenceIdeal.main_v16) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v9_0)) (v1 : (c : Dev Cert.MixKernelIdeal.nD) → Buf (Elt Ideal) ((c.tc : Thread Cert.MixKernelIdeal.nD Cert.MixKernelIdeal.τ).loc Cert.MixKernelIdeal.main_v9_1)) (v2 : (c : Dev Cert.MixKernelIdeal.nD) → Buf (Elt Ideal) ((c.tc : Thread Cert.MixKernelIdeal.nD Cert.MixKernelIdeal.τ).loc Cert.MixKernelIdeal.main_v9_2)) (v3 : (c : Dev Cert.MixKernelIdeal.nD) → Buf (Elt Ideal) ((c.tc : Thread Cert.MixKernelIdeal.nD Cert.MixKernelIdeal.τ).loc Cert.MixKernelIdeal.main_v9_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v9_0) = v0 c
          ∧ r.2.mem ((c.tc : Thread Cert.MixKernelIdeal.nD Cert.MixKernelIdeal.τ).loc Cert.MixKernelIdeal.main_v9_1) = v1 c
          ∧ r.2.mem ((c.tc : Thread Cert.MixKernelIdeal.nD Cert.MixKernelIdeal.τ).loc Cert.MixKernelIdeal.main_v9_2) = v2 c
          ∧ r.2.mem ((c.tc : Thread Cert.MixKernelIdeal.nD Cert.MixKernelIdeal.τ).loc Cert.MixKernelIdeal.main_v9_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v31) = v0 c
          ∧ r.2.mem ((c.tc : Thread Cert.MixReferenceIdeal.nD Cert.MixReferenceIdeal.τ).loc Cert.MixReferenceIdeal.main_v34) = v1 c
          ∧ r.2.mem ((c.tc : Thread Cert.MixReferenceIdeal.nD Cert.MixReferenceIdeal.τ).loc Cert.MixReferenceIdeal.main_v35) = v2 c
          ∧ r.2.mem ((c.tc : Thread Cert.MixReferenceIdeal.nD Cert.MixReferenceIdeal.τ).loc Cert.MixReferenceIdeal.main_v36) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v0_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v0_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37) = v0 c
          ∧ r.2.mem ((c.tc : Thread Cert.NormReferenceIdeal.nD Cert.NormReferenceIdeal.τ).loc Cert.NormReferenceIdeal.main_v39) = v1 c
          ∧ r.2.mem ((c.tc : Thread Cert.NormReferenceIdeal.nD Cert.NormReferenceIdeal.τ).loc Cert.NormReferenceIdeal.main_v38) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)) →
    ∃ (v0 : (c : Dev Cert.PostKernelIdeal.nD) → Buf (Elt Ideal) ((c.tc : Thread Cert.PostKernelIdeal.nD Cert.PostKernelIdeal.τ).loc Cert.PostKernelIdeal.main_v34_0)) (v1 : (c : Dev Cert.PostKernelIdeal.nD) → Buf (Elt Ideal) ((c.tc : Thread Cert.PostKernelIdeal.nD Cert.PostKernelIdeal.τ).loc Cert.PostKernelIdeal.main_v34_1)) (v2 : (c : Dev Cert.PostKernelIdeal.nD) → Buf (Elt Ideal) ((c.tc : Thread Cert.PostKernelIdeal.nD Cert.PostKernelIdeal.τ).loc Cert.PostKernelIdeal.main_v34_2)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v34_0) = v0 c
          ∧ r.2.mem ((c.tc : Thread Cert.PostKernelIdeal.nD Cert.PostKernelIdeal.τ).loc Cert.PostKernelIdeal.main_v34_1) = v1 c
          ∧ r.2.mem ((c.tc : Thread Cert.PostKernelIdeal.nD Cert.PostKernelIdeal.τ).loc Cert.PostKernelIdeal.main_v34_2) = v2 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v87) = v0 c
          ∧ r.2.mem ((c.tc : Thread Cert.PostReferenceIdeal.nD Cert.PostReferenceIdeal.τ).loc Cert.PostReferenceIdeal.main_v90) = v1 c
          ∧ r.2.mem ((c.tc : Thread Cert.PostReferenceIdeal.nD Cert.PostReferenceIdeal.τ).loc Cert.PostReferenceIdeal.main_v91) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2))

def preserves_LatentKernel_LatentKernelIdeal : Prop :=
  True

def algebraic_LatentKernelIdeal_LatentReferenceIdeal [hLatentKernelIdeal : Cert.LatentKernelIdeal.Facts] [hLatentReferenceIdeal : Cert.LatentReferenceIdeal.Facts] : Prop :=
  ∀ (m : (ℓ : Loc Cert.LatentKernelIdeal.nD Cert.LatentKernelIdeal.τ Cert.LatentKernelIdeal.sig) → Buf (Elt Ideal) ℓ) (g : Dev Cert.LatentKernelIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentKernelIdeal m →
    (∀ c : Dev Cert.LatentKernelIdeal.nD,
      m' ((c.tc : Thread Cert.LatentReferenceIdeal.nD Cert.LatentReferenceIdeal.τ).loc Cert.LatentReferenceIdeal.main_arg0) = m ((c.tc : Thread Cert.LatentKernelIdeal.nD Cert.LatentKernelIdeal.τ).loc Cert.LatentKernelIdeal.main_arg0)
      ∧ m' ((c.tc : Thread Cert.LatentReferenceIdeal.nD Cert.LatentReferenceIdeal.τ).loc Cert.LatentReferenceIdeal.main_arg1) = m ((c.tc : Thread Cert.LatentKernelIdeal.nD Cert.LatentKernelIdeal.τ).loc Cert.LatentKernelIdeal.main_arg1)
      ∧ m' ((c.tc : Thread Cert.LatentReferenceIdeal.nD Cert.LatentReferenceIdeal.τ).loc Cert.LatentReferenceIdeal.main_arg2) = m ((c.tc : Thread Cert.LatentKernelIdeal.nD Cert.LatentKernelIdeal.τ).loc Cert.LatentKernelIdeal.main_arg2)
      ∧ m' ((c.tc : Thread Cert.LatentReferenceIdeal.nD Cert.LatentReferenceIdeal.τ).loc Cert.LatentReferenceIdeal.main_arg3) = m ((c.tc : Thread Cert.LatentKernelIdeal.nD Cert.LatentKernelIdeal.τ).loc Cert.LatentKernelIdeal.main_arg3)
      ∧ m' ((c.tc : Thread Cert.LatentReferenceIdeal.nD Cert.LatentReferenceIdeal.τ).loc Cert.LatentReferenceIdeal.main_arg4) = m ((c.tc : Thread Cert.LatentKernelIdeal.nD Cert.LatentKernelIdeal.τ).loc Cert.LatentKernelIdeal.main_arg4)
      ∧ m' ((c.tc : Thread Cert.LatentReferenceIdeal.nD Cert.LatentReferenceIdeal.τ).loc Cert.LatentReferenceIdeal.main_arg5) = m ((c.tc : Thread Cert.LatentKernelIdeal.nD Cert.LatentKernelIdeal.τ).loc Cert.LatentKernelIdeal.main_arg5)) →
    ∃ (v0 : (c : Dev Cert.LatentKernelIdeal.nD) → Buf (Elt Ideal) ((c.tc : Thread Cert.LatentKernelIdeal.nD Cert.LatentKernelIdeal.τ).loc Cert.LatentKernelIdeal.main_v34_0)) (v1 : (c : Dev Cert.LatentKernelIdeal.nD) → Buf (Elt Ideal) ((c.tc : Thread Cert.LatentKernelIdeal.nD Cert.LatentKernelIdeal.τ).loc Cert.LatentKernelIdeal.main_v34_1)) (v2 : (c : Dev Cert.LatentKernelIdeal.nD) → Buf (Elt Ideal) ((c.tc : Thread Cert.LatentKernelIdeal.nD Cert.LatentKernelIdeal.τ).loc Cert.LatentKernelIdeal.main_v34_2)),
      θ_run (Cert.LatentKernelIdeal.defs (F := Ideal)) (onTc (τ := Cert.LatentKernelIdeal.τ) (Cert.LatentKernelIdeal.main (F := Ideal))) ⟨m, fun _ => 0, g⟩ (fun r => ∀ c : Dev Cert.LatentKernelIdeal.nD,
          r.2.mem ((c.tc : Thread Cert.LatentKernelIdeal.nD Cert.LatentKernelIdeal.τ).loc Cert.LatentKernelIdeal.main_v34_0) = v0 c
          ∧ r.2.mem ((c.tc : Thread Cert.LatentKernelIdeal.nD Cert.LatentKernelIdeal.τ).loc Cert.LatentKernelIdeal.main_v34_1) = v1 c
          ∧ r.2.mem ((c.tc : Thread Cert.LatentKernelIdeal.nD Cert.LatentKernelIdeal.τ).loc Cert.LatentKernelIdeal.main_v34_2) = v2 c
          ∧ r.2.mem ((c.tc : Thread Cert.LatentKernelIdeal.nD Cert.LatentKernelIdeal.τ).loc Cert.LatentKernelIdeal.main_arg0) = m ((c.tc : Thread Cert.LatentKernelIdeal.nD Cert.LatentKernelIdeal.τ).loc Cert.LatentKernelIdeal.main_arg0)
          ∧ r.2.mem ((c.tc : Thread Cert.LatentKernelIdeal.nD Cert.LatentKernelIdeal.τ).loc Cert.LatentKernelIdeal.main_arg1) = m ((c.tc : Thread Cert.LatentKernelIdeal.nD Cert.LatentKernelIdeal.τ).loc Cert.LatentKernelIdeal.main_arg1)
          ∧ r.2.mem ((c.tc : Thread Cert.LatentKernelIdeal.nD Cert.LatentKernelIdeal.τ).loc Cert.LatentKernelIdeal.main_arg2) = m ((c.tc : Thread Cert.LatentKernelIdeal.nD Cert.LatentKernelIdeal.τ).loc Cert.LatentKernelIdeal.main_arg2)
          ∧ r.2.mem ((c.tc : Thread Cert.LatentKernelIdeal.nD Cert.LatentKernelIdeal.τ).loc Cert.LatentKernelIdeal.main_arg3) = m ((c.tc : Thread Cert.LatentKernelIdeal.nD Cert.LatentKernelIdeal.τ).loc Cert.LatentKernelIdeal.main_arg3)
          ∧ r.2.mem ((c.tc : Thread Cert.LatentKernelIdeal.nD Cert.LatentKernelIdeal.τ).loc Cert.LatentKernelIdeal.main_arg4) = m ((c.tc : Thread Cert.LatentKernelIdeal.nD Cert.LatentKernelIdeal.τ).loc Cert.LatentKernelIdeal.main_arg4)
          ∧ r.2.mem ((c.tc : Thread Cert.LatentKernelIdeal.nD Cert.LatentKernelIdeal.τ).loc Cert.LatentKernelIdeal.main_arg5) = m ((c.tc : Thread Cert.LatentKernelIdeal.nD Cert.LatentKernelIdeal.τ).loc Cert.LatentKernelIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v120) = v0 c
          ∧ r.2.mem ((c.tc : Thread Cert.LatentReferenceIdeal.nD Cert.LatentReferenceIdeal.τ).loc Cert.LatentReferenceIdeal.main_v118) = v1 c
          ∧ r.2.mem ((c.tc : Thread Cert.LatentReferenceIdeal.nD Cert.LatentReferenceIdeal.τ).loc Cert.LatentReferenceIdeal.main_v97) = v2 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def preserves_MlafwdKernel_MlafwdKernelIdeal : Prop :=
  True

def algebraic_MlafwdKernelIdeal_MlafwdReferenceIdeal [hMlafwdKernelIdeal : Cert.MlafwdKernelIdeal.Facts] [hMlafwdReferenceIdeal : Cert.MlafwdReferenceIdeal.Facts] : Prop :=
  ∀ (m : (ℓ : Loc Cert.MlafwdKernelIdeal.nD Cert.MlafwdKernelIdeal.τ Cert.MlafwdKernelIdeal.sig) → Buf (Elt Ideal) ℓ) (g : Dev Cert.MlafwdKernelIdeal.nD → PrngReg)
    (m' : (ℓ : Loc Cert.MlafwdReferenceIdeal.nD Cert.MlafwdReferenceIdeal.τ Cert.MlafwdReferenceIdeal.sig) → Buf (Elt Ideal) ℓ) (g' : Dev Cert.MlafwdReferenceIdeal.nD → PrngReg), Pre_MlafwdKernelIdeal m →
    (∀ c : Dev Cert.MlafwdKernelIdeal.nD,
      m' ((c.tc : Thread Cert.MlafwdReferenceIdeal.nD Cert.MlafwdReferenceIdeal.τ).loc Cert.MlafwdReferenceIdeal.main_arg0) = m ((c.tc : Thread Cert.MlafwdKernelIdeal.nD Cert.MlafwdKernelIdeal.τ).loc Cert.MlafwdKernelIdeal.main_arg0)
      ∧ m' ((c.tc : Thread Cert.MlafwdReferenceIdeal.nD Cert.MlafwdReferenceIdeal.τ).loc Cert.MlafwdReferenceIdeal.main_arg1) = m ((c.tc : Thread Cert.MlafwdKernelIdeal.nD Cert.MlafwdKernelIdeal.τ).loc Cert.MlafwdKernelIdeal.main_arg1)
      ∧ m' ((c.tc : Thread Cert.MlafwdReferenceIdeal.nD Cert.MlafwdReferenceIdeal.τ).loc Cert.MlafwdReferenceIdeal.main_arg2) = m ((c.tc : Thread Cert.MlafwdKernelIdeal.nD Cert.MlafwdKernelIdeal.τ).loc Cert.MlafwdKernelIdeal.main_arg2)) →
    ∃ (v0 : (c : Dev Cert.MlafwdKernelIdeal.nD) → Buf (Elt Ideal) ((c.tc : Thread Cert.MlafwdKernelIdeal.nD Cert.MlafwdKernelIdeal.τ).loc Cert.MlafwdKernelIdeal.main_v9)),
      θ_run (Cert.MlafwdKernelIdeal.defs (F := Ideal)) (onTc (τ := Cert.MlafwdKernelIdeal.τ) (Cert.MlafwdKernelIdeal.main (F := Ideal))) ⟨m, fun _ => 0, g⟩ (fun r => ∀ c : Dev Cert.MlafwdKernelIdeal.nD,
          r.2.mem ((c.tc : Thread Cert.MlafwdKernelIdeal.nD Cert.MlafwdKernelIdeal.τ).loc Cert.MlafwdKernelIdeal.main_v9) = v0 c
          ∧ r.2.mem ((c.tc : Thread Cert.MlafwdKernelIdeal.nD Cert.MlafwdKernelIdeal.τ).loc Cert.MlafwdKernelIdeal.main_arg0) = m ((c.tc : Thread Cert.MlafwdKernelIdeal.nD Cert.MlafwdKernelIdeal.τ).loc Cert.MlafwdKernelIdeal.main_arg0)
          ∧ r.2.mem ((c.tc : Thread Cert.MlafwdKernelIdeal.nD Cert.MlafwdKernelIdeal.τ).loc Cert.MlafwdKernelIdeal.main_arg1) = m ((c.tc : Thread Cert.MlafwdKernelIdeal.nD Cert.MlafwdKernelIdeal.τ).loc Cert.MlafwdKernelIdeal.main_arg1)
          ∧ r.2.mem ((c.tc : Thread Cert.MlafwdKernelIdeal.nD Cert.MlafwdKernelIdeal.τ).loc Cert.MlafwdKernelIdeal.main_arg2) = m ((c.tc : Thread Cert.MlafwdKernelIdeal.nD Cert.MlafwdKernelIdeal.τ).loc Cert.MlafwdKernelIdeal.main_arg2))
      ∧ θ_run (Cert.MlafwdReferenceIdeal.defs (F := Ideal)) (onTc (τ := Cert.MlafwdReferenceIdeal.τ) (Cert.MlafwdReferenceIdeal.main (F := Ideal))) ⟨m', fun _ => 0, g'⟩ (fun r => ∀ c : Dev Cert.MlafwdReferenceIdeal.nD,
          r.2.mem ((c.tc : Thread Cert.MlafwdReferenceIdeal.nD Cert.MlafwdReferenceIdeal.τ).loc Cert.MlafwdReferenceIdeal.main_v24) = v0 c
          ∧ r.2.mem ((c.tc : Thread Cert.MlafwdReferenceIdeal.nD Cert.MlafwdReferenceIdeal.τ).loc Cert.MlafwdReferenceIdeal.main_arg0) = m' ((c.tc : Thread Cert.MlafwdReferenceIdeal.nD Cert.MlafwdReferenceIdeal.τ).loc Cert.MlafwdReferenceIdeal.main_arg0)
          ∧ r.2.mem ((c.tc : Thread Cert.MlafwdReferenceIdeal.nD Cert.MlafwdReferenceIdeal.τ).loc Cert.MlafwdReferenceIdeal.main_arg1) = m' ((c.tc : Thread Cert.MlafwdReferenceIdeal.nD Cert.MlafwdReferenceIdeal.τ).loc Cert.MlafwdReferenceIdeal.main_arg1)
          ∧ r.2.mem ((c.tc : Thread Cert.MlafwdReferenceIdeal.nD Cert.MlafwdReferenceIdeal.τ).loc Cert.MlafwdReferenceIdeal.main_arg2) = m' ((c.tc : Thread Cert.MlafwdReferenceIdeal.nD Cert.MlafwdReferenceIdeal.τ).loc Cert.MlafwdReferenceIdeal.main_arg2))

def preserves_RmsfwdKernel_RmsfwdKernelIdeal : Prop :=
  True

def algebraic_RmsfwdKernelIdeal_RmsfwdReferenceIdeal [hRmsfwdKernelIdeal : Cert.RmsfwdKernelIdeal.Facts] [hRmsfwdReferenceIdeal : Cert.RmsfwdReferenceIdeal.Facts] : Prop :=
  ∀ (m : (ℓ : Loc Cert.RmsfwdKernelIdeal.nD Cert.RmsfwdKernelIdeal.τ Cert.RmsfwdKernelIdeal.sig) → Buf (Elt Ideal) ℓ) (g : Dev Cert.RmsfwdKernelIdeal.nD → PrngReg)
    (m' : (ℓ : Loc Cert.RmsfwdReferenceIdeal.nD Cert.RmsfwdReferenceIdeal.τ Cert.RmsfwdReferenceIdeal.sig) → Buf (Elt Ideal) ℓ) (g' : Dev Cert.RmsfwdReferenceIdeal.nD → PrngReg), Pre_RmsfwdKernelIdeal m →
    (∀ c : Dev Cert.RmsfwdKernelIdeal.nD,
      m' ((c.tc : Thread Cert.RmsfwdReferenceIdeal.nD Cert.RmsfwdReferenceIdeal.τ).loc Cert.RmsfwdReferenceIdeal.main_arg0) = m ((c.tc : Thread Cert.RmsfwdKernelIdeal.nD Cert.RmsfwdKernelIdeal.τ).loc Cert.RmsfwdKernelIdeal.main_arg0)
      ∧ m' ((c.tc : Thread Cert.RmsfwdReferenceIdeal.nD Cert.RmsfwdReferenceIdeal.τ).loc Cert.RmsfwdReferenceIdeal.main_arg1) = m ((c.tc : Thread Cert.RmsfwdKernelIdeal.nD Cert.RmsfwdKernelIdeal.τ).loc Cert.RmsfwdKernelIdeal.main_arg1)) →
    ∃ (v0 : (c : Dev Cert.RmsfwdKernelIdeal.nD) → Buf (Elt Ideal) ((c.tc : Thread Cert.RmsfwdKernelIdeal.nD Cert.RmsfwdKernelIdeal.τ).loc Cert.RmsfwdKernelIdeal.main_v0)),
      θ_run (Cert.RmsfwdKernelIdeal.defs (F := Ideal)) (onTc (τ := Cert.RmsfwdKernelIdeal.τ) (Cert.RmsfwdKernelIdeal.main (F := Ideal))) ⟨m, fun _ => 0, g⟩ (fun r => ∀ c : Dev Cert.RmsfwdKernelIdeal.nD,
          r.2.mem ((c.tc : Thread Cert.RmsfwdKernelIdeal.nD Cert.RmsfwdKernelIdeal.τ).loc Cert.RmsfwdKernelIdeal.main_v0) = v0 c
          ∧ r.2.mem ((c.tc : Thread Cert.RmsfwdKernelIdeal.nD Cert.RmsfwdKernelIdeal.τ).loc Cert.RmsfwdKernelIdeal.main_arg0) = m ((c.tc : Thread Cert.RmsfwdKernelIdeal.nD Cert.RmsfwdKernelIdeal.τ).loc Cert.RmsfwdKernelIdeal.main_arg0)
          ∧ r.2.mem ((c.tc : Thread Cert.RmsfwdKernelIdeal.nD Cert.RmsfwdKernelIdeal.τ).loc Cert.RmsfwdKernelIdeal.main_arg1) = m ((c.tc : Thread Cert.RmsfwdKernelIdeal.nD Cert.RmsfwdKernelIdeal.τ).loc Cert.RmsfwdKernelIdeal.main_arg1))
      ∧ θ_run (Cert.RmsfwdReferenceIdeal.defs (F := Ideal)) (onTc (τ := Cert.RmsfwdReferenceIdeal.τ) (Cert.RmsfwdReferenceIdeal.main (F := Ideal))) ⟨m', fun _ => 0, g'⟩ (fun r => ∀ c : Dev Cert.RmsfwdReferenceIdeal.nD,
          r.2.mem ((c.tc : Thread Cert.RmsfwdReferenceIdeal.nD Cert.RmsfwdReferenceIdeal.τ).loc Cert.RmsfwdReferenceIdeal.main_v14) = v0 c
          ∧ r.2.mem ((c.tc : Thread Cert.RmsfwdReferenceIdeal.nD Cert.RmsfwdReferenceIdeal.τ).loc Cert.RmsfwdReferenceIdeal.main_arg0) = m' ((c.tc : Thread Cert.RmsfwdReferenceIdeal.nD Cert.RmsfwdReferenceIdeal.τ).loc Cert.RmsfwdReferenceIdeal.main_arg0)
          ∧ r.2.mem ((c.tc : Thread Cert.RmsfwdReferenceIdeal.nD Cert.RmsfwdReferenceIdeal.τ).loc Cert.RmsfwdReferenceIdeal.main_arg1) = m' ((c.tc : Thread Cert.RmsfwdReferenceIdeal.nD Cert.RmsfwdReferenceIdeal.τ).loc Cert.RmsfwdReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v7_0)) (v1 : (c : Dev Cert.UpKernelIdeal.nD) → Buf (Elt Ideal) ((c.tc : Thread Cert.UpKernelIdeal.nD Cert.UpKernelIdeal.τ).loc Cert.UpKernelIdeal.main_v7_1)) (v2 : (c : Dev Cert.UpKernelIdeal.nD) → Buf (Elt Ideal) ((c.tc : Thread Cert.UpKernelIdeal.nD Cert.UpKernelIdeal.τ).loc Cert.UpKernelIdeal.main_v7_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v7_0) = v0 c
          ∧ r.2.mem ((c.tc : Thread Cert.UpKernelIdeal.nD Cert.UpKernelIdeal.τ).loc Cert.UpKernelIdeal.main_v7_1) = v1 c
          ∧ r.2.mem ((c.tc : Thread Cert.UpKernelIdeal.nD Cert.UpKernelIdeal.τ).loc Cert.UpKernelIdeal.main_v7_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)) →
    ∃ (v0 : (c : Dev Cert.MergeKernelIdeal.nD) → Buf (Elt Ideal) ((c.tc : Thread Cert.MergeKernelIdeal.nD Cert.MergeKernelIdeal.τ).loc Cert.MergeKernelIdeal.main_v8_0)) (v1 : (c : Dev Cert.MergeKernelIdeal.nD) → Buf (Elt Ideal) ((c.tc : Thread Cert.MergeKernelIdeal.nD Cert.MergeKernelIdeal.τ).loc Cert.MergeKernelIdeal.main_v8_1)) (v2 : (c : Dev Cert.MergeKernelIdeal.nD) → Buf (Elt Ideal) ((c.tc : Thread Cert.MergeKernelIdeal.nD Cert.MergeKernelIdeal.τ).loc Cert.MergeKernelIdeal.main_v8_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v8_0) = v0 c
          ∧ r.2.mem ((c.tc : Thread Cert.MergeKernelIdeal.nD Cert.MergeKernelIdeal.τ).loc Cert.MergeKernelIdeal.main_v8_1) = v1 c
          ∧ r.2.mem ((c.tc : Thread Cert.MergeKernelIdeal.nD Cert.MergeKernelIdeal.τ).loc Cert.MergeKernelIdeal.main_v8_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v4) = v0 c
          ∧ r.2.mem ((c.tc : Thread Cert.MergeReferenceIdeal.nD Cert.MergeReferenceIdeal.τ).loc Cert.MergeReferenceIdeal.main_v7) = v1 c
          ∧ r.2.mem ((c.tc : Thread Cert.MergeReferenceIdeal.nD Cert.MergeReferenceIdeal.τ).loc Cert.MergeReferenceIdeal.main_v25) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_EmbedKernel_EmbedKernelIdeal : Prop :=
  True

def algebraic_EmbedKernelIdeal_EmbedReferenceIdeal [hEmbedKernelIdeal : Cert.EmbedKernelIdeal.Facts] [hEmbedReferenceIdeal : Cert.EmbedReferenceIdeal.Facts] : Prop :=
  ∀ (m : (ℓ : Loc Cert.EmbedKernelIdeal.nD Cert.EmbedKernelIdeal.τ Cert.EmbedKernelIdeal.sig) → Buf (Elt Ideal) ℓ) (g : Dev Cert.EmbedKernelIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedKernelIdeal m →
    (∀ c : Dev Cert.EmbedKernelIdeal.nD,
      m' ((c.tc : Thread Cert.EmbedReferenceIdeal.nD Cert.EmbedReferenceIdeal.τ).loc Cert.EmbedReferenceIdeal.main_arg0) = m ((c.tc : Thread Cert.EmbedKernelIdeal.nD Cert.EmbedKernelIdeal.τ).loc Cert.EmbedKernelIdeal.main_arg0)
      ∧ m' ((c.tc : Thread Cert.EmbedReferenceIdeal.nD Cert.EmbedReferenceIdeal.τ).loc Cert.EmbedReferenceIdeal.main_arg1) = m ((c.tc : Thread Cert.EmbedKernelIdeal.nD Cert.EmbedKernelIdeal.τ).loc Cert.EmbedKernelIdeal.main_arg1)
      ∧ m' ((c.tc : Thread Cert.EmbedReferenceIdeal.nD Cert.EmbedReferenceIdeal.τ).loc Cert.EmbedReferenceIdeal.main_arg2) = m ((c.tc : Thread Cert.EmbedKernelIdeal.nD Cert.EmbedKernelIdeal.τ).loc Cert.EmbedKernelIdeal.main_arg2)
      ∧ m' ((c.tc : Thread Cert.EmbedReferenceIdeal.nD Cert.EmbedReferenceIdeal.τ).loc Cert.EmbedReferenceIdeal.main_arg3) = m ((c.tc : Thread Cert.EmbedKernelIdeal.nD Cert.EmbedKernelIdeal.τ).loc Cert.EmbedKernelIdeal.main_arg3)
      ∧ m' ((c.tc : Thread Cert.EmbedReferenceIdeal.nD Cert.EmbedReferenceIdeal.τ).loc Cert.EmbedReferenceIdeal.main_arg4) = m ((c.tc : Thread Cert.EmbedKernelIdeal.nD Cert.EmbedKernelIdeal.τ).loc Cert.EmbedKernelIdeal.main_arg4)) →
    ∃ (v0 : (c : Dev Cert.EmbedKernelIdeal.nD) → Buf (Elt Ideal) ((c.tc : Thread Cert.EmbedKernelIdeal.nD Cert.EmbedKernelIdeal.τ).loc Cert.EmbedKernelIdeal.main_v8_0)) (v1 : (c : Dev Cert.EmbedKernelIdeal.nD) → Buf (Elt Ideal) ((c.tc : Thread Cert.EmbedKernelIdeal.nD Cert.EmbedKernelIdeal.τ).loc Cert.EmbedKernelIdeal.main_v8_1)) (v2 : (c : Dev Cert.EmbedKernelIdeal.nD) → Buf (Elt Ideal) ((c.tc : Thread Cert.EmbedKernelIdeal.nD Cert.EmbedKernelIdeal.τ).loc Cert.EmbedKernelIdeal.main_v8_2)),
      θ_run (Cert.EmbedKernelIdeal.defs (F := Ideal)) (onTc (τ := Cert.EmbedKernelIdeal.τ) (Cert.EmbedKernelIdeal.main (F := Ideal))) ⟨m, fun _ => 0, g⟩ (fun r => ∀ c : Dev Cert.EmbedKernelIdeal.nD,
          r.2.mem ((c.tc : Thread Cert.EmbedKernelIdeal.nD Cert.EmbedKernelIdeal.τ).loc Cert.EmbedKernelIdeal.main_v8_0) = v0 c
          ∧ r.2.mem ((c.tc : Thread Cert.EmbedKernelIdeal.nD Cert.EmbedKernelIdeal.τ).loc Cert.EmbedKernelIdeal.main_v8_1) = v1 c
          ∧ r.2.mem ((c.tc : Thread Cert.EmbedKernelIdeal.nD Cert.EmbedKernelIdeal.τ).loc Cert.EmbedKernelIdeal.main_v8_2) = v2 c
          ∧ r.2.mem ((c.tc : Thread Cert.EmbedKernelIdeal.nD Cert.EmbedKernelIdeal.τ).loc Cert.EmbedKernelIdeal.main_arg0) = m ((c.tc : Thread Cert.EmbedKernelIdeal.nD Cert.EmbedKernelIdeal.τ).loc Cert.EmbedKernelIdeal.main_arg0)
          ∧ r.2.mem ((c.tc : Thread Cert.EmbedKernelIdeal.nD Cert.EmbedKernelIdeal.τ).loc Cert.EmbedKernelIdeal.main_arg1) = m ((c.tc : Thread Cert.EmbedKernelIdeal.nD Cert.EmbedKernelIdeal.τ).loc Cert.EmbedKernelIdeal.main_arg1)
          ∧ r.2.mem ((c.tc : Thread Cert.EmbedKernelIdeal.nD Cert.EmbedKernelIdeal.τ).loc Cert.EmbedKernelIdeal.main_arg2) = m ((c.tc : Thread Cert.EmbedKernelIdeal.nD Cert.EmbedKernelIdeal.τ).loc Cert.EmbedKernelIdeal.main_arg2)
          ∧ r.2.mem ((c.tc : Thread Cert.EmbedKernelIdeal.nD Cert.EmbedKernelIdeal.τ).loc Cert.EmbedKernelIdeal.main_arg3) = m ((c.tc : Thread Cert.EmbedKernelIdeal.nD Cert.EmbedKernelIdeal.τ).loc Cert.EmbedKernelIdeal.main_arg3)
          ∧ r.2.mem ((c.tc : Thread Cert.EmbedKernelIdeal.nD Cert.EmbedKernelIdeal.τ).loc Cert.EmbedKernelIdeal.main_arg4) = m ((c.tc : Thread Cert.EmbedKernelIdeal.nD Cert.EmbedKernelIdeal.τ).loc Cert.EmbedKernelIdeal.main_arg4))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v9) = v0 c
          ∧ r.2.mem ((c.tc : Thread Cert.EmbedReferenceIdeal.nD Cert.EmbedReferenceIdeal.τ).loc Cert.EmbedReferenceIdeal.main_v0) = v1 c
          ∧ r.2.mem ((c.tc : Thread Cert.EmbedReferenceIdeal.nD Cert.EmbedReferenceIdeal.τ).loc Cert.EmbedReferenceIdeal.main_v10) = v2 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2)
          ∧ r.2.mem ((c.tc : Thread Cert.EmbedReferenceIdeal.nD Cert.EmbedReferenceIdeal.τ).loc Cert.EmbedReferenceIdeal.main_arg3) = m' ((c.tc : Thread Cert.EmbedReferenceIdeal.nD Cert.EmbedReferenceIdeal.τ).loc Cert.EmbedReferenceIdeal.main_arg3)
          ∧ r.2.mem ((c.tc : Thread Cert.EmbedReferenceIdeal.nD Cert.EmbedReferenceIdeal.τ).loc Cert.EmbedReferenceIdeal.main_arg4) = m' ((c.tc : Thread Cert.EmbedReferenceIdeal.nD Cert.EmbedReferenceIdeal.τ).loc Cert.EmbedReferenceIdeal.main_arg4))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)) →
    ∃ (v0 : (c : Dev Cert.PrepKernelIdeal.nD) → Buf (Elt Ideal) ((c.tc : Thread Cert.PrepKernelIdeal.nD Cert.PrepKernelIdeal.τ).loc Cert.PrepKernelIdeal.main_v35_0)) (v1 : (c : Dev Cert.PrepKernelIdeal.nD) → Buf (Elt Ideal) ((c.tc : Thread Cert.PrepKernelIdeal.nD Cert.PrepKernelIdeal.τ).loc Cert.PrepKernelIdeal.main_v35_1)) (v2 : (c : Dev Cert.PrepKernelIdeal.nD) → Buf (Elt Ideal) ((c.tc : Thread Cert.PrepKernelIdeal.nD Cert.PrepKernelIdeal.τ).loc Cert.PrepKernelIdeal.main_v35_2)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v35_0) = v0 c
          ∧ r.2.mem ((c.tc : Thread Cert.PrepKernelIdeal.nD Cert.PrepKernelIdeal.τ).loc Cert.PrepKernelIdeal.main_v35_1) = v1 c
          ∧ r.2.mem ((c.tc : Thread Cert.PrepKernelIdeal.nD Cert.PrepKernelIdeal.τ).loc Cert.PrepKernelIdeal.main_v35_2) = v2 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v59) = v0 c
          ∧ r.2.mem ((c.tc : Thread Cert.PrepReferenceIdeal.nD Cert.PrepReferenceIdeal.τ).loc Cert.PrepReferenceIdeal.main_v60) = v1 c
          ∧ r.2.mem ((c.tc : Thread Cert.PrepReferenceIdeal.nD Cert.PrepReferenceIdeal.τ).loc Cert.PrepReferenceIdeal.main_v61) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def preserves_QueriesKernel_QueriesKernelIdeal : Prop :=
  True

def algebraic_QueriesKernelIdeal_QueriesReferenceIdeal [hQueriesKernelIdeal : Cert.QueriesKernelIdeal.Facts] [hQueriesReferenceIdeal : Cert.QueriesReferenceIdeal.Facts] : Prop :=
  ∀ (m : (ℓ : Loc Cert.QueriesKernelIdeal.nD Cert.QueriesKernelIdeal.τ Cert.QueriesKernelIdeal.sig) → Buf (Elt Ideal) ℓ) (g : Dev Cert.QueriesKernelIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesKernelIdeal m →
    (∀ c : Dev Cert.QueriesKernelIdeal.nD,
      m' ((c.tc : Thread Cert.QueriesReferenceIdeal.nD Cert.QueriesReferenceIdeal.τ).loc Cert.QueriesReferenceIdeal.main_arg0) = m ((c.tc : Thread Cert.QueriesKernelIdeal.nD Cert.QueriesKernelIdeal.τ).loc Cert.QueriesKernelIdeal.main_arg0)
      ∧ m' ((c.tc : Thread Cert.QueriesReferenceIdeal.nD Cert.QueriesReferenceIdeal.τ).loc Cert.QueriesReferenceIdeal.main_arg1) = m ((c.tc : Thread Cert.QueriesKernelIdeal.nD Cert.QueriesKernelIdeal.τ).loc Cert.QueriesKernelIdeal.main_arg1)) →
    ∃ (v0 : (c : Dev Cert.QueriesKernelIdeal.nD) → Buf (Elt Ideal) ((c.tc : Thread Cert.QueriesKernelIdeal.nD Cert.QueriesKernelIdeal.τ).loc Cert.QueriesKernelIdeal.main_v39)),
      θ_run (Cert.QueriesKernelIdeal.defs (F := Ideal)) (onTc (τ := Cert.QueriesKernelIdeal.τ) (Cert.QueriesKernelIdeal.main (F := Ideal))) ⟨m, fun _ => 0, g⟩ (fun r => ∀ c : Dev Cert.QueriesKernelIdeal.nD,
          r.2.mem ((c.tc : Thread Cert.QueriesKernelIdeal.nD Cert.QueriesKernelIdeal.τ).loc Cert.QueriesKernelIdeal.main_v39) = v0 c
          ∧ r.2.mem ((c.tc : Thread Cert.QueriesKernelIdeal.nD Cert.QueriesKernelIdeal.τ).loc Cert.QueriesKernelIdeal.main_arg0) = m ((c.tc : Thread Cert.QueriesKernelIdeal.nD Cert.QueriesKernelIdeal.τ).loc Cert.QueriesKernelIdeal.main_arg0)
          ∧ r.2.mem ((c.tc : Thread Cert.QueriesKernelIdeal.nD Cert.QueriesKernelIdeal.τ).loc Cert.QueriesKernelIdeal.main_arg1) = m ((c.tc : Thread Cert.QueriesKernelIdeal.nD Cert.QueriesKernelIdeal.τ).loc Cert.QueriesKernelIdeal.main_arg1))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v40) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1))

def preserves_KeysKernel_KeysKernelIdeal : Prop :=
  True

def algebraic_KeysKernelIdeal_KeysReferenceIdeal [hKeysKernelIdeal : Cert.KeysKernelIdeal.Facts] [hKeysReferenceIdeal : Cert.KeysReferenceIdeal.Facts] : Prop :=
  ∀ (m : (ℓ : Loc Cert.KeysKernelIdeal.nD Cert.KeysKernelIdeal.τ Cert.KeysKernelIdeal.sig) → Buf (Elt Ideal) ℓ) (g : Dev Cert.KeysKernelIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysKernelIdeal m →
    (∀ c : Dev Cert.KeysKernelIdeal.nD,
      m' ((c.tc : Thread Cert.KeysReferenceIdeal.nD Cert.KeysReferenceIdeal.τ).loc Cert.KeysReferenceIdeal.main_arg0) = m ((c.tc : Thread Cert.KeysKernelIdeal.nD Cert.KeysKernelIdeal.τ).loc Cert.KeysKernelIdeal.main_arg0)
      ∧ m' ((c.tc : Thread Cert.KeysReferenceIdeal.nD Cert.KeysReferenceIdeal.τ).loc Cert.KeysReferenceIdeal.main_arg1) = m ((c.tc : Thread Cert.KeysKernelIdeal.nD Cert.KeysKernelIdeal.τ).loc Cert.KeysKernelIdeal.main_arg1)
      ∧ m' ((c.tc : Thread Cert.KeysReferenceIdeal.nD Cert.KeysReferenceIdeal.τ).loc Cert.KeysReferenceIdeal.main_arg2) = m ((c.tc : Thread Cert.KeysKernelIdeal.nD Cert.KeysKernelIdeal.τ).loc Cert.KeysKernelIdeal.main_arg2)) →
    ∃ (v0 : (c : Dev Cert.KeysKernelIdeal.nD) → Buf (Elt Ideal) ((c.tc : Thread Cert.KeysKernelIdeal.nD Cert.KeysKernelIdeal.τ).loc Cert.KeysKernelIdeal.main_v5_0)) (v1 : (c : Dev Cert.KeysKernelIdeal.nD) → Buf (Elt Ideal) ((c.tc : Thread Cert.KeysKernelIdeal.nD Cert.KeysKernelIdeal.τ).loc Cert.KeysKernelIdeal.main_v5_1)),
      θ_run (Cert.KeysKernelIdeal.defs (F := Ideal)) (onTc (τ := Cert.KeysKernelIdeal.τ) (Cert.KeysKernelIdeal.main (F := Ideal))) ⟨m, fun _ => 0, g⟩ (fun r => ∀ c : Dev Cert.KeysKernelIdeal.nD,
          r.2.mem ((c.tc : Thread Cert.KeysKernelIdeal.nD Cert.KeysKernelIdeal.τ).loc Cert.KeysKernelIdeal.main_v5_0) = v0 c
          ∧ r.2.mem ((c.tc : Thread Cert.KeysKernelIdeal.nD Cert.KeysKernelIdeal.τ).loc Cert.KeysKernelIdeal.main_v5_1) = v1 c
          ∧ r.2.mem ((c.tc : Thread Cert.KeysKernelIdeal.nD Cert.KeysKernelIdeal.τ).loc Cert.KeysKernelIdeal.main_arg0) = m ((c.tc : Thread Cert.KeysKernelIdeal.nD Cert.KeysKernelIdeal.τ).loc Cert.KeysKernelIdeal.main_arg0)
          ∧ r.2.mem ((c.tc : Thread Cert.KeysKernelIdeal.nD Cert.KeysKernelIdeal.τ).loc Cert.KeysKernelIdeal.main_arg1) = m ((c.tc : Thread Cert.KeysKernelIdeal.nD Cert.KeysKernelIdeal.τ).loc Cert.KeysKernelIdeal.main_arg1)
          ∧ r.2.mem ((c.tc : Thread Cert.KeysKernelIdeal.nD Cert.KeysKernelIdeal.τ).loc Cert.KeysKernelIdeal.main_arg2) = m ((c.tc : Thread Cert.KeysKernelIdeal.nD Cert.KeysKernelIdeal.τ).loc Cert.KeysKernelIdeal.main_arg2))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v8) = v0 c
          ∧ r.2.mem ((c.tc : Thread Cert.KeysReferenceIdeal.nD Cert.KeysReferenceIdeal.τ).loc Cert.KeysReferenceIdeal.main_v10) = v1 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v5)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v5) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_NafwdKernel_NafwdKernelIdeal : Prop :=
  IdealRules.named_const.Statement Cert.NafwdKernelIdeal.κ "mask" .f32 0xF149F2CA#32 ⊥

def preserves_DowndwKernel_DowndwKernelIdeal : Prop :=
  True

def algebraic_DowndwKernelIdeal_DowndwReferenceIdeal [hDowndwKernelIdeal : Cert.DowndwKernelIdeal.Facts] [hDowndwReferenceIdeal : Cert.DowndwReferenceIdeal.Facts] : Prop :=
  ∀ (m : (ℓ : Loc Cert.DowndwKernelIdeal.nD Cert.DowndwKernelIdeal.τ Cert.DowndwKernelIdeal.sig) → Buf (Elt Ideal) ℓ) (g : Dev Cert.DowndwKernelIdeal.nD → PrngReg)
    (m' : (ℓ : Loc Cert.DowndwReferenceIdeal.nD Cert.DowndwReferenceIdeal.τ Cert.DowndwReferenceIdeal.sig) → Buf (Elt Ideal) ℓ) (g' : Dev Cert.DowndwReferenceIdeal.nD → PrngReg), Pre_DowndwKernelIdeal m →
    (∀ c : Dev Cert.DowndwKernelIdeal.nD,
      m' ((c.tc : Thread Cert.DowndwReferenceIdeal.nD Cert.DowndwReferenceIdeal.τ).loc Cert.DowndwReferenceIdeal.main_arg0) = m ((c.tc : Thread Cert.DowndwKernelIdeal.nD Cert.DowndwKernelIdeal.τ).loc Cert.DowndwKernelIdeal.main_arg0)
      ∧ m' ((c.tc : Thread Cert.DowndwReferenceIdeal.nD Cert.DowndwReferenceIdeal.τ).loc Cert.DowndwReferenceIdeal.main_arg1) = m ((c.tc : Thread Cert.DowndwKernelIdeal.nD Cert.DowndwKernelIdeal.τ).loc Cert.DowndwKernelIdeal.main_arg1)) →
    ∃ (v0 : (c : Dev Cert.DowndwKernelIdeal.nD) → Buf (Elt Ideal) ((c.tc : Thread Cert.DowndwKernelIdeal.nD Cert.DowndwKernelIdeal.τ).loc Cert.DowndwKernelIdeal.main_v4)),
      θ_run (Cert.DowndwKernelIdeal.defs (F := Ideal)) (onTc (τ := Cert.DowndwKernelIdeal.τ) (Cert.DowndwKernelIdeal.main (F := Ideal))) ⟨m, fun _ => 0, g⟩ (fun r => ∀ c : Dev Cert.DowndwKernelIdeal.nD,
          r.2.mem ((c.tc : Thread Cert.DowndwKernelIdeal.nD Cert.DowndwKernelIdeal.τ).loc Cert.DowndwKernelIdeal.main_v4) = v0 c
          ∧ r.2.mem ((c.tc : Thread Cert.DowndwKernelIdeal.nD Cert.DowndwKernelIdeal.τ).loc Cert.DowndwKernelIdeal.main_arg0) = m ((c.tc : Thread Cert.DowndwKernelIdeal.nD Cert.DowndwKernelIdeal.τ).loc Cert.DowndwKernelIdeal.main_arg0)
          ∧ r.2.mem ((c.tc : Thread Cert.DowndwKernelIdeal.nD Cert.DowndwKernelIdeal.τ).loc Cert.DowndwKernelIdeal.main_arg1) = m ((c.tc : Thread Cert.DowndwKernelIdeal.nD Cert.DowndwKernelIdeal.τ).loc Cert.DowndwKernelIdeal.main_arg1))
      ∧ θ_run (Cert.DowndwReferenceIdeal.defs (F := Ideal)) (onTc (τ := Cert.DowndwReferenceIdeal.τ) (Cert.DowndwReferenceIdeal.main (F := Ideal))) ⟨m', fun _ => 0, g'⟩ (fun r => ∀ c : Dev Cert.DowndwReferenceIdeal.nD,
          r.2.mem ((c.tc : Thread Cert.DowndwReferenceIdeal.nD Cert.DowndwReferenceIdeal.τ).loc Cert.DowndwReferenceIdeal.main_v9) = v0 c
          ∧ r.2.mem ((c.tc : Thread Cert.DowndwReferenceIdeal.nD Cert.DowndwReferenceIdeal.τ).loc Cert.DowndwReferenceIdeal.main_arg0) = m' ((c.tc : Thread Cert.DowndwReferenceIdeal.nD Cert.DowndwReferenceIdeal.τ).loc Cert.DowndwReferenceIdeal.main_arg0)
          ∧ r.2.mem ((c.tc : Thread Cert.DowndwReferenceIdeal.nD Cert.DowndwReferenceIdeal.τ).loc Cert.DowndwReferenceIdeal.main_arg1) = m' ((c.tc : Thread Cert.DowndwReferenceIdeal.nD Cert.DowndwReferenceIdeal.τ).loc Cert.DowndwReferenceIdeal.main_arg1))

def preserves_UpdwKernel_UpdwKernelIdeal : Prop :=
  True

def algebraic_UpdwKernelIdeal_UpdwReferenceIdeal [hUpdwKernelIdeal : Cert.UpdwKernelIdeal.Facts] [hUpdwReferenceIdeal : Cert.UpdwReferenceIdeal.Facts] : Prop :=
  ∀ (m : (ℓ : Loc Cert.UpdwKernelIdeal.nD Cert.UpdwKernelIdeal.τ Cert.UpdwKernelIdeal.sig) → Buf (Elt Ideal) ℓ) (g : Dev Cert.UpdwKernelIdeal.nD → PrngReg)
    (m' : (ℓ : Loc Cert.UpdwReferenceIdeal.nD Cert.UpdwReferenceIdeal.τ Cert.UpdwReferenceIdeal.sig) → Buf (Elt Ideal) ℓ) (g' : Dev Cert.UpdwReferenceIdeal.nD → PrngReg), Pre_UpdwKernelIdeal m →
    (∀ c : Dev Cert.UpdwKernelIdeal.nD,
      m' ((c.tc : Thread Cert.UpdwReferenceIdeal.nD Cert.UpdwReferenceIdeal.τ).loc Cert.UpdwReferenceIdeal.main_arg0) = m ((c.tc : Thread Cert.UpdwKernelIdeal.nD Cert.UpdwKernelIdeal.τ).loc Cert.UpdwKernelIdeal.main_arg0)
      ∧ m' ((c.tc : Thread Cert.UpdwReferenceIdeal.nD Cert.UpdwReferenceIdeal.τ).loc Cert.UpdwReferenceIdeal.main_arg1) = m ((c.tc : Thread Cert.UpdwKernelIdeal.nD Cert.UpdwKernelIdeal.τ).loc Cert.UpdwKernelIdeal.main_arg1)
      ∧ m' ((c.tc : Thread Cert.UpdwReferenceIdeal.nD Cert.UpdwReferenceIdeal.τ).loc Cert.UpdwReferenceIdeal.main_arg2) = m ((c.tc : Thread Cert.UpdwKernelIdeal.nD Cert.UpdwKernelIdeal.τ).loc Cert.UpdwKernelIdeal.main_arg2)) →
    ∃ (v0 : (c : Dev Cert.UpdwKernelIdeal.nD) → Buf (Elt Ideal) ((c.tc : Thread Cert.UpdwKernelIdeal.nD Cert.UpdwKernelIdeal.τ).loc Cert.UpdwKernelIdeal.main_v7_0)) (v1 : (c : Dev Cert.UpdwKernelIdeal.nD) → Buf (Elt Ideal) ((c.tc : Thread Cert.UpdwKernelIdeal.nD Cert.UpdwKernelIdeal.τ).loc Cert.UpdwKernelIdeal.main_v7_1)),
      θ_run (Cert.UpdwKernelIdeal.defs (F := Ideal)) (onTc (τ := Cert.UpdwKernelIdeal.τ) (Cert.UpdwKernelIdeal.main (F := Ideal))) ⟨m, fun _ => 0, g⟩ (fun r => ∀ c : Dev Cert.UpdwKernelIdeal.nD,
          r.2.mem ((c.tc : Thread Cert.UpdwKernelIdeal.nD Cert.UpdwKernelIdeal.τ).loc Cert.UpdwKernelIdeal.main_v7_0) = v0 c
          ∧ r.2.mem ((c.tc : Thread Cert.UpdwKernelIdeal.nD Cert.UpdwKernelIdeal.τ).loc Cert.UpdwKernelIdeal.main_v7_1) = v1 c
          ∧ r.2.mem ((c.tc : Thread Cert.UpdwKernelIdeal.nD Cert.UpdwKernelIdeal.τ).loc Cert.UpdwKernelIdeal.main_arg0) = m ((c.tc : Thread Cert.UpdwKernelIdeal.nD Cert.UpdwKernelIdeal.τ).loc Cert.UpdwKernelIdeal.main_arg0)
          ∧ r.2.mem ((c.tc : Thread Cert.UpdwKernelIdeal.nD Cert.UpdwKernelIdeal.τ).loc Cert.UpdwKernelIdeal.main_arg1) = m ((c.tc : Thread Cert.UpdwKernelIdeal.nD Cert.UpdwKernelIdeal.τ).loc Cert.UpdwKernelIdeal.main_arg1)
          ∧ r.2.mem ((c.tc : Thread Cert.UpdwKernelIdeal.nD Cert.UpdwKernelIdeal.τ).loc Cert.UpdwKernelIdeal.main_arg2) = m ((c.tc : Thread Cert.UpdwKernelIdeal.nD Cert.UpdwKernelIdeal.τ).loc Cert.UpdwKernelIdeal.main_arg2))
      ∧ θ_run (Cert.UpdwReferenceIdeal.defs (F := Ideal)) (onTc (τ := Cert.UpdwReferenceIdeal.τ) (Cert.UpdwReferenceIdeal.main (F := Ideal))) ⟨m', fun _ => 0, g'⟩ (fun r => ∀ c : Dev Cert.UpdwReferenceIdeal.nD,
          r.2.mem ((c.tc : Thread Cert.UpdwReferenceIdeal.nD Cert.UpdwReferenceIdeal.τ).loc Cert.UpdwReferenceIdeal.main_v9) = v0 c
          ∧ r.2.mem ((c.tc : Thread Cert.UpdwReferenceIdeal.nD Cert.UpdwReferenceIdeal.τ).loc Cert.UpdwReferenceIdeal.main_v12) = v1 c
          ∧ r.2.mem ((c.tc : Thread Cert.UpdwReferenceIdeal.nD Cert.UpdwReferenceIdeal.τ).loc Cert.UpdwReferenceIdeal.main_arg0) = m' ((c.tc : Thread Cert.UpdwReferenceIdeal.nD Cert.UpdwReferenceIdeal.τ).loc Cert.UpdwReferenceIdeal.main_arg0)
          ∧ r.2.mem ((c.tc : Thread Cert.UpdwReferenceIdeal.nD Cert.UpdwReferenceIdeal.τ).loc Cert.UpdwReferenceIdeal.main_arg1) = m' ((c.tc : Thread Cert.UpdwReferenceIdeal.nD Cert.UpdwReferenceIdeal.τ).loc Cert.UpdwReferenceIdeal.main_arg1)
          ∧ r.2.mem ((c.tc : Thread Cert.UpdwReferenceIdeal.nD Cert.UpdwReferenceIdeal.τ).loc Cert.UpdwReferenceIdeal.main_arg2) = m' ((c.tc : Thread Cert.UpdwReferenceIdeal.nD Cert.UpdwReferenceIdeal.τ).loc Cert.UpdwReferenceIdeal.main_arg2))

def preserves_UpdxKernel_UpdxKernelIdeal : Prop :=
  True

def algebraic_UpdxKernelIdeal_UpdxReferenceIdeal [hUpdxKernelIdeal : Cert.UpdxKernelIdeal.Facts] [hUpdxReferenceIdeal : Cert.UpdxReferenceIdeal.Facts] : Prop :=
  ∀ (m : (ℓ : Loc Cert.UpdxKernelIdeal.nD Cert.UpdxKernelIdeal.τ Cert.UpdxKernelIdeal.sig) → Buf (Elt Ideal) ℓ) (g : Dev Cert.UpdxKernelIdeal.nD → PrngReg)
    (m' : (ℓ : Loc Cert.UpdxReferenceIdeal.nD Cert.UpdxReferenceIdeal.τ Cert.UpdxReferenceIdeal.sig) → Buf (Elt Ideal) ℓ) (g' : Dev Cert.UpdxReferenceIdeal.nD → PrngReg), Pre_UpdxKernelIdeal m →
    (∀ c : Dev Cert.UpdxKernelIdeal.nD,
      m' ((c.tc : Thread Cert.UpdxReferenceIdeal.nD Cert.UpdxReferenceIdeal.τ).loc Cert.UpdxReferenceIdeal.main_arg0) = m ((c.tc : Thread Cert.UpdxKernelIdeal.nD Cert.UpdxKernelIdeal.τ).loc Cert.UpdxKernelIdeal.main_arg0)
      ∧ m' ((c.tc : Thread Cert.UpdxReferenceIdeal.nD Cert.UpdxReferenceIdeal.τ).loc Cert.UpdxReferenceIdeal.main_arg1) = m ((c.tc : Thread Cert.UpdxKernelIdeal.nD Cert.UpdxKernelIdeal.τ).loc Cert.UpdxKernelIdeal.main_arg1)
      ∧ m' ((c.tc : Thread Cert.UpdxReferenceIdeal.nD Cert.UpdxReferenceIdeal.τ).loc Cert.UpdxReferenceIdeal.main_arg2) = m ((c.tc : Thread Cert.UpdxKernelIdeal.nD Cert.UpdxKernelIdeal.τ).loc Cert.UpdxKernelIdeal.main_arg2)
      ∧ m' ((c.tc : Thread Cert.UpdxReferenceIdeal.nD Cert.UpdxReferenceIdeal.τ).loc Cert.UpdxReferenceIdeal.main_arg3) = m ((c.tc : Thread Cert.UpdxKernelIdeal.nD Cert.UpdxKernelIdeal.τ).loc Cert.UpdxKernelIdeal.main_arg3)) →
    ∃ (v0 : (c : Dev Cert.UpdxKernelIdeal.nD) → Buf (Elt Ideal) ((c.tc : Thread Cert.UpdxKernelIdeal.nD Cert.UpdxKernelIdeal.τ).loc Cert.UpdxKernelIdeal.main_v12)),
      θ_run (Cert.UpdxKernelIdeal.defs (F := Ideal)) (onTc (τ := Cert.UpdxKernelIdeal.τ) (Cert.UpdxKernelIdeal.main (F := Ideal))) ⟨m, fun _ => 0, g⟩ (fun r => ∀ c : Dev Cert.UpdxKernelIdeal.nD,
          r.2.mem ((c.tc : Thread Cert.UpdxKernelIdeal.nD Cert.UpdxKernelIdeal.τ).loc Cert.UpdxKernelIdeal.main_v12) = v0 c
          ∧ r.2.mem ((c.tc : Thread Cert.UpdxKernelIdeal.nD Cert.UpdxKernelIdeal.τ).loc Cert.UpdxKernelIdeal.main_arg0) = m ((c.tc : Thread Cert.UpdxKernelIdeal.nD Cert.UpdxKernelIdeal.τ).loc Cert.UpdxKernelIdeal.main_arg0)
          ∧ r.2.mem ((c.tc : Thread Cert.UpdxKernelIdeal.nD Cert.UpdxKernelIdeal.τ).loc Cert.UpdxKernelIdeal.main_arg1) = m ((c.tc : Thread Cert.UpdxKernelIdeal.nD Cert.UpdxKernelIdeal.τ).loc Cert.UpdxKernelIdeal.main_arg1)
          ∧ r.2.mem ((c.tc : Thread Cert.UpdxKernelIdeal.nD Cert.UpdxKernelIdeal.τ).loc Cert.UpdxKernelIdeal.main_arg2) = m ((c.tc : Thread Cert.UpdxKernelIdeal.nD Cert.UpdxKernelIdeal.τ).loc Cert.UpdxKernelIdeal.main_arg2)
          ∧ r.2.mem ((c.tc : Thread Cert.UpdxKernelIdeal.nD Cert.UpdxKernelIdeal.τ).loc Cert.UpdxKernelIdeal.main_arg3) = m ((c.tc : Thread Cert.UpdxKernelIdeal.nD Cert.UpdxKernelIdeal.τ).loc Cert.UpdxKernelIdeal.main_arg3))
      ∧ θ_run (Cert.UpdxReferenceIdeal.defs (F := Ideal)) (onTc (τ := Cert.UpdxReferenceIdeal.τ) (Cert.UpdxReferenceIdeal.main (F := Ideal))) ⟨m', fun _ => 0, g'⟩ (fun r => ∀ c : Dev Cert.UpdxReferenceIdeal.nD,
          r.2.mem ((c.tc : Thread Cert.UpdxReferenceIdeal.nD Cert.UpdxReferenceIdeal.τ).loc Cert.UpdxReferenceIdeal.main_v5) = v0 c
          ∧ r.2.mem ((c.tc : Thread Cert.UpdxReferenceIdeal.nD Cert.UpdxReferenceIdeal.τ).loc Cert.UpdxReferenceIdeal.main_arg0) = m' ((c.tc : Thread Cert.UpdxReferenceIdeal.nD Cert.UpdxReferenceIdeal.τ).loc Cert.UpdxReferenceIdeal.main_arg0)
          ∧ r.2.mem ((c.tc : Thread Cert.UpdxReferenceIdeal.nD Cert.UpdxReferenceIdeal.τ).loc Cert.UpdxReferenceIdeal.main_arg1) = m' ((c.tc : Thread Cert.UpdxReferenceIdeal.nD Cert.UpdxReferenceIdeal.τ).loc Cert.UpdxReferenceIdeal.main_arg1)
          ∧ r.2.mem ((c.tc : Thread Cert.UpdxReferenceIdeal.nD Cert.UpdxReferenceIdeal.τ).loc Cert.UpdxReferenceIdeal.main_arg2) = m' ((c.tc : Thread Cert.UpdxReferenceIdeal.nD Cert.UpdxReferenceIdeal.τ).loc Cert.UpdxReferenceIdeal.main_arg2)
          ∧ r.2.mem ((c.tc : Thread Cert.UpdxReferenceIdeal.nD Cert.UpdxReferenceIdeal.τ).loc Cert.UpdxReferenceIdeal.main_arg3) = m' ((c.tc : Thread Cert.UpdxReferenceIdeal.nD Cert.UpdxReferenceIdeal.τ).loc Cert.UpdxReferenceIdeal.main_arg3))

def preserves_InqkvKernel_InqkvKernelIdeal : Prop :=
  True

def algebraic_InqkvKernelIdeal_InqkvReferenceIdeal [hInqkvKernelIdeal : Cert.InqkvKernelIdeal.Facts] [hInqkvReferenceIdeal : Cert.InqkvReferenceIdeal.Facts] : Prop :=
  ∀ (m : (ℓ : Loc Cert.InqkvKernelIdeal.nD Cert.InqkvKernelIdeal.τ Cert.InqkvKernelIdeal.sig) → Buf (Elt Ideal) ℓ) (g : Dev Cert.InqkvKernelIdeal.nD → PrngReg)
    (m' : (ℓ : Loc Cert.InqkvReferenceIdeal.nD Cert.InqkvReferenceIdeal.τ Cert.InqkvReferenceIdeal.sig) → Buf (Elt Ideal) ℓ) (g' : Dev Cert.InqkvReferenceIdeal.nD → PrngReg), Pre_InqkvKernelIdeal m →
    (∀ c : Dev Cert.InqkvKernelIdeal.nD,
      m' ((c.tc : Thread Cert.InqkvReferenceIdeal.nD Cert.InqkvReferenceIdeal.τ).loc Cert.InqkvReferenceIdeal.main_arg0) = m ((c.tc : Thread Cert.InqkvKernelIdeal.nD Cert.InqkvKernelIdeal.τ).loc Cert.InqkvKernelIdeal.main_arg0)
      ∧ m' ((c.tc : Thread Cert.InqkvReferenceIdeal.nD Cert.InqkvReferenceIdeal.τ).loc Cert.InqkvReferenceIdeal.main_arg1) = m ((c.tc : Thread Cert.InqkvKernelIdeal.nD Cert.InqkvKernelIdeal.τ).loc Cert.InqkvKernelIdeal.main_arg1)) →
    ∃ (v0 : (c : Dev Cert.InqkvKernelIdeal.nD) → Buf (Elt Ideal) ((c.tc : Thread Cert.InqkvKernelIdeal.nD Cert.InqkvKernelIdeal.τ).loc Cert.InqkvKernelIdeal.main_v3)),
      θ_run (Cert.InqkvKernelIdeal.defs (F := Ideal)) (onTc (τ := Cert.InqkvKernelIdeal.τ) (Cert.InqkvKernelIdeal.main (F := Ideal))) ⟨m, fun _ => 0, g⟩ (fun r => ∀ c : Dev Cert.InqkvKernelIdeal.nD,
          r.2.mem ((c.tc : Thread Cert.InqkvKernelIdeal.nD Cert.InqkvKernelIdeal.τ).loc Cert.InqkvKernelIdeal.main_v3) = v0 c
          ∧ r.2.mem ((c.tc : Thread Cert.InqkvKernelIdeal.nD Cert.InqkvKernelIdeal.τ).loc Cert.InqkvKernelIdeal.main_arg0) = m ((c.tc : Thread Cert.InqkvKernelIdeal.nD Cert.InqkvKernelIdeal.τ).loc Cert.InqkvKernelIdeal.main_arg0)
          ∧ r.2.mem ((c.tc : Thread Cert.InqkvKernelIdeal.nD Cert.InqkvKernelIdeal.τ).loc Cert.InqkvKernelIdeal.main_arg1) = m ((c.tc : Thread Cert.InqkvKernelIdeal.nD Cert.InqkvKernelIdeal.τ).loc Cert.InqkvKernelIdeal.main_arg1))
      ∧ θ_run (Cert.InqkvReferenceIdeal.defs (F := Ideal)) (onTc (τ := Cert.InqkvReferenceIdeal.τ) (Cert.InqkvReferenceIdeal.main (F := Ideal))) ⟨m', fun _ => 0, g'⟩ (fun r => ∀ c : Dev Cert.InqkvReferenceIdeal.nD,
          r.2.mem ((c.tc : Thread Cert.InqkvReferenceIdeal.nD Cert.InqkvReferenceIdeal.τ).loc Cert.InqkvReferenceIdeal.main_v2) = v0 c
          ∧ r.2.mem ((c.tc : Thread Cert.InqkvReferenceIdeal.nD Cert.InqkvReferenceIdeal.τ).loc Cert.InqkvReferenceIdeal.main_arg0) = m' ((c.tc : Thread Cert.InqkvReferenceIdeal.nD Cert.InqkvReferenceIdeal.τ).loc Cert.InqkvReferenceIdeal.main_arg0)
          ∧ r.2.mem ((c.tc : Thread Cert.InqkvReferenceIdeal.nD Cert.InqkvReferenceIdeal.τ).loc Cert.InqkvReferenceIdeal.main_arg1) = m' ((c.tc : Thread Cert.InqkvReferenceIdeal.nD Cert.InqkvReferenceIdeal.τ).loc Cert.InqkvReferenceIdeal.main_arg1))

def preserves_BranchdwKernel_BranchdwKernelIdeal : Prop :=
  True

def algebraic_BranchdwKernelIdeal_BranchdwReferenceIdeal [hBranchdwKernelIdeal : Cert.BranchdwKernelIdeal.Facts] [hBranchdwReferenceIdeal : Cert.BranchdwReferenceIdeal.Facts] : Prop :=
  ∀ (m : (ℓ : Loc Cert.BranchdwKernelIdeal.nD Cert.BranchdwKernelIdeal.τ Cert.BranchdwKernelIdeal.sig) → Buf (Elt Ideal) ℓ) (g : Dev Cert.BranchdwKernelIdeal.nD → PrngReg)
    (m' : (ℓ : Loc Cert.BranchdwReferenceIdeal.nD Cert.BranchdwReferenceIdeal.τ Cert.BranchdwReferenceIdeal.sig) → Buf (Elt Ideal) ℓ) (g' : Dev Cert.BranchdwReferenceIdeal.nD → PrngReg), Pre_BranchdwKernelIdeal m →
    (∀ c : Dev Cert.BranchdwKernelIdeal.nD,
      m' ((c.tc : Thread Cert.BranchdwReferenceIdeal.nD Cert.BranchdwReferenceIdeal.τ).loc Cert.BranchdwReferenceIdeal.main_arg0) = m ((c.tc : Thread Cert.BranchdwKernelIdeal.nD Cert.BranchdwKernelIdeal.τ).loc Cert.BranchdwKernelIdeal.main_arg0)
      ∧ m' ((c.tc : Thread Cert.BranchdwReferenceIdeal.nD Cert.BranchdwReferenceIdeal.τ).loc Cert.BranchdwReferenceIdeal.main_arg1) = m ((c.tc : Thread Cert.BranchdwKernelIdeal.nD Cert.BranchdwKernelIdeal.τ).loc Cert.BranchdwKernelIdeal.main_arg1)) →
    ∃ (v0 : (c : Dev Cert.BranchdwKernelIdeal.nD) → Buf (Elt Ideal) ((c.tc : Thread Cert.BranchdwKernelIdeal.nD Cert.BranchdwKernelIdeal.τ).loc Cert.BranchdwKernelIdeal.main_v4)),
      θ_run (Cert.BranchdwKernelIdeal.defs (F := Ideal)) (onTc (τ := Cert.BranchdwKernelIdeal.τ) (Cert.BranchdwKernelIdeal.main (F := Ideal))) ⟨m, fun _ => 0, g⟩ (fun r => ∀ c : Dev Cert.BranchdwKernelIdeal.nD,
          r.2.mem ((c.tc : Thread Cert.BranchdwKernelIdeal.nD Cert.BranchdwKernelIdeal.τ).loc Cert.BranchdwKernelIdeal.main_v4) = v0 c
          ∧ r.2.mem ((c.tc : Thread Cert.BranchdwKernelIdeal.nD Cert.BranchdwKernelIdeal.τ).loc Cert.BranchdwKernelIdeal.main_arg0) = m ((c.tc : Thread Cert.BranchdwKernelIdeal.nD Cert.BranchdwKernelIdeal.τ).loc Cert.BranchdwKernelIdeal.main_arg0)
          ∧ r.2.mem ((c.tc : Thread Cert.BranchdwKernelIdeal.nD Cert.BranchdwKernelIdeal.τ).loc Cert.BranchdwKernelIdeal.main_arg1) = m ((c.tc : Thread Cert.BranchdwKernelIdeal.nD Cert.BranchdwKernelIdeal.τ).loc Cert.BranchdwKernelIdeal.main_arg1))
      ∧ θ_run (Cert.BranchdwReferenceIdeal.defs (F := Ideal)) (onTc (τ := Cert.BranchdwReferenceIdeal.τ) (Cert.BranchdwReferenceIdeal.main (F := Ideal))) ⟨m', fun _ => 0, g'⟩ (fun r => ∀ c : Dev Cert.BranchdwReferenceIdeal.nD,
          r.2.mem ((c.tc : Thread Cert.BranchdwReferenceIdeal.nD Cert.BranchdwReferenceIdeal.τ).loc Cert.BranchdwReferenceIdeal.main_v6) = v0 c
          ∧ r.2.mem ((c.tc : Thread Cert.BranchdwReferenceIdeal.nD Cert.BranchdwReferenceIdeal.τ).loc Cert.BranchdwReferenceIdeal.main_arg0) = m' ((c.tc : Thread Cert.BranchdwReferenceIdeal.nD Cert.BranchdwReferenceIdeal.τ).loc Cert.BranchdwReferenceIdeal.main_arg0)
          ∧ r.2.mem ((c.tc : Thread Cert.BranchdwReferenceIdeal.nD Cert.BranchdwReferenceIdeal.τ).loc Cert.BranchdwReferenceIdeal.main_arg1) = m' ((c.tc : Thread Cert.BranchdwReferenceIdeal.nD Cert.BranchdwReferenceIdeal.τ).loc Cert.BranchdwReferenceIdeal.main_arg1))

def preserves_QueriesdwKernel_QueriesdwKernelIdeal : Prop :=
  True

def algebraic_QueriesdwKernelIdeal_QueriesdwReferenceIdeal [hQueriesdwKernelIdeal : Cert.QueriesdwKernelIdeal.Facts] [hQueriesdwReferenceIdeal : Cert.QueriesdwReferenceIdeal.Facts] : Prop :=
  ∀ (m : (ℓ : Loc Cert.QueriesdwKernelIdeal.nD Cert.QueriesdwKernelIdeal.τ Cert.QueriesdwKernelIdeal.sig) → Buf (Elt Ideal) ℓ) (g : Dev Cert.QueriesdwKernelIdeal.nD → PrngReg)
    (m' : (ℓ : Loc Cert.QueriesdwReferenceIdeal.nD Cert.QueriesdwReferenceIdeal.τ Cert.QueriesdwReferenceIdeal.sig) → Buf (Elt Ideal) ℓ) (g' : Dev Cert.QueriesdwReferenceIdeal.nD → PrngReg), Pre_QueriesdwKernelIdeal m →
    (∀ c : Dev Cert.QueriesdwKernelIdeal.nD,
      m' ((c.tc : Thread Cert.QueriesdwReferenceIdeal.nD Cert.QueriesdwReferenceIdeal.τ).loc Cert.QueriesdwReferenceIdeal.main_arg0) = m ((c.tc : Thread Cert.QueriesdwKernelIdeal.nD Cert.QueriesdwKernelIdeal.τ).loc Cert.QueriesdwKernelIdeal.main_arg0)
      ∧ m' ((c.tc : Thread Cert.QueriesdwReferenceIdeal.nD Cert.QueriesdwReferenceIdeal.τ).loc Cert.QueriesdwReferenceIdeal.main_arg1) = m ((c.tc : Thread Cert.QueriesdwKernelIdeal.nD Cert.QueriesdwKernelIdeal.τ).loc Cert.QueriesdwKernelIdeal.main_arg1)) →
    ∃ (v0 : (c : Dev Cert.QueriesdwKernelIdeal.nD) → Buf (Elt Ideal) ((c.tc : Thread Cert.QueriesdwKernelIdeal.nD Cert.QueriesdwKernelIdeal.τ).loc Cert.QueriesdwKernelIdeal.main_v4)),
      θ_run (Cert.QueriesdwKernelIdeal.defs (F := Ideal)) (onTc (τ := Cert.QueriesdwKernelIdeal.τ) (Cert.QueriesdwKernelIdeal.main (F := Ideal))) ⟨m, fun _ => 0, g⟩ (fun r => ∀ c : Dev Cert.QueriesdwKernelIdeal.nD,
          r.2.mem ((c.tc : Thread Cert.QueriesdwKernelIdeal.nD Cert.QueriesdwKernelIdeal.τ).loc Cert.QueriesdwKernelIdeal.main_v4) = v0 c
          ∧ r.2.mem ((c.tc : Thread Cert.QueriesdwKernelIdeal.nD Cert.QueriesdwKernelIdeal.τ).loc Cert.QueriesdwKernelIdeal.main_arg0) = m ((c.tc : Thread Cert.QueriesdwKernelIdeal.nD Cert.QueriesdwKernelIdeal.τ).loc Cert.QueriesdwKernelIdeal.main_arg0)
          ∧ r.2.mem ((c.tc : Thread Cert.QueriesdwKernelIdeal.nD Cert.QueriesdwKernelIdeal.τ).loc Cert.QueriesdwKernelIdeal.main_arg1) = m ((c.tc : Thread Cert.QueriesdwKernelIdeal.nD Cert.QueriesdwKernelIdeal.τ).loc Cert.QueriesdwKernelIdeal.main_arg1))
      ∧ θ_run (Cert.QueriesdwReferenceIdeal.defs (F := Ideal)) (onTc (τ := Cert.QueriesdwReferenceIdeal.τ) (Cert.QueriesdwReferenceIdeal.main (F := Ideal))) ⟨m', fun _ => 0, g'⟩ (fun r => ∀ c : Dev Cert.QueriesdwReferenceIdeal.nD,
          r.2.mem ((c.tc : Thread Cert.QueriesdwReferenceIdeal.nD Cert.QueriesdwReferenceIdeal.τ).loc Cert.QueriesdwReferenceIdeal.main_v6) = v0 c
          ∧ r.2.mem ((c.tc : Thread Cert.QueriesdwReferenceIdeal.nD Cert.QueriesdwReferenceIdeal.τ).loc Cert.QueriesdwReferenceIdeal.main_arg0) = m' ((c.tc : Thread Cert.QueriesdwReferenceIdeal.nD Cert.QueriesdwReferenceIdeal.τ).loc Cert.QueriesdwReferenceIdeal.main_arg0)
          ∧ r.2.mem ((c.tc : Thread Cert.QueriesdwReferenceIdeal.nD Cert.QueriesdwReferenceIdeal.τ).loc Cert.QueriesdwReferenceIdeal.main_arg1) = m' ((c.tc : Thread Cert.QueriesdwReferenceIdeal.nD Cert.QueriesdwReferenceIdeal.τ).loc Cert.QueriesdwReferenceIdeal.main_arg1))

def preserves_QueriesdxKernel_QueriesdxKernelIdeal : Prop :=
  True

def algebraic_QueriesdxKernelIdeal_QueriesdxReferenceIdeal [hQueriesdxKernelIdeal : Cert.QueriesdxKernelIdeal.Facts] [hQueriesdxReferenceIdeal : Cert.QueriesdxReferenceIdeal.Facts] : Prop :=
  ∀ (m : (ℓ : Loc Cert.QueriesdxKernelIdeal.nD Cert.QueriesdxKernelIdeal.τ Cert.QueriesdxKernelIdeal.sig) → Buf (Elt Ideal) ℓ) (g : Dev Cert.QueriesdxKernelIdeal.nD → PrngReg)
    (m' : (ℓ : Loc Cert.QueriesdxReferenceIdeal.nD Cert.QueriesdxReferenceIdeal.τ Cert.QueriesdxReferenceIdeal.sig) → Buf (Elt Ideal) ℓ) (g' : Dev Cert.QueriesdxReferenceIdeal.nD → PrngReg), Pre_QueriesdxKernelIdeal m →
    (∀ c : Dev Cert.QueriesdxKernelIdeal.nD,
      m' ((c.tc : Thread Cert.QueriesdxReferenceIdeal.nD Cert.QueriesdxReferenceIdeal.τ).loc Cert.QueriesdxReferenceIdeal.main_arg0) = m ((c.tc : Thread Cert.QueriesdxKernelIdeal.nD Cert.QueriesdxKernelIdeal.τ).loc Cert.QueriesdxKernelIdeal.main_arg0)
      ∧ m' ((c.tc : Thread Cert.QueriesdxReferenceIdeal.nD Cert.QueriesdxReferenceIdeal.τ).loc Cert.QueriesdxReferenceIdeal.main_arg1) = m ((c.tc : Thread Cert.QueriesdxKernelIdeal.nD Cert.QueriesdxKernelIdeal.τ).loc Cert.QueriesdxKernelIdeal.main_arg1)) →
    ∃ (v0 : (c : Dev Cert.QueriesdxKernelIdeal.nD) → Buf (Elt Ideal) ((c.tc : Thread Cert.QueriesdxKernelIdeal.nD Cert.QueriesdxKernelIdeal.τ).loc Cert.QueriesdxKernelIdeal.main_v6)),
      θ_run (Cert.QueriesdxKernelIdeal.defs (F := Ideal)) (onTc (τ := Cert.QueriesdxKernelIdeal.τ) (Cert.QueriesdxKernelIdeal.main (F := Ideal))) ⟨m, fun _ => 0, g⟩ (fun r => ∀ c : Dev Cert.QueriesdxKernelIdeal.nD,
          r.2.mem ((c.tc : Thread Cert.QueriesdxKernelIdeal.nD Cert.QueriesdxKernelIdeal.τ).loc Cert.QueriesdxKernelIdeal.main_v6) = v0 c
          ∧ r.2.mem ((c.tc : Thread Cert.QueriesdxKernelIdeal.nD Cert.QueriesdxKernelIdeal.τ).loc Cert.QueriesdxKernelIdeal.main_arg0) = m ((c.tc : Thread Cert.QueriesdxKernelIdeal.nD Cert.QueriesdxKernelIdeal.τ).loc Cert.QueriesdxKernelIdeal.main_arg0)
          ∧ r.2.mem ((c.tc : Thread Cert.QueriesdxKernelIdeal.nD Cert.QueriesdxKernelIdeal.τ).loc Cert.QueriesdxKernelIdeal.main_arg1) = m ((c.tc : Thread Cert.QueriesdxKernelIdeal.nD Cert.QueriesdxKernelIdeal.τ).loc Cert.QueriesdxKernelIdeal.main_arg1))
      ∧ θ_run (Cert.QueriesdxReferenceIdeal.defs (F := Ideal)) (onTc (τ := Cert.QueriesdxReferenceIdeal.τ) (Cert.QueriesdxReferenceIdeal.main (F := Ideal))) ⟨m', fun _ => 0, g'⟩ (fun r => ∀ c : Dev Cert.QueriesdxReferenceIdeal.nD,
          r.2.mem ((c.tc : Thread Cert.QueriesdxReferenceIdeal.nD Cert.QueriesdxReferenceIdeal.τ).loc Cert.QueriesdxReferenceIdeal.main_v2) = v0 c
          ∧ r.2.mem ((c.tc : Thread Cert.QueriesdxReferenceIdeal.nD Cert.QueriesdxReferenceIdeal.τ).loc Cert.QueriesdxReferenceIdeal.main_arg0) = m' ((c.tc : Thread Cert.QueriesdxReferenceIdeal.nD Cert.QueriesdxReferenceIdeal.τ).loc Cert.QueriesdxReferenceIdeal.main_arg0)
          ∧ r.2.mem ((c.tc : Thread Cert.QueriesdxReferenceIdeal.nD Cert.QueriesdxReferenceIdeal.τ).loc Cert.QueriesdxReferenceIdeal.main_arg1) = m' ((c.tc : Thread Cert.QueriesdxReferenceIdeal.nD Cert.QueriesdxReferenceIdeal.τ).loc Cert.QueriesdxReferenceIdeal.main_arg1))

def preserves_BranchdxKernel_BranchdxKernelIdeal : Prop :=
  True

def algebraic_BranchdxKernelIdeal_BranchdxReferenceIdeal [hBranchdxKernelIdeal : Cert.BranchdxKernelIdeal.Facts] [hBranchdxReferenceIdeal : Cert.BranchdxReferenceIdeal.Facts] : Prop :=
  ∀ (m : (ℓ : Loc Cert.BranchdxKernelIdeal.nD Cert.BranchdxKernelIdeal.τ Cert.BranchdxKernelIdeal.sig) → Buf (Elt Ideal) ℓ) (g : Dev Cert.BranchdxKernelIdeal.nD → PrngReg)
    (m' : (ℓ : Loc Cert.BranchdxReferenceIdeal.nD Cert.BranchdxReferenceIdeal.τ Cert.BranchdxReferenceIdeal.sig) → Buf (Elt Ideal) ℓ) (g' : Dev Cert.BranchdxReferenceIdeal.nD → PrngReg), Pre_BranchdxKernelIdeal m →
    (∀ c : Dev Cert.BranchdxKernelIdeal.nD,
      m' ((c.tc : Thread Cert.BranchdxReferenceIdeal.nD Cert.BranchdxReferenceIdeal.τ).loc Cert.BranchdxReferenceIdeal.main_arg0) = m ((c.tc : Thread Cert.BranchdxKernelIdeal.nD Cert.BranchdxKernelIdeal.τ).loc Cert.BranchdxKernelIdeal.main_arg0)
      ∧ m' ((c.tc : Thread Cert.BranchdxReferenceIdeal.nD Cert.BranchdxReferenceIdeal.τ).loc Cert.BranchdxReferenceIdeal.main_arg1) = m ((c.tc : Thread Cert.BranchdxKernelIdeal.nD Cert.BranchdxKernelIdeal.τ).loc Cert.BranchdxKernelIdeal.main_arg1)) →
    ∃ (v0 : (c : Dev Cert.BranchdxKernelIdeal.nD) → Buf (Elt Ideal) ((c.tc : Thread Cert.BranchdxKernelIdeal.nD Cert.BranchdxKernelIdeal.τ).loc Cert.BranchdxKernelIdeal.main_v6)),
      θ_run (Cert.BranchdxKernelIdeal.defs (F := Ideal)) (onTc (τ := Cert.BranchdxKernelIdeal.τ) (Cert.BranchdxKernelIdeal.main (F := Ideal))) ⟨m, fun _ => 0, g⟩ (fun r => ∀ c : Dev Cert.BranchdxKernelIdeal.nD,
          r.2.mem ((c.tc : Thread Cert.BranchdxKernelIdeal.nD Cert.BranchdxKernelIdeal.τ).loc Cert.BranchdxKernelIdeal.main_v6) = v0 c
          ∧ r.2.mem ((c.tc : Thread Cert.BranchdxKernelIdeal.nD Cert.BranchdxKernelIdeal.τ).loc Cert.BranchdxKernelIdeal.main_arg0) = m ((c.tc : Thread Cert.BranchdxKernelIdeal.nD Cert.BranchdxKernelIdeal.τ).loc Cert.BranchdxKernelIdeal.main_arg0)
          ∧ r.2.mem ((c.tc : Thread Cert.BranchdxKernelIdeal.nD Cert.BranchdxKernelIdeal.τ).loc Cert.BranchdxKernelIdeal.main_arg1) = m ((c.tc : Thread Cert.BranchdxKernelIdeal.nD Cert.BranchdxKernelIdeal.τ).loc Cert.BranchdxKernelIdeal.main_arg1))
      ∧ θ_run (Cert.BranchdxReferenceIdeal.defs (F := Ideal)) (onTc (τ := Cert.BranchdxReferenceIdeal.τ) (Cert.BranchdxReferenceIdeal.main (F := Ideal))) ⟨m', fun _ => 0, g'⟩ (fun r => ∀ c : Dev Cert.BranchdxReferenceIdeal.nD,
          r.2.mem ((c.tc : Thread Cert.BranchdxReferenceIdeal.nD Cert.BranchdxReferenceIdeal.τ).loc Cert.BranchdxReferenceIdeal.main_v3) = v0 c
          ∧ r.2.mem ((c.tc : Thread Cert.BranchdxReferenceIdeal.nD Cert.BranchdxReferenceIdeal.τ).loc Cert.BranchdxReferenceIdeal.main_arg0) = m' ((c.tc : Thread Cert.BranchdxReferenceIdeal.nD Cert.BranchdxReferenceIdeal.τ).loc Cert.BranchdxReferenceIdeal.main_arg0)
          ∧ r.2.mem ((c.tc : Thread Cert.BranchdxReferenceIdeal.nD Cert.BranchdxReferenceIdeal.τ).loc Cert.BranchdxReferenceIdeal.main_arg1) = m' ((c.tc : Thread Cert.BranchdxReferenceIdeal.nD Cert.BranchdxReferenceIdeal.τ).loc Cert.BranchdxReferenceIdeal.main_arg1))

def preserves_GatedwKernel_GatedwKernelIdeal : Prop :=
  True

def algebraic_GatedwKernelIdeal_GatedwReferenceIdeal [hGatedwKernelIdeal : Cert.GatedwKernelIdeal.Facts] [hGatedwReferenceIdeal : Cert.GatedwReferenceIdeal.Facts] : Prop :=
  ∀ (m : (ℓ : Loc Cert.GatedwKernelIdeal.nD Cert.GatedwKernelIdeal.τ Cert.GatedwKernelIdeal.sig) → Buf (Elt Ideal) ℓ) (g : Dev Cert.GatedwKernelIdeal.nD → PrngReg)
    (m' : (ℓ : Loc Cert.GatedwReferenceIdeal.nD Cert.GatedwReferenceIdeal.τ Cert.GatedwReferenceIdeal.sig) → Buf (Elt Ideal) ℓ) (g' : Dev Cert.GatedwReferenceIdeal.nD → PrngReg), Pre_GatedwKernelIdeal m →
    (∀ c : Dev Cert.GatedwKernelIdeal.nD,
      m' ((c.tc : Thread Cert.GatedwReferenceIdeal.nD Cert.GatedwReferenceIdeal.τ).loc Cert.GatedwReferenceIdeal.main_arg0) = m ((c.tc : Thread Cert.GatedwKernelIdeal.nD Cert.GatedwKernelIdeal.τ).loc Cert.GatedwKernelIdeal.main_arg0)
      ∧ m' ((c.tc : Thread Cert.GatedwReferenceIdeal.nD Cert.GatedwReferenceIdeal.τ).loc Cert.GatedwReferenceIdeal.main_arg1) = m ((c.tc : Thread Cert.GatedwKernelIdeal.nD Cert.GatedwKernelIdeal.τ).loc Cert.GatedwKernelIdeal.main_arg1)) →
    ∃ (v0 : (c : Dev Cert.GatedwKernelIdeal.nD) → Buf (Elt Ideal) ((c.tc : Thread Cert.GatedwKernelIdeal.nD Cert.GatedwKernelIdeal.τ).loc Cert.GatedwKernelIdeal.main_v2)),
      θ_run (Cert.GatedwKernelIdeal.defs (F := Ideal)) (onTc (τ := Cert.GatedwKernelIdeal.τ) (Cert.GatedwKernelIdeal.main (F := Ideal))) ⟨m, fun _ => 0, g⟩ (fun r => ∀ c : Dev Cert.GatedwKernelIdeal.nD,
          r.2.mem ((c.tc : Thread Cert.GatedwKernelIdeal.nD Cert.GatedwKernelIdeal.τ).loc Cert.GatedwKernelIdeal.main_v2) = v0 c
          ∧ r.2.mem ((c.tc : Thread Cert.GatedwKernelIdeal.nD Cert.GatedwKernelIdeal.τ).loc Cert.GatedwKernelIdeal.main_arg0) = m ((c.tc : Thread Cert.GatedwKernelIdeal.nD Cert.GatedwKernelIdeal.τ).loc Cert.GatedwKernelIdeal.main_arg0)
          ∧ r.2.mem ((c.tc : Thread Cert.GatedwKernelIdeal.nD Cert.GatedwKernelIdeal.τ).loc Cert.GatedwKernelIdeal.main_arg1) = m ((c.tc : Thread Cert.GatedwKernelIdeal.nD Cert.GatedwKernelIdeal.τ).loc Cert.GatedwKernelIdeal.main_arg1))
      ∧ θ_run (Cert.GatedwReferenceIdeal.defs (F := Ideal)) (onTc (τ := Cert.GatedwReferenceIdeal.τ) (Cert.GatedwReferenceIdeal.main (F := Ideal))) ⟨m', fun _ => 0, g'⟩ (fun r => ∀ c : Dev Cert.GatedwReferenceIdeal.nD,
          r.2.mem ((c.tc : Thread Cert.GatedwReferenceIdeal.nD Cert.GatedwReferenceIdeal.τ).loc Cert.GatedwReferenceIdeal.main_v5) = v0 c
          ∧ r.2.mem ((c.tc : Thread Cert.GatedwReferenceIdeal.nD Cert.GatedwReferenceIdeal.τ).loc Cert.GatedwReferenceIdeal.main_arg0) = m' ((c.tc : Thread Cert.GatedwReferenceIdeal.nD Cert.GatedwReferenceIdeal.τ).loc Cert.GatedwReferenceIdeal.main_arg0)
          ∧ r.2.mem ((c.tc : Thread Cert.GatedwReferenceIdeal.nD Cert.GatedwReferenceIdeal.τ).loc Cert.GatedwReferenceIdeal.main_arg1) = m' ((c.tc : Thread Cert.GatedwReferenceIdeal.nD Cert.GatedwReferenceIdeal.τ).loc Cert.GatedwReferenceIdeal.main_arg1))

def preserves_GatedxKernel_GatedxKernelIdeal : Prop :=
  True

def algebraic_GatedxKernelIdeal_GatedxReferenceIdeal [hGatedxKernelIdeal : Cert.GatedxKernelIdeal.Facts] [hGatedxReferenceIdeal : Cert.GatedxReferenceIdeal.Facts] : Prop :=
  ∀ (m : (ℓ : Loc Cert.GatedxKernelIdeal.nD Cert.GatedxKernelIdeal.τ Cert.GatedxKernelIdeal.sig) → Buf (Elt Ideal) ℓ) (g : Dev Cert.GatedxKernelIdeal.nD → PrngReg)
    (m' : (ℓ : Loc Cert.GatedxReferenceIdeal.nD Cert.GatedxReferenceIdeal.τ Cert.GatedxReferenceIdeal.sig) → Buf (Elt Ideal) ℓ) (g' : Dev Cert.GatedxReferenceIdeal.nD → PrngReg), Pre_GatedxKernelIdeal m →
    (∀ c : Dev Cert.GatedxKernelIdeal.nD,
      m' ((c.tc : Thread Cert.GatedxReferenceIdeal.nD Cert.GatedxReferenceIdeal.τ).loc Cert.GatedxReferenceIdeal.main_arg0) = m ((c.tc : Thread Cert.GatedxKernelIdeal.nD Cert.GatedxKernelIdeal.τ).loc Cert.GatedxKernelIdeal.main_arg0)
      ∧ m' ((c.tc : Thread Cert.GatedxReferenceIdeal.nD Cert.GatedxReferenceIdeal.τ).loc Cert.GatedxReferenceIdeal.main_arg1) = m ((c.tc : Thread Cert.GatedxKernelIdeal.nD Cert.GatedxKernelIdeal.τ).loc Cert.GatedxKernelIdeal.main_arg1)) →
    ∃ (v0 : (c : Dev Cert.GatedxKernelIdeal.nD) → Buf (Elt Ideal) ((c.tc : Thread Cert.GatedxKernelIdeal.nD Cert.GatedxKernelIdeal.τ).loc Cert.GatedxKernelIdeal.main_v3)),
      θ_run (Cert.GatedxKernelIdeal.defs (F := Ideal)) (onTc (τ := Cert.GatedxKernelIdeal.τ) (Cert.GatedxKernelIdeal.main (F := Ideal))) ⟨m, fun _ => 0, g⟩ (fun r => ∀ c : Dev Cert.GatedxKernelIdeal.nD,
          r.2.mem ((c.tc : Thread Cert.GatedxKernelIdeal.nD Cert.GatedxKernelIdeal.τ).loc Cert.GatedxKernelIdeal.main_v3) = v0 c
          ∧ r.2.mem ((c.tc : Thread Cert.GatedxKernelIdeal.nD Cert.GatedxKernelIdeal.τ).loc Cert.GatedxKernelIdeal.main_arg0) = m ((c.tc : Thread Cert.GatedxKernelIdeal.nD Cert.GatedxKernelIdeal.τ).loc Cert.GatedxKernelIdeal.main_arg0)
          ∧ r.2.mem ((c.tc : Thread Cert.GatedxKernelIdeal.nD Cert.GatedxKernelIdeal.τ).loc Cert.GatedxKernelIdeal.main_arg1) = m ((c.tc : Thread Cert.GatedxKernelIdeal.nD Cert.GatedxKernelIdeal.τ).loc Cert.GatedxKernelIdeal.main_arg1))
      ∧ θ_run (Cert.GatedxReferenceIdeal.defs (F := Ideal)) (onTc (τ := Cert.GatedxReferenceIdeal.τ) (Cert.GatedxReferenceIdeal.main (F := Ideal))) ⟨m', fun _ => 0, g'⟩ (fun r => ∀ c : Dev Cert.GatedxReferenceIdeal.nD,
          r.2.mem ((c.tc : Thread Cert.GatedxReferenceIdeal.nD Cert.GatedxReferenceIdeal.τ).loc Cert.GatedxReferenceIdeal.main_v2) = v0 c
          ∧ r.2.mem ((c.tc : Thread Cert.GatedxReferenceIdeal.nD Cert.GatedxReferenceIdeal.τ).loc Cert.GatedxReferenceIdeal.main_arg0) = m' ((c.tc : Thread Cert.GatedxReferenceIdeal.nD Cert.GatedxReferenceIdeal.τ).loc Cert.GatedxReferenceIdeal.main_arg0)
          ∧ r.2.mem ((c.tc : Thread Cert.GatedxReferenceIdeal.nD Cert.GatedxReferenceIdeal.τ).loc Cert.GatedxReferenceIdeal.main_arg1) = m' ((c.tc : Thread Cert.GatedxReferenceIdeal.nD Cert.GatedxReferenceIdeal.τ).loc Cert.GatedxReferenceIdeal.main_arg1))

def preserves_IndxKernel_IndxKernelIdeal : Prop :=
  True

def algebraic_IndxKernelIdeal_IndxReferenceIdeal [hIndxKernelIdeal : Cert.IndxKernelIdeal.Facts] [hIndxReferenceIdeal : Cert.IndxReferenceIdeal.Facts] : Prop :=
  ∀ (m : (ℓ : Loc Cert.IndxKernelIdeal.nD Cert.IndxKernelIdeal.τ Cert.IndxKernelIdeal.sig) → Buf (Elt Ideal) ℓ) (g : Dev Cert.IndxKernelIdeal.nD → PrngReg)
    (m' : (ℓ : Loc Cert.IndxReferenceIdeal.nD Cert.IndxReferenceIdeal.τ Cert.IndxReferenceIdeal.sig) → Buf (Elt Ideal) ℓ) (g' : Dev Cert.IndxReferenceIdeal.nD → PrngReg), Pre_IndxKernelIdeal m →
    (∀ c : Dev Cert.IndxKernelIdeal.nD,
      m' ((c.tc : Thread Cert.IndxReferenceIdeal.nD Cert.IndxReferenceIdeal.τ).loc Cert.IndxReferenceIdeal.main_arg0) = m ((c.tc : Thread Cert.IndxKernelIdeal.nD Cert.IndxKernelIdeal.τ).loc Cert.IndxKernelIdeal.main_arg0)
      ∧ m' ((c.tc : Thread Cert.IndxReferenceIdeal.nD Cert.IndxReferenceIdeal.τ).loc Cert.IndxReferenceIdeal.main_arg1) = m ((c.tc : Thread Cert.IndxKernelIdeal.nD Cert.IndxKernelIdeal.τ).loc Cert.IndxKernelIdeal.main_arg1)) →
    ∃ (v0 : (c : Dev Cert.IndxKernelIdeal.nD) → Buf (Elt Ideal) ((c.tc : Thread Cert.IndxKernelIdeal.nD Cert.IndxKernelIdeal.τ).loc Cert.IndxKernelIdeal.main_v13)),
      θ_run (Cert.IndxKernelIdeal.defs (F := Ideal)) (onTc (τ := Cert.IndxKernelIdeal.τ) (Cert.IndxKernelIdeal.main (F := Ideal))) ⟨m, fun _ => 0, g⟩ (fun r => ∀ c : Dev Cert.IndxKernelIdeal.nD,
          r.2.mem ((c.tc : Thread Cert.IndxKernelIdeal.nD Cert.IndxKernelIdeal.τ).loc Cert.IndxKernelIdeal.main_v13) = v0 c
          ∧ r.2.mem ((c.tc : Thread Cert.IndxKernelIdeal.nD Cert.IndxKernelIdeal.τ).loc Cert.IndxKernelIdeal.main_arg0) = m ((c.tc : Thread Cert.IndxKernelIdeal.nD Cert.IndxKernelIdeal.τ).loc Cert.IndxKernelIdeal.main_arg0)
          ∧ r.2.mem ((c.tc : Thread Cert.IndxKernelIdeal.nD Cert.IndxKernelIdeal.τ).loc Cert.IndxKernelIdeal.main_arg1) = m ((c.tc : Thread Cert.IndxKernelIdeal.nD Cert.IndxKernelIdeal.τ).loc Cert.IndxKernelIdeal.main_arg1))
      ∧ θ_run (Cert.IndxReferenceIdeal.defs (F := Ideal)) (onTc (τ := Cert.IndxReferenceIdeal.τ) (Cert.IndxReferenceIdeal.main (F := Ideal))) ⟨m', fun _ => 0, g'⟩ (fun r => ∀ c : Dev Cert.IndxReferenceIdeal.nD,
          r.2.mem ((c.tc : Thread Cert.IndxReferenceIdeal.nD Cert.IndxReferenceIdeal.τ).loc Cert.IndxReferenceIdeal.main_v2) = v0 c
          ∧ r.2.mem ((c.tc : Thread Cert.IndxReferenceIdeal.nD Cert.IndxReferenceIdeal.τ).loc Cert.IndxReferenceIdeal.main_arg0) = m' ((c.tc : Thread Cert.IndxReferenceIdeal.nD Cert.IndxReferenceIdeal.τ).loc Cert.IndxReferenceIdeal.main_arg0)
          ∧ r.2.mem ((c.tc : Thread Cert.IndxReferenceIdeal.nD Cert.IndxReferenceIdeal.τ).loc Cert.IndxReferenceIdeal.main_arg1) = m' ((c.tc : Thread Cert.IndxReferenceIdeal.nD Cert.IndxReferenceIdeal.τ).loc Cert.IndxReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] [hPre_chip_in_range : Cert.Pre_chip_in_range.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)
      ∧ m' ((c.tc : Thread Cert.AdamReferenceIdeal.nD Cert.AdamReferenceIdeal.τ).loc Cert.AdamReferenceIdeal.main_arg5) = m ((c.tc : Thread Cert.AdamKernelIdeal.nD Cert.AdamKernelIdeal.τ).loc Cert.AdamKernelIdeal.main_arg5)) →
    ∃ (v0 : (c : Dev Cert.AdamKernelIdeal.nD) → Buf (Elt Ideal) ((c.tc : Thread Cert.AdamKernelIdeal.nD Cert.AdamKernelIdeal.τ).loc Cert.AdamKernelIdeal.main_v2_0)) (v1 : (c : Dev Cert.AdamKernelIdeal.nD) → Buf (Elt Ideal) ((c.tc : Thread Cert.AdamKernelIdeal.nD Cert.AdamKernelIdeal.τ).loc Cert.AdamKernelIdeal.main_v2_1)) (v2 : (c : Dev Cert.AdamKernelIdeal.nD) → Buf (Elt Ideal) ((c.tc : Thread Cert.AdamKernelIdeal.nD Cert.AdamKernelIdeal.τ).loc Cert.AdamKernelIdeal.main_v2_2)) (v3 : (c : Dev Cert.AdamKernelIdeal.nD) → Buf (Elt Ideal) ((c.tc : Thread Cert.AdamKernelIdeal.nD Cert.AdamKernelIdeal.τ).loc Cert.AdamKernelIdeal.main_v2_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v2_0) = v0 c
          ∧ r.2.mem ((c.tc : Thread Cert.AdamKernelIdeal.nD Cert.AdamKernelIdeal.τ).loc Cert.AdamKernelIdeal.main_v2_1) = v1 c
          ∧ r.2.mem ((c.tc : Thread Cert.AdamKernelIdeal.nD Cert.AdamKernelIdeal.τ).loc Cert.AdamKernelIdeal.main_v2_2) = v2 c
          ∧ r.2.mem ((c.tc : Thread Cert.AdamKernelIdeal.nD Cert.AdamKernelIdeal.τ).loc Cert.AdamKernelIdeal.main_v2_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4)
          ∧ r.2.mem ((c.tc : Thread Cert.AdamKernelIdeal.nD Cert.AdamKernelIdeal.τ).loc Cert.AdamKernelIdeal.main_arg5) = m ((c.tc : Thread Cert.AdamKernelIdeal.nD Cert.AdamKernelIdeal.τ).loc Cert.AdamKernelIdeal.main_arg5))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v8) = v0 c
          ∧ r.2.mem ((c.tc : Thread Cert.AdamReferenceIdeal.nD Cert.AdamReferenceIdeal.τ).loc Cert.AdamReferenceIdeal.main_v32) = v1 c
          ∧ r.2.mem ((c.tc : Thread Cert.AdamReferenceIdeal.nD Cert.AdamReferenceIdeal.τ).loc Cert.AdamReferenceIdeal.main_v13) = v2 c
          ∧ r.2.mem ((c.tc : Thread Cert.AdamReferenceIdeal.nD Cert.AdamReferenceIdeal.τ).loc Cert.AdamReferenceIdeal.main_v19) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4)
          ∧ r.2.mem ((c.tc : Thread Cert.AdamReferenceIdeal.nD Cert.AdamReferenceIdeal.τ).loc Cert.AdamReferenceIdeal.main_arg5) = m' ((c.tc : Thread Cert.AdamReferenceIdeal.nD Cert.AdamReferenceIdeal.τ).loc Cert.AdamReferenceIdeal.main_arg5))

def Claim : Prop :=
  ∃ (hGateKernel : Cert.GateKernel.Facts) (hGateKernelIdeal : Cert.GateKernelIdeal.Facts) (hGateReferenceIdeal : Cert.GateReferenceIdeal.Facts) (hMlaKernel : Cert.MlaKernel.Facts) (hMlaKernelIdeal : Cert.MlaKernelIdeal.Facts) (hMlaReferenceIdeal : Cert.MlaReferenceIdeal.Facts) (hNaKernel : Cert.NaKernel.Facts) (hNaKernelIdeal : Cert.NaKernelIdeal.Facts) (hNaReferenceIdeal : Cert.NaReferenceIdeal.Facts) (hColumnsKernel : Cert.ColumnsKernel.Facts) (hColumnsKernelIdeal : Cert.ColumnsKernelIdeal.Facts) (hColumnsReferenceIdeal : Cert.ColumnsReferenceIdeal.Facts) (hTableKernel : Cert.TableKernel.Facts) (hTableKernelIdeal : Cert.TableKernelIdeal.Facts) (hTableReferenceIdeal : Cert.TableReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hPostKernel : Cert.PostKernel.Facts) (hPostKernelIdeal : Cert.PostKernelIdeal.Facts) (hPostReferenceIdeal : Cert.PostReferenceIdeal.Facts) (hLatentKernel : Cert.LatentKernel.Facts) (hLatentKernelIdeal : Cert.LatentKernelIdeal.Facts) (hLatentReferenceIdeal : Cert.LatentReferenceIdeal.Facts) (hMlafwdKernel : Cert.MlafwdKernel.Facts) (hMlafwdKernelIdeal : Cert.MlafwdKernelIdeal.Facts) (hMlafwdReferenceIdeal : Cert.MlafwdReferenceIdeal.Facts) (hRmsfwdKernel : Cert.RmsfwdKernel.Facts) (hRmsfwdKernelIdeal : Cert.RmsfwdKernelIdeal.Facts) (hRmsfwdReferenceIdeal : Cert.RmsfwdReferenceIdeal.Facts) (hUpKernel : Cert.UpKernel.Facts) (hUpKernelIdeal : Cert.UpKernelIdeal.Facts) (hUpReferenceIdeal : Cert.UpReferenceIdeal.Facts) (hMergeKernel : Cert.MergeKernel.Facts) (hMergeKernelIdeal : Cert.MergeKernelIdeal.Facts) (hMergeReferenceIdeal : Cert.MergeReferenceIdeal.Facts) (hEmbedKernel : Cert.EmbedKernel.Facts) (hEmbedKernelIdeal : Cert.EmbedKernelIdeal.Facts) (hEmbedReferenceIdeal : Cert.EmbedReferenceIdeal.Facts) (hPrepKernel : Cert.PrepKernel.Facts) (hPrepKernelIdeal : Cert.PrepKernelIdeal.Facts) (hPrepReferenceIdeal : Cert.PrepReferenceIdeal.Facts) (hQueriesKernel : Cert.QueriesKernel.Facts) (hQueriesKernelIdeal : Cert.QueriesKernelIdeal.Facts) (hQueriesReferenceIdeal : Cert.QueriesReferenceIdeal.Facts) (hKeysKernel : Cert.KeysKernel.Facts) (hKeysKernelIdeal : Cert.KeysKernelIdeal.Facts) (hKeysReferenceIdeal : Cert.KeysReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hNafwdKernel : Cert.NafwdKernel.Facts) (hNafwdKernelIdeal : Cert.NafwdKernelIdeal.Facts) (hNafwdReferenceIdeal : Cert.NafwdReferenceIdeal.Facts) (hDowndwKernel : Cert.DowndwKernel.Facts) (hDowndwKernelIdeal : Cert.DowndwKernelIdeal.Facts) (hDowndwReferenceIdeal : Cert.DowndwReferenceIdeal.Facts) (hUpdwKernel : Cert.UpdwKernel.Facts) (hUpdwKernelIdeal : Cert.UpdwKernelIdeal.Facts) (hUpdwReferenceIdeal : Cert.UpdwReferenceIdeal.Facts) (hUpdxKernel : Cert.UpdxKernel.Facts) (hUpdxKernelIdeal : Cert.UpdxKernelIdeal.Facts) (hUpdxReferenceIdeal : Cert.UpdxReferenceIdeal.Facts) (hInqkvKernel : Cert.InqkvKernel.Facts) (hInqkvKernelIdeal : Cert.InqkvKernelIdeal.Facts) (hInqkvReferenceIdeal : Cert.InqkvReferenceIdeal.Facts) (hBranchdwKernel : Cert.BranchdwKernel.Facts) (hBranchdwKernelIdeal : Cert.BranchdwKernelIdeal.Facts) (hBranchdwReferenceIdeal : Cert.BranchdwReferenceIdeal.Facts) (hQueriesdwKernel : Cert.QueriesdwKernel.Facts) (hQueriesdwKernelIdeal : Cert.QueriesdwKernelIdeal.Facts) (hQueriesdwReferenceIdeal : Cert.QueriesdwReferenceIdeal.Facts) (hQueriesdxKernel : Cert.QueriesdxKernel.Facts) (hQueriesdxKernelIdeal : Cert.QueriesdxKernelIdeal.Facts) (hQueriesdxReferenceIdeal : Cert.QueriesdxReferenceIdeal.Facts) (hBranchdxKernel : Cert.BranchdxKernel.Facts) (hBranchdxKernelIdeal : Cert.BranchdxKernelIdeal.Facts) (hBranchdxReferenceIdeal : Cert.BranchdxReferenceIdeal.Facts) (hGatedwKernel : Cert.GatedwKernel.Facts) (hGatedwKernelIdeal : Cert.GatedwKernelIdeal.Facts) (hGatedwReferenceIdeal : Cert.GatedwReferenceIdeal.Facts) (hGatedxKernel : Cert.GatedxKernel.Facts) (hGatedxKernelIdeal : Cert.GatedxKernelIdeal.Facts) (hGatedxReferenceIdeal : Cert.GatedxReferenceIdeal.Facts) (hIndxKernel : Cert.IndxKernel.Facts) (hIndxKernelIdeal : Cert.IndxKernelIdeal.Facts) (hIndxReferenceIdeal : Cert.IndxReferenceIdeal.Facts) (hAdamKernel : Cert.AdamKernel.Facts) (hAdamKernelIdeal : Cert.AdamKernelIdeal.Facts) (hAdamReferenceIdeal : Cert.AdamReferenceIdeal.Facts) (hPre_queries_and_keys_finite : Cert.Pre_queries_and_keys_finite.Facts) (hPre_all_but_gate_finite : Cert.Pre_all_but_gate_finite.Facts) (hPre_chip_in_range : Cert.Pre_chip_in_range.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_MlaKernel (hMlaKernel := hMlaKernel)
    ∧ quiescent_MlaKernelIdeal (hMlaKernelIdeal := hMlaKernelIdeal)
    ∧ quiescent_MlaKernelIdeal_pre_queries_and_keys_finite (hMlaKernelIdeal := hMlaKernelIdeal) (hPre_queries_and_keys_finite := hPre_queries_and_keys_finite)
    ∧ quiescent_MlaReferenceIdeal (hMlaReferenceIdeal := hMlaReferenceIdeal)
    ∧ quiescent_MlaReferenceIdeal_pre_queries_and_keys_finite (hMlaReferenceIdeal := hMlaReferenceIdeal) (hPre_queries_and_keys_finite := hPre_queries_and_keys_finite)
    ∧ quiescent_NaKernel (hNaKernel := hNaKernel)
    ∧ quiescent_NaKernelIdeal (hNaKernelIdeal := hNaKernelIdeal)
    ∧ quiescent_NaReferenceIdeal (hNaReferenceIdeal := hNaReferenceIdeal)
    ∧ quiescent_ColumnsKernel (hColumnsKernel := hColumnsKernel)
    ∧ quiescent_ColumnsKernelIdeal (hColumnsKernelIdeal := hColumnsKernelIdeal)
    ∧ quiescent_ColumnsReferenceIdeal (hColumnsReferenceIdeal := hColumnsReferenceIdeal)
    ∧ quiescent_TableKernel (hTableKernel := hTableKernel)
    ∧ quiescent_TableKernelIdeal (hTableKernelIdeal := hTableKernelIdeal)
    ∧ quiescent_TableReferenceIdeal (hTableReferenceIdeal := hTableReferenceIdeal)
    ∧ quiescent_FfnKernel (hFfnKernel := hFfnKernel)
    ∧ quiescent_FfnKernelIdeal (hFfnKernelIdeal := hFfnKernelIdeal)
    ∧ quiescent_FfnKernelIdeal_pre_all_but_gate_finite (hFfnKernelIdeal := hFfnKernelIdeal) (hPre_all_but_gate_finite := hPre_all_but_gate_finite)
    ∧ quiescent_FfnReferenceIdeal (hFfnReferenceIdeal := hFfnReferenceIdeal)
    ∧ quiescent_FfnReferenceIdeal_pre_all_but_gate_finite (hFfnReferenceIdeal := hFfnReferenceIdeal) (hPre_all_but_gate_finite := hPre_all_but_gate_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_LatentKernel (hLatentKernel := hLatentKernel)
    ∧ quiescent_LatentKernelIdeal (hLatentKernelIdeal := hLatentKernelIdeal)
    ∧ quiescent_LatentReferenceIdeal (hLatentReferenceIdeal := hLatentReferenceIdeal)
    ∧ quiescent_MlafwdKernel (hMlafwdKernel := hMlafwdKernel)
    ∧ quiescent_MlafwdKernelIdeal (hMlafwdKernelIdeal := hMlafwdKernelIdeal)
    ∧ quiescent_MlafwdReferenceIdeal (hMlafwdReferenceIdeal := hMlafwdReferenceIdeal)
    ∧ quiescent_RmsfwdKernel (hRmsfwdKernel := hRmsfwdKernel)
    ∧ quiescent_RmsfwdKernelIdeal (hRmsfwdKernelIdeal := hRmsfwdKernelIdeal)
    ∧ quiescent_RmsfwdReferenceIdeal (hRmsfwdReferenceIdeal := hRmsfwdReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_EmbedKernel (hEmbedKernel := hEmbedKernel)
    ∧ quiescent_EmbedKernelIdeal (hEmbedKernelIdeal := hEmbedKernelIdeal)
    ∧ quiescent_EmbedReferenceIdeal (hEmbedReferenceIdeal := hEmbedReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ quiescent_QueriesKernel (hQueriesKernel := hQueriesKernel)
    ∧ quiescent_QueriesKernelIdeal (hQueriesKernelIdeal := hQueriesKernelIdeal)
    ∧ quiescent_QueriesReferenceIdeal (hQueriesReferenceIdeal := hQueriesReferenceIdeal)
    ∧ quiescent_KeysKernel (hKeysKernel := hKeysKernel)
    ∧ quiescent_KeysKernelIdeal (hKeysKernelIdeal := hKeysKernelIdeal)
    ∧ quiescent_KeysReferenceIdeal (hKeysReferenceIdeal := hKeysReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_NafwdKernel (hNafwdKernel := hNafwdKernel)
    ∧ quiescent_NafwdKernelIdeal (hNafwdKernelIdeal := hNafwdKernelIdeal)
    ∧ quiescent_NafwdReferenceIdeal (hNafwdReferenceIdeal := hNafwdReferenceIdeal)
    ∧ quiescent_DowndwKernel (hDowndwKernel := hDowndwKernel)
    ∧ quiescent_DowndwKernelIdeal (hDowndwKernelIdeal := hDowndwKernelIdeal)
    ∧ quiescent_DowndwReferenceIdeal (hDowndwReferenceIdeal := hDowndwReferenceIdeal)
    ∧ quiescent_UpdwKernel (hUpdwKernel := hUpdwKernel)
    ∧ quiescent_UpdwKernelIdeal (hUpdwKernelIdeal := hUpdwKernelIdeal)
    ∧ quiescent_UpdwReferenceIdeal (hUpdwReferenceIdeal := hUpdwReferenceIdeal)
    ∧ quiescent_UpdxKernel (hUpdxKernel := hUpdxKernel)
    ∧ quiescent_UpdxKernelIdeal (hUpdxKernelIdeal := hUpdxKernelIdeal)
    ∧ quiescent_UpdxReferenceIdeal (hUpdxReferenceIdeal := hUpdxReferenceIdeal)
    ∧ quiescent_InqkvKernel (hInqkvKernel := hInqkvKernel)
    ∧ quiescent_InqkvKernelIdeal (hInqkvKernelIdeal := hInqkvKernelIdeal)
    ∧ quiescent_InqkvReferenceIdeal (hInqkvReferenceIdeal := hInqkvReferenceIdeal)
    ∧ quiescent_BranchdwKernel (hBranchdwKernel := hBranchdwKernel)
    ∧ quiescent_BranchdwKernelIdeal (hBranchdwKernelIdeal := hBranchdwKernelIdeal)
    ∧ quiescent_BranchdwReferenceIdeal (hBranchdwReferenceIdeal := hBranchdwReferenceIdeal)
    ∧ quiescent_QueriesdwKernel (hQueriesdwKernel := hQueriesdwKernel)
    ∧ quiescent_QueriesdwKernelIdeal (hQueriesdwKernelIdeal := hQueriesdwKernelIdeal)
    ∧ quiescent_QueriesdwReferenceIdeal (hQueriesdwReferenceIdeal := hQueriesdwReferenceIdeal)
    ∧ quiescent_QueriesdxKernel (hQueriesdxKernel := hQueriesdxKernel)
    ∧ quiescent_QueriesdxKernelIdeal (hQueriesdxKernelIdeal := hQueriesdxKernelIdeal)
    ∧ quiescent_QueriesdxReferenceIdeal (hQueriesdxReferenceIdeal := hQueriesdxReferenceIdeal)
    ∧ quiescent_BranchdxKernel (hBranchdxKernel := hBranchdxKernel)
    ∧ quiescent_BranchdxKernelIdeal (hBranchdxKernelIdeal := hBranchdxKernelIdeal)
    ∧ quiescent_BranchdxReferenceIdeal (hBranchdxReferenceIdeal := hBranchdxReferenceIdeal)
    ∧ quiescent_GatedwKernel (hGatedwKernel := hGatedwKernel)
    ∧ quiescent_GatedwKernelIdeal (hGatedwKernelIdeal := hGatedwKernelIdeal)
    ∧ quiescent_GatedwReferenceIdeal (hGatedwReferenceIdeal := hGatedwReferenceIdeal)
    ∧ quiescent_GatedxKernel (hGatedxKernel := hGatedxKernel)
    ∧ quiescent_GatedxKernelIdeal (hGatedxKernelIdeal := hGatedxKernelIdeal)
    ∧ quiescent_GatedxReferenceIdeal (hGatedxReferenceIdeal := hGatedxReferenceIdeal)
    ∧ quiescent_IndxKernel (hIndxKernel := hIndxKernel)
    ∧ quiescent_IndxKernelIdeal (hIndxKernelIdeal := hIndxKernelIdeal)
    ∧ quiescent_IndxReferenceIdeal (hIndxReferenceIdeal := hIndxReferenceIdeal)
    ∧ quiescent_AdamKernel (hAdamKernel := hAdamKernel) (hPre_chip_in_range := hPre_chip_in_range)
    ∧ quiescent_AdamKernelIdeal (hAdamKernelIdeal := hAdamKernelIdeal) (hPre_chip_in_range := hPre_chip_in_range)
    ∧ quiescent_AdamReferenceIdeal (hAdamReferenceIdeal := hAdamReferenceIdeal)
    ∧ quiescent_AdamReferenceIdeal_pre_chip_in_range (hAdamReferenceIdeal := hAdamReferenceIdeal) (hPre_chip_in_range := hPre_chip_in_range)
    ∧ preserves_GateKernel_GateKernelIdeal
    ∧ algebraic_GateKernelIdeal_GateReferenceIdeal (hGateKernelIdeal := hGateKernelIdeal) (hGateReferenceIdeal := hGateReferenceIdeal)
    ∧ preserves_MlaKernel_MlaKernelIdeal
    ∧ algebraic_MlaKernelIdeal_MlaReferenceIdeal_pre_queries_and_keys_finite (hMlaKernelIdeal := hMlaKernelIdeal) (hMlaReferenceIdeal := hMlaReferenceIdeal) (hPre_queries_and_keys_finite := hPre_queries_and_keys_finite)
    ∧ preserves_NaKernel_NaKernelIdeal
    ∧ preserves_ColumnsKernel_ColumnsKernelIdeal
    ∧ algebraic_ColumnsKernelIdeal_ColumnsReferenceIdeal (hColumnsKernelIdeal := hColumnsKernelIdeal) (hColumnsReferenceIdeal := hColumnsReferenceIdeal)
    ∧ preserves_TableKernel_TableKernelIdeal
    ∧ algebraic_TableKernelIdeal_TableReferenceIdeal (hTableKernelIdeal := hTableKernelIdeal) (hTableReferenceIdeal := hTableReferenceIdeal)
    ∧ preserves_FfnKernel_FfnKernelIdeal
    ∧ algebraic_FfnKernelIdeal_FfnReferenceIdeal_pre_all_but_gate_finite (hFfnKernelIdeal := hFfnKernelIdeal) (hFfnReferenceIdeal := hFfnReferenceIdeal) (hPre_all_but_gate_finite := hPre_all_but_gate_finite)
    ∧ preserves_MixKernel_MixKernelIdeal
    ∧ algebraic_MixKernelIdeal_MixReferenceIdeal (hMixKernelIdeal := hMixKernelIdeal) (hMixReferenceIdeal := hMixReferenceIdeal)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_PostKernel_PostKernelIdeal
    ∧ algebraic_PostKernelIdeal_PostReferenceIdeal (hPostKernelIdeal := hPostKernelIdeal) (hPostReferenceIdeal := hPostReferenceIdeal)
    ∧ preserves_LatentKernel_LatentKernelIdeal
    ∧ algebraic_LatentKernelIdeal_LatentReferenceIdeal (hLatentKernelIdeal := hLatentKernelIdeal) (hLatentReferenceIdeal := hLatentReferenceIdeal)
    ∧ preserves_MlafwdKernel_MlafwdKernelIdeal
    ∧ algebraic_MlafwdKernelIdeal_MlafwdReferenceIdeal (hMlafwdKernelIdeal := hMlafwdKernelIdeal) (hMlafwdReferenceIdeal := hMlafwdReferenceIdeal)
    ∧ preserves_RmsfwdKernel_RmsfwdKernelIdeal
    ∧ algebraic_RmsfwdKernelIdeal_RmsfwdReferenceIdeal (hRmsfwdKernelIdeal := hRmsfwdKernelIdeal) (hRmsfwdReferenceIdeal := hRmsfwdReferenceIdeal)
    ∧ preserves_UpKernel_UpKernelIdeal
    ∧ algebraic_UpKernelIdeal_UpReferenceIdeal (hUpKernelIdeal := hUpKernelIdeal) (hUpReferenceIdeal := hUpReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_EmbedKernel_EmbedKernelIdeal
    ∧ algebraic_EmbedKernelIdeal_EmbedReferenceIdeal (hEmbedKernelIdeal := hEmbedKernelIdeal) (hEmbedReferenceIdeal := hEmbedReferenceIdeal)
    ∧ preserves_PrepKernel_PrepKernelIdeal
    ∧ algebraic_PrepKernelIdeal_PrepReferenceIdeal (hPrepKernelIdeal := hPrepKernelIdeal) (hPrepReferenceIdeal := hPrepReferenceIdeal)
    ∧ preserves_QueriesKernel_QueriesKernelIdeal
    ∧ algebraic_QueriesKernelIdeal_QueriesReferenceIdeal (hQueriesKernelIdeal := hQueriesKernelIdeal) (hQueriesReferenceIdeal := hQueriesReferenceIdeal)
    ∧ preserves_KeysKernel_KeysKernelIdeal
    ∧ algebraic_KeysKernelIdeal_KeysReferenceIdeal (hKeysKernelIdeal := hKeysKernelIdeal) (hKeysReferenceIdeal := hKeysReferenceIdeal)
    ∧ preserves_DownKernel_DownKernelIdeal
    ∧ algebraic_DownKernelIdeal_DownReferenceIdeal (hDownKernelIdeal := hDownKernelIdeal) (hDownReferenceIdeal := hDownReferenceIdeal)
    ∧ preserves_OutKernel_OutKernelIdeal
    ∧ algebraic_OutKernelIdeal_OutReferenceIdeal (hOutKernelIdeal := hOutKernelIdeal) (hOutReferenceIdeal := hOutReferenceIdeal)
    ∧ preserves_NafwdKernel_NafwdKernelIdeal
    ∧ preserves_DowndwKernel_DowndwKernelIdeal
    ∧ algebraic_DowndwKernelIdeal_DowndwReferenceIdeal (hDowndwKernelIdeal := hDowndwKernelIdeal) (hDowndwReferenceIdeal := hDowndwReferenceIdeal)
    ∧ preserves_UpdwKernel_UpdwKernelIdeal
    ∧ algebraic_UpdwKernelIdeal_UpdwReferenceIdeal (hUpdwKernelIdeal := hUpdwKernelIdeal) (hUpdwReferenceIdeal := hUpdwReferenceIdeal)
    ∧ preserves_UpdxKernel_UpdxKernelIdeal
    ∧ algebraic_UpdxKernelIdeal_UpdxReferenceIdeal (hUpdxKernelIdeal := hUpdxKernelIdeal) (hUpdxReferenceIdeal := hUpdxReferenceIdeal)
    ∧ preserves_InqkvKernel_InqkvKernelIdeal
    ∧ algebraic_InqkvKernelIdeal_InqkvReferenceIdeal (hInqkvKernelIdeal := hInqkvKernelIdeal) (hInqkvReferenceIdeal := hInqkvReferenceIdeal)
    ∧ preserves_BranchdwKernel_BranchdwKernelIdeal
    ∧ algebraic_BranchdwKernelIdeal_BranchdwReferenceIdeal (hBranchdwKernelIdeal := hBranchdwKernelIdeal) (hBranchdwReferenceIdeal := hBranchdwReferenceIdeal)
    ∧ preserves_QueriesdwKernel_QueriesdwKernelIdeal
    ∧ algebraic_QueriesdwKernelIdeal_QueriesdwReferenceIdeal (hQueriesdwKernelIdeal := hQueriesdwKernelIdeal) (hQueriesdwReferenceIdeal := hQueriesdwReferenceIdeal)
    ∧ preserves_QueriesdxKernel_QueriesdxKernelIdeal
    ∧ algebraic_QueriesdxKernelIdeal_QueriesdxReferenceIdeal (hQueriesdxKernelIdeal := hQueriesdxKernelIdeal) (hQueriesdxReferenceIdeal := hQueriesdxReferenceIdeal)
    ∧ preserves_BranchdxKernel_BranchdxKernelIdeal
    ∧ algebraic_BranchdxKernelIdeal_BranchdxReferenceIdeal (hBranchdxKernelIdeal := hBranchdxKernelIdeal) (hBranchdxReferenceIdeal := hBranchdxReferenceIdeal)
    ∧ preserves_GatedwKernel_GatedwKernelIdeal
    ∧ algebraic_GatedwKernelIdeal_GatedwReferenceIdeal (hGatedwKernelIdeal := hGatedwKernelIdeal) (hGatedwReferenceIdeal := hGatedwReferenceIdeal)
    ∧ preserves_GatedxKernel_GatedxKernelIdeal
    ∧ algebraic_GatedxKernelIdeal_GatedxReferenceIdeal (hGatedxKernelIdeal := hGatedxKernelIdeal) (hGatedxReferenceIdeal := hGatedxReferenceIdeal)
    ∧ preserves_IndxKernel_IndxKernelIdeal
    ∧ algebraic_IndxKernelIdeal_IndxReferenceIdeal (hIndxKernelIdeal := hIndxKernelIdeal) (hIndxReferenceIdeal := hIndxReferenceIdeal)
    ∧ preserves_AdamKernel_AdamKernelIdeal
    ∧ algebraic_AdamKernelIdeal_AdamReferenceIdeal (hAdamKernelIdeal := hAdamKernelIdeal) (hAdamReferenceIdeal := hAdamReferenceIdeal) (hPre_chip_in_range := hPre_chip_in_range)
-- ==== Pre_all_but_gate_finite.lean ====
abbrev S2048x2048 : Shape := ⟨2, ![2048, 2048]⟩
abbrev S5632x2048 : Shape := ⟨2, ![5632, 2048]⟩
abbrev S2048x5632 : Shape := ⟨2, ![2048, 5632]⟩
abbrev S13312x2048 : Shape := ⟨2, ![13312, 2048]⟩
abbrev S_ : Shape := ⟨0, ![]⟩

class Facts : Prop where
  transposes_S2048x5632_S5632x2048_1_0 : S2048x5632.Transposes [1, 0] S5632x2048
  concatenates_S2048x2048_S5632x2048_S5632x2048_S13312x2048_d0 : Shape.Concatenates [S2048x2048, S5632x2048, S5632x2048] S13312x2048 0
  bcast_S_S13312x2048 : S_.BroadcastsInDim S13312x2048 (![] : Fin 0 → Fin S13312x2048.rank)

variable [Facts]

def fn {F : FTy → Type} [FloatOps F] (main_arg0 : FVec F S2048x2048 .f32) (main_arg1 : FVec F S5632x2048 .f32) (main_arg2 : FVec F S2048x5632 .f32) (main_arg3 : FVec F S2048x5632 .f32) : IVec S13312x2048 1 :=
  let main_v0 : FVec F S5632x2048 .f32 := (transpose S5632x2048 [1, 0] · transposes_S2048x5632_S5632x2048_1_0) main_arg3
  let main_v1 : FVec F S13312x2048 .f32 := concatenate S13312x2048 0 [⟨S2048x2048, main_arg0⟩, ⟨S5632x2048, main_arg1⟩, ⟨S5632x2048, main_v0⟩] concatenates_S2048x2048_S5632x2048_S5632x2048_S13312x2048_d0
  let main_v2 : FVec F S13312x2048 .f32 := Host.absf main_v1
  let main_cst : FVec F S_ .f32 := constant S_ .f32 0x7F800000#32
  let main_v3 : FVec F S13312x2048 .f32 := broadcastInDim S13312x2048 ![] bcast_S_S13312x2048 main_cst
  let main_v4 : IVec S13312x2048 1 := cmpf .olt main_v2 main_v3
  main_v4
-- ==== Pre_chip_in_range.lean ====
abbrev S4x704x2048 : Shape := ⟨3, ![4, 704, 2048]⟩
abbrev S3x704x2048 : Shape := ⟨3, ![3, 704, 2048]⟩
abbrev S704x2048 : Shape := ⟨2, ![704, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x2048 .f32) (main_arg1 : FVec F S3x704x2048 .f32) (main_arg2 : FVec F S704x2048 .f32) (main_arg3 : FVec F S704x2048 .f32) (main_arg4 : FVec F S704x2048 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_queries_and_keys_finite.lean ====
abbrev S1x2048x8x192 : Shape := ⟨4, ![1, 2048, 8, 192]⟩
abbrev S1x2048x8x128 : Shape := ⟨4, ![1, 2048, 8, 128]⟩
abbrev S1x2048x1024 : Shape := ⟨3, ![1, 2048, 1024]⟩
abbrev S_ : Shape := ⟨0, ![]⟩

class Facts : Prop where
  bcast_S_S1x2048x8x192 : S_.BroadcastsInDim S1x2048x8x192 (![] : Fin 0 → Fin S1x2048x8x192.rank)

variable [Facts]

def fn {F : FTy → Type} [FloatOps F] (main_arg0 : FVec F S1x2048x8x192 .f32) (main_arg1 : FVec F S1x2048x8x192 .f32) (main_arg2 : FVec F S1x2048x8x128 .f32) (main_arg3 : FVec F S1x2048x1024 .f32) : IVec S1x2048x8x192 1 :=
  let main_v0 : FVec F S1x2048x8x192 .f32 := Host.absf main_arg0
  let main_cst : FVec F S_ .f32 := constant S_ .f32 0x7F800000#32
  let main_v1 : FVec F S1x2048x8x192 .f32 := broadcastInDim S1x2048x8x192 ![] bcast_S_S1x2048x8x192 main_cst
  let main_v2 : IVec S1x2048x8x192 1 := cmpf .olt main_v0 main_v1
  let main_v3 : FVec F S1x2048x8x192 .f32 := Host.absf main_arg1
  let main_cst_0 : FVec F S_ .f32 := constant S_ .f32 0x7F800000#32
  let main_v4 : FVec F S1x2048x8x192 .f32 := broadcastInDim S1x2048x8x192 ![] bcast_S_S1x2048x8x192 main_cst_0
  let main_v5 : IVec S1x2048x8x192 1 := cmpf .olt main_v3 main_v4
  let main_v6 : IVec S1x2048x8x192 1 := andi main_v2 main_v5
  main_v6
-- ==== GateKernel.lean ====
abbrev S2048x2048 : Shape := ⟨2, ![2048, 2048]⟩
abbrev S256x2048 : Shape := ⟨2, ![256, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MlaKernel.lean ====
abbrev S1x2048x8x192 : Shape := ⟨4, ![1, 2048, 8, 192]⟩
abbrev S1x2048x8x128 : Shape := ⟨4, ![1, 2048, 8, 128]⟩
abbrev S1x2048x1024 : Shape := ⟨3, ![1, 2048, 1024]⟩
abbrev S2048x8x192 : Shape := ⟨3, ![2048, 8, 192]⟩
abbrev S8x2048x192 : Shape := ⟨3, ![8, 2048, 192]⟩
abbrev S2048x8x128 : Shape := ⟨3, ![2048, 8, 128]⟩
abbrev S8x2048x128 : Shape := ⟨3, ![8, 2048, 128]⟩
abbrev S2048x1024 : Shape := ⟨2, ![2048, 1024]⟩
abbrev S1x1024x192 : Shape := ⟨3, ![1, 1024, 192]⟩
abbrev S1x2048x192 : Shape := ⟨3, ![1, 2048, 192]⟩
abbrev S1x2048x128 : Shape := ⟨3, ![1, 2048, 128]⟩
abbrev S1024x128 : Shape := ⟨2, ![1024, 128]⟩
abbrev S1024x192 : Shape := ⟨2, ![1024, 192]⟩
abbrev S2048x192 : Shape := ⟨2, ![2048, 192]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S1x2048x8x192, .f32⟩
  | .hbm, ⟨1, _⟩ => ⟨S1x2048x8x192, .f32⟩
  | .hbm, ⟨2, _⟩ => ⟨S1x2048x8x128, .f32⟩
  | .hbm, ⟨3, _⟩ => ⟨S1x2048x1024, .f32⟩
  | .hbm, ⟨4, _⟩ => ⟨S2048x8x192, .f32⟩
  | .hbm, ⟨5, _⟩ => ⟨S8x2048x192, .f32⟩
  | .hbm, ⟨6, _⟩ => ⟨S8x2048x192, .bf16⟩
  | .hbm, ⟨7, _⟩ => ⟨S2048x8x192, .f32⟩
  | .hbm, ⟨8, _⟩ => ⟨S8x2048x192, .f32⟩
  | .hbm, ⟨9, _⟩ => ⟨S8x2048x192, .bf16⟩
  | .hbm, ⟨10, _⟩ => ⟨S2048x8x128, .f32⟩
  | .hbm, ⟨11, _⟩ => ⟨S8x2048x128, .f32⟩
  | .hbm, ⟨12, _⟩ => ⟨S8x2048x128, .bf16⟩
  | .hbm, ⟨13, _⟩ => ⟨S2048x1024, .f32⟩
  | .hbm, ⟨14, _⟩ => ⟨S2048x1024, .bf16⟩
  | .hbm, ⟨15, _⟩ => ⟨S8x2048x192, .f32⟩
  | .hbm, ⟨16, _⟩ => ⟨S8x2048x192, .f32⟩
  | .hbm, ⟨17, _⟩ => ⟨S8x2048x128, .f32⟩
  | .local _ .vmem, ⟨0, _⟩ => ⟨S1x1024x192, .bf16⟩
  | .local _ .vmem, ⟨1, _⟩ => ⟨S1x1024x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x192, .f32⟩
  | .local _ .vmem, ⟨9, _⟩ => ⟨S1x1024x192, .f32⟩
  | .local _ .vmem, ⟨10, _⟩ => ⟨S1x2048x192, .f32⟩
  | .local _ .vmem, ⟨11, _⟩ => ⟨S1x2048x192, .f32⟩
  | .local _ .vmem, ⟨12, _⟩ => ⟨S1x2048x128, .f32⟩
  | .local _ .vmem, ⟨13, _⟩ => ⟨S1x2048x128, .f32⟩
  | _, _ => ⟨S1x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_21 : BitVec 32 := 0#32
  let v37 : BitVec 1 := Scalar.cmpi .ne v36 c0_i32_21
  v37

def k0_cond2 (i : grid0.Coords) : BitVec 1 :=
  let arg1 : BitVec 32 := BitVec.ofNat 32 (i 1).val
  let c0_i32_22 : BitVec 32 := 0#32
  let v38 : BitVec 1 := Scalar.cmpi .sgt arg1 c0_i32_22
  let v39 : BitVec 32 := Scalar.extui v38
  let c0_i32_23 : BitVec 32 := 0#32
  let v40 : BitVec 1 := Scalar.cmpi .ne v39 c0_i32_23
  v40

def k0_cond3 (i : grid0.Coords) : BitVec 1 :=
  let arg1 : BitVec 32 := BitVec.ofNat 32 (i 1).val
  let c0_i32_25 : BitVec 32 := 0#32
  let v43 : BitVec 1 := Scalar.cmpi .eq arg1 c0_i32_25
  let v44 : BitVec 32 := Scalar.extui v43
  let c0_i32_26 : BitVec 32 := 0#32
  let v45 : BitVec 1 := Scalar.cmpi .ne v44 c0_i32_26
  v45

def k0_cond4 (i : grid0.Coords) : BitVec 1 :=
  let arg1 : BitVec 32 := BitVec.ofNat 32 (i 1).val
  let c0_i32_27 : BitVec 32 := 0#32
  let v46 : BitVec 1 := Scalar.cmpi .sgt arg1 c0_i32_27
  let v47 : BitVec 32 := Scalar.extui v46
  let c0_i32_28 : BitVec 32 := 0#32
  let v48 : BitVec 1 := Scalar.cmpi .ne v47 c0_i32_28
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlaReferenceIdeal.lean ====
abbrev S1x2048x8x192 : Shape := ⟨4, ![1, 2048, 8, 192]⟩
abbrev S1x2048x8x128 : Shape := ⟨4, ![1, 2048, 8, 128]⟩
abbrev S1x2048x1024 : Shape := ⟨3, ![1, 2048, 1024]⟩
abbrev S1x2048x8x64 : Shape := ⟨4, ![1, 2048, 8, 64]⟩
abbrev S1x8x2048x2048 : Shape := ⟨4, ![1, 8, 2048, 2048]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S8x2048 : Shape := ⟨2, ![8, 2048]⟩
abbrev S1x8x2048x64 : Shape := ⟨4, ![1, 8, 2048, 64]⟩
abbrev S1x8x2048x128 : Shape := ⟨4, ![1, 8, 2048, 128]⟩
abbrev S2048x8x192 : Shape := ⟨3, ![2048, 8, 192]⟩
abbrev S8x2048x192 : Shape := ⟨3, ![8, 2048, 192]⟩
abbrev S2048x8x128 : Shape := ⟨3, ![2048, 8, 128]⟩
abbrev S8x2048x128 : Shape := ⟨3, ![8, 2048, 128]⟩

abbrev nBuf : Space → Nat
  | .hbm => 102
  | .vmem => 0
  | .smem => 0
  | _ => 0

abbrev bufTy : (tb : Table) → Fin (tcTables nBuf tb) → BufTy
  | .hbm, ⟨0, _⟩ => ⟨S1x2048x8x192, .f32⟩
  | .hbm, ⟨1, _⟩ => ⟨S1x2048x8x192, .f32⟩
  | .hbm, ⟨2, _⟩ => ⟨S1x2048x8x128, .f32⟩
  | .hbm, ⟨3, _⟩ => ⟨S1x2048x1024, .f32⟩
  | .hbm, ⟨4, _⟩ => ⟨S1x2048x8x128, .f32⟩
  | .hbm, ⟨5, _⟩ => ⟨S1x2048x8x64, .f32⟩
  | .hbm, ⟨6, _⟩ => ⟨S1x2048x8x128, .f32⟩
  | .hbm, ⟨7, _⟩ => ⟨S1x2048x8x64, .f32⟩
  | .hbm, ⟨8, _⟩ => ⟨S1x8x2048x2048, .f32⟩
  | .hbm, ⟨9, _⟩ => ⟨S1x8x2048x2048, .f32⟩
  | .hbm, ⟨10, _⟩ => ⟨S1x8x2048x2048, .f32⟩
  | .hbm, ⟨11, _⟩ => ⟨S_, .f32⟩
  | .hbm, ⟨12, _⟩ => ⟨S1x8x2048x2048, .f32⟩
  | .hbm, ⟨13, _⟩ => ⟨S1x8x2048x2048, .f32⟩
  | .hbm, ⟨14, _⟩ => ⟨S_, .f32⟩
  | .hbm, ⟨15, _⟩ => ⟨S1x8x2048, .f32⟩
  | .hbm, ⟨16, _⟩ => ⟨S1x8x2048x1, .f32⟩
  | .hbm, ⟨17, _⟩ => ⟨S1x8x2048x2048, .f32⟩
  | .hbm, ⟨18, _⟩ => ⟨S1x8x2048x2048, .i1⟩
  | .hbm, ⟨19, _⟩ => ⟨S1x8x2048x2048, .f32⟩
  | .hbm, ⟨20, _⟩ => ⟨S_, .f32⟩
  | .hbm, ⟨21, _⟩ => ⟨S1x8x2048, .f32⟩
  | .hbm, ⟨22, _⟩ => ⟨S_, .f32⟩
  | .hbm, ⟨23, _⟩ => ⟨S1x8x2048, .f32⟩
  | .hbm, ⟨24, _⟩ => ⟨S1x8x2048, .f32⟩
  | .hbm, ⟨25, _⟩ => ⟨S_, .f32⟩
  | .hbm, ⟨26, _⟩ => ⟨S1x8x2048, .f32⟩
  | .hbm, ⟨27, _⟩ => ⟨S1x8x2048, .i1⟩
  | .hbm, ⟨28, _⟩ => ⟨S_, .f32⟩
  | .hbm, ⟨29, _⟩ => ⟨S1x8x2048, .f32⟩
  | .hbm, ⟨30, _⟩ => ⟨S1x8x2048, .i1⟩
  | .hbm, ⟨31, _⟩ => ⟨S_, .f32⟩
  | .hbm, ⟨32, _⟩ => ⟨S1x8x2048, .f32⟩
  | .hbm, ⟨33, _⟩ => ⟨S_, .f32⟩
  | .hbm, ⟨34, _⟩ => ⟨S1x8x2048, .f32⟩
  | .hbm, ⟨35, _⟩ => ⟨S_, .f32⟩
  | .hbm, ⟨36, _⟩ => ⟨S1x8x2048, .f32⟩
  | .hbm, ⟨37, _⟩ => ⟨S1x8x2048, .f32⟩
  | .hbm, ⟨38, _⟩ => ⟨S1x8x2048, .f32⟩
  | .hbm, ⟨39, _⟩ => ⟨S1x8x2048x1, .f32⟩
  | .hbm, ⟨40, _⟩ => ⟨S1x8x2048x2048, .f32⟩
  | .hbm, ⟨41, _⟩ => ⟨S1x8x2048x2048, .f32⟩
  | .hbm, ⟨42, _⟩ => ⟨S1x8x2048x2048, .f32⟩
  | .hbm, ⟨43, _⟩ => ⟨S_, .f32⟩
  | .hbm, ⟨44, _⟩ => ⟨S1x8x2048, .f32⟩
  | .hbm, ⟨45, _⟩ => ⟨S1x8x2048x1, .f32⟩
  | .hbm, ⟨46, _⟩ => ⟨S1x8x2048x2048, .f32⟩
  | .hbm, ⟨47, _⟩ => ⟨S1x8x2048x2048, .f32⟩
  | .hbm, ⟨48, _⟩ => ⟨S1x8x2048x1, .f32⟩
  | .hbm, ⟨49, _⟩ => ⟨S_, .f32⟩
  | .hbm, ⟨50, _⟩ => ⟨S1x8x2048x1, .f32⟩
  | .hbm, ⟨51, _⟩ => ⟨S1x8x2048x1, .f32⟩
  | .hbm, ⟨52, _⟩ => ⟨S1x8x128x2048, .f32⟩
  | .hbm, ⟨53, _⟩ => ⟨S1x2048x8x128, .f32⟩
  | .hbm, ⟨54, _⟩ => ⟨S1x2048x1024, .f32⟩
  | .hbm, ⟨55, _⟩ => ⟨S1x2048x8x128, .f32⟩
  | .hbm, ⟨56, _⟩ => ⟨S1x8x128x2048, .f32⟩
  | .hbm, ⟨57, _⟩ => ⟨S1x8x2048x2048, .f32⟩
  | .hbm, ⟨58, _⟩ => ⟨S1x8x128x2048, .f32⟩
  | .hbm, ⟨59, _⟩ => ⟨S1x2048x8x128, .f32⟩
  | .hbm, ⟨60, _⟩ => ⟨S1x8x2048x2048, .f32⟩
  | .hbm, ⟨61, _⟩ => ⟨S1x8x2048x2048, .f32⟩
  | .hbm, ⟨62, _⟩ => ⟨S1x8x2048x2048, .f32⟩
  | .hbm, ⟨63, _⟩ => ⟨S_, .f32⟩
  | .hbm, ⟨64, _⟩ => ⟨S1x8x2048, .f32⟩
  | .hbm, ⟨65, _⟩ => ⟨S1x8x2048x1, .f32⟩
  | .hbm, ⟨66, _⟩ => ⟨S1x8x2048x1, .f32⟩
  | .hbm, ⟨67, _⟩ => ⟨S1x8x2048x2048, .f32⟩
  | .hbm, ⟨68, _⟩ => ⟨S1x8x2048x2048, .f32⟩
  | .hbm, ⟨69, _⟩ => ⟨S_, .f32⟩
  | .hbm, ⟨70, _⟩ => ⟨S8x2048, .f32⟩
  | .hbm, ⟨71, _⟩ => ⟨S1x8x2048, .f32⟩
  | .hbm, ⟨72, _⟩ => ⟨S1x8x2048x2048, .f32⟩
  | .hbm, ⟨73, _⟩ => ⟨S1x8x2048x2048, .f32⟩
  | .hbm, ⟨74, _⟩ => ⟨S1x8x2048x2048, .f32⟩
  | .hbm, ⟨75, _⟩ => ⟨S_, .f32⟩
  | .hbm, ⟨76, _⟩ => ⟨S1x8x2048x2048, .f32⟩
  | .hbm, ⟨77, _⟩ => ⟨S1x8x2048x2048, .f32⟩
  | .hbm, ⟨78, _⟩ => ⟨S1x8x2048x64, .f32⟩
  | .hbm, ⟨79, _⟩ => ⟨S1x2048x8x64, .f32⟩
  | .hbm, ⟨80, _⟩ => ⟨S1x8x2048x64, .f32⟩
  | .hbm, ⟨81, _⟩ => ⟨S1x2048x8x64, .f32⟩
  | .hbm, ⟨82, _⟩ => ⟨S1x8x2048x128, .f32⟩
  | .hbm, ⟨83, _⟩ => ⟨S1x2048x8x128, .f32⟩
  | .hbm, ⟨84, _⟩ => ⟨S1x8x2048x128, .f32⟩
  | .hbm, ⟨85, _⟩ => ⟨S1x2048x8x128, .f32⟩
  | .hbm, ⟨86, _⟩ => ⟨S_, .f32⟩
  | .hbm, ⟨87, _⟩ => ⟨S1x2048x8x192, .f32⟩
  | .hbm, ⟨88, _⟩ => ⟨S_, .f32⟩
  | .hbm, ⟨89, _⟩ => ⟨S1x2048x8x192, .f32⟩
  | .hbm, ⟨90, _⟩ => ⟨S1x2048x8x192, .f32⟩
  | .hbm, ⟨91, _⟩ => ⟨S_, .f32⟩
  | .hbm, ⟨92, _⟩ => ⟨S1x2048x8x192, .f32⟩
  | .hbm, ⟨93, _⟩ => ⟨S_, .f32⟩
  | .hbm, ⟨94, _⟩ => ⟨S1x2048x8x192, .f32⟩
  | .hbm, ⟨95, _⟩ => ⟨S1x2048x8x192, .f32⟩
  | .hbm, ⟨96, _⟩ => ⟨S2048x8x192, .f32⟩
  | .hbm, ⟨97, _⟩ => ⟨S8x2048x192, .f32⟩
  | .hbm, ⟨98, _⟩ => ⟨S2048x8x192, .f32⟩
  | .hbm, ⟨99, _⟩ => ⟨S8x2048x192, .f32⟩
  | .hbm, ⟨100, _⟩ => ⟨S2048x8x128, .f32⟩
  | .hbm, ⟨101, _⟩ => ⟨S8x2048x128, .f32⟩
  | _, _ => ⟨S1x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== NaKernel.lean ====
abbrev S1x2048x1024 : Shape := ⟨3, ![1, 2048, 1024]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S2048x1024 : Shape := ⟨2, ![2048, 1024]⟩
abbrev S2048x3072 : Shape := ⟨2, ![2048, 3072]⟩
abbrev S256x512 : Shape := ⟨2, ![256, 512]⟩
abbrev S2048x512 : Shape := ⟨2, ![2048, 512]⟩
abbrev S4x15x64x64 : Shape := ⟨4, ![4, 15, 64, 64]⟩
abbrev S4x256x704 : Shape := ⟨3, ![4, 256, 704]⟩
abbrev S1x1x64x64 : Shape := ⟨4, ![1, 1, 64, 64]⟩
abbrev S1x64x64 : Shape := ⟨3, ![1, 64, 64]⟩
abbrev S256x128 : Shape := ⟨2, ![256, 128]⟩
abbrev S704x128 : Shape := ⟨2, ![704, 128]⟩
abbrev S1x256x704 : Shape := ⟨3, ![1, 256, 704]⟩
abbrev S256x704 : Shape := ⟨2, ![256, 704]⟩
abbrev S256 : Shape := ⟨1, ![256]⟩
abbrev S256x1 : Shape := ⟨2, ![256, 1]⟩

abbrev nBuf : Space → Nat
  | .hbm => 72
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S8x15x31, .f32⟩
  | .hbm, ⟨4, _⟩ => ⟨S1x2048x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S1x64, .i32⟩
  | .hbm, ⟨18, _⟩ => ⟨S64x1, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S1x64, .i32⟩
  | .hbm, ⟨23, _⟩ => ⟨S64x1, .i32⟩
  | .hbm, ⟨24, _⟩ => ⟨S_, .i32⟩
  | .hbm, ⟨25, _⟩ => ⟨S64x1, .i32⟩
  | .hbm, ⟨26, _⟩ => ⟨S64x1, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x64, .i1⟩
  | .hbm, ⟨31, _⟩ => ⟨S1x64, .i32⟩
  | .hbm, ⟨32, _⟩ => ⟨S64x1, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i1⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64x1, .i32⟩
  | .hbm, ⟨55, _⟩ => ⟨S8x15x64x64, .f32⟩
  | .hbm, ⟨56, _⟩ => ⟨S_, .f32⟩
  | .hbm, ⟨57, _⟩ => ⟨S_, .f32⟩
  | .hbm, ⟨58, _⟩ => ⟨S8x15x64x64, .i1⟩
  | .hbm, ⟨59, _⟩ => ⟨S8x15x64x64, .f32⟩
  | .hbm, ⟨60, _⟩ => ⟨S8x15x64x64, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x3072, .f32⟩
  | .hbm, ⟨65, _⟩ => ⟨S2048x3072, .bf16⟩
  | .hbm, ⟨66, _⟩ => ⟨S2048x1024, .f32⟩
  | .hbm, ⟨67, _⟩ => ⟨S2048x1024, .bf16⟩
  | .hbm, ⟨68, _⟩ => ⟨S2048x1024, .bf16⟩
  | .hbm, ⟨69, _⟩ => ⟨S2048x1024, .f32⟩
  | .hbm, ⟨70, _⟩ => ⟨S2048x1024, .f32⟩
  | .hbm, ⟨71, _⟩ => ⟨S8x15x64x64, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S4x15x64x64, .f32⟩
  | .local _ .vmem, ⟨7, _⟩ => ⟨S4x15x64x64, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S4x15x64x64, .f32⟩
  | .local _ .vmem, ⟨17, _⟩ => ⟨S4x15x64x64, .f32⟩
  | .local _ .vmem, ⟨18, _⟩ => ⟨S4x256x704, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40_0 : Ref sig .tc := ⟨.hbm, 68, rfl⟩
abbrev main_v40_1 : Ref sig .tc := ⟨.hbm, 69, rfl⟩
abbrev main_v40_2 : Ref sig .tc := ⟨.hbm, 70, rfl⟩
abbrev main_v40_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let c1_i32 : BitVec 32 := 1#32
  let v4 : BitVec 1 := Scalar.cmpi .eq arg1 c1_i32
  let v6 : BitVec 1 := Scalar.ori v3 v4
  let c7_i32 : BitVec 32 := 7#32
  let v5 : BitVec 1 := Scalar.cmpi .eq arg1 c7_i32
  let v7 : BitVec 1 := Scalar.ori v6 v5
  let v8 : BitVec 32 := Scalar.extui v7
  let c0_i32_2 : BitVec 32 := 0#32
  let v9 : BitVec 1 := Scalar.cmpi .ne v8 c0_i32_2
  v9

def k0_off1 (i : grid0.Coords) (c0_i32_608 : BitVec 32) (c0_i32_609 : BitVec 32) : Fin 4 → Nat :=
  let c0_614 : Index := 0#32
  let c14_i32_613 : BitVec 32 := 14#32
  let c0_i32_612 : BitVec 32 := 0#32
  let c21_i32_601 : BitVec 32 := 21#32
  let c0_i32_600 : BitVec 32 := 0#32
  let arg1 : BitVec 32 := BitVec.ofNat 32 (i 1).val
  let c4_i32_598 : BitVec 32 := 4#32
  let v1149 : BitVec 32 := Scalar.muli arg1 c4_i32_598
  let c4_i32_599 : BitVec 32 := 4#32
  let v1150 : BitVec 32 := Scalar.subi v1149 c4_i32_599
  let v1151 : BitVec 32 := Scalar.maxsi c0_i32_600 v1150
  let v1152 : BitVec 32 := Scalar.minsi c21_i32_601 v1151
  let v1163 : BitVec 32 := Scalar.addi v1152 c0_i32_608
  let c4_i32_597 : BitVec 32 := 4#32
  let v1148 : BitVec 32 := Scalar.muli arg1 c4_i32_597
  let v1164 : BitVec 32 := Scalar.subi v1163 v1148
  let v1165 : BitVec 32 := Scalar.subi v1164 c0_i32_609
  let c8_i32_610 : BitVec 32 := 8#32
  let v1166 : BitVec 32 := Scalar.addi v1165 c8_i32_610
  let c1_i32_611 : BitVec 32 := 1#32
  let v1167 : BitVec 32 := Scalar.subi v1166 c1_i32_611
  let v1168 : BitVec 32 := Scalar.maxsi c0_i32_612 v1167
  let v1169 : BitVec 32 := Scalar.minsi c14_i32_613 v1168
  let v1170 : Index := Scalar.indexCast v1169
  let c0_615 : Index := 0#32
  let c0_616 : Index := 0#32
  ![0, v1170.toNat, 0, 0]
def k0_off2 (i : grid0.Coords) (c0_i32_608 : BitVec 32) (c0_i32_609 : BitVec 32) : Fin 4 → Nat :=
  let c1_621 : Index := 1#32
  let c14_i32_613 : BitVec 32 := 14#32
  let c0_i32_612 : BitVec 32 := 0#32
  let c21_i32_601 : BitVec 32 := 21#32
  let c0_i32_600 : BitVec 32 := 0#32
  let arg1 : BitVec 32 := BitVec.ofNat 32 (i 1).val
  let c4_i32_598 : BitVec 32 := 4#32
  let v1149 : BitVec 32 := Scalar.muli arg1 c4_i32_598
  let c4_i32_599 : BitVec 32 := 4#32
  let v1150 : BitVec 32 := Scalar.subi v1149 c4_i32_599
  let v1151 : BitVec 32 := Scalar.maxsi c0_i32_600 v1150
  let v1152 : BitVec 32 := Scalar.minsi c21_i32_601 v1151
  let v1163 : BitVec 32 := Scalar.addi v1152 c0_i32_608
  let c4_i32_597 : BitVec 32 := 4#32
  let v1148 : BitVec 32 := Scalar.muli arg1 c4_i32_597
  let v1164 : BitVec 32 := Scalar.subi v1163 v1148
  let v1165 : BitVec 32 := Scalar.subi v1164 c0_i32_609
  let c8_i32_610 : BitVec 32 := 8#32
  let v1166 : BitVec 32 := Scalar.addi v1165 c8_i32_610
  let c1_i32_611 : BitVec 32 := 1#32
  let v1167 : BitVec 32 := Scalar.subi v1166 c1_i32_611
  let v1168 : BitVec 32 := Scalar.maxsi c0_i32_612 v1167
  let v1169 : BitVec 32 := Scalar.minsi c14_i32_613 v1168
  let v1178 : Index := Scalar.indexCast v1169
  let c0_622 : Index := 0#32
  let c0_623 : Index := 0#32
  ![1, v1178.toNat, 0, 0]
def k0_off3 (i : grid0.Coords) (c0_i32_608 : BitVec 32) (c0_i32_609 : BitVec 32) : Fin 4 → Nat :=
  let c2_628 : Index := 2#32
  let c14_i32_613 : BitVec 32 := 14#32
  let c0_i32_612 : BitVec 32 := 0#32
  let c21_i32_601 : BitVec 32 := 21#32
  let c0_i32_600 : BitVec 32 := 0#32
  let arg1 : BitVec 32 := BitVec.ofNat 32 (i 1).val
  let c4_i32_598 : BitVec 32 := 4#32
  let v1149 : BitVec 32 := Scalar.muli arg1 c4_i32_598
  let c4_i32_599 : BitVec 32 := 4#32
  let v1150 : BitVec 32 := Scalar.subi v1149 c4_i32_599
  let v1151 : BitVec 32 := Scalar.maxsi c0_i32_600 v1150
  let v1152 : BitVec 32 := Scalar.minsi c21_i32_601 v1151
  let v1163 : BitVec 32 := Scalar.addi v1152 c0_i32_608
  let c4_i32_597 : BitVec 32 := 4#32
  let v1148 : BitVec 32 := Scalar.muli arg1 c4_i32_597
  let v1164 : BitVec 32 := Scalar.subi v1163 v1148
  let v1165 : BitVec 32 := Scalar.subi v1164 c0_i32_609
  let c8_i32_610 : BitVec 32 := 8#32
  let v1166 : BitVec 32 := Scalar.addi v1165 c8_i32_610
  let c1_i32_611 : BitVec 32 := 1#32
  let v1167 : BitVec 32 := Scalar.subi v1166 c1_i32_611
  let v1168 : BitVec 32 := Scalar.maxsi c0_i32_612 v1167
  let v1169 : BitVec 32 := Scalar.minsi c14_i32_613 v1168
  let v1186 : Index := Scalar.indexCast v1169
  let c0_629 : Index := 0#32
  let c0_630 : Index := 0#32
  ![2, v1186.toNat, 0, 0]
def k0_off4 (i : grid0.Coords) (c0_i32_608 : BitVec 32) (c0_i32_609 : BitVec 32) : Fin 4 → Nat :=
  let c3_635 : Index := 3#32
  let c14_i32_613 : BitVec 32 := 14#32
  let c0_i32_612 : BitVec 32 := 0#32
  let c21_i32_601 : BitVec 32 := 21#32
  let c0_i32_600 : BitVec 32 := 0#32
  let arg1 : BitVec 32 := BitVec.ofNat 32 (i 1).val
  let c4_i32_598 : BitVec 32 := 4#32
  let v1149 : BitVec 32 := Scalar.muli arg1 c4_i32_598
  let c4_i32_599 : BitVec 32 := 4#32
  let v1150 : BitVec 32 := Scalar.subi v1149 c4_i32_599
  let v1151 : BitVec 32 := Scalar.maxsi c0_i32_600 v1150
  let v1152 : BitVec 32 := Scalar.minsi c21_i32_601 v1151
  let v1163 : BitVec 32 := Scalar.addi v1152 c0_i32_608
  let c4_i32_597 : BitVec 32 := 4#32
  let v1148 : BitVec 32 := Scalar.muli arg1 c4_i32_597
  let v1164 : BitVec 32 := Scalar.subi v1163 v1148
  let v1165 : BitVec 32 := Scalar.subi v1164 c0_i32_609
  let c8_i32_610 : BitVec 32 := 8#32
  let v1166 : BitVec 32 := Scalar.addi v1165 c8_i32_610
  let c1_i32_611 : BitVec 32 := 1#32
  let v1167 : BitVec 32 := Scalar.subi v1166 c1_i32_611
  let v1168 : BitVec 32 := Scalar.maxsi c0_i32_612 v1167
  let v1169 : BitVec 32 := Scalar.minsi c14_i32_613 v1168
  let v1194 : Index := Scalar.indexCast v1169
  let c0_636 : Index := 0#32
  let c0_637 : Index := 0#32
  ![3, v1194.toNat, 0, 0]
def k0_mult1 (i : grid0.Coords) : BitVec 32 :=
  let c21_i32 : BitVec 32 := 21#32
  let c0_i32_4 : BitVec 32 := 0#32
  let arg1 : BitVec 32 := BitVec.ofNat 32 (i 1).val
  let c4_i32 : BitVec 32 := 4#32
  let v10 : BitVec 32 := Scalar.muli arg1 c4_i32
  let c4_i32_3 : BitVec 32 := 4#32
  let v11 : BitVec 32 := Scalar.subi v10 c4_i32_3
  let v12 : BitVec 32 := Scalar.maxsi c0_i32_4 v11
  let v13 : BitVec 32 := Scalar.minsi c21_i32 v12
  let c64_i32 : BitVec 32 := 64#32
  let v14 : BitVec 32 := Scalar.muli v13 c64_i32
  v14
def k0_off5 (i : grid0.Coords) : Fin 2 → Nat :=
  let c21_i32 : BitVec 32 := 21#32
  let c0_i32_4 : BitVec 32 := 0#32
  let arg1 : BitVec 32 := BitVec.ofNat 32 (i 1).val
  let c4_i32 : BitVec 32 := 4#32
  let v10 : BitVec 32 := Scalar.muli arg1 c4_i32
  let c4_i32_3 : BitVec 32 := 4#32
  let v11 : BitVec 32 := Scalar.subi v10 c4_i32_3
  let v12 : BitVec 32 := Scalar.maxsi c0_i32_4 v11
  let v13 : BitVec 32 := Scalar.minsi c21_i32 v12
  let c64_i32 : BitVec 32 := 64#32
  let v14 : BitVec 32 := Scalar.muli v13 c64_i32
  let v15 : BitVec 32 := v14
  let v26 : Index := Scalar.indexCast v15
  let c0_12 : Index := 0#32
  ![v26.toNat, 0]
def k0_off6 (i : grid0.Coords) (c_m3_i32 : BitVec 32) : Fin 4 → Nat :=
  let c0_25 : Index := 0#32
  let c14_i32 : BitVec 32 := 14#32
  let c0_i32_24 : BitVec 32 := 0#32
  let c21_i32_8 : BitVec 32 := 21#32
  let c0_i32_7 : BitVec 32 := 0#32
  let arg1 : BitVec 32 := BitVec.ofNat 32 (i 1).val
  let c4_i32_5 : BitVec 32 := 4#32
  let v16 : BitVec 32 := Scalar.muli arg1 c4_i32_5
  let c4_i32_6 : BitVec 32 := 4#32
  let v17 : BitVec 32 := Scalar.subi v16 c4_i32_6
  let v18 : BitVec 32 := Scalar.maxsi c0_i32_7 v17
  let v19 : BitVec 32 := Scalar.minsi c21_i32_8 v18
  let c4_i32_9 : BitVec 32 := 4#32
  let v20 : BitVec 32 := Scalar.muli arg1 c4_i32_9
  let v21 : BitVec 32 := Scalar.subi v19 v20
  let c8_i32 : BitVec 32 := 8#32
  let v22 : BitVec 32 := Scalar.addi v21 c8_i32
  let c1_i32_10 : BitVec 32 := 1#32
  let v23 : BitVec 32 := Scalar.subi v22 c1_i32_10
  let v57 : BitVec 32 := Scalar.addi v23 c_m3_i32
  let v58 : BitVec 32 := Scalar.maxsi c0_i32_24 v57
  let v59 : BitVec 32 := Scalar.minsi c14_i32 v58
  let v60 : Index := Scalar.indexCast v59
  let c0_26 : Index := 0#32
  let c0_27 : Index := 0#32
  ![0, v60.toNat, 0, 0]
def k0_off6_at (r : Fin 14) : BitVec 32 :=
  if r.val < 7 then
    if r.val < 3 then
      if r.val < 1 then
        4294967293#32
      else
        if r.val < 2 then
          4294967294#32
        else
          4294967295#32
    else
      if r.val < 5 then
        if r.val < 4 then
          0#32
        else
          1#32
      else
        if r.val < 6 then
          2#32
        else
          3#32
  else
    if r.val < 10 then
      if r.val < 8 then
        4#32
      else
        if r.val < 9 then
          5#32
        else
          6#32
    else
      if r.val < 12 then
        if r.val < 11 then
          7#32
        else
          8#32
      else
        if r.val < 13 then
          9#32
        else
          10#32
def k0_off7 (i : grid0.Coords) : Fin 2 → Nat :=
  let c21_i32 : BitVec 32 := 21#32
  let c0_i32_4 : BitVec 32 := 0#32
  let arg1 : BitVec 32 := BitVec.ofNat 32 (i 1).val
  let c4_i32 : BitVec 32 := 4#32
  let v10 : BitVec 32 := Scalar.muli arg1 c4_i32
  let c4_i32_3 : BitVec 32 := 4#32
  let v11 : BitVec 32 := Scalar.subi v10 c4_i32_3
  let v12 : BitVec 32 := Scalar.maxsi c0_i32_4 v11
  let v13 : BitVec 32 := Scalar.minsi c21_i32 v12
  let c64_i32 : BitVec 32 := 64#32
  let v14 : BitVec 32 := Scalar.muli v13 c64_i32
  let v15 : BitVec 32 := v14
  let v307 : Index := Scalar.indexCast v15
  let c128_151 : Index := 128#32
  ![v307.toNat, 128]
def k0_off8 (i : grid0.Coords) (c_m3_i32_163 : BitVec 32) : Fin 4 → Nat :=
  let c1_166 : Index := 1#32
  let c14_i32_165 : BitVec 32 := 14#32
  let c0_i32_164 : BitVec 32 := 0#32
  let c21_i32_8 : BitVec 32 := 21#32
  let c0_i32_7 : BitVec 32 := 0#32
  let arg1 : BitVec 32 := BitVec.ofNat 32 (i 1).val
  let c4_i32_5 : BitVec 32 := 4#32
  let v16 : BitVec 32 := Scalar.muli arg1 c4_i32_5
  let c4_i32_6 : BitVec 32 := 4#32
  let v17 : BitVec 32 := Scalar.subi v16 c4_i32_6
  let v18 : BitVec 32 := Scalar.maxsi c0_i32_7 v17
  let v19 : BitVec 32 := Scalar.minsi c21_i32_8 v18
  let c4_i32_9 : BitVec 32 := 4#32
  let v20 : BitVec 32 := Scalar.muli arg1 c4_i32_9
  let v21 : BitVec 32 := Scalar.subi v19 v20
  let c8_i32 : BitVec 32 := 8#32
  let v22 : BitVec 32 := Scalar.addi v21 c8_i32
  let c1_i32_10 : BitVec 32 := 1#32
  let v23 : BitVec 32 := Scalar.subi v22 c1_i32_10
  let v338 : BitVec 32 := Scalar.addi v23 c_m3_i32_163
  let v339 : BitVec 32 := Scalar.maxsi c0_i32_164 v338
  let v340 : BitVec 32 := Scalar.minsi c14_i32_165 v339
  let v341 : Index := Scalar.indexCast v340
  let c0_167 : Index := 0#32
  let c0_168 : Index := 0#32
  ![1, v341.toNat, 0, 0]
def k0_off8_at (r : Fin 14) : BitVec 32 :=
  if r.val < 7 then
    if r.val < 3 then
      if r.val < 1 then
        4294967293#32
      else
        if r.val < 2 then
          4294967294#32
        else
          4294967295#32
    else
      if r.val < 5 then
        if r.val < 4 then
          0#32
        else
          1#32
      else
        if r.val < 6 then
          2#32
        else
          3#32
  else
    if r.val < 10 then
      if r.val < 8 then
        4#32
      else
        if r.val < 9 then
          5#32
        else
          6#32
    else
      if r.val < 12 then
        if r.val < 11 then
          7#32
        else
          8#32
      else
        if r.val < 13 then
          9#32
        else
          10#32
def k0_off9 (i : grid0.Coords) : Fin 2 → Nat :=
  let c21_i32 : BitVec 32 := 21#32
  let c0_i32_4 : BitVec 32 := 0#32
  let arg1 : BitVec 32 := BitVec.ofNat 32 (i 1).val
  let c4_i32 : BitVec 32 := 4#32
  let v10 : BitVec 32 := Scalar.muli arg1 c4_i32
  let c4_i32_3 : BitVec 32 := 4#32
  let v11 : BitVec 32 := Scalar.subi v10 c4_i32_3
  let v12 : BitVec 32 := Scalar.maxsi c0_i32_4 v11
  let v13 : BitVec 32 := Scalar.minsi c21_i32 v12
  let c64_i32 : BitVec 32 := 64#32
  let v14 : BitVec 32 := Scalar.muli v13 c64_i32
  let v15 : BitVec 32 := v14
  let v588 : Index := Scalar.indexCast v15
  let c256_300 : Index := 256#32
  ![v588.toNat, 256]
def k0_off10 (i : grid0.Coords) (c_m3_i32_312 : BitVec 32) : Fin 4 → Nat :=
  let c2_315 : Index := 2#32
  let c14_i32_314 : BitVec 32 := 14#32
  let c0_i32_313 : BitVec 32 := 0#32
  let c21_i32_8 : BitVec 32 := 21#32
  let c0_i32_7 : BitVec 32 := 0#32
  let arg1 : BitVec 32 := BitVec.ofNat 32 (i 1).val
  let c4_i32_5 : BitVec 32 := 4#32
  let v16 : BitVec 32 := Scalar.muli arg1 c4_i32_5
  let c4_i32_6 : BitVec 32 := 4#32
  let v17 : BitVec 32 := Scalar.subi v16 c4_i32_6
  let v18 : BitVec 32 := Scalar.maxsi c0_i32_7 v17
  let v19 : BitVec 32 := Scalar.minsi c21_i32_8 v18
  let c4_i32_9 : BitVec 32 := 4#32
  let v20 : BitVec 32 := Scalar.muli arg1 c4_i32_9
  let v21 : BitVec 32 := Scalar.subi v19 v20
  let c8_i32 : BitVec 32 := 8#32
  let v22 : BitVec 32 := Scalar.addi v21 c8_i32
  let c1_i32_10 : BitVec 32 := 1#32
  let v23 : BitVec 32 := Scalar.subi v22 c1_i32_10
  let v619 : BitVec 32 := Scalar.addi v23 c_m3_i32_312
  let v620 : BitVec 32 := Scalar.maxsi c0_i32_313 v619
  let v621 : BitVec 32 := Scalar.minsi c14_i32_314 v620
  let v622 : Index := Scalar.indexCast v621
  let c0_316 : Index := 0#32
  let c0_317 : Index := 0#32
  ![2, v622.toNat, 0, 0]
def k0_off10_at (r : Fin 14) : BitVec 32 :=
  if r.val < 7 then
    if r.val < 3 then
      if r.val < 1 then
        4294967293#32
      else
        if r.val < 2 then
          4294967294#32
        else
          4294967295#32
    else
      if r.val < 5 then
        if r.val < 4 then
          0#32
        else
          1#32
      else
        if r.val < 6 then
          2#32
        else
          3#32
  else
    if r.val < 10 then
      if r.val < 8 then
        4#32
      else
        if r.val < 9 then
          5#32
        else
          6#32
    else
      if r.val < 12 then
        if r.val < 11 then
          7#32
        else
          8#32
      else
        if r.val < 13 then
          9#32
        else
          10#32
def k0_off11 (i : grid0.Coords) : Fin 2 → Nat :=
  let c21_i32 : BitVec 32 := 21#32
  let c0_i32_4 : BitVec 32 := 0#32
  let arg1 : BitVec 32 := BitVec.ofNat 32 (i 1).val
  let c4_i32 : BitVec 32 := 4#32
  let v10 : BitVec 32 := Scalar.muli arg1 c4_i32
  let c4_i32_3 : BitVec 32 := 4#32
  let v11 : BitVec 32 := Scalar.subi v10 c4_i32_3
  let v12 : BitVec 32 := Scalar.maxsi c0_i32_4 v11
  let v13 : BitVec 32 := Scalar.minsi c21_i32 v12
  let c64_i32 : BitVec 32 := 64#32
  let v14 : BitVec 32 := Scalar.muli v13 c64_i32
  let v15 : BitVec 32 := v14
  let v869 : Index := Scalar.indexCast v15
  let c384_449 : Index := 384#32
  ![v869.toNat, 384]
def k0_off12 (i : grid0.Coords) (c_m3_i32_461 : BitVec 32) : Fin 4 → Nat :=
  let c3_464 : Index := 3#32
  let c14_i32_463 : BitVec 32 := 14#32
  let c0_i32_462 : BitVec 32 := 0#32
  let c21_i32_8 : BitVec 32 := 21#32
  let c0_i32_7 : BitVec 32 := 0#32
  let arg1 : BitVec 32 := BitVec.ofNat 32 (i 1).val
  let c4_i32_5 : BitVec 32 := 4#32
  let v16 : BitVec 32 := Scalar.muli arg1 c4_i32_5
  let c4_i32_6 : BitVec 32 := 4#32
  let v17 : BitVec 32 := Scalar.subi v16 c4_i32_6
  let v18 : BitVec 32 := Scalar.maxsi c0_i32_7 v17
  let v19 : BitVec 32 := Scalar.minsi c21_i32_8 v18
  let c4_i32_9 : BitVec 32 := 4#32
  let v20 : BitVec 32 := Scalar.muli arg1 c4_i32_9
  let v21 : BitVec 32 := Scalar.subi v19 v20
  let c8_i32 : BitVec 32 := 8#32
  let v22 : BitVec 32 := Scalar.addi v21 c8_i32
  let c1_i32_10 : BitVec 32 := 1#32
  let v23 : BitVec 32 := Scalar.subi v22 c1_i32_10
  let v900 : BitVec 32 := Scalar.addi v23 c_m3_i32_461
  let v901 : BitVec 32 := Scalar.maxsi c0_i32_462 v900
  let v902 : BitVec 32 := Scalar.minsi c14_i32_463 v901
  let v903 : Index := Scalar.indexCast v902
  let c0_465 : Index := 0#32
  let c0_466 : Index := 0#32
  ![3, v903.toNat, 0, 0]
def k0_off12_at (r : Fin 14) : BitVec 32 :=
  if r.val < 7 then
    if r.val < 3 then
      if r.val < 1 then
        4294967293#32
      else
        if r.val < 2 then
          4294967294#32
        else
          4294967295#32
    else
      if r.val < 5 then
        if r.val < 4 then
          0#32
        else
          1#32
      else
        if r.val < 6 then
          2#32
        else
          3#32
  else
    if r.val < 10 then
      if r.val < 8 then
        4#32
      else
        if r.val < 9 then
          5#32
        else
          6#32
    else
      if r.val < 12 then
        if r.val < 11 then
          7#32
        else
          8#32
      else
        if r.val < 13 then
          9#32
        else
          10#32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x15x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x15x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== NaKernelIdeal.lean ====
variable {F : FTy → Type} [FloatOps F] [Named F]
def κ : String → Option EReal := fun
  | "mask" => some ⊥
  | _ => none
-- ==== NaReferenceIdeal.lean ====
abbrev S1x2048x1024 : Shape := ⟨3, ![1, 2048, 1024]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S1x32x64x8x128 : Shape := ⟨5, ![1, 32, 64, 8, 128]⟩
abbrev S64x1x64 : Shape := ⟨3, ![64, 1, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S1x32x8x64x8x128 : Shape := ⟨6, ![1, 32, 8, 64, 8, 128]⟩
abbrev S8x32x8x64x64 : Shape := ⟨5, ![8, 32, 8, 64, 64]⟩
abbrev S32x8x64x8x64 : Shape := ⟨5, ![32, 8, 64, 8, 64]⟩
abbrev S1x32x8x64x8x64 : Shape := ⟨6, ![1, 32, 8, 64, 8, 64]⟩
abbrev S1x32x8x64x512 : Shape := ⟨5, ![1, 32, 8, 64, 512]⟩
abbrev S1x32x8x64 : Shape := ⟨4, ![1, 32, 8, 64]⟩
abbrev S1x32x8x64x1 : Shape := ⟨5, ![1, 32, 8, 64, 1]⟩
abbrev S1x32x8x128x64 : Shape := ⟨5, ![1, 32, 8, 128, 64]⟩
abbrev S1x32x8x128x8x64 : Shape := ⟨6, ![1, 32, 8, 128, 8, 64]⟩
abbrev S32x8x64 : Shape := ⟨3, ![32, 8, 64]⟩
abbrev S1x32x8x8x64x128 : Shape := ⟨6, ![1, 32, 8, 8, 64, 128]⟩
abbrev S1x32x8x64x128 : Shape := ⟨5, ![1, 32, 8, 64, 128]⟩
abbrev S2048x1024 : Shape := ⟨2, ![2048, 1024]⟩

abbrev nBuf : Space → Nat
  | .hbm => 261
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S8x15x31, .f32⟩
  | 4 => ⟨S1x2048x1024, .f32⟩
  | 5 => ⟨S64, .i32⟩
  | 6 => ⟨S_, .i32⟩
  | 7 => ⟨S64, .i32⟩
  | 8 => ⟨S64, .i32⟩
  | 9 => ⟨S_, .i32⟩
  | 10 => ⟨S_, .i32⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S1x64, .i32⟩
  | 18 => ⟨S64x1, .i32⟩
  | 19 => ⟨S64x64, .i32⟩
  | 20 => ⟨S64x64, .i32⟩
  | 21 => ⟨S64x64, .i1⟩
  | 22 => ⟨S1x64, .i32⟩
  | 23 => ⟨S64x1, .i32⟩
  | 24 => ⟨S_, .i32⟩
  | 25 => ⟨S64x1, .i32⟩
  | 26 => ⟨S64x1, .i32⟩
  | 27 => ⟨S64x64, .i32⟩
  | 28 => ⟨S64x64, .i32⟩
  | 29 => ⟨S64x64, .i1⟩
  | 30 => ⟨S64x64, .i1⟩
  | 31 => ⟨S1x64, .i32⟩
  | 32 => ⟨S64x1, .i32⟩
  | 33 => ⟨S64x64, .i32⟩
  | 34 => ⟨S64x64, .i32⟩
  | 35 => ⟨S64x64, .i32⟩
  | 36 => ⟨S_, .i32⟩
  | 37 => ⟨S_, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S_, .i32⟩
  | 45 => ⟨S64x64, .i32⟩
  | 46 => ⟨S64x64, .i32⟩
  | 47 => ⟨S_, .i32⟩
  | 48 => ⟨S64x64, .i32⟩
  | 49 => ⟨S64x64, .i1⟩
  | 50 => ⟨S_, .i32⟩
  | 51 => ⟨S64x64, .i32⟩
  | 52 => ⟨S64x64, .i32⟩
  | 53 => ⟨S64x64, .i32⟩
  | 54 => ⟨S64x64x1, .i32⟩
  | 55 => ⟨S8x15x64x64, .f32⟩
  | 56 => ⟨S1x32x64x8x128, .f32⟩
  | 57 => ⟨S1x32x64x8x128, .f32⟩
  | 58 => ⟨S1x32x64x8x128, .f32⟩
  | 59 => ⟨S64, .i32⟩
  | 60 => ⟨S_, .i32⟩
  | 61 => ⟨S64, .i32⟩
  | 62 => ⟨S64, .i32⟩
  | 63 => ⟨S_, .i32⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i32⟩
  | 71 => ⟨S1x64, .i32⟩
  | 72 => ⟨S64x1, .i32⟩
  | 73 => ⟨S64x64, .i32⟩
  | 74 => ⟨S64x64, .i32⟩
  | 75 => ⟨S64x64, .i1⟩
  | 76 => ⟨S1x64, .i32⟩
  | 77 => ⟨S64x1, .i32⟩
  | 78 => ⟨S_, .i32⟩
  | 79 => ⟨S64x1, .i32⟩
  | 80 => ⟨S64x1, .i32⟩
  | 81 => ⟨S64x64, .i32⟩
  | 82 => ⟨S64x64, .i32⟩
  | 83 => ⟨S64x64, .i1⟩
  | 84 => ⟨S64x64, .i1⟩
  | 85 => ⟨S1x64, .i32⟩
  | 86 => ⟨S64x1, .i32⟩
  | 87 => ⟨S64x64, .i32⟩
  | 88 => ⟨S64x64, .i32⟩
  | 89 => ⟨S64x64, .i32⟩
  | 90 => ⟨S_, .i32⟩
  | 91 => ⟨S_, .i32⟩
  | 92 => ⟨S_, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S_, .i32⟩
  | 99 => ⟨S64x64, .i32⟩
  | 100 => ⟨S64x64, .i32⟩
  | 101 => ⟨S64x1x64, .i1⟩
  | 102 => ⟨S32, .i32⟩
  | 103 => ⟨S_, .i32⟩
  | 104 => ⟨S32, .i32⟩
  | 105 => ⟨S32, .i32⟩
  | 106 => ⟨S_, .i32⟩
  | 107 => ⟨S_, .i32⟩
  | 108 => ⟨S_, .i32⟩
  | 109 => ⟨S32, .i32⟩
  | 110 => ⟨S32, .i32⟩
  | 111 => ⟨S_, .i32⟩
  | 112 => ⟨S32, .i32⟩
  | 113 => ⟨S32, .i32⟩
  | 114 => ⟨S32x1, .i32⟩
  | 115 => ⟨S8, .i32⟩
  | 116 => ⟨S1x8, .i32⟩
  | 117 => ⟨S32x8, .i32⟩
  | 118 => ⟨S32x8, .i32⟩
  | 119 => ⟨S32x8, .i32⟩
  | 120 => ⟨S_, .i32⟩
  | 121 => ⟨S32x8, .i32⟩
  | 122 => ⟨S32x8, .i1⟩
  | 123 => ⟨S_, .i32⟩
  | 124 => ⟨S32x8, .i32⟩
  | 125 => ⟨S32x8, .i32⟩
  | 126 => ⟨S32x8, .i32⟩
  | 127 => ⟨S32x8x1, .i32⟩
  | _ => ⟨S1x2048x1024, .f32⟩

abbrev hbmTy0_1 (i : Nat) : BufTy := match i % 128 with
  | 0 => ⟨S1x32x8x64x8x128, .f32⟩
  | 1 => ⟨S_, .i32⟩
  | 2 => ⟨S32x8, .i32⟩
  | 3 => ⟨S32x8, .i1⟩
  | 4 => ⟨S_, .i32⟩
  | 5 => ⟨S32x8, .i32⟩
  | 6 => ⟨S32x8, .i32⟩
  | 7 => ⟨S32x8, .i32⟩
  | 8 => ⟨S32x8x1, .i32⟩
  | 9 => ⟨S1x32x8x64x8x128, .f32⟩
  | 10 => ⟨S32x1, .i32⟩
  | 11 => ⟨S32x8, .i32⟩
  | 12 => ⟨S32x8, .i32⟩
  | 13 => ⟨S_, .i32⟩
  | 14 => ⟨S32x8, .i32⟩
  | 15 => ⟨S32x8, .i32⟩
  | 16 => ⟨S_, .i32⟩
  | 17 => ⟨S32x8, .i32⟩
  | 18 => ⟨S32x8, .i1⟩
  | 19 => ⟨S_, .i32⟩
  | 20 => ⟨S32x8, .i32⟩
  | 21 => ⟨S32x8, .i32⟩
  | 22 => ⟨S32x8, .i32⟩
  | 23 => ⟨S32x8x1, .i32⟩
  | 24 => ⟨S8x32x8x64x64, .f32⟩
  | 25 => ⟨S32x8x64x8x64, .f32⟩
  | 26 => ⟨S1x32x8x64x8x64, .f32⟩
  | 27 => ⟨S_, .f32⟩
  | 28 => ⟨S1x32x8x64x8x64, .f32⟩
  | 29 => ⟨S1x32x8x64x8x64, .f32⟩
  | 30 => ⟨S1x32x8x64x8x64, .f32⟩
  | 31 => ⟨S1x32x8x64x8x64, .f32⟩
  | 32 => ⟨S_, .f32⟩
  | 33 => ⟨S_, .f32⟩
  | 34 => ⟨S1x32x8x64x8x64, .i1⟩
  | 35 => ⟨S1x32x8x64x8x64, .f32⟩
  | 36 => ⟨S1x32x8x64x8x64, .f32⟩
  | 37 => ⟨S_, .f32⟩
  | 38 => ⟨S1x32x8x64x8x64, .f32⟩
  | 39 => ⟨S1x32x8x64x512, .f32⟩
  | 40 => ⟨S_, .f32⟩
  | 41 => ⟨S1x32x8x64, .f32⟩
  | 42 => ⟨S1x32x8x64x1, .f32⟩
  | 43 => ⟨S1x32x8x64x512, .f32⟩
  | 44 => ⟨S1x32x8x64x512, .i1⟩
  | 45 => ⟨S1x32x8x64x512, .f32⟩
  | 46 => ⟨S_, .f32⟩
  | 47 => ⟨S1x32x8x64, .f32⟩
  | 48 => ⟨S_, .f32⟩
  | 49 => ⟨S1x32x8x64, .f32⟩
  | 50 => ⟨S1x32x8x64, .f32⟩
  | 51 => ⟨S_, .f32⟩
  | 52 => ⟨S1x32x8x64, .f32⟩
  | 53 => ⟨S1x32x8x64, .i1⟩
  | 54 => ⟨S_, .f32⟩
  | 55 => ⟨S1x32x8x64, .f32⟩
  | 56 => ⟨S1x32x8x64, .i1⟩
  | 57 => ⟨S_, .f32⟩
  | 58 => ⟨S1x32x8x64, .f32⟩
  | 59 => ⟨S_, .f32⟩
  | 60 => ⟨S1x32x8x64, .f32⟩
  | 61 => ⟨S_, .f32⟩
  | 62 => ⟨S1x32x8x64, .f32⟩
  | 63 => ⟨S1x32x8x64, .f32⟩
  | 64 => ⟨S1x32x8x64, .f32⟩
  | 65 => ⟨S1x32x8x64x1, .f32⟩
  | 66 => ⟨S1x32x8x64x512, .f32⟩
  | 67 => ⟨S1x32x8x64x512, .f32⟩
  | 68 => ⟨S1x32x8x64x512, .f32⟩
  | 69 => ⟨S_, .f32⟩
  | 70 => ⟨S1x32x8x64, .f32⟩
  | 71 => ⟨S1x32x8x64x1, .f32⟩
  | 72 => ⟨S1x32x8x64x512, .f32⟩
  | 73 => ⟨S1x32x8x64x512, .f32⟩
  | 74 => ⟨S1x32x8x64x1, .f32⟩
  | 75 => ⟨S_, .f32⟩
  | 76 => ⟨S1x32x8x64x1, .f32⟩
  | 77 => ⟨S1x32x8x64x1, .f32⟩
  | 78 => ⟨S1x32x8x64x8x64, .f32⟩
  | 79 => ⟨S1x32x8x128x64, .f32⟩
  | 80 => ⟨S1x32x64x8x128, .f32⟩
  | 81 => ⟨S1x2048x1024, .f32⟩
  | 82 => ⟨S1x32x64x8x128, .f32⟩
  | 83 => ⟨S1x32x8x128x64, .f32⟩
  | 84 => ⟨S1x32x8x64x8x64, .f32⟩
  | 85 => ⟨S1x32x8x128x8x64, .f32⟩
  | 86 => ⟨S1x32x8x64x8x128, .f32⟩
  | 87 => ⟨S1x32x8x64x512, .f32⟩
  | 88 => ⟨S1x32x8x64x512, .f32⟩
  | 89 => ⟨S1x32x8x64x512, .f32⟩
  | 90 => ⟨S1x32x8x64x512, .f32⟩
  | 91 => ⟨S_, .f32⟩
  | 92 => ⟨S1x32x8x64, .f32⟩
  | 93 => ⟨S1x32x8x64x1, .f32⟩
  | 94 => ⟨S1x32x8x64x1, .f32⟩
  | 95 => ⟨S1x32x8x64x512, .f32⟩
  | 96 => ⟨S1x32x8x64x512, .f32⟩
  | 97 => ⟨S_, .f32⟩
  | 98 => ⟨S32x8x64, .f32⟩
  | 99 => ⟨S1x32x8x64, .f32⟩
  | 100 => ⟨S1x32x8x64x512, .f32⟩
  | 101 => ⟨S1x32x8x64x512, .f32⟩
  | 102 => ⟨S1x32x8x64x512, .f32⟩
  | 103 => ⟨S1x32x8x64x8x64, .f32⟩
  | 104 => ⟨S_, .f32⟩
  | 105 => ⟨S1x32x8x64x8x64, .f32⟩
  | 106 => ⟨S1x32x8x64x8x64, .f32⟩
  | 107 => ⟨S_, .f32⟩
  | 108 => ⟨S32x8x64x8x64, .f32⟩
  | 109 => ⟨S_, .f32⟩
  | 110 => ⟨S1x32x8x64x8x64, .f32⟩
  | 111 => ⟨S1x32x8x64x8x64, .f32⟩
  | 112 => ⟨S1x32x8x8x64x128, .f32⟩
  | 113 => ⟨S1x32x8x64x8x128, .f32⟩
  | 114 => ⟨S1x32x8x64x128, .f32⟩
  | 115 => ⟨S1x32x64x8x128, .f32⟩
  | 116 => ⟨S8x32x8x64x64, .f32⟩
  | 117 => ⟨S_, .f32⟩
  | 118 => ⟨S8x15x64x64, .f32⟩
  | 119 => ⟨S8x15x64x64, .f32⟩
  | 120 => ⟨S_, .f32⟩
  | 121 => ⟨S1x32x64x8x128, .f32⟩
  | 122 => ⟨S1x32x64x8x128, .f32⟩
  | 123 => ⟨S_, .f32⟩
  | 124 => ⟨S1x32x64x8x128, .f32⟩
  | 125 => ⟨S1x32x64x8x128, .f32⟩
  | 126 => ⟨S1x2048x1024, .f32⟩
  | 127 => ⟨S1x2048x1024, .f32⟩
  | _ => ⟨S1x2048x1024, .f32⟩

abbrev hbmTy0_2 (i : Nat) : BufTy := match i % 128 with
  | 0 => ⟨S1x2048x1024, .f32⟩
  | 1 => ⟨S2048x1024, .f32⟩
  | 2 => ⟨S2048x1024, .bf16⟩
  | 3 => ⟨S2048x1024, .f32⟩
  | 4 => ⟨S2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_c_10 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_c_13 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_15 : Ref sig .tc := ⟨.hbm, 103, rfl⟩
abbrev main_v62 : Ref sig .tc := ⟨.hbm, 104, rfl⟩
abbrev main_v63 : Ref sig .tc := ⟨.hbm, 105, rfl⟩
abbrev main_c_16 : Ref sig .tc := ⟨.hbm, 106, rfl⟩
abbrev main_c_17 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_c_18 : Ref sig .tc := ⟨.hbm, 120, rfl⟩
abbrev main_v71 : Ref sig .tc := ⟨.hbm, 121, rfl⟩
abbrev main_v72 : Ref sig .tc := ⟨.hbm, 122, rfl⟩
abbrev main_c_19 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_20 : Ref sig .tc := ⟨.hbm, 129, rfl⟩
abbrev main_v78 : Ref sig .tc := ⟨.hbm, 130, rfl⟩
abbrev main_v79 : Ref sig .tc := ⟨.hbm, 131, rfl⟩
abbrev main_c_21 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_22 : Ref sig .tc := ⟨.hbm, 141, rfl⟩
abbrev main_v88 : Ref sig .tc := ⟨.hbm, 142, rfl⟩
abbrev main_v89 : Ref sig .tc := ⟨.hbm, 143, rfl⟩
abbrev main_c_23 : Ref sig .tc := ⟨.hbm, 144, rfl⟩
abbrev main_v90 : Ref sig .tc := ⟨.hbm, 145, rfl⟩
abbrev main_v91 : Ref sig .tc := ⟨.hbm, 146, rfl⟩
abbrev main_c_24 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_25 : Ref sig .tc := ⟨.hbm, 160, rfl⟩
abbrev main_call5_v0 : Ref sig .tc := ⟨.hbm, 161, rfl⟩
abbrev main_v103_1 : Ref sig .tc := ⟨.hbm, 162, rfl⟩
abbrev main_call5_v2 : Ref sig .tc := ⟨.hbm, 163, rfl⟩
abbrev main_v103_0 : Ref sig .tc := ⟨.hbm, 164, rfl⟩
abbrev main_call5_cst : Ref sig .tc := ⟨.hbm, 165, rfl⟩
abbrev main_v103_2 : Ref sig .tc := ⟨.hbm, 166, rfl⟩
abbrev main_v104 : Ref sig .tc := ⟨.hbm, 167, rfl⟩
abbrev main_cst_26 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_27 : Ref sig .tc := ⟨.hbm, 174, rfl⟩
abbrev main_v110 : Ref sig .tc := ⟨.hbm, 175, rfl⟩
abbrev main_cst_28 : Ref sig .tc := ⟨.hbm, 176, rfl⟩
abbrev main_v111 : Ref sig .tc := ⟨.hbm, 177, rfl⟩
abbrev main_v112 : Ref sig .tc := ⟨.hbm, 178, rfl⟩
abbrev main_cst_29 : Ref sig .tc := ⟨.hbm, 179, rfl⟩
abbrev main_v113 : Ref sig .tc := ⟨.hbm, 180, rfl⟩
abbrev main_v114 : Ref sig .tc := ⟨.hbm, 181, rfl⟩
abbrev main_cst_30 : Ref sig .tc := ⟨.hbm, 182, rfl⟩
abbrev main_v115 : Ref sig .tc := ⟨.hbm, 183, rfl⟩
abbrev main_v116 : Ref sig .tc := ⟨.hbm, 184, rfl⟩
abbrev main_cst_31 : Ref sig .tc := ⟨.hbm, 185, rfl⟩
abbrev main_v117 : Ref sig .tc := ⟨.hbm, 186, rfl⟩
abbrev main_cst_32 : Ref sig .tc := ⟨.hbm, 187, rfl⟩
abbrev main_v118 : Ref sig .tc := ⟨.hbm, 188, rfl⟩
abbrev main_cst_33 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_34 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_35 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_cst_36 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_37 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_call6_cst : Ref sig .tc := ⟨.hbm, 232, rfl⟩
abbrev main_call6_v0 : Ref sig .tc := ⟨.hbm, 233, rfl⟩
abbrev main_v157 : Ref sig .tc := ⟨.hbm, 234, rfl⟩
abbrev main_cst_38 : Ref sig .tc := ⟨.hbm, 235, rfl⟩
abbrev main_v158 : Ref sig .tc := ⟨.hbm, 236, rfl⟩
abbrev main_cst_39 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_40 : Ref sig .tc := ⟨.hbm, 245, rfl⟩
abbrev main_v166 : Ref sig .tc := ⟨.hbm, 246, rfl⟩
abbrev main_v167 : Ref sig .tc := ⟨.hbm, 247, rfl⟩
abbrev main_cst_41 : Ref sig .tc := ⟨.hbm, 248, rfl⟩
abbrev main_v168 : Ref sig .tc := ⟨.hbm, 249, rfl⟩
abbrev main_v169 : Ref sig .tc := ⟨.hbm, 250, rfl⟩
abbrev main_cst_42 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩

abbrev nD : Nat := 1
abbrev τ : Topo := Topo.v7x

variable {F : FTy → Type} [FloatOps F]

def κ : String → Option EReal := fun
  | "mask" => some ⊥
  | _ => none
-- ==== ColumnsKernel.lean ====
abbrev S8x15x64x64 : Shape := ⟨4, ![8, 15, 64, 64]⟩
abbrev S64x64 : Shape := ⟨2, ![64, 64]⟩
abbrev S_ : Shape := ⟨0, ![]⟩
abbrev S64x64x1 : Shape := ⟨3, ![64, 64, 1]⟩
abbrev S64x64x128 : Shape := ⟨3, ![64, 64, 128]⟩
abbrev S4096x128 : Shape := ⟨2, ![4096, 128]⟩
abbrev S120x4096 : Shape := ⟨2, ![120, 4096]⟩
abbrev S120x128 : Shape := ⟨2, ![120, 128]⟩

abbrev nBuf : Space → Nat
  | .hbm => 48
  | .vmem => 3
  | .smem => 0
  | _ => 0

abbrev bufTy : (tb : Table) → Fin (tcTables nBuf tb) → BufTy
  | .hbm, ⟨0, _⟩ => ⟨S8x15x64x64, .f32⟩
  | .hbm, ⟨1, _⟩ => ⟨S64x64, .i32⟩
  | .hbm, ⟨2, _⟩ => ⟨S64x64, .i32⟩
  | .hbm, ⟨3, _⟩ => ⟨S_, .i32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .i1⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64x1, .i1⟩
  | .hbm, ⟨29, _⟩ => ⟨S64x64x1, .i32⟩
  | .hbm, ⟨30, _⟩ => ⟨S64x64x128, .i32⟩
  | .hbm, ⟨31, _⟩ => ⟨S64x64x128, .i32⟩
  | .hbm, ⟨32, _⟩ => ⟨S64x64x128, .i1⟩
  | .hbm, ⟨33, _⟩ => ⟨S64x64x128, .i1⟩
  | .hbm, ⟨34, _⟩ => ⟨S64x64x128, .i1⟩
  | .hbm, ⟨35, _⟩ => ⟨S_, .f32⟩
  | .hbm, ⟨36, _⟩ => ⟨S64x64x128, .f32⟩
  | .hbm, ⟨37, _⟩ => ⟨S_, .f32⟩
  | .hbm, ⟨38, _⟩ => ⟨S64x64x128, .f32⟩
  | .hbm, ⟨39, _⟩ => ⟨S64x64x128, .f32⟩
  | .hbm, ⟨40, _⟩ => ⟨S4096x128, .f32⟩
  | .hbm, ⟨41, _⟩ => ⟨S_, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S120x4096, .f32⟩
  | .hbm, ⟨47, _⟩ => ⟨S120x128, .f32⟩
  | .local _ .vmem, ⟨0, _⟩ => ⟨S120x4096, .f32⟩
  | .local _ .vmem, ⟨1, _⟩ => ⟨S4096x128, .f32⟩
  | .local _ .vmem, ⟨2, _⟩ => ⟨S120x128, .f32⟩
  | _, _ => ⟨S8x15x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S120x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ColumnsReferenceIdeal.lean ====
abbrev S8x15x64x64 : Shape := ⟨4, ![8, 15, 64, 64]⟩
abbrev S_ : Shape := ⟨0, ![]⟩
abbrev S8x15x31 : Shape := ⟨3, ![8, 15, 31]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S120x31 : Shape := ⟨2, ![120, 31]⟩
abbrev S120x128 : Shape := ⟨2, ![120, 128]⟩

abbrev nBuf : Space → Nat
  | .hbm => 70
  | .vmem => 0
  | .smem => 0
  | _ => 0

abbrev bufTy : (tb : Table) → Fin (tcTables nBuf tb) → BufTy
  | .hbm, ⟨0, _⟩ => ⟨S8x15x64x64, .f32⟩
  | .hbm, ⟨1, _⟩ => ⟨S_, .f32⟩
  | .hbm, ⟨2, _⟩ => ⟨S8x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i1⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64, .i32⟩
  | .hbm, ⟨52, _⟩ => ⟨S64x64x1, .i32⟩
  | .hbm, ⟨53, _⟩ => ⟨S8x15x64x64, .f32⟩
  | .hbm, ⟨54, _⟩ => ⟨S_, .f32⟩
  | .hbm, ⟨55, _⟩ => ⟨S_, .f32⟩
  | .hbm, ⟨56, _⟩ => ⟨S8x15x64x64, .i1⟩
  | .hbm, ⟨57, _⟩ => ⟨S8x15x64x64, .f32⟩
  | .hbm, ⟨58, _⟩ => ⟨S8x15x64x64, .f32⟩
  | .hbm, ⟨59, _⟩ => ⟨S_, .f32⟩
  | .hbm, ⟨60, _⟩ => ⟨S8x15x64x64, .f32⟩
  | .hbm, ⟨61, _⟩ => ⟨S_, .f32⟩
  | .hbm, ⟨62, _⟩ => ⟨S8x15x64x64, .f32⟩
  | .hbm, ⟨63, _⟩ => ⟨S8x15x64x64, .f32⟩
  | .hbm, ⟨64, _⟩ => ⟨S_, .f32⟩
  | .hbm, ⟨65, _⟩ => ⟨S8x15x31, .f32⟩
  | .hbm, ⟨66, _⟩ => ⟨S8x15x31, .f32⟩
  | .hbm, ⟨67, _⟩ => ⟨S120x31, .f32⟩
  | .hbm, ⟨68, _⟩ => ⟨S_, .f32⟩
  | .hbm, ⟨69, _⟩ => ⟨S120x128, .f32⟩
  | _, _ => ⟨S8x15x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_call2_v0 : Ref sig .tc := ⟨.hbm, 55, rfl⟩
abbrev main_v33_1 : Ref sig .tc := ⟨.hbm, 56, rfl⟩
abbrev main_call2_v2 : Ref sig .tc := ⟨.hbm, 57, rfl⟩
abbrev main_v33_0 : Ref sig .tc := ⟨.hbm, 58, rfl⟩
abbrev main_call2_cst : Ref sig .tc := ⟨.hbm, 59, rfl⟩
abbrev main_v33_2 : Ref sig .tc := ⟨.hbm, 60, rfl⟩
abbrev main_call3_cst : Ref sig .tc := ⟨.hbm, 61, rfl⟩
abbrev main_call3_v0 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩

abbrev nD : Nat := 1
abbrev τ : Topo := Topo.v7x

variable {F : FTy → Type} [FloatOps F]
-- ==== TableKernel.lean ====
abbrev S8x15x31 : Shape := ⟨3, ![8, 15, 31]⟩
abbrev S64x64 : Shape := ⟨2, ![64, 64]⟩
abbrev S_ : Shape := ⟨0, ![]⟩
abbrev S64x64x1 : Shape := ⟨3, ![64, 64, 1]⟩
abbrev S64x64x128 : Shape := ⟨3, ![64, 64, 128]⟩
abbrev S4096x128 : Shape := ⟨2, ![4096, 128]⟩
abbrev S128x4096 : Shape := ⟨2, ![128, 4096]⟩
abbrev S1x4096 : Shape := ⟨2, ![1, 4096]⟩
abbrev S120x31 : Shape := ⟨2, ![120, 31]⟩
abbrev S120x128 : Shape := ⟨2, ![120, 128]⟩
abbrev S120x4096 : Shape := ⟨2, ![120, 4096]⟩

abbrev nBuf : Space → Nat
  | .hbm => 52
  | .vmem => 4
  | .smem => 0
  | _ => 0

abbrev bufTy : (tb : Table) → Fin (tcTables nBuf tb) → BufTy
  | .hbm, ⟨0, _⟩ => ⟨S8x15x31, .f32⟩
  | .hbm, ⟨1, _⟩ => ⟨S64x64, .i32⟩
  | .hbm, ⟨2, _⟩ => ⟨S64x64, .i32⟩
  | .hbm, ⟨3, _⟩ => ⟨S_, .i32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S64x64, .i1⟩
  | .hbm, ⟨18, _⟩ => ⟨S64x64, .i32⟩
  | .hbm, ⟨19, _⟩ => ⟨S_, .i32⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64x1, .i1⟩
  | .hbm, ⟨29, _⟩ => ⟨S64x64x1, .i32⟩
  | .hbm, ⟨30, _⟩ => ⟨S64x64x128, .i32⟩
  | .hbm, ⟨31, _⟩ => ⟨S64x64x128, .i32⟩
  | .hbm, ⟨32, _⟩ => ⟨S64x64x128, .i1⟩
  | .hbm, ⟨33, _⟩ => ⟨S64x64x128, .i1⟩
  | .hbm, ⟨34, _⟩ => ⟨S64x64x128, .i1⟩
  | .hbm, ⟨35, _⟩ => ⟨S_, .f32⟩
  | .hbm, ⟨36, _⟩ => ⟨S64x64x128, .f32⟩
  | .hbm, ⟨37, _⟩ => ⟨S_, .f32⟩
  | .hbm, ⟨38, _⟩ => ⟨S64x64x128, .f32⟩
  | .hbm, ⟨39, _⟩ => ⟨S64x64x128, .f32⟩
  | .hbm, ⟨40, _⟩ => ⟨S4096x128, .f32⟩
  | .hbm, ⟨41, _⟩ => ⟨S_, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S128x4096, .f32⟩
  | .hbm, ⟨47, _⟩ => ⟨S1x4096, .f32⟩
  | .hbm, ⟨48, _⟩ => ⟨S120x31, .f32⟩
  | .hbm, ⟨49, _⟩ => ⟨S_, .f32⟩
  | .hbm, ⟨50, _⟩ => ⟨S120x128, .f32⟩
  | .hbm, ⟨51, _⟩ => ⟨S120x4096, .f32⟩
  | .local _ .vmem, ⟨0, _⟩ => ⟨S120x128, .f32⟩
  | .local _ .vmem, ⟨1, _⟩ => ⟨S128x4096, .f32⟩
  | .local _ .vmem, ⟨2, _⟩ => ⟨S1x4096, .f32⟩
  | .local _ .vmem, ⟨3, _⟩ => ⟨S120x4096, .f32⟩
  | _, _ => ⟨S8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_c_4 : Ref sig .tc := ⟨.hbm, 22, rfl⟩
abbrev main_v16 : Ref sig .tc := ⟨.hbm, 23, rfl⟩
abbrev main_v17 : Ref sig .tc := ⟨.hbm, 24, rfl⟩
abbrev main_c_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S120x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== TableReferenceIdeal.lean ====
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S120x4096 : Shape := ⟨2, ![120, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8x15x31, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S64x1, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S1x64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S1x64, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i1⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S64x64, .i32⟩
  | .hbm, ⟨50, _⟩ => ⟨S64x64x1, .i32⟩
  | .hbm, ⟨51, _⟩ => ⟨S8x15x64x64, .f32⟩
  | .hbm, ⟨52, _⟩ => ⟨S_, .f32⟩
  | .hbm, ⟨53, _⟩ => ⟨S_, .f32⟩
  | .hbm, ⟨54, _⟩ => ⟨S8x15x64x64, .i1⟩
  | .hbm, ⟨55, _⟩ => ⟨S8x15x64x64, .f32⟩
  | .hbm, ⟨56, _⟩ => ⟨S8x15x64x64, .f32⟩
  | .hbm, ⟨57, _⟩ => ⟨S120x4096, .f32⟩
  | _, _ => ⟨S8x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== FfnKernel.lean ====
abbrev S2048x2048 : Shape := ⟨2, ![2048, 2048]⟩
abbrev S5632x2048 : Shape := ⟨2, ![5632, 2048]⟩
abbrev S2048x5632 : Shape := ⟨2, ![2048, 5632]⟩
abbrev S8x704x2048 : Shape := ⟨3, ![8, 704, 2048]⟩
abbrev S2048x8x704 : Shape := ⟨3, ![2048, 8, 704]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x2048, .bf16⟩
  | .hbm, ⟨5, _⟩ => ⟨S5632x2048, .bf16⟩
  | .hbm, ⟨6, _⟩ => ⟨S8x704x2048, .bf16⟩
  | .hbm, ⟨7, _⟩ => ⟨S2048x8x704, .f32⟩
  | .hbm, ⟨8, _⟩ => ⟨S8x2048x704, .f32⟩
  | .hbm, ⟨9, _⟩ => ⟨S8x2048x704, .bf16⟩
  | .hbm, ⟨10, _⟩ => ⟨S2048x8x704, .f32⟩
  | .hbm, ⟨11, _⟩ => ⟨S8x2048x704, .f32⟩
  | .hbm, ⟨12, _⟩ => ⟨S8x2048x704, .bf16⟩
  | .hbm, ⟨13, _⟩ => ⟨S8x2048x704, .bf16⟩
  | .hbm, ⟨14, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩
abbrev S2048x8x704 : Shape := ⟨3, ![2048, 8, 704]⟩
abbrev S8x2048x704 : Shape := ⟨3, ![8, 2048, 704]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x8x704, .f32⟩
  | .hbm, ⟨33, _⟩ => ⟨S8x2048x704, .f32⟩
  | .hbm, ⟨34, _⟩ => ⟨S8x2048x704, .bf16⟩
  | .hbm, ⟨35, _⟩ => ⟨S2048x8x704, .f32⟩
  | .hbm, ⟨36, _⟩ => ⟨S8x2048x704, .f32⟩
  | .hbm, ⟨37, _⟩ => ⟨S8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== MixKernel.lean ====
abbrev S2048x2048 : Shape := ⟨2, ![2048, 2048]⟩
abbrev S8x256x2048 : Shape := ⟨3, ![8, 256, 2048]⟩
abbrev S2048x8x256 : Shape := ⟨3, ![2048, 8, 256]⟩
abbrev S8x2048x256 : Shape := ⟨3, ![8, 2048, 256]⟩
abbrev S1024x2048 : Shape := ⟨2, ![1024, 2048]⟩
abbrev S1x256x2048 : Shape := ⟨3, ![1, 256, 2048]⟩
abbrev S1024x256 : Shape := ⟨2, ![1024, 256]⟩
abbrev S1x1024x256 : Shape := ⟨3, ![1, 1024, 256]⟩
abbrev S256x2048 : Shape := ⟨2, ![256, 2048]⟩

abbrev nBuf : Space → Nat
  | .hbm => 19
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S8x256x2048, .bf16⟩
  | .hbm, ⟨9, _⟩ => ⟨S2048x8x256, .f32⟩
  | .hbm, ⟨10, _⟩ => ⟨S8x2048x256, .f32⟩
  | .hbm, ⟨11, _⟩ => ⟨S8x2048x256, .bf16⟩
  | .hbm, ⟨12, _⟩ => ⟨S2048x8x256, .f32⟩
  | .hbm, ⟨13, _⟩ => ⟨S8x2048x256, .f32⟩
  | .hbm, ⟨14, _⟩ => ⟨S8x2048x256, .bf16⟩
  | .hbm, ⟨15, _⟩ => ⟨S8x2048x256, .bf16⟩
  | .hbm, ⟨16, _⟩ => ⟨S8x2048x256, .bf16⟩
  | .hbm, ⟨17, _⟩ => ⟨S2048x2048, .bf16⟩
  | .hbm, ⟨18, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixReferenceIdeal.lean ====
abbrev S2048x2048 : Shape := ⟨2, ![2048, 2048]⟩
abbrev S_ : Shape := ⟨0, ![]⟩
abbrev S2048x8x256 : Shape := ⟨3, ![2048, 8, 256]⟩
abbrev S8x2048x256 : Shape := ⟨3, ![8, 2048, 256]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x8x256, .f32⟩
  | .hbm, ⟨42, _⟩ => ⟨S8x2048x256, .f32⟩
  | .hbm, ⟨43, _⟩ => ⟨S8x2048x256, .bf16⟩
  | .hbm, ⟨44, _⟩ => ⟨S2048x8x256, .f32⟩
  | .hbm, ⟨45, _⟩ => ⟨S8x2048x256, .f32⟩
  | .hbm, ⟨46, _⟩ => ⟨S8x2048x256, .bf16⟩
  | .hbm, ⟨47, _⟩ => ⟨S2048x2048, .bf16⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== LossKernel.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_17 : BitVec 32 := 0#32
  let v45 : BitVec 1 := Scalar.cmpi .ne v44 c0_i32_17
  v45

def k0_cond2 (i : grid0.Coords) : BitVec 1 :=
  let arg0 : BitVec 32 := BitVec.ofNat 32 (i 0).val
  let c0_i32_18 : BitVec 32 := 0#32
  let v46 : BitVec 1 := Scalar.cmpi .sgt arg0 c0_i32_18
  let v47 : BitVec 32 := Scalar.extui v46
  let c0_i32_19 : BitVec 32 := 0#32
  let v48 : BitVec 1 := Scalar.cmpi .ne v47 c0_i32_19
  v48

def k0_cond3 (i : grid0.Coords) : BitVec 1 :=
  let arg0 : BitVec 32 := BitVec.ofNat 32 (i 0).val
  let c0_i32_20 : BitVec 32 := 0#32
  let v51 : BitVec 1 := Scalar.cmpi .eq arg0 c0_i32_20
  let v52 : BitVec 32 := Scalar.extui v51
  let c0_i32_21 : BitVec 32 := 0#32
  let v53 : BitVec 1 := Scalar.cmpi .ne v52 c0_i32_21
  v53

def k0_cond4 (i : grid0.Coords) : BitVec 1 :=
  let arg0 : BitVec 32 := BitVec.ofNat 32 (i 0).val
  let c0_i32_22 : BitVec 32 := 0#32
  let v54 : BitVec 1 := Scalar.cmpi .sgt arg0 c0_i32_22
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S1x2048, .f32⟩
  | .hbm, ⟨73, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== NormKernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PostKernel.lean ====
abbrev S8x2048x192 : Shape := ⟨3, ![8, 2048, 192]⟩
abbrev S8x2048x128 : Shape := ⟨3, ![8, 2048, 128]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S64x64 : Shape := ⟨2, ![64, 64]⟩
abbrev S2048x64 : Shape := ⟨2, ![2048, 64]⟩
abbrev S8x2048x256 : Shape := ⟨3, ![8, 2048, 256]⟩
abbrev S1x1024x192 : Shape := ⟨3, ![1, 1024, 192]⟩
abbrev S1x1024x128 : Shape := ⟨3, ![1, 1024, 128]⟩
abbrev S1024x64 : Shape := ⟨2, ![1024, 64]⟩
abbrev S1x1024x256 : Shape := ⟨3, ![1, 1024, 256]⟩
abbrev S1024x192 : Shape := ⟨2, ![1024, 192]⟩
abbrev S1024x128 : Shape := ⟨2, ![1024, 128]⟩
abbrev S1x1024x64 : Shape := ⟨3, ![1, 1024, 64]⟩

abbrev nBuf : Space → Nat
  | .hbm => 50
  | .vmem => 17
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .f32⟩
  | .hbm, ⟨34, _⟩ => ⟨S64x64, .f32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S64x64, .i1⟩
  | .hbm, ⟨39, _⟩ => ⟨S_, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S2048x64, .f32⟩
  | .hbm, ⟨46, _⟩ => ⟨S2048x64, .f32⟩
  | .hbm, ⟨47, _⟩ => ⟨S8x2048x192, .bf16⟩
  | .hbm, ⟨48, _⟩ => ⟨S8x2048x256, .bf16⟩
  | .hbm, ⟨49, _⟩ => ⟨S2048x64, .f32⟩
  | .local _ .vmem, ⟨0, _⟩ => ⟨S1x1024x192, .f32⟩
  | .local _ .vmem, ⟨1, _⟩ => ⟨S1x1024x192, .f32⟩
  | .local _ .vmem, ⟨2, _⟩ => ⟨S1x1024x192, .f32⟩
  | .local _ .vmem, ⟨3, _⟩ => ⟨S1x1024x192, .f32⟩
  | .local _ .vmem, ⟨4, _⟩ => ⟨S1x1024x128, .f32⟩
  | .local _ .vmem, ⟨5, _⟩ => ⟨S1x1024x128, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S64x64, .f32⟩
  | .local _ .vmem, ⟨11, _⟩ => ⟨S1x1024x192, .bf16⟩
  | .local _ .vmem, ⟨12, _⟩ => ⟨S1x1024x192, .bf16⟩
  | .local _ .vmem, ⟨13, _⟩ => ⟨S1x1024x256, .bf16⟩
  | .local _ .vmem, ⟨14, _⟩ => ⟨S1x1024x256, .bf16⟩
  | .local _ .vmem, ⟨15, _⟩ => ⟨S1024x64, .f32⟩
  | .local _ .vmem, ⟨16, _⟩ => ⟨S1024x64, .f32⟩
  | _, _ => ⟨S8x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_25 : BitVec 32 := 0#32
  let v38 : BitVec 1 := Scalar.cmpi .ne v37 c0_i32_25
  v38

def k0_cond2 (i : grid0.Coords) : BitVec 1 :=
  let arg1 : BitVec 32 := BitVec.ofNat 32 (i 1).val
  let c0_i32_26 : BitVec 32 := 0#32
  let v39 : BitVec 1 := Scalar.cmpi .sgt arg1 c0_i32_26
  let v40 : BitVec 32 := Scalar.extui v39
  let c0_i32_27 : BitVec 32 := 0#32
  let v41 : BitVec 1 := Scalar.cmpi .ne v40 c0_i32_27
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PostReferenceIdeal.lean ====
abbrev S8x2048x192 : Shape := ⟨3, ![8, 2048, 192]⟩
abbrev S8x2048x128 : Shape := ⟨3, ![8, 2048, 128]⟩
abbrev S_ : Shape := ⟨0, ![]⟩
abbrev S1x2048x8x192 : Shape := ⟨4, ![1, 2048, 8, 192]⟩
abbrev S1x2048x8x256 : Shape := ⟨4, ![1, 2048, 8, 256]⟩
abbrev S1x2048x64 : Shape := ⟨3, ![1, 2048, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x8x128 : Shape := ⟨4, ![1, 2048, 8, 128]⟩
abbrev S1x2048x8x64 : Shape := ⟨4, ![1, 2048, 8, 64]⟩
abbrev S2048x1x32 : Shape := ⟨3, ![2048, 1, 32]⟩
abbrev S1x2048x8x32 : Shape := ⟨4, ![1, 2048, 8, 32]⟩
abbrev S1x2048x1x32 : Shape := ⟨4, ![1, 2048, 1, 32]⟩
abbrev S1x2048x1x64 : Shape := ⟨4, ![1, 2048, 1, 64]⟩
abbrev S2048x8x192 : Shape := ⟨3, ![2048, 8, 192]⟩
abbrev S2048x8x128 : Shape := ⟨3, ![2048, 8, 128]⟩
abbrev S2048x64 : Shape := ⟨2, ![2048, 64]⟩
abbrev S2048x8x256 : Shape := ⟨3, ![2048, 8, 256]⟩
abbrev S8x2048x256 : Shape := ⟨3, ![8, 2048, 256]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x192, .f32⟩
  | .hbm, ⟨1, _⟩ => ⟨S8x2048x192, .f32⟩
  | .hbm, ⟨2, _⟩ => ⟨S8x2048x128, .f32⟩
  | .hbm, ⟨3, _⟩ => ⟨S_, .f32⟩
  | .hbm, ⟨4, _⟩ => ⟨S1x2048x8x192, .f32⟩
  | .hbm, ⟨5, _⟩ => ⟨S_, .f32⟩
  | .hbm, ⟨6, _⟩ => ⟨S1x2048x8x256, .f32⟩
  | .hbm, ⟨7, _⟩ => ⟨S_, .f32⟩
  | .hbm, ⟨8, _⟩ => ⟨S1x2048x64, .f32⟩
  | .hbm, ⟨9, _⟩ => ⟨S2048, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S1x2048x8x128, .f32⟩
  | .hbm, ⟨34, _⟩ => ⟨S1x2048x8x64, .f32⟩
  | .hbm, ⟨35, _⟩ => ⟨S1x2048x8x128, .f32⟩
  | .hbm, ⟨36, _⟩ => ⟨S1x2048x8x128, .f32⟩
  | .hbm, ⟨37, _⟩ => ⟨S2048x1x32, .f32⟩
  | .hbm, ⟨38, _⟩ => ⟨S2048x1x32, .f32⟩
  | .hbm, ⟨39, _⟩ => ⟨S1x2048x8x32, .f32⟩
  | .hbm, ⟨40, _⟩ => ⟨S1x2048x8x32, .f32⟩
  | .hbm, ⟨41, _⟩ => ⟨S1x2048x1x32, .f32⟩
  | .hbm, ⟨42, _⟩ => ⟨S1x2048x8x32, .f32⟩
  | .hbm, ⟨43, _⟩ => ⟨S1x2048x8x32, .f32⟩
  | .hbm, ⟨44, _⟩ => ⟨S1x2048x1x32, .f32⟩
  | .hbm, ⟨45, _⟩ => ⟨S1x2048x8x32, .f32⟩
  | .hbm, ⟨46, _⟩ => ⟨S1x2048x8x32, .f32⟩
  | .hbm, ⟨47, _⟩ => ⟨S1x2048x8x32, .f32⟩
  | .hbm, ⟨48, _⟩ => ⟨S1x2048x1x32, .f32⟩
  | .hbm, ⟨49, _⟩ => ⟨S1x2048x8x32, .f32⟩
  | .hbm, ⟨50, _⟩ => ⟨S1x2048x8x32, .f32⟩
  | .hbm, ⟨51, _⟩ => ⟨S1x2048x1x32, .f32⟩
  | .hbm, ⟨52, _⟩ => ⟨S1x2048x8x32, .f32⟩
  | .hbm, ⟨53, _⟩ => ⟨S1x2048x8x32, .f32⟩
  | .hbm, ⟨54, _⟩ => ⟨S1x2048x8x32, .f32⟩
  | .hbm, ⟨55, _⟩ => ⟨S1x2048x8x64, .f32⟩
  | .hbm, ⟨56, _⟩ => ⟨S1x2048x1x64, .f32⟩
  | .hbm, ⟨57, _⟩ => ⟨S1x2048x8x64, .f32⟩
  | .hbm, ⟨58, _⟩ => ⟨S1x2048x8x192, .f32⟩
  | .hbm, ⟨59, _⟩ => ⟨S1x2048x8x192, .f32⟩
  | .hbm, ⟨60, _⟩ => ⟨S2048x8x192, .f32⟩
  | .hbm, ⟨61, _⟩ => ⟨S1x2048x8x192, .f32⟩
  | .hbm, ⟨62, _⟩ => ⟨S2048x8x192, .f32⟩
  | .hbm, ⟨63, _⟩ => ⟨S1x2048x8x192, .f32⟩
  | .hbm, ⟨64, _⟩ => ⟨S2048x8x128, .f32⟩
  | .hbm, ⟨65, _⟩ => ⟨S1x2048x8x128, .f32⟩
  | .hbm, ⟨66, _⟩ => ⟨S1x2048x8x128, .f32⟩
  | .hbm, ⟨67, _⟩ => ⟨S1x2048x8x64, .f32⟩
  | .hbm, ⟨68, _⟩ => ⟨S1x2048x8x128, .f32⟩
  | .hbm, ⟨69, _⟩ => ⟨S1x2048x8x64, .f32⟩
  | .hbm, ⟨70, _⟩ => ⟨S_, .f32⟩
  | .hbm, ⟨71, _⟩ => ⟨S2048x64, .f32⟩
  | .hbm, ⟨72, _⟩ => ⟨S1x2048x1x64, .f32⟩
  | .hbm, ⟨73, _⟩ => ⟨S_, .f32⟩
  | .hbm, ⟨74, _⟩ => ⟨S2048x64, .f32⟩
  | .hbm, ⟨75, _⟩ => ⟨S1x2048x64, .f32⟩
  | .hbm, ⟨76, _⟩ => ⟨S1x2048x8x32, .f32⟩
  | .hbm, ⟨77, _⟩ => ⟨S1x2048x8x32, .f32⟩
  | .hbm, ⟨78, _⟩ => ⟨S1x2048x8x32, .f32⟩
  | .hbm, ⟨79, _⟩ => ⟨S1x2048x8x32, .f32⟩
  | .hbm, ⟨80, _⟩ => ⟨S1x2048x8x32, .f32⟩
  | .hbm, ⟨81, _⟩ => ⟨S1x2048x8x32, .f32⟩
  | .hbm, ⟨82, _⟩ => ⟨S1x2048x8x32, .f32⟩
  | .hbm, ⟨83, _⟩ => ⟨S1x2048x8x32, .f32⟩
  | .hbm, ⟨84, _⟩ => ⟨S1x2048x8x32, .f32⟩
  | .hbm, ⟨85, _⟩ => ⟨S1x2048x8x32, .f32⟩
  | .hbm, ⟨86, _⟩ => ⟨S1x2048x8x32, .f32⟩
  | .hbm, ⟨87, _⟩ => ⟨S1x2048x8x32, .f32⟩
  | .hbm, ⟨88, _⟩ => ⟨S1x2048x8x32, .f32⟩
  | .hbm, ⟨89, _⟩ => ⟨S_, .f32⟩
  | .hbm, ⟨90, _⟩ => ⟨S1x2048x8x64, .f32⟩
  | .hbm, ⟨91, _⟩ => ⟨S_, .f32⟩
  | .hbm, ⟨92, _⟩ => ⟨S1x2048x8x64, .f32⟩
  | .hbm, ⟨93, _⟩ => ⟨S1x2048x8x64, .f32⟩
  | .hbm, ⟨94, _⟩ => ⟨S_, .f32⟩
  | .hbm, ⟨95, _⟩ => ⟨S1x2048x8x256, .f32⟩
  | .hbm, ⟨96, _⟩ => ⟨S_, .f32⟩
  | .hbm, ⟨97, _⟩ => ⟨S1x2048x8x256, .f32⟩
  | .hbm, ⟨98, _⟩ => ⟨S1x2048x8x256, .f32⟩
  | .hbm, ⟨99, _⟩ => ⟨S_, .f32⟩
  | .hbm, ⟨100, _⟩ => ⟨S1x2048x8x192, .f32⟩
  | .hbm, ⟨101, _⟩ => ⟨S_, .f32⟩
  | .hbm, ⟨102, _⟩ => ⟨S1x2048x8x192, .f32⟩
  | .hbm, ⟨103, _⟩ => ⟨S1x2048x8x192, .f32⟩
  | .hbm, ⟨104, _⟩ => ⟨S2048x8x192, .f32⟩
  | .hbm, ⟨105, _⟩ => ⟨S8x2048x192, .f32⟩
  | .hbm, ⟨106, _⟩ => ⟨S8x2048x192, .bf16⟩
  | .hbm, ⟨107, _⟩ => ⟨S2048x8x256, .f32⟩
  | .hbm, ⟨108, _⟩ => ⟨S8x2048x256, .f32⟩
  | .hbm, ⟨109, _⟩ => ⟨S8x2048x256, .bf16⟩
  | .hbm, ⟨110, _⟩ => ⟨S2048x64, .f32⟩
  | _, _ => ⟨S8x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_cst_10 : Ref sig .tc := ⟨.hbm, 91, rfl⟩
abbrev main_v77 : Ref sig .tc := ⟨.hbm, 92, rfl⟩
abbrev main_v78 : Ref sig .tc := ⟨.hbm, 93, rfl⟩
abbrev main_cst_11 : Ref sig .tc := ⟨.hbm, 94, rfl⟩
abbrev main_v79 : Ref sig .tc := ⟨.hbm, 95, rfl⟩
abbrev main_cst_12 : Ref sig .tc := ⟨.hbm, 96, rfl⟩
abbrev main_v80 : Ref sig .tc := ⟨.hbm, 97, rfl⟩
abbrev main_v81 : Ref sig .tc := ⟨.hbm, 98, rfl⟩
abbrev main_cst_13 : Ref sig .tc := ⟨.hbm, 99, rfl⟩
abbrev main_v82 : Ref sig .tc := ⟨.hbm, 100, rfl⟩
abbrev main_cst_14 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩

abbrev nD : Nat := 1
abbrev τ : Topo := Topo.v7x

variable {F : FTy → Type} [FloatOps F]
-- ==== LatentKernel.lean ====
abbrev S2048x512 : Shape := ⟨2, ![2048, 512]⟩
abbrev S2048x64 : Shape := ⟨2, ![2048, 64]⟩
abbrev S2048x1088 : Shape := ⟨2, ![2048, 1088]⟩
abbrev S1x512 : Shape := ⟨2, ![1, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S64x64 : Shape := ⟨2, ![64, 64]⟩
abbrev S256x512 : Shape := ⟨2, ![256, 512]⟩
abbrev S256x64 : Shape := ⟨2, ![256, 64]⟩
abbrev S256x1088 : Shape := ⟨2, ![256, 1088]⟩
abbrev S256 : Shape := ⟨1, ![256]⟩
abbrev S256x1 : Shape := ⟨2, ![256, 1]⟩
abbrev S512 : Shape := ⟨1, ![512]⟩

abbrev nBuf : Space → Nat
  | .hbm => 53
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x64, .f32⟩
  | .hbm, ⟨3, _⟩ => ⟨S2048x1088, .f32⟩
  | .hbm, ⟨4, _⟩ => ⟨S1x512, .f32⟩
  | .hbm, ⟨5, _⟩ => ⟨S1x512, .f32⟩
  | .hbm, ⟨6, _⟩ => ⟨S2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S_, .f32⟩
  | .hbm, ⟨37, _⟩ => ⟨S64x64, .f32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S64x64, .i1⟩
  | .hbm, ⟨42, _⟩ => ⟨S_, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S2048x64, .f32⟩
  | .hbm, ⟨49, _⟩ => ⟨S2048x64, .f32⟩
  | .hbm, ⟨50, _⟩ => ⟨S2048x1088, .bf16⟩
  | .hbm, ⟨51, _⟩ => ⟨S1x512, .f32⟩
  | .hbm, ⟨52, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x64, .f32⟩
  | .local _ .vmem, ⟨5, _⟩ => ⟨S256x64, .f32⟩
  | .local _ .vmem, ⟨6, _⟩ => ⟨S256x1088, .f32⟩
  | .local _ .vmem, ⟨7, _⟩ => ⟨S256x1088, .f32⟩
  | .local _ .vmem, ⟨8, _⟩ => ⟨S1x512, .f32⟩
  | .local _ .vmem, ⟨9, _⟩ => ⟨S1x512, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S64x64, .f32⟩
  | .local _ .vmem, ⟨15, _⟩ => ⟨S256x1088, .bf16⟩
  | .local _ .vmem, ⟨16, _⟩ => ⟨S256x1088, .bf16⟩
  | .local _ .vmem, ⟨17, _⟩ => ⟨S1x512, .f32⟩
  | .local _ .vmem, ⟨18, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_35 : BitVec 32 := 0#32
  let v75 : BitVec 1 := Scalar.cmpi .ne v74 c0_i32_35
  v75

def k0_cond2 (i : grid0.Coords) : BitVec 1 :=
  let arg0 : BitVec 32 := BitVec.ofNat 32 (i 0).val
  let c0_i32_36 : BitVec 32 := 0#32
  let v76 : BitVec 1 := Scalar.cmpi .sgt arg0 c0_i32_36
  let v77 : BitVec 32 := Scalar.extui v76
  let c0_i32_37 : BitVec 32 := 0#32
  let v78 : BitVec 1 := Scalar.cmpi .ne v77 c0_i32_37
  v78

def k0_cond3 (i : grid0.Coords) : BitVec 1 :=
  let arg0 : BitVec 32 := BitVec.ofNat 32 (i 0).val
  let c0_i32_38 : BitVec 32 := 0#32
  let v79 : BitVec 1 := Scalar.cmpi .eq arg0 c0_i32_38
  let v80 : BitVec 32 := Scalar.extui v79
  let c0_i32_39 : BitVec 32 := 0#32
  let v81 : BitVec 1 := Scalar.cmpi .ne v80 c0_i32_39
  v81

def k0_cond4 (i : grid0.Coords) : BitVec 1 :=
  let arg0 : BitVec 32 := BitVec.ofNat 32 (i 0).val
  let c0_i32_40 : BitVec 32 := 0#32
  let v82 : BitVec 1 := Scalar.cmpi .sgt arg0 c0_i32_40
  let v83 : BitVec 32 := Scalar.extui v82
  let c0_i32_41 : BitVec 32 := 0#32
  let v84 : BitVec 1 := Scalar.cmpi .ne v83 c0_i32_41
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1088 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LatentReferenceIdeal.lean ====
abbrev S2048x512 : Shape := ⟨2, ![2048, 512]⟩
abbrev S2048x64 : Shape := ⟨2, ![2048, 64]⟩
abbrev S2048x1088 : Shape := ⟨2, ![2048, 1088]⟩
abbrev S1x512 : Shape := ⟨2, ![1, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512 : Shape := ⟨1, ![512]⟩

abbrev nBuf : Space → Nat
  | .hbm => 152
  | .vmem => 0
  | .smem => 0
  | _ => 0

abbrev hbmTy0_0 (i : Nat) : BufTy := match i % 128 with
  | 0 => ⟨S2048x512, .f32⟩
  | 1 => ⟨S2048x512, .f32⟩
  | 2 => ⟨S2048x64, .f32⟩
  | 3 => ⟨S2048x1088, .f32⟩
  | 4 => ⟨S1x512, .f32⟩
  | 5 => ⟨S1x512, .f32⟩
  | 6 => ⟨S2048x512, .f32⟩
  | 7 => ⟨S2048x512, .f32⟩
  | 8 => ⟨S2048x64, .f32⟩
  | 9 => ⟨S2048, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x32, .f32⟩
  | 33 => ⟨S512, .f32⟩
  | 34 => ⟨S2048x512, .f32⟩
  | 35 => ⟨S_, .f32⟩
  | 36 => ⟨S2048, .f32⟩
  | 37 => ⟨S2048x1, .f32⟩
  | 38 => ⟨S_, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x512, .f32⟩
  | 50 => ⟨S2048x512, .f32⟩
  | 51 => ⟨S1x512, .f32⟩
  | 52 => ⟨S2048x512, .f32⟩
  | 53 => ⟨S2048x512, .f32⟩
  | 54 => ⟨S512, .f32⟩
  | 55 => ⟨S2048x512, .f32⟩
  | 56 => ⟨S_, .f32⟩
  | 57 => ⟨S2048, .f32⟩
  | 58 => ⟨S2048x1, .f32⟩
  | 59 => ⟨S_, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x1, .f32⟩
  | 66 => ⟨S2048x1, .f32⟩
  | 67 => ⟨S_, .f32⟩
  | 68 => ⟨S2048x1, .f32⟩
  | 69 => ⟨S2048x1, .f32⟩
  | 70 => ⟨S2048x512, .f32⟩
  | 71 => ⟨S2048x512, .f32⟩
  | 72 => ⟨S1x512, .f32⟩
  | 73 => ⟨S2048x512, .f32⟩
  | 74 => ⟨S2048x512, .f32⟩
  | 75 => ⟨S2048x32, .f32⟩
  | 76 => ⟨S2048x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S2048x32, .f32⟩
  | 83 => ⟨S2048x64, .f32⟩
  | 84 => ⟨S2048x32, .f32⟩
  | 85 => ⟨S2048x32, .f32⟩
  | 86 => ⟨S2048x32, .f32⟩
  | 87 => ⟨S2048x32, .f32⟩
  | 88 => ⟨S2048x32, .f32⟩
  | 89 => ⟨S2048x32, .f32⟩
  | 90 => ⟨S2048x32, .f32⟩
  | 91 => ⟨S2048x32, .f32⟩
  | 92 => ⟨S2048x32, .f32⟩
  | 93 => ⟨S_, .f32⟩
  | 94 => ⟨S2048x64, .f32⟩
  | 95 => ⟨S_, .f32⟩
  | 96 => ⟨S2048x64, .f32⟩
  | 97 => ⟨S2048x64, .f32⟩
  | 98 => ⟨S2048x512, .f32⟩
  | 99 => ⟨S_, .f32⟩
  | 100 => ⟨S512, .f32⟩
  | 101 => ⟨S1x512, .f32⟩
  | 102 => ⟨S2048x512, .f32⟩
  | 103 => ⟨S2048x512, .f32⟩
  | 104 => ⟨S_, .f32⟩
  | 105 => ⟨S512, .f32⟩
  | 106 => ⟨S2048x512, .f32⟩
  | 107 => ⟨S_, .f32⟩
  | 108 => ⟨S2048, .f32⟩
  | 109 => ⟨S2048x1, .f32⟩
  | 110 => ⟨S2048x512, .f32⟩
  | 111 => ⟨S2048x512, .f32⟩
  | 112 => ⟨S2048x1, .f32⟩
  | 113 => ⟨S_, .f32⟩
  | 114 => ⟨S2048x1, .f32⟩
  | 115 => ⟨S2048x1, .f32⟩
  | 116 => ⟨S_, .f32⟩
  | 117 => ⟨S2048, .f32⟩
  | 118 => ⟨S2048x512, .f32⟩
  | 119 => ⟨S2048x512, .f32⟩
  | 120 => ⟨S2048x512, .f32⟩
  | 121 => ⟨S2048x512, .f32⟩
  | 122 => ⟨S2048x512, .f32⟩
  | 123 => ⟨S1x512, .f32⟩
  | 124 => ⟨S2048x512, .f32⟩
  | 125 => ⟨S_, .f32⟩
  | 126 => ⟨S512, .f32⟩
  | 127 => ⟨S1x512, .f32⟩
  | _ => ⟨S2048x512, .f32⟩

abbrev hbmTy0_1 (i : Nat) : BufTy := match i % 128 with
  | 0 => ⟨S2048x512, .f32⟩
  | 1 => ⟨S2048x512, .f32⟩
  | 2 => ⟨S_, .f32⟩
  | 3 => ⟨S512, .f32⟩
  | 4 => ⟨S2048x512, .f32⟩
  | 5 => ⟨S_, .f32⟩
  | 6 => ⟨S2048, .f32⟩
  | 7 => ⟨S2048x1, .f32⟩
  | 8 => ⟨S2048x512, .f32⟩
  | 9 => ⟨S2048x512, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S1x512, .f32⟩
  | 22 => ⟨S2048x1088, .f32⟩
  | 23 => ⟨S2048x1088, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_20 : Ref sig .tc := ⟨.hbm, 130, rfl⟩
abbrev main_v103 : Ref sig .tc := ⟨.hbm, 131, rfl⟩
abbrev main_v104 : Ref sig .tc := ⟨.hbm, 132, rfl⟩
abbrev main_cst_21 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_22 : Ref sig .tc := ⟨.hbm, 139, rfl⟩
abbrev main_v110 : Ref sig .tc := ⟨.hbm, 140, rfl⟩
abbrev main_v111 : Ref sig .tc := ⟨.hbm, 141, rfl⟩
abbrev main_cst_23 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩

abbrev nD : Nat := 1
abbrev τ : Topo := Topo.v7x

variable {F : FTy → Type} [FloatOps F]
-- ==== MlafwdKernel.lean ====
abbrev S1x2048x8x192 : Shape := ⟨4, ![1, 2048, 8, 192]⟩
abbrev S1x2048x8x128 : Shape := ⟨4, ![1, 2048, 8, 128]⟩
abbrev S2048x8x192 : Shape := ⟨3, ![2048, 8, 192]⟩
abbrev S8x2048x192 : Shape := ⟨3, ![8, 2048, 192]⟩
abbrev S2048x8x128 : Shape := ⟨3, ![2048, 8, 128]⟩
abbrev S8x2048x128 : Shape := ⟨3, ![8, 2048, 128]⟩
abbrev S2048x1024 : Shape := ⟨2, ![2048, 1024]⟩
abbrev S1x1024x192 : Shape := ⟨3, ![1, 1024, 192]⟩
abbrev S1x2048x192 : Shape := ⟨3, ![1, 2048, 192]⟩
abbrev S1x2048x128 : Shape := ⟨3, ![1, 2048, 128]⟩
abbrev S1024x128 : Shape := ⟨2, ![1024, 128]⟩
abbrev S1024x192 : Shape := ⟨2, ![1024, 192]⟩
abbrev S2048x192 : Shape := ⟨2, ![2048, 192]⟩
abbrev S1024x2048 : Shape := ⟨2, ![1024, 2048]⟩
abbrev S1024 : Shape := ⟨1, ![1024]⟩
abbrev S1024x1 : Shape := ⟨2, ![1024, 1]⟩
abbrev S2048x128 : Shape := ⟨2, ![2048, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x2048x8x192, .f32⟩
  | .hbm, ⟨1, _⟩ => ⟨S1x2048x8x192, .f32⟩
  | .hbm, ⟨2, _⟩ => ⟨S1x2048x8x128, .f32⟩
  | .hbm, ⟨3, _⟩ => ⟨S2048x8x192, .f32⟩
  | .hbm, ⟨4, _⟩ => ⟨S8x2048x192, .f32⟩
  | .hbm, ⟨5, _⟩ => ⟨S8x2048x192, .bf16⟩
  | .hbm, ⟨6, _⟩ => ⟨S2048x8x192, .f32⟩
  | .hbm, ⟨7, _⟩ => ⟨S8x2048x192, .f32⟩
  | .hbm, ⟨8, _⟩ => ⟨S8x2048x192, .bf16⟩
  | .hbm, ⟨9, _⟩ => ⟨S2048x8x128, .f32⟩
  | .hbm, ⟨10, _⟩ => ⟨S8x2048x128, .f32⟩
  | .hbm, ⟨11, _⟩ => ⟨S8x2048x128, .bf16⟩
  | .hbm, ⟨12, _⟩ => ⟨S2048x1024, .bf16⟩
  | .local _ .vmem, ⟨0, _⟩ => ⟨S1x1024x192, .bf16⟩
  | .local _ .vmem, ⟨1, _⟩ => ⟨S1x1024x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x128, .bf16⟩
  | .local _ .vmem, ⟨7, _⟩ => ⟨S1024x128, .bf16⟩
  | _, _ => ⟨S1x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlafwdReferenceIdeal.lean ====
abbrev S1x2048x8x192 : Shape := ⟨4, ![1, 2048, 8, 192]⟩
abbrev S1x2048x8x128 : Shape := ⟨4, ![1, 2048, 8, 128]⟩
abbrev S1x2048x8x64 : Shape := ⟨4, ![1, 2048, 8, 64]⟩
abbrev S1x8x2048x2048 : Shape := ⟨4, ![1, 8, 2048, 2048]⟩
abbrev S_ : Shape := ⟨0, ![]⟩
abbrev S1x8x2048 : Shape := ⟨3, ![1, 8, 2048]⟩
abbrev S1x8x2048x1 : Shape := ⟨4, ![1, 8, 2048, 1]⟩
abbrev S1x8x128x2048 : Shape := ⟨4, ![1, 8, 128, 2048]⟩
abbrev S1x2048x1024 : Shape := ⟨3, ![1, 2048, 1024]⟩
abbrev S2048x1024 : Shape := ⟨2, ![2048, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x2048x8x192, .f32⟩
  | .hbm, ⟨1, _⟩ => ⟨S1x2048x8x192, .f32⟩
  | .hbm, ⟨2, _⟩ => ⟨S1x2048x8x128, .f32⟩
  | .hbm, ⟨3, _⟩ => ⟨S1x2048x8x128, .f32⟩
  | .hbm, ⟨4, _⟩ => ⟨S1x2048x8x64, .f32⟩
  | .hbm, ⟨5, _⟩ => ⟨S1x2048x8x128, .f32⟩
  | .hbm, ⟨6, _⟩ => ⟨S1x2048x8x64, .f32⟩
  | .hbm, ⟨7, _⟩ => ⟨S1x8x2048x2048, .f32⟩
  | .hbm, ⟨8, _⟩ => ⟨S1x8x2048x2048, .f32⟩
  | .hbm, ⟨9, _⟩ => ⟨S1x8x2048x2048, .f32⟩
  | .hbm, ⟨10, _⟩ => ⟨S_, .f32⟩
  | .hbm, ⟨11, _⟩ => ⟨S1x8x2048x2048, .f32⟩
  | .hbm, ⟨12, _⟩ => ⟨S1x8x2048x2048, .f32⟩
  | .hbm, ⟨13, _⟩ => ⟨S_, .f32⟩
  | .hbm, ⟨14, _⟩ => ⟨S1x8x2048, .f32⟩
  | .hbm, ⟨15, _⟩ => ⟨S_, .f32⟩
  | .hbm, ⟨16, _⟩ => ⟨S1x8x2048, .f32⟩
  | .hbm, ⟨17, _⟩ => ⟨S1x8x2048, .f32⟩
  | .hbm, ⟨18, _⟩ => ⟨S1x8x2048x1, .f32⟩
  | .hbm, ⟨19, _⟩ => ⟨S1x8x2048x2048, .f32⟩
  | .hbm, ⟨20, _⟩ => ⟨S1x8x2048x2048, .f32⟩
  | .hbm, ⟨21, _⟩ => ⟨S1x8x2048x2048, .f32⟩
  | .hbm, ⟨22, _⟩ => ⟨S_, .f32⟩
  | .hbm, ⟨23, _⟩ => ⟨S1x8x2048, .f32⟩
  | .hbm, ⟨24, _⟩ => ⟨S1x8x2048x1, .f32⟩
  | .hbm, ⟨25, _⟩ => ⟨S1x8x2048x2048, .f32⟩
  | .hbm, ⟨26, _⟩ => ⟨S1x8x2048x2048, .f32⟩
  | .hbm, ⟨27, _⟩ => ⟨S1x8x128x2048, .f32⟩
  | .hbm, ⟨28, _⟩ => ⟨S1x2048x8x128, .f32⟩
  | .hbm, ⟨29, _⟩ => ⟨S1x2048x1024, .f32⟩
  | .hbm, ⟨30, _⟩ => ⟨S2048x1024, .f32⟩
  | .hbm, ⟨31, _⟩ => ⟨S2048x1024, .bf16⟩
  | _, _ => ⟨S1x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== RmsfwdKernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfwdReferenceIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== UpKernel.lean ====
abbrev S2048x2048 : Shape := ⟨2, ![2048, 2048]⟩
abbrev S2048x5632 : Shape := ⟨2, ![2048, 5632]⟩
abbrev S5632x2048 : Shape := ⟨2, ![5632, 2048]⟩
abbrev S8x704x2048 : Shape := ⟨3, ![8, 704, 2048]⟩
abbrev S8x2048x704 : Shape := ⟨3, ![8, 2048, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 13
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S5632x2048, .f32⟩
  | .hbm, ⟨5, _⟩ => ⟨S5632x2048, .bf16⟩
  | .hbm, ⟨6, _⟩ => ⟨S8x704x2048, .bf16⟩
  | .hbm, ⟨7, _⟩ => ⟨S5632x2048, .f32⟩
  | .hbm, ⟨8, _⟩ => ⟨S5632x2048, .bf16⟩
  | .hbm, ⟨9, _⟩ => ⟨S8x704x2048, .bf16⟩
  | .hbm, ⟨10, _⟩ => ⟨S8x2048x704, .bf16⟩
  | .hbm, ⟨11, _⟩ => ⟨S8x2048x704, .bf16⟩
  | .hbm, ⟨12, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpReferenceIdeal.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x8x704, .f32⟩
  | .hbm, ⟨6, _⟩ => ⟨S8x2048x704, .f32⟩
  | .hbm, ⟨7, _⟩ => ⟨S8x2048x704, .bf16⟩
  | .hbm, ⟨8, _⟩ => ⟨S2048x8x704, .f32⟩
  | .hbm, ⟨9, _⟩ => ⟨S8x2048x704, .f32⟩
  | .hbm, ⟨10, _⟩ => ⟨S8x2048x704, .bf16⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x8x704, .f32⟩
  | .hbm, ⟨22, _⟩ => ⟨S8x2048x704, .f32⟩
  | .hbm, ⟨23, _⟩ => ⟨S8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== MergeKernel.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S8x2048x256 : Shape := ⟨3, ![8, 2048, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 17
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S2048x1024, .bf16⟩
  | .hbm, ⟨7, _⟩ => ⟨S2048x1024, .bf16⟩
  | .hbm, ⟨8, _⟩ => ⟨S1024x8x256, .f32⟩
  | .hbm, ⟨9, _⟩ => ⟨S8x1024x256, .f32⟩
  | .hbm, ⟨10, _⟩ => ⟨S8x1024x256, .bf16⟩
  | .hbm, ⟨11, _⟩ => ⟨S1024x8x256, .f32⟩
  | .hbm, ⟨12, _⟩ => ⟨S8x1024x256, .f32⟩
  | .hbm, ⟨13, _⟩ => ⟨S8x1024x256, .bf16⟩
  | .hbm, ⟨14, _⟩ => ⟨S8x2048x256, .bf16⟩
  | .hbm, ⟨15, _⟩ => ⟨S8x2048x256, .bf16⟩
  | .hbm, ⟨16, _⟩ => ⟨S8x2048x256, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S2048x1024 : Shape := ⟨2, ![2048, 1024]⟩
abbrev S1024x2048 : Shape := ⟨2, ![1024, 2048]⟩
abbrev S2048x2048 : Shape := ⟨2, ![2048, 2048]⟩
abbrev S2048x8x256 : Shape := ⟨3, ![2048, 8, 256]⟩
abbrev S8x2048x256 : Shape := ⟨3, ![8, 2048, 256]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x8x256, .f32⟩
  | .hbm, ⟨9, _⟩ => ⟨S8x2048x256, .f32⟩
  | .hbm, ⟨10, _⟩ => ⟨S8x2048x256, .bf16⟩
  | .hbm, ⟨11, _⟩ => ⟨S2048x8x256, .f32⟩
  | .hbm, ⟨12, _⟩ => ⟨S8x2048x256, .f32⟩
  | .hbm, ⟨13, _⟩ => ⟨S8x2048x256, .bf16⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x8x256, .f32⟩
  | .hbm, ⟨34, _⟩ => ⟨S8x2048x256, .f32⟩
  | .hbm, ⟨35, _⟩ => ⟨S8x2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== EmbedKernel.lean ====
abbrev S2048x2048 : Shape := ⟨2, ![2048, 2048]⟩
abbrev S2048x256 : Shape := ⟨2, ![2048, 256]⟩
abbrev S256x2048 : Shape := ⟨2, ![256, 2048]⟩
abbrev S256x8x256 : Shape := ⟨3, ![256, 8, 256]⟩
abbrev S8x256x256 : Shape := ⟨3, ![8, 256, 256]⟩
abbrev S8x256x2048 : Shape := ⟨3, ![8, 256, 2048]⟩
abbrev S1024x2048 : Shape := ⟨2, ![1024, 2048]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 16
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S256x8x256, .f32⟩
  | .hbm, ⟨6, _⟩ => ⟨S8x256x256, .f32⟩
  | .hbm, ⟨7, _⟩ => ⟨S8x256x256, .bf16⟩
  | .hbm, ⟨8, _⟩ => ⟨S2048x2048, .bf16⟩
  | .hbm, ⟨9, _⟩ => ⟨S2048x2048, .bf16⟩
  | .hbm, ⟨10, _⟩ => ⟨S8x256x2048, .bf16⟩
  | .hbm, ⟨11, _⟩ => ⟨S2048x256, .bf16⟩
  | .hbm, ⟨12, _⟩ => ⟨S2048x2048, .bf16⟩
  | .hbm, ⟨13, _⟩ => ⟨S2048x2048, .f32⟩
  | .hbm, ⟨14, _⟩ => ⟨S2048x2048, .f32⟩
  | .hbm, ⟨15, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== EmbedReferenceIdeal.lean ====
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x256, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== PrepKernel.lean ====
abbrev S2048x1088 : Shape := ⟨2, ![2048, 1088]⟩
abbrev S1x512 : Shape := ⟨2, ![1, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S64x64 : Shape := ⟨2, ![64, 64]⟩
abbrev S2048x64 : Shape := ⟨2, ![2048, 64]⟩
abbrev S2048x512 : Shape := ⟨2, ![2048, 512]⟩
abbrev S256x1088 : Shape := ⟨2, ![256, 1088]⟩
abbrev S256x64 : Shape := ⟨2, ![256, 64]⟩
abbrev S256x512 : Shape := ⟨2, ![256, 512]⟩
abbrev S256 : Shape := ⟨1, ![256]⟩
abbrev S256x1 : Shape := ⟨2, ![256, 1]⟩

abbrev nBuf : Space → Nat
  | .hbm => 51
  | .vmem => 15
  | .smem => 0
  | _ => 0

abbrev bufTy : (tb : Table) → Fin (tcTables nBuf tb) → BufTy
  | .hbm, ⟨0, _⟩ => ⟨S2048x1088, .f32⟩
  | .hbm, ⟨1, _⟩ => ⟨S1x512, .f32⟩
  | .hbm, ⟨2, _⟩ => ⟨S1x512, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i1⟩
  | .hbm, ⟨33, _⟩ => ⟨S_, .f32⟩
  | .hbm, ⟨34, _⟩ => ⟨S64x64, .f32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S64x64, .i1⟩
  | .hbm, ⟨39, _⟩ => ⟨S_, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S2048x64, .f32⟩
  | .hbm, ⟨46, _⟩ => ⟨S2048x64, .f32⟩
  | .hbm, ⟨47, _⟩ => ⟨S64x64, .f32⟩
  | .hbm, ⟨48, _⟩ => ⟨S2048x512, .bf16⟩
  | .hbm, ⟨49, _⟩ => ⟨S2048x512, .bf16⟩
  | .hbm, ⟨50, _⟩ => ⟨S2048x64, .bf16⟩
  | .local _ .vmem, ⟨0, _⟩ => ⟨S256x1088, .f32⟩
  | .local _ .vmem, ⟨1, _⟩ => ⟨S256x1088, .f32⟩
  | .local _ .vmem, ⟨2, _⟩ => ⟨S1x512, .f32⟩
  | .local _ .vmem, ⟨3, _⟩ => ⟨S1x512, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S64x64, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x64, .bf16⟩
  | .local _ .vmem, ⟨14, _⟩ => ⟨S256x64, .bf16⟩
  | _, _ => ⟨S2048x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepReferenceIdeal.lean ====
abbrev S2048x1088 : Shape := ⟨2, ![2048, 1088]⟩
abbrev S1x512 : Shape := ⟨2, ![1, 512]⟩
abbrev S2048x512 : Shape := ⟨2, ![2048, 512]⟩
abbrev S2048x64 : Shape := ⟨2, ![2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512 : Shape := ⟨1, ![512]⟩

abbrev nBuf : Space → Nat
  | .hbm => 76
  | .vmem => 0
  | .smem => 0
  | _ => 0

abbrev bufTy : (tb : Table) → Fin (tcTables nBuf tb) → BufTy
  | .hbm, ⟨0, _⟩ => ⟨S2048x1088, .f32⟩
  | .hbm, ⟨1, _⟩ => ⟨S1x512, .f32⟩
  | .hbm, ⟨2, _⟩ => ⟨S1x512, .f32⟩
  | .hbm, ⟨3, _⟩ => ⟨S2048x512, .f32⟩
  | .hbm, ⟨4, _⟩ => ⟨S2048x512, .f32⟩
  | .hbm, ⟨5, _⟩ => ⟨S2048x64, .f32⟩
  | .hbm, ⟨6, _⟩ => ⟨S2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S512, .f32⟩
  | .hbm, ⟨31, _⟩ => ⟨S2048x512, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x512, .f32⟩
  | .hbm, ⟨43, _⟩ => ⟨S2048x512, .f32⟩
  | .hbm, ⟨44, _⟩ => ⟨S1x512, .f32⟩
  | .hbm, ⟨45, _⟩ => ⟨S2048x512, .f32⟩
  | .hbm, ⟨46, _⟩ => ⟨S2048x512, .f32⟩
  | .hbm, ⟨47, _⟩ => ⟨S512, .f32⟩
  | .hbm, ⟨48, _⟩ => ⟨S2048x512, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x1, .f32⟩
  | .hbm, ⟨59, _⟩ => ⟨S2048x512, .f32⟩
  | .hbm, ⟨60, _⟩ => ⟨S2048x512, .f32⟩
  | .hbm, ⟨61, _⟩ => ⟨S1x512, .f32⟩
  | .hbm, ⟨62, _⟩ => ⟨S2048x512, .f32⟩
  | .hbm, ⟨63, _⟩ => ⟨S2048x512, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x64, .f32⟩
  | .hbm, ⟨73, _⟩ => ⟨S2048x512, .bf16⟩
  | .hbm, ⟨74, _⟩ => ⟨S2048x512, .bf16⟩
  | .hbm, ⟨75, _⟩ => ⟨S2048x64, .bf16⟩
  | _, _ => ⟨S2048x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== QueriesKernel.lean ====
abbrev S2048x512 : Shape := ⟨2, ![2048, 512]⟩
abbrev S512x1536 : Shape := ⟨2, ![512, 1536]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S64x64 : Shape := ⟨2, ![64, 64]⟩
abbrev S2048x64 : Shape := ⟨2, ![2048, 64]⟩
abbrev S1536x512 : Shape := ⟨2, ![1536, 512]⟩
abbrev S8x192x512 : Shape := ⟨3, ![8, 192, 512]⟩
abbrev S8x2048x192 : Shape := ⟨3, ![8, 2048, 192]⟩
abbrev S512x512 : Shape := ⟨2, ![512, 512]⟩
abbrev S1x192x512 : Shape := ⟨3, ![1, 192, 512]⟩
abbrev S512x64 : Shape := ⟨2, ![512, 64]⟩
abbrev S1x512x192 : Shape := ⟨3, ![1, 512, 192]⟩
abbrev S192x512 : Shape := ⟨2, ![192, 512]⟩
abbrev S512x192 : Shape := ⟨2, ![512, 192]⟩
abbrev S512x128 : Shape := ⟨2, ![512, 128]⟩
abbrev S1x512x128 : Shape := ⟨3, ![1, 512, 128]⟩
abbrev S1x512x64 : Shape := ⟨3, ![1, 512, 64]⟩

abbrev nBuf : Space → Nat
  | .hbm => 52
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S64x64, .i32⟩
  | .hbm, ⟨27, _⟩ => ⟨S64x64, .i32⟩
  | .hbm, ⟨28, _⟩ => ⟨S_, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .f32⟩
  | .hbm, ⟨33, _⟩ => ⟨S64x64, .f32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S_, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S2048x64, .f32⟩
  | .hbm, ⟨45, _⟩ => ⟨S2048x64, .f32⟩
  | .hbm, ⟨46, _⟩ => ⟨S2048x512, .bf16⟩
  | .hbm, ⟨47, _⟩ => ⟨S1536x512, .f32⟩
  | .hbm, ⟨48, _⟩ => ⟨S1536x512, .bf16⟩
  | .hbm, ⟨49, _⟩ => ⟨S8x192x512, .bf16⟩
  | .hbm, ⟨50, _⟩ => ⟨S64x64, .f32⟩
  | .hbm, ⟨51, _⟩ => ⟨S8x2048x192, .bf16⟩
  | .local _ .vmem, ⟨0, _⟩ => ⟨S512x512, .bf16⟩
  | .local _ .vmem, ⟨1, _⟩ => ⟨S512x512, .bf16⟩
  | .local _ .vmem, ⟨2, _⟩ => ⟨S1x192x512, .bf16⟩
  | .local _ .vmem, ⟨3, _⟩ => ⟨S1x192x512, .bf16⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S64x64, .f32⟩
  | .local _ .vmem, ⟨9, _⟩ => ⟨S1x512x192, .bf16⟩
  | .local _ .vmem, ⟨10, _⟩ => ⟨S1x512x192, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QueriesReferenceIdeal.lean ====
abbrev S2048x512 : Shape := ⟨2, ![2048, 512]⟩
abbrev S512x1536 : Shape := ⟨2, ![512, 1536]⟩
abbrev S2048x1536 : Shape := ⟨2, ![2048, 1536]⟩
abbrev S2048x8x192 : Shape := ⟨3, ![2048, 8, 192]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x128 : Shape := ⟨3, ![2048, 8, 128]⟩
abbrev S8x2048x192 : Shape := ⟨3, ![8, 2048, 192]⟩

abbrev nBuf : Space → Nat
  | .hbm => 48
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | .hbm, ⟨3, _⟩ => ⟨S2048x8x192, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x8x64, .f32⟩
  | .hbm, ⟨29, _⟩ => ⟨S2048x1x32, .f32⟩
  | .hbm, ⟨30, _⟩ => ⟨S2048x1x32, .f32⟩
  | .hbm, ⟨31, _⟩ => ⟨S2048x8x32, .f32⟩
  | .hbm, ⟨32, _⟩ => ⟨S2048x8x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x32, .f32⟩
  | .hbm, ⟨39, _⟩ => ⟨S2048x8x32, .f32⟩
  | .hbm, ⟨40, _⟩ => ⟨S2048x8x32, .f32⟩
  | .hbm, ⟨41, _⟩ => ⟨S2048x8x32, .f32⟩
  | .hbm, ⟨42, _⟩ => ⟨S2048x8x32, .f32⟩
  | .hbm, ⟨43, _⟩ => ⟨S2048x8x64, .f32⟩
  | .hbm, ⟨44, _⟩ => ⟨S2048x8x128, .f32⟩
  | .hbm, ⟨45, _⟩ => ⟨S2048x8x192, .f32⟩
  | .hbm, ⟨46, _⟩ => ⟨S8x2048x192, .f32⟩
  | .hbm, ⟨47, _⟩ => ⟨S8x2048x192, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== KeysKernel.lean ====
abbrev S2048x512 : Shape := ⟨2, ![2048, 512]⟩
abbrev S512x2048 : Shape := ⟨2, ![512, 2048]⟩
abbrev S2048x64 : Shape := ⟨2, ![2048, 64]⟩
abbrev S512x8x256 : Shape := ⟨3, ![512, 8, 256]⟩
abbrev S8x512x256 : Shape := ⟨3, ![8, 512, 256]⟩
abbrev S8x2048x192 : Shape := ⟨3, ![8, 2048, 192]⟩
abbrev S8x2048x128 : Shape := ⟨3, ![8, 2048, 128]⟩
abbrev S512x512 : Shape := ⟨2, ![512, 512]⟩
abbrev S1x512x256 : Shape := ⟨3, ![1, 512, 256]⟩
abbrev S512x64 : Shape := ⟨2, ![512, 64]⟩
abbrev S1x512x192 : Shape := ⟨3, ![1, 512, 192]⟩
abbrev S1x512x128 : Shape := ⟨3, ![1, 512, 128]⟩
abbrev S512x256 : Shape := ⟨2, ![512, 256]⟩
abbrev S512x128 : Shape := ⟨2, ![512, 128]⟩
abbrev S1x512x64 : Shape := ⟨3, ![1, 512, 64]⟩

abbrev nBuf : Space → Nat
  | .hbm => 10
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x64, .f32⟩
  | .hbm, ⟨3, _⟩ => ⟨S2048x512, .bf16⟩
  | .hbm, ⟨4, _⟩ => ⟨S512x8x256, .f32⟩
  | .hbm, ⟨5, _⟩ => ⟨S8x512x256, .f32⟩
  | .hbm, ⟨6, _⟩ => ⟨S8x512x256, .bf16⟩
  | .hbm, ⟨7, _⟩ => ⟨S2048x64, .bf16⟩
  | .hbm, ⟨8, _⟩ => ⟨S8x2048x192, .bf16⟩
  | .hbm, ⟨9, _⟩ => ⟨S8x2048x128, .bf16⟩
  | .local _ .vmem, ⟨0, _⟩ => ⟨S512x512, .bf16⟩
  | .local _ .vmem, ⟨1, _⟩ => ⟨S512x512, .bf16⟩
  | .local _ .vmem, ⟨2, _⟩ => ⟨S1x512x256, .bf16⟩
  | .local _ .vmem, ⟨3, _⟩ => ⟨S1x512x256, .bf16⟩
  | .local _ .vmem, ⟨4, _⟩ => ⟨S512x64, .bf16⟩
  | .local _ .vmem, ⟨5, _⟩ => ⟨S512x64, .bf16⟩
  | .local _ .vmem, ⟨6, _⟩ => ⟨S1x512x192, .bf16⟩
  | .local _ .vmem, ⟨7, _⟩ => ⟨S1x512x192, .bf16⟩
  | .local _ .vmem, ⟨8, _⟩ => ⟨S1x512x128, .bf16⟩
  | .local _ .vmem, ⟨9, _⟩ => ⟨S1x512x128, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KeysReferenceIdeal.lean ====
abbrev S2048x512 : Shape := ⟨2, ![2048, 512]⟩
abbrev S512x2048 : Shape := ⟨2, ![512, 2048]⟩
abbrev S2048x64 : Shape := ⟨2, ![2048, 64]⟩
abbrev S2048x2048 : Shape := ⟨2, ![2048, 2048]⟩
abbrev S2048x8x256 : Shape := ⟨3, ![2048, 8, 256]⟩
abbrev S2048x8x128 : Shape := ⟨3, ![2048, 8, 128]⟩
abbrev S2048x1x64 : Shape := ⟨3, ![2048, 1, 64]⟩
abbrev S2048x8x64 : Shape := ⟨3, ![2048, 8, 64]⟩
abbrev S2048x8x192 : Shape := ⟨3, ![2048, 8, 192]⟩
abbrev S8x2048x192 : Shape := ⟨3, ![8, 2048, 192]⟩
abbrev S8x2048x128 : Shape := ⟨3, ![8, 2048, 128]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x64, .f32⟩
  | .hbm, ⟨3, _⟩ => ⟨S2048x2048, .f32⟩
  | .hbm, ⟨4, _⟩ => ⟨S2048x8x256, .f32⟩
  | .hbm, ⟨5, _⟩ => ⟨S2048x8x128, .f32⟩
  | .hbm, ⟨6, _⟩ => ⟨S2048x8x128, .f32⟩
  | .hbm, ⟨7, _⟩ => ⟨S2048x1x64, .f32⟩
  | .hbm, ⟨8, _⟩ => ⟨S2048x8x64, .f32⟩
  | .hbm, ⟨9, _⟩ => ⟨S2048x8x192, .f32⟩
  | .hbm, ⟨10, _⟩ => ⟨S8x2048x192, .f32⟩
  | .hbm, ⟨11, _⟩ => ⟨S8x2048x192, .bf16⟩
  | .hbm, ⟨12, _⟩ => ⟨S8x2048x128, .f32⟩
  | .hbm, ⟨13, _⟩ => ⟨S8x2048x128, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownKernel.lean ====
abbrev S2048x5632 : Shape := ⟨2, ![2048, 5632]⟩
abbrev S5632x2048 : Shape := ⟨2, ![5632, 2048]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S8x1024x704 : Shape := ⟨3, ![8, 1024, 704]⟩
abbrev S8x704x512 : Shape := ⟨3, ![8, 704, 512]⟩
abbrev S1024x512 : Shape := ⟨2, ![1024, 512]⟩
abbrev S1x1024x704 : Shape := ⟨3, ![1, 1024, 704]⟩
abbrev S1024x704 : Shape := ⟨2, ![1024, 704]⟩
abbrev S1x704x512 : Shape := ⟨3, ![1, 704, 512]⟩
abbrev S704x512 : Shape := ⟨2, ![704, 512]⟩

abbrev nBuf : Space → Nat
  | .hbm => 9
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x8x704, .f32⟩
  | .hbm, ⟨4, _⟩ => ⟨S8x2048x704, .f32⟩
  | .hbm, ⟨5, _⟩ => ⟨S8x2048x704, .bf16⟩
  | .hbm, ⟨6, _⟩ => ⟨S5632x2048, .bf16⟩
  | .hbm, ⟨7, _⟩ => ⟨S8x704x2048, .bf16⟩
  | .hbm, ⟨8, _⟩ => ⟨S2048x2048, .f32⟩
  | .local _ .vmem, ⟨0, _⟩ => ⟨S8x1024x704, .bf16⟩
  | .local _ .vmem, ⟨1, _⟩ => ⟨S8x1024x704, .bf16⟩
  | .local _ .vmem, ⟨2, _⟩ => ⟨S8x704x512, .bf16⟩
  | .local _ .vmem, ⟨3, _⟩ => ⟨S8x704x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutKernel.lean ====
abbrev S2048x2048 : Shape := ⟨2, ![2048, 2048]⟩
abbrev S2048x8x256 : Shape := ⟨3, ![2048, 8, 256]⟩
abbrev S8x2048x256 : Shape := ⟨3, ![8, 2048, 256]⟩
abbrev S8x256x2048 : Shape := ⟨3, ![8, 256, 2048]⟩
abbrev S8x1024x256 : Shape := ⟨3, ![8, 1024, 256]⟩
abbrev S8x256x512 : Shape := ⟨3, ![8, 256, 512]⟩
abbrev S1024x512 : Shape := ⟨2, ![1024, 512]⟩
abbrev S1x1024x256 : Shape := ⟨3, ![1, 1024, 256]⟩
abbrev S1024x256 : Shape := ⟨2, ![1024, 256]⟩
abbrev S1x256x512 : Shape := ⟨3, ![1, 256, 512]⟩
abbrev S256x512 : Shape := ⟨2, ![256, 512]⟩

abbrev nBuf : Space → Nat
  | .hbm => 9
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x8x256, .f32⟩
  | .hbm, ⟨4, _⟩ => ⟨S8x2048x256, .f32⟩
  | .hbm, ⟨5, _⟩ => ⟨S8x2048x256, .bf16⟩
  | .hbm, ⟨6, _⟩ => ⟨S2048x2048, .bf16⟩
  | .hbm, ⟨7, _⟩ => ⟨S8x256x2048, .bf16⟩
  | .hbm, ⟨8, _⟩ => ⟨S2048x2048, .f32⟩
  | .local _ .vmem, ⟨0, _⟩ => ⟨S8x1024x256, .bf16⟩
  | .local _ .vmem, ⟨1, _⟩ => ⟨S8x1024x256, .bf16⟩
  | .local _ .vmem, ⟨2, _⟩ => ⟨S8x256x512, .bf16⟩
  | .local _ .vmem, ⟨3, _⟩ => ⟨S8x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NafwdKernel.lean ====
abbrev S1x2048x1024 : Shape := ⟨3, ![1, 2048, 1024]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S2048x1024 : Shape := ⟨2, ![2048, 1024]⟩
abbrev S2048x3072 : Shape := ⟨2, ![2048, 3072]⟩
abbrev S256x512 : Shape := ⟨2, ![256, 512]⟩
abbrev S2048x512 : Shape := ⟨2, ![2048, 512]⟩
abbrev S4x15x64x64 : Shape := ⟨4, ![4, 15, 64, 64]⟩
abbrev S4x256x704 : Shape := ⟨3, ![4, 256, 704]⟩
abbrev S1x1x64x64 : Shape := ⟨4, ![1, 1, 64, 64]⟩
abbrev S1x64x64 : Shape := ⟨3, ![1, 64, 64]⟩
abbrev S256x128 : Shape := ⟨2, ![256, 128]⟩
abbrev S704x128 : Shape := ⟨2, ![704, 128]⟩
abbrev S1x256x704 : Shape := ⟨3, ![1, 256, 704]⟩
abbrev S256x704 : Shape := ⟨2, ![256, 704]⟩
abbrev S256 : Shape := ⟨1, ![256]⟩
abbrev S256x1 : Shape := ⟨2, ![256, 1]⟩

abbrev nBuf : Space → Nat
  | .hbm => 66
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S8x15x31, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S1x64, .i32⟩
  | .hbm, ⟨31, _⟩ => ⟨S64x1, .i32⟩
  | .hbm, ⟨32, _⟩ => ⟨S64x64, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i1⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S64x64x1, .i32⟩
  | .hbm, ⟨54, _⟩ => ⟨S8x15x64x64, .f32⟩
  | .hbm, ⟨55, _⟩ => ⟨S_, .f32⟩
  | .hbm, ⟨56, _⟩ => ⟨S_, .f32⟩
  | .hbm, ⟨57, _⟩ => ⟨S8x15x64x64, .i1⟩
  | .hbm, ⟨58, _⟩ => ⟨S8x15x64x64, .f32⟩
  | .hbm, ⟨59, _⟩ => ⟨S8x15x64x64, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x3072, .f32⟩
  | .hbm, ⟨64, _⟩ => ⟨S2048x3072, .bf16⟩
  | .hbm, ⟨65, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S4x15x64x64, .f32⟩
  | .local _ .vmem, ⟨7, _⟩ => ⟨S4x15x64x64, .f32⟩
  | .local _ .vmem, ⟨8, _⟩ => ⟨S256x512, .bf16⟩
  | .local _ .vmem, ⟨9, _⟩ => ⟨S256x512, .bf16⟩
  | .local _ .vmem, ⟨10, _⟩ => ⟨S4x256x704, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v3 : BitVec 1 := Scalar.ori v0 v1
  let c7_i32 : BitVec 32 := 7#32
  let v2 : BitVec 1 := Scalar.cmpi .eq arg1 c7_i32
  let v4 : BitVec 1 := Scalar.ori v3 v2
  let v5 : BitVec 32 := Scalar.extui v4
  let c0_i32_0 : BitVec 32 := 0#32
  let v6 : BitVec 1 := Scalar.cmpi .ne v5 c0_i32_0
  v6

def k0_off1 (i : grid0.Coords) (c0_i32_61 : BitVec 32) (c0_i32_62 : BitVec 32) : Fin 4 → Nat :=
  let c0_66 : Index := 0#32
  let c14_i32 : BitVec 32 := 14#32
  let c0_i32_65 : BitVec 32 := 0#32
  let c21_i32_55 : BitVec 32 := 21#32
  let c0_i32_54 : BitVec 32 := 0#32
  let arg1 : BitVec 32 := BitVec.ofNat 32 (i 1).val
  let c4_i32_52 : BitVec 32 := 4#32
  let v122 : BitVec 32 := Scalar.muli arg1 c4_i32_52
  let c4_i32_53 : BitVec 32 := 4#32
  let v123 : BitVec 32 := Scalar.subi v122 c4_i32_53
  let v124 : BitVec 32 := Scalar.maxsi c0_i32_54 v123
  let v125 : BitVec 32 := Scalar.minsi c21_i32_55 v124
  let v136 : BitVec 32 := Scalar.addi v125 c0_i32_61
  let c4_i32_51 : BitVec 32 := 4#32
  let v121 : BitVec 32 := Scalar.muli arg1 c4_i32_51
  let v137 : BitVec 32 := Scalar.subi v136 v121
  let v138 : BitVec 32 := Scalar.subi v137 c0_i32_62
  let c8_i32_63 : BitVec 32 := 8#32
  let v139 : BitVec 32 := Scalar.addi v138 c8_i32_63
  let c1_i32_64 : BitVec 32 := 1#32
  let v140 : BitVec 32 := Scalar.subi v139 c1_i32_64
  let v141 : BitVec 32 := Scalar.maxsi c0_i32_65 v140
  let v142 : BitVec 32 := Scalar.minsi c14_i32 v141
  let v143 : Index := Scalar.indexCast v142
  let c0_67 : Index := 0#32
  let c0_68 : Index := 0#32
  ![0, v143.toNat, 0, 0]
def k0_off2 (i : grid0.Coords) (c0_i32_61 : BitVec 32) (c0_i32_62 : BitVec 32) : Fin 4 → Nat :=
  let c1_73 : Index := 1#32
  let c14_i32 : BitVec 32 := 14#32
  let c0_i32_65 : BitVec 32 := 0#32
  let c21_i32_55 : BitVec 32 := 21#32
  let c0_i32_54 : BitVec 32 := 0#32
  let arg1 : BitVec 32 := BitVec.ofNat 32 (i 1).val
  let c4_i32_52 : BitVec 32 := 4#32
  let v122 : BitVec 32 := Scalar.muli arg1 c4_i32_52
  let c4_i32_53 : BitVec 32 := 4#32
  let v123 : BitVec 32 := Scalar.subi v122 c4_i32_53
  let v124 : BitVec 32 := Scalar.maxsi c0_i32_54 v123
  let v125 : BitVec 32 := Scalar.minsi c21_i32_55 v124
  let v136 : BitVec 32 := Scalar.addi v125 c0_i32_61
  let c4_i32_51 : BitVec 32 := 4#32
  let v121 : BitVec 32 := Scalar.muli arg1 c4_i32_51
  let v137 : BitVec 32 := Scalar.subi v136 v121
  let v138 : BitVec 32 := Scalar.subi v137 c0_i32_62
  let c8_i32_63 : BitVec 32 := 8#32
  let v139 : BitVec 32 := Scalar.addi v138 c8_i32_63
  let c1_i32_64 : BitVec 32 := 1#32
  let v140 : BitVec 32 := Scalar.subi v139 c1_i32_64
  let v141 : BitVec 32 := Scalar.maxsi c0_i32_65 v140
  let v142 : BitVec 32 := Scalar.minsi c14_i32 v141
  let v151 : Index := Scalar.indexCast v142
  let c0_74 : Index := 0#32
  let c0_75 : Index := 0#32
  ![1, v151.toNat, 0, 0]
def k0_off3 (i : grid0.Coords) (c0_i32_61 : BitVec 32) (c0_i32_62 : BitVec 32) : Fin 4 → Nat :=
  let c2_80 : Index := 2#32
  let c14_i32 : BitVec 32 := 14#32
  let c0_i32_65 : BitVec 32 := 0#32
  let c21_i32_55 : BitVec 32 := 21#32
  let c0_i32_54 : BitVec 32 := 0#32
  let arg1 : BitVec 32 := BitVec.ofNat 32 (i 1).val
  let c4_i32_52 : BitVec 32 := 4#32
  let v122 : BitVec 32 := Scalar.muli arg1 c4_i32_52
  let c4_i32_53 : BitVec 32 := 4#32
  let v123 : BitVec 32 := Scalar.subi v122 c4_i32_53
  let v124 : BitVec 32 := Scalar.maxsi c0_i32_54 v123
  let v125 : BitVec 32 := Scalar.minsi c21_i32_55 v124
  let v136 : BitVec 32 := Scalar.addi v125 c0_i32_61
  let c4_i32_51 : BitVec 32 := 4#32
  let v121 : BitVec 32 := Scalar.muli arg1 c4_i32_51
  let v137 : BitVec 32 := Scalar.subi v136 v121
  let v138 : BitVec 32 := Scalar.subi v137 c0_i32_62
  let c8_i32_63 : BitVec 32 := 8#32
  let v139 : BitVec 32 := Scalar.addi v138 c8_i32_63
  let c1_i32_64 : BitVec 32 := 1#32
  let v140 : BitVec 32 := Scalar.subi v139 c1_i32_64
  let v141 : BitVec 32 := Scalar.maxsi c0_i32_65 v140
  let v142 : BitVec 32 := Scalar.minsi c14_i32 v141
  let v159 : Index := Scalar.indexCast v142
  let c0_81 : Index := 0#32
  let c0_82 : Index := 0#32
  ![2, v159.toNat, 0, 0]
def k0_off4 (i : grid0.Coords) (c0_i32_61 : BitVec 32) (c0_i32_62 : BitVec 32) : Fin 4 → Nat :=
  let c3_87 : Index := 3#32
  let c14_i32 : BitVec 32 := 14#32
  let c0_i32_65 : BitVec 32 := 0#32
  let c21_i32_55 : BitVec 32 := 21#32
  let c0_i32_54 : BitVec 32 := 0#32
  let arg1 : BitVec 32 := BitVec.ofNat 32 (i 1).val
  let c4_i32_52 : BitVec 32 := 4#32
  let v122 : BitVec 32 := Scalar.muli arg1 c4_i32_52
  let c4_i32_53 : BitVec 32 := 4#32
  let v123 : BitVec 32 := Scalar.subi v122 c4_i32_53
  let v124 : BitVec 32 := Scalar.maxsi c0_i32_54 v123
  let v125 : BitVec 32 := Scalar.minsi c21_i32_55 v124
  let v136 : BitVec 32 := Scalar.addi v125 c0_i32_61
  let c4_i32_51 : BitVec 32 := 4#32
  let v121 : BitVec 32 := Scalar.muli arg1 c4_i32_51
  let v137 : BitVec 32 := Scalar.subi v136 v121
  let v138 : BitVec 32 := Scalar.subi v137 c0_i32_62
  let c8_i32_63 : BitVec 32 := 8#32
  let v139 : BitVec 32 := Scalar.addi v138 c8_i32_63
  let c1_i32_64 : BitVec 32 := 1#32
  let v140 : BitVec 32 := Scalar.subi v139 c1_i32_64
  let v141 : BitVec 32 := Scalar.maxsi c0_i32_65 v140
  let v142 : BitVec 32 := Scalar.minsi c14_i32 v141
  let v167 : Index := Scalar.indexCast v142
  let c0_88 : Index := 0#32
  let c0_89 : Index := 0#32
  ![3, v167.toNat, 0, 0]
def k0_mult1 (i : grid0.Coords) : BitVec 32 :=
  let c21_i32 : BitVec 32 := 21#32
  let c0_i32_2 : BitVec 32 := 0#32
  let arg1 : BitVec 32 := BitVec.ofNat 32 (i 1).val
  let c4_i32 : BitVec 32 := 4#32
  let v7 : BitVec 32 := Scalar.muli arg1 c4_i32
  let c4_i32_1 : BitVec 32 := 4#32
  let v8 : BitVec 32 := Scalar.subi v7 c4_i32_1
  let v9 : BitVec 32 := Scalar.maxsi c0_i32_2 v8
  let v10 : BitVec 32 := Scalar.minsi c21_i32 v9
  let c64_i32 : BitVec 32 := 64#32
  let v11 : BitVec 32 := Scalar.muli v10 c64_i32
  v11
def k0_off5 (i : grid0.Coords) : Fin 2 → Nat :=
  let c21_i32 : BitVec 32 := 21#32
  let c0_i32_2 : BitVec 32 := 0#32
  let arg1 : BitVec 32 := BitVec.ofNat 32 (i 1).val
  let c4_i32 : BitVec 32 := 4#32
  let v7 : BitVec 32 := Scalar.muli arg1 c4_i32
  let c4_i32_1 : BitVec 32 := 4#32
  let v8 : BitVec 32 := Scalar.subi v7 c4_i32_1
  let v9 : BitVec 32 := Scalar.maxsi c0_i32_2 v8
  let v10 : BitVec 32 := Scalar.minsi c21_i32 v9
  let c64_i32 : BitVec 32 := 64#32
  let v11 : BitVec 32 := Scalar.muli v10 c64_i32
  let v12 : BitVec 32 := v11
  let v15 : Index := Scalar.indexCast v12
  let c0_4 : Index := 0#32
  ![v15.toNat, 0]
def k0_off6 (i : grid0.Coords) : Fin 2 → Nat :=
  let c21_i32 : BitVec 32 := 21#32
  let c0_i32_2 : BitVec 32 := 0#32
  let arg1 : BitVec 32 := BitVec.ofNat 32 (i 1).val
  let c4_i32 : BitVec 32 := 4#32
  let v7 : BitVec 32 := Scalar.muli arg1 c4_i32
  let c4_i32_1 : BitVec 32 := 4#32
  let v8 : BitVec 32 := Scalar.subi v7 c4_i32_1
  let v9 : BitVec 32 := Scalar.maxsi c0_i32_2 v8
  let v10 : BitVec 32 := Scalar.minsi c21_i32 v9
  let c64_i32 : BitVec 32 := 64#32
  let v11 : BitVec 32 := Scalar.muli v10 c64_i32
  let v12 : BitVec 32 := v11
  let v42 : Index := Scalar.indexCast v12
  let c128_16 : Index := 128#32
  ![v42.toNat, 128]
def k0_off7 (i : grid0.Coords) : Fin 2 → Nat :=
  let c21_i32 : BitVec 32 := 21#32
  let c0_i32_2 : BitVec 32 := 0#32
  let arg1 : BitVec 32 := BitVec.ofNat 32 (i 1).val
  let c4_i32 : BitVec 32 := 4#32
  let v7 : BitVec 32 := Scalar.muli arg1 c4_i32
  let c4_i32_1 : BitVec 32 := 4#32
  let v8 : BitVec 32 := Scalar.subi v7 c4_i32_1
  let v9 : BitVec 32 := Scalar.maxsi c0_i32_2 v8
  let v10 : BitVec 32 := Scalar.minsi c21_i32 v9
  let c64_i32 : BitVec 32 := 64#32
  let v11 : BitVec 32 := Scalar.muli v10 c64_i32
  let v12 : BitVec 32 := v11
  let v69 : Index := Scalar.indexCast v12
  let c256_28 : Index := 256#32
  ![v69.toNat, 256]
def k0_off8 (i : grid0.Coords) : Fin 2 → Nat :=
  let c21_i32 : BitVec 32 := 21#32
  let c0_i32_2 : BitVec 32 := 0#32
  let arg1 : BitVec 32 := BitVec.ofNat 32 (i 1).val
  let c4_i32 : BitVec 32 := 4#32
  let v7 : BitVec 32 := Scalar.muli arg1 c4_i32
  let c4_i32_1 : BitVec 32 := 4#32
  let v8 : BitVec 32 := Scalar.subi v7 c4_i32_1
  let v9 : BitVec 32 := Scalar.maxsi c0_i32_2 v8
  let v10 : BitVec 32 := Scalar.minsi c21_i32 v9
  let c64_i32 : BitVec 32 := 64#32
  let v11 : BitVec 32 := Scalar.muli v10 c64_i32
  let v12 : BitVec 32 := v11
  let v96 : Index := Scalar.indexCast v12
  let c384_40 : Index := 384#32
  ![v96.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x15x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NafwdKernelIdeal.lean ====
variable {F : FTy → Type} [FloatOps F] [Named F]
def κ : String → Option EReal := fun
  | "mask" => some ⊥
  | _ => none
-- ==== NafwdReferenceIdeal.lean ====
abbrev S1x2048x1024 : Shape := ⟨3, ![1, 2048, 1024]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S1x32x64x8x128 : Shape := ⟨5, ![1, 32, 64, 8, 128]⟩
abbrev S64x1x64 : Shape := ⟨3, ![64, 1, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S1x32x8x64x8x128 : Shape := ⟨6, ![1, 32, 8, 64, 8, 128]⟩
abbrev S8x32x8x64x64 : Shape := ⟨5, ![8, 32, 8, 64, 64]⟩
abbrev S32x8x64x8x64 : Shape := ⟨5, ![32, 8, 64, 8, 64]⟩
abbrev S1x32x8x64x8x64 : Shape := ⟨6, ![1, 32, 8, 64, 8, 64]⟩
abbrev S1x32x8x64x512 : Shape := ⟨5, ![1, 32, 8, 64, 512]⟩
abbrev S1x32x8x64 : Shape := ⟨4, ![1, 32, 8, 64]⟩
abbrev S1x32x8x64x1 : Shape := ⟨5, ![1, 32, 8, 64, 1]⟩
abbrev S1x32x8x128x64 : Shape := ⟨5, ![1, 32, 8, 128, 64]⟩
abbrev S2048x1024 : Shape := ⟨2, ![2048, 1024]⟩

abbrev nBuf : Space → Nat
  | .hbm => 185
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1x2048x1024, .f32⟩
  | 3 => ⟨S8x15x31, .f32⟩
  | 4 => ⟨S64, .i32⟩
  | 5 => ⟨S_, .i32⟩
  | 6 => ⟨S64, .i32⟩
  | 7 => ⟨S64, .i32⟩
  | 8 => ⟨S_, .i32⟩
  | 9 => ⟨S_, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S1x64, .i32⟩
  | 17 => ⟨S64x1, .i32⟩
  | 18 => ⟨S64x64, .i32⟩
  | 19 => ⟨S64x64, .i32⟩
  | 20 => ⟨S64x64, .i1⟩
  | 21 => ⟨S1x64, .i32⟩
  | 22 => ⟨S64x1, .i32⟩
  | 23 => ⟨S_, .i32⟩
  | 24 => ⟨S64x1, .i32⟩
  | 25 => ⟨S64x1, .i32⟩
  | 26 => ⟨S64x64, .i32⟩
  | 27 => ⟨S64x64, .i32⟩
  | 28 => ⟨S64x64, .i1⟩
  | 29 => ⟨S64x64, .i1⟩
  | 30 => ⟨S1x64, .i32⟩
  | 31 => ⟨S64x1, .i32⟩
  | 32 => ⟨S64x64, .i32⟩
  | 33 => ⟨S64x64, .i32⟩
  | 34 => ⟨S64x64, .i32⟩
  | 35 => ⟨S_, .i32⟩
  | 36 => ⟨S_, .i32⟩
  | 37 => ⟨S_, .i32⟩
  | 38 => ⟨S64x64, .i32⟩
  | 39 => ⟨S64x64, .i32⟩
  | 40 => ⟨S_, .i32⟩
  | 41 => ⟨S64x64, .i32⟩
  | 42 => ⟨S64x64, .i32⟩
  | 43 => ⟨S_, .i32⟩
  | 44 => ⟨S64x64, .i32⟩
  | 45 => ⟨S64x64, .i32⟩
  | 46 => ⟨S_, .i32⟩
  | 47 => ⟨S64x64, .i32⟩
  | 48 => ⟨S64x64, .i1⟩
  | 49 => ⟨S_, .i32⟩
  | 50 => ⟨S64x64, .i32⟩
  | 51 => ⟨S64x64, .i32⟩
  | 52 => ⟨S64x64, .i32⟩
  | 53 => ⟨S64x64x1, .i32⟩
  | 54 => ⟨S8x15x64x64, .f32⟩
  | 55 => ⟨S1x32x64x8x128, .f32⟩
  | 56 => ⟨S1x32x64x8x128, .f32⟩
  | 57 => ⟨S1x32x64x8x128, .f32⟩
  | 58 => ⟨S64, .i32⟩
  | 59 => ⟨S_, .i32⟩
  | 60 => ⟨S64, .i32⟩
  | 61 => ⟨S64, .i32⟩
  | 62 => ⟨S_, .i32⟩
  | 63 => ⟨S_, .i32⟩
  | 64 => ⟨S_, .i32⟩
  | 65 => ⟨S64, .i32⟩
  | 66 => ⟨S64, .i32⟩
  | 67 => ⟨S_, .i32⟩
  | 68 => ⟨S64, .i32⟩
  | 69 => ⟨S64, .i32⟩
  | 70 => ⟨S1x64, .i32⟩
  | 71 => ⟨S64x1, .i32⟩
  | 72 => ⟨S64x64, .i32⟩
  | 73 => ⟨S64x64, .i32⟩
  | 74 => ⟨S64x64, .i1⟩
  | 75 => ⟨S1x64, .i32⟩
  | 76 => ⟨S64x1, .i32⟩
  | 77 => ⟨S_, .i32⟩
  | 78 => ⟨S64x1, .i32⟩
  | 79 => ⟨S64x1, .i32⟩
  | 80 => ⟨S64x64, .i32⟩
  | 81 => ⟨S64x64, .i32⟩
  | 82 => ⟨S64x64, .i1⟩
  | 83 => ⟨S64x64, .i1⟩
  | 84 => ⟨S1x64, .i32⟩
  | 85 => ⟨S64x1, .i32⟩
  | 86 => ⟨S64x64, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S_, .i32⟩
  | 98 => ⟨S64x64, .i32⟩
  | 99 => ⟨S64x64, .i32⟩
  | 100 => ⟨S64x1x64, .i1⟩
  | 101 => ⟨S32, .i32⟩
  | 102 => ⟨S_, .i32⟩
  | 103 => ⟨S32, .i32⟩
  | 104 => ⟨S32, .i32⟩
  | 105 => ⟨S_, .i32⟩
  | 106 => ⟨S_, .i32⟩
  | 107 => ⟨S_, .i32⟩
  | 108 => ⟨S32, .i32⟩
  | 109 => ⟨S32, .i32⟩
  | 110 => ⟨S_, .i32⟩
  | 111 => ⟨S32, .i32⟩
  | 112 => ⟨S32, .i32⟩
  | 113 => ⟨S32x1, .i32⟩
  | 114 => ⟨S8, .i32⟩
  | 115 => ⟨S1x8, .i32⟩
  | 116 => ⟨S32x8, .i32⟩
  | 117 => ⟨S32x8, .i32⟩
  | 118 => ⟨S32x8, .i32⟩
  | 119 => ⟨S_, .i32⟩
  | 120 => ⟨S32x8, .i32⟩
  | 121 => ⟨S32x8, .i1⟩
  | 122 => ⟨S_, .i32⟩
  | 123 => ⟨S32x8, .i32⟩
  | 124 => ⟨S32x8, .i32⟩
  | 125 => ⟨S32x8, .i32⟩
  | 126 => ⟨S32x8x1, .i32⟩
  | 127 => ⟨S1x32x8x64x8x128, .f32⟩
  | _ => ⟨S1x2048x1024, .f32⟩

abbrev hbmTy0_1 (i : Nat) : BufTy := match i % 128 with
  | 0 => ⟨S_, .i32⟩
  | 1 => ⟨S32x8, .i32⟩
  | 2 => ⟨S32x8, .i1⟩
  | 3 => ⟨S_, .i32⟩
  | 4 => ⟨S32x8, .i32⟩
  | 5 => ⟨S32x8, .i32⟩
  | 6 => ⟨S32x8, .i32⟩
  | 7 => ⟨S32x8x1, .i32⟩
  | 8 => ⟨S1x32x8x64x8x128, .f32⟩
  | 9 => ⟨S32x1, .i32⟩
  | 10 => ⟨S32x8, .i32⟩
  | 11 => ⟨S32x8, .i32⟩
  | 12 => ⟨S_, .i32⟩
  | 13 => ⟨S32x8, .i32⟩
  | 14 => ⟨S32x8, .i32⟩
  | 15 => ⟨S_, .i32⟩
  | 16 => ⟨S32x8, .i32⟩
  | 17 => ⟨S32x8, .i1⟩
  | 18 => ⟨S_, .i32⟩
  | 19 => ⟨S32x8, .i32⟩
  | 20 => ⟨S32x8, .i32⟩
  | 21 => ⟨S32x8, .i32⟩
  | 22 => ⟨S32x8x1, .i32⟩
  | 23 => ⟨S8x32x8x64x64, .f32⟩
  | 24 => ⟨S32x8x64x8x64, .f32⟩
  | 25 => ⟨S1x32x8x64x8x64, .f32⟩
  | 26 => ⟨S_, .f32⟩
  | 27 => ⟨S1x32x8x64x8x64, .f32⟩
  | 28 => ⟨S1x32x8x64x8x64, .f32⟩
  | 29 => ⟨S1x32x8x64x8x64, .f32⟩
  | 30 => ⟨S1x32x8x64x8x64, .f32⟩
  | 31 => ⟨S_, .f32⟩
  | 32 => ⟨S_, .f32⟩
  | 33 => ⟨S1x32x8x64x8x64, .i1⟩
  | 34 => ⟨S1x32x8x64x8x64, .f32⟩
  | 35 => ⟨S1x32x8x64x8x64, .f32⟩
  | 36 => ⟨S1x32x8x64x512, .f32⟩
  | 37 => ⟨S_, .f32⟩
  | 38 => ⟨S1x32x8x64, .f32⟩
  | 39 => ⟨S_, .f32⟩
  | 40 => ⟨S1x32x8x64, .f32⟩
  | 41 => ⟨S1x32x8x64, .f32⟩
  | 42 => ⟨S1x32x8x64x1, .f32⟩
  | 43 => ⟨S1x32x8x64x512, .f32⟩
  | 44 => ⟨S1x32x8x64x512, .f32⟩
  | 45 => ⟨S1x32x8x64x512, .f32⟩
  | 46 => ⟨S_, .f32⟩
  | 47 => ⟨S1x32x8x64, .f32⟩
  | 48 => ⟨S1x32x8x64x1, .f32⟩
  | 49 => ⟨S1x32x8x64x512, .f32⟩
  | 50 => ⟨S1x32x8x64x512, .f32⟩
  | 51 => ⟨S1x32x8x64x8x64, .f32⟩
  | 52 => ⟨S1x32x8x128x64, .f32⟩
  | 53 => ⟨S1x32x64x8x128, .f32⟩
  | 54 => ⟨S1x2048x1024, .f32⟩
  | 55 => ⟨S2048x1024, .f32⟩
  | 56 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_c_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_c_13 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v57 : Ref sig .tc := ⟨.hbm, 96, rfl⟩
abbrev main_c_14 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_15 : Ref sig .tc := ⟨.hbm, 102, rfl⟩
abbrev main_v62 : Ref sig .tc := ⟨.hbm, 103, rfl⟩
abbrev main_v63 : Ref sig .tc := ⟨.hbm, 104, rfl⟩
abbrev main_c_16 : Ref sig .tc := ⟨.hbm, 105, rfl⟩
abbrev main_c_17 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_18 : Ref sig .tc := ⟨.hbm, 119, rfl⟩
abbrev main_v71 : Ref sig .tc := ⟨.hbm, 120, rfl⟩
abbrev main_v72 : Ref sig .tc := ⟨.hbm, 121, rfl⟩
abbrev main_c_19 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_20 : Ref sig .tc := ⟨.hbm, 128, rfl⟩
abbrev main_v78 : Ref sig .tc := ⟨.hbm, 129, rfl⟩
abbrev main_v79 : Ref sig .tc := ⟨.hbm, 130, rfl⟩
abbrev main_c_21 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_c_22 : Ref sig .tc := ⟨.hbm, 140, rfl⟩
abbrev main_v88 : Ref sig .tc := ⟨.hbm, 141, rfl⟩
abbrev main_v89 : Ref sig .tc := ⟨.hbm, 142, rfl⟩
abbrev main_c_23 : Ref sig .tc := ⟨.hbm, 143, rfl⟩
abbrev main_v90 : Ref sig .tc := ⟨.hbm, 144, rfl⟩
abbrev main_v91 : Ref sig .tc := ⟨.hbm, 145, rfl⟩
abbrev main_c_24 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_25 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_v103 : Ref sig .tc := ⟨.hbm, 163, rfl⟩
abbrev main_v104 : Ref sig .tc := ⟨.hbm, 164, rfl⟩
abbrev main_cst_26 : Ref sig .tc := ⟨.hbm, 165, rfl⟩
abbrev main_v105 : Ref sig .tc := ⟨.hbm, 166, rfl⟩
abbrev main_cst_27 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_28 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩

abbrev nD : Nat := 1
abbrev τ : Topo := Topo.v7x

variable {F : FTy → Type} [FloatOps F]

def κ : String → Option EReal := fun
  | "mask" => some ⊥
  | _ => none
-- ==== DowndwKernel.lean ====
abbrev S2048x5632 : Shape := ⟨2, ![2048, 5632]⟩
abbrev S2048x2048 : Shape := ⟨2, ![2048, 2048]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x8x704, .f32⟩
  | .hbm, ⟨3, _⟩ => ⟨S8x2048x704, .f32⟩
  | .hbm, ⟨4, _⟩ => ⟨S8x2048x704, .bf16⟩
  | .hbm, ⟨5, _⟩ => ⟨S2048x2048, .bf16⟩
  | .hbm, ⟨6, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DowndwReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x5632, .f32⟩
  | .hbm, ⟨12, _⟩ => ⟨S5632x2048, .f32⟩
  | .hbm, ⟨13, _⟩ => ⟨S8x704x2048, .f32⟩
  | .hbm, ⟨14, _⟩ => ⟨S8x704x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== UpdwKernel.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S2048x8x704, .f32⟩
  | .hbm, ⟨8, _⟩ => ⟨S8x2048x704, .f32⟩
  | .hbm, ⟨9, _⟩ => ⟨S8x2048x704, .bf16⟩
  | .hbm, ⟨10, _⟩ => ⟨S8x704x2048, .bf16⟩
  | .hbm, ⟨11, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S2048x1024, .bf16⟩
  | .local _ .vmem, ⟨7, _⟩ => ⟨S2048x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpdwReferenceIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | .hbm, ⟨14, _⟩ => ⟨S5632x2048, .f32⟩
  | .hbm, ⟨15, _⟩ => ⟨S8x704x2048, .f32⟩
  | .hbm, ⟨16, _⟩ => ⟨S8x704x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== UpdxKernel.lean ====
abbrev S2048x5632 : Shape := ⟨2, ![2048, 5632]⟩
abbrev S2048x8x704 : Shape := ⟨3, ![2048, 8, 704]⟩
abbrev S8x2048x704 : Shape := ⟨3, ![8, 2048, 704]⟩
abbrev S5632x2048 : Shape := ⟨2, ![5632, 2048]⟩
abbrev S8x704x2048 : Shape := ⟨3, ![8, 704, 2048]⟩
abbrev S2048x2048 : Shape := ⟨2, ![2048, 2048]⟩
abbrev S8x512x704 : Shape := ⟨3, ![8, 512, 704]⟩
abbrev S8x704x512 : Shape := ⟨3, ![8, 704, 512]⟩
abbrev S512x512 : Shape := ⟨2, ![512, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩

abbrev nBuf : Space → Nat
  | .hbm => 17
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x8x704, .f32⟩
  | .hbm, ⟨5, _⟩ => ⟨S8x2048x704, .f32⟩
  | .hbm, ⟨6, _⟩ => ⟨S8x2048x704, .bf16⟩
  | .hbm, ⟨7, _⟩ => ⟨S2048x8x704, .f32⟩
  | .hbm, ⟨8, _⟩ => ⟨S8x2048x704, .f32⟩
  | .hbm, ⟨9, _⟩ => ⟨S8x2048x704, .bf16⟩
  | .hbm, ⟨10, _⟩ => ⟨S5632x2048, .f32⟩
  | .hbm, ⟨11, _⟩ => ⟨S5632x2048, .bf16⟩
  | .hbm, ⟨12, _⟩ => ⟨S8x704x2048, .bf16⟩
  | .hbm, ⟨13, _⟩ => ⟨S5632x2048, .f32⟩
  | .hbm, ⟨14, _⟩ => ⟨S5632x2048, .bf16⟩
  | .hbm, ⟨15, _⟩ => ⟨S8x704x2048, .bf16⟩
  | .hbm, ⟨16, _⟩ => ⟨S2048x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x512, .bf16⟩
  | .local _ .vmem, ⟨3, _⟩ => ⟨S8x704x512, .bf16⟩
  | .local _ .vmem, ⟨4, _⟩ => ⟨S8x512x704, .bf16⟩
  | .local _ .vmem, ⟨5, _⟩ => ⟨S8x512x704, .bf16⟩
  | .local _ .vmem, ⟨6, _⟩ => ⟨S8x704x512, .bf16⟩
  | .local _ .vmem, ⟨7, _⟩ => ⟨S8x704x512, .bf16⟩
  | .local _ .vmem, ⟨8, _⟩ => ⟨S512x512, .f32⟩
  | .local _ .vmem, ⟨9, _⟩ => ⟨S512x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpdxReferenceIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InqkvKernel.lean ====
abbrev S2048x2048 : Shape := ⟨2, ![2048, 2048]⟩
abbrev S2048x8256 : Shape := ⟨2, ![2048, 8256]⟩
abbrev S8256x2048 : Shape := ⟨2, ![8256, 2048]⟩
abbrev S2048x3072 : Shape := ⟨2, ![2048, 3072]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8256, .f32⟩
  | .hbm, ⟨2, _⟩ => ⟨S2048x2048, .bf16⟩
  | .hbm, ⟨3, _⟩ => ⟨S8256x2048, .f32⟩
  | .hbm, ⟨4, _⟩ => ⟨S8256x2048, .bf16⟩
  | .hbm, ⟨5, _⟩ => ⟨S2048x3072, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InqkvReferenceIdeal.lean ====
abbrev S2048x2048 : Shape := ⟨2, ![2048, 2048]⟩
abbrev S2048x8256 : Shape := ⟨2, ![2048, 8256]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8256, .f32⟩
  | .hbm, ⟨2, _⟩ => ⟨S2048x8256, .f32⟩
  | .hbm, ⟨3, _⟩ => ⟨S2048x3072, .f32⟩
  | .hbm, ⟨4, _⟩ => ⟨S2048x3072, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchdwKernel.lean ====
abbrev S2048x1024 : Shape := ⟨2, ![2048, 1024]⟩
abbrev S2048x2048 : Shape := ⟨2, ![2048, 2048]⟩
abbrev S2048x8x256 : Shape := ⟨3, ![2048, 8, 256]⟩
abbrev S8x2048x256 : Shape := ⟨3, ![8, 2048, 256]⟩
abbrev S8x1024x256 : Shape := ⟨3, ![8, 1024, 256]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x8x256, .f32⟩
  | .hbm, ⟨4, _⟩ => ⟨S8x2048x256, .f32⟩
  | .hbm, ⟨5, _⟩ => ⟨S8x2048x256, .bf16⟩
  | .hbm, ⟨6, _⟩ => ⟨S8x1024x256, .bf16⟩
  | .local _ .vmem, ⟨0, _⟩ => ⟨S2048x1024, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x1024x256, .bf16⟩
  | .local _ .vmem, ⟨4, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchdwReferenceIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueriesdwKernel.lean ====
abbrev S2048x1536 : Shape := ⟨2, ![2048, 1536]⟩
abbrev S2048x512 : Shape := ⟨2, ![2048, 512]⟩
abbrev S2048x8x192 : Shape := ⟨3, ![2048, 8, 192]⟩
abbrev S8x2048x192 : Shape := ⟨3, ![8, 2048, 192]⟩
abbrev S8x192x512 : Shape := ⟨3, ![8, 192, 512]⟩
abbrev S1x2048x192 : Shape := ⟨3, ![1, 2048, 192]⟩
abbrev S1x192x512 : Shape := ⟨3, ![1, 192, 512]⟩
abbrev S2048x192 : Shape := ⟨2, ![2048, 192]⟩
abbrev S192x512 : Shape := ⟨2, ![192, 512]⟩

abbrev nBuf : Space → Nat
  | .hbm => 7
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S2048x512, .f32⟩
  | .hbm, ⟨2, _⟩ => ⟨S2048x8x192, .f32⟩
  | .hbm, ⟨3, _⟩ => ⟨S8x2048x192, .f32⟩
  | .hbm, ⟨4, _⟩ => ⟨S8x2048x192, .bf16⟩
  | .hbm, ⟨5, _⟩ => ⟨S2048x512, .bf16⟩
  | .hbm, ⟨6, _⟩ => ⟨S8x192x512, .bf16⟩
  | .local _ .vmem, ⟨0, _⟩ => ⟨S1x2048x192, .bf16⟩
  | .local _ .vmem, ⟨1, _⟩ => ⟨S1x2048x192, .bf16⟩
  | .local _ .vmem, ⟨2, _⟩ => ⟨S2048x512, .bf16⟩
  | .local _ .vmem, ⟨3, _⟩ => ⟨S1x192x512, .bf16⟩
  | .local _ .vmem, ⟨4, _⟩ => ⟨S1x192x512, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesdwReferenceIdeal.lean ====
abbrev S2048x1536 : Shape := ⟨2, ![2048, 1536]⟩
abbrev S2048x512 : Shape := ⟨2, ![2048, 512]⟩
abbrev S_ : Shape := ⟨0, ![]⟩
abbrev S512x1536 : Shape := ⟨2, ![512, 1536]⟩
abbrev S1536x512 : Shape := ⟨2, ![1536, 512]⟩
abbrev S8x192x512 : Shape := ⟨3, ![8, 192, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x512, .f32⟩
  | .hbm, ⟨2, _⟩ => ⟨S_, .f32⟩
  | .hbm, ⟨3, _⟩ => ⟨S512x1536, .f32⟩
  | .hbm, ⟨4, _⟩ => ⟨S2048x1536, .f32⟩
  | .hbm, ⟨5, _⟩ => ⟨S1536x512, .f32⟩
  | .hbm, ⟨6, _⟩ => ⟨S512x1536, .f32⟩
  | .hbm, ⟨7, _⟩ => ⟨S1536x512, .f32⟩
  | .hbm, ⟨8, _⟩ => ⟨S8x192x512, .f32⟩
  | .hbm, ⟨9, _⟩ => ⟨S8x192x512, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueriesdxKernel.lean ====
abbrev S2048x1536 : Shape := ⟨2, ![2048, 1536]⟩
abbrev S512x1536 : Shape := ⟨2, ![512, 1536]⟩
abbrev S2048x8x192 : Shape := ⟨3, ![2048, 8, 192]⟩
abbrev S8x2048x192 : Shape := ⟨3, ![8, 2048, 192]⟩
abbrev S1536x512 : Shape := ⟨2, ![1536, 512]⟩
abbrev S8x192x512 : Shape := ⟨3, ![8, 192, 512]⟩
abbrev S2048x512 : Shape := ⟨2, ![2048, 512]⟩
abbrev S8x512x192 : Shape := ⟨3, ![8, 512, 192]⟩
abbrev S512x512 : Shape := ⟨2, ![512, 512]⟩
abbrev S1x512x192 : Shape := ⟨3, ![1, 512, 192]⟩
abbrev S512x192 : Shape := ⟨2, ![512, 192]⟩
abbrev S1x192x512 : Shape := ⟨3, ![1, 192, 512]⟩
abbrev S192x512 : Shape := ⟨2, ![192, 512]⟩

abbrev nBuf : Space → Nat
  | .hbm => 9
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x8x192, .f32⟩
  | .hbm, ⟨3, _⟩ => ⟨S8x2048x192, .f32⟩
  | .hbm, ⟨4, _⟩ => ⟨S8x2048x192, .bf16⟩
  | .hbm, ⟨5, _⟩ => ⟨S1536x512, .f32⟩
  | .hbm, ⟨6, _⟩ => ⟨S1536x512, .bf16⟩
  | .hbm, ⟨7, _⟩ => ⟨S8x192x512, .bf16⟩
  | .hbm, ⟨8, _⟩ => ⟨S2048x512, .f32⟩
  | .local _ .vmem, ⟨0, _⟩ => ⟨S8x512x192, .bf16⟩
  | .local _ .vmem, ⟨1, _⟩ => ⟨S8x512x192, .bf16⟩
  | .local _ .vmem, ⟨2, _⟩ => ⟨S8x192x512, .bf16⟩
  | .local _ .vmem, ⟨3, _⟩ => ⟨S512x512, .f32⟩
  | .local _ .vmem, ⟨4, _⟩ => ⟨S512x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesdxReferenceIdeal.lean ====
abbrev S2048x1536 : Shape := ⟨2, ![2048, 1536]⟩
abbrev S512x1536 : Shape := ⟨2, ![512, 1536]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BranchdxKernel.lean ====
abbrev S2048x2048 : Shape := ⟨2, ![2048, 2048]⟩
abbrev S1024x2048 : Shape := ⟨2, ![1024, 2048]⟩
abbrev S2048x8x256 : Shape := ⟨3, ![2048, 8, 256]⟩
abbrev S8x2048x256 : Shape := ⟨3, ![8, 2048, 256]⟩
abbrev S1024x8x256 : Shape := ⟨3, ![1024, 8, 256]⟩
abbrev S8x1024x256 : Shape := ⟨3, ![8, 1024, 256]⟩
abbrev S2048x1024 : Shape := ⟨2, ![2048, 1024]⟩
abbrev S8x512x256 : Shape := ⟨3, ![8, 512, 256]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S2048x8x256, .f32⟩
  | .hbm, ⟨3, _⟩ => ⟨S8x2048x256, .f32⟩
  | .hbm, ⟨4, _⟩ => ⟨S8x2048x256, .bf16⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S2048x1024, .bf16⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S512x512, .bf16⟩
  | .local _ .vmem, ⟨5, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchdxReferenceIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GatedwKernel.lean ====
abbrev S2048x2048 : Shape := ⟨2, ![2048, 2048]⟩
abbrev S8x256x2048 : Shape := ⟨3, ![8, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatedwReferenceIdeal.lean ====
abbrev S2048x2048 : Shape := ⟨2, ![2048, 2048]⟩
abbrev S_ : Shape := ⟨0, ![]⟩
abbrev S8x256x2048 : Shape := ⟨3, ![8, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S8x256x2048, .f32⟩
  | .hbm, ⟨8, _⟩ => ⟨S8x256x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GatedxKernel.lean ====
abbrev S2048x2048 : Shape := ⟨2, ![2048, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S8x256x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatedxReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== IndxKernel.lean ====
abbrev S2048x8256 : Shape := ⟨2, ![2048, 8256]⟩
abbrev S2048x3072 : Shape := ⟨2, ![2048, 3072]⟩
abbrev S2048x1088 : Shape := ⟨2, ![2048, 1088]⟩
abbrev S2048x2048 : Shape := ⟨2, ![2048, 2048]⟩
abbrev S8256x2048 : Shape := ⟨2, ![8256, 2048]⟩
abbrev S1088x2048 : Shape := ⟨2, ![1088, 2048]⟩
abbrev S512x3072 : Shape := ⟨2, ![512, 3072]⟩
abbrev S3072x512 : Shape := ⟨2, ![3072, 512]⟩
abbrev S512x1088 : Shape := ⟨2, ![512, 1088]⟩
abbrev S1088x512 : Shape := ⟨2, ![1088, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 16
  | .vmem => 18
  | .smem => 0
  | _ => 0

abbrev bufTy : (tb : Table) → Fin (tcTables nBuf tb) → BufTy
  | .hbm, ⟨0, _⟩ => ⟨S2048x8256, .f32⟩
  | .hbm, ⟨1, _⟩ => ⟨S2048x8256, .f32⟩
  | .hbm, ⟨2, _⟩ => ⟨S2048x3072, .f32⟩
  | .hbm, ⟨3, _⟩ => ⟨S2048x1088, .f32⟩
  | .hbm, ⟨4, _⟩ => ⟨S2048x2048, .f32⟩
  | .hbm, ⟨5, _⟩ => ⟨S2048x2048, .f32⟩
  | .hbm, ⟨6, _⟩ => ⟨S8256x2048, .f32⟩
  | .hbm, ⟨7, _⟩ => ⟨S8256x2048, .bf16⟩
  | .hbm, ⟨8, _⟩ => ⟨S2048x3072, .bf16⟩
  | .hbm, ⟨9, _⟩ => ⟨S2048x1088, .bf16⟩
  | .hbm, ⟨10, _⟩ => ⟨S2048x2048, .bf16⟩
  | .hbm, ⟨11, _⟩ => ⟨S2048x2048, .bf16⟩
  | .hbm, ⟨12, _⟩ => ⟨S1088x2048, .bf16⟩
  | .hbm, ⟨13, _⟩ => ⟨S2048x2048, .bf16⟩
  | .hbm, ⟨14, _⟩ => ⟨S2048x2048, .bf16⟩
  | .hbm, ⟨15, _⟩ => ⟨S2048x2048, .f32⟩
  | .local _ .vmem, ⟨0, _⟩ => ⟨S512x3072, .bf16⟩
  | .local _ .vmem, ⟨1, _⟩ => ⟨S512x3072, .bf16⟩
  | .local _ .vmem, ⟨2, _⟩ => ⟨S3072x512, .bf16⟩
  | .local _ .vmem, ⟨3, _⟩ => ⟨S3072x512, .bf16⟩
  | .local _ .vmem, ⟨4, _⟩ => ⟨S512x1088, .bf16⟩
  | .local _ .vmem, ⟨5, _⟩ => ⟨S512x1088, .bf16⟩
  | .local _ .vmem, ⟨6, _⟩ => ⟨S1088x512, .bf16⟩
  | .local _ .vmem, ⟨7, _⟩ => ⟨S1088x512, .bf16⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S2048x512, .bf16⟩
  | .local _ .vmem, ⟨15, _⟩ => ⟨S2048x512, .bf16⟩
  | .local _ .vmem, ⟨16, _⟩ => ⟨S512x512, .f32⟩
  | .local _ .vmem, ⟨17, _⟩ => ⟨S512x512, .f32⟩
  | _, _ => ⟨S2048x8256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1088 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== IndxReferenceIdeal.lean ====
abbrev S2048x8256 : Shape := ⟨2, ![2048, 8256]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8256, .f32⟩
  | .hbm, ⟨1, _⟩ => ⟨S2048x8256, .f32⟩
  | .hbm, ⟨2, _⟩ => ⟨S_, .f32⟩
  | .hbm, ⟨3, _⟩ => ⟨S2048x2048, .f32⟩
  | .hbm, ⟨4, _⟩ => ⟨S2048x8256, .f32⟩
  | .hbm, ⟨5, _⟩ => ⟨S2048x2048, .f32⟩
  | _, _ => ⟨S2048x8256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamKernel.lean ====
abbrev S4x704x2048 : Shape := ⟨3, ![4, 704, 2048]⟩
abbrev S3x704x2048 : Shape := ⟨3, ![3, 704, 2048]⟩
abbrev S704x2048 : Shape := ⟨2, ![704, 2048]⟩
abbrev S1 : Shape := ⟨1, ![1]⟩
abbrev S1x176x2048 : Shape := ⟨3, ![1, 176, 2048]⟩
abbrev S3x176x2048 : Shape := ⟨3, ![3, 176, 2048]⟩
abbrev S176x2048 : Shape := ⟨2, ![176, 2048]⟩

abbrev nBuf : Space → Nat
  | .hbm => 11
  | .vmem => 18
  | .smem => 1
  | _ => 0

abbrev bufTy : (tb : Table) → Fin (tcTables nBuf tb) → BufTy
  | .hbm, ⟨0, _⟩ => ⟨S4x704x2048, .f32⟩
  | .hbm, ⟨1, _⟩ => ⟨S3x704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S4x704x2048, .bf16⟩
  | .hbm, ⟨6, _⟩ => ⟨S3x704x2048, .bf16⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .smem, ⟨0, _⟩ => ⟨S1, .i32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamReferenceIdeal.lean ====
abbrev S4x704x2048 : Shape := ⟨3, ![4, 704, 2048]⟩
abbrev S3x704x2048 : Shape := ⟨3, ![3, 704, 2048]⟩
abbrev S704x2048 : Shape := ⟨2, ![704, 2048]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S3x704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S1, .i32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S_, .f32⟩
  | .hbm, ⟨12, _⟩ => ⟨S_, .f32⟩
  | .hbm, ⟨13, _⟩ => ⟨S4x704x2048, .i1⟩
  | .hbm, ⟨14, _⟩ => ⟨S4x704x2048, .f32⟩
  | .hbm, ⟨15, _⟩ => ⟨S4x704x2048, .f32⟩
  | .hbm, ⟨16, _⟩ => ⟨S_, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S704x2048, .f32⟩
  | .hbm, ⟨51, _⟩ => ⟨S_, .f32⟩
  | .hbm, ⟨52, _⟩ => ⟨S704x2048, .f32⟩
  | .hbm, ⟨53, _⟩ => ⟨S704x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Proof.Gate.lean ====
/- The gate of the per-layer embedding, backward: the kernel's two results are the gradients `jax.vjp` gives of
   `sigmoid t * pe`. Over the extended reals the two programs multiply the same four factors in another grouping,
   so no precondition is needed. -/
module

public import proofs.«01_k».proof.Defs
public import proofs.«01_k».proof.Proof.Gen.GateKernel.Frame
public import proofs.«01_k».proof.Proof.Gen.GateKernelIdeal.Value
public import proofs.«01_k».proof.Proof.Gen.GateReferenceIdeal.Read
public import Idealize.ShloMosaic.Lib.Claim
public import Idealize.ShloMosaic.Lib.Pointwise
public import Idealize.ShloMosaic.Lib.Pipeline.ValueKit

@[expose] public section

set_option maxRecDepth 16384

noncomputable section

namespace Cert.GateKernelIdeal.Value

open Cert.GateKernelIdeal Cert.GateKernelIdeal.Gen Idealize.ShloMosaic Idealize.ShloMosaic.TcCoe Idealize.SL.Sem
open Cert.GateReferenceIdeal.Read
open Idealize.ShloMosaic.Pipeline (Dat)

variable (m : (ℓ : Loc nD τ sig) → Buf (Elt Ideal) ℓ)

/-- Every window's block at point `t` is the `t`-th band of 256 rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] :=
  (by decide +kernel : ∀ t : Fin grid0.N, _)

/-- The gradient by `t` that a grid point stores is the reference's, element by element. -/
theorem point_dt (c : Dev nD) (t : Fin cfg0.N) (y : S256x2048.Idx) :
    k0_pay2 (iblk m c 0 t) (iblk m c 2 t) (iblk m c 1 t) y
      = val_main_v13 (F := Ideal) (m ((c : Thread nD τ).loc main_arg0)) (m ((c : Thread nD τ).loc main_arg1))
          (m ((c : Thread nD τ).loc main_arg2)) (((cfg0.win 3).blk t).view.emb y) := by
  pointwise [k0_pay2, k0_pay1, val_main_v13, val_main_v12, val_main_v11, val_main_v8, val_main_v7, val_main_v6, val_main_v5,
    val_main_v4, val_main_v3, val_main_v2, val_main_v1, val_main_v0, val_main_cst, val_main_cst_0, val_main_cst_1]
  simp only [Ideal.logistic]
  rw [mul_assoc]
  blk_point [iblk, V, idx t]

/-- The gradient by `pe` that a grid point stores is the reference's, element by element. -/
theorem point_dpe (c : Dev nD) (t : Fin cfg0.N) (y : S256x2048.Idx) :
    k0_pay3 (iblk m c 0 t) (iblk m c 2 t) y
      = val_main_v14 (F := Ideal) (m ((c : Thread nD τ).loc main_arg0))
          (m ((c : Thread nD τ).loc main_arg2)) (((cfg0.win 4).blk t).view.emb y) := by
  pointwise [k0_pay3, k0_pay1, val_main_v14, val_main_v10, val_main_v5,
    val_main_v4, val_main_v3, val_main_v2, val_main_v1, val_main_v0, val_main_cst, val_main_cst_0]
  simp only [Ideal.logistic]
  rw [mul_comm]
  blk_point [iblk, V, idx t]

/-- The first result array after the run: the reference's gradient by `t`. -/
theorem final_dt (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point_dt m c t y

/-- The second result array after the run: the reference's gradient by `pe`. -/
theorem final_dpe (c : Dev nD) : (dats m 0 c).arrAt 4 (cfgs 0).N
    = val_main_v14 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  exact point_dpe m c t y

end Cert.GateKernelIdeal.Value

namespace Cert.Proof.Gate

open Idealize.ShloMosaic Idealize.SL.Sem

/-- The gate kernel runs, leaves its arguments and ends with every counter at zero. -/
theorem frame_p : Cert.quiescent_GateKernel := fun m ρ _ => Cert.GateKernel.Gen.frame m ρ

/-- The same of its idealization. -/
theorem frame_pi : Cert.quiescent_GateKernelIdeal := fun m ρ _ => Cert.GateKernelIdeal.Gen.frame m ρ

/-- The reference runs and leaves its arguments; it declares no semaphore. -/
theorem frame_ri : Cert.quiescent_GateReferenceIdeal := fun m ρ _ =>
  (θ_run Cert.GateReferenceIdeal.defs _ _).mono (fun r h => ⟨fun c => (h c).2.2,
      Idealize.ShloMosaic.sem_eq_zero_of_no_sems (by decide) r.2⟩)
    (Cert.GateReferenceIdeal.Value.run (F := Ideal) m ρ)

/-- Kernel and reference end with equal results from equal arguments. -/
theorem value : Cert.algebraic_GateKernelIdeal_GateReferenceIdeal := by
  pair_intro
  · run_from Cert.GateKernelIdeal.Gen.run_main m g
  · run_from Cert.GateReferenceIdeal.Value.run m' g'
    · exact (Cert.GateKernelIdeal.Value.final_dt m c).symm
    · exact (Cert.GateKernelIdeal.Value.final_dpe m c).symm

end Cert.Proof.Gate

end
-- ==== Proof.Softmax.lean ====
module

public import Idealize.ShloMosaic.PureOps.Ideal

/-! The gradient of a softmax over the extended reals, with no program in sight: the two ways of writing it agree as soon
as the scores are real, whatever is put through it. -/

@[expose] public section

noncomputable section

namespace Cert.Proof.Softmax

open Idealize.ShloMosaic
open scoped BigOperators

variable {ι : Type*} [Fintype ι]

/-- A nonnegative real factor goes into any finite sum of extended reals. -/
theorem mul_sum {a : ℝ} (ha : 0 ≤ a) (s : Finset ι) (f : ι → EReal) : (a : EReal) * ∑ k ∈ s, f k = ∑ k ∈ s, (a : EReal) * f k := by
  classical
  induction s using Finset.induction_on with
  | empty => simp
  | insert x s hx ih =>
    rw [Finset.sum_insert hx, Finset.sum_insert hx, ← ih,
      EReal.left_distrib_of_nonneg_of_ne_top (EReal.coe_nonneg.mpr ha) (EReal.coe_ne_top a)]

/-- Division by a real other than zero is multiplication by its inverse. -/
theorem div_coe (x : EReal) {z : ℝ} (hz : z ≠ 0) : Ideal.div x (z : EReal) = x * ((z⁻¹ : ℝ) : EReal) := by
  unfold Ideal.div
  rw [if_neg (by exact_mod_cast hz), EReal.coe_inv]

/-- The gradient of a softmax with real nonnegative weights `e`, of positive sum `z`: the probability times the difference
from the mean, against the quotient rule written out. -/
theorem grad (e : ι → ℝ) (z : ℝ) (hz : 0 < z) (he : ∀ k, 0 ≤ e k) (d : ι → EReal) (j : ι) :
    Ideal.div (e j : EReal) z * (d j - ∑ k, Ideal.div (e k : EReal) z * d k)
      = (Ideal.div (d j) z + -(∑ k, d k * Ideal.div 1 ((z : EReal) * z) * (e k : EReal))) * (e j : EReal) := by
  have hz0 : z ≠ 0 := hz.ne'
  have hzz : (z : EReal) * z = ((z * z : ℝ) : EReal) := (EReal.coe_mul z z).symm
  simp only [hzz, div_coe _ hz0, div_coe _ (mul_ne_zero hz0 hz0), one_mul]
  have ha : 0 ≤ z⁻¹ := (inv_pos.mpr hz).le
  have hs : ∑ k, d k * (((z * z)⁻¹ : ℝ) : EReal) * (e k : EReal)
      = ((z⁻¹ : ℝ) : EReal) * ∑ k, (e k : EReal) * ((z⁻¹ : ℝ) : EReal) * d k := by
    rw [mul_sum ha]
    refine Finset.sum_congr rfl fun k _ => ?_
    rw [mul_inv, EReal.coe_mul]
    ac_rfl
  rw [hs, mul_comm (d j), ← mul_neg, ← EReal.left_distrib_of_nonneg_of_ne_top (EReal.coe_nonneg.mpr ha) (EReal.coe_ne_top _),
    mul_comm _ (e j : EReal), mul_assoc, sub_eq_add_neg]

/-- A product of two reals is real. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- A finite sum of reals is real. -/
theorem sum_real (f : ι → EReal) (hf : ∀ k, f k ≠ ⊤ ∧ f k ≠ ⊥) : ∑ k, f k ≠ ⊤ ∧ ∑ k, f k ≠ ⊥ := by
  classical
  refine Finset.sum_induction f (fun x => x ≠ ⊤ ∧ x ≠ ⊥) (fun x y hx hy => ?_) ⟨EReal.zero_ne_top, EReal.zero_ne_bot⟩ fun k _ => hf k
  lift x to ℝ using hx
  lift y to ℝ using hy
  rw [← EReal.coe_add]
  exact ⟨EReal.coe_ne_top _, EReal.coe_ne_bot _⟩

/-- The maximum of finitely many extended reals, of which none is `⊤` and one is real, is real. -/
theorem fold_max_real (s : ι → EReal) (ht : ∀ k, s k ≠ ⊤) (j : ι) (hj : s j ≠ ⊥) :
    ∃ m : ℝ, Finset.fold max (⊥ : EReal) s Finset.univ = m := by
  classical
  have hle : ∀ c : EReal, (Finset.fold max (⊥ : EReal) s Finset.univ) ≤ c ↔ ∀ k, s k ≤ c := fun c => by
    rw [Finset.fold_max_le]; simp
  induction hm : Finset.fold max (⊥ : EReal) s Finset.univ using EReal.rec with
  | coe m => exact ⟨m, rfl⟩
  | bot => exact absurd (le_bot_iff.mp (((hle ⊥).mp hm.le) j)) hj
  | top =>
    have : (⊤ : EReal) < ⊤ := by
      conv_lhs => rw [← hm]
      rw [Finset.fold_max_lt]
      exact ⟨bot_lt_top, fun k _ => lt_top_iff_ne_top.mpr (ht k)⟩
    exact absurd this (lt_irrefl _)

/-- The softmax's weights of scores of which none is `⊤` and one at least is real: real, nonnegative, of positive sum. -/
theorem weights (s : ι → EReal) (ht : ∀ k, s k ≠ ⊤) (j : ι) (hj : s j ≠ ⊥) :
    ∃ e : ι → ℝ, ∃ z : ℝ, 0 < z ∧ (∀ k, 0 ≤ e k)
      ∧ (∀ k, Ideal.exp (s k - Finset.fold max (⊥ : EReal) s Finset.univ) = (e k : EReal))
      ∧ ∑ k, Ideal.exp (s k - Finset.fold max (⊥ : EReal) s Finset.univ) = (z : EReal) := by
  obtain ⟨m, hm⟩ := fold_max_real s ht j hj
  rw [hm]
  have hx : ∀ k, ∃ x : ℝ, 0 ≤ x ∧ Ideal.exp (s k - m) = (x : EReal) ∧ (s k ≠ ⊥ → 0 < x) := fun k => by
    induction hk : s k using EReal.rec with
    | bot => exact ⟨0, le_rfl, by rw [EReal.bot_sub]; rfl, fun h => absurd rfl h⟩
    | top => exact absurd hk (ht k)
    | coe x => exact ⟨Real.exp (x - m), (Real.exp_pos _).le, by rw [← EReal.coe_sub]; rfl, fun _ => Real.exp_pos _⟩
  choose e he0 he hpos using hx
  refine ⟨e, ∑ k, e k, ?_, he0, he, ?_⟩
  · exact Finset.sum_pos' (fun k _ => he0 k) ⟨j, Finset.mem_univ _, hpos j hj⟩
  · simp only [he]
    exact (map_sum (⟨⟨Real.toEReal, EReal.coe_zero⟩, EReal.coe_add⟩ : ℝ →+ EReal) e Finset.univ).symm

/-- The gradient of the softmax of scores `s` with none `⊤` and one real, as a kernel and as the quotient rule write it. -/
theorem grad_scores (s : ι → EReal) (ht : ∀ k, s k ≠ ⊤) (i : ι) (hi : s i ≠ ⊥) (d : ι → EReal) (j : ι) :
    let E := fun k => Ideal.exp (s k - Finset.fold max (⊥ : EReal) s Finset.univ)
    Ideal.div (E j) (∑ k, E k) * (d j - ∑ k, Ideal.div (E k) (∑ k, E k) * d k)
      = (Ideal.div (d j) (∑ k, E k) + -(∑ k, d k * Ideal.div 1 ((∑ k, E k) * ∑ k, E k) * E k)) * E j := by
  intro E
  obtain ⟨e, z, hz, he0, he, hsum⟩ := weights s ht i hi
  have hE : ∀ k, E k = (e k : EReal) := he
  have hS : ∑ k, E k = (z : EReal) := hsum
  rw [hS]
  simp only [hE]
  exact grad e z hz he0 d j

/-- The word of one half is a nonnegative real. -/
theorem half : ∃ a : ℝ, 0 ≤ a ∧ Ideal.ofBits .f32 0x3F000000#32 = a := by
  refine ⟨2⁻¹, by norm_num, ?_⟩
  simp only [Ideal.ofBits, Ideal.ieee]
  simp
  rw [← EReal.coe_mul]
  norm_num

end Cert.Proof.Softmax

end
-- ==== Proof.MlaRef.lean ====
module

public import proofs.«01_k».proof.Proof.Softmax
public import proofs.«01_k».proof.Proof.Gen.MlaReferenceIdeal.Read
public import Idealize.ShloMosaic.Lib.Claim
public import Idealize.ShloMosaic.Lib.Pointwise
public import Idealize.ShloMosaic.Lib.Pipeline.ValueKit

@[expose] public section

set_option maxRecDepth 16384

noncomputable section

/-! The latent attention's backward call, in formulas: the scores, the softmax's weights, and the gradient with respect to
the scores, of whole arrays of queries, keys, values and the output's gradient; and the reference's stages in these terms. -/

namespace Cert.Proof.Mla

open Cert.MlaReferenceIdeal Cert.MlaReferenceIdeal.Read Idealize.ShloMosaic Idealize.ShloMosaic.TcCoe Idealize.SL.Sem

/-- The scale 192^(-1/2), as the program's word denotes it. -/
abbrev scale : EReal := Ideal.ofBits FTy.f32 1033096506#32

/-- The greatest of the scores of a row. -/
abbrev top (s : Fin 2048 → EReal) : EReal := Finset.fold max (Ideal.ofBits FTy.f32 4286578688#32) s Finset.univ

variable (q k : FVec Ideal S1x2048x8x192 .f32) (v : FVec Ideal S1x2048x8x128 .f32) (g : FVec Ideal S1x2048x1024 .f32)

/-- The scaled score of query `i` against key `j` in head `h`. -/
def score (h : Fin 8) (i j : Fin 2048) : EReal := (∑ d : Fin 192, q (ix4 0 i h d) * k (ix4 0 j h d)) * scale

/-- The softmax's weight before it is divided by the row's sum. -/
def weight (h : Fin 8) (i j : Fin 2048) : EReal := Ideal.exp (score q k h i j - top (score q k h i))

/-- The probability. -/
def prob (h : Fin 8) (i j : Fin 2048) : EReal := Ideal.div (weight q k h i j) (∑ l, weight q k h i l)

/-- The gradient with respect to the probability: the output's gradient at query `i` against the value at key `j`. -/
def dprob (h : Fin 8) (i j : Fin 2048) : EReal :=
  ∑ e : Fin 128, g (ix3 0 i ⟨h.val * 128 + e.val, by omega⟩) * v (ix4 0 j h e)

/-- The gradient with respect to the unscaled score, as the kernel writes it. -/
def dscore (h : Fin 8) (i j : Fin 2048) : EReal :=
  prob q k h i j * (dprob v g h i j - ∑ l, prob q k h i l * dprob v g h i l) * scale

theorem r8 (h : Fin 8) (i j : Fin 2048) : val_main_v8 (F := Ideal) q k (ix4 0 h i j) = score q k h i j := by
  pointwise [val_main_v8, val_main_v7, val_main_cst, val_main_v6, val_main_v5, val_main_v4, val_main_v3, val_main_v2, val_main_v1, val_main_v0]
  exact congrArg (· * scale) (Fin.sum_univ_add (a := 128) (b := 64) fun d : Fin 192 => q (ix4 0 i h d) * k (ix4 0 j h d)).symm

/-- The word of the reductions' initial value is −∞. -/
theorem word_bot : Ideal.ofBits FTy.f32 4286578688#32 = ⊥ := by
  simp [Ideal.ofBits, Ideal.ieee]

theorem r9 (h : Fin 8) (i : Fin 2048) : val_main_v9 (F := Ideal) q k (ix3 0 h i) = top (score q k h i) := by
  have hr : S1x8x2048x2048.Reduces [3] S1x8x2048 := by decide
  unfold val_main_v9
  refine (Host.reduce_eq_fold_single FloatOps.maximumf _ _ Gen.reducesTo_S1x8x2048x2048_S1x8x2048_d3 hr Gen.h_S_ (ix3 0 h i)).trans ?_
  refine Finset.fold_congr fun l _ => ?_
  rw [← r8 q k h i l]
  exact congrArg (val_main_v8 (F := Ideal) q k) (funext fun a => by fin_cases a <;> rfl)

theorem r27 (h : Fin 8) (i j : Fin 2048) : val_main_v27 (F := Ideal) q k (ix4 0 h i j) = top (score q k h i) := by
  rw [val_main_v27_apply, val_main_v26_apply, val_main_v16_apply, val_main_v15_apply, val_main_cst_2_apply,
    show idx_main_v26 (idx_main_v27 (ix4 0 h i j)) = ix3 0 h i from funext fun a => by fin_cases a <;> rfl, r9]
  generalize top (score q k h i) = t
  show max (Ideal.ofBits FTy.f32 4286578688#32) t = t
  rw [word_bot]
  exact max_eq_right bot_le

theorem r29 (h : Fin 8) (i j : Fin 2048) : val_main_v29 (F := Ideal) q k (ix4 0 h i j) = weight q k h i j := by
  pointwise [val_main_v29, val_main_v28]
  simp only [r8, r27]
  rfl

theorem r31 (h : Fin 8) (i : Fin 2048) : val_main_v31 (F := Ideal) q k (ix4 0 h i 0) = ∑ l, weight q k h i l := by
  pointwise [val_main_v31, val_main_v30, val_main_cst_8]
  simp only [r29]

theorem r33 (h : Fin 8) (i j : Fin 2048) : val_main_v33 (F := Ideal) q k (ix4 0 h i j) = prob q k h i j := by
  pointwise [val_main_v33, val_main_v32]
  simp only [r29, r31]
  rfl

theorem r42 (h : Fin 8) (i j : Fin 2048) : val_main_v42 (F := Ideal) v g (ix4 0 h i j) = dprob v g h i j := by
  pointwise [val_main_v42, val_main_v41, val_main_v40]
  rfl

theorem r50 (h : Fin 8) (i : Fin 2048) : val_main_v50 (F := Ideal) q k v g (ix4 0 h i 0)
    = -∑ l, dprob v g h i l * Ideal.div 1 ((∑ l, weight q k h i l) * ∑ l, weight q k h i l) * weight q k h i l := by
  pointwise [val_main_v50, val_main_v49, val_main_v48, val_main_cst_10, val_main_v47, val_main_v46, val_main_v45, val_main_v36, val_main_v35, val_main_cst_9, val_main_v34]
  simp only [r29, r31, r42]

/-- A sum over axes of extent one is the one element. -/
theorem r53 (h : Fin 8) (i : Fin 2048) : val_main_v53 (F := Ideal) q k v g (ix2 h i) = val_main_v50 (F := Ideal) q k v g (ix4 0 h i 0) := by
  unfold val_main_v53
  generalize val_main_v50 (F := Ideal) q k v g = y
  have hd : ∀ (x : S1x8x2048x1.Idx), Gen.reducesTo_S1x8x2048x1_S8x2048_d0_3.drop x = ix2 h i ↔ x = ix4 0 h i 0 := fun x => by
    have h0 := Gen.reducesTo_S1x8x2048x1_S8x2048_d0_3.drop_apply_val_of_eq x 0 1
    have h1 := Gen.reducesTo_S1x8x2048x1_S8x2048_d0_3.drop_apply_val_of_eq x 1 2
    constructor
    · intro e
      rw [e] at h0 h1
      funext a
      fin_cases a
      · exact Subsingleton.elim (α := Fin 1) _ _
      · exact Fin.ext h0.symm
      · exact Fin.ext h1.symm
      · exact Subsingleton.elim (α := Fin 1) _ _
    · rintro rfl
      funext b
      fin_cases b
      · exact Fin.ext h0
      · exact Fin.ext h1
  rw [Host.reduceAdd_apply]
  show Ideal.hostReduceAdd _ _ _ _ = _
  unfold Ideal.hostReduceAdd
  simp only [hd]
  rw [Finset.filter_eq' Finset.univ, if_pos (Finset.mem_univ _), Finset.sum_singleton]
  pointwise [val_main_cst_11]

theorem r59 (h : Fin 8) (i j : Fin 2048) : val_main_v59 (F := Ideal) q k v g (ix4 0 h i j)
    = (Ideal.div (dprob v g h i j) (∑ l, weight q k h i l)
        + -∑ l, dprob v g h i l * Ideal.div 1 ((∑ l, weight q k h i l) * ∑ l, weight q k h i l) * weight q k h i l)
      * weight q k h i j * scale := by
  pointwise [val_main_v59, val_main_v58, val_main_cst_12, val_main_v57, val_main_v56, val_main_v55, val_main_v54, val_main_v52, val_main_v51]
  simp only [r29, r31, r42, r53, r50]

/-- The scale is real. -/
theorem scale_real : scale ≠ ⊤ ∧ scale ≠ ⊥ := by
  simp only [scale, Ideal.ofBits, Ideal.ieee]
  rw [if_neg (by decide), if_neg (by decide)]
  exact ⟨EReal.coe_ne_top _, EReal.coe_ne_bot _⟩

/-- The two ways of writing the gradient agree where the queries and keys are real. -/
theorem r59' (hq : ∀ x, q x ≠ ⊤ ∧ q x ≠ ⊥) (hk : ∀ x, k x ≠ ⊤ ∧ k x ≠ ⊥) (h : Fin 8) (i j : Fin 2048) :
    val_main_v59 (F := Ideal) q k v g (ix4 0 h i j) = dscore q k v g h i j := by
  have hs : ∀ l, score q k h i l ≠ ⊤ ∧ score q k h i l ≠ ⊥ := fun l => by
    unfold score
    exact Softmax.mul_real (Softmax.sum_real _ fun d => Softmax.mul_real (hq _) (hk _)) scale_real
  rw [r59]
  have e := Softmax.grad_scores (score q k h i) (fun l => (hs l).1) 0 (hs 0).2 (dprob v g h i) j
  simp only [← word_bot] at e
  exact congrArg (· * scale) e.symm

/-- The value's gradient. -/
theorem r79 (h : Fin 8) (j : Fin 2048) (e : Fin 128) : val_main_v79 (F := Ideal) q k g (ix3 h j e)
    = ∑ i, prob q k h i j * g (ix3 0 i ⟨h.val * 128 + e.val, by omega⟩) := by
  pointwise [val_main_v79, val_main_v78, val_main_v44, val_main_v43, val_main_v41, val_main_v40]
  simp only [r33]
  exact Finset.sum_congr rfl fun i _ => mul_comm _ _

/-- The query's gradient: each coordinate is in one of the two parts that the scores' product was made of. -/
theorem r75 (h : Fin 8) (i : Fin 2048) (d : Fin 192) : val_main_v75 (F := Ideal) q k v g (ix3 h i d)
    = ∑ j, val_main_v59 (F := Ideal) q k v g (ix4 0 h i j) * k (ix4 0 j h d) := by
  pointwise [val_main_v75, val_main_v74, val_main_v73, val_main_v72, val_main_v71, val_main_v67, val_main_v66, val_main_v63, val_main_v62, val_main_v3, val_main_v2, val_main_cst_15, val_main_cst_16]
  rcases lt_or_ge d.val 128 with hd | hd
  · rw [dif_neg (by omega), dif_pos hd, zero_add]
  · rw [dif_pos ⟨hd, by omega⟩, dif_neg (by omega), add_zero]
    refine Finset.sum_congr rfl fun j _ => ?_
    congr 3
    exact Fin.ext (by dsimp; omega)

/-- The key's gradient, likewise. -/
theorem r77 (h : Fin 8) (j : Fin 2048) (d : Fin 192) : val_main_v77 (F := Ideal) q k v g (ix3 h j d)
    = ∑ i, val_main_v59 (F := Ideal) q k v g (ix4 0 h i j) * q (ix4 0 i h d) := by
  pointwise [val_main_v77, val_main_v76, val_main_v70, val_main_v69, val_main_v68, val_main_v65, val_main_v64, val_main_v61, val_main_v60, val_main_v1, val_main_v0, val_main_cst_13, val_main_cst_14]
  rcases lt_or_ge d.val 128 with hd | hd
  · rw [dif_neg (by omega), dif_pos hd, zero_add]
  · rw [dif_pos ⟨hd, by omega⟩, dif_neg (by omega), add_zero]
    refine Finset.sum_congr rfl fun j _ => ?_
    congr 3
    exact Fin.ext (by dsimp; omega)

end Cert.Proof.Mla

end
-- ==== Proof.Real.lean ====
module

public import Idealize.ShloMosaic.Lib.Claim
public import Idealize.ShloMosaic.Lib.Pointwise
public import Idealize.ShloMosaic.Lib.Pipeline.ValueKit

@[expose] public section

set_option maxRecDepth 16384

noncomputable section
/-! What a stated precondition of finiteness says of a number over the extended reals. -/

namespace Cert.Proof.Real

open Idealize.ShloMosaic

/-- A number whose absolute value lies below the word of +∞ is real. -/
theorem real_of_lt {x : EReal}
    (h : FloatOps.cmpf (F := Ideal) (φ := .f32) .olt (FloatOps.hostAbsf (F := Ideal) (φ := .f32) x) (FloatOps.ofBits .f32 0x7F800000#32) = 1#1) :
    x ≠ ⊤ ∧ x ≠ ⊥ := by
  have ht : (FloatOps.ofBits .f32 0x7F800000#32 : Ideal .f32) = (⊤ : EReal) := by
    show Ideal.ofBits .f32 0x7F800000#32 = ⊤
    simp [Ideal.ofBits, Ideal.ieee]
  rw [ht] at h
  constructor
  · rintro rfl
    simp [FloatOps.cmpf, FloatOps.hostAbsf, Ideal.cmp] at h
  · rintro rfl
    simp [FloatOps.cmpf, FloatOps.hostAbsf, Ideal.cmp] at h

end Cert.Proof.Real

end
-- ==== Proof.Mla.lean ====
module

public import proofs.«01_k».proof.Defs
public import proofs.«01_k».proof.Proof.MlaRef
public import proofs.«01_k».proof.Proof.Real
public import proofs.«01_k».proof.Proof.Gen.MlaKernel.Frame
public import proofs.«01_k».proof.Proof.Gen.MlaKernelIdeal.Value
public import proofs.«01_k».proof.Proof.Gen.Pre_queries_and_keys_finite
public import Idealize.ShloMosaic.Lib.Claim
public import Idealize.ShloMosaic.Lib.Pointwise
public import Idealize.ShloMosaic.Lib.Pipeline.ValueKit

@[expose] public section

set_option maxRecDepth 16384

noncomputable section

/-! The latent attention's backward kernel: its blocks in the formulas of `MlaRef`, its three result arrays, and the claims. -/

namespace Cert.MlaKernelIdeal.Value

open Cert.MlaKernelIdeal Cert.MlaKernelIdeal.Gen Idealize.ShloMosaic Idealize.ShloMosaic.TcCoe Idealize.SL.Sem
open Idealize.ShloMosaic.Pipeline (Dat)
open Cert.Proof.Mla (score weight prob dprob dscore top scale)

variable (m : (ℓ : Loc nD τ sig) → Buf (Elt Ideal) ℓ)

/-- Where each window's block lies: grid point `t` is head `t / 2`, half `t % 2` of the queries. -/
theorem idx : ∀ t : Fin cfg0.N, win0_0.index t = ![t.val / 2, t.val % 2, 0] ∧ win0_1.index t = ![t.val / 2, 0, 0]
    ∧ win0_2.index t = ![t.val / 2, 0, 0] ∧ win0_3.index t = ![t.val % 2, t.val / 2] ∧ win0_4.index t = ![t.val / 2, t.val % 2, 0]
    ∧ win0_5.index t = ![t.val / 2, 0, 0] ∧ win0_6.index t = ![t.val / 2, 0, 0] :=
  (by decide +kernel : ∀ t : Fin grid0.N, _)

/-- The head of a grid point. -/
def head (t : Fin cfg0.N) : Fin 8 := ⟨t.val / 2, by have := t.isLt; have hN : cfg0.N = 16 := N_0; omega⟩

/-- The query that row `r` of a grid point's block holds. -/
def row (t : Fin cfg0.N) (r : Fin 1024) : Fin 2048 := ⟨t.val % 2 * 1024 + r.val, by omega⟩

/-- The arguments of a device. -/
abbrev qa (c : Dev nD) : FVec Ideal S1x2048x8x192 .f32 := m ((c : Thread nD τ).loc main_arg0)
abbrev ka (c : Dev nD) : FVec Ideal S1x2048x8x192 .f32 := m ((c : Thread nD τ).loc main_arg1)
abbrev va (c : Dev nD) : FVec Ideal S1x2048x8x128 .f32 := m ((c : Thread nD τ).loc main_arg2)
abbrev ga (c : Dev nD) : FVec Ideal S1x2048x1024 .f32 := m ((c : Thread nD τ).loc main_arg3)

theorem q_blk (c : Dev nD) (t : Fin cfg0.N) (r : Fin 1024) (d : Fin 192) :
    iblk m c 0 t (ix3 0 r d) = qa m c (ix4 0 (row t r) (head t) d) := by
  unfold row head
  blk_point [iblk, V, idx t]

theorem k_blk (c : Dev nD) (t : Fin cfg0.N) (j : Fin 2048) (d : Fin 192) :
    iblk m c 1 t (ix3 0 j d) = ka m c (ix4 0 j (head t) d) := by
  unfold head
  blk_point [iblk, V, idx t]

theorem v_blk (c : Dev nD) (t : Fin cfg0.N) (j : Fin 2048) (e : Fin 128) :
    iblk m c 2 t (ix3 0 j e) = va m c (ix4 0 j (head t) e) := by
  unfold head
  blk_point [iblk, V, idx t]

theorem g_blk (c : Dev nD) (t : Fin cfg0.N) (r : Fin 1024) (e : Fin 128) :
    iblk m c 3 t (ix2 r e) = ga m c (ix3 0 (row t r) ⟨(head t).val * 128 + e.val, by omega⟩) := by
  unfold row head
  blk_point [iblk, V, idx t]

theorem p_blk (c : Dev nD) (t : Fin cfg0.N) (r : Fin 1024) (j : Fin 2048) :
    k0_pay10 (F := Ideal) (iblk m c 0 t) (iblk m c 1 t) (ix2 r j) = prob (qa m c) (ka m c) (head t) (row t r) j := by
  pointwise [k0_pay10, k0_pay7, k0_pay8]
  simp only [q_blk, k_blk]
  rfl

theorem ds_blk (c : Dev nD) (t : Fin cfg0.N) (r : Fin 1024) (j : Fin 2048) :
    k0_pay11 (F := Ideal) (iblk m c 0 t) (iblk m c 1 t) (iblk m c 2 t) (iblk m c 3 t) (ix2 r j)
      = dscore (qa m c) (ka m c) (va m c) (ga m c) (head t) (row t r) j := by
  pointwise [k0_pay11, k0_pay9]
  simp only [p_blk, g_blk, v_blk]
  rfl

/-- The gradient with respect to the queries, heads first. -/
def dqArr (q k : FVec Ideal S1x2048x8x192 .f32) (v : FVec Ideal S1x2048x8x128 .f32) (g : FVec Ideal S1x2048x1024 .f32) :
    FVec Ideal S8x2048x192 .f32 :=
  fun x => ∑ j, dscore q k v g (x 0) (x 1) j * k (ix4 0 j (x 0) (x 2))

/-- The gradient with respect to the keys, heads first. -/
def dkArr (q k : FVec Ideal S1x2048x8x192 .f32) (v : FVec Ideal S1x2048x8x128 .f32) (g : FVec Ideal S1x2048x1024 .f32) :
    FVec Ideal S8x2048x192 .f32 :=
  fun x => ∑ i, dscore q k v g (x 0) i (x 1) * q (ix4 0 i (x 0) (x 2))

/-- The gradient with respect to the values, heads first. -/
def dvArr (q k : FVec Ideal S1x2048x8x192 .f32) (g : FVec Ideal S1x2048x1024 .f32) : FVec Ideal S8x2048x128 .f32 :=
  fun x => ∑ i, prob q k (x 0) i (x 1) * g (ix3 0 i ⟨(x 0).val * 128 + (x 2).val, by have h0 : (x 0).val < 8 := (x 0).isLt; have h2 : (x 2).val < 128 := (x 2).isLt; omega⟩)

theorem dq_blk (c : Dev nD) (t : Fin cfg0.N) (y : S1x1024x192.Idx) :
    k0_pay12 (F := Ideal) (iblk m c 0 t) (iblk m c 1 t) (iblk m c 2 t) (iblk m c 3 t) y
      = dqArr (qa m c) (ka m c) (va m c) (ga m c) (ix3 (head t) (row t (y 1)) (y 2)) := by
  pointwise [k0_pay12, k0_pay8]
  exact Finset.sum_congr rfl fun l _ => congrArg₂ (· * ·) (ds_blk m c t _ _) (k_blk m c t _ _)

/-- A point's part of the keys' gradient. -/
def dkPart (c : Dev nD) (t : Fin cfg0.N) (y : S1x2048x192.Idx) : EReal :=
  ∑ r, dscore (qa m c) (ka m c) (va m c) (ga m c) (head t) (row t r) (y 1) * qa m c (ix4 0 (row t r) (head t) (y 2))

/-- A point's part of the values' gradient. -/
def dvPart (c : Dev nD) (t : Fin cfg0.N) (y : S1x2048x128.Idx) : EReal :=
  ∑ r, prob (qa m c) (ka m c) (head t) (row t r) (y 1) * iblk m c 3 t (ix2 r (y 2))

theorem dk_first (c : Dev nD) (t : Fin cfg0.N) (y : S1x2048x192.Idx) :
    k0_pay2 (F := Ideal) (k0_pay7 (iblk m c 0 t)) (k0_pay11 (iblk m c 0 t) (iblk m c 1 t) (iblk m c 2 t) (iblk m c 3 t))
      (constant S2048x192 .f32 0x00000000#32) y = dkPart m c t y := by
  pointwise [k0_pay2, k0_pay1, k0_pay7]
  exact Finset.sum_congr rfl fun l _ => congrArg₂ (· * ·) (ds_blk m c t _ _) (q_blk m c t _ _)

theorem dk_next (c : Dev nD) (t : Fin cfg0.N) (z : Vec Ideal S1x2048x192 .f32) (y : S1x2048x192.Idx) :
    k0_pay3 (F := Ideal) (k0_pay7 (iblk m c 0 t)) (k0_pay11 (iblk m c 0 t) (iblk m c 1 t) (iblk m c 2 t) (iblk m c 3 t))
      (constant S2048x192 .f32 0x00000000#32) z y = z y + dkPart m c t y := by
  pointwise [k0_pay3, k0_pay1, k0_pay7]
  exact congrArg (z y + ·) (Finset.sum_congr rfl fun l _ => congrArg₂ (· * ·) (ds_blk m c t _ _) (q_blk m c t _ _))

theorem dv_first (c : Dev nD) (t : Fin cfg0.N) (y : S1x2048x128.Idx) :
    k0_pay5 (F := Ideal) (k0_pay9 (iblk m c 3 t)) (k0_pay10 (iblk m c 0 t) (iblk m c 1 t)) y = dvPart m c t y := by
  pointwise [k0_pay5, k0_pay4, k0_pay9]
  exact Finset.sum_congr rfl fun l _ => congrArg₂ (· * ·) (p_blk m c t _ _) rfl

theorem dv_next (c : Dev nD) (t : Fin cfg0.N) (z : Vec Ideal S1x2048x128 .f32) (y : S1x2048x128.Idx) :
    k0_pay6 (F := Ideal) (k0_pay9 (iblk m c 3 t)) (k0_pay10 (iblk m c 0 t) (iblk m c 1 t)) z y = z y + dvPart m c t y := by
  pointwise [k0_pay6, k0_pay4, k0_pay9]
  exact congrArg (z y + ·) (Finset.sum_congr rfl fun l _ => congrArg₂ (· * ·) (p_blk m c t _ _) rfl)

theorem emb4 (t : Fin cfg0.N) (y : S1x1024x192.Idx) : ((View.whole main_v11_0).slice (win0_4.rect t)).emb y = ix3 (head t) (row t (y 1)) (y 2) := by
  unfold head row
  blk_ext [idx t]

theorem emb5 (t : Fin cfg0.N) (y : S1x2048x192.Idx) : (win0_5.blk t).view.emb y = ix3 (head t) (y 1) (y 2) := by
  unfold head
  blk_ext [idx t]

theorem emb6 (t : Fin cfg0.N) (y : S1x2048x128.Idx) : (win0_6.blk t).view.emb y = ix3 (head t) (y 1) (y 2) := by
  unfold head
  blk_ext [idx t]

/-- The two points of a head's run, and the queries they hold. -/
theorem head_run (t : Fin cfg0.N) (ht : t.val % 2 = 1) {s : Fin 2} {h} : head ⟨2 * (t.val / 2) + s.val, h⟩ = head t :=
  Fin.ext (by unfold head; dsimp only; omega)

theorem row_run (t : Fin cfg0.N) (ht : t.val % 2 = 1) (s : Fin 2) (r : Fin 1024) (hl) {h} :
    row ⟨2 * (t.val / 2) + s.val, h⟩ r = ⟨s.val * 1024 + r.val, hl⟩ :=
  Fin.ext (by unfold row; dsimp only; omega)

theorem ix3_eta {a b c : ℕ} (x : (⟨3, ![a, b, c]⟩ : Shape).Idx) : x = ix3 (x 0) (x 1) (x 2) := by
  funext i
  fin_cases i <;> rfl

theorem final_dq (c : Dev nD) : (dats m 0 c).arrAt 4 (cfgs 0).N = dqArr (qa m c) (ka m c) (va m c) (ga m c) := by
  refine (dats m 0 c).arrAt_eq_of_covers 4 _ (by decide +kernel) fun t _ y => ?_
  blk_simp
  rw [after0_4]
  rcases Nat.mod_two_eq_zero_or_one t.val with h | h
  · rw [outsAt0_A m c t h (by omega) h (by omega)]
    frame_out
    rw [emb4]
    exact dq_blk m c t y
  · rw [outsAt0_B m c t (by omega) h (by omega) h]
    frame_out
    rw [emb4]
    exact dq_blk m c t y
theorem final_dk (c : Dev nD) : (dats m 0 c).arrAt 5 (cfgs 0).N = dkArr (qa m c) (ka m c) (va m c) (ga m c) := by
  refine (dats m 0 c).arrAt_eq_of_covers 5 _ (by decide +kernel) fun t hf y => ?_
  blk_simp
  rw [after0_5]
  refine (Pipeline.eq_sum_fin_of_reset_step_apply_of_flush (fun n h => (outsAt0 m c n h).2.1) 2 (fun _ => 0) (dkPart m c)
    (fun t h j => ?_) (fun t h j => ?_) t ((flush0_5 t).mp hf) _).trans ?_
  · rw [outsAt0_A m c t h (by omega) h (by omega)]
    frame_out
    exact (dk_first m c t j).trans (zero_add _).symm
  · rw [outsAt0_B m c t h (by omega) h (by omega)]
    frame_out
    exact dk_next m c t _ j
  · rw [zero_add, emb5]
    have ht : t.val % 2 = 1 := (flush0_5 t).mp hf
    refine Fin.sum_mul_add_congr (S := 2) (n := 1024) fun s r hl => ?_
    rw [head_run t ht, row_run t ht s r hl]
    rfl

theorem final_dv (c : Dev nD) : (dats m 0 c).arrAt 6 (cfgs 0).N = dvArr (qa m c) (ka m c) (ga m c) := by
  refine (dats m 0 c).arrAt_eq_of_covers 6 _ (by decide +kernel) fun t hf y => ?_
  blk_simp
  rw [after0_6]
  refine (Pipeline.eq_sum_fin_of_reset_step_apply_of_flush (fun n h => (outsAt0 m c n h).2.2) 2 (fun _ => 0) (dvPart m c)
    (fun t h j => ?_) (fun t h j => ?_) t ((flush0_6 t).mp hf) _).trans ?_
  · rw [outsAt0_A m c t h (by omega) h (by omega)]
    frame_out
    exact (dv_first m c t j).trans (zero_add _).symm
  · rw [outsAt0_B m c t h (by omega) h (by omega)]
    frame_out
    exact dv_next m c t _ j
  · rw [zero_add, emb6]
    have ht : t.val % 2 = 1 := (flush0_6 t).mp hf
    refine Fin.sum_mul_add_congr (S := 2) (n := 1024) fun s r hl => ?_
    rw [head_run t ht, row_run t ht s r hl]
    exact congrArg (_ * ·) ((g_blk m c _ r (y 2)).trans (congrArg (ga m c) (congrArg₂ (ix3 0) (row_run t ht s r hl)
      (Fin.ext (congrArg (fun h : Fin 8 => h.val * 128 + (y 2).val) (head_run t ht))))))

/-- The reference's gradients are the same arrays, where queries and keys are real. -/
theorem ref_dq (q k : FVec Ideal S1x2048x8x192 .f32) (v : FVec Ideal S1x2048x8x128 .f32) (g : FVec Ideal S1x2048x1024 .f32)
    (hq : ∀ x, q x ≠ ⊤ ∧ q x ≠ ⊥) (hk : ∀ x, k x ≠ ⊤ ∧ k x ≠ ⊥) :
    Cert.MlaReferenceIdeal.Read.val_main_v75 (F := Ideal) q k v g = dqArr q k v g := by
  funext x
  refine (congrArg _ (ix3_eta x)).trans ((Cert.Proof.Mla.r75 q k v g (x 0) (x 1) (x 2)).trans ?_)
  exact Finset.sum_congr rfl fun j _ => congrArg (· * _) (Cert.Proof.Mla.r59' q k v g hq hk _ _ _)

theorem ref_dk (q k : FVec Ideal S1x2048x8x192 .f32) (v : FVec Ideal S1x2048x8x128 .f32) (g : FVec Ideal S1x2048x1024 .f32)
    (hq : ∀ x, q x ≠ ⊤ ∧ q x ≠ ⊥) (hk : ∀ x, k x ≠ ⊤ ∧ k x ≠ ⊥) :
    Cert.MlaReferenceIdeal.Read.val_main_v77 (F := Ideal) q k v g = dkArr q k v g := by
  funext x
  refine (congrArg _ (ix3_eta x)).trans ((Cert.Proof.Mla.r77 q k v g (x 0) (x 1) (x 2)).trans ?_)
  exact Finset.sum_congr rfl fun i _ => congrArg (· * _) (Cert.Proof.Mla.r59' q k v g hq hk _ _ _)

theorem ref_dv (q k : FVec Ideal S1x2048x8x192 .f32) (g : FVec Ideal S1x2048x1024 .f32) :
    Cert.MlaReferenceIdeal.Read.val_main_v79 (F := Ideal) q k g = dvArr q k g := by
  funext x
  exact (congrArg _ (ix3_eta x)).trans (Cert.Proof.Mla.r79 q k g (x 0) (x 1) (x 2))

end Cert.MlaKernelIdeal.Value

namespace Cert.Proof.Mla

open Idealize.ShloMosaic Idealize.ShloMosaic.TcCoe Idealize.SL.Sem
open Cert.MlaKernelIdeal.Value (qa ka)

/-- The precondition, read: every query and every key is real. -/
theorem real_of_pre (m : (ℓ : Loc Cert.MlaKernelIdeal.nD Cert.MlaKernelIdeal.τ Cert.MlaKernelIdeal.sig) → Buf (Elt Ideal) ℓ)
    (h : Cert.Pre_MlaKernelIdeal_queries_and_keys_finite m) (c : Dev Cert.MlaKernelIdeal.nD) :
    (∀ x, qa m c x ≠ ⊤ ∧ qa m c x ≠ ⊥) ∧ ∀ x, ka m c x ≠ ⊤ ∧ ka m c x ≠ ⊥ := by
  have e := fun x => congrFun (h c) x
  dsimp only [Cert.Pre_queries_and_keys_finite.fn] at e
  have e1 := fun x => IntOp.andi_eq_one.mp (e x)
  exact ⟨fun x => Real.real_of_lt (e1 x).1, fun x => Real.real_of_lt (e1 x).2⟩

/-- The kernel at the bit level runs, leaves its arguments unchanged and ends quiescent. -/
theorem frame_p : Cert.quiescent_MlaKernel := fun m ρ _ => Cert.MlaKernel.Gen.frame m ρ

/-- The same of the kernel over the extended reals. -/
theorem frame_pi : Cert.quiescent_MlaKernelIdeal := fun m ρ _ => Cert.MlaKernelIdeal.Gen.frame m ρ

/-- The reference runs, leaves its arguments unchanged and has no semaphore. -/
theorem frame_ri : Cert.quiescent_MlaReferenceIdeal := fun m ρ _ =>
  (θ_run Cert.MlaReferenceIdeal.defs _ _).mono (fun r h => ⟨fun c => (h c).2.2.2,
      Idealize.ShloMosaic.sem_eq_zero_of_no_sems (by decide) r.2⟩) (Cert.MlaReferenceIdeal.Value.run (F := Ideal) m ρ)

/-- The three gradients of the latent attention are, over the extended reals, those of `jax.vjp` of the reference's lines. -/
theorem value : Cert.algebraic_MlaKernelIdeal_MlaReferenceIdeal_pre_queries_and_keys_finite := by
  pair_intro
  · run_from Cert.MlaKernelIdeal.Gen.run_main m g
  · run_from Cert.MlaReferenceIdeal.Value.run m' g'
    · obtain ⟨h0, h1, h2, h3⟩ := hagree c
      obtain ⟨hq, hk⟩ := real_of_pre m hpre c
      rw [Cert.MlaReferenceIdeal.Read.val_main_v75_eq, h0, h1, h2, h3]
      exact (Cert.MlaKernelIdeal.Value.ref_dq _ _ _ _ hq hk).trans (Cert.MlaKernelIdeal.Value.final_dq m c).symm
    · obtain ⟨h0, h1, h2, h3⟩ := hagree c
      obtain ⟨hq, hk⟩ := real_of_pre m hpre c
      rw [Cert.MlaReferenceIdeal.Read.val_main_v77_eq, h0, h1, h2, h3]
      exact (Cert.MlaKernelIdeal.Value.ref_dk _ _ _ _ hq hk).trans (Cert.MlaKernelIdeal.Value.final_dk m c).symm
    · obtain ⟨h0, h1, h2, h3⟩ := hagree c
      rw [Cert.MlaReferenceIdeal.Read.val_main_v79_eq, h0, h1, h3]
      exact (Cert.MlaKernelIdeal.Value.ref_dv _ _ _).trans (Cert.MlaKernelIdeal.Value.final_dv m c).symm

end Cert.Proof.Mla

end
-- ==== Proof.Mild.lean ====
/- Running a body of loads and stores from holdings that it keeps: for a frame no contents matter. -/
module

public import Idealize.ShloMosaic.Lib.Pipeline.Frame
public import Idealize.ShloMosaic.Lib.Pipeline.FrameBody
public import Idealize.ShloMosaic.Lib.Exec
public import Idealize.ShloMosaic.Lib.Tactic
public import Idealize.ShloMosaic.Lib.Pointwise
public import Idealize.ShloMosaic.Lib.Pipeline.ValueKit

@[expose] public section

set_option maxRecDepth 16384

noncomputable section

namespace Cert.Proof.Mild

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Λ : Labels} {defs : Defs nD τ sig Val Λ} {c : Dev nD}

local notation "𝕄" => MT nD τ sig Unit Val ℕ (UR sig nD τ) ℕ

/-- The holdings `I` let the memory reference `m` be read and written: they contain the whole buffer at some contents, and take
it back at any other. -/
def Writes (c : Dev nD) (I : sProp 𝕄) {s : Shape} {e : EltTy} (m : Memref sig .tc .vmem s e) : Prop :=
  I ⊢ iprop(∃ f, (m.view.loc (c : Thread nD τ) ↦{fullShare} f) ∗ (∀ g, (m.view.loc (c : Thread nD τ) ↦{fullShare} g) -∗ I))

/-- A whole buffer held at some contents may be read and written. -/
theorem Writes.owned {s : Shape} {e : EltTy} {m : Memref sig .tc .vmem s e} (h : m.IsWhole) :
    Writes c iprop(∃ X, owns (c : Thread nD τ) m fullShare X : sProp 𝕄) m := by
  unfold Writes owns
  rw [h.set_eq_univ]
  iintro ⟨%X, %f, -, H⟩
  iexists f
  isplitl [H]
  · iexact H
  iintro %g H
  iexists (m.view.read Val g), g
  isplitr
  · ipureintro; rfl
  iexact H

/-- A buffer held at some contents may be read and written through the reference that is all of it. -/
theorem Writes.whole {s : Shape} {e : EltTy} {m : Memref sig .tc .vmem s e} :
    Writes c iprop(∃ f : Buf Val (m.view.loc (c : Thread nD τ)), m.view.loc (c : Thread nD τ) ↦{fullShare} f : sProp 𝕄) m := by
  unfold Writes
  iintro ⟨%f, H⟩
  iexists f
  isplitl [H]
  · iexact H
  iintro %g H
  iexists g
  iexact H

/-- What may be written with the left part of the holdings may be written with all of them. -/
theorem Writes.left {A B : sProp 𝕄} {s : Shape} {e : EltTy} {m : Memref sig .tc .vmem s e} (h : Writes c A m) :
    Writes c iprop(A ∗ B) m := by
  unfold Writes at *
  iintro ⟨HA, HB⟩
  ihave HA := h $$ HA
  icases HA with ⟨%f, H, K⟩
  iexists f
  isplitl [H]
  · iexact H
  iintro %g H
  isplitl [K H]
  · iapply K
    iexact H
  iexact HB

/-- What may be written with the right part of the holdings may be written with all of them. -/
theorem Writes.right {A B : sProp 𝕄} {s : Shape} {e : EltTy} {m : Memref sig .tc .vmem s e} (h : Writes c B m) :
    Writes c iprop(A ∗ B) m := by
  unfold Writes at *
  iintro ⟨HA, HB⟩
  ihave HB := h $$ HB
  icases HB with ⟨%f, H, K⟩
  iexists f
  isplitl [H]
  · iexact H
  iintro %g H
  isplitl [HA]
  · iexact HA
  iapply K
  iexact H

/-- The program `p`, run from the holdings `I` under the body table `defs`, ends with the same holdings. -/
def Keeps (defs : Defs nD τ sig Val Λ) (c : Dev nD) (I : sProp 𝕄) {α : Type} (p : Prog (TpuEff nD τ sig Val Λ .tc) α) : Prop :=
  I ⊢ wp frame (wpE defs Variants.none (c : Thread nD τ) none) Set.univ p fun _ => I

/-- A returned value keeps any holdings. -/
theorem ret_keeps {I : sProp 𝕄} {α : Type} {a : α} :
    I ⊢ wp frame (wpE defs Variants.none (c : Thread nD τ) none) Set.univ (.ret a) fun _ => I := by
  rw [wp_ret]
  exact fupd_intro

/-- A returned value keeps the holdings. -/
theorem Keeps.pure {I : sProp 𝕄} {α : Type} (a : α) : Keeps defs c I (Pure.pure a : Prog (TpuEff nD τ sig Val Λ .tc) α) := by
  unfold Keeps
  exact ret_keeps

/-- One program after another keeps the holdings if each does. -/
theorem Keeps.bind {I : sProp 𝕄} {α β : Type} {p : Prog (TpuEff nD τ sig Val Λ .tc) α} {k : α → Prog (TpuEff nD τ sig Val Λ .tc) β}
    (hp : Keeps defs c I p) (hk : ∀ a, Keeps defs c I (k a)) : Keeps defs c I (p >>= k) := by
  unfold Keeps
  rw [wp_bind]
  exact hp.trans (wp_mono _ _ _ hk)

/-- A choice keeps the holdings if both of its programs do. -/
theorem Keeps.dite {I : sProp 𝕄} {α : Type} {q : Prop} [Decidable q] {p : q → Prog (TpuEff nD τ sig Val Λ .tc) α}
    {r : ¬ q → Prog (TpuEff nD τ sig Val Λ .tc) α} (hp : ∀ h, Keeps defs c I (p h)) (hr : ∀ h, Keeps defs c I (r h)) :
    Keeps defs c I (if h : q then p h else r h) := by
  split
  · exact hp _
  · exact hr _

/-- A load from a reference that the holdings let be read and written keeps them. -/
theorem Keeps.load {I : sProp 𝕄} {s : Shape} {e : EltTy} {m : Memref sig .tc .vmem s e} (h : Writes c I m) {r : LoadRect s}
    {hl : m.view.LoadsAt r} :
    Keeps defs c I (Prog.lift (.load m r hl) : Prog (TpuEff nD τ sig Val Λ .tc) _) := by
  unfold Keeps
  refine h.trans ?_
  iintro ⟨%f, H, K⟩
  iapply (wp_load Variants.none (c : Thread nD τ) none Set.univ (S := Finset.univ) (Finset.subset_univ _)) $$ H
  iintro H
  iapply (ret_keeps (defs := defs) (c := c) (I := I))
  iapply K
  iexact H

/-- A store to a reference that the holdings let be read and written keeps them. -/
theorem Keeps.store {I : sProp 𝕄} {s : Shape} {e : EltTy} {m : Memref sig .tc .vmem s e} (h : Writes c I m) {r : Rect s}
    {w : r.shape.Idx → Val e} {M : Finset r.shape.Idx} {hx : (m.access r).Stores M}
    {hm : M = Finset.univ ∨ ∀ a, r.stride a = 1} :
    Keeps defs c I (Prog.lift (.store m r w M hx hm) : Prog (TpuEff nD τ sig Val Λ .tc) _) := by
  unfold Keeps
  refine h.trans ?_
  iintro ⟨%f, H, K⟩
  have key : (m.view.loc (c : Thread nD τ) ↦{fullShare} f) ⊢ iprop((((m.view.loc (c : Thread nD τ) ↦{fullShare}
      ((m.access r).write Val f w M)) : sProp 𝕄) -∗ wp frame (wpE defs Variants.none (c : Thread nD τ) none) Set.univ
        (Prog.ret PUnit.unit : Prog (TpuEff nD τ sig Val Λ .tc) PUnit) fun _ => I) -∗ wp frame (wpE defs Variants.none (c : Thread nD τ) none) Set.univ
        (Prog.op (.store m r w M hx hm) Prog.ret : Prog (TpuEff nD τ sig Val Λ .tc) PUnit) fun _ => I) :=
    wp_store (defs := defs) Variants.none (c : Thread nD τ) none Set.univ (m := m) (r := r) (w := w) (Mk := M) (hx := hx)
      (hm := hm) (k := Prog.ret) (S := Finset.univ) (f := f) (Finset.subset_univ _)
  iapply key $$ H
  iintro H
  iapply (ret_keeps (defs := defs) (c := c) (I := I))
  iapply K
  iexact H

end Cert.Proof.Mild

end
-- ==== Proof.NaIdealRun.lean ====
/- The idealized kernel of the neighbourhood attention's backward pass: a run of its body. -/
module

public import proofs.«01_k».proof.Proof.Gen.NaKernelIdeal.Launch
public import proofs.«01_k».proof.Proof.Mild
public import Idealize.ShloMosaic.Lib.Pointwise
public import Idealize.ShloMosaic.Lib.Pipeline.ValueKit

@[expose] public section

set_option maxRecDepth 16384

noncomputable section

namespace Cert.NaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mild

variable {F : FTy → Type} [FloatOps F] [Named F]

local notation "𝕄" => MT nD τ sig Unit (Elt F) ℕ (UR sig nD τ) ℕ

set_option maxHeartbeats 40000000 in
/-- The body, run from holdings that let its ten buffers be read and written, ends with the same holdings: it is nothing
but loads of these buffers, stores to them, and choices. -/
theorem keeps_body (c : Dev nD) (I : sProp 𝕄) (i : grid0.Coords) (arg2 : Memref sig .tc .vmem S256x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S4x15x64x64 .f32) (harg5 : arg5.IsWhole) (arg6 : Memref sig .tc .vmem S256x512 .bf16) (harg6 : arg6.IsWhole) (arg7 : Memref sig .tc .vmem S256x512 .bf16) (harg7 : arg7.IsWhole) (arg8 : Memref sig .tc .vmem S2048x512 .f32) (harg8 : arg8.IsWhole) (arg9 : Memref sig .tc .vmem S2048x512 .f32) (harg9 : arg9.IsWhole) (arg10 : Memref sig .tc .vmem S4x15x64x64 .f32) (harg10 : arg10.IsWhole) (arg11 : Memref sig .tc .vmem S4x256x704 .f32) (harg11 : arg11.IsWhole)
    (w2 : Writes c I arg2) (w3 : Writes c I arg3) (w4 : Writes c I arg4) (w5 : Writes c I arg5) (w6 : Writes c I arg6)
    (w7 : Writes c I arg7) (w8 : Writes c I arg8) (w9 : Writes c I arg9) (w10 : Writes c I arg10) (w11 : Writes c I arg11) :
    Keeps (defs₀ (F := F)) c I (cc0_na_bwd i arg2 harg2 arg3 harg3 arg4 harg4 arg5 harg5 arg6 harg6 arg7 harg7 arg8 harg8 arg9 harg9 arg10 harg10 arg11 harg11) := by
  repeat' first
    | with_reducible exact Keeps.pure _
    | with_reducible exact Keeps.load (by assumption)
    | with_reducible exact Keeps.store (by assumption)
    | with_reducible refine Keeps.dite (fun _ => ?_) fun _ => ?_
    | refine Keeps.bind ?_ fun _ => ?_
    | refine Keeps.dite (fun _ => ?_) fun _ => ?_
    | exact Keeps.pure _

end Cert.NaKernelIdeal.Gen

end
-- ==== Proof.NaIdealFrame.lean ====
/- The idealized kernel of the neighbourhood attention's backward pass: its frame. -/
module

public import proofs.«01_k».proof.Proof.NaIdealRun
public import Idealize.ShloMosaic.Lib.Pointwise
public import Idealize.ShloMosaic.Lib.Pipeline.ValueKit

@[expose] public section

set_option maxRecDepth 16384

noncomputable section

namespace Cert.NaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Mild

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host's operations before the kernel, stretch by stretch. -/
abbrev host : List (List (HloOp τ sig (Elt F))) :=
  [hostOps0, hostOps0_1, hostOps0_2, hostOps0_3, hostOps0_4, hostOps0_5, hostOps0_6]

/-- A device's buffers when the kernel starts. -/
abbrev V (c : Dev nD) (b : Ref sig .tc) : Buf (Elt F) ((c : Thread nD τ).loc b) :=
  StableHlo.after host.flatten (fun b => m (c, b)) b

theorem hmain : Pipeline.HMain (Ix := Unit) (Name := ℕ) (U := UR sig nD τ) (Lvl := ℕ) cfgs 0 defs₀ Variants.none m (main (F := F)) (V m) :=
  Pipeline.hmain_prefixes cfgs 0 defs₀ Variants.none m main host
    ⟨hostOps0_sub, hostOps0_1_sub, hostOps0_2_sub, hostOps0_3_sub, hostOps0_4_sub, hostOps0_5_sub, hostOps0_6_sub⟩
    (by simp only [List.Forall]; repeat' constructor) main_chain

/-- The host's operations write no argument: a reference that is none of their results is as it was launched. -/
theorem V_of_ne {b : Ref sig .tc} (h : (host (F := F)).flatten.Forall fun op => Proc.devRef .tc b ∉ op.writes) (c : Dev nD) :
    V m c b = m ((c : Thread nD τ).loc b) :=
  StableHlo.after_of_forall_not_mem (b := Proc.devRef .tc b) _ _ (List.forall_iff_forall_mem.mp h)

/-- The proof data of the kernel's pipeline: the arrays as the host left them, and nothing asked of any block. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The bias scratch, whole. -/
abbrev bias : Memref sig .tc .vmem S4x256x704 .f32 := Memref.whole cc0_scratch0

/-- The body at a point of the grid, on the window blocks' current buffers. -/
abbrev bodyAt (t : Fin cfg0.N) : Prog (TpuEff nD τ sig (Elt F) Λ₀ .tc) PUnit :=
  cc0_na_bwd (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    bias (Memref.isWhole_whole _)

/-- The body table's row is the body. -/
theorem row (t : Fin cfg0.N) : defs₀ (F := F) .tc cfg0.body (cfg0.bodyArgs t (cfg0.slots t)) = bodyAt t := by
  unfold defs₀
  rw [Defs.onTc_tc]

/-- What the body holds at a point: the bias scratch, the generator's register, what it owes, and the window blocks'
current buffers. -/
def held (c : Dev nD) (t : Fin cfg0.N) : sProp 𝕄 :=
  iprop(((∃ f : Buf (Elt F) (bias.view.loc (c : Thread nD τ)), bias.view.loc (c : Thread nD τ) ↦{fullShare} f)
        ∗ ∃ r, prngReg c r) ∗ (rdat m c).owesAt () t.castSucc
      ∗ (∃ X, owns (c : Thread nD τ) (win0_0.stage (cfg0.slots t 0)) fullShare X)
      ∗ (∃ X, owns (c : Thread nD τ) (win0_1.stage (cfg0.slots t 1)) fullShare X)
      ∗ (∃ X, owns (c : Thread nD τ) (win0_2.stage (cfg0.slots t 2)) fullShare X)
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X)
      ∗ (∃ X, owns (c : Thread nD τ) (win0_6.stage (cfg0.slots t 6)) fullShare X)
      ∗ (∃ X, owns (c : Thread nD τ) (win0_7.stage (cfg0.slots t 7)) fullShare X)
      ∗ (∃ X, owns (c : Thread nD τ) (win0_8.stage (cfg0.slots t 8)) fullShare X))

/-- The body keeps what it holds. -/
theorem keeps (c : Dev nD) (t : Fin cfg0.N) :
    held m c t ⊢ wp frame (wpE (defs₀ (F := F)) Variants.none (c : Thread nD τ) none) Set.univ (bodyAt t) fun _ => held m c t := by
  unfold held
  exact keeps_body (F := F) c _ (grid0.coords t) _ _ _ _ _ _ _ _ _ _ _ _ _ _ _ _ _ _ _ _
    (.right (.right (.left (.owned (hstage0_0 _)))))
    (.right (.right (.right (.left (.owned (hstage0_1 _))))))
    (.right (.right (.right (.right (.left (.owned (hstage0_2 _)))))))
    (.right (.right (.right (.right (.right (.left (.owned (hstage0_3 _))))))))
    (.right (.right (.right (.right (.right (.right (.left (.owned (hstage0_4 _)))))))))
    (.right (.right (.right (.right (.right (.right (.right (.left (.owned (hstage0_5 _))))))))))
    (.right (.right (.right (.right (.right (.right (.right (.right (.left (.owned (hstage0_6 _)))))))))))
    (.right (.right (.right (.right (.right (.right (.right (.right (.right (.left (.owned (hstage0_7 _))))))))))))
    (.right (.right (.right (.right (.right (.right (.right (.right (.right (.right (.owned (hstage0_8 _))))))))))))
    (.left (.left (Writes.whole (m := bias))))

/-- The body meets its obligation: what it starts from is what it keeps. -/
theorem body (c : Dev nD) : (rdat m c).BodyObligation (defs₀ (F := F)) Variants.none () Set.univ := by
  intro t Y _
  rw [bigSep_W0, bigSep_W0, row]
  refine triple_restated (keeps m c t) rfl ?_ fun _ => ?_
  · rw [show (rdat m c).Φ t.castSucc = Pipeline.ΦA spec0 c from rfl]
    unfold held Pipeline.ΦA
    rw [scopedRest0_eq]
    iintro ⟨⟨HS, HP⟩, Ho, H0, H1, H2, H3, H4, H5, H6, H7, H8⟩
    isplitl [HS HP]
    · isplitl [HS]
      · iexact HS
      iexact HP
    isplitl [Ho]
    · iexact Ho
    isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    iexists _; iexact H8
  · rw [show (rdat m c).Φ t.succ = Pipeline.ΦA spec0 c from rfl,
      show (rdat m c).owesAt () t.succ = (rdat m c).owesAt () t.castSucc from rfl]
    unfold held Pipeline.ΦA
    rw [scopedRest0_eq]
    iintro ⟨⟨HS, HP⟩, Ho, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩⟩
    isplitl [HS HP]
    · isplitl [HS]
      · iexact HS
      iexact HP
    isplitl [Ho]
    · iexact Ho
    isplitl [H0]
    · iexists X0; isplitr; ipureintro; trivial; iexact H0
    isplitl [H1]
    · iexists X1; isplitr; ipureintro; trivial; iexact H1
    isplitl [H2]
    · iexists X2; isplitr; ipureintro; trivial; iexact H2
    isplitl [H3]
    · iexists X3; isplitr; ipureintro; trivial; iexact H3
    isplitl [H4]
    · iexists X4; isplitr; ipureintro; trivial; iexact H4
    isplitl [H5]
    · iexists X5; isplitr; ipureintro; trivial; iexact H5
    isplitl [H6]
    · iexists X6; isplitr; ipureintro; trivial; iexact H6
    isplitl [H7]
    · iexists X7; isplitr; ipureintro; trivial; iexact H7
    iexists X8; isplitr; ipureintro; trivial; iexact H8

/-- Every run of the program ends, with its counters at zero and with every buffer the kernel is not handed as the host
left it. -/
theorem ends : θ_run defs (onTc (τ := τ) (main (F := F))) (s₀ m ρ)
    (fun r => Pipeline.RDat.FramePost cfg0 (rdat m) (V m) r ∧ r.2.sem = fun _ => 0) :=
  Pipeline.RDat.θ_run_frame_track_shared cfgs (0 : Fin 1) launch₀0 defs₀ Variants.none (rdat m) m ρ main (body m)
    (fun _ _ _ => rfl) (fun _ _ => rfl) (V m) (hmain m) (fun _ _ => rfl) (fun _ => .rfl) (fun _ => .rfl) _
    (fun _ h => h)

set_option maxHeartbeats 4000000 in
/-- The frame: every run ends, the five arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    refine ⟨?_, ?_, ?_, ?_, ?_⟩ <;>
    · refine ((h.1 c).2 _ (Pipeline.mem_restRefs_of _ (by decide) (by decide))).trans (V_of_ne m ?_ c)
      simp only [host, hostOps0, hostOps0_1, hostOps0_2, hostOps0_3, hostOps0_4, hostOps0_5, hostOps0_6, List.flatten_cons,
        List.flatten_nil, List.append_nil, List.cons_append, List.nil_append, List.Forall, StableHlo.TRef.unary,
        StableHlo.TRef.binary, StableHlo.TRef.ternary, StableHlo.nullary_writes, StableHlo.unary_writes,
        StableHlo.binary_writes, StableHlo.ternary_writes, StableHlo.reshape_writes, StableHlo.nary_writes, Finset.mem_singleton]
      repeat' apply And.intro
      all_goals exact StableHlo.devRef_ne_of_ne (by decide), h.2⟩) (ends m ρ)

end Cert.NaKernelIdeal.Gen

end
-- ==== Proof.Na.lean ====
/- The backward pass of the neighbourhood attention: kernel and reference run and leave their arguments, and the
   idealized kernel is the kernel with its masked score named. -/
module

public import proofs.«01_k».proof.Defs
public import proofs.«01_k».proof.Proof.NaFrame
public import proofs.«01_k».proof.Proof.NaIdealFrame
public import proofs.«01_k».proof.Proof.Gen.NaReferenceIdeal.Run
public import Idealize.ShloMosaic.Lib.Pointwise
public import Idealize.ShloMosaic.Lib.Pipeline.ValueKit

@[expose] public section

set_option maxRecDepth 16384

noncomputable section

namespace Cert.Proof.Na

open Idealize.ShloMosaic Idealize.ShloMosaic.TcCoe Idealize.SL.Sem

/-- The kernel runs, ends with its arguments unchanged and its counters at zero. -/
theorem frame_p : Cert.quiescent_NaKernel := fun m ρ _ => Cert.NaKernel.Gen.frame m ρ

/-- The same of its idealization. -/
theorem frame_pi : Cert.quiescent_NaKernelIdeal := fun m ρ _ => Cert.NaKernelIdeal.Gen.frame m ρ

/-- The reference runs and leaves its arguments; it declares no semaphore. -/
theorem frame_ri : Cert.quiescent_NaReferenceIdeal := fun m ρ _ =>
  (θ_run Cert.NaReferenceIdeal.defs _ _).mono (fun r h => ⟨fun c => (h c).2.2.2.2,
      Idealize.ShloMosaic.sem_eq_zero_of_no_sems (by decide) r.2⟩)
    (Cert.NaReferenceIdeal.Value.run (F := Ideal) m ρ)

/-- The idealized kernel differs from the kernel only in the masked score, which the table names minus infinity. -/
theorem preserves : Cert.preserves_NaKernel_NaKernelIdeal := IdealRules.named_const.statement _ _ _ _ _ rfl

end Cert.Proof.Na

end
-- ==== Proof.Columns.lean ====
/- The gradient of the spread biases, summed back to the biases. -/
module

public import proofs.«01_k».proof.Defs
public import proofs.«01_k».proof.Proof.Gen.ColumnsKernel.Frame
public import proofs.«01_k».proof.Proof.Gen.ColumnsKernelIdeal.Value
public import proofs.«01_k».proof.Proof.Gen.ColumnsReferenceIdeal.Read
public import Idealize.ShloMosaic.Lib.Routing.OpsPair
public import Idealize.ShloMosaic.Lib.Pointwise
public import Idealize.ShloMosaic.Lib.Pipeline.ValueKit

@[expose] public section

set_option maxRecDepth 16384

noncomputable section

namespace Cert.ColumnsKernelIdeal.Value

open Cert.ColumnsKernelIdeal Cert.ColumnsKernelIdeal.Gen Idealize.ShloMosaic Idealize.ShloMosaic.TcCoe Idealize.SL.Sem
open Idealize.ShloMosaic.Pipeline (Dat)

variable (m : (ℓ : Loc nD τ sig) → Buf (Elt Ideal) ℓ)

/-- The argument of a device. -/
abbrev da (c : Dev nD) : FVec Ideal S8x15x64x64 .f32 := m ((c : Thread nD τ).loc main_arg0)

/-- Whether column `w'` lies in the window of column `w`. -/
def inside (w w' : Fin 64) : Bool := decide (min (w.val - 8) 48 ≤ w'.val) && decide (w'.val < min (w.val - 8) 48 + 16)

/-- The bias of the distance from column `w` to column `w'`. -/
def dist (w w' : Fin 64) : Fin 31 := ⟨min (w'.val + 15 - w.val) 30, by omega⟩

theorem idx : ∀ t : Fin cfg0.N,
    win0_0.index t 0 = 0 ∧ win0_0.index t 1 = 0 ∧ win0_1.index t 0 = 0 ∧ win0_1.index t 1 = 0
    ∧ win0_2.index t 0 = 0 ∧ win0_2.index t 1 = 0 := by
  decide +kernel

/-- The window's columns in machine integers. -/
theorem inside_bits : ∀ w w' : Fin 64,
    IntOp.andi
      (IntOp.cmpi CmpIPredicate.sge (BitVec.ofNat 32 w'.val)
        (IntOp.minsi 48#32 (IntOp.maxsi 0#32 (IntOp.subi (BitVec.ofNat 32 w.val) 8#32))))
      (IntOp.cmpi CmpIPredicate.slt (BitVec.ofNat 32 w'.val)
        (IntOp.addi (IntOp.minsi 48#32 (IntOp.maxsi 0#32 (IntOp.subi (BitVec.ofNat 32 w.val) 8#32))) 16#32))
      = BitVec.ofBool (inside w w') := by
  decide +kernel

/-- The distance in machine integers. -/
theorem dist_bits : ∀ w w' : Fin 64,
    IntOp.addi (IntOp.minsi 15#32 (IntOp.maxsi 4294967281#32 (IntOp.subi (BitVec.ofNat 32 w'.val) (BitVec.ofNat 32 w.val)))) 15#32
      = BitVec.ofNat 32 (dist w w').val := by
  decide +kernel

theorem dist_pos (w w' : Fin 64) : IntOp.cmpi CmpIPredicate.slt (BitVec.ofNat 32 (dist w w').val) 0#32 = 0#1 :=
  (by decide +kernel : ∀ d : Fin 31, IntOp.cmpi CmpIPredicate.slt (BitVec.ofNat 32 d.val) 0#32 = 0#1) _

/-- Equality of small machine integers. -/
theorem eq_bits : ∀ (d : Fin 31) (k : Fin 128) (b : Bool),
    IntOp.andi (BitVec.ofBool b) (IntOp.cmpi CmpIPredicate.eq (BitVec.ofNat 32 d.val) (BitVec.ofNat 32 k.val))
      = BitVec.ofBool (b && decide (d.val = k.val)) := by
  decide +kernel

set_option maxHeartbeats 4000000 in
theorem d_blk (c : Dev nD) (t : Fin cfg0.N) (r : Fin 120) (l : Fin 4096) :
    iblk m c 0 t (ix2 r l) = da m c (ix4 ⟨r.val / 15, by omega⟩ ⟨r.val % 15, by omega⟩ ⟨l.val / 64, by omega⟩ ⟨l.val % 64, by omega⟩) := by
  blk_point [iblk, V, idx t]

attribute [local irreducible] IntOp.andi IntOp.cmpi IntOp.minsi IntOp.maxsi IntOp.subi IntOp.addi Scalar.select BitVec.ofNat BitVec.ofBool

set_option maxHeartbeats 1000000 in
theorem e_word (c : Dev nD) (t : Fin cfg0.N) (l : Fin 4096) (k : Fin 128) :
    iblk m c 1 t (ix2 l k) = (Scalar.select
      (IntOp.andi
        (IntOp.andi
          (IntOp.cmpi CmpIPredicate.sge (BitVec.ofNat 32 (l.val % 64))
            (IntOp.minsi 48#32 (IntOp.maxsi 0#32 (IntOp.subi (BitVec.ofNat 32 (l.val / 64)) 8#32))))
          (IntOp.cmpi CmpIPredicate.slt (BitVec.ofNat 32 (l.val % 64))
            (IntOp.addi (IntOp.minsi 48#32 (IntOp.maxsi 0#32 (IntOp.subi (BitVec.ofNat 32 (l.val / 64)) 8#32))) 16#32)))
        (IntOp.cmpi CmpIPredicate.eq
          (IntOp.addi (IntOp.minsi 15#32 (IntOp.maxsi 4294967281#32 (IntOp.subi (BitVec.ofNat 32 (l.val % 64)) (BitVec.ofNat 32 (l.val / 64))))) 15#32)
          (BitVec.ofNat 32 k.val)))
      (1 : EReal) 0 : EReal) := by
  blk_point [iblk, V, idx t]

attribute [local semireducible] IntOp.andi IntOp.cmpi IntOp.minsi IntOp.maxsi IntOp.subi IntOp.addi Scalar.select BitVec.ofNat BitVec.ofBool

/-- The two columns of a cell. -/
def cw (l : Fin 4096) : Fin 64 := ⟨l.val / 64, by omega⟩
def cw' (l : Fin 4096) : Fin 64 := ⟨l.val % 64, by omega⟩

theorem cw_cell (w w' : Fin 64) (h : w.val * 64 + w'.val < 4096) : cw ⟨w.val * 64 + w'.val, h⟩ = w ∧ cw' ⟨w.val * 64 + w'.val, h⟩ = w' :=
  ⟨Fin.ext (by show (w.val * 64 + w'.val) / 64 = w.val; omega), Fin.ext (by show (w.val * 64 + w'.val) % 64 = w'.val; omega)⟩

/-- The table of ones. -/
theorem e_blk (c : Dev nD) (t : Fin cfg0.N) (l : Fin 4096) (k : Fin 128) :
    iblk m c 1 t (ix2 l k)
      = (if inside (cw l) (cw' l) && decide ((dist (cw l) (cw' l)).val = k.val) then 1 else 0 : EReal) := by
  rw [e_word]
  have h1 := inside_bits (cw l) (cw' l)
  have h2 := dist_bits (cw l) (cw' l)
  simp only [cw, cw'] at h1 h2
  rw [h1, h2, eq_bits]
  change Scalar.select (BitVec.ofBool (inside (cw l) (cw' l) && decide ((dist (cw l) (cw' l)).val = k.val))) _ _ = _
  cases (inside (cw l) (cw' l) && decide ((dist (cw l) (cw' l)).val = k.val)) <;> rfl

/-- A distance is not negative: the index is not wrapped. -/
theorem dist_wrap (w w' : Fin 64) : Scalar.select (IntOp.cmpi CmpIPredicate.slt (BitVec.ofNat 32 (dist w w').val) 0#32)
    (IntOp.addi (BitVec.ofNat 32 (dist w w').val) 31#32) (BitVec.ofNat 32 (dist w w').val) = BitVec.ofNat 32 (dist w w').val := by
  rw [dist_pos]
  rfl

attribute [local irreducible] IntOp.andi IntOp.cmpi IntOp.minsi IntOp.maxsi IntOp.subi IntOp.addi Scalar.select BitVec.ofNat BitVec.ofBool

open Cert.ColumnsReferenceIdeal.Read in
theorem mask_ref (w w' : Fin 64) : val_main_v17 (F := Ideal) (ix2 w w') = BitVec.ofBool (inside w w') := by
  refine Eq.trans ?_ (inside_bits w w')
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_c, val_main_c_0, val_main_c_1, val_main_c_2, val_main_call0_v0, val_main_call0_v1, val_main_call0_v2,
    val_main_call0_v3, val_main_call0_v4]
  rfl

open Cert.ColumnsReferenceIdeal.Read in
theorem dist_ref (w w' : Fin 64) : val_main_v31 (F := Ideal) (ix3 w w' 0) = BitVec.ofNat 32 (dist w w').val := by
  refine Eq.trans ?_ (dist_wrap w w')
  rw [← dist_bits]
  pointwise [val_main_v31, val_main_v30, val_main_v29, val_main_v28, val_main_v27, val_main_v26, val_main_v25, val_main_v24,
    val_main_v23, val_main_v22, val_main_v21, val_main_v20, val_main_v19, val_main_v18, val_main_v1, val_main_c_3, val_main_c_4,
    val_main_c_5, val_main_c_6, val_main_c_7, val_main_call1_v0, val_main_call1_v1, val_main_call1_v2, val_main_call1_v3,
    val_main_call1_v4]
  rfl

attribute [local semireducible] IntOp.andi IntOp.cmpi IntOp.minsi IntOp.maxsi IntOp.subi IntOp.addi Scalar.select BitVec.ofNat BitVec.ofBool

theorem dist_int (w w' : Fin 64) : (BitVec.ofNat 32 (dist w w').val).toInt = (dist w w').val :=
  (by decide +kernel : ∀ d : Fin 31, (BitVec.ofNat 32 d.val).toInt = (d.val : ℤ)) _

open Cert.ColumnsReferenceIdeal in
/-- An update of head `n`, row distance `a` and columns `w`, `w'` lands at the bias of the columns' distance. -/
theorem lands (n : Fin 8) (a : Fin 15) (w w' : Fin 64) (n' : Fin 8) (a' : Fin 15) (k : Fin 31) :
    scatter_S8x15x31_S64x64x1_S8x15x64x64_01_2_2_2.resultIdx? (ix4 n a w w') (Read.val_main_v31 (F := Ideal)) = some (ix3 n' a' k)
      ↔ n = n' ∧ a = a' ∧ dist w w' = k := by
  rw [Idealize.ShloMosaic.Routing.resultIdx?_eq_some]
  have h2 : scatter_S8x15x31_S64x64x1_S8x15x64x64_01_2_2_2.start (ix4 n a w w') (Read.val_main_v31 (F := Ideal)) 2
      = ((dist w w').val : ℤ) := by
    unfold ScatterDims.start
    rw [dif_pos (by decide)]
    rw [show scatter_S8x15x31_S64x64x1_S8x15x64x64_01_2_2_2.siIdx (ix4 n a w w') _ = ix3 w w' 0 from by
      funext b
      fin_cases b <;> rfl]
    rw [dist_ref, dist_int]
  constructor
  · intro h
    have e0 := h 0
    have e1 := h 1
    have e2 := h 2
    rw [h2] at e2
    change (0 : ℤ) + (n.val : ℤ) = (n'.val : ℤ) at e0
    change (0 : ℤ) + (a.val : ℤ) = (a'.val : ℤ) at e1
    change ((dist w w').val : ℤ) + ((0 : ℕ) : ℤ) = (k.val : ℤ) at e2
    exact ⟨Fin.ext (by omega), Fin.ext (by omega), Fin.ext (by omega)⟩
  · rintro ⟨rfl, rfl, rfl⟩ b
    fin_cases b
    · exact zero_add _
    · exact zero_add _
    · exact (congrArg (· + ((0 : ℕ) : ℤ)) h2).trans (add_zero _)

open Cert.ColumnsReferenceIdeal.Read in
theorem upd_ref (dt : FVec Ideal S8x15x64x64 .f32) (n : Fin 8) (a : Fin 15) (w w' : Fin 64) :
    val_main_v34 (F := Ideal) dt (ix4 n a w w') = if inside w w' then dt (ix4 n a w w') else 0 := by
  pointwise [val_main_v34, val_main_v33_1, val_main_call3_v0, val_main_call3_cst]
  rw [mask_ref]
  cases inside w w' <;> simp [Scalar.select]

open Cert.ColumnsReferenceIdeal.Read in
theorem out_ref (dt : FVec Ideal S8x15x64x64 .f32) (r : Fin 120) (k : Fin 128) :
    val_main_v38 (F := Ideal) dt (ix2 r k) = if h : k.val < 31 then
      val_main_v36 (F := Ideal) dt (ix3 ⟨r.val / 15, by omega⟩ ⟨r.val % 15, by omega⟩ ⟨k.val, h⟩) else 0 := by
  pointwise [val_main_v38, val_main_v37]
  split
  · rfl
  · pointwise [val_main_cst_10]

theorem pay (x : FVec Ideal S120x4096 .f32) (y : FVec Ideal S4096x128 .f32) (r : Fin 120) (k : Fin 128) :
    k0_pay1 x y (ix2 r k) = ∑ l : Fin 4096, x (ix2 r l) * y (ix2 l k) := by
  pointwise [k0_pay1]

open Cert.ColumnsReferenceIdeal Cert.ColumnsReferenceIdeal.Read in
/-- The scattered sum: the gradient's entries whose columns lie in the window and have the bias's distance. -/
theorem scat_ref (dt : FVec Ideal S8x15x64x64 .f32) (n : Fin 8) (a : Fin 15) (k : Fin 31) :
    val_main_v36 (F := Ideal) dt (ix3 n a k)
      = ∑ l : Fin 4096, if dist (cw l) (cw' l) = k then (if inside (cw l) (cw' l) then dt (ix4 n a (cw l) (cw' l)) else 0) else 0 := by
  have h0 : val_main_v35 (F := Ideal) (ix3 n a k) = 0 := by pointwise [val_main_v35, val_main_cst_9]
  have h : val_main_v36 (F := Ideal) dt (ix3 n a k) = val_main_v35 (F := Ideal) (ix3 n a k)
      + ∑ j with scatter_S8x15x31_S64x64x1_S8x15x64x64_01_2_2_2.resultIdx? j (val_main_v31 (F := Ideal)) = some (ix3 n a k),
          val_main_v34 (F := Ideal) dt j := by
    unfold val_main_v36
    exact congrFun (Ideal.hostScatterAdd_def _ _ _ _ _) _
  rw [h, h0, zero_add, ← Finset.sum_filter]
  have eta : ∀ j : S8x15x64x64.Idx, j = ix4 (j 0) (j 1) (j 2) (j 3) := fun j => by
    funext i
    fin_cases i <;> rfl
  have cell : ∀ j : S8x15x64x64.Idx, (j 2).val * 64 + (j 3).val < 4096 := fun j => by
    have h2 : (j 2).val < 64 := (j 2).isLt
    have h3 : (j 3).val < 64 := (j 3).isLt
    omega
  have sel : ∀ j : S8x15x64x64.Idx,
      scatter_S8x15x31_S64x64x1_S8x15x64x64_01_2_2_2.resultIdx? j (val_main_v31 (F := Ideal)) = some (ix3 n a k)
        ↔ j 0 = n ∧ j 1 = a ∧ dist (j 2) (j 3) = k := fun j => by
    conv_lhs => rw [eta j]
    exact lands (j 0) (j 1) (j 2) (j 3) n a k
  refine Finset.sum_nbij' (fun j => (⟨(j 2).val * 64 + (j 3).val, cell j⟩ : Fin 4096))
    (fun l => ix4 n a (cw l) (cw' l)) ?_ ?_ ?_ ?_ ?_
  · intro j hj
    obtain ⟨_, _, h⟩ := (sel j).1 (Finset.mem_filter.1 hj).2
    refine Finset.mem_filter.2 ⟨Finset.mem_univ _, ?_⟩
    rw [(cw_cell (j 2) (j 3) _).1, (cw_cell (j 2) (j 3) _).2]
    exact h
  · intro l hl
    exact Finset.mem_filter.2 ⟨Finset.mem_univ _, (sel _).2 ⟨rfl, rfl, (Finset.mem_filter.1 hl).2⟩⟩
  · intro j hj
    obtain ⟨h0, h1, _⟩ := (sel j).1 (Finset.mem_filter.1 hj).2
    rw [(cw_cell (j 2) (j 3) _).1, (cw_cell (j 2) (j 3) _).2, ← h0, ← h1]
    exact (eta j).symm
  · intro l _
    refine Fin.ext ?_
    show l.val / 64 * 64 + l.val % 64 = l.val
    omega
  · intro j hj
    obtain ⟨h0, h1, _⟩ := (sel j).1 (Finset.mem_filter.1 hj).2
    rw [(cw_cell (j 2) (j 3) _).1, (cw_cell (j 2) (j 3) _).2, ← h0, ← h1]
    conv_lhs => rw [eta j]
    exact upd_ref dt (j 0) (j 1) (j 2) (j 3)

/-- The kernel's sum against the table of ones is the reference's scattered sum. -/
theorem o_blk (c : Dev nD) (t : Fin cfg0.N) (r : Fin 120) (k : Fin 128) :
    k0_pay1 (F := Ideal) (iblk m c 0 t) (iblk m c 1 t) (ix2 r k)
      = Cert.ColumnsReferenceIdeal.Read.val_main_v38 (F := Ideal) (da m c) (ix2 r k) := by
  rw [pay, out_ref]
  by_cases h : k.val < 31
  · rw [dif_pos h, scat_ref]
    refine Finset.sum_congr rfl fun l _ => ?_
    rw [d_blk, e_blk]
    by_cases hd : (dist (cw l) (cw' l)).val = k.val
    · rw [if_pos (Fin.ext hd : dist (cw l) (cw' l) = ⟨k.val, h⟩)]
      cases hi : inside (cw l) (cw' l)
      · simp
      · simp only [hd, decide_true, Bool.and_true, if_true, mul_one]
        rfl
    · rw [if_neg fun e : dist (cw l) (cw' l) = ⟨k.val, h⟩ => hd (congrArg Fin.val e)]
      simp [hd]
  · rw [dif_neg h]
    refine Finset.sum_eq_zero fun l _ => ?_
    rw [e_blk]
    have hd : (dist (cw l) (cw' l)).val ≠ k.val := by have := (dist (cw l) (cw' l)).isLt; omega
    simp [hd]

theorem ix2_eta {a b : ℕ} (x : (⟨2, ![a, b]⟩ : Shape).Idx) : x = ix2 (x 0) (x 1) := by
  funext i
  fin_cases i <;> rfl

theorem emb2 (t : Fin cfg0.N) (y : S120x128.Idx) : (win0_2.blk t).view.emb y = ix2 (y 0) (y 1) := by
  blk_ext [idx t]

theorem final_out (c : Dev nD) : (dats m 0 c).arrAt 2 (cfgs 0).N
    = Cert.ColumnsReferenceIdeal.Read.val_main_v38 (F := Ideal) (da m c) := by
  refine (dats m 0 c).arrAt_eq_of_covers 2 _ (by decide +kernel) fun t _ y => ?_
  blk_simp
  rw [after0_2]
  frame_out
  rw [emb2]
  exact (congrArg _ (ix2_eta y)).trans (o_blk m c t (y 0) (y 1))

end Cert.ColumnsKernelIdeal.Value

namespace Cert.Proof.Columns

open Idealize.ShloMosaic Idealize.ShloMosaic.TcCoe Idealize.SL.Sem

/-- The kernel at the bit level runs, leaves its argument unchanged and ends quiescent. -/
theorem frame_p : Cert.quiescent_ColumnsKernel := fun m ρ _ => Cert.ColumnsKernel.Gen.frame m ρ

/-- The same of the kernel over the extended reals. -/
theorem frame_pi : Cert.quiescent_ColumnsKernelIdeal := fun m ρ _ => Cert.ColumnsKernelIdeal.Gen.frame m ρ

/-- The reference runs, leaves its argument unchanged and has no semaphore. -/
theorem frame_ri : Cert.quiescent_ColumnsReferenceIdeal := fun m ρ _ =>
  (θ_run Cert.ColumnsReferenceIdeal.defs _ _).mono (fun r h => ⟨fun c => (h c).2,
      Idealize.ShloMosaic.sem_eq_zero_of_no_sems (by decide) r.2⟩) (Cert.ColumnsReferenceIdeal.Value.run (F := Ideal) m ρ)

/-- The biases' gradient is, over the extended reals, that of `jax.vjp` of the reference's spread. -/
theorem value : Cert.algebraic_ColumnsKernelIdeal_ColumnsReferenceIdeal := by
  pair_intro
  · run_from Cert.ColumnsKernelIdeal.Gen.run_main m g
  · run_from Cert.ColumnsReferenceIdeal.Value.run m' g'
    exact (Cert.ColumnsKernelIdeal.Value.final_out m c).symm

end Cert.Proof.Columns

end
-- ==== Proof.Table.lean ====
/- The neighbourhood attention's biases, spread over the cells. -/
module

public import proofs.«01_k».proof.Defs
public import proofs.«01_k».proof.Proof.Columns
public import proofs.«01_k».proof.Proof.Gen.TableKernel.Frame
public import proofs.«01_k».proof.Proof.Gen.TableKernelIdeal.Value
public import proofs.«01_k».proof.Proof.Gen.TableReferenceIdeal.Read
public import Idealize.ShloMosaic.Lib.Pointwise
public import Idealize.ShloMosaic.Lib.Pipeline.ValueKit

@[expose] public section

set_option maxRecDepth 16384

noncomputable section

namespace Cert.TableKernelIdeal.Value

open Cert.TableKernelIdeal Cert.TableKernelIdeal.Gen Idealize.ShloMosaic Idealize.ShloMosaic.TcCoe Idealize.SL.Sem
open Idealize.ShloMosaic.Pipeline (Dat)
open Cert.ColumnsKernelIdeal.Value (inside dist inside_bits dist_bits eq_bits dist_wrap dist_int cw cw')

variable (m : (ℓ : Loc nD τ sig) → Buf (Elt Ideal) ℓ)

/-- The argument of a device. -/
abbrev ba (c : Dev nD) : FVec Ideal S8x15x31 .f32 := m ((c : Thread nD τ).loc main_arg0)

/-- The score of a column outside the window. -/
abbrev out : EReal := Ideal.ofBits .f32 0xF149F2CA#32

theorem idx : ∀ t : Fin cfg0.N,
    win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 := by
  decide +kernel

attribute [local irreducible] IntOp.andi IntOp.cmpi IntOp.minsi IntOp.maxsi IntOp.subi IntOp.addi Scalar.select BitVec.ofNat BitVec.ofBool

theorem b_pad (c : Dev nD) : V m c main_v37 = pad S120x128 ![0, 0] ![0, 97] ![0, 0] (shapeCast S120x31 (ba m c) shapeCasts_S8x15x31_S120x31)
    (V m c main_cst_9) pads_S120x31_S120x128_000_0970 h_S_ := by
  rfl

set_option maxHeartbeats 1000000 in
theorem b_blk (c : Dev nD) (t : Fin cfg0.N) (r : Fin 120) (k : Fin 128) (h : k.val < 31) :
    iblk m c 0 t (ix2 r k) = ba m c (ix3 ⟨r.val / 15, by omega⟩ ⟨r.val % 15, by omega⟩ ⟨k.val, h⟩) := by
  have e : iblk m c 0 t (ix2 r k) = V m c main_v37 (ix2 r k) := by
    blk_point [iblk, idx t]
  rw [e, b_pad]
  pointwise []
  rw [dif_pos h]

set_option maxHeartbeats 1000000 in
theorem e_word (c : Dev nD) (t : Fin cfg0.N) (l : Fin 4096) (k : Fin 128) :
    iblk m c 1 t (ix2 k l) = (Scalar.select
      (IntOp.andi
        (IntOp.andi
          (IntOp.cmpi CmpIPredicate.sge (BitVec.ofNat 32 (l.val % 64))
            (IntOp.minsi 48#32 (IntOp.maxsi 0#32 (IntOp.subi (BitVec.ofNat 32 (l.val / 64)) 8#32))))
          (IntOp.cmpi CmpIPredicate.slt (BitVec.ofNat 32 (l.val % 64))
            (IntOp.addi (IntOp.minsi 48#32 (IntOp.maxsi 0#32 (IntOp.subi (BitVec.ofNat 32 (l.val / 64)) 8#32))) 16#32)))
        (IntOp.cmpi CmpIPredicate.eq
          (IntOp.addi (IntOp.minsi 15#32 (IntOp.maxsi 4294967281#32 (IntOp.subi (BitVec.ofNat 32 (l.val % 64)) (BitVec.ofNat 32 (l.val / 64))))) 15#32)
          (BitVec.ofNat 32 k.val)))
      (1 : EReal) 0 : EReal) := by
  blk_point [iblk, V, idx t]

set_option maxHeartbeats 1000000 in
theorem f_word (c : Dev nD) (t : Fin cfg0.N) (l : Fin 4096) :
    iblk m c 2 t (ix2 0 l) = (Scalar.select
        (IntOp.andi
          (IntOp.cmpi CmpIPredicate.sge (BitVec.ofNat 32 (l.val % 64))
            (IntOp.minsi 48#32 (IntOp.maxsi 0#32 (IntOp.subi (BitVec.ofNat 32 (l.val / 64)) 8#32))))
          (IntOp.cmpi CmpIPredicate.slt (BitVec.ofNat 32 (l.val % 64))
            (IntOp.addi (IntOp.minsi 48#32 (IntOp.maxsi 0#32 (IntOp.subi (BitVec.ofNat 32 (l.val / 64)) 8#32))) 16#32)))
      (0 : EReal) out : EReal) := by
  blk_point [iblk, V, idx t]

attribute [local semireducible] IntOp.andi IntOp.cmpi IntOp.minsi IntOp.maxsi IntOp.subi IntOp.addi Scalar.select BitVec.ofNat BitVec.ofBool

/-- The table of ones. -/
theorem e_blk (c : Dev nD) (t : Fin cfg0.N) (l : Fin 4096) (k : Fin 128) :
    iblk m c 1 t (ix2 k l)
      = (if inside (cw l) (cw' l) && decide ((dist (cw l) (cw' l)).val = k.val) then 1 else 0 : EReal) := by
  rw [e_word]
  have h1 := inside_bits (cw l) (cw' l)
  have h2 := dist_bits (cw l) (cw' l)
  simp only [cw, cw'] at h1 h2
  rw [h1, h2, eq_bits]
  change Scalar.select (BitVec.ofBool (inside (cw l) (cw' l) && decide ((dist (cw l) (cw' l)).val = k.val))) _ _ = _
  cases (inside (cw l) (cw' l) && decide ((dist (cw l) (cw' l)).val = k.val)) <;> rfl

/-- The row that puts a column outside the window out. -/
theorem f_blk (c : Dev nD) (t : Fin cfg0.N) (l : Fin 4096) :
    iblk m c 2 t (ix2 0 l) = (if inside (cw l) (cw' l) then 0 else out : EReal) := by
  rw [f_word]
  have h1 := inside_bits (cw l) (cw' l)
  simp only [cw, cw'] at h1
  rw [h1]
  change Scalar.select (BitVec.ofBool (inside (cw l) (cw' l))) _ _ = _
  cases inside (cw l) (cw' l) <;> rfl

theorem pay (x : FVec Ideal S120x128 .f32) (y : FVec Ideal S128x4096 .f32) (z : FVec Ideal S1x4096 .f32) (r : Fin 120) (l : Fin 4096) :
    k0_pay1 x y z (ix2 r l) = ∑ k : Fin 128, x (ix2 r k) * y (ix2 k l) + z (ix2 0 l) := by
  pointwise [k0_pay1]

/-- The spread bias of a head and row distance at a cell: the bias of the columns' distance, or the score of a column
    outside the window. -/
def spread (b : FVec Ideal S8x15x31 .f32) : FVec Ideal S120x4096 .f32 := fun x =>
  if inside (cw (x 1)) (cw' (x 1)) then
    b (ix3 ⟨(x 0).val / 15, by have h0 : (x 0).val < 120 := (x 0).isLt; omega⟩ ⟨(x 0).val % 15, by omega⟩ (dist (cw (x 1)) (cw' (x 1))))
  else out

theorem o_blk (c : Dev nD) (t : Fin cfg0.N) (r : Fin 120) (l : Fin 4096) :
    k0_pay1 (F := Ideal) (iblk m c 0 t) (iblk m c 1 t) (iblk m c 2 t) (ix2 r l) = spread (ba m c) (ix2 r l) := by
  rw [pay, f_blk]
  show _ = if inside (cw l) (cw' l) then ba m c (ix3 ⟨r.val / 15, _⟩ ⟨r.val % 15, _⟩ (dist (cw l) (cw' l))) else out
  simp only [e_blk]
  cases hi : inside (cw l) (cw' l)
  · simp
  · have hd := (dist (cw l) (cw' l)).isLt
    rw [Finset.sum_eq_single (⟨(dist (cw l) (cw' l)).val, by omega⟩ : Fin 128)]
    · rw [b_blk m c t r _ hd]
      simp
    · intro k _ hk
      have : (dist (cw l) (cw' l)).val ≠ k.val := fun e => hk (Fin.ext e.symm)
      simp [this]
    · intro h
      exact absurd (Finset.mem_univ _) h

theorem emb3 (t : Fin cfg0.N) (y : S120x4096.Idx) : (win0_3.blk t).view.emb y = ix2 (y 0) (y 1) := by
  blk_ext [idx t]

theorem final_out (c : Dev nD) : (dats m 0 c).arrAt 3 (cfgs 0).N = spread (ba m c) := by
  refine (dats m 0 c).arrAt_eq_of_covers 3 _ (by decide +kernel) fun t _ y => ?_
  blk_simp
  rw [after0_3]
  frame_out
  rw [emb3]
  exact (congrArg _ (Cert.ColumnsKernelIdeal.Value.ix2_eta y)).trans (o_blk m c t (y 0) (y 1))

/-- The window's columns and the distances are those of the backward call's reference. -/
theorem mask_ref (w w' : Fin 64) : Cert.TableReferenceIdeal.Read.val_main_v16 (F := Ideal) (ix2 w w') = BitVec.ofBool (inside w w') :=
  Cert.ColumnsKernelIdeal.Value.mask_ref w w'

theorem dist_ref (w w' : Fin 64) : Cert.TableReferenceIdeal.Read.val_main_v30 (F := Ideal) (ix3 w w' 0) = BitVec.ofNat 32 (dist w w').val :=
  Cert.ColumnsKernelIdeal.Value.dist_ref w w'

open Cert.TableReferenceIdeal Cert.TableReferenceIdeal.Read in
/-- The reference's gathered bias. -/
theorem gather_ref (b : FVec Ideal S8x15x31 .f32) (n : Fin 8) (a : Fin 15) (w w' : Fin 64) :
    val_main_v31 (F := Ideal) b (ix4 n a w w') = b (ix3 n a (dist w w')) := by
  unfold val_main_v31 Host.gather
  refine congrArg b ?_
  funext x
  refine Fin.ext ?_
  fin_cases x
  · show 0 + 0 + n.val = n.val
    omega
  · show 0 + 0 + a.val = a.val
    omega
  · have hs : gather_S8x15x31_S64x64x1_S8x15x64x64_01_2_n_n_2_2_8151.start (ix4 n a w w') (val_main_v30 (F := Ideal)) 2
        = (dist w w').val := by
      unfold GatherDims.start
      rw [dif_pos (by decide)]
      rw [show gather_S8x15x31_S64x64x1_S8x15x64x64_01_2_n_n_2_2_8151.siIdx (ix4 n a w w') _ = ix3 w w' 0 from by
        funext b
        fin_cases b <;> rfl]
      rw [dist_ref, dist_int]
      have := (dist w w').isLt
      show min (dist w w').val (31 - 1) = _
      omega
    exact (congrArg (· + 0 + 0) hs)

open Cert.TableReferenceIdeal.Read in
/-- The reference's spread biases are the same array. -/
theorem ref_out (b : FVec Ideal S8x15x31 .f32) : val_main_v33 (F := Ideal) b = spread b := by
  funext x
  obtain ⟨r, l, rfl⟩ : ∃ (r : Fin 120) (l : Fin 4096), x = ix2 r l := ⟨x 0, x 1, Cert.ColumnsKernelIdeal.Value.ix2_eta x⟩
  show _ = if inside (cw l) (cw' l) then b (ix3 ⟨r.val / 15, _⟩ ⟨r.val % 15, _⟩ (dist (cw l) (cw' l))) else out
  have e : val_main_v33 (F := Ideal) b (ix2 r l)
      = val_main_v32 (F := Ideal) b (ix4 ⟨r.val / 15, by omega⟩ ⟨r.val % 15, by omega⟩ (cw l) (cw' l)) := by
    unfold cw cw'
    pointwise [val_main_v33]
  rw [e]
  pointwise [val_main_v32, val_main_call2_v0, val_main_call2_v1, val_main_call2_v2, val_main_cst]
  rw [mask_ref, gather_ref]
  cases inside (cw l) (cw' l) <;> rfl

end Cert.TableKernelIdeal.Value

namespace Cert.Proof.Table

open Idealize.ShloMosaic Idealize.ShloMosaic.TcCoe Idealize.SL.Sem

/-- The kernel at the bit level runs, leaves its argument unchanged and ends quiescent. -/
theorem frame_p : Cert.quiescent_TableKernel := fun m ρ _ => Cert.TableKernel.Gen.frame m ρ

/-- The same of the kernel over the extended reals. -/
theorem frame_pi : Cert.quiescent_TableKernelIdeal := fun m ρ _ => Cert.TableKernelIdeal.Gen.frame m ρ

/-- The reference runs, leaves its argument unchanged and has no semaphore. -/
theorem frame_ri : Cert.quiescent_TableReferenceIdeal := fun m ρ _ =>
  (θ_run Cert.TableReferenceIdeal.defs _ _).mono (fun r h => ⟨fun c => (h c).2,
      Idealize.ShloMosaic.sem_eq_zero_of_no_sems (by decide) r.2⟩) (Cert.TableReferenceIdeal.Value.run (F := Ideal) m ρ)

/-- The spread biases are, over the extended reals, those of the reference's lines. -/
theorem value : Cert.algebraic_TableKernelIdeal_TableReferenceIdeal := by
  pair_intro
  · run_from Cert.TableKernelIdeal.Gen.run_main m g
  · run_from Cert.TableReferenceIdeal.Value.run m' g'
    exact (Cert.TableKernelIdeal.Value.ref_out _).trans (Cert.TableKernelIdeal.Value.final_out m c).symm

end Cert.Proof.Table

end
-- ==== Proof.Ffn.lean ====
/- The hidden layer of a half-step SwiGLU, backward: the gradients by the two up-projections. -/
module

public import proofs.«01_k».proof.Defs
public import proofs.«01_k».proof.Proof.Gen.FfnKernel.Frame
public import proofs.«01_k».proof.Proof.Gen.FfnKernelIdeal.Value
public import proofs.«01_k».proof.Proof.Gen.FfnReferenceIdeal.Read
public import proofs.«01_k».proof.Proof.Gen.Pre_all_but_gate_finite
public import proofs.«01_k».proof.Proof.Softmax
public import proofs.«01_k».proof.Proof.Real
public import Idealize.ShloMosaic.Lib.Pointwise
public import Idealize.ShloMosaic.Lib.Pipeline.ValueKit

@[expose] public section

set_option maxRecDepth 16384

noncomputable section

namespace Cert.Proof.Ffn

open Idealize.ShloMosaic

theorem logistic_top : Ideal.logistic ⊤ = 1 := by
  unfold Ideal.logistic
  rw [EReal.neg_top, show Ideal.exp ⊥ = 0 from rfl, add_zero]
  simp [Ideal.div]

theorem logistic_bot : Ideal.logistic ⊥ = 0 := by
  unfold Ideal.logistic
  rw [EReal.neg_bot, show Ideal.exp ⊤ = ⊤ from rfl, show (1 : EReal) + ⊤ = ⊤ from rfl]
  simp [Ideal.div]

theorem logistic_real (x : ℝ) : ∃ s : ℝ, Ideal.logistic x = s := by
  have hz : (1 + Real.exp (-x)) ≠ 0 := by positivity
  refine ⟨(1 + Real.exp (-x))⁻¹, ?_⟩
  have e : (1 : EReal) + Ideal.exp (-(x : EReal)) = ((1 + Real.exp (-x) : ℝ) : EReal) := rfl
  unfold Ideal.logistic
  rw [e, Softmax.div_coe _ hz, one_mul]

/-- The derivative of `x * sigmoid x` by the product rule, against the kernel's factored form: with a real cotangent
    they agree at every `x`, the infinite ones included. -/
theorem swish (w x : EReal) (hw : w ≠ ⊤ ∧ w ≠ ⊥) :
    w * (Ideal.logistic x * (1 + x * (1 - Ideal.logistic x))) = w * Ideal.logistic x + x * w * (Ideal.logistic x * (1 - Ideal.logistic x)) := by
  lift w to ℝ using hw
  induction x with
  | bot => simp [logistic_bot]
  | top =>
    have h : (1 : EReal) - 1 = 0 := by rw [← EReal.coe_one, ← EReal.coe_sub, sub_self, EReal.coe_zero]
    simp [logistic_top, h]
  | coe x =>
    obtain ⟨s, hs⟩ := logistic_real x
    rw [hs]
    exact_mod_cast congrArg Real.toEReal (by ring)

end Cert.Proof.Ffn

namespace Cert.FfnKernelIdeal.Value

open Cert.FfnKernelIdeal Cert.FfnKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t / 2`, half `t % 2` of the rows. -/
theorem idx : ∀ t : Fin cfg0.N, win0_0.index t = ![t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

/-- The column group of a grid point. -/
def grp (t : Fin cfg0.N) : Fin 8 := ⟨t.val / 2, by have := t.isLt; have hN : cfg0.N = 16 := N_0; omega⟩

/-- The row that row `r` of a grid point's block holds. -/
def row (t : Fin cfg0.N) (r : Fin 1024) : Fin 2048 := ⟨t.val % 2 * 1024 + r.val, by omega⟩

/-- Column `f` of group `j`. -/
def col (j : Fin 8) (f : Fin 704) : Fin 5632 := ⟨j.val * 704 + f.val, by omega⟩

/-- The arguments of a device. -/
abbrev da (c : Dev nD) : FVec Ideal S2048x2048 .f32 := m ((c : Thread nD τ).loc main_arg0)
abbrev wa (c : Dev nD) : FVec Ideal S5632x2048 .f32 := m ((c : Thread nD τ).loc main_arg1)
abbrev ga (c : Dev nD) : FVec Ideal S2048x5632 .f32 := m ((c : Thread nD τ).loc main_arg2)
abbrev ua (c : Dev nD) : FVec Ideal S2048x5632 .f32 := m ((c : Thread nD τ).loc main_arg3)

theorem d_blk (c : Dev nD) (t : Fin cfg0.N) (r : Fin 1024) (k : Fin 2048) :
    iblk m c 0 t (ix2 r k) = da m c (ix2 (row t r) k) := by
  unfold row
  blk_point [iblk, V, idx t]

theorem w_blk (c : Dev nD) (t : Fin cfg0.N) (f : Fin 704) (k : Fin 2048) :
    iblk m c 1 t (ix3 0 f k) = wa m c (ix2 (col (grp t) f) k) := by
  unfold col grp
  blk_point [iblk, V, idx t]

theorem g_blk (c : Dev nD) (t : Fin cfg0.N) (r : Fin 1024) (f : Fin 704) :
    iblk m c 2 t (ix3 0 r f) = ga m c (ix2 (row t r) (col (grp t) f)) := by
  unfold row col grp
  blk_point [iblk, V, idx t]

theorem u_blk (c : Dev nD) (t : Fin cfg0.N) (r : Fin 1024) (f : Fin 704) :
    iblk m c 3 t (ix3 0 r f) = ua m c (ix2 (row t r) (col (grp t) f)) := by
  unfold row col grp
  blk_point [iblk, V, idx t]

theorem emb4 (t : Fin cfg0.N) (y : S1x1024x704.Idx) :
    ((View.whole main_v9_0).slice (win0_4.rect t)).emb y = ix3 (grp t) (row t (y 1)) (y 2) := by
  unfold grp row
  blk_ext [idx t]

theorem emb5 (t : Fin cfg0.N) (y : S1x1024x704.Idx) :
    ((View.whole main_v9_1).slice (win0_5.rect t)).emb y = ix3 (grp t) (row t (y 1)) (y 2) := by
  unfold grp row
  blk_ext [idx t]

/-- The gradient by the hidden layer: half the output's gradient against a row of the down-projection. -/
def hid (d : FVec Ideal S2048x2048 .f32) (w : FVec Ideal S5632x2048 .f32) (r : Fin 2048) (f : Fin 5632) : EReal :=
  Ideal.ofBits .f32 0x3F000000#32 * ∑ k, d (ix2 r k) * w (ix2 f k)

theorem hid_blk (c : Dev nD) (t : Fin cfg0.N) (r : Fin 1024) (f : Fin 704) :
    k0_pay1 (F := Ideal) (iblk m c 0 t) (iblk m c 1 t) (ix2 r f) = hid (da m c) (wa m c) (row t r) (col (grp t) f) := by
  pointwise [k0_pay1]
  simp only [d_blk, w_blk]
  rfl

/-- The gradient by the gate's pre-activation, as the kernel writes it, at row `r` and column `f`. -/
def dg (d : FVec Ideal S2048x2048 .f32) (w : FVec Ideal S5632x2048 .f32) (g u : FVec Ideal S2048x5632 .f32) (r : Fin 2048)
    (f : Fin 5632) : EReal :=
  hid d w r f * u (ix2 r f) * (Ideal.logistic (g (ix2 r f)) * (1 + g (ix2 r f) * (1 - Ideal.logistic (g (ix2 r f)))))

/-- The gradient by the other factor, at row `r` and column `f`. -/
def du (d : FVec Ideal S2048x2048 .f32) (w : FVec Ideal S5632x2048 .f32) (g : FVec Ideal S2048x5632 .f32) (r : Fin 2048)
    (f : Fin 5632) : EReal :=
  hid d w r f * (g (ix2 r f) * Ideal.logistic (g (ix2 r f)))

theorem eta3 (y : S1x1024x704.Idx) : y = ix3 0 (y 1) (y 2) := by
  funext i
  fin_cases i
  · exact Subsingleton.elim (α := Fin 1) _ _
  · rfl
  · rfl

theorem dg_blk (c : Dev nD) (t : Fin cfg0.N) (r : Fin 1024) (f : Fin 704) :
    k0_pay4 (F := Ideal) (iblk m c 0 t) (iblk m c 1 t) (iblk m c 2 t) (iblk m c 3 t) (ix3 0 r f)
      = dg (da m c) (wa m c) (ga m c) (ua m c) (row t r) (col (grp t) f) := by
  pointwise [k0_pay4, k0_pay3, k0_pay2]
  rw [hid_blk, g_blk, u_blk]
  rfl

theorem du_blk (c : Dev nD) (t : Fin cfg0.N) (r : Fin 1024) (f : Fin 704) :
    k0_pay5 (F := Ideal) (iblk m c 0 t) (iblk m c 1 t) (iblk m c 2 t) (ix3 0 r f)
      = du (da m c) (wa m c) (ga m c) (row t r) (col (grp t) f) := by
  pointwise [k0_pay5, k0_pay3, k0_pay2]
  rw [hid_blk, g_blk]
  rfl

theorem final_dg (c : Dev nD) : (dats m 0 c).arrAt 4 (cfgs 0).N
    = fun x => dg (da m c) (wa m c) (ga m c) (ua m c) (x 1) (col (x 0) (x 2)) := by
  refine (dats m 0 c).arrAt_eq_of_covers 4 _ (by decide +kernel) fun t _ y => ?_
  blk_simp
  rw [after0_4]; frame_out
  rw [emb4]
  exact (congrArg _ (eta3 y)).trans (dg_blk m c t (y 1) (y 2))

theorem final_du (c : Dev nD) : (dats m 0 c).arrAt 5 (cfgs 0).N
    = fun x => du (da m c) (wa m c) (ga m c) (x 1) (col (x 0) (x 2)) := by
  refine (dats m 0 c).arrAt_eq_of_covers 5 _ (by decide +kernel) fun t _ y => ?_
  blk_simp
  rw [after0_5]; frame_out
  rw [emb5]
  exact (congrArg _ (eta3 y)).trans (du_blk m c t (y 1) (y 2))

open Cert.FfnReferenceIdeal.Read in
theorem ref_hid (d : FVec Ideal S2048x2048 .f32) (w : FVec Ideal S5632x2048 .f32) (r : Fin 2048) (f : Fin 5632) :
    val_main_v7 (F := Ideal) d w (ix2 r f) = hid d w r f := by
  obtain ⟨a, ha, e⟩ := Cert.Proof.Softmax.half
  unfold hid
  rw [e, Cert.Proof.Softmax.mul_sum ha]
  pointwise [val_main_v7, val_main_v6, val_main_v5, val_main_cst_0]
  rw [e]
  exact Finset.sum_congr rfl fun k _ => mul_assoc _ _ _

open Cert.FfnReferenceIdeal.Read in
/-- The reference's gradient by the gate's pre-activation, where the cotangent, the weights and the other factor are real. -/
theorem ref_dg (d : FVec Ideal S2048x2048 .f32) (w : FVec Ideal S5632x2048 .f32) (g u : FVec Ideal S2048x5632 .f32)
    (hd : ∀ x, d x ≠ ⊤ ∧ d x ≠ ⊥) (hw : ∀ x, w x ≠ ⊤ ∧ w x ≠ ⊥) (hu : ∀ x, u x ≠ ⊤ ∧ u x ≠ ⊥) :
    val_main_v13 (F := Ideal) d w g u = fun x => dg d w g u (x 1) (col (x 0) (x 2)) := by
  funext x
  obtain ⟨j, r, f, rfl⟩ : ∃ (j : Fin 8) (r : Fin 2048) (f : Fin 704), x = ix3 j r f :=
    ⟨x 0, x 1, x 2, by funext i; fin_cases i <;> rfl⟩
  show _ = dg d w g u r (col j f)
  have e : val_main_v13 (F := Ideal) d w g u (ix3 j r f) = val_main_v10 (F := Ideal) d w g u (ix2 r (col j f)) := by
    unfold col
    pointwise [val_main_v13, val_main_v12, val_main_v11]
  have hv := Cert.Proof.Softmax.mul_real (x := hid d w r (col j f)) (Cert.Proof.Softmax.mul_real (by
    obtain ⟨a, _, e⟩ := Cert.Proof.Softmax.half
    rw [e]
    exact ⟨EReal.coe_ne_top _, EReal.coe_ne_bot _⟩) (Cert.Proof.Softmax.sum_real _ fun k => Cert.Proof.Softmax.mul_real (hd _) (hw _))) (hu (ix2 r (col j f)))
  rw [e]
  pointwise [val_main_v10, val_main_call1_v2, val_main_call1_v1, val_main_call1_v0, val_main_v9, val_main_v0_2, val_main_v0_1,
    val_main_call0_v7, val_main_call0_v6, val_main_call0_v4, val_main_call0_v3, val_main_call0_v2, val_main_call0_v1,
    val_main_call0_v0, val_main_call0_cst, val_main_call0_cst_0, val_main_call0_cst_1]
  rw [ref_hid]
  exact (Cert.Proof.Ffn.swish _ _ hv).symm

open Cert.FfnReferenceIdeal.Read in
/-- The reference's gradient by the other factor. -/
theorem ref_du (d : FVec Ideal S2048x2048 .f32) (w : FVec Ideal S5632x2048 .f32) (g : FVec Ideal S2048x5632 .f32) :
    val_main_v16 (F := Ideal) d w g = fun x => du d w g (x 1) (col (x 0) (x 2)) := by
  funext x
  obtain ⟨j, r, f, rfl⟩ : ∃ (j : Fin 8) (r : Fin 2048) (f : Fin 704), x = ix3 j r f :=
    ⟨x 0, x 1, x 2, by funext i; fin_cases i <;> rfl⟩
  show _ = du d w g r (col j f)
  have e : val_main_v16 (F := Ideal) d w g (ix3 j r f) = val_main_v8 (F := Ideal) d w g (ix2 r (col j f)) := by
    unfold col
    pointwise [val_main_v16, val_main_v15, val_main_v14]
  rw [e]
  pointwise [val_main_v8, val_main_v0_0, val_main_v0_2, val_main_call0_v4, val_main_call0_v3, val_main_call0_v2,
    val_main_call0_v1, val_main_call0_v0, val_main_call0_cst, val_main_call0_cst_0]
  rw [ref_hid]
  exact mul_comm _ _

end Cert.FfnKernelIdeal.Value

namespace Cert.Proof.Ffn

open Idealize.ShloMosaic Idealize.ShloMosaic.TcCoe Idealize.SL.Sem
open Cert.FfnKernelIdeal.Value (da wa ua)

/-- The precondition, read: the cotangent, the weights and the other factor are real. -/
theorem real_of_pre (m : (ℓ : Loc Cert.FfnKernelIdeal.nD Cert.FfnKernelIdeal.τ Cert.FfnKernelIdeal.sig) → Buf (Elt Ideal) ℓ)
    (h : Cert.Pre_FfnKernelIdeal_all_but_gate_finite m) (c : Dev Cert.FfnKernelIdeal.nD) :
    (∀ x, da m c x ≠ ⊤ ∧ da m c x ≠ ⊥) ∧ (∀ x, wa m c x ≠ ⊤ ∧ wa m c x ≠ ⊥) ∧ ∀ x, ua m c x ≠ ⊤ ∧ ua m c x ≠ ⊥ := by
  have e := fun x => congrFun (h c) x
  dsimp only [Cert.Pre_all_but_gate_finite.fn] at e
  refine ⟨fun x => ?_, fun x => ?_, fun x => ?_⟩
  · obtain ⟨r, k, rfl⟩ : ∃ (r : Fin 2048) (k : Fin 2048), x = ix2 r k := ⟨x 0, x 1, by funext i; fin_cases i <;> rfl⟩
    refine Real.real_of_lt (Eq.trans ?_ (e (ix2 ⟨r.val, by omega⟩ k)))
    pointwise []
  · obtain ⟨r, k, rfl⟩ : ∃ (r : Fin 5632) (k : Fin 2048), x = ix2 r k := ⟨x 0, x 1, by funext i; fin_cases i <;> rfl⟩
    refine Real.real_of_lt (Eq.trans ?_ (e (ix2 ⟨2048 + r.val, by omega⟩ k)))
    pointwise []
  · obtain ⟨k, r, rfl⟩ : ∃ (k : Fin 2048) (r : Fin 5632), x = ix2 k r := ⟨x 0, x 1, by funext i; fin_cases i <;> rfl⟩
    refine Real.real_of_lt (Eq.trans ?_ (e (ix2 ⟨7680 + r.val, by omega⟩ k)))
    pointwise []
    rw [dif_neg (by omega), dif_neg (by omega)]
    exact congrArg (fun z => BitVec.ofBool (decide (FloatOps.absf (ua m c (ix2 k z)) < Ideal.ofBits FTy.f32 2139095040#32)))
      (Fin.ext (by dsimp only; omega))

theorem frame_p : Cert.quiescent_FfnKernel := fun m ρ _ => Cert.FfnKernel.Gen.frame m ρ

theorem frame_pi : Cert.quiescent_FfnKernelIdeal := fun m ρ _ => Cert.FfnKernelIdeal.Gen.frame m ρ

theorem frame_ri : Cert.quiescent_FfnReferenceIdeal := fun m ρ _ =>
  (θ_run Cert.FfnReferenceIdeal.defs _ _).mono (fun r h => ⟨fun c => (h c).2.2,
      Idealize.ShloMosaic.sem_eq_zero_of_no_sems (by decide) r.2⟩) (Cert.FfnReferenceIdeal.Value.run (F := Ideal) m ρ)

/-- The two gradients of the hidden layer are those of `jax.vjp` of the reference's line. -/
theorem value : Cert.algebraic_FfnKernelIdeal_FfnReferenceIdeal_pre_all_but_gate_finite := by
  pair_intro
  · run_from Cert.FfnKernelIdeal.Gen.run_main m g
  · run_from Cert.FfnReferenceIdeal.Value.run m' g'
    · obtain ⟨hd, hw, hu⟩ := real_of_pre m hpre c
      exact (Cert.FfnKernelIdeal.Value.ref_dg _ _ _ _ hd hw hu).trans (Cert.FfnKernelIdeal.Value.final_dg m c).symm
    · exact (Cert.FfnKernelIdeal.Value.ref_du _ _ _).trans (Cert.FfnKernelIdeal.Value.final_du m c).symm

end Cert.Proof.Ffn

end
-- ==== Proof.Mix.lean ====
/- The gated mix of the two attention branches, backward: the gradients by the branches and by the gates. -/
module

public import proofs.«01_k».proof.Defs
public import proofs.«01_k».proof.Proof.Gen.MixKernel.Frame
public import proofs.«01_k».proof.Proof.Gen.MixKernelIdeal.Value
public import proofs.«01_k».proof.Proof.Gen.MixReferenceIdeal.Read
public import Idealize.ShloMosaic.Lib.Pointwise
public import Idealize.ShloMosaic.Lib.Pipeline.ValueKit

@[expose] public section

set_option maxRecDepth 16384

noncomputable section

namespace Cert.MixKernelIdeal.Value

open Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t / 2`, half `t % 2` of the rows. -/
theorem idx : ∀ t : Fin cfg0.N, win0_0.index t = ![t.val % 2, 0] ∧ win0_1.index t = ![t.val / 2, 0, 0]
    ∧ win0_2.index t = ![t.val % 2, t.val / 2] ∧ win0_3.index t = ![t.val % 2, t.val / 2]
    ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0]
    ∧ win0_8.index t = ![t.val % 2, t.val / 2] ∧ win0_9.index t = ![t.val % 2, t.val / 2] :=
  (by decide +kernel : ∀ t : Fin grid0.N, _)

/-- The column group of a grid point. -/
def grp (t : Fin cfg0.N) : Fin 8 := ⟨t.val / 2, by have := t.isLt; have hN : cfg0.N = 16 := N_0; omega⟩

/-- The row that row `r` of a grid point's block holds. -/
def row (t : Fin cfg0.N) (r : Fin 1024) : Fin 2048 := ⟨t.val % 2 * 1024 + r.val, by omega⟩

/-- Column `f` of group `j`. -/
def col (j : Fin 8) (f : Fin 256) : Fin 2048 := ⟨j.val * 256 + f.val, by omega⟩

/-- The arguments of a device: the gradient, the weights, the gates' pre-activations and the two branches. -/
abbrev da (c : Dev nD) : FVec Ideal S2048x2048 .f32 := m ((c : Thread nD τ).loc main_arg0)
abbrev wa (c : Dev nD) : FVec Ideal S2048x2048 .f32 := m ((c : Thread nD τ).loc main_arg1)
abbrev ga (c : Dev nD) : FVec Ideal S2048x2048 .f32 := m ((c : Thread nD τ).loc main_arg2)
abbrev gb (c : Dev nD) : FVec Ideal S2048x2048 .f32 := m ((c : Thread nD τ).loc main_arg3)
abbrev ya (c : Dev nD) : FVec Ideal S2048x2048 .f32 := m ((c : Thread nD τ).loc main_arg4)
abbrev yb (c : Dev nD) : FVec Ideal S2048x2048 .f32 := m ((c : Thread nD τ).loc main_arg5)

theorem d_blk (c : Dev nD) (t : Fin cfg0.N) (r : Fin 1024) (k : Fin 2048) :
    iblk m c 0 t (ix2 r k) = da m c (ix2 (row t r) k) := by
  unfold row
  blk_point [iblk, V, idx t]

theorem w_blk (c : Dev nD) (t : Fin cfg0.N) (f : Fin 256) (k : Fin 2048) :
    iblk m c 1 t (ix3 0 f k) = wa m c (ix2 (col (grp t) f) k) := by
  unfold col grp
  blk_point [iblk, V, idx t]

theorem ga_blk (c : Dev nD) (t : Fin cfg0.N) (r : Fin 1024) (f : Fin 256) :
    iblk m c 2 t (ix2 r f) = ga m c (ix2 (row t r) (col (grp t) f)) := by
  unfold row col grp
  blk_point [iblk, V, idx t]

theorem gb_blk (c : Dev nD) (t : Fin cfg0.N) (r : Fin 1024) (f : Fin 256) :
    iblk m c 3 t (ix2 r f) = gb m c (ix2 (row t r) (col (grp t) f)) := by
  unfold row col grp
  blk_point [iblk, V, idx t]

theorem ya_blk (c : Dev nD) (t : Fin cfg0.N) (r : Fin 1024) (f : Fin 256) :
    iblk m c 4 t (ix3 0 r f) = ya m c (ix2 (row t r) (col (grp t) f)) := by
  unfold row col grp
  blk_point [iblk, V, idx t]

theorem yb_blk (c : Dev nD) (t : Fin cfg0.N) (r : Fin 1024) (f : Fin 256) :
    iblk m c 5 t (ix3 0 r f) = yb m c (ix2 (row t r) (col (grp t) f)) := by
  unfold row col grp
  blk_point [iblk, V, idx t]

theorem emb6 (t : Fin cfg0.N) (y : S1x1024x256.Idx) :
    ((View.whole main_v9_0).slice (win0_6.rect t)).emb y = ix3 (grp t) (row t (y 1)) (y 2) := by
  unfold grp row
  blk_ext [idx t]

theorem emb7 (t : Fin cfg0.N) (y : S1x1024x256.Idx) :
    ((View.whole main_v9_1).slice (win0_7.rect t)).emb y = ix3 (grp t) (row t (y 1)) (y 2) := by
  unfold grp row
  blk_ext [idx t]

theorem emb8 (t : Fin cfg0.N) (y : S1024x256.Idx) :
    ((View.whole main_v9_2).slice (win0_8.rect t)).emb y = ix2 (row t (y 0)) (col (grp t) (y 1)) := by
  unfold grp row col
  blk_ext [idx t]

theorem emb9 (t : Fin cfg0.N) (y : S1024x256.Idx) :
    ((View.whole main_v9_3).slice (win0_9.rect t)).emb y = ix2 (row t (y 0)) (col (grp t) (y 1)) := by
  unfold grp row col
  blk_ext [idx t]

/-- The gradient by the mixed branches: the output's gradient against a row of the projection. -/
def dm (d w : FVec Ideal S2048x2048 .f32) (r f : Fin 2048) : EReal := ∑ k, d (ix2 r k) * w (ix2 f k)

theorem dm_blk (c : Dev nD) (t : Fin cfg0.N) (r : Fin 1024) (f : Fin 256) :
    k0_pay2 (F := Ideal) (iblk m c 0 t) (iblk m c 1 t) (ix2 r f) = dm (da m c) (wa m c) (row t r) (col (grp t) f) := by
  pointwise [k0_pay2]
  simp only [d_blk, w_blk]
  rfl

/-- The gradient by one branch: the mixed gradient through the branch's gate. -/
def dy (d w g : FVec Ideal S2048x2048 .f32) (r f : Fin 2048) : EReal := dm d w r f * Ideal.logistic (g (ix2 r f))

/-- The gradient by one gate's pre-activation, in the kernel's order of the factors. -/
def dg (d w g y : FVec Ideal S2048x2048 .f32) (r f : Fin 2048) : EReal :=
  dm d w r f * y (ix2 r f) * Ideal.logistic (g (ix2 r f)) * (1 - Ideal.logistic (g (ix2 r f)))

theorem eta3 (y : S1x1024x256.Idx) : y = ix3 0 (y 1) (y 2) := by
  funext i
  fin_cases i
  · exact Subsingleton.elim (α := Fin 1) _ _
  · rfl
  · rfl

theorem eta2 (y : S1024x256.Idx) : y = ix2 (y 0) (y 1) := by
  funext i
  fin_cases i <;> rfl

theorem dya_blk (c : Dev nD) (t : Fin cfg0.N) (r : Fin 1024) (f : Fin 256) :
    k0_pay5 (F := Ideal) (iblk m c 0 t) (iblk m c 1 t) (iblk m c 2 t) (ix3 0 r f)
      = dy (da m c) (wa m c) (ga m c) (row t r) (col (grp t) f) := by
  pointwise [k0_pay5, k0_pay3]
  rw [dm_blk, ga_blk]
  rfl

theorem dyb_blk (c : Dev nD) (t : Fin cfg0.N) (r : Fin 1024) (f : Fin 256) :
    k0_pay6 (F := Ideal) (iblk m c 0 t) (iblk m c 1 t) (iblk m c 3 t) (ix3 0 r f)
      = dy (da m c) (wa m c) (gb m c) (row t r) (col (grp t) f) := by
  pointwise [k0_pay6, k0_pay4]
  rw [dm_blk, gb_blk]
  rfl

theorem dga_blk (c : Dev nD) (t : Fin cfg0.N) (r : Fin 1024) (f : Fin 256) :
    k0_pay7 (F := Ideal) (iblk m c 0 t) (iblk m c 1 t) (iblk m c 2 t) (iblk m c 4 t) (ix2 r f)
      = dg (da m c) (wa m c) (ga m c) (ya m c) (row t r) (col (grp t) f) := by
  pointwise [k0_pay7, k0_pay3]
  rw [dm_blk, ga_blk, ya_blk]
  rfl

theorem dgb_blk (c : Dev nD) (t : Fin cfg0.N) (r : Fin 1024) (f : Fin 256) :
    k0_pay1 (F := Ideal) (k0_pay2 (iblk m c 0 t) (iblk m c 1 t)) (k0_pay4 (iblk m c 3 t)) (iblk m c 5 t) (ix2 r f)
      = dg (da m c) (wa m c) (gb m c) (yb m c) (row t r) (col (grp t) f) := by
  pointwise [k0_pay1, k0_pay4]
  rw [dm_blk, gb_blk, yb_blk]
  rfl

theorem final_dya (c : Dev nD) : (dats m 0 c).arrAt 6 (cfgs 0).N
    = fun x => dy (da m c) (wa m c) (ga m c) (x 1) (col (x 0) (x 2)) := by
  refine (dats m 0 c).arrAt_eq_of_covers 6 _ (by decide +kernel) fun t _ y => ?_
  blk_simp
  rw [after0_6]; frame_out
  rw [emb6]
  exact (congrArg _ (eta3 y)).trans (dya_blk m c t (y 1) (y 2))

theorem final_dyb (c : Dev nD) : (dats m 0 c).arrAt 7 (cfgs 0).N
    = fun x => dy (da m c) (wa m c) (gb m c) (x 1) (col (x 0) (x 2)) := by
  refine (dats m 0 c).arrAt_eq_of_covers 7 _ (by decide +kernel) fun t _ y => ?_
  blk_simp
  rw [after0_7]; frame_out
  rw [emb7]
  exact (congrArg _ (eta3 y)).trans (dyb_blk m c t (y 1) (y 2))

theorem final_dga (c : Dev nD) : (dats m 0 c).arrAt 8 (cfgs 0).N
    = fun x => dg (da m c) (wa m c) (ga m c) (ya m c) (x 0) (x 1) := by
  refine (dats m 0 c).arrAt_eq_of_covers 8 _ (by decide +kernel) fun t _ y => ?_
  blk_simp
  rw [after0_8]; frame_out
  rw [emb8]
  exact (congrArg _ (eta2 y)).trans (dga_blk m c t (y 0) (y 1))

theorem final_dgb (c : Dev nD) : (dats m 0 c).arrAt 9 (cfgs 0).N
    = fun x => dg (da m c) (wa m c) (gb m c) (yb m c) (x 0) (x 1) := by
  refine (dats m 0 c).arrAt_eq_of_covers 9 _ (by decide +kernel) fun t _ y => ?_
  blk_simp
  rw [after0_9]; frame_out
  rw [emb9]
  exact (congrArg _ (eta2 y)).trans (dgb_blk m c t (y 0) (y 1))

open Cert.MixReferenceIdeal.Read in
theorem ref_dm (d w : FVec Ideal S2048x2048 .f32) (r f : Fin 2048) :
    val_main_v22 (F := Ideal) d w (ix2 r f) = dm d w r f := by
  pointwise [val_main_v22]
  rfl

open Cert.MixReferenceIdeal.Read in
/-- The reference's gradient by the first branch, regrouped by column group. -/
theorem ref_dya (d w g : FVec Ideal S2048x2048 .f32) :
    val_main_v31 (F := Ideal) d w g = fun x => dy d w g (x 1) (col (x 0) (x 2)) := by
  funext x
  obtain ⟨j, r, f, rfl⟩ : ∃ (j : Fin 8) (r : Fin 2048) (f : Fin 256), x = ix3 j r f :=
    ⟨x 0, x 1, x 2, by funext i; fin_cases i <;> rfl⟩
  show _ = dy d w g r (col j f)
  have e : val_main_v31 (F := Ideal) d w g (ix3 j r f) = val_main_v26 (F := Ideal) d w g (ix2 r (col j f)) := by
    unfold col
    pointwise [val_main_v31, val_main_v30, val_main_v29]
  rw [e]
  pointwise [val_main_v26, val_main_v5, val_main_v4, val_main_v3, val_main_v2, val_main_v1, val_main_v0, val_main_cst, val_main_cst_0]
  rw [ref_dm]
  exact mul_comm _ _

open Cert.MixReferenceIdeal.Read in
/-- The reference's gradient by the second branch, regrouped by column group. -/
theorem ref_dyb (d w g : FVec Ideal S2048x2048 .f32) :
    val_main_v34 (F := Ideal) d w g = fun x => dy d w g (x 1) (col (x 0) (x 2)) := by
  funext x
  obtain ⟨j, r, f, rfl⟩ : ∃ (j : Fin 8) (r : Fin 2048) (f : Fin 256), x = ix3 j r f :=
    ⟨x 0, x 1, x 2, by funext i; fin_cases i <;> rfl⟩
  show _ = dy d w g r (col j f)
  have e : val_main_v34 (F := Ideal) d w g (ix3 j r f) = val_main_v23 (F := Ideal) d w g (ix2 r (col j f)) := by
    unfold col
    pointwise [val_main_v34, val_main_v33, val_main_v32]
  rw [e]
  pointwise [val_main_v23, val_main_v15, val_main_v14, val_main_v13, val_main_v12, val_main_v11, val_main_v10, val_main_cst_2,
    val_main_cst_3]
  rw [ref_dm]
  exact mul_comm _ _

open Cert.MixReferenceIdeal.Read in
/-- The reference's gradient by the first gate's pre-activation. -/
theorem ref_dga (d w g y : FVec Ideal S2048x2048 .f32) :
    val_main_v35 (F := Ideal) d w g y = fun x => dg d w g y (x 0) (x 1) := by
  funext x
  obtain ⟨r, f, rfl⟩ : ∃ (r : Fin 2048) (f : Fin 2048), x = ix2 r f := ⟨x 0, x 1, by funext i; fin_cases i <;> rfl⟩
  show _ = dg d w g y r f
  pointwise [val_main_v35, val_main_v28, val_main_v27, val_main_v8, val_main_v7, val_main_v6, val_main_v5, val_main_v4,
    val_main_v3, val_main_v2, val_main_v1, val_main_v0, val_main_cst, val_main_cst_0, val_main_cst_1]
  rw [ref_dm]
  exact (mul_assoc _ _ _).symm

open Cert.MixReferenceIdeal.Read in
/-- The reference's gradient by the second gate's pre-activation. -/
theorem ref_dgb (d w g y : FVec Ideal S2048x2048 .f32) :
    val_main_v36 (F := Ideal) d w g y = fun x => dg d w g y (x 0) (x 1) := by
  funext x
  obtain ⟨r, f, rfl⟩ : ∃ (r : Fin 2048) (f : Fin 2048), x = ix2 r f := ⟨x 0, x 1, by funext i; fin_cases i <;> rfl⟩
  show _ = dg d w g y r f
  pointwise [val_main_v36, val_main_v25, val_main_v24, val_main_v18, val_main_v17, val_main_v16, val_main_v15, val_main_v14,
    val_main_v13, val_main_v12, val_main_v11, val_main_v10, val_main_cst_2, val_main_cst_3, val_main_cst_4]
  rw [ref_dm]
  exact (mul_assoc _ _ _).symm

end Cert.MixKernelIdeal.Value

namespace Cert.Proof.Mix

open Idealize.ShloMosaic Idealize.ShloMosaic.TcCoe Idealize.SL.Sem
open Cert.MixKernelIdeal.Value

theorem frame_p : Cert.quiescent_MixKernel := fun m ρ _ => Cert.MixKernel.Gen.frame m ρ

theorem frame_pi : Cert.quiescent_MixKernelIdeal := fun m ρ _ => Cert.MixKernelIdeal.Gen.frame m ρ

theorem frame_ri : Cert.quiescent_MixReferenceIdeal := fun m ρ _ =>
  (θ_run Cert.MixReferenceIdeal.defs _ _).mono (fun r h => ⟨fun c => (h c).2.2.2.2,
      Idealize.ShloMosaic.sem_eq_zero_of_no_sems (by decide) r.2⟩) (Cert.MixReferenceIdeal.Value.run (F := Ideal) m ρ)

/-- The gradients of both branches and both gates are those of `jax.vjp` of the reference's line. -/
theorem value : Cert.algebraic_MixKernelIdeal_MixReferenceIdeal := by
  pair_intro
  · run_from Cert.MixKernelIdeal.Gen.run_main m g
  · run_from Cert.MixReferenceIdeal.Value.run m' g'
    · exact (ref_dya _ _ _).trans (final_dya m c).symm
    · exact (ref_dyb _ _ _).trans (final_dyb m c).symm
    · exact (ref_dga _ _ _ _).trans (final_dga m c).symm
    · exact (ref_dgb _ _ _ _).trans (final_dgb m c).symm

end Cert.Proof.Mix

end
-- ==== Proof.Rms.lean ====
/- The backward pass of the root-mean-square norm, as a fact about rows of extended reals. -/
module

public import proofs.«01_k».proof.Defs
public import proofs.«01_k».proof.Proof.Softmax
public import Idealize.ShloMosaic.Lib.Pointwise
public import Idealize.ShloMosaic.Lib.Pipeline.ValueKit

@[expose] public section

set_option maxRecDepth 16384

noncomputable section

namespace Cert.Proof.Rms

open Idealize.ShloMosaic

variable {ι : Type*} [Fintype ι]

/-- The word of 2048. -/
theorem n2048 : Ideal.ofBits .f32 0x45000000#32 = ((2048 : ℝ) : EReal) := by
  simp only [Ideal.ofBits, Ideal.ieee]
  simp
  rw [← EReal.coe_mul]
  norm_num

/-- The word of 512. -/
theorem n512 : Ideal.ofBits .f32 0x44000000#32 = ((512 : ℝ) : EReal) := by
  simp only [Ideal.ofBits, Ideal.ieee]
  simp
  rw [← EReal.coe_mul]
  norm_num

/-- The word added to the mean of the squares is a positive real. -/
theorem eps : ∃ a : ℝ, 0 < a ∧ Ideal.ofBits .f32 0x358637BD#32 = a := by
  refine ⟨(8796093 : ℝ) * 2 ^ (-43 : ℤ), by positivity, ?_⟩
  simp only [Ideal.ofBits, Ideal.ieee]
  simp

/-- The word of minus one half. -/
theorem mhalf : Ideal.ofBits .f32 0xBF000000#32 = ((-2⁻¹ : ℝ) : EReal) := by
  simp only [Ideal.ofBits, Ideal.ieee]
  simp
  rw [← EReal.coe_mul]
  norm_num

/-- The mean of a row's squares, with `ε` added. -/
def var (d ε : EReal) (x : ι → EReal) : EReal := Ideal.div (∑ k, x k * x k) d + ε

/-- The factor of the norm: one over the root of `var`. -/
def inv (d ε : EReal) (x : ι → EReal) : EReal := Ideal.rsqrt (var d ε x)

theorem sq_nonneg (x : EReal) : 0 ≤ x * x := by
  induction x with
  | bot => simp
  | top => simp
  | coe x => exact_mod_cast mul_self_nonneg x

/-- A sum of squares with an infinite term is infinite. -/
theorem sum_sq_top (x : ι → EReal) (j : ι) (hj : x j = ⊤ ∨ x j = ⊥) : ∑ k, x k * x k = ⊤ := by
  have h : x j * x j = ⊤ := by rcases hj with h | h <;> simp [h]
  exact top_le_iff.mp (h ▸ Finset.single_le_sum (f := fun k => x k * x k) (fun k _ => sq_nonneg (x k)) (Finset.mem_univ j))

/-- The extended real of a sum of reals. -/
theorem coe_sum (f : ι → ℝ) : ((∑ k, f k : ℝ) : EReal) = ∑ k, (f k : EReal) := by
  classical
  exact Finset.induction_on (motive := fun s : Finset ι => ((∑ k ∈ s, f k : ℝ) : EReal) = ∑ k ∈ s, (f k : EReal)) Finset.univ (by simp)
    fun a s h ih => by rw [Finset.sum_insert h, Finset.sum_insert h, EReal.coe_add, ih]

/-- A row is real, and then the factor is a positive real whose cube is the factor over `var`; or it is not, and both are
    zero. -/
theorem row {d ε : ℝ} (hd : 0 < d) (hε : 0 < ε) (x : ι → EReal) :
    ((∀ k, x k ≠ ⊤ ∧ x k ≠ ⊥) ∧ ∃ r : ℝ, 0 < r ∧ inv d ε x = r ∧ Ideal.div (inv d ε x) (var d ε x) = ((r * r * r : ℝ) : EReal))
      ∨ (inv d ε x = 0 ∧ Ideal.div (inv d ε x) (var d ε x) = 0) := by
  by_cases h : ∀ k, x k ≠ ⊤ ∧ x k ≠ ⊥
  · refine Or.inl ⟨h, ?_⟩
    lift x to ι → ℝ using h
    have e : var (d : EReal) ε (fun k => (x k : EReal)) = (((∑ k, x k * x k) * d⁻¹ + ε : ℝ) : EReal) := by
      unfold var
      rw [Softmax.div_coe _ hd.ne']
      rw [EReal.coe_add, EReal.coe_mul, coe_sum]
      rfl
    have hw : 0 < (∑ k, x k * x k) * d⁻¹ + ε :=
      add_pos_of_nonneg_of_pos (mul_nonneg (Finset.sum_nonneg fun k _ => mul_self_nonneg _) (inv_nonneg.mpr hd.le)) hε
    generalize (∑ k, x k * x k) * d⁻¹ + ε = w at e hw
    have hr : inv (d : EReal) ε (fun k => (x k : EReal)) = (((Real.sqrt w)⁻¹ : ℝ) : EReal) := by
      unfold inv
      rw [e]
      show (if w < 0 then (⊥ : EReal) else if w = 0 then ⊤ else (((Real.sqrt w)⁻¹ : ℝ) : EReal)) = _
      rw [if_neg hw.not_gt, if_neg hw.ne']
    refine ⟨(Real.sqrt w)⁻¹, inv_pos.mpr (Real.sqrt_pos.mpr hw), hr, ?_⟩
    rw [e, hr, Softmax.div_coe _ hw.ne', ← EReal.coe_mul]
    conv_lhs => rw [← Real.mul_self_sqrt hw.le, mul_inv]
    rw [Real.sqrt_mul_self (Real.sqrt_nonneg w), mul_assoc]
  · push Not at h
    obtain ⟨j, hj⟩ := h
    have hv : var (d : EReal) ε x = ⊤ := by
      unfold var
      rw [sum_sq_top x j (by by_cases e : x j = ⊤; exacts [.inl e, .inr (hj e)]), Softmax.div_coe _ hd.ne',
        EReal.top_mul_coe_of_pos (inv_pos.mpr hd)]
      exact EReal.top_add_coe ε
    have hi : inv (d : EReal) ε x = 0 := by
      unfold inv
      rw [hv]
      rfl
    refine Or.inr ⟨hi, ?_⟩
    rw [hi, hv]
    unfold Ideal.div
    rw [if_neg EReal.top_ne_zero, zero_mul]

/-- An extended real counted twice. -/
theorem twice (s : EReal) (a : ℝ) : s * ((2 * a : ℝ) : EReal) = s * (a : EReal) + s * (a : EReal) := by
  induction s with
  | coe s =>
    rw [← EReal.coe_mul, ← EReal.coe_mul, ← EReal.coe_add]
    exact congrArg Real.toEReal (by ring)
  | top =>
    rcases lt_trichotomy a 0 with h | h | h
    · rw [EReal.top_mul_coe_of_neg (by linarith), EReal.top_mul_coe_of_neg h]; rfl
    · subst h; simp
    · rw [EReal.top_mul_coe_of_pos (by linarith), EReal.top_mul_coe_of_pos h]; rfl
  | bot =>
    rcases lt_trichotomy a 0 with h | h | h
    · rw [EReal.bot_mul_coe_of_neg (by linarith), EReal.bot_mul_coe_of_neg h]; rfl
    · subst h; simp
    · rw [EReal.bot_mul_coe_of_pos (by linarith), EReal.bot_mul_coe_of_pos h]; rfl

/-- A nonnegative real distributes over a difference. -/
theorem mul_sub {r : ℝ} (hr : 0 ≤ r) (a b : EReal) : (r : EReal) * (a - b) = r * a + -(r * b) := by
  have h := Softmax.mul_sum hr Finset.univ (fun i : Fin 2 => if i = 0 then a else -b)
  simp only [Fin.sum_univ_two] at h
  simpa [sub_eq_add_neg, mul_neg] using h

/-- THE GRADIENT OF THE NORM BY ITS ROW `x`, of the cotangent `e` (already times the norm's weights): the kernel's factored
    form is the chain rule's sum of the direct term and twice the one through the mean of the squares, at every row, the
    infinite ones included. -/
theorem grad {d ε : ℝ} (hd : 0 < d) (hε : 0 < ε) (x e : ι → EReal) (k : ι) :
    inv d ε x * (e k - x k * inv d ε x * Ideal.div (∑ j, e j * (x j * inv d ε x)) d)
      = e k * inv d ε x
        + x k * Ideal.div ((∑ j, x j * e j) * (((-2⁻¹ : ℝ) : EReal) * Ideal.div (inv d ε x) (var d ε x))) d
        + Ideal.div ((∑ j, x j * e j) * (((-2⁻¹ : ℝ) : EReal) * Ideal.div (inv d ε x) (var d ε x))) d * x k := by
  rcases row hd hε x with ⟨hx, r, hr, h1, h2⟩ | ⟨h1, h2⟩
  · rw [h2, h1]
    have hs : ∑ j, e j * (x j * (r : EReal)) = (∑ j, x j * e j) * r := by
      rw [mul_comm (∑ j, x j * e j), Softmax.mul_sum hr.le]
      exact Finset.sum_congr rfl fun j _ => by ac_rfl
    rw [hs, mul_sub hr.le, add_assoc, mul_comm (r : EReal) (e k)]
    generalize ∑ j, x j * e j = s
    lift x k to ℝ using hx k with y
    rw [Softmax.div_coe _ hd.ne', Softmax.div_coe _ hd.ne', mul_comm _ (y : EReal)]
    have a1 : (y : EReal) * (s * (((-2⁻¹ : ℝ) : EReal) * ((r * r * r : ℝ) : EReal)) * ((d⁻¹ : ℝ) : EReal))
        = s * ((-(y * r * r * r * d⁻¹ / 2) : ℝ) : EReal) := by
      have e : ((-(y * r * r * r * d⁻¹ / 2) : ℝ) : EReal) = y * (((-2⁻¹ : ℝ) : EReal) * ((r * r * r : ℝ) : EReal)) * ((d⁻¹ : ℝ) : EReal) := by
        rw [← EReal.coe_mul, ← EReal.coe_mul, ← EReal.coe_mul]
        exact congrArg Real.toEReal (by ring)
      rw [e]
      ac_rfl
    have a2 : -((r : EReal) * ((y : EReal) * r * (s * r * ((d⁻¹ : ℝ) : EReal)))) = s * ((2 * (-(y * r * r * r * d⁻¹ / 2)) : ℝ) : EReal) := by
      have e : ((2 * (-(y * r * r * r * d⁻¹ / 2)) : ℝ) : EReal) = -(r * (y * r * (r * ((d⁻¹ : ℝ) : EReal)))) := by
        rw [← EReal.coe_mul, ← EReal.coe_mul, ← EReal.coe_mul, ← EReal.coe_mul, ← EReal.coe_neg]
        exact congrArg Real.toEReal (by ring)
      rw [e, mul_neg]
      exact congrArg Neg.neg (by ac_rfl)
    rw [a1, a2, twice]
  · rw [h2, h1]
    have hz : Ideal.div (0 : EReal) (d : EReal) = 0 := by rw [Softmax.div_coe _ hd.ne', zero_mul]
    simp [hz]

end Cert.Proof.Rms

end
-- ==== Proof.Loss.lean ====
/- The last norm, its loss and the loss's gradients by the rows and by the norm's weights. -/
module

public import proofs.«01_k».proof.Defs
public import proofs.«01_k».proof.Proof.Gen.LossKernel.Frame
public import proofs.«01_k».proof.Proof.Gen.LossKernelIdeal.Value
public import proofs.«01_k».proof.Proof.Gen.LossReferenceIdeal.Read
public import proofs.«01_k».proof.Proof.Rms
public import Idealize.ShloMosaic.Lib.Pointwise
public import Idealize.ShloMosaic.Lib.Pipeline.ValueKit

@[expose] public section

set_option maxRecDepth 16384

noncomputable section

namespace Cert.Proof.Loss

open Idealize.ShloMosaic

theorem two : Ideal.ofBits .f32 0x40000000#32 = ((2 : ℝ) : EReal) := by
  simp only [Ideal.ofBits, Ideal.ieee]
  simp
  rw [← EReal.coe_mul]
  norm_num

theorem half : Ideal.ofBits .f32 0x3F000000#32 = ((2⁻¹ : ℝ) : EReal) := by
  simp only [Ideal.ofBits, Ideal.ieee]
  simp
  rw [← EReal.coe_mul]
  norm_num

/-- The kernel's factor of the error is one over the width of a row. -/
theorem width : Ideal.ofBits .f32 0x3A000000#32 = ((2048⁻¹ : ℝ) : EReal) := by
  simp only [Ideal.ofBits, Ideal.ieee]
  simp
  rw [← EReal.coe_mul]
  norm_num

/-- The derivative of half the mean of the squares, by the chain rule, is the error over the width. -/
theorem chain (x : EReal) :
    Ideal.div (Ideal.ofBits .f32 0x3F000000#32) (Ideal.ofBits .f32 0x45000000#32)
      * (Ideal.ofBits .f32 0x40000000#32 * x) = x * Ideal.ofBits .f32 0x3A000000#32 := by
  rw [two, half, width, Rms.n2048, Softmax.div_coe _ (by norm_num), ← mul_assoc, ← EReal.coe_mul, ← EReal.coe_mul,
    mul_comm x]
  exact congrArg (fun a : ℝ => (a : EReal) * x) (by norm_num)

end Cert.Proof.Loss

namespace Cert.LossKernelIdeal.Value

open Cert.LossKernelIdeal Cert.LossKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is block `t` of the rows. -/
theorem idx : ∀ t : Fin cfg0.N, win0_0.index t = ![t.val, 0] ∧ win0_1.index t = ![t.val, 0]
    ∧ win0_2.index t = ![0, 0] ∧ win0_3.index t = ![t.val, 0]
    ∧ win0_4.index t = ![0, 0] ∧ win0_5.index t = ![0, 0] :=
  (by decide +kernel : ∀ t : Fin grid0.N, _)

/-- The row that row `r` of a grid point's block holds. -/
def row (t : Fin cfg0.N) (r : Fin 256) : Fin 2048 := ⟨t.val * 256 + r.val, by have := t.isLt; have hN : cfg0.N = 8 := N_0; omega⟩

/-- The arguments of a device: the rows, the targets and the weights. -/
abbrev va (c : Dev nD) : FVec Ideal S2048x2048 .f32 := m ((c : Thread nD τ).loc main_arg0)
abbrev ta (c : Dev nD) : FVec Ideal S2048x2048 .f32 := m ((c : Thread nD τ).loc main_arg1)
abbrev ga (c : Dev nD) : FVec Ideal S1x2048 .f32 := m ((c : Thread nD τ).loc main_arg2)

theorem v_blk (c : Dev nD) (t : Fin cfg0.N) (r : Fin 256) (k : Fin 2048) : iblk m c 0 t (ix2 r k) = va m c (ix2 (row t r) k) := by
  unfold row
  blk_point [iblk, V, idx t]

theorem t_blk (c : Dev nD) (t : Fin cfg0.N) (r : Fin 256) (k : Fin 2048) : iblk m c 1 t (ix2 r k) = ta m c (ix2 (row t r) k) := by
  unfold row
  blk_point [iblk, V, idx t]

theorem g_blk (c : Dev nD) (t : Fin cfg0.N) (k : Fin 2048) : iblk m c 2 t (ix2 0 k) = ga m c (ix2 0 k) := by
  blk_point [iblk, V, idx t]

theorem emb3 (t : Fin cfg0.N) (y : S256x2048.Idx) : ((View.whole main_v0_0).slice (win0_3.rect t)).emb y = ix2 (row t (y 0)) (y 1) := by
  unfold row
  blk_ext [idx t]

theorem emb4 (t : Fin cfg0.N) (y : S1x2048.Idx) : (win0_4.blk t).view.emb y = ix2 0 (y 1) := by
  blk_ext [idx t]

theorem emb5 (t : Fin cfg0.N) (y : S1x128.Idx) : (win0_5.blk t).view.emb y = ix2 0 (y 1) := by
  blk_ext [idx t]

/-- The mean's divisor and the word added to the mean. -/
abbrev D : EReal := Ideal.ofBits .f32 0x45000000#32
abbrev E : EReal := Ideal.ofBits .f32 0x358637BD#32

/-- The norm's factor of row `r`. -/
def rs (v : FVec Ideal S2048x2048 .f32) (r : Fin 2048) : EReal := Rms.inv D E fun k => v (ix2 r k)

/-- The error: the normed and weighted row against its target. -/
def err (v t : FVec Ideal S2048x2048 .f32) (g : FVec Ideal S1x2048 .f32) (r k : Fin 2048) : EReal :=
  v (ix2 r k) * rs v r * g (ix2 0 k) - t (ix2 r k)

theorem rs_blk (c : Dev nD) (t : Fin cfg0.N) (r : Fin 256) :
    k0_pay5 (F := Ideal) (iblk m c 0 t) (ix2 r 0) = rs (va m c) (row t r) := by
  pointwise [k0_pay5]
  simp only [v_blk]
  rfl

theorem xh_blk (c : Dev nD) (t : Fin cfg0.N) (r : Fin 256) (k : Fin 2048) :
    k0_pay6 (F := Ideal) (iblk m c 0 t) (ix2 r k) = va m c (ix2 (row t r) k) * rs (va m c) (row t r) := by
  pointwise [k0_pay6]
  rw [rs_blk, v_blk]

theorem err_blk (c : Dev nD) (t : Fin cfg0.N) (r : Fin 256) (k : Fin 2048) :
    k0_pay7 (F := Ideal) (iblk m c 0 t) (iblk m c 2 t) (iblk m c 1 t) (ix2 r k) = err (va m c) (ta m c) (ga m c) (row t r) k := by
  pointwise [k0_pay7]
  rw [xh_blk, g_blk, t_blk]
  rfl

/-- The loss's derivative by the normed and weighted row. -/
def ct (v t : FVec Ideal S2048x2048 .f32) (g : FVec Ideal S1x2048 .f32) (r k : Fin 2048) : EReal :=
  err v t g r k * Ideal.ofBits .f32 0x3A000000#32

theorem ct_blk (c : Dev nD) (t : Fin cfg0.N) (r : Fin 256) (k : Fin 2048) :
    k0_pay9 (F := Ideal) (iblk m c 0 t) (iblk m c 2 t) (iblk m c 1 t) (ix2 r k) = ct (va m c) (ta m c) (ga m c) (row t r) k := by
  pointwise [k0_pay9]
  rw [err_blk]
  rfl

/-- The gradient by row `r`, as the kernel writes it. -/
def dx (v t : FVec Ideal S2048x2048 .f32) (g : FVec Ideal S1x2048 .f32) (r k : Fin 2048) : EReal :=
  rs v r * (ct v t g r k * g (ix2 0 k) - v (ix2 r k) * rs v r
    * Ideal.div (∑ j, ct v t g r j * g (ix2 0 j) * (v (ix2 r j) * rs v r)) D)

theorem dx_blk (c : Dev nD) (t : Fin cfg0.N) (r : Fin 256) (k : Fin 2048) :
    k0_pay10 (F := Ideal) (iblk m c 0 t) (iblk m c 2 t) (iblk m c 1 t) (ix2 r k) = dx (va m c) (ta m c) (ga m c) (row t r) k := by
  pointwise [k0_pay10]
  simp only [xh_blk, rs_blk, ct_blk, g_blk]
  rfl

theorem eta2 (y : S256x2048.Idx) : y = ix2 (y 0) (y 1) := by
  funext i
  fin_cases i <;> rfl

theorem eta1 (y : S1x2048.Idx) : y = ix2 0 (y 1) := by
  funext i
  fin_cases i
  · exact Subsingleton.elim (α := Fin 1) _ _
  · rfl

theorem eta0 (y : S1x128.Idx) : y = ix2 0 (y 1) := by
  funext i
  fin_cases i
  · exact Subsingleton.elim (α := Fin 1) _ _
  · rfl

theorem final_dx (c : Dev nD) : (dats m 0 c).arrAt 3 (cfgs 0).N = fun x => dx (va m c) (ta m c) (ga m c) (x 0) (x 1) := by
  refine (dats m 0 c).arrAt_eq_of_covers 3 _ (by decide +kernel) fun t _ y => ?_
  blk_simp
  rw [after0_3, emb3]
  have ht : t.val < 8 := lt_of_lt_of_eq t.isLt N_0
  by_cases h : t.val % 8 = 0
  · rw [outsAt0_A m c t h (by omega) h (by omega)]
    frame_out
    exact (congrArg _ (eta2 y)).trans (dx_blk m c t (y 0) (y 1))
  · rw [outsAt0_B m c t h (by omega) h (by omega)]
    frame_out
    exact (congrArg _ (eta2 y)).trans (dx_blk m c t (y 0) (y 1))

/-- One grid point's part of the gradient by the weights. -/
def dgPart (c : Dev nD) (t : Fin cfg0.N) (y : S1x2048.Idx) : EReal :=
  ∑ r, ct (va m c) (ta m c) (ga m c) (row t r) (y 1) * (va m c (ix2 (row t r) (y 1)) * rs (va m c) (row t r))

theorem dg_first (c : Dev nD) (t : Fin cfg0.N) (k : Fin 2048) :
    k0_pay1 (F := Ideal) (k0_pay6 (iblk m c 0 t)) (k0_pay9 (iblk m c 0 t) (iblk m c 2 t) (iblk m c 1 t)) (ix2 0 k)
      = dgPart m c t (ix2 0 k) := by
  pointwise [k0_pay1]
  simp only [xh_blk, ct_blk]
  rfl

theorem dg_next (c : Dev nD) (t : Fin cfg0.N) (acc : FVec Ideal S1x2048 .f32) (k : Fin 2048) :
    k0_pay2 (F := Ideal) (k0_pay6 (iblk m c 0 t)) (k0_pay9 (iblk m c 0 t) (iblk m c 2 t) (iblk m c 1 t)) acc (ix2 0 k)
      = acc (ix2 0 k) + dgPart m c t (ix2 0 k) := by
  pointwise [k0_pay2]
  rw [dg_first]

theorem row_run (t : Fin cfg0.N) (ht : t.val % 8 = 7) (s : Fin 8) (r : Fin 256) (hl) {h} :
    row ⟨8 * (t.val / 8) + s.val, h⟩ r = ⟨s.val * 256 + r.val, hl⟩ :=
  Fin.ext (by unfold row; dsimp only; have := t.isLt; have hN : cfg0.N = 8 := N_0; omega)

theorem final_dg (c : Dev nD) : (dats m 0 c).arrAt 4 (cfgs 0).N
    = fun x => ∑ r, ct (va m c) (ta m c) (ga m c) r (x 1) * (va m c (ix2 r (x 1)) * rs (va m c) r) := by
  refine (dats m 0 c).arrAt_eq_of_covers 4 _ (by decide +kernel) fun t hf y => ?_
  blk_simp
  rw [after0_4]
  refine (Pipeline.eq_sum_fin_of_reset_step_apply_of_flush (fun n h => (outsAt0 m c n h).2.1) 8 (fun _ => 0) (dgPart m c)
    (fun t h j => ?_) (fun t h j => ?_) t ((flush0_4 t).mp hf) _).trans ?_
  · have ht : t.val < 8 := lt_of_lt_of_eq t.isLt N_0
    rw [outsAt0_A m c t h (by omega) h (by omega)]
    frame_out
    rw [eta1 j]
    exact (dg_first m c t (j 1)).trans (zero_add _).symm
  · rw [outsAt0_B m c t h (by omega) h (by omega)]
    frame_out
    rw [eta1 j]
    exact dg_next m c t _ (j 1)
  · rw [zero_add, emb4]
    have ht : t.val % 8 = 7 := (flush0_4 t).mp hf
    refine Fin.sum_mul_add_congr (S := 8) (n := 256) fun s r hl => ?_
    rw [row_run t ht s r hl]
    rfl

/-- One row's part of the loss. -/
def lossRow (v t : FVec Ideal S2048x2048 .f32) (g : FVec Ideal S1x2048 .f32) (r : Fin 2048) : EReal :=
  Ideal.ofBits .f32 0x3F000000#32 * Ideal.div (∑ k, err v t g r k * err v t g r k) D

theorem loss_blk (c : Dev nD) (t : Fin cfg0.N) :
    k0_pay8 (F := Ideal) (iblk m c 0 t) (iblk m c 2 t) (iblk m c 1 t) (ix2 0 0)
      = ∑ r, lossRow (va m c) (ta m c) (ga m c) (row t r) := by
  pointwise [k0_pay8]
  simp only [err_blk]
  unfold lossRow
  rw [Loss.half]
  exact Softmax.mul_sum (by norm_num) _ _

theorem loss_first (c : Dev nD) (t : Fin cfg0.N) (k : Fin 128) :
    k0_pay3 (F := Ideal) (k0_pay8 (iblk m c 0 t) (iblk m c 2 t) (iblk m c 1 t)) (ix2 0 k)
      = ∑ r, lossRow (va m c) (ta m c) (ga m c) (row t r) := by
  pointwise [k0_pay3]
  exact loss_blk m c t

theorem loss_next (c : Dev nD) (t : Fin cfg0.N) (acc : FVec Ideal S1x128 .f32) (k : Fin 128) :
    k0_pay4 (F := Ideal) (k0_pay8 (iblk m c 0 t) (iblk m c 2 t) (iblk m c 1 t)) acc (ix2 0 k)
      = acc (ix2 0 k) + ∑ r, lossRow (va m c) (ta m c) (ga m c) (row t r) := by
  pointwise [k0_pay4]
  rw [loss_first]

theorem final_loss (c : Dev nD) : (dats m 0 c).arrAt 5 (cfgs 0).N = fun _ => ∑ r, lossRow (va m c) (ta m c) (ga m c) r := by
  refine (dats m 0 c).arrAt_eq_of_covers 5 _ (by decide +kernel) fun t hf y => ?_
  blk_simp
  rw [after0_5]
  refine (Pipeline.eq_sum_fin_of_reset_step_apply_of_flush (fun n h => (outsAt0 m c n h).2.2) 8 (fun _ => 0)
    (fun t _ => ∑ r, lossRow (va m c) (ta m c) (ga m c) (row t r)) (fun t h j => ?_) (fun t h j => ?_) t ((flush0_5 t).mp hf) _).trans ?_
  · have ht : t.val < 8 := lt_of_lt_of_eq t.isLt N_0
    rw [outsAt0_A m c t h (by omega) h (by omega)]
    frame_out
    rw [eta0 j]
    exact (loss_first m c t (j 1)).trans (zero_add _).symm
  · rw [outsAt0_B m c t h (by omega) h (by omega)]
    frame_out
    rw [eta0 j]
    exact loss_next m c t _ (j 1)
  · rw [zero_add]
    have ht : t.val % 8 = 7 := (flush0_5 t).mp hf
    refine Fin.sum_mul_add_congr (S := 8) (n := 256) fun s r hl => ?_
    rw [row_run t ht s r hl]

section Reference

open Cert.LossReferenceIdeal.Read

variable (v t : FVec Ideal S2048x2048 .f32) (g : FVec Ideal S1x2048 .f32)

theorem ref_rs (r : Fin 2048) : val_main_v8 (F := Ideal) v (ix2 r 0) = rs v r := by
  pointwise [val_main_v8, val_main_v7, val_main_v6, val_main_v5, val_main_v4, val_main_v3, val_main_v2, val_main_v1, val_main_cst,
    val_main_cst_0, val_main_cst_1]
  rfl

theorem ref_cube (r : Fin 2048) : val_main_v9 (F := Ideal) v (ix2 r 0) = Ideal.div (rs v r) (Rms.var D E fun k => v (ix2 r k)) := by
  pointwise [val_main_v9]
  rw [ref_rs]
  pointwise [val_main_v7, val_main_v6, val_main_v5, val_main_v4, val_main_v3, val_main_v2, val_main_v1, val_main_cst,
    val_main_cst_0, val_main_cst_1]
  rfl

theorem ref_err (r k : Fin 2048) : val_main_v17 (F := Ideal) v t g (ix2 r k) = err v t g r k := by
  pointwise [val_main_v17, val_main_v16, val_main_v15, val_main_v14, val_main_v13, val_main_v12, val_main_v0]
  rw [ref_rs]
  rfl

theorem ref_ct (r k : Fin 2048) : val_main_v31 (F := Ideal) v t g (ix2 r k) = ct v t g r k := by
  pointwise [val_main_v31, val_main_v30, val_main_v29, val_main_v28, val_main_v27, val_main_v26, val_main_v20, val_main_v19,
    val_main_cst_3, val_main_cst_8, val_main_cst_9, val_main_cst_10]
  rw [ref_err]
  exact Loss.chain _

theorem ref_cot (r k : Fin 2048) : val_main_v36 (F := Ideal) v t g (ix2 r k) = ct v t g r k * g (ix2 0 k) := by
  pointwise [val_main_v36, val_main_v35, val_main_v14, val_main_v0]
  rw [ref_ct]

/-- The reference's factor of the term through the mean of the squares. -/
theorem ref_mean (r k : Fin 2048) :
    val_main_v47 (F := Ideal) v t g (ix2 r k)
      = Ideal.div ((∑ j, v (ix2 r j) * (ct v t g r j * g (ix2 0 j)))
          * (Ideal.ofBits .f32 0xBF000000#32 * Ideal.div (rs v r) (Rms.var D E fun k => v (ix2 r k)))) D := by
  pointwise [val_main_v47, val_main_v46, val_main_v45, val_main_v44, val_main_cst_14, val_main_cst_15, val_main_v43, val_main_v11,
    val_main_v10, val_main_cst_2, val_main_v40, val_main_v39, val_main_v38, val_main_cst_13]
  simp only [ref_cot]
  rw [Fin.sum_univ_one]
  simp only [ref_cube]

/-- The reference's gradient by the rows. -/
theorem ref_dx : val_main_v51 (F := Ideal) v t g = fun x => dx v t g (x 0) (x 1) := by
  funext x
  obtain ⟨r, k, rfl⟩ : ∃ (r : Fin 2048) (k : Fin 2048), x = ix2 r k := ⟨x 0, x 1, by funext i; fin_cases i <;> rfl⟩
  show _ = dx v t g r k
  pointwise [val_main_v51, val_main_v50, val_main_v49, val_main_v48, val_main_v42, val_main_v41]
  rw [ref_mean, ref_cot, ref_rs]
  unfold dx rs D
  obtain ⟨a, ha, e⟩ := Rms.eps
  rw [Rms.mhalf, Rms.n2048, show E = (a : EReal) from e]
  exact (Rms.grad (by norm_num) ha (fun k => v (ix2 r k)) (fun k => ct v t g r k * g (ix2 0 k)) k).symm

theorem ref_dg : val_main_v52 (F := Ideal) v t g = fun x => ∑ r, ct v t g r (x 1) * (v (ix2 r (x 1)) * rs v r) := by
  funext x
  obtain ⟨k, rfl⟩ : ∃ k : Fin 2048, x = ix2 0 k := ⟨x 1, eta1 x⟩
  show _ = ∑ r, ct v t g r k * (v (ix2 r k) * rs v r)
  pointwise [val_main_v52, val_main_v37, val_main_v34, val_main_v33, val_main_v32, val_main_v13, val_main_v12, val_main_cst_11,
    val_main_cst_12]
  rw [Fin.sum_univ_one]
  simp only [ref_rs, ref_ct]
  exact Finset.sum_congr rfl fun r _ => mul_comm _ _

theorem ref_loss : val_main_v53 (F := Ideal) v t g = fun _ => ∑ r, lossRow v t g r := by
  funext x
  obtain ⟨k, rfl⟩ : ∃ k : Fin 128, x = ix2 0 k := ⟨x 1, eta0 x⟩
  pointwise [val_main_v53, val_main_v25, val_main_v24, val_main_v23, val_main_v22, val_main_v21, val_main_v18, val_main_cst_4,
    val_main_cst_5, val_main_cst_6, val_main_cst_7]
  simp only [ref_err]
  unfold lossRow
  rw [Loss.half]
  exact Softmax.mul_sum (by norm_num) _ _

end Reference

end Cert.LossKernelIdeal.Value

namespace Cert.Proof.Loss

open Idealize.ShloMosaic Idealize.ShloMosaic.TcCoe Idealize.SL.Sem
open Cert.LossKernelIdeal.Value

theorem frame_p : Cert.quiescent_LossKernel := fun m ρ _ => Cert.LossKernel.Gen.frame m ρ

theorem frame_pi : Cert.quiescent_LossKernelIdeal := fun m ρ _ => Cert.LossKernelIdeal.Gen.frame m ρ

theorem frame_ri : Cert.quiescent_LossReferenceIdeal := fun m ρ _ =>
  (θ_run Cert.LossReferenceIdeal.defs _ _).mono (fun r h => ⟨fun c => (h c).2.2.2,
      Idealize.ShloMosaic.sem_eq_zero_of_no_sems (by decide) r.2⟩) (Cert.LossReferenceIdeal.Value.run (F := Ideal) m ρ)

/-- The gradients by the rows and by the weights are those of `jax.vjp` of the loss, and the loss is the loss. -/
theorem value : Cert.algebraic_LossKernelIdeal_LossReferenceIdeal := by
  pair_intro
  · run_from Cert.LossKernelIdeal.Gen.run_main m g
  · run_from Cert.LossReferenceIdeal.Value.run m' g'
    · obtain ⟨h0, h1, h2⟩ := hagree c
      rw [Cert.LossReferenceIdeal.Read.val_main_v51_eq, h0, h1, h2]
      exact (ref_dx _ _ _).trans (final_dx m c).symm
    · exact (ref_dg _ _ _).trans (final_dg m c).symm
    · exact (ref_loss _ _ _).trans (final_loss m c).symm

end Cert.Proof.Loss

end
-- ==== Proof.Norm.lean ====
/- The backward pass of the root-mean-square norm: the rows' gradient, its rounded copy and the weights' gradient. -/
module

public import proofs.«01_k».proof.Defs
public import proofs.«01_k».proof.Proof.Gen.NormKernel.Frame
public import proofs.«01_k».proof.Proof.Gen.NormKernelIdeal.Value
public import proofs.«01_k».proof.Proof.Gen.NormReferenceIdeal.Read
public import proofs.«01_k».proof.Proof.Rms
public import Idealize.ShloMosaic.Lib.Pointwise
public import Idealize.ShloMosaic.Lib.Pipeline.ValueKit

@[expose] public section

set_option maxRecDepth 16384

noncomputable section

namespace Cert.NormKernelIdeal.Value

open Cert.NormKernelIdeal Cert.NormKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is block `t` of the rows. -/
theorem idx : ∀ t : Fin cfg0.N, win0_0.index t = ![t.val, 0] ∧ win0_1.index t = ![t.val, 0]
    ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

/-- The row that row `r` of a grid point's block holds. -/
def row (t : Fin cfg0.N) (r : Fin 256) : Fin 2048 := ⟨t.val * 256 + r.val, by have := t.isLt; have hN : cfg0.N = 8 := N_0; omega⟩

/-- The arguments of a device: the cotangent, the rows, the weights and the gradient passed on. -/
abbrev na (c : Dev nD) : FVec Ideal S2048x2048 .f32 := m ((c : Thread nD τ).loc main_arg0)
abbrev va (c : Dev nD) : FVec Ideal S2048x2048 .f32 := m ((c : Thread nD τ).loc main_arg1)
abbrev ga (c : Dev nD) : FVec Ideal S1x2048 .f32 := m ((c : Thread nD τ).loc main_arg2)
abbrev ra (c : Dev nD) : FVec Ideal S2048x2048 .f32 := m ((c : Thread nD τ).loc main_arg3)

theorem n_blk (c : Dev nD) (t : Fin cfg0.N) (r : Fin 256) (k : Fin 2048) : iblk m c 0 t (ix2 r k) = na m c (ix2 (row t r) k) := by
  unfold row
  blk_point [iblk, V, idx t]

theorem v_blk (c : Dev nD) (t : Fin cfg0.N) (r : Fin 256) (k : Fin 2048) : iblk m c 1 t (ix2 r k) = va m c (ix2 (row t r) k) := by
  unfold row
  blk_point [iblk, V, idx t]

theorem g_blk (c : Dev nD) (t : Fin cfg0.N) (k : Fin 2048) : iblk m c 2 t (ix2 0 k) = ga m c (ix2 0 k) := by
  blk_point [iblk, V, idx t]

theorem r_blk (c : Dev nD) (t : Fin cfg0.N) (r : Fin 256) (k : Fin 2048) : iblk m c 3 t (ix2 r k) = ra m c (ix2 (row t r) k) := by
  unfold row
  blk_point [iblk, V, idx t]

theorem emb4 (t : Fin cfg0.N) (y : S256x2048.Idx) : ((View.whole main_v0_0).slice (win0_4.rect t)).emb y = ix2 (row t (y 0)) (y 1) := by
  unfold row
  blk_ext [idx t]

theorem emb5 (t : Fin cfg0.N) (y : S256x2048.Idx) : ((View.whole main_v0_1).slice (win0_5.rect t)).emb y = ix2 (row t (y 0)) (y 1) := by
  unfold row
  blk_ext [idx t]

theorem emb6 (t : Fin cfg0.N) (y : S1x2048.Idx) : (win0_6.blk t).view.emb y = ix2 0 (y 1) := by
  blk_ext [idx t]

/-- The mean's divisor and the word added to the mean. -/
abbrev D : EReal := Ideal.ofBits .f32 0x45000000#32
abbrev E : EReal := Ideal.ofBits .f32 0x358637BD#32

/-- The norm's factor of row `r`. -/
def rs (v : FVec Ideal S2048x2048 .f32) (r : Fin 2048) : EReal := Rms.inv D E fun k => v (ix2 r k)

theorem rs_blk (c : Dev nD) (t : Fin cfg0.N) (r : Fin 256) :
    k0_pay2 (F := Ideal) (iblk m c 1 t) (ix2 r 0) = rs (va m c) (row t r) := by
  pointwise [k0_pay2]
  simp only [v_blk]
  rfl

theorem xh_blk (c : Dev nD) (t : Fin cfg0.N) (r : Fin 256) (k : Fin 2048) :
    k0_pay3 (F := Ideal) (iblk m c 1 t) (ix2 r k) = va m c (ix2 (row t r) k) * rs (va m c) (row t r) := by
  pointwise [k0_pay3]
  rw [rs_blk, v_blk]

/-- The gradient by row `r`, with the one passed on, as the kernel writes it. -/
def dx (n v : FVec Ideal S2048x2048 .f32) (g : FVec Ideal S1x2048 .f32) (r k : Fin 2048) : EReal :=
  rs v r * (n (ix2 r k) * g (ix2 0 k) - v (ix2 r k) * rs v r
    * Ideal.div (∑ j, n (ix2 r j) * g (ix2 0 j) * (v (ix2 r j) * rs v r)) D)

theorem tot_blk (c : Dev nD) (t : Fin cfg0.N) (r : Fin 256) (k : Fin 2048) :
    k0_pay5 (F := Ideal) (iblk m c 0 t) (iblk m c 1 t) (iblk m c 2 t) (iblk m c 3 t) (ix2 r k)
      = ra m c (ix2 (row t r) k) + dx (na m c) (va m c) (ga m c) (row t r) k := by
  pointwise [k0_pay5]
  simp only [xh_blk, rs_blk, n_blk, g_blk, r_blk]
  rfl

theorem eta2 (y : S256x2048.Idx) : y = ix2 (y 0) (y 1) := by
  funext i
  fin_cases i <;> rfl

theorem eta1 (y : S1x2048.Idx) : y = ix2 0 (y 1) := by
  funext i
  fin_cases i
  · exact Subsingleton.elim (α := Fin 1) _ _
  · rfl

theorem final_tot (c : Dev nD) : (dats m 0 c).arrAt 4 (cfgs 0).N
    = fun x => ra m c (ix2 (x 0) (x 1)) + dx (na m c) (va m c) (ga m c) (x 0) (x 1) := by
  refine (dats m 0 c).arrAt_eq_of_covers 4 _ (by decide +kernel) fun t _ y => ?_
  blk_simp
  rw [after0_4, emb4]
  by_cases h : t.val % 8 = 0
  · rw [outsAt0_A m c t h (by have ht : t.val < 8 := lt_of_lt_of_eq t.isLt N_0; omega)]
    frame_out
    exact (congrArg _ (eta2 y)).trans (tot_blk m c t (y 0) (y 1))
  · rw [outsAt0_B m c t h (by omega)]
    frame_out
    exact (congrArg _ (eta2 y)).trans (tot_blk m c t (y 0) (y 1))

theorem final_cast (c : Dev nD) : (dats m 0 c).arrAt 5 (cfgs 0).N
    = fun x => ra m c (ix2 (x 0) (x 1)) + dx (na m c) (va m c) (ga m c) (x 0) (x 1) := by
  refine (dats m 0 c).arrAt_eq_of_covers 5 _ (by decide +kernel) fun t _ y => ?_
  blk_simp
  rw [after0_5, emb5]
  by_cases h : t.val % 8 = 0
  · rw [outsAt0_A m c t h (by have ht : t.val < 8 := lt_of_lt_of_eq t.isLt N_0; omega)]
    frame_out
    exact (congrArg _ (eta2 y)).trans (tot_blk m c t (y 0) (y 1))
  · rw [outsAt0_B m c t h (by omega)]
    frame_out
    exact (congrArg _ (eta2 y)).trans (tot_blk m c t (y 0) (y 1))

/-- One grid point's part of the gradient by the weights. -/
def dgPart (c : Dev nD) (t : Fin cfg0.N) (y : S1x2048.Idx) : EReal :=
  ∑ r, na m c (ix2 (row t r) (y 1)) * (va m c (ix2 (row t r) (y 1)) * rs (va m c) (row t r))

theorem dg_first (c : Dev nD) (t : Fin cfg0.N) (k : Fin 2048) :
    k0_pay4 (F := Ideal) (iblk m c 0 t) (iblk m c 1 t) (ix2 0 k) = dgPart m c t (ix2 0 k) := by
  pointwise [k0_pay4]
  simp only [xh_blk, n_blk]
  rfl

theorem dg_next (c : Dev nD) (t : Fin cfg0.N) (acc : FVec Ideal S1x2048 .f32) (k : Fin 2048) :
    k0_pay1 (F := Ideal) (k0_pay4 (iblk m c 0 t) (iblk m c 1 t)) acc (ix2 0 k) = acc (ix2 0 k) + dgPart m c t (ix2 0 k) := by
  pointwise [k0_pay1]
  rw [dg_first]

theorem row_run (t : Fin cfg0.N) (ht : t.val % 8 = 7) (s : Fin 8) (r : Fin 256) (hl) {h} :
    row ⟨8 * (t.val / 8) + s.val, h⟩ r = ⟨s.val * 256 + r.val, hl⟩ :=
  Fin.ext (by unfold row; dsimp only; have := t.isLt; have hN : cfg0.N = 8 := N_0; omega)

theorem final_dg (c : Dev nD) : (dats m 0 c).arrAt 6 (cfgs 0).N
    = fun x => ∑ r, na m c (ix2 r (x 1)) * (va m c (ix2 r (x 1)) * rs (va m c) r) := by
  refine (dats m 0 c).arrAt_eq_of_covers 6 _ (by decide +kernel) fun t hf y => ?_
  blk_simp
  rw [after0_6]
  refine (Pipeline.eq_sum_fin_of_reset_step_apply_of_flush (fun n h => (outsAt0 m c n h).2.2) 8 (fun _ => 0) (dgPart m c)
    (fun t h j => ?_) (fun t h j => ?_) t ((flush0_6 t).mp hf) _).trans ?_
  · rw [outsAt0_A m c t h (by have ht : t.val < 8 := lt_of_lt_of_eq t.isLt N_0; omega)]
    frame_out
    rw [eta1 j]
    exact (dg_first m c t (j 1)).trans (zero_add _).symm
  · rw [outsAt0_B m c t h (by omega)]
    frame_out
    rw [eta1 j]
    exact dg_next m c t _ (j 1)
  · rw [zero_add, emb6]
    have ht : t.val % 8 = 7 := (flush0_6 t).mp hf
    refine Fin.sum_mul_add_congr (S := 8) (n := 256) fun s r hl => ?_
    rw [row_run t ht s r hl]
    rfl

open Cert.NormReferenceIdeal.Read in
theorem ref_rs (v : FVec Ideal S2048x2048 .f32) (r : Fin 2048) : val_main_v8 (F := Ideal) v (ix2 r 0) = rs v r := by
  pointwise [val_main_v8, val_main_v7, val_main_v6, val_main_v5, val_main_v4, val_main_v3, val_main_v2, val_main_v1, val_main_cst,
    val_main_cst_0, val_main_cst_1]
  rfl

open Cert.NormReferenceIdeal.Read in
theorem ref_cube (v : FVec Ideal S2048x2048 .f32) (r : Fin 2048) :
    val_main_v9 (F := Ideal) v (ix2 r 0) = Ideal.div (rs v r) (Rms.var D E fun k => v (ix2 r k)) := by
  pointwise [val_main_v9]
  rw [ref_rs]
  pointwise [val_main_v7, val_main_v6, val_main_v5, val_main_v4, val_main_v3, val_main_v2, val_main_v1, val_main_cst,
    val_main_cst_0, val_main_cst_1]
  rfl

open Cert.NormReferenceIdeal.Read in
theorem ref_cot (n : FVec Ideal S2048x2048 .f32) (g : FVec Ideal S1x2048 .f32) (r k : Fin 2048) :
    val_main_v21 (F := Ideal) n g (ix2 r k) = n (ix2 r k) * g (ix2 0 k) := by
  pointwise [val_main_v21, val_main_v20, val_main_v14, val_main_v0]

open Cert.NormReferenceIdeal.Read in
/-- The reference's factor of the term through the mean of the squares. -/
theorem ref_mean (n v : FVec Ideal S2048x2048 .f32) (g : FVec Ideal S1x2048 .f32) (r k : Fin 2048) :
    val_main_v33 (F := Ideal) n v g (ix2 r k)
      = Ideal.div ((∑ j, v (ix2 r j) * (n (ix2 r j) * g (ix2 0 j)))
          * (Ideal.ofBits .f32 0xBF000000#32 * Ideal.div (rs v r) (Rms.var D E fun k => v (ix2 r k)))) D := by
  pointwise [val_main_v33, val_main_v32, val_main_v31, val_main_v30, val_main_cst_6, val_main_cst_7, val_main_v29, val_main_v11,
    val_main_v10, val_main_cst_2, val_main_v25, val_main_v24, val_main_v23, val_main_cst_5]
  simp only [ref_cot]
  rw [Fin.sum_univ_one]
  simp only [ref_cube]

open Cert.NormReferenceIdeal.Read in
/-- The reference's gradient by the rows. -/
theorem ref_tot (n v : FVec Ideal S2048x2048 .f32) (g : FVec Ideal S1x2048 .f32) (r0 : FVec Ideal S2048x2048 .f32) :
    val_main_v37 (F := Ideal) n v g r0 = fun x => r0 (ix2 (x 0) (x 1)) + dx n v g (x 0) (x 1) := by
  funext x
  obtain ⟨r, k, rfl⟩ : ∃ (r : Fin 2048) (k : Fin 2048), x = ix2 r k := ⟨x 0, x 1, by funext i; fin_cases i <;> rfl⟩
  show _ = r0 (ix2 r k) + dx n v g r k
  pointwise [val_main_v37, val_main_v36, val_main_v35, val_main_v34, val_main_v28, val_main_v27, val_main_v26]
  rw [ref_mean, ref_cot, ref_rs]
  unfold dx rs D
  obtain ⟨a, ha, e⟩ := Rms.eps
  rw [Rms.mhalf, Rms.n2048, show E = (a : EReal) from e, add_assoc, add_assoc, ← add_assoc (n (ix2 r k) * _ * _)]
  exact congrArg (r0 (ix2 r k) + ·) (Rms.grad (by norm_num) ha (fun k => v (ix2 r k)) (fun k => n (ix2 r k) * g (ix2 0 k)) k).symm

open Cert.NormReferenceIdeal.Read in
theorem ref_dg (n v : FVec Ideal S2048x2048 .f32) :
    val_main_v38 (F := Ideal) n v = fun x => ∑ r, n (ix2 r (x 1)) * (v (ix2 r (x 1)) * rs v r) := by
  funext x
  obtain ⟨k, rfl⟩ : ∃ k : Fin 2048, x = ix2 0 k := ⟨x 1, eta1 x⟩
  show _ = ∑ r, n (ix2 r k) * (v (ix2 r k) * rs v r)
  pointwise [val_main_v38, val_main_v22, val_main_v19, val_main_v18, val_main_v17, val_main_v13, val_main_v12, val_main_cst_3,
    val_main_cst_4]
  rw [Fin.sum_univ_one]
  simp only [ref_rs]
  exact Finset.sum_congr rfl fun r _ => mul_comm _ _

end Cert.NormKernelIdeal.Value

namespace Cert.Proof.Norm

open Idealize.ShloMosaic Idealize.ShloMosaic.TcCoe Idealize.SL.Sem
open Cert.NormKernelIdeal.Value

theorem frame_p : Cert.quiescent_NormKernel := fun m ρ _ => Cert.NormKernel.Gen.frame m ρ

theorem frame_pi : Cert.quiescent_NormKernelIdeal := fun m ρ _ => Cert.NormKernelIdeal.Gen.frame m ρ

theorem frame_ri : Cert.quiescent_NormReferenceIdeal := fun m ρ _ =>
  (θ_run Cert.NormReferenceIdeal.defs _ _).mono (fun r h => ⟨fun c => (h c).2.2.2,
      Idealize.ShloMosaic.sem_eq_zero_of_no_sems (by decide) r.2⟩) (Cert.NormReferenceIdeal.Value.run (F := Ideal) m ρ)

/-- The gradient by the rows, its rounded copy and the gradient by the weights are those of `jax.vjp` of the norm. -/
theorem value : Cert.algebraic_NormKernelIdeal_NormReferenceIdeal := by
  pair_intro
  · run_from Cert.NormKernelIdeal.Gen.run_main m g
  · run_from Cert.NormReferenceIdeal.Value.run m' g'
    · obtain ⟨h0, h1, h2, h3⟩ := hagree c
      rw [Cert.NormReferenceIdeal.Read.val_main_v37_eq, h0, h1, h2, h3]
      exact (ref_tot _ _ _ _).trans (final_tot m c).symm
    · obtain ⟨h0, h1, h2, h3⟩ := hagree c
      rw [Cert.NormReferenceIdeal.Read.val_main_v39_eq, h0, h1, h2, h3]
      exact (ref_tot _ _ _ _).trans (final_cast m c).symm
    · exact (ref_dg _ _).trans (final_dg m c).symm

end Cert.Proof.Norm

end
-- ==== Proof.Rope.lean ====
/- The rotary embedding turned back, as a fact about rows of extended reals. -/
module

public import proofs.«01_k».proof.Defs
public import proofs.«01_k».proof.Proof.Softmax
public import Idealize.ShloMosaic.Lib.Pointwise
public import Idealize.ShloMosaic.Lib.Pipeline.ValueKit

@[expose] public section

set_option maxRecDepth 16384

noncomputable section

namespace Cert.Proof.Rope

open Idealize.ShloMosaic

/-- The angle by which the rotary embedding turns pair `k` of row `r`. -/
def angle (r k : ℕ) : EReal :=
  FloatOps.sitofp (F := Ideal) .f32 (BitVec.ofNat 32 r) * Ideal.div 1 (Ideal.pow (Ideal.ofBits .f32 0x461C4000#32)
    (Ideal.div (Ideal.ofBits .f32 0x40000000#32 * FloatOps.sitofp (F := Ideal) .f32 (BitVec.ofNat 32 k)) (Ideal.ofBits .f32 0x42800000#32)))

/-- The table of the quarter turn: an entry of `-1, 0, 1`, chosen by its row `l` and its column `k`. -/
def quarter (l k : ℕ) : EReal :=
  Scalar.select (IntOp.cmpi .eq (BitVec.ofNat 32 k) (IntOp.addi (BitVec.ofNat 32 l) 32#32)) (Ideal.ofBits .f32 0xBF800000#32)
    (Scalar.select (IntOp.cmpi .eq (BitVec.ofNat 32 l) (IntOp.addi (BitVec.ofNat 32 k) 32#32)) 1 0)

theorem quarter_eq (l k : Fin 64) : quarter l.val k.val = if k.val = l.val + 32 then -1 else if l.val = k.val + 32 then 1 else 0 := by
  have h : ∀ a b : Fin 64, IntOp.cmpi .eq (BitVec.ofNat 32 a.val) (IntOp.addi (BitVec.ofNat 32 b.val) 32#32) = if a.val = b.val + 32 then 1#1 else 0#1 := by
    decide +kernel
  have w : Ideal.ofBits .f32 0xBF800000#32 = -1 := by
    simp only [Ideal.ofBits, Ideal.ieee]
    simp
    rw [← EReal.coe_mul]
    norm_num
  unfold quarter
  rw [h, h, w]
  split <;> split <;> rfl

/-- A row against the table of the quarter turn: the first half takes the second, the second the first's negative. -/
theorem sum_quarter (f : Fin 64 → EReal) (k : Fin 64) :
    ∑ l, f l * quarter l.val k.val = if h : k.val < 32 then f ⟨32 + k.val, by omega⟩ else -f ⟨k.val - 32, by omega⟩ := by
  by_cases h : k.val < 32
  · rw [dif_pos h, Finset.sum_eq_single ⟨32 + k.val, by omega⟩]
    · rw [quarter_eq, if_neg (by dsimp only; omega), if_pos (by dsimp only; omega), mul_one]
    · intro l _ hl
      rw [quarter_eq, if_neg (by omega), if_neg (fun e => hl (Fin.ext (by dsimp only; omega))), mul_zero]
    · exact fun e => absurd (Finset.mem_univ _) e
  · rw [dif_neg h, Finset.sum_eq_single ⟨k.val - 32, by omega⟩]
    · rw [quarter_eq, if_pos (by dsimp only; omega), mul_neg, mul_one]
    · intro l _ hl
      rw [quarter_eq, if_neg (fun e => hl (Fin.ext (by dsimp only; omega))), if_neg (by omega), mul_zero]
    · exact fun e => absurd (Finset.mem_univ _) e

/-- A row of cotangents turned back by the angles of row `r`. -/
def back (r : ℕ) (x : Fin 64 → EReal) (k : Fin 64) : EReal :=
  x k * Ideal.cos (angle r (k.val % 32))
    + if h : k.val < 32 then x ⟨32 + k.val, by omega⟩ * Ideal.sin (angle r k.val)
      else -(x ⟨k.val - 32, by omega⟩ * Ideal.sin (angle r (k.val - 32)))

/-- The kernel's form: the cosines' product and, against the table of the quarter turn, the sines'. -/
theorem back_eq (r : ℕ) (x : Fin 64 → EReal) (k : Fin 64) :
    x k * Ideal.cos (angle r (k.val % 32)) + ∑ l : Fin 64, x l * Ideal.sin (angle r (l.val % 32)) * quarter l.val k.val = back r x k := by
  unfold back
  rw [sum_quarter fun l => x l * Ideal.sin (angle r (l.val % 32))]
  by_cases h : k.val < 32
  · rw [dif_pos h, dif_pos h]
    dsimp only
    rw [show (32 + k.val) % 32 = k.val by omega]
  · rw [dif_neg h, dif_neg h]
    dsimp only
    rw [show (k.val - 32) % 32 = k.val - 32 by omega]

end Cert.Proof.Rope

end
-- ==== Proof.Post.lean ====
/- The operands of the latent attention, backward: the rotary parts turned back and the parts joined. -/
module

public import proofs.«01_k».proof.Defs
public import proofs.«01_k».proof.Proof.Gen.PostKernel.Frame
public import proofs.«01_k».proof.Proof.Gen.PostKernelIdeal.Value
public import proofs.«01_k».proof.Proof.Gen.PostReferenceIdeal.Read
public import proofs.«01_k».proof.Proof.Rope
public import Idealize.ShloMosaic.Lib.Pointwise
public import Idealize.ShloMosaic.Lib.Pipeline.ValueKit

@[expose] public section

set_option maxRecDepth 16384

noncomputable section

namespace Cert.PostKernelIdeal.Value

open Cert.PostKernelIdeal Cert.PostKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is head `t % 8` of block `t / 8` of the rows. -/
theorem idx : ∀ t : Fin cfg0.N, win0_0.index t = ![t.val % 8, t.val / 8, 0] ∧ win0_1.index t = ![t.val % 8, t.val / 8, 0]
    ∧ win0_2.index t = ![t.val % 8, t.val / 8, 0] ∧ win0_3.index t = ![t.val / 8, 0] ∧ win0_4.index t = ![t.val / 8, 0]
    ∧ win0_5.index t = ![0, 0] ∧ win0_6.index t = ![t.val % 8, t.val / 8, 0] ∧ win0_7.index t = ![t.val % 8, t.val / 8, 0]
    ∧ win0_8.index t = ![t.val / 8, 0] :=
  (by decide +kernel : ∀ t : Fin grid0.N, _)

/-- The row that row `r` of a grid point's block holds, and the point's head. -/
def row (t : Fin cfg0.N) (r : Fin 1024) : Fin 2048 := ⟨t.val / 8 * 1024 + r.val, by have := t.isLt; have hN : cfg0.N = 16 := N_0; omega⟩
def head (t : Fin cfg0.N) : Fin 8 := ⟨t.val % 8, by omega⟩

/-- The arguments of a device: the attention's gradients by the queries, the keys and the values, heads first. -/
abbrev qa (c : Dev nD) : FVec Ideal S8x2048x192 .f32 := m ((c : Thread nD τ).loc main_arg0)
abbrev ka (c : Dev nD) : FVec Ideal S8x2048x192 .f32 := m ((c : Thread nD τ).loc main_arg1)
abbrev va (c : Dev nD) : FVec Ideal S8x2048x128 .f32 := m ((c : Thread nD τ).loc main_arg2)

theorem q_blk (c : Dev nD) (t : Fin cfg0.N) (r : Fin 1024) (k : Fin 192) :
    iblk m c 0 t (ix3 0 r k) = qa m c (ix3 (head t) (row t r) k) := by
  unfold row head
  blk_point [iblk, V, idx t]

theorem k_blk (c : Dev nD) (t : Fin cfg0.N) (r : Fin 1024) (k : Fin 192) :
    iblk m c 1 t (ix3 0 r k) = ka m c (ix3 (head t) (row t r) k) := by
  unfold row head
  blk_point [iblk, V, idx t]

theorem v_blk (c : Dev nD) (t : Fin cfg0.N) (r : Fin 1024) (k : Fin 128) :
    iblk m c 2 t (ix3 0 r k) = va m c (ix3 (head t) (row t r) k) := by
  unfold row head
  blk_point [iblk, V, idx t]

set_option maxHeartbeats 4000000 in
theorem cos_blk (c : Dev nD) (t : Fin cfg0.N) (r : Fin 1024) (k : Fin 64) :
    iblk m c 3 t (ix2 r k) = Ideal.cos (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem sin_blk (c : Dev nD) (t : Fin cfg0.N) (r : Fin 1024) (k : Fin 64) :
    iblk m c 4 t (ix2 r k) = Ideal.sin (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem turn_blk (c : Dev nD) (t : Fin cfg0.N) (l k : Fin 64) : iblk m c 5 t (ix2 l k) = Rope.quarter l.val k.val := by
  unfold Rope.quarter
  blk_point [iblk, V, idx t]

theorem emb6 (t : Fin cfg0.N) (y : S1x1024x192.Idx) :
    ((View.whole main_v34_0).slice (win0_6.rect t)).emb y = ix3 (head t) (row t (y 1)) (y 2) := by
  unfold row head
  blk_ext [idx t]

theorem emb7 (t : Fin cfg0.N) (y : S1x1024x256.Idx) :
    ((View.whole main_v34_1).slice (win0_7.rect t)).emb y = ix3 (head t) (row t (y 1)) (y 2) := by
  unfold row head
  blk_ext [idx t]

theorem emb8 (t : Fin cfg0.N) (y : S1024x64.Idx) :
    ((View.whole main_v34_2).slice (win0_8.rect t)).emb y = ix2 (row t (y 0)) (y 1) := by
  unfold row
  blk_ext [idx t]

theorem eta2 {a b : ℕ} (y : (⟨2, ![a, b]⟩ : Shape).Idx) : y = ix2 (y 0) (y 1) := by
  funext i
  fin_cases i <;> rfl

theorem eta3 {a b : ℕ} (y : (⟨3, ![1, a, b]⟩ : Shape).Idx) : y = ix3 0 (y 1) (y 2) := by
  funext i
  fin_cases i
  · exact Subsingleton.elim (α := Fin 1) _ _
  · rfl
  · rfl

/-- The gradient by the queries: the plain part copied, the rotary part turned back. -/
def dq (q : FVec Ideal S8x2048x192 .f32) (h : Fin 8) (r : Fin 2048) (a : Fin 192) : EReal :=
  if a.val < 128 then q (ix3 h r a)
  else Rope.back r.val (fun j => q (ix3 h r ⟨128 + j.val, by omega⟩)) ⟨a.val - 128, by omega⟩

/-- The gradient by the up-projected keys and values, joined. -/
def dkv (k : FVec Ideal S8x2048x192 .f32) (v : FVec Ideal S8x2048x128 .f32) (h : Fin 8) (r : Fin 2048) (a : Fin 256) : EReal :=
  if a.val < 128 then k (ix3 h r ⟨a.val % 128, by omega⟩) else v (ix3 h r ⟨a.val - 128, by omega⟩)

theorem plain_blk (c : Dev nD) (t : Fin cfg0.N) (r : Fin 1024) (k : Fin 128) :
    k0_pay6 (F := Ideal) (iblk m c 0 t) (ix3 0 r k) = qa m c (ix3 (head t) (row t r) ⟨k.val, by omega⟩) := by
  pointwise [k0_pay6, k0_pay4]
  exact q_blk m c t r ⟨k.val, by omega⟩

theorem back_blk (c : Dev nD) (t : Fin cfg0.N) (r : Fin 1024) (k : Fin 64) :
    k0_pay7 (F := Ideal) (iblk m c 0 t) (iblk m c 3 t) (iblk m c 4 t) (iblk m c 5 t) (ix3 0 r k)
      = Rope.back (row t r).val (fun j => qa m c (ix3 (head t) (row t r) ⟨128 + j.val, by omega⟩)) k := by
  pointwise [k0_pay7, k0_pay4]
  simp only [q_blk, cos_blk, sin_blk, turn_blk]
  exact Rope.back_eq (row t r).val (fun j => qa m c (ix3 (head t) (row t r) ⟨128 + j.val, by omega⟩)) k

theorem key_blk (c : Dev nD) (t : Fin cfg0.N) (r : Fin 1024) (k : Fin 128) :
    k0_pay8 (F := Ideal) (iblk m c 1 t) (ix3 0 r k) = ka m c (ix3 (head t) (row t r) ⟨k.val, by omega⟩) := by
  pointwise [k0_pay8, k0_pay5]
  exact k_blk m c t r ⟨k.val, by omega⟩

theorem val_blk (c : Dev nD) (t : Fin cfg0.N) (r : Fin 1024) (k : Fin 128) :
    k0_pay1 (F := Ideal) (iblk m c 2 t) (ix3 0 r k) = va m c (ix3 (head t) (row t r) k) := by
  pointwise [k0_pay1]
  exact v_blk m c t r k

/-- The two stores of the queries' block. -/
theorem pieces6 (c : Dev nD) (t : Fin cfg0.N) (y : S1x1024x192.Idx) :
    View.canon (Val := Elt Ideal) (s := S1x1024x192) (e := .bf16)
      [⟨Rect.unit ![0, 0, 128] ![1, 1024, 64] inb_S1x1024x192_S1x1024x64_0_0_128,
          k0_pay7 (iblk m c 0 t) (iblk m c 3 t) (iblk m c 4 t) (iblk m c 5 t)⟩,
        ⟨Rect.unit ![0, 0, 0] ![1, 1024, 128] inb_S1x1024x192_S1x1024x128_0_0_0, k0_pay6 (iblk m c 0 t)⟩] y
      = dq (qa m c) (head t) (row t (y 1)) (y 2) := by
  have hy0 : (y 0).val < 1 := (y 0).isLt
  have hy1 : (y 1).val < 1024 := (y 1).isLt
  have hy2 : (y 2).val < 192 := (y 2).isLt
  refine View.canon_apply_of_pieces (Val := Elt Ideal) (S := S1x1024x192) (e := .bf16) (fun y => dq (qa m c) (head t) (row t (y 1)) (y 2)) _ ?_ y ?_
  · intro pc hpc x
    rcases List.mem_cons.mp hpc with rfl | hpc
    · have hx : (x 2).val < 64 := (x 2).isLt
      refine (congrArg _ (eta3 x)).trans ((back_blk m c t (x 1) (x 2)).trans ?_)
      have e0 : row t (((Rect.unit (s := S1x1024x192) ![0, 0, 128] ![1, 1024, 64] inb_S1x1024x192_S1x1024x64_0_0_128).emb x) 1) = row t (x 1) :=
        congrArg (row t) (Fin.ext (by show 0 + 1 * (x 1).val = (x 1).val; omega))
      have e1 : (((Rect.unit (s := S1x1024x192) ![0, 0, 128] ![1, 1024, 64] inb_S1x1024x192_S1x1024x64_0_0_128).emb x) 2).val = 128 + (x 2).val := by
        show 128 + 1 * (x 2).val = _; omega
      dsimp only
      unfold dq
      rw [if_neg (by rw [e1]; omega), e0]
      exact congrArg _ (Fin.ext (by dsimp only; omega))
    rcases List.mem_cons.mp hpc with rfl | hpc
    · have hx : (x 2).val < 128 := (x 2).isLt
      refine (congrArg _ (eta3 x)).trans ((plain_blk m c t (x 1) (x 2)).trans ?_)
      have e0 : row t (((Rect.unit (s := S1x1024x192) ![0, 0, 0] ![1, 1024, 128] inb_S1x1024x192_S1x1024x128_0_0_0).emb x) 1) = row t (x 1) :=
        congrArg (row t) (Fin.ext (by show 0 + 1 * (x 1).val = (x 1).val; omega))
      have e1 : (((Rect.unit (s := S1x1024x192) ![0, 0, 0] ![1, 1024, 128] inb_S1x1024x192_S1x1024x128_0_0_0).emb x) 2).val = (x 2).val := by
        show 0 + 1 * (x 2).val = _; omega
      dsimp only
      unfold dq
      rw [if_pos (by rw [e1]; omega), e0]
      exact congrArg _ (congrArg (ix3 (head t) (row t (x 1))) (Fin.ext (by dsimp only; omega)))
    nomatch hpc
  · by_cases h0 : (y 2).val < 128
    · refine ⟨_, List.mem_cons_of_mem _ List.mem_cons_self, ?_⟩
      show y ∈ (Rect.unit (s := S1x1024x192) ![0, 0, 0] ![1, 1024, 128] inb_S1x1024x192_S1x1024x128_0_0_0).set
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 128; omega
    · refine ⟨_, List.mem_cons_self, ?_⟩
      show y ∈ (Rect.unit (s := S1x1024x192) ![0, 0, 128] ![1, 1024, 64] inb_S1x1024x192_S1x1024x64_0_0_128).set
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 128 ≤ (y 2).val ∧ (y 2).val < 128 + 64; omega

/-- The two stores of the keys' and values' block. -/
theorem pieces7 (c : Dev nD) (t : Fin cfg0.N) (y : S1x1024x256.Idx) :
    View.canon (Val := Elt Ideal) (s := S1x1024x256) (e := .bf16)
      [⟨Rect.unit ![0, 0, 128] ![1, 1024, 128] inb_S1x1024x256_S1x1024x128_0_0_128, k0_pay1 (iblk m c 2 t)⟩,
        ⟨Rect.unit ![0, 0, 0] ![1, 1024, 128] inb_S1x1024x256_S1x1024x128_0_0_0, k0_pay8 (iblk m c 1 t)⟩] y
      = dkv (ka m c) (va m c) (head t) (row t (y 1)) (y 2) := by
  have hy0 : (y 0).val < 1 := (y 0).isLt
  have hy1 : (y 1).val < 1024 := (y 1).isLt
  have hy2 : (y 2).val < 256 := (y 2).isLt
  refine View.canon_apply_of_pieces (Val := Elt Ideal) (S := S1x1024x256) (e := .bf16)
    (fun y => dkv (ka m c) (va m c) (head t) (row t (y 1)) (y 2)) _ ?_ y ?_
  · intro pc hpc x
    rcases List.mem_cons.mp hpc with rfl | hpc
    · have hx : (x 2).val < 128 := (x 2).isLt
      refine (congrArg _ (eta3 x)).trans ((val_blk m c t (x 1) (x 2)).trans ?_)
      have e0 : row t (((Rect.unit (s := S1x1024x256) ![0, 0, 128] ![1, 1024, 128] inb_S1x1024x256_S1x1024x128_0_0_128).emb x) 1) = row t (x 1) :=
        congrArg (row t) (Fin.ext (by show 0 + 1 * (x 1).val = (x 1).val; omega))
      have e1 : (((Rect.unit (s := S1x1024x256) ![0, 0, 128] ![1, 1024, 128] inb_S1x1024x256_S1x1024x128_0_0_128).emb x) 2).val = 128 + (x 2).val := by
        show 128 + 1 * (x 2).val = _; omega
      dsimp only
      unfold dkv
      rw [if_neg (by rw [e1]; omega), e0]
      exact congrArg _ (congrArg (ix3 (head t) (row t (x 1))) (Fin.ext (by dsimp only; omega)))
    rcases List.mem_cons.mp hpc with rfl | hpc
    · have hx : (x 2).val < 128 := (x 2).isLt
      refine (congrArg _ (eta3 x)).trans ((key_blk m c t (x 1) (x 2)).trans ?_)
      have e0 : row t (((Rect.unit (s := S1x1024x256) ![0, 0, 0] ![1, 1024, 128] inb_S1x1024x256_S1x1024x128_0_0_0).emb x) 1) = row t (x 1) :=
        congrArg (row t) (Fin.ext (by show 0 + 1 * (x 1).val = (x 1).val; omega))
      have e1 : (((Rect.unit (s := S1x1024x256) ![0, 0, 0] ![1, 1024, 128] inb_S1x1024x256_S1x1024x128_0_0_0).emb x) 2).val = (x 2).val := by
        show 0 + 1 * (x 2).val = _; omega
      dsimp only
      unfold dkv
      rw [if_pos (by rw [e1]; omega), e0]
      exact congrArg _ (congrArg (ix3 (head t) (row t (x 1))) (Fin.ext (by dsimp only; omega)))
    nomatch hpc
  · by_cases h0 : (y 2).val < 128
    · refine ⟨_, List.mem_cons_of_mem _ List.mem_cons_self, ?_⟩
      show y ∈ (Rect.unit (s := S1x1024x256) ![0, 0, 0] ![1, 1024, 128] inb_S1x1024x256_S1x1024x128_0_0_0).set
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 0 ≤ (y 2).val ∧ (y 2).val < 0 + 128; omega
    · refine ⟨_, List.mem_cons_self, ?_⟩
      show y ∈ (Rect.unit (s := S1x1024x256) ![0, 0, 128] ![1, 1024, 128] inb_S1x1024x256_S1x1024x128_0_0_128).set
      rw [Rect.mem_set_unit]
      intro a
      match a with
      | ⟨0, _⟩ => show 0 ≤ (y 0).val ∧ (y 0).val < 0 + 1; omega
      | ⟨1, _⟩ => show 0 ≤ (y 1).val ∧ (y 1).val < 0 + 1024; omega
      | ⟨2, _⟩ => show 128 ≤ (y 2).val ∧ (y 2).val < 128 + 128; omega

set_option maxHeartbeats 4000000 in
theorem final_dq (c : Dev nD) : (dats m 0 c).arrAt 6 (cfgs 0).N = fun x => dq (qa m c) (x 0) (x 1) (x 2) := by
  refine (dats m 0 c).arrAt_eq_of_covers 6 _ (by decide +kernel) fun t _ y => ?_
  blk_simp
  rw [after0_6, emb6]
  by_cases h : t.val % 8 = 0
  · rw [outsAt0_A m c t h (by omega)]
    frame_out
    exact pieces6 m c t y
  · rw [outsAt0_B m c t h (by omega)]
    frame_out
    exact pieces6 m c t y

set_option maxHeartbeats 4000000 in
theorem final_dkv (c : Dev nD) : (dats m 0 c).arrAt 7 (cfgs 0).N = fun x => dkv (ka m c) (va m c) (x 0) (x 1) (x 2) := by
  refine (dats m 0 c).arrAt_eq_of_covers 7 _ (by decide +kernel) fun t _ y => ?_
  blk_simp
  rw [after0_7, emb7]
  by_cases h : t.val % 8 = 0
  · rw [outsAt0_A m c t h (by omega)]
    frame_out
    exact pieces7 m c t y
  · rw [outsAt0_B m c t h (by omega)]
    frame_out
    exact pieces7 m c t y

/-- One head's part of the gradient by the turned key part that the heads share. -/
def part (c : Dev nD) (t : Fin cfg0.N) (y : S1024x64.Idx) : EReal :=
  ka m c (ix3 (head t) (row t (y 0)) ⟨128 + (y 1).val, by have : (y 1).val < 64 := (y 1).isLt; omega⟩)

theorem part_first (c : Dev nD) (t : Fin cfg0.N) (r : Fin 1024) (k : Fin 64) :
    k0_pay2 (F := Ideal) (k0_pay5 (iblk m c 1 t)) (ix2 r k) = part m c t (ix2 r k) := by
  pointwise [k0_pay2, k0_pay5]
  exact k_blk m c t r ⟨128 + k.val, by omega⟩

theorem part_next (c : Dev nD) (t : Fin cfg0.N) (acc : FVec Ideal S1024x64 .f32) (r : Fin 1024) (k : Fin 64) :
    k0_pay3 (F := Ideal) (k0_pay5 (iblk m c 1 t)) acc (ix2 r k) = acc (ix2 r k) + part m c t (ix2 r k) := by
  pointwise [k0_pay3]
  rw [part_first]

/-- The gradient by the shared rotary key part: the sum over the heads. -/
def dr (k : FVec Ideal S8x2048x192 .f32) (r : Fin 2048) (a : Fin 64) : EReal := ∑ h : Fin 8, k (ix3 h r ⟨128 + a.val, by omega⟩)

set_option maxHeartbeats 4000000 in
theorem final_dr (c : Dev nD) : (dats m 0 c).arrAt 8 (cfgs 0).N
    = fun x => dr (ka m c) (x 0) (x 1) := by
  refine (dats m 0 c).arrAt_eq_of_covers 8 _ (by decide +kernel) fun t hf y => ?_
  blk_simp
  rw [after0_8]
  refine (Pipeline.eq_sum_fin_of_reset_step_apply_of_flush (fun n h => (outsAt0 m c n h).2.2) 8 (fun _ => 0) (part m c)
    (fun t h j => ?_) (fun t h j => ?_) t ((flush0_8 t).mp hf) _).trans ?_
  · rw [outsAt0_A m c t h (by omega)]
    frame_out
    rw [eta2 j]
    exact (part_first m c t (j 0) (j 1)).trans (zero_add _).symm
  · rw [outsAt0_B m c t h (by omega)]
    frame_out
    rw [eta2 j]
    exact part_next m c t _ (j 0) (j 1)
  · rw [zero_add, emb8]
    have ht : t.val % 8 = 7 := (flush0_8 t).mp hf
    unfold dr
    refine Finset.sum_congr rfl fun s _ => ?_
    have eh : ∀ h, head ⟨8 * (t.val / 8) + s.val, h⟩ = s := fun _ => Fin.ext (by unfold head; dsimp only; omega)
    have er : ∀ h, row ⟨8 * (t.val / 8) + s.val, h⟩ (y 0) = row t (y 0) := fun _ => Fin.ext (by unfold row; dsimp only; omega)
    unfold part
    rw [eh, er]
    rfl

section Reference

open Cert.PostReferenceIdeal.Read

theorem ref_cos (r : Fin 2048) (k : Fin 32) : val_main_v20 (F := Ideal) (ix2 r k) = Ideal.cos (Rope.angle r k) := by
  pointwise [val_main_v20, val_main_v19, val_main_v18, val_main_v17, val_main_v16, val_main_v15, val_main_v14, val_main_v13,
    val_main_cst_6, val_main_v12, val_main_v11, val_main_cst_5, val_main_v10, val_main_v9, val_main_cst_4, val_main_v8, val_main_v7,
    val_main_cst_3, val_main_v6, val_main_v5, val_main_cst_2, val_main_v4, val_main_v3]
  rfl

theorem ref_sin (r : Fin 2048) (k : Fin 32) : val_main_v21 (F := Ideal) (ix2 r k) = Ideal.sin (Rope.angle r k) := by
  pointwise [val_main_v21, val_main_v19, val_main_v18, val_main_v17, val_main_v16, val_main_v15, val_main_v14, val_main_v13,
    val_main_cst_6, val_main_v12, val_main_v11, val_main_cst_5, val_main_v10, val_main_v9, val_main_cst_4, val_main_v8, val_main_v7,
    val_main_cst_3, val_main_v6, val_main_v5, val_main_cst_2, val_main_v4, val_main_v3]
  rfl

/-- The reference's rotary part: the two halves' gradients, each padded to the row, added. -/
theorem ref_back (x : FVec Ideal S8x2048x192 .f32) (h : Fin 8) (r : Fin 2048) (k : Fin 64) :
    val_main_v78 (F := Ideal) x (ix4 0 r h k) = Rope.back r.val (fun j => x (ix3 h r ⟨128 + j.val, by omega⟩)) k := by
  pointwise [val_main_v78, val_main_v77, val_main_v76]
  unfold Rope.back
  by_cases hk : k.val < 32
  · rw [dif_neg (by omega), dif_pos hk, dif_pos hk, Nat.mod_eq_of_lt hk]
    pointwise [val_main_cst_9, val_main_v75, val_main_v74, val_main_v73, val_main_v66, val_main_v65, val_main_v40, val_main_v30,
      val_main_v27, val_main_v26, val_main_v63, val_main_v64, val_main_v58, val_main_v50, val_main_v49]
    simp only [ref_cos, ref_sin]
    exact add_comm _ _
  · rw [dif_pos (by omega), dif_neg hk, dif_neg hk, show k.val % 32 = k.val - 32 by omega]
    pointwise [val_main_cst_10, val_main_v72, val_main_v71, val_main_v70, val_main_v69, val_main_v68, val_main_v67, val_main_v37,
      val_main_v33, val_main_v27, val_main_v26, val_main_v63, val_main_v64, val_main_v58, val_main_v50, val_main_v49]
    simp only [ref_cos, ref_sin]
    rw [show (⟨128 + (32 + (k.val - 32)), by omega⟩ : Fin 192) = ⟨128 + k.val, by omega⟩ from Fin.ext (by dsimp only; omega), neg_mul]

theorem ref_dq (q : FVec Ideal S8x2048x192 .f32) : val_main_v87 (F := Ideal) q = fun x => dq q (x 0) (x 1) (x 2) := by
  funext x
  obtain ⟨h, r, a, rfl⟩ : ∃ (h : Fin 8) (r : Fin 2048) (a : Fin 192), x = ix3 h r a :=
    ⟨x 0, x 1, x 2, by funext i; fin_cases i <;> rfl⟩
  show _ = dq q h r a
  unfold dq
  pointwise [val_main_v87, val_main_v86, val_main_v85, val_main_v84, val_main_v83, val_main_v82]
  by_cases ha : a.val < 128
  · rw [dif_neg (by omega), dif_pos ha, if_pos ha]
    pointwise [val_main_cst_13, val_main_v57, val_main_v50, val_main_v49]
  · rw [dif_pos (by omega), dif_neg ha, if_neg ha]
    pointwise [val_main_cst_14]
    rw [ref_back]

theorem ref_dkv (k : FVec Ideal S8x2048x192 .f32) (v : FVec Ideal S8x2048x128 .f32) :
    val_main_v90 (F := Ideal) k v = fun x => dkv k v (x 0) (x 1) (x 2) := by
  funext x
  obtain ⟨h, r, a, rfl⟩ : ∃ (h : Fin 8) (r : Fin 2048) (a : Fin 256), x = ix3 h r a :=
    ⟨x 0, x 1, x 2, by funext i; fin_cases i <;> rfl⟩
  show _ = dkv k v h r a
  unfold dkv
  pointwise [val_main_v90, val_main_v89, val_main_v88, val_main_v81, val_main_v80, val_main_v79]
  by_cases ha : a.val < 128
  · rw [dif_neg (by omega), dif_pos ha, if_pos ha]
    pointwise [val_main_cst_11, val_main_v55, val_main_v52, val_main_v51]
    exact congrArg (fun i => k (ix3 h r i)) (Fin.ext (Nat.mod_eq_of_lt ha).symm)
  · rw [dif_pos (by omega), dif_neg ha, if_neg ha]
    pointwise [val_main_cst_12, val_main_v54, val_main_v53]

theorem sum_axes {b d n : ℕ} (h : (⟨4, ![1, b, d, n]⟩ : Shape).ReducesTo [0, 2] ⟨2, ![b, n]⟩)
    (v : (⟨4, ![1, b, d, n]⟩ : Shape).Idx → EReal) (z : EReal) (r : Fin b) (a : Fin n) :
    Ideal.hostReduceAdd h v z (ix2 r a) = z + ∑ k : Fin d, v (ix4 0 r k a) := by
  refine congrArg (z + ·) (Finset.sum_filter_eq_sum_of_fiber _ (fun k : Fin d => ix4 (0 : Fin 1) r k a) (fun _ _ e => congrFun e 2) (fun i => ?_) v)
  constructor
  · intro e
    refine ⟨i 2, ?_⟩
    funext x
    apply Fin.ext
    match x with
    | ⟨0, _⟩ => exact (Nat.lt_one_iff.mp (i 0).isLt).symm
    | ⟨1, _⟩ => exact (congrArg Fin.val (congrFun e 0)).symm
    | ⟨2, _⟩ => rfl
    | ⟨3, _⟩ => exact (congrArg Fin.val (congrFun e 1)).symm
  · rintro ⟨k, rfl⟩
    funext x
    apply Fin.ext
    match x with
    | ⟨0, _⟩ => rfl
    | ⟨1, _⟩ => rfl

theorem ref_dr (k : FVec Ideal S8x2048x192 .f32) : val_main_v91 (F := Ideal) k = fun x => dr k (x 0) (x 1) := by
  funext x
  obtain ⟨r, a, rfl⟩ : ∃ (r : Fin 2048) (a : Fin 64), x = ix2 r a := ⟨x 0, x 1, eta2 x⟩
  show _ = dr k r a
  unfold dr
  pointwise [val_main_v91, val_main_v62, val_main_v61, val_main_cst_8]
  refine (sum_axes _ _ 0 r a).trans ?_
  rw [zero_add, Fin.sum_univ_one]
  pointwise [val_main_v60, val_main_v59, val_main_cst_7]
  refine (sum_axes _ _ 0 r a).trans ?_
  rw [zero_add]
  refine Finset.sum_congr rfl fun h _ => ?_
  pointwise [val_main_v56, val_main_v52, val_main_v51]

end Reference

end Cert.PostKernelIdeal.Value

namespace Cert.Proof.Post

open Idealize.ShloMosaic Idealize.ShloMosaic.TcCoe Idealize.SL.Sem
open Cert.PostKernelIdeal.Value

theorem frame_p : Cert.quiescent_PostKernel := fun m ρ _ => Cert.PostKernel.Gen.frame m ρ

theorem frame_pi : Cert.quiescent_PostKernelIdeal := fun m ρ _ => Cert.PostKernelIdeal.Gen.frame m ρ

theorem frame_ri : Cert.quiescent_PostReferenceIdeal := fun m ρ _ =>
  (θ_run Cert.PostReferenceIdeal.defs _ _).mono (fun r h => ⟨fun c => (h c).2.2.2,
      Idealize.ShloMosaic.sem_eq_zero_of_no_sems (by decide) r.2⟩) (Cert.PostReferenceIdeal.Value.run (F := Ideal) m ρ)

set_option maxHeartbeats 4000000 in
/-- The gradients by the queries, by the joined keys and values and by the shared rotary key part are those of `jax.vjp` of
    the rotary embedding and the joining. -/
theorem value : Cert.algebraic_PostKernelIdeal_PostReferenceIdeal := by
  pair_intro
  · run_from Cert.PostKernelIdeal.Gen.run_main m g
  · run_from Cert.PostReferenceIdeal.Value.run m' g'
    · obtain ⟨h0, h1, h2⟩ := hagree c
      rw [Cert.PostReferenceIdeal.Read.val_main_v87_eq, h0]
      exact (ref_dq _).trans (final_dq m c).symm
    · obtain ⟨h0, h1, h2⟩ := hagree c
      first | rw [h1, h2] | skip
      exact (ref_dkv _ _).trans (final_dkv m c).symm
    · obtain ⟨h0, h1, h2⟩ := hagree c
      first | rw [h1] | skip
      exact (ref_dr _).trans (final_dr m c).symm

end Cert.Proof.Post

end
-- ==== Proof.Latent.lean ====
/- The two latents' norms and the rotary key part, backward. -/
module

public import proofs.«01_k».proof.Defs
public import proofs.«01_k».proof.Proof.Gen.LatentKernel.Frame
public import proofs.«01_k».proof.Proof.Gen.LatentKernelIdeal.Value
public import proofs.«01_k».proof.Proof.Gen.LatentReferenceIdeal.Read
public import proofs.«01_k».proof.Proof.Rms
public import proofs.«01_k».proof.Proof.Rope
public import Idealize.ShloMosaic.Lib.Pointwise
public import Idealize.ShloMosaic.Lib.Pipeline.ValueKit

@[expose] public section

set_option maxRecDepth 16384

noncomputable section

namespace Cert.LatentKernelIdeal.Value

open Cert.LatentKernelIdeal Cert.LatentKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is block `t` of the rows. -/
theorem idx : ∀ t : Fin cfg0.N, win0_0.index t = ![t.val, 0] ∧ win0_1.index t = ![t.val, 0]
    ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![t.val, 0] ∧ win0_10.index t = ![0, 0] ∧ win0_11.index t = ![0, 0] :=
  (by decide +kernel : ∀ t : Fin grid0.N, _)

/-- The row that row `r` of a grid point's block holds. -/
def row (t : Fin cfg0.N) (r : Fin 256) : Fin 2048 := ⟨t.val * 256 + r.val, by have := t.isLt; have hN : cfg0.N = 8 := N_0; omega⟩

/-- The arguments of a device: the cotangents by the two normed latents and by the turned key part, the joined latents,
    the weights of the two norms. -/
abbrev qa (c : Dev nD) : FVec Ideal S2048x512 .f32 := m ((c : Thread nD τ).loc main_arg0)
abbrev ka (c : Dev nD) : FVec Ideal S2048x512 .f32 := m ((c : Thread nD τ).loc main_arg1)
abbrev ra (c : Dev nD) : FVec Ideal S2048x64 .f32 := m ((c : Thread nD τ).loc main_arg2)
abbrev la (c : Dev nD) : FVec Ideal S2048x1088 .f32 := m ((c : Thread nD τ).loc main_arg3)
abbrev ga (c : Dev nD) : FVec Ideal S1x512 .f32 := m ((c : Thread nD τ).loc main_arg4)
abbrev ha (c : Dev nD) : FVec Ideal S1x512 .f32 := m ((c : Thread nD τ).loc main_arg5)

theorem q_blk (c : Dev nD) (t : Fin cfg0.N) (r : Fin 256) (k : Fin 512) : iblk m c 0 t (ix2 r k) = qa m c (ix2 (row t r) k) := by
  unfold row
  blk_point [iblk, V, idx t]

theorem k_blk (c : Dev nD) (t : Fin cfg0.N) (r : Fin 256) (k : Fin 512) : iblk m c 1 t (ix2 r k) = ka m c (ix2 (row t r) k) := by
  unfold row
  blk_point [iblk, V, idx t]

theorem r_blk (c : Dev nD) (t : Fin cfg0.N) (r : Fin 256) (k : Fin 64) : iblk m c 2 t (ix2 r k) = ra m c (ix2 (row t r) k) := by
  unfold row
  blk_point [iblk, V, idx t]

theorem l_blk (c : Dev nD) (t : Fin cfg0.N) (r : Fin 256) (k : Fin 1088) : iblk m c 3 t (ix2 r k) = la m c (ix2 (row t r) k) := by
  unfold row
  blk_point [iblk, V, idx t]

theorem g_blk (c : Dev nD) (t : Fin cfg0.N) (k : Fin 512) : iblk m c 4 t (ix2 0 k) = ga m c (ix2 0 k) := by
  blk_point [iblk, V, idx t]

theorem h_blk (c : Dev nD) (t : Fin cfg0.N) (k : Fin 512) : iblk m c 5 t (ix2 0 k) = ha m c (ix2 0 k) := by
  blk_point [iblk, V, idx t]

set_option maxHeartbeats 4000000 in
theorem cos_blk (c : Dev nD) (t : Fin cfg0.N) (r : Fin 256) (k : Fin 64) :
    iblk m c 6 t (ix2 r k) = Ideal.cos (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem sin_blk (c : Dev nD) (t : Fin cfg0.N) (r : Fin 256) (k : Fin 64) :
    iblk m c 7 t (ix2 r k) = Ideal.sin (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem turn_blk (c : Dev nD) (t : Fin cfg0.N) (l k : Fin 64) : iblk m c 8 t (ix2 l k) = Rope.quarter l.val k.val := by
  unfold Rope.quarter
  blk_point [iblk, V, idx t]

theorem emb9 (t : Fin cfg0.N) (y : S256x1088.Idx) : ((View.whole main_v34_0).slice (win0_9.rect t)).emb y = ix2 (row t (y 0)) (y 1) := by
  unfold row
  blk_ext [idx t]

theorem emb10 (t : Fin cfg0.N) (y : S1x512.Idx) : (win0_10.blk t).view.emb y = ix2 0 (y 1) := by
  blk_ext [idx t]

theorem emb11 (t : Fin cfg0.N) (y : S1x512.Idx) : (win0_11.blk t).view.emb y = ix2 0 (y 1) := by
  blk_ext [idx t]

/-- The mean's divisor and the word added to the mean. -/
abbrev D : EReal := Ideal.ofBits .f32 0x44000000#32
abbrev E : EReal := Ideal.ofBits .f32 0x358637BD#32

/-- The norm's gradient by its row `x`, as the kernel writes it, of a cotangent `e` that the weights have met. -/
def nrm (e x : Fin 512 → EReal) (k : Fin 512) : EReal :=
  Rms.inv D E x * (e k - x k * Rms.inv D E x * Ideal.div (∑ j, e j * (x j * Rms.inv D E x)) D)

theorem pay3_row (x : FVec Ideal S256x512 .f32) (r : Fin 256) : k0_pay3 (F := Ideal) x (ix2 r 0) = Rms.inv D E fun j => x (ix2 r j) := by
  pointwise [k0_pay3]
  rfl

theorem pay4_row (x : FVec Ideal S256x512 .f32) (r : Fin 256) (k : Fin 512) :
    k0_pay4 (F := Ideal) x (ix2 r k) = x (ix2 r k) * Rms.inv D E fun j => x (ix2 r j) := by
  pointwise [k0_pay4]
  rw [pay3_row]

theorem pay9_row (x : FVec Ideal S256x512 .f32) (r : Fin 256) (k : Fin 512) :
    k0_pay9 (F := Ideal) x (k0_pay7 x) (ix2 r k) = x (ix2 r k) * Rms.inv D E fun j => x (ix2 r j) := by
  pointwise [k0_pay9, k0_pay8, k0_pay7]
  rfl

theorem pay8_row (x : FVec Ideal S256x512 .f32) (r : Fin 256) :
    k0_pay8 (F := Ideal) (k0_pay7 x) (ix2 r 0) = Rms.inv D E fun j => x (ix2 r j) := by
  pointwise [k0_pay8, k0_pay7]
  rfl

theorem pay5_row (e x : FVec Ideal S256x512 .f32) (g : FVec Ideal S1x512 .f32) (r : Fin 256) (k : Fin 512) :
    k0_pay5 (F := Ideal) e x g (ix2 r k) = nrm (fun j => e (ix2 r j) * g (ix2 0 j)) (fun j => x (ix2 r j)) k := by
  pointwise [k0_pay5]
  simp only [pay4_row, pay3_row]
  rfl

theorem pay12_row (e x : FVec Ideal S256x512 .f32) (g : FVec Ideal S1x512 .f32) (r : Fin 256) (k : Fin 512) :
    k0_pay12 (F := Ideal) e x g (k0_pay7 x) (ix2 r k) = nrm (fun j => e (ix2 r j) * g (ix2 0 j)) (fun j => x (ix2 r j)) k := by
  pointwise [k0_pay12]
  simp only [pay9_row, pay8_row]
  rfl

theorem pay6_col (e x : FVec Ideal S256x512 .f32) (k : Fin 512) :
    k0_pay6 (F := Ideal) e x (ix2 0 k) = ∑ r, e (ix2 r k) * (x (ix2 r k) * Rms.inv D E fun j => x (ix2 r j)) := by
  pointwise [k0_pay6]
  simp only [pay4_row]

theorem pay10_col (e x : FVec Ideal S256x512 .f32) (k : Fin 512) :
    k0_pay10 (F := Ideal) e x (k0_pay7 x) (ix2 0 k) = ∑ r, e (ix2 r k) * (x (ix2 r k) * Rms.inv D E fun j => x (ix2 r j)) := by
  pointwise [k0_pay10]
  simp only [pay9_row]

/-- The two normed parts of a row of the joined latents. -/
def ql (l : FVec Ideal S2048x1088 .f32) (r : Fin 2048) (k : Fin 512) : EReal := l (ix2 r ⟨k.val, by omega⟩)
def kl (l : FVec Ideal S2048x1088 .f32) (r : Fin 2048) (k : Fin 512) : EReal := l (ix2 r ⟨512 + k.val, by omega⟩)

/-- The two parts as the body loads them from its block. -/
abbrev qld (c : Dev nD) (t : Fin cfg0.N) := View.ld (iblk m c 3 t) (Rect.unit ![0, 0] ![256, 512] inb_S256x1088_S256x512_0_0)
abbrev kld (c : Dev nD) (t : Fin cfg0.N) := View.ld (iblk m c 3 t) (Rect.unit ![0, 512] ![256, 512] inb_S256x1088_S256x512_0_512)

theorem qld_row (c : Dev nD) (t : Fin cfg0.N) (r : Fin 256) (k : Fin 512) : qld m c t (ix2 r k) = ql (la m c) (row t r) k := by
  refine Eq.trans ?_ (l_blk m c t r ⟨k.val, by omega⟩)
  refine congrArg (iblk m c 3 t) ?_
  funext i
  match i with
  | ⟨0, _⟩ => exact Fin.ext (by show 0 + 1 * r.val = r.val; omega)
  | ⟨1, _⟩ => exact Fin.ext (by show 0 + 1 * k.val = k.val; omega)

theorem kld_row (c : Dev nD) (t : Fin cfg0.N) (r : Fin 256) (k : Fin 512) : kld m c t (ix2 r k) = kl (la m c) (row t r) k := by
  refine Eq.trans ?_ (l_blk m c t r ⟨512 + k.val, by omega⟩)
  refine congrArg (iblk m c 3 t) ?_
  funext i
  match i with
  | ⟨0, _⟩ => exact Fin.ext (by show 0 + 1 * r.val = r.val; omega)
  | ⟨1, _⟩ => exact Fin.ext (by show 512 + 1 * k.val = 512 + k.val; omega)

/-- The gradient by a row of the joined latents, part by part. -/
def dl (q k : FVec Ideal S2048x512 .f32) (x : FVec Ideal S2048x64 .f32) (l : FVec Ideal S2048x1088 .f32) (g h : FVec Ideal S1x512 .f32)
    (r : Fin 2048) (a : Fin 1088) : EReal :=
  if h0 : a.val < 512 then nrm (fun j => q (ix2 r j) * g (ix2 0 j)) (ql l r) ⟨a.val, h0⟩
  else if h1 : a.val < 1024 then nrm (fun j => k (ix2 r j) * h (ix2 0 j)) (kl l r) ⟨a.val - 512, by omega⟩
  else Rope.back r.val (fun j => x (ix2 r j)) ⟨a.val - 1024, by omega⟩

theorem back_blk (c : Dev nD) (t : Fin cfg0.N) (r : Fin 256) (k : Fin 64) :
    k0_pay13 (F := Ideal) (iblk m c 2 t) (iblk m c 6 t) (iblk m c 7 t) (iblk m c 8 t) (ix2 r k)
      = Rope.back (row t r).val (fun j => ra m c (ix2 (row t r) j)) k := by
  pointwise [k0_pay13]
  simp only [r_blk, cos_blk, sin_blk, turn_blk]
  exact Rope.back_eq (row t r).val (fun j => ra m c (ix2 (row t r) j)) k

theorem qn_blk (c : Dev nD) (t : Fin cfg0.N) (r : Fin 256) (k : Fin 512) :
    k0_pay11 (F := Ideal) (k0_pay5 (iblk m c 0 t) (qld m c t) (iblk m c 4 t)) (ix2 r k)
      = nrm (fun j => qa m c (ix2 (row t r) j) * ga m c (ix2 0 j)) (ql (la m c) (row t r)) k := by
  pointwise [k0_pay11]
  rw [pay5_row]
  simp only [qld_row, q_blk, g_blk]

theorem kn_blk (c : Dev nD) (t : Fin cfg0.N) (r : Fin 256) (k : Fin 512) :
    k0_pay12 (F := Ideal) (iblk m c 1 t) (kld m c t) (iblk m c 5 t) (k0_pay7 (kld m c t)) (ix2 r k)
      = nrm (fun j => ka m c (ix2 (row t r) j) * ha m c (ix2 0 j)) (kl (la m c) (row t r)) k := by
  rw [pay12_row]
  simp only [kld_row, k_blk, h_blk]

theorem eta2 {a b : ℕ} (y : (⟨2, ![a, b]⟩ : Shape).Idx) : y = ix2 (y 0) (y 1) := by
  funext i
  fin_cases i <;> rfl

theorem eta1 (y : S1x512.Idx) : y = ix2 0 (y 1) := by
  funext i
  fin_cases i
  · exact Subsingleton.elim (α := Fin 1) _ _
  · rfl

/-- The three stores of the gradient's block: each piece holds its part, and the pieces cover the block. -/
theorem pieces (c : Dev nD) (t : Fin cfg0.N) (y : S256x1088.Idx) :
    View.canon (Val := Elt Ideal) (s := S256x1088) (e := .bf16)
      [⟨Rect.unit ![0, 1024] ![256, 64] inb_S256x1088_S256x64_0_1024,
          k0_pay13 (iblk m c 2 t) (iblk m c 6 t) (iblk m c 7 t) (iblk m c 8 t)⟩,
        ⟨Rect.unit ![0, 512] ![256, 512] inb_S256x1088_S256x512_0_512,
          k0_pay12 (iblk m c 1 t) (kld m c t) (iblk m c 5 t) (k0_pay7 (kld m c t))⟩,
        ⟨Rect.unit ![0, 0] ![256, 512] inb_S256x1088_S256x512_0_0,
          k0_pay11 (k0_pay5 (iblk m c 0 t) (qld m c t) (iblk m c 4 t))⟩] y
      = dl (qa m c) (ka m c) (ra m c) (la m c) (ga m c) (ha m c) (row t (y 0)) (y 1) := by
  have hy0 : (y 0).val < 256 := (y 0).isLt
  have hy1 : (y 1).val < 1088 := (y 1).isLt
  refine View.canon_apply_of_pieces (Val := Elt Ideal) (S := S256x1088) (e := .bf16) (fun y => dl (qa m c) (ka m c) (ra m c) (la m c) (ga m c) (ha m c) (row t (y 0)) (y 1)) _ ?_ y ?_
  · intro pc hpc x
    rcases List.mem_cons.mp hpc with rfl | hpc
    · have hx : (x 1).val < 64 := (x 1).isLt
      refine (congrArg _ (eta2 x)).trans ((back_blk m c t (x 0) (x 1)).trans ?_)
      have e0 : row t (((Rect.unit (s := S256x1088) ![0, 1024] ![256, 64] inb_S256x1088_S256x64_0_1024).emb x) 0) = row t (x 0) :=
        congrArg (row t) (Fin.ext (by show 0 + 1 * (x 0).val = (x 0).val; omega))
      have e1 : (((Rect.unit (s := S256x1088) ![0, 1024] ![256, 64] inb_S256x1088_S256x64_0_1024).emb x) 1).val = 1024 + (x 1).val := by
        show 1024 + 1 * (x 1).val = _; omega
      dsimp only
      unfold dl
      rw [dif_neg (by rw [e1]; omega), dif_neg (by rw [e1]; omega), e0]
      exact congrArg _ (Fin.ext (by dsimp only; omega))
    rcases List.mem_cons.mp hpc with rfl | hpc
    · have hx : (x 1).val < 512 := (x 1).isLt
      refine (congrArg _ (eta2 x)).trans ((kn_blk m c t (x 0) (x 1)).trans ?_)
      have e0 : row t (((Rect.unit (s := S256x1088) ![0, 512] ![256, 512] inb_S256x1088_S256x512_0_512).emb x) 0) = row t (x 0) :=
        congrArg (row t) (Fin.ext (by show 0 + 1 * (x 0).val = (x 0).val; omega))
      have e1 : (((Rect.unit (s := S256x1088) ![0, 512] ![256, 512] inb_S256x1088_S256x512_0_512).emb x) 1).val = 512 + (x 1).val := by
        show 512 + 1 * (x 1).val = _; omega
      dsimp only
      unfold dl
      rw [dif_neg (by rw [e1]; omega), dif_pos (by rw [e1]; omega), e0]
      exact congrArg _ (Fin.ext (by dsimp only; omega))
    rcases List.mem_cons.mp hpc with rfl | hpc
    · have hx : (x 1).val < 512 := (x 1).isLt
      refine (congrArg _ (eta2 x)).trans ((qn_blk m c t (x 0) (x 1)).trans ?_)
      have e0 : row t (((Rect.unit (s := S256x1088) ![0, 0] ![256, 512] inb_S256x1088_S256x512_0_0).emb x) 0) = row t (x 0) :=
        congrArg (row t) (Fin.ext (by show 0 + 1 * (x 0).val = (x 0).val; omega))
      have e1 : (((Rect.unit (s := S256x1088) ![0, 0] ![256, 512] inb_S256x1088_S256x512_0_0).emb x) 1).val = (x 1).val := by
        show 0 + 1 * (x 1).val = _; omega
      dsimp only
      unfold dl
      rw [dif_pos (by rw [e1]; omega), e0]
      exact congrArg _ (Fin.ext (by dsimp only; omega))
    nomatch hpc
  · by_cases h0 : (y 1).val < 512
    · refine ⟨_, List.mem_cons_of_mem _ (List.mem_cons_of_mem _ List.mem_cons_self), ?_⟩
      show y ∈ (Rect.unit (s := S256x1088) ![0, 0] ![256, 512] inb_S256x1088_S256x512_0_0).set
      rw [Rect.mem_set_unit]
      intro a
      match a with
      | ⟨0, _⟩ => show 0 ≤ (y 0).val ∧ (y 0).val < 0 + 256; omega
      | ⟨1, _⟩ => show 0 ≤ (y 1).val ∧ (y 1).val < 0 + 512; omega
    by_cases h1 : (y 1).val < 1024
    · refine ⟨_, List.mem_cons_of_mem _ List.mem_cons_self, ?_⟩
      show y ∈ (Rect.unit (s := S256x1088) ![0, 512] ![256, 512] inb_S256x1088_S256x512_0_512).set
      rw [Rect.mem_set_unit]
      intro a
      match a with
      | ⟨0, _⟩ => show 0 ≤ (y 0).val ∧ (y 0).val < 0 + 256; omega
      | ⟨1, _⟩ => show 512 ≤ (y 1).val ∧ (y 1).val < 512 + 512; omega
    · refine ⟨_, List.mem_cons_self, ?_⟩
      show y ∈ (Rect.unit (s := S256x1088) ![0, 1024] ![256, 64] inb_S256x1088_S256x64_0_1024).set
      rw [Rect.mem_set_unit]
      intro a
      match a with
      | ⟨0, _⟩ => show 0 ≤ (y 0).val ∧ (y 0).val < 0 + 256; omega
      | ⟨1, _⟩ => show 1024 ≤ (y 1).val ∧ (y 1).val < 1024 + 64; omega

set_option maxHeartbeats 4000000 in
theorem final_dl (c : Dev nD) : (dats m 0 c).arrAt 9 (cfgs 0).N
    = fun x => dl (qa m c) (ka m c) (ra m c) (la m c) (ga m c) (ha m c) (x 0) (x 1) := by
  refine (dats m 0 c).arrAt_eq_of_covers 9 _ (by decide +kernel) fun t _ y => ?_
  blk_simp
  rw [after0_9, emb9]
  by_cases h : t.val % 8 = 0
  · have ht : t.val < 8 := lt_of_lt_of_eq t.isLt N_0
    rw [outsAt0_A m c t h (by omega) h (by omega)]
    frame_out
    exact pieces m c t y
  · rw [outsAt0_B m c t h (by omega) h (by omega)]
    frame_out
    exact pieces m c t y

/-- One grid point's part of the two gradients by the norms' weights. -/
def dgPart (c : Dev nD) (t : Fin cfg0.N) (y : S1x512.Idx) : EReal :=
  ∑ r, qa m c (ix2 (row t r) (y 1)) * (ql (la m c) (row t r) (y 1) * Rms.inv D E (ql (la m c) (row t r)))

def dhPart (c : Dev nD) (t : Fin cfg0.N) (y : S1x512.Idx) : EReal :=
  ∑ r, ka m c (ix2 (row t r) (y 1)) * (kl (la m c) (row t r) (y 1) * Rms.inv D E (kl (la m c) (row t r)))

theorem dg_first (c : Dev nD) (t : Fin cfg0.N) (k : Fin 512) :
    k0_pay6 (F := Ideal) (iblk m c 0 t) (qld m c t) (ix2 0 k) = dgPart m c t (ix2 0 k) := by
  rw [pay6_col]
  simp only [qld_row, q_blk]
  rfl

theorem dh_first (c : Dev nD) (t : Fin cfg0.N) (k : Fin 512) :
    k0_pay10 (F := Ideal) (iblk m c 1 t) (kld m c t) (k0_pay7 (kld m c t)) (ix2 0 k) = dhPart m c t (ix2 0 k) := by
  rw [pay10_col]
  simp only [kld_row, k_blk]
  rfl

theorem dg_next (c : Dev nD) (t : Fin cfg0.N) (acc : FVec Ideal S1x512 .f32) (k : Fin 512) :
    k0_pay1 (F := Ideal) (k0_pay6 (iblk m c 0 t) (qld m c t)) acc (ix2 0 k) = acc (ix2 0 k) + dgPart m c t (ix2 0 k) := by
  pointwise [k0_pay1]
  rw [dg_first]

theorem dh_next (c : Dev nD) (t : Fin cfg0.N) (acc : FVec Ideal S1x512 .f32) (k : Fin 512) :
    k0_pay2 (F := Ideal) (k0_pay10 (iblk m c 1 t) (kld m c t) (k0_pay7 (kld m c t))) acc (ix2 0 k) = acc (ix2 0 k) + dhPart m c t (ix2 0 k) := by
  pointwise [k0_pay2]
  rw [dh_first]

theorem row_run (t : Fin cfg0.N) (ht : t.val % 8 = 7) (s : Fin 8) (r : Fin 256) (hl) {h} :
    row ⟨8 * (t.val / 8) + s.val, h⟩ r = ⟨s.val * 256 + r.val, hl⟩ :=
  Fin.ext (by unfold row; dsimp only; have := t.isLt; have hN : cfg0.N = 8 := N_0; omega)

set_option maxHeartbeats 4000000 in
theorem final_dg (c : Dev nD) : (dats m 0 c).arrAt 10 (cfgs 0).N
    = fun x => ∑ r, qa m c (ix2 r (x 1)) * (ql (la m c) r (x 1) * Rms.inv D E (ql (la m c) r)) := by
  refine (dats m 0 c).arrAt_eq_of_covers 10 _ (by decide +kernel) fun t hf y => ?_
  blk_simp
  rw [after0_10]
  refine (Pipeline.eq_sum_fin_of_reset_step_apply_of_flush (fun n h => (outsAt0 m c n h).2.1) 8 (fun _ => 0) (dgPart m c)
    (fun t h j => ?_) (fun t h j => ?_) t ((flush0_10 t).mp hf) _).trans ?_
  · have ht : t.val < 8 := lt_of_lt_of_eq t.isLt N_0
    rw [outsAt0_A m c t h (by omega) h (by omega)]
    frame_out
    rw [eta1 j]
    exact (dg_first m c t (j 1)).trans (zero_add _).symm
  · rw [outsAt0_B m c t h (by omega) h (by omega)]
    frame_out
    rw [eta1 j]
    exact dg_next m c t _ (j 1)
  · rw [zero_add, emb10]
    have ht : t.val % 8 = 7 := (flush0_10 t).mp hf
    refine Fin.sum_mul_add_congr (S := 8) (n := 256) fun s r hl => ?_
    rw [row_run t ht s r hl]
    rfl

set_option maxHeartbeats 4000000 in
theorem final_dh (c : Dev nD) : (dats m 0 c).arrAt 11 (cfgs 0).N
    = fun x => ∑ r, ka m c (ix2 r (x 1)) * (kl (la m c) r (x 1) * Rms.inv D E (kl (la m c) r)) := by
  refine (dats m 0 c).arrAt_eq_of_covers 11 _ (by decide +kernel) fun t hf y => ?_
  blk_simp
  rw [after0_11]
  refine (Pipeline.eq_sum_fin_of_reset_step_apply_of_flush (fun n h => (outsAt0 m c n h).2.2) 8 (fun _ => 0) (dhPart m c)
    (fun t h j => ?_) (fun t h j => ?_) t ((flush0_11 t).mp hf) _).trans ?_
  · have ht : t.val < 8 := lt_of_lt_of_eq t.isLt N_0
    rw [outsAt0_A m c t h (by omega) h (by omega)]
    frame_out
    rw [eta1 j]
    exact (dh_first m c t (j 1)).trans (zero_add _).symm
  · rw [outsAt0_B m c t h (by omega) h (by omega)]
    frame_out
    rw [eta1 j]
    exact dh_next m c t _ (j 1)
  · rw [zero_add, emb11]
    have ht : t.val % 8 = 7 := (flush0_11 t).mp hf
    refine Fin.sum_mul_add_congr (S := 8) (n := 256) fun s r hl => ?_
    rw [row_run t ht s r hl]
    rfl

section Reference

open Cert.LatentReferenceIdeal.Read

theorem ref_q (l : FVec Ideal S2048x1088 .f32) (r : Fin 2048) (k : Fin 512) : val_main_v0 (F := Ideal) l (ix2 r k) = ql l r k := by
  pointwise [val_main_v0]
  rfl

theorem ref_k (l : FVec Ideal S2048x1088 .f32) (r : Fin 2048) (k : Fin 512) : val_main_v1 (F := Ideal) l (ix2 r k) = kl l r k := by
  pointwise [val_main_v1]
  rfl

theorem ref_cos (r : Fin 2048) (k : Fin 32) : val_main_v20 (F := Ideal) (ix2 r k) = Ideal.cos (Rope.angle r k) := by
  pointwise [val_main_v20, val_main_v19, val_main_v18, val_main_v17, val_main_v16, val_main_v15, val_main_v14, val_main_v13,
    val_main_cst_3, val_main_v12, val_main_v11, val_main_cst_2, val_main_v10, val_main_v9, val_main_cst_1, val_main_v8, val_main_v7,
    val_main_cst_0, val_main_v6, val_main_v5, val_main_cst, val_main_v4, val_main_v3]
  rfl

theorem ref_sin (r : Fin 2048) (k : Fin 32) : val_main_v21 (F := Ideal) (ix2 r k) = Ideal.sin (Rope.angle r k) := by
  pointwise [val_main_v21, val_main_v19, val_main_v18, val_main_v17, val_main_v16, val_main_v15, val_main_v14, val_main_v13,
    val_main_cst_3, val_main_v12, val_main_v11, val_main_cst_2, val_main_v10, val_main_v9, val_main_cst_1, val_main_v8, val_main_v7,
    val_main_cst_0, val_main_v6, val_main_v5, val_main_cst, val_main_v4, val_main_v3]
  rfl

/-- The reference's rotary part: the two halves' gradients, each padded to the row, added. -/
theorem ref_back (x : FVec Ideal S2048x64 .f32) (r : Fin 2048) (k : Fin 64) :
    val_main_v76 (F := Ideal) x (ix2 r k) = Rope.back r.val (fun j => x (ix2 r j)) k := by
  pointwise [val_main_v76, val_main_v75, val_main_v74]
  unfold Rope.back
  by_cases h : k.val < 32
  · rw [dif_neg (by omega), dif_pos h, dif_pos h, Nat.mod_eq_of_lt h]
    pointwise [val_main_cst_12, val_main_v73, val_main_v72, val_main_v67, val_main_v65, val_main_v66]
    simp only [ref_cos, ref_sin]
    exact add_comm _ _
  · rw [dif_pos (by omega), dif_neg h, dif_neg h, show k.val % 32 = k.val - 32 by omega]
    pointwise [val_main_cst_13, val_main_v71, val_main_v70, val_main_v69, val_main_v68, val_main_v65, val_main_v66]
    simp only [ref_cos, ref_sin]
    have e : (⟨32 + (k.val - 32), by omega⟩ : Fin 64) = k := Fin.ext (by dsimp only; omega)
    rw [e, neg_mul]

theorem ref_rsq (l : FVec Ideal S2048x1088 .f32) (r : Fin 2048) : val_main_v30 (F := Ideal) l (ix2 r 0) = Rms.inv D E (ql l r) := by
  pointwise [val_main_v30, val_main_v29, val_main_v28, val_main_v27, val_main_v26, val_main_v25, val_main_v24, val_main_v23,
    val_main_cst_4, val_main_cst_5, val_main_cst_6]
  simp only [ref_q]
  rfl

theorem ref_cubeq (l : FVec Ideal S2048x1088 .f32) (r : Fin 2048) :
    val_main_v31 (F := Ideal) l (ix2 r 0) = Ideal.div (Rms.inv D E (ql l r)) (Rms.var D E (ql l r)) := by
  pointwise [val_main_v31]
  rw [ref_rsq]
  pointwise [val_main_v29, val_main_v28, val_main_v27, val_main_v26, val_main_v25, val_main_v24, val_main_v23,
    val_main_cst_4, val_main_cst_5, val_main_cst_6]
  simp only [ref_q]
  rfl

theorem ref_rsk (l : FVec Ideal S2048x1088 .f32) (r : Fin 2048) : val_main_v47 (F := Ideal) l (ix2 r 0) = Rms.inv D E (kl l r) := by
  pointwise [val_main_v47, val_main_v46, val_main_v45, val_main_v44, val_main_v43, val_main_v42, val_main_v41, val_main_v40,
    val_main_cst_8, val_main_cst_9, val_main_cst_10]
  simp only [ref_k]
  rfl

theorem ref_cubek (l : FVec Ideal S2048x1088 .f32) (r : Fin 2048) :
    val_main_v48 (F := Ideal) l (ix2 r 0) = Ideal.div (Rms.inv D E (kl l r)) (Rms.var D E (kl l r)) := by
  pointwise [val_main_v48]
  rw [ref_rsk]
  pointwise [val_main_v46, val_main_v45, val_main_v44, val_main_v43, val_main_v42, val_main_v41, val_main_v40,
    val_main_cst_8, val_main_cst_9, val_main_cst_10]
  simp only [ref_k]
  rfl

theorem ref_cotq (q : FVec Ideal S2048x512 .f32) (g : FVec Ideal S1x512 .f32) (r : Fin 2048) (k : Fin 512) :
    val_main_v102 (F := Ideal) q g (ix2 r k) = q (ix2 r k) * g (ix2 0 k) := by
  pointwise [val_main_v102, val_main_v101, val_main_v36, val_main_v22]

theorem ref_cotk (q : FVec Ideal S2048x512 .f32) (g : FVec Ideal S1x512 .f32) (r : Fin 2048) (k : Fin 512) :
    val_main_v81 (F := Ideal) q g (ix2 r k) = q (ix2 r k) * g (ix2 0 k) := by
  pointwise [val_main_v81, val_main_v80, val_main_v53, val_main_v39]

/-- The chain rule's form of the norm's gradient is the kernel's. -/
theorem nrm_eq (e x : Fin 512 → EReal) (k : Fin 512) :
    e k * Rms.inv D E x
        + x k * Ideal.div ((∑ j, x j * e j) * (Ideal.ofBits .f32 0xBF000000#32 * Ideal.div (Rms.inv D E x) (Rms.var D E x))) D
        + Ideal.div ((∑ j, x j * e j) * (Ideal.ofBits .f32 0xBF000000#32 * Ideal.div (Rms.inv D E x) (Rms.var D E x))) D * x k
      = nrm e x k := by
  obtain ⟨a, ha, h⟩ := Rms.eps
  unfold nrm D
  rw [Rms.mhalf, Rms.n512, show E = (a : EReal) from h]
  exact (Rms.grad (by norm_num) ha x e k).symm

theorem ref_nq (q : FVec Ideal S2048x512 .f32) (l : FVec Ideal S2048x1088 .f32) (g : FVec Ideal S1x512 .f32) (r : Fin 2048) (k : Fin 512) :
    val_main_v117 (F := Ideal) q l g (ix2 r k) = nrm (fun j => q (ix2 r j) * g (ix2 0 j)) (ql l r) k := by
  rw [← nrm_eq]
  pointwise [val_main_v117, val_main_v116, val_main_v115, val_main_v114, val_main_v113, val_main_v112, val_main_v111, val_main_v110,
    val_main_cst_22, val_main_cst_23, val_main_v109, val_main_v33, val_main_v32, val_main_cst_7, val_main_v106, val_main_v105,
    val_main_v104, val_main_cst_21, val_main_v108, val_main_v107]
  rw [Fin.sum_univ_one]
  simp only [ref_cotq, ref_rsq, ref_cubeq, ref_q]

theorem ref_nk (q : FVec Ideal S2048x512 .f32) (l : FVec Ideal S2048x1088 .f32) (g : FVec Ideal S1x512 .f32) (r : Fin 2048) (k : Fin 512) :
    val_main_v96 (F := Ideal) q l g (ix2 r k) = nrm (fun j => q (ix2 r j) * g (ix2 0 j)) (kl l r) k := by
  rw [← nrm_eq]
  pointwise [val_main_v96, val_main_v95, val_main_v94, val_main_v93, val_main_v92, val_main_v91, val_main_v90, val_main_v89,
    val_main_cst_17, val_main_cst_18, val_main_v88, val_main_v50, val_main_v49, val_main_cst_11, val_main_v85, val_main_v84,
    val_main_v83, val_main_cst_16, val_main_v87, val_main_v86]
  rw [Fin.sum_univ_one]
  simp only [ref_cotk, ref_rsk, ref_cubek, ref_k]

/-- The reference's gradient by the joined latents. -/
theorem ref_dl (q k : FVec Ideal S2048x512 .f32) (x : FVec Ideal S2048x64 .f32) (l : FVec Ideal S2048x1088 .f32) (g h : FVec Ideal S1x512 .f32) :
    val_main_v120 (F := Ideal) q k x l g h = fun y => dl q k x l g h (y 0) (y 1) := by
  funext y
  obtain ⟨r, a, rfl⟩ : ∃ (r : Fin 2048) (a : Fin 1088), y = ix2 r a := ⟨y 0, y 1, eta2 y⟩
  show _ = dl q k x l g h r a
  unfold dl
  pointwise [val_main_v120, val_main_v119]
  simp only [ref_nq, ref_nk, ref_back]
  by_cases h0 : a.val < 512
  · rw [dif_pos h0, dif_pos h0]
  · rw [dif_neg h0, dif_neg h0]
    by_cases h1 : a.val < 1024
    · rw [dif_pos (by omega), dif_pos h1]
    · rw [dif_neg (by omega), dif_neg h1]
      exact congrArg _ (Fin.ext (by dsimp only; omega))

theorem ref_dg (q : FVec Ideal S2048x512 .f32) (l : FVec Ideal S2048x1088 .f32) :
    val_main_v118 (F := Ideal) q l = fun x => ∑ r, q (ix2 r (x 1)) * (ql l r (x 1) * Rms.inv D E (ql l r)) := by
  funext x
  obtain ⟨k, rfl⟩ : ∃ k : Fin 512, x = ix2 0 k := ⟨x 1, eta1 x⟩
  show _ = ∑ r, q (ix2 r k) * (ql l r k * Rms.inv D E (ql l r))
  pointwise [val_main_v118, val_main_v103, val_main_cst_20, val_main_v100, val_main_v99, val_main_cst_19, val_main_v98, val_main_v35,
    val_main_v34]
  rw [Fin.sum_univ_one]
  simp only [ref_rsq, ref_q]
  exact Finset.sum_congr rfl fun r _ => mul_comm _ _

theorem ref_dh (q : FVec Ideal S2048x512 .f32) (l : FVec Ideal S2048x1088 .f32) :
    val_main_v97 (F := Ideal) q l = fun x => ∑ r, q (ix2 r (x 1)) * (kl l r (x 1) * Rms.inv D E (kl l r)) := by
  funext x
  obtain ⟨k, rfl⟩ : ∃ k : Fin 512, x = ix2 0 k := ⟨x 1, eta1 x⟩
  show _ = ∑ r, q (ix2 r k) * (kl l r k * Rms.inv D E (kl l r))
  pointwise [val_main_v97, val_main_v82, val_main_cst_15, val_main_v79, val_main_v78, val_main_cst_14, val_main_v77, val_main_v52,
    val_main_v51]
  rw [Fin.sum_univ_one]
  simp only [ref_rsk, ref_k]
  exact Finset.sum_congr rfl fun r _ => mul_comm _ _

end Reference

end Cert.LatentKernelIdeal.Value

namespace Cert.Proof.Latent

open Idealize.ShloMosaic Idealize.ShloMosaic.TcCoe Idealize.SL.Sem
open Cert.LatentKernelIdeal.Value

theorem frame_p : Cert.quiescent_LatentKernel := fun m ρ _ => Cert.LatentKernel.Gen.frame m ρ

theorem frame_pi : Cert.quiescent_LatentKernelIdeal := fun m ρ _ => Cert.LatentKernelIdeal.Gen.frame m ρ

theorem frame_ri : Cert.quiescent_LatentReferenceIdeal := fun m ρ _ =>
  (θ_run Cert.LatentReferenceIdeal.defs _ _).mono (fun r h => ⟨fun c => (h c).2.2.2,
      Idealize.ShloMosaic.sem_eq_zero_of_no_sems (by decide) r.2⟩) (Cert.LatentReferenceIdeal.Value.run (F := Ideal) m ρ)

set_option maxHeartbeats 4000000 in
/-- The gradient by the joined latents and those by the two norms' weights are those of `jax.vjp` of the two norms and the
    rotary embedding. -/
theorem value : Cert.algebraic_LatentKernelIdeal_LatentReferenceIdeal := by
  pair_intro
  · run_from Cert.LatentKernelIdeal.Gen.run_main m g
  · run_from Cert.LatentReferenceIdeal.Value.run m' g'
    · obtain ⟨h0, h1, h2, h3, h4, h5⟩ := hagree c
      rw [Cert.LatentReferenceIdeal.Read.val_main_v120_eq, h0, h1, h2, h3, h4, h5]
      exact (ref_dl _ _ _ _ _ _).trans (final_dl m c).symm
    · exact (ref_dg _ _).trans (final_dg m c).symm
    · exact (ref_dh _ _).trans (final_dh m c).symm

end Cert.Proof.Latent

end
-- ==== Proof.Mlafwd.lean ====
/- The latent attention's forward kernel: its blocks in the formulas of `MlaRef`, its result, and the claims. -/
module

public import proofs.«01_k».proof.Defs
public import proofs.«01_k».proof.Proof.MlaRef
public import proofs.«01_k».proof.Proof.Gen.MlafwdKernel.Frame
public import proofs.«01_k».proof.Proof.Gen.MlafwdKernelIdeal.Value
public import proofs.«01_k».proof.Proof.Gen.MlafwdReferenceIdeal.Read
public import Idealize.ShloMosaic.Lib.Pointwise
public import Idealize.ShloMosaic.Lib.Pipeline.ValueKit

@[expose] public section

set_option maxRecDepth 16384

noncomputable section

namespace Cert.MlafwdKernelIdeal.Value

open Cert.MlafwdKernelIdeal Cert.MlafwdKernelIdeal.Gen Idealize.ShloMosaic Idealize.ShloMosaic.TcCoe Idealize.SL.Sem
open Idealize.ShloMosaic.Pipeline (Dat)
open Cert.Proof.Mla (score weight prob top scale)

variable (m : (ℓ : Loc nD τ sig) → Buf (Elt Ideal) ℓ)

/-- Where each window's block lies: grid point `t` is head `t / 2`, half `t % 2` of the queries. -/
theorem idx : ∀ t : Fin cfg0.N, win0_0.index t = ![t.val / 2, t.val % 2, 0] ∧ win0_1.index t = ![t.val / 2, 0, 0]
    ∧ win0_2.index t = ![t.val / 2, 0, 0] ∧ win0_3.index t = ![t.val % 2, t.val / 2] :=
  (by decide +kernel : ∀ t : Fin grid0.N, _)

/-- The head of a grid point. -/
def head (t : Fin cfg0.N) : Fin 8 := ⟨t.val / 2, by have := t.isLt; have hN : cfg0.N = 16 := N_0; omega⟩

/-- The query that row `r` of a grid point's block holds. -/
def row (t : Fin cfg0.N) (r : Fin 1024) : Fin 2048 := ⟨t.val % 2 * 1024 + r.val, by omega⟩

/-- The arguments of a device. -/
abbrev qa (c : Dev nD) : FVec Ideal S1x2048x8x192 .f32 := m ((c : Thread nD τ).loc main_arg0)
abbrev ka (c : Dev nD) : FVec Ideal S1x2048x8x192 .f32 := m ((c : Thread nD τ).loc main_arg1)
abbrev va (c : Dev nD) : FVec Ideal S1x2048x8x128 .f32 := m ((c : Thread nD τ).loc main_arg2)

theorem q_blk (c : Dev nD) (t : Fin cfg0.N) (r : Fin 1024) (d : Fin 192) :
    iblk m c 0 t (ix3 0 r d) = qa m c (ix4 0 (row t r) (head t) d) := by
  unfold row head
  blk_point [iblk, V, idx t]

theorem k_blk (c : Dev nD) (t : Fin cfg0.N) (j : Fin 2048) (d : Fin 192) :
    iblk m c 1 t (ix3 0 j d) = ka m c (ix4 0 j (head t) d) := by
  unfold head
  blk_point [iblk, V, idx t]

theorem v_blk (c : Dev nD) (t : Fin cfg0.N) (j : Fin 2048) (e : Fin 128) :
    iblk m c 2 t (ix3 0 j e) = va m c (ix4 0 j (head t) e) := by
  unfold head
  blk_point [iblk, V, idx t]

/-- The head's output at a query: the values, weighed by the query's probabilities. -/
def attend (q k : FVec Ideal S1x2048x8x192 .f32) (v : FVec Ideal S1x2048x8x128 .f32) (h : Fin 8) (i : Fin 2048) (e : Fin 128) :
    EReal :=
  ∑ j, prob q k h i j * v (ix4 0 j h e)

/-- The output array: column `128 h + e` is coordinate `e` of head `h`. -/
def outArr (q k : FVec Ideal S1x2048x8x192 .f32) (v : FVec Ideal S1x2048x8x128 .f32) : FVec Ideal S2048x1024 .bf16 :=
  fun x => attend q k v ⟨(x 1).val / 128, by have h1 : (x 1).val < 1024 := (x 1).isLt; omega⟩ (x 0) ⟨(x 1).val % 128, by omega⟩

theorem o_blk (c : Dev nD) (t : Fin cfg0.N) (r : Fin 1024) (e : Fin 128) :
    k0_pay1 (F := Ideal) (iblk m c 0 t) (iblk m c 1 t) (iblk m c 2 t) (ix2 r e) = attend (qa m c) (ka m c) (va m c) (head t) (row t r) e := by
  pointwise [k0_pay1]
  simp only [q_blk, k_blk, v_blk]
  rfl

/-- Where a coordinate of a point's block lies in the output. -/
def col (t : Fin cfg0.N) (e : Fin 128) : Fin 1024 := ⟨(head t).val * 128 + e.val, by omega⟩

theorem out_at (q k : FVec Ideal S1x2048x8x192 .f32) (v : FVec Ideal S1x2048x8x128 .f32) (t : Fin cfg0.N) (r : Fin 1024) (e : Fin 128) :
    outArr q k v (ix2 (row t r) (col t e)) = attend q k v (head t) (row t r) e := by
  show attend q k v ⟨((head t).val * 128 + e.val) / 128, _⟩ (row t r) ⟨((head t).val * 128 + e.val) % 128, _⟩ = _
  congr 1
  · exact Fin.ext (by dsimp only; omega)
  · exact Fin.ext (by dsimp only; omega)

theorem emb3 (t : Fin cfg0.N) (y : S1024x128.Idx) : (win0_3.blk t).view.emb y = ix2 (row t (y 0)) (col t (y 1)) := by
  unfold col head row
  blk_ext [idx t]

theorem ix2_eta {a b : ℕ} (x : (⟨2, ![a, b]⟩ : Shape).Idx) : x = ix2 (x 0) (x 1) := by
  funext i
  fin_cases i <;> rfl

theorem final_out (c : Dev nD) : (dats m 0 c).arrAt 3 (cfgs 0).N = outArr (qa m c) (ka m c) (va m c) := by
  refine (dats m 0 c).arrAt_eq_of_covers 3 _ (by decide +kernel) fun t _ y => ?_
  blk_simp
  rw [after0_3]
  frame_out
  rw [emb3]
  exact ((congrArg _ (ix2_eta y)).trans (o_blk m c t (y 0) (y 1))).trans (out_at _ _ _ t (y 0) (y 1)).symm

/-- The reference's probabilities are those of the backward call's reference. -/
theorem ref_prob (q k : FVec Ideal S1x2048x8x192 .f32) (h : Fin 8) (i j : Fin 2048) :
    Cert.MlafwdReferenceIdeal.Read.val_main_v19 (F := Ideal) q k (ix4 0 h i j) = prob q k h i j :=
  Cert.Proof.Mla.r33 q k h i j

/-- The reference's output is the same array. -/
theorem ref_out (q k : FVec Ideal S1x2048x8x192 .f32) (v : FVec Ideal S1x2048x8x128 .f32) :
    Cert.MlafwdReferenceIdeal.Read.val_main_v24 (F := Ideal) q k v = outArr q k v := by
  funext x
  obtain ⟨i, j, rfl⟩ : ∃ (i : Fin 2048) (j : Fin 1024), x = ix2 i j := ⟨x 0, x 1, ix2_eta x⟩
  show _ = attend q k v ⟨j.val / 128, by omega⟩ i ⟨j.val % 128, by omega⟩
  pointwise [Cert.MlafwdReferenceIdeal.Read.val_main_v24, Cert.MlafwdReferenceIdeal.Read.val_main_v23, Cert.MlafwdReferenceIdeal.Read.val_main_v22,
    Cert.MlafwdReferenceIdeal.Read.val_main_v21, Cert.MlafwdReferenceIdeal.Read.val_main_v20]
  simp only [ref_prob]
  exact Finset.sum_congr rfl fun _ _ => mul_comm _ _

end Cert.MlafwdKernelIdeal.Value

namespace Cert.Proof.Mlafwd

open Idealize.ShloMosaic Idealize.ShloMosaic.TcCoe Idealize.SL.Sem

/-- The kernel at the bit level runs, leaves its arguments unchanged and ends quiescent. -/
theorem frame_p : Cert.quiescent_MlafwdKernel := fun m ρ _ => Cert.MlafwdKernel.Gen.frame m ρ

/-- The same of the kernel over the extended reals. -/
theorem frame_pi : Cert.quiescent_MlafwdKernelIdeal := fun m ρ _ => Cert.MlafwdKernelIdeal.Gen.frame m ρ

/-- The reference runs, leaves its arguments unchanged and has no semaphore. -/
theorem frame_ri : Cert.quiescent_MlafwdReferenceIdeal := fun m ρ _ =>
  (θ_run Cert.MlafwdReferenceIdeal.defs _ _).mono (fun r h => ⟨fun c => (h c).2,
      Idealize.ShloMosaic.sem_eq_zero_of_no_sems (by decide) r.2⟩) (Cert.MlafwdReferenceIdeal.Value.run (F := Ideal) m ρ)

/-- The latent attention's output is, over the extended reals, that of the reference's lines. -/
theorem value : Cert.algebraic_MlafwdKernelIdeal_MlafwdReferenceIdeal := by
  pair_intro
  · run_from Cert.MlafwdKernelIdeal.Gen.run_main m g
  · run_from Cert.MlafwdReferenceIdeal.Value.run m' g'
    obtain ⟨h0, h1, h2⟩ := hagree c
    rw [Cert.MlafwdReferenceIdeal.Read.val_main_v24_eq, h0, h1, h2]
    exact (Cert.MlafwdKernelIdeal.Value.ref_out _ _ _).trans (Cert.MlafwdKernelIdeal.Value.final_out m c).symm

end Cert.Proof.Mlafwd

end
-- ==== Proof.Rmsfwd.lean ====
/- The root-mean-square norm of the residual stream. -/
module

public import proofs.«01_k».proof.Defs
public import proofs.«01_k».proof.Proof.Gen.RmsfwdKernel.Frame
public import proofs.«01_k».proof.Proof.Gen.RmsfwdKernelIdeal.Value
public import proofs.«01_k».proof.Proof.Gen.RmsfwdReferenceIdeal.Read
public import proofs.«01_k».proof.Proof.Rms
public import Idealize.ShloMosaic.Lib.Pointwise
public import Idealize.ShloMosaic.Lib.Pipeline.ValueKit

@[expose] public section

set_option maxRecDepth 16384

noncomputable section

namespace Cert.RmsfwdKernelIdeal.Value

open Cert.RmsfwdKernelIdeal Cert.RmsfwdKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is block `t` of the rows. -/
theorem idx : ∀ t : Fin cfg0.N, win0_0.index t = ![t.val, 0] ∧ win0_1.index t = ![0, 0] ∧ win0_2.index t = ![t.val, 0] :=
  (by decide +kernel : ∀ t : Fin grid0.N, _)

/-- The row that row `r` of a grid point's block holds. -/
def row (t : Fin cfg0.N) (r : Fin 256) : Fin 2048 := ⟨t.val * 256 + r.val, by have := t.isLt; have hN : cfg0.N = 8 := N_0; omega⟩

/-- The arguments of a device: the rows and the weights. -/
abbrev va (c : Dev nD) : FVec Ideal S2048x2048 .f32 := m ((c : Thread nD τ).loc main_arg0)
abbrev ga (c : Dev nD) : FVec Ideal S1x2048 .f32 := m ((c : Thread nD τ).loc main_arg1)

theorem v_blk (c : Dev nD) (t : Fin cfg0.N) (r : Fin 256) (k : Fin 2048) : iblk m c 0 t (ix2 r k) = va m c (ix2 (row t r) k) := by
  unfold row
  blk_point [iblk, V, idx t]

theorem g_blk (c : Dev nD) (t : Fin cfg0.N) (k : Fin 2048) : iblk m c 1 t (ix2 0 k) = ga m c (ix2 0 k) := by
  blk_point [iblk, V, idx t]

theorem emb2 (t : Fin cfg0.N) (y : S256x2048.Idx) : (win0_2.blk t).view.emb y = ix2 (row t (y 0)) (y 1) := by
  unfold row
  blk_ext [idx t]

/-- The norm's factor of row `r`. -/
def rs (v : FVec Ideal S2048x2048 .f32) (r : Fin 2048) : EReal :=
  Rms.inv (Ideal.ofBits .f32 0x45000000#32) (Ideal.ofBits .f32 0x358637BD#32) fun k => v (ix2 r k)

/-- The normed rows. -/
def outArr (v : FVec Ideal S2048x2048 .f32) (g : FVec Ideal S1x2048 .f32) : FVec Ideal S2048x2048 .bf16 :=
  fun x => v (ix2 (x 0) (x 1)) * rs v (x 0) * g (ix2 0 (x 1))

theorem o_blk (c : Dev nD) (t : Fin cfg0.N) (r : Fin 256) (k : Fin 2048) :
    k0_pay1 (F := Ideal) (iblk m c 0 t) (iblk m c 1 t) (ix2 r k) = outArr (va m c) (ga m c) (ix2 (row t r) k) := by
  pointwise [k0_pay1]
  simp only [v_blk, g_blk]
  rfl

theorem ix2_eta {a b : ℕ} (x : (⟨2, ![a, b]⟩ : Shape).Idx) : x = ix2 (x 0) (x 1) := by
  funext i
  fin_cases i <;> rfl

theorem final_out (c : Dev nD) : (dats m 0 c).arrAt 2 (cfgs 0).N = outArr (va m c) (ga m c) := by
  refine (dats m 0 c).arrAt_eq_of_covers 2 _ (by decide +kernel) fun t _ y => ?_
  blk_simp
  rw [after0_2]
  frame_out
  rw [emb2]
  exact (congrArg _ (ix2_eta y)).trans (o_blk m c t (y 0) (y 1))

open Cert.RmsfwdReferenceIdeal.Read in
theorem ref_rs (v : FVec Ideal S2048x2048 .f32) (r : Fin 2048) : val_main_v8 (F := Ideal) v (ix2 r 0) = rs v r := by
  pointwise [val_main_v8, val_main_v7, val_main_v6, val_main_v5, val_main_v4, val_main_v3, val_main_v2, val_main_v1, val_main_cst,
    val_main_cst_0, val_main_cst_1]
  rfl

open Cert.RmsfwdReferenceIdeal.Read in
/-- The reference's normed rows are the same array. -/
theorem ref_out (v : FVec Ideal S2048x2048 .f32) (g : FVec Ideal S1x2048 .f32) : val_main_v14 (F := Ideal) v g = outArr v g := by
  funext x
  obtain ⟨i, j, rfl⟩ : ∃ (i : Fin 2048) (j : Fin 2048), x = ix2 i j := ⟨x 0, x 1, ix2_eta x⟩
  show _ = v (ix2 i j) * rs v i * g (ix2 0 j)
  pointwise [val_main_v14, val_main_v13, val_main_v12, val_main_v11, val_main_v10, val_main_v9, val_main_v0]
  rw [ref_rs]

end Cert.RmsfwdKernelIdeal.Value

namespace Cert.Proof.Rmsfwd

open Idealize.ShloMosaic Idealize.ShloMosaic.TcCoe Idealize.SL.Sem

/-- The kernel at the bit level runs, leaves its arguments unchanged and ends quiescent. -/
theorem frame_p : Cert.quiescent_RmsfwdKernel := fun m ρ _ => Cert.RmsfwdKernel.Gen.frame m ρ

/-- The same of the kernel over the extended reals. -/
theorem frame_pi : Cert.quiescent_RmsfwdKernelIdeal := fun m ρ _ => Cert.RmsfwdKernelIdeal.Gen.frame m ρ

/-- The reference runs, leaves its arguments unchanged and has no semaphore. -/
theorem frame_ri : Cert.quiescent_RmsfwdReferenceIdeal := fun m ρ _ =>
  (θ_run Cert.RmsfwdReferenceIdeal.defs _ _).mono (fun r h => ⟨fun c => (h c).2,
      Idealize.ShloMosaic.sem_eq_zero_of_no_sems (by decide) r.2⟩) (Cert.RmsfwdReferenceIdeal.Value.run (F := Ideal) m ρ)

/-- The normed rows are, over the extended reals, those of the reference's lines. -/
theorem value : Cert.algebraic_RmsfwdKernelIdeal_RmsfwdReferenceIdeal := by
  pair_intro
  · run_from Cert.RmsfwdKernelIdeal.Gen.run_main m g
  · run_from Cert.RmsfwdReferenceIdeal.Value.run m' g'
    exact (Cert.RmsfwdKernelIdeal.Value.ref_out _ _).trans (Cert.RmsfwdKernelIdeal.Value.final_out m c).symm

end Cert.Proof.Rmsfwd

end
-- ==== Proof.Up.lean ====
/- The up-projections and the hidden layer of a half-step SwiGLU. -/
module

public import proofs.«01_k».proof.Defs
public import proofs.«01_k».proof.Proof.Gen.UpKernel.Frame
public import proofs.«01_k».proof.Proof.Gen.UpKernelIdeal.Value
public import proofs.«01_k».proof.Proof.Gen.UpReferenceIdeal.Read
public import Idealize.ShloMosaic.Lib.Pointwise
public import Idealize.ShloMosaic.Lib.Pipeline.ValueKit

@[expose] public section

set_option maxRecDepth 16384

noncomputable section

namespace Cert.UpKernelIdeal.Value

open Cert.UpKernelIdeal Cert.UpKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t / 2`, half `t % 2` of the rows. -/
theorem idx : ∀ t : Fin cfg0.N, win0_0.index t = ![t.val % 2, 0] ∧ win0_1.index t = ![t.val / 2, 0, 0]
    ∧ win0_2.index t = ![t.val % 2, 0] ∧ win0_3.index t = ![t.val / 2, 0, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

/-- The column group of a grid point. -/
def grp (t : Fin cfg0.N) : Fin 8 := ⟨t.val / 2, by have := t.isLt; have hN : cfg0.N = 16 := N_0; omega⟩

/-- The row that row `r` of a grid point's block holds. -/
def row (t : Fin cfg0.N) (r : Fin 1024) : Fin 2048 := ⟨t.val % 2 * 1024 + r.val, by omega⟩

/-- Column `f` of group `j`. -/
def col (j : Fin 8) (f : Fin 704) : Fin 5632 := ⟨j.val * 704 + f.val, by omega⟩

/-- The arguments of a device: the normed rows and the two up-projections. -/
abbrev na (c : Dev nD) : FVec Ideal S2048x2048 .f32 := m ((c : Thread nD τ).loc main_arg0)
abbrev wga (c : Dev nD) : FVec Ideal S2048x5632 .f32 := m ((c : Thread nD τ).loc main_arg1)
abbrev wua (c : Dev nD) : FVec Ideal S2048x5632 .f32 := m ((c : Thread nD τ).loc main_arg2)

theorem n_blk (c : Dev nD) (t : Fin cfg0.N) (r : Fin 1024) (k : Fin 2048) : iblk m c 0 t (ix2 r k) = na m c (ix2 (row t r) k) := by
  unfold row
  blk_point [iblk, V, idx t]

theorem n_blk' (c : Dev nD) (t : Fin cfg0.N) (r : Fin 1024) (k : Fin 2048) : iblk m c 2 t (ix2 r k) = na m c (ix2 (row t r) k) := by
  unfold row
  blk_point [iblk, V, idx t]

theorem wg_blk (c : Dev nD) (t : Fin cfg0.N) (f : Fin 704) (k : Fin 2048) :
    iblk m c 1 t (ix3 0 f k) = wga m c (ix2 k (col (grp t) f)) := by
  unfold col grp
  blk_point [iblk, V, idx t]

theorem wu_blk (c : Dev nD) (t : Fin cfg0.N) (f : Fin 704) (k : Fin 2048) :
    iblk m c 3 t (ix3 0 f k) = wua m c (ix2 k (col (grp t) f)) := by
  unfold col grp
  blk_point [iblk, V, idx t]

theorem emb4 (t : Fin cfg0.N) (y : S1x1024x704.Idx) :
    ((View.whole main_v7_0).slice (win0_4.rect t)).emb y = ix3 (grp t) (row t (y 1)) (y 2) := by
  unfold grp row
  blk_ext [idx t]

theorem emb5 (t : Fin cfg0.N) (y : S1x1024x704.Idx) :
    ((View.whole main_v7_1).slice (win0_5.rect t)).emb y = ix3 (grp t) (row t (y 1)) (y 2) := by
  unfold grp row
  blk_ext [idx t]

theorem emb6 (t : Fin cfg0.N) (y : S1x1024x704.Idx) :
    ((View.whole main_v7_2).slice (win0_6.rect t)).emb y = ix3 (grp t) (row t (y 1)) (y 2) := by
  unfold grp row
  blk_ext [idx t]

/-- An up-projection at row `r` and column `f`. -/
def up (n : FVec Ideal S2048x2048 .f32) (w : FVec Ideal S2048x5632 .f32) (r : Fin 2048) (f : Fin 5632) : EReal :=
  ∑ k, n (ix2 r k) * w (ix2 k f)

/-- The two projections in the layout of the column groups, and the hidden layer. -/
def upArr (n : FVec Ideal S2048x2048 .f32) (w : FVec Ideal S2048x5632 .f32) : FVec Ideal S8x2048x704 .bf16 :=
  fun x => up n w (x 1) (col (x 0) (x 2))
def hidArr (n : FVec Ideal S2048x2048 .f32) (wg wu : FVec Ideal S2048x5632 .f32) : FVec Ideal S8x2048x704 .bf16 :=
  fun x => up n wg (x 1) (col (x 0) (x 2)) * Ideal.logistic (up n wg (x 1) (col (x 0) (x 2))) * up n wu (x 1) (col (x 0) (x 2))

theorem g_sum (c : Dev nD) (t : Fin cfg0.N) (r : Fin 1024) (f : Fin 704) :
    k0_pay1 (F := Ideal) (iblk m c 0 t) (iblk m c 1 t) (ix2 r f) = up (na m c) (wga m c) (row t r) (col (grp t) f) := by
  pointwise [k0_pay1]
  simp only [n_blk, wg_blk]
  rfl

theorem u_sum (c : Dev nD) (t : Fin cfg0.N) (r : Fin 1024) (f : Fin 704) :
    k0_pay2 (F := Ideal) (iblk m c 2 t) (iblk m c 3 t) (ix2 r f) = up (na m c) (wua m c) (row t r) (col (grp t) f) := by
  pointwise [k0_pay2]
  simp only [n_blk', wu_blk]
  rfl

theorem eta3 (y : S1x1024x704.Idx) : y = ix3 0 (y 1) (y 2) := by
  funext i
  fin_cases i
  · exact Subsingleton.elim (α := Fin 1) _ _
  · rfl
  · rfl

theorem g_blk (c : Dev nD) (t : Fin cfg0.N) (r : Fin 1024) (f : Fin 704) :
    k0_pay3 (F := Ideal) (iblk m c 0 t) (iblk m c 1 t) (ix3 0 r f) = upArr (na m c) (wga m c) (ix3 (grp t) (row t r) f) := by
  pointwise [k0_pay3]
  rw [g_sum]
  rfl

theorem u_blk (c : Dev nD) (t : Fin cfg0.N) (r : Fin 1024) (f : Fin 704) :
    k0_pay4 (F := Ideal) (iblk m c 2 t) (iblk m c 3 t) (ix3 0 r f) = upArr (na m c) (wua m c) (ix3 (grp t) (row t r) f) := by
  pointwise [k0_pay4]
  rw [u_sum]
  rfl

theorem h_blk (c : Dev nD) (t : Fin cfg0.N) (r : Fin 1024) (f : Fin 704) :
    k0_pay5 (F := Ideal) (iblk m c 0 t) (iblk m c 1 t) (iblk m c 2 t) (iblk m c 3 t) (ix3 0 r f)
      = hidArr (na m c) (wga m c) (wua m c) (ix3 (grp t) (row t r) f) := by
  pointwise [k0_pay5]
  rw [g_sum, u_sum]
  rfl

theorem final_g (c : Dev nD) : (dats m 0 c).arrAt 4 (cfgs 0).N = upArr (na m c) (wga m c) := by
  refine (dats m 0 c).arrAt_eq_of_covers 4 _ (by decide +kernel) fun t _ y => ?_
  blk_simp
  rw [after0_4]; frame_out
  rw [emb4]
  exact (congrArg _ (eta3 y)).trans (g_blk m c t (y 1) (y 2))

theorem final_u (c : Dev nD) : (dats m 0 c).arrAt 5 (cfgs 0).N = upArr (na m c) (wua m c) := by
  refine (dats m 0 c).arrAt_eq_of_covers 5 _ (by decide +kernel) fun t _ y => ?_
  blk_simp
  rw [after0_5]; frame_out
  rw [emb5]
  exact (congrArg _ (eta3 y)).trans (u_blk m c t (y 1) (y 2))

theorem final_h (c : Dev nD) : (dats m 0 c).arrAt 6 (cfgs 0).N = hidArr (na m c) (wga m c) (wua m c) := by
  refine (dats m 0 c).arrAt_eq_of_covers 6 _ (by decide +kernel) fun t _ y => ?_
  blk_simp
  rw [after0_6]; frame_out
  rw [emb6]
  exact (congrArg _ (eta3 y)).trans (h_blk m c t (y 1) (y 2))

open Cert.UpReferenceIdeal.Read in
theorem ref_up (n : FVec Ideal S2048x2048 .f32) (w : FVec Ideal S2048x5632 .f32) (r : Fin 2048) (f : Fin 5632) :
    val_main_v0 (F := Ideal) n w (ix2 r f) = up n w r f := by
  pointwise [val_main_v0]
  rfl

open Cert.UpReferenceIdeal.Read in
/-- The reference's first projection. -/
theorem ref_g (n : FVec Ideal S2048x2048 .f32) (w : FVec Ideal S2048x5632 .f32) : val_main_v4 (F := Ideal) n w = upArr n w := by
  funext x
  obtain ⟨j, r, f, rfl⟩ : ∃ (j : Fin 8) (r : Fin 2048) (f : Fin 704), x = ix3 j r f :=
    ⟨x 0, x 1, x 2, by funext i; fin_cases i <;> rfl⟩
  show _ = up n w r (col j f)
  rw [← ref_up]
  unfold col
  pointwise [val_main_v4, val_main_v3, val_main_v2]

/-- The reference's second projection is the same stage of other arguments. -/
theorem ref_u (n : FVec Ideal S2048x2048 .f32) (w : FVec Ideal S2048x5632 .f32) :
    Cert.UpReferenceIdeal.Read.val_main_v7 (F := Ideal) n w = upArr n w :=
  ref_g n w

open Cert.UpReferenceIdeal.Read in
/-- The reference's hidden layer. -/
theorem ref_h (n : FVec Ideal S2048x2048 .f32) (wg wu : FVec Ideal S2048x5632 .f32) :
    val_main_v12 (F := Ideal) n wg wu = hidArr n wg wu := by
  funext x
  obtain ⟨j, r, f, rfl⟩ : ∃ (j : Fin 8) (r : Fin 2048) (f : Fin 704), x = ix3 j r f :=
    ⟨x 0, x 1, x 2, by funext i; fin_cases i <;> rfl⟩
  show _ = up n wg r (col j f) * Ideal.logistic (up n wg r (col j f)) * up n wu r (col j f)
  have e : val_main_v12 (F := Ideal) n wg wu (ix3 j r f) = val_main_v9 (F := Ideal) n wg wu (ix2 r (col j f)) := by
    unfold col
    pointwise [val_main_v12, val_main_v11, val_main_v10]
  rw [e, ← ref_up, ← ref_up]
  pointwise [val_main_v9, val_main_v8, val_main_call0_v5, val_main_call0_v4, val_main_call0_v3, val_main_call0_v2,
    val_main_call0_v1, val_main_call0_v0, val_main_call0_cst, val_main_call0_cst_0]
  rfl

end Cert.UpKernelIdeal.Value

namespace Cert.Proof.Up

open Idealize.ShloMosaic Idealize.ShloMosaic.TcCoe Idealize.SL.Sem

/-- The kernel at the bit level runs, leaves its arguments unchanged and ends quiescent. -/
theorem frame_p : Cert.quiescent_UpKernel := fun m ρ _ => Cert.UpKernel.Gen.frame m ρ

/-- The same of the kernel over the extended reals. -/
theorem frame_pi : Cert.quiescent_UpKernelIdeal := fun m ρ _ => Cert.UpKernelIdeal.Gen.frame m ρ

/-- The reference runs, leaves its arguments unchanged and has no semaphore. -/
theorem frame_ri : Cert.quiescent_UpReferenceIdeal := fun m ρ _ =>
  (θ_run Cert.UpReferenceIdeal.defs _ _).mono (fun r h => ⟨fun c => (h c).2.2.2,
      Idealize.ShloMosaic.sem_eq_zero_of_no_sems (by decide) r.2⟩) (Cert.UpReferenceIdeal.Value.run (F := Ideal) m ρ)

/-- The two projections and the hidden layer are, over the extended reals, those of the reference's lines. -/
theorem value : Cert.algebraic_UpKernelIdeal_UpReferenceIdeal := by
  pair_intro
  · run_from Cert.UpKernelIdeal.Gen.run_main m g
  · run_from Cert.UpReferenceIdeal.Value.run m' g'
    · exact (Cert.UpKernelIdeal.Value.ref_g _ _).trans (Cert.UpKernelIdeal.Value.final_g m c).symm
    · exact (Cert.UpKernelIdeal.Value.ref_u _ _).trans (Cert.UpKernelIdeal.Value.final_u m c).symm
    · exact (Cert.UpKernelIdeal.Value.ref_h _ _ _).trans (Cert.UpKernelIdeal.Value.final_h m c).symm

end Cert.Proof.Up

end
-- ==== Proof.Merge.lean ====
/- The projections of the two mixers' outputs and their gated sum. -/
module

public import proofs.«01_k».proof.Defs
public import proofs.«01_k».proof.Proof.Gen.MergeKernel.Frame
public import proofs.«01_k».proof.Proof.Gen.MergeKernelIdeal.Value
public import proofs.«01_k».proof.Proof.Gen.MergeReferenceIdeal.Read
public import Idealize.ShloMosaic.Lib.Pointwise
public import Idealize.ShloMosaic.Lib.Pipeline.ValueKit

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t / 2`, half `t % 2` of the rows. -/
theorem idx : ∀ t : Fin cfg0.N, win0_0.index t = ![t.val % 2, 0] ∧ win0_1.index t = ![t.val / 2, 0, 0]
    ∧ win0_2.index t = ![t.val % 2, 0] ∧ win0_3.index t = ![t.val / 2, 0, 0] ∧ win0_4.index t = ![t.val % 2, t.val / 2]
    ∧ win0_5.index t = ![t.val % 2, t.val / 2] ∧ win0_6.index t = ![t.val / 2, t.val % 2, 0]
    ∧ win0_7.index t = ![t.val / 2, t.val % 2, 0] ∧ win0_8.index t = ![t.val / 2, t.val % 2, 0] :=
  (by decide +kernel : ∀ t : Fin grid0.N, _)

/-- The column group of a grid point. -/
def grp (t : Fin cfg0.N) : Fin 8 := ⟨t.val / 2, by have := t.isLt; have hN : cfg0.N = 16 := N_0; omega⟩

/-- The row that row `r` of a grid point's block holds. -/
def row (t : Fin cfg0.N) (r : Fin 1024) : Fin 2048 := ⟨t.val % 2 * 1024 + r.val, by omega⟩

/-- Column `f` of group `j`. -/
def col (j : Fin 8) (f : Fin 256) : Fin 2048 := ⟨j.val * 256 + f.val, by omega⟩

/-- The arguments of a device: the two mixers' outputs, their projections and the two gates. -/
abbrev xa (c : Dev nD) : FVec Ideal S2048x1024 .f32 := m ((c : Thread nD τ).loc main_arg0)
abbrev xb (c : Dev nD) : FVec Ideal S2048x1024 .f32 := m ((c : Thread nD τ).loc main_arg1)
abbrev wa (c : Dev nD) : FVec Ideal S1024x2048 .f32 := m ((c : Thread nD τ).loc main_arg2)
abbrev wb (c : Dev nD) : FVec Ideal S1024x2048 .f32 := m ((c : Thread nD τ).loc main_arg3)
abbrev ga (c : Dev nD) : FVec Ideal S2048x2048 .f32 := m ((c : Thread nD τ).loc main_arg4)
abbrev gb (c : Dev nD) : FVec Ideal S2048x2048 .f32 := m ((c : Thread nD τ).loc main_arg5)

theorem xa_blk (c : Dev nD) (t : Fin cfg0.N) (r : Fin 1024) (k : Fin 1024) : iblk m c 0 t (ix2 r k) = xa m c (ix2 (row t r) k) := by
  unfold row
  blk_point [iblk, V, idx t]

theorem xb_blk (c : Dev nD) (t : Fin cfg0.N) (r : Fin 1024) (k : Fin 1024) : iblk m c 2 t (ix2 r k) = xb m c (ix2 (row t r) k) := by
  unfold row
  blk_point [iblk, V, idx t]

theorem wa_blk (c : Dev nD) (t : Fin cfg0.N) (k : Fin 1024) (f : Fin 256) :
    iblk m c 1 t (ix3 0 k f) = wa m c (ix2 k (col (grp t) f)) := by
  unfold col grp
  blk_point [iblk, V, idx t]

theorem wb_blk (c : Dev nD) (t : Fin cfg0.N) (k : Fin 1024) (f : Fin 256) :
    iblk m c 3 t (ix3 0 k f) = wb m c (ix2 k (col (grp t) f)) := by
  unfold col grp
  blk_point [iblk, V, idx t]

theorem ga_blk (c : Dev nD) (t : Fin cfg0.N) (r : Fin 1024) (f : Fin 256) :
    iblk m c 4 t (ix2 r f) = ga m c (ix2 (row t r) (col (grp t) f)) := by
  unfold row col grp
  blk_point [iblk, V, idx t]

theorem gb_blk (c : Dev nD) (t : Fin cfg0.N) (r : Fin 1024) (f : Fin 256) :
    iblk m c 5 t (ix2 r f) = gb m c (ix2 (row t r) (col (grp t) f)) := by
  unfold row col grp
  blk_point [iblk, V, idx t]

theorem emb6 (t : Fin cfg0.N) (y : S1x1024x256.Idx) :
    ((View.whole main_v8_0).slice (win0_6.rect t)).emb y = ix3 (grp t) (row t (y 1)) (y 2) := by
  unfold grp row
  blk_ext [idx t]

theorem emb7 (t : Fin cfg0.N) (y : S1x1024x256.Idx) :
    ((View.whole main_v8_1).slice (win0_7.rect t)).emb y = ix3 (grp t) (row t (y 1)) (y 2) := by
  unfold grp row
  blk_ext [idx t]

theorem emb8 (t : Fin cfg0.N) (y : S1x1024x256.Idx) :
    ((View.whole main_v8_2).slice (win0_8.rect t)).emb y = ix3 (grp t) (row t (y 1)) (y 2) := by
  unfold grp row
  blk_ext [idx t]

/-- A mixer's projected output at row `r` and column `f`. -/
def prj (x : FVec Ideal S2048x1024 .f32) (w : FVec Ideal S1024x2048 .f32) (r : Fin 2048) (f : Fin 2048) : EReal :=
  ∑ k, x (ix2 r k) * w (ix2 k f)

/-- The projected outputs in the layout of the column groups, and their gated sum. -/
def prjArr (x : FVec Ideal S2048x1024 .f32) (w : FVec Ideal S1024x2048 .f32) : FVec Ideal S8x2048x256 .bf16 :=
  fun x' => prj x w (x' 1) (col (x' 0) (x' 2))
def sumArr (x y : FVec Ideal S2048x1024 .f32) (wx wy : FVec Ideal S1024x2048 .f32) (g h : FVec Ideal S2048x2048 .f32) :
    FVec Ideal S8x2048x256 .bf16 := fun x' =>
  Ideal.logistic (g (ix2 (x' 1) (col (x' 0) (x' 2)))) * prj x wx (x' 1) (col (x' 0) (x' 2))
    + Ideal.logistic (h (ix2 (x' 1) (col (x' 0) (x' 2)))) * prj y wy (x' 1) (col (x' 0) (x' 2))

theorem a_sum (c : Dev nD) (t : Fin cfg0.N) (r : Fin 1024) (f : Fin 256) :
    k0_pay1 (F := Ideal) (iblk m c 0 t) (iblk m c 1 t) (ix2 r f) = prj (xa m c) (wa m c) (row t r) (col (grp t) f) := by
  pointwise [k0_pay1]
  simp only [xa_blk, wa_blk]
  rfl

theorem b_sum (c : Dev nD) (t : Fin cfg0.N) (r : Fin 1024) (f : Fin 256) :
    k0_pay2 (F := Ideal) (iblk m c 2 t) (iblk m c 3 t) (ix2 r f) = prj (xb m c) (wb m c) (row t r) (col (grp t) f) := by
  pointwise [k0_pay2]
  simp only [xb_blk, wb_blk]
  rfl

theorem eta3 (y : S1x1024x256.Idx) : y = ix3 0 (y 1) (y 2) := by
  funext i
  fin_cases i
  · exact Subsingleton.elim (α := Fin 1) _ _
  · rfl
  · rfl

theorem a_blk (c : Dev nD) (t : Fin cfg0.N) (r : Fin 1024) (f : Fin 256) :
    k0_pay3 (F := Ideal) (iblk m c 0 t) (iblk m c 1 t) (ix3 0 r f) = prjArr (xa m c) (wa m c) (ix3 (grp t) (row t r) f) := by
  pointwise [k0_pay3]
  rw [a_sum]
  rfl

theorem b_blk (c : Dev nD) (t : Fin cfg0.N) (r : Fin 1024) (f : Fin 256) :
    k0_pay4 (F := Ideal) (iblk m c 2 t) (iblk m c 3 t) (ix3 0 r f) = prjArr (xb m c) (wb m c) (ix3 (grp t) (row t r) f) := by
  pointwise [k0_pay4]
  rw [b_sum]
  rfl

theorem s_blk (c : Dev nD) (t : Fin cfg0.N) (r : Fin 1024) (f : Fin 256) :
    k0_pay5 (F := Ideal) (iblk m c 0 t) (iblk m c 1 t) (iblk m c 2 t) (iblk m c 3 t) (iblk m c 4 t) (iblk m c 5 t) (ix3 0 r f)
      = sumArr (xa m c) (xb m c) (wa m c) (wb m c) (ga m c) (gb m c) (ix3 (grp t) (row t r) f) := by
  pointwise [k0_pay5]
  rw [a_sum, b_sum, ga_blk, gb_blk]
  rfl

theorem final_a (c : Dev nD) : (dats m 0 c).arrAt 6 (cfgs 0).N = prjArr (xa m c) (wa m c) := by
  refine (dats m 0 c).arrAt_eq_of_covers 6 _ (by decide +kernel) fun t _ y => ?_
  blk_simp
  rw [after0_6]; frame_out
  rw [emb6]
  exact (congrArg _ (eta3 y)).trans (a_blk m c t (y 1) (y 2))

theorem final_b (c : Dev nD) : (dats m 0 c).arrAt 7 (cfgs 0).N = prjArr (xb m c) (wb m c) := by
  refine (dats m 0 c).arrAt_eq_of_covers 7 _ (by decide +kernel) fun t _ y => ?_
  blk_simp
  rw [after0_7]; frame_out
  rw [emb7]
  exact (congrArg _ (eta3 y)).trans (b_blk m c t (y 1) (y 2))

theorem final_s (c : Dev nD) : (dats m 0 c).arrAt 8 (cfgs 0).N
    = sumArr (xa m c) (xb m c) (wa m c) (wb m c) (ga m c) (gb m c) := by
  refine (dats m 0 c).arrAt_eq_of_covers 8 _ (by decide +kernel) fun t _ y => ?_
  blk_simp
  rw [after0_8]; frame_out
  rw [emb8]
  exact (congrArg _ (eta3 y)).trans (s_blk m c t (y 1) (y 2))

open Cert.MergeReferenceIdeal.Read in
theorem ref_prj (x : FVec Ideal S2048x1024 .f32) (w : FVec Ideal S1024x2048 .f32) (r : Fin 2048) (f : Fin 2048) :
    val_main_v0 (F := Ideal) x w (ix2 r f) = prj x w r f := by
  pointwise [val_main_v0]
  rfl

open Cert.MergeReferenceIdeal.Read in
/-- The reference's first projected output. -/
theorem ref_a (x : FVec Ideal S2048x1024 .f32) (w : FVec Ideal S1024x2048 .f32) : val_main_v4 (F := Ideal) x w = prjArr x w := by
  funext x'
  obtain ⟨j, r, f, rfl⟩ : ∃ (j : Fin 8) (r : Fin 2048) (f : Fin 256), x' = ix3 j r f :=
    ⟨x' 0, x' 1, x' 2, by funext i; fin_cases i <;> rfl⟩
  show _ = prj x w r (col j f)
  rw [← ref_prj]
  unfold col
  pointwise [val_main_v4, val_main_v3, val_main_v2]

/-- The reference's second projected output is the same stage of other arguments. -/
theorem ref_b (x : FVec Ideal S2048x1024 .f32) (w : FVec Ideal S1024x2048 .f32) :
    Cert.MergeReferenceIdeal.Read.val_main_v7 (F := Ideal) x w = prjArr x w :=
  ref_a x w

open Cert.MergeReferenceIdeal.Read in
/-- The reference's gated sum. -/
theorem ref_s (x y : FVec Ideal S2048x1024 .f32) (wx wy : FVec Ideal S1024x2048 .f32) (g h : FVec Ideal S2048x2048 .f32) :
    val_main_v25 (F := Ideal) x y wx wy g h = sumArr x y wx wy g h := by
  funext x'
  obtain ⟨j, r, f, rfl⟩ : ∃ (j : Fin 8) (r : Fin 2048) (f : Fin 256), x' = ix3 j r f :=
    ⟨x' 0, x' 1, x' 2, by funext i; fin_cases i <;> rfl⟩
  show _ = Ideal.logistic (g (ix2 r (col j f))) * prj x wx r (col j f) + Ideal.logistic (h (ix2 r (col j f))) * prj y wy r (col j f)
  have e : val_main_v25 (F := Ideal) x y wx wy g h (ix3 j r f) = val_main_v22 (F := Ideal) x y wx wy g h (ix2 r (col j f)) := by
    unfold col
    pointwise [val_main_v25, val_main_v24, val_main_v23]
  rw [e, ← ref_prj, ← ref_prj]
  pointwise [val_main_v22, val_main_v21, val_main_v20, val_main_v19, val_main_v18, val_main_v17, val_main_v16, val_main_v15,
    val_main_v14, val_main_v13, val_main_v12, val_main_v11, val_main_v10, val_main_v9, val_main_v8, val_main_cst, val_main_cst_0,
    val_main_cst_1, val_main_cst_2]
  rfl

end Cert.MergeKernelIdeal.Value

namespace Cert.Proof.Merge

open Idealize.ShloMosaic Idealize.ShloMosaic.TcCoe Idealize.SL.Sem

/-- The kernel at the bit level runs, leaves its arguments unchanged and ends quiescent. -/
theorem frame_p : Cert.quiescent_MergeKernel := fun m ρ _ => Cert.MergeKernel.Gen.frame m ρ

/-- The same of the kernel over the extended reals. -/
theorem frame_pi : Cert.quiescent_MergeKernelIdeal := fun m ρ _ => Cert.MergeKernelIdeal.Gen.frame m ρ

/-- The reference runs, leaves its arguments unchanged and has no semaphore. -/
theorem frame_ri : Cert.quiescent_MergeReferenceIdeal := fun m ρ _ =>
  (θ_run Cert.MergeReferenceIdeal.defs _ _).mono (fun r h => ⟨fun c => (h c).2.2.2,
      Idealize.ShloMosaic.sem_eq_zero_of_no_sems (by decide) r.2⟩) (Cert.MergeReferenceIdeal.Value.run (F := Ideal) m ρ)

/-- The mixers' projected outputs and their gated sum are, over the extended reals, those of the reference's lines. -/
theorem value : Cert.algebraic_MergeKernelIdeal_MergeReferenceIdeal := by
  pair_intro
  · run_from Cert.MergeKernelIdeal.Gen.run_main m g
  · run_from Cert.MergeReferenceIdeal.Value.run m' g'
    · exact (Cert.MergeKernelIdeal.Value.ref_a _ _).trans (Cert.MergeKernelIdeal.Value.final_a m c).symm
    · exact (Cert.MergeKernelIdeal.Value.ref_b _ _).trans (Cert.MergeKernelIdeal.Value.final_b m c).symm
    · exact (Cert.MergeKernelIdeal.Value.ref_s _ _ _ _ _ _).trans (Cert.MergeKernelIdeal.Value.final_s m c).symm

end Cert.Proof.Merge

end
-- ==== Proof.Embed.lean ====
/- The gated per-layer embeddings, added to the residual stream. -/
module

public import proofs.«01_k».proof.Defs
public import proofs.«01_k».proof.Proof.Gen.EmbedKernel.Frame
public import proofs.«01_k».proof.Proof.Gen.EmbedKernelIdeal.Value
public import proofs.«01_k».proof.Proof.Gen.EmbedReferenceIdeal.Read
public import Idealize.ShloMosaic.Lib.Pointwise
public import Idealize.ShloMosaic.Lib.Pipeline.ValueKit

@[expose] public section

set_option maxRecDepth 16384

noncomputable section

namespace Cert.EmbedKernelIdeal.Value

open Cert.EmbedKernelIdeal Cert.EmbedKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t / 2`, half `t % 2` of the rows. -/
theorem idx : ∀ t : Fin cfg0.N, win0_0.index t = ![t.val % 2, 0] ∧ win0_1.index t = ![0, t.val / 2]
    ∧ win0_2.index t = ![t.val % 2, 0] ∧ win0_3.index t = ![t.val / 2, 0, 0] ∧ win0_4.index t = ![t.val % 2, t.val / 2]
    ∧ win0_5.index t = ![t.val % 2, t.val / 2] ∧ win0_6.index t = ![t.val % 2, t.val / 2] ∧ win0_7.index t = ![t.val % 2, t.val / 2] :=
  (by decide +kernel : ∀ t : Fin grid0.N, _)

/-- The row that row `r` of a grid point's block holds. -/
def row (t : Fin cfg0.N) (r : Fin 1024) : Fin 2048 := ⟨t.val % 2 * 1024 + r.val, by omega⟩

/-- The column that column `f` of a grid point's block holds. -/
def col (t : Fin cfg0.N) (f : Fin 256) : Fin 2048 := ⟨t.val / 2 * 256 + f.val, by have := t.isLt; have hN : cfg0.N = 16 := N_0; omega⟩

/-- The arguments of a device: the normed rows, the gate's weights, the embeddings, their projection and the stream. -/
abbrev na (c : Dev nD) : FVec Ideal S2048x2048 .f32 := m ((c : Thread nD τ).loc main_arg0)
abbrev wa (c : Dev nD) : FVec Ideal S2048x2048 .f32 := m ((c : Thread nD τ).loc main_arg1)
abbrev pa (c : Dev nD) : FVec Ideal S2048x256 .f32 := m ((c : Thread nD τ).loc main_arg2)
abbrev ua (c : Dev nD) : FVec Ideal S256x2048 .f32 := m ((c : Thread nD τ).loc main_arg3)
abbrev ha (c : Dev nD) : FVec Ideal S2048x2048 .f32 := m ((c : Thread nD τ).loc main_arg4)

theorem n_blk (c : Dev nD) (t : Fin cfg0.N) (r : Fin 1024) (k : Fin 2048) : iblk m c 0 t (ix2 r k) = na m c (ix2 (row t r) k) := by
  unfold row
  blk_point [iblk, V, idx t]

theorem w_blk (c : Dev nD) (t : Fin cfg0.N) (k : Fin 2048) (f : Fin 256) : iblk m c 1 t (ix2 k f) = wa m c (ix2 k (col t f)) := by
  unfold col
  blk_point [iblk, V, idx t]

theorem p_blk (c : Dev nD) (t : Fin cfg0.N) (r : Fin 1024) (k : Fin 256) : iblk m c 2 t (ix2 r k) = pa m c (ix2 (row t r) k) := by
  unfold row
  blk_point [iblk, V, idx t]

theorem u_blk (c : Dev nD) (t : Fin cfg0.N) (k : Fin 256) (f : Fin 256) : iblk m c 3 t (ix3 0 k f) = ua m c (ix2 k (col t f)) := by
  unfold col
  blk_point [iblk, V, idx t]

theorem h_blk (c : Dev nD) (t : Fin cfg0.N) (r : Fin 1024) (f : Fin 256) : iblk m c 4 t (ix2 r f) = ha m c (ix2 (row t r) (col t f)) := by
  unfold row col
  blk_point [iblk, V, idx t]

theorem emb5 (t : Fin cfg0.N) (y : S1024x256.Idx) :
    ((View.whole main_v8_0).slice (win0_5.rect t)).emb y = ix2 (row t (y 0)) (col t (y 1)) := by
  unfold row col
  blk_ext [idx t]

theorem emb6 (t : Fin cfg0.N) (y : S1024x256.Idx) :
    ((View.whole main_v8_1).slice (win0_6.rect t)).emb y = ix2 (row t (y 0)) (col t (y 1)) := by
  unfold row col
  blk_ext [idx t]

theorem emb7 (t : Fin cfg0.N) (y : S1024x256.Idx) :
    ((View.whole main_v8_2).slice (win0_7.rect t)).emb y = ix2 (row t (y 0)) (col t (y 1)) := by
  unfold row col
  blk_ext [idx t]

/-- The gate's pre-activation. -/
def gate (n w : FVec Ideal S2048x2048 .f32) : FVec Ideal S2048x2048 .f32 := fun x => ∑ k, n (ix2 (x 0) k) * w (ix2 k (x 1))

/-- The projected embeddings. -/
def emb (p : FVec Ideal S2048x256 .f32) (u : FVec Ideal S256x2048 .f32) : FVec Ideal S2048x2048 .bf16 :=
  fun x => ∑ k, p (ix2 (x 0) k) * u (ix2 k (x 1))

/-- The stream with the gated embeddings added. -/
def tot (n w : FVec Ideal S2048x2048 .f32) (p : FVec Ideal S2048x256 .f32) (u : FVec Ideal S256x2048 .f32)
    (h : FVec Ideal S2048x2048 .f32) : FVec Ideal S2048x2048 .f32 :=
  fun x => h (ix2 (x 0) (x 1)) + Ideal.logistic (gate n w x) * emb p u x

theorem g_sum (c : Dev nD) (t : Fin cfg0.N) (r : Fin 1024) (f : Fin 256) :
    k0_pay1 (F := Ideal) (iblk m c 0 t) (iblk m c 1 t) (ix2 r f) = gate (na m c) (wa m c) (ix2 (row t r) (col t f)) := by
  pointwise [k0_pay1]
  simp only [n_blk, w_blk]
  rfl

theorem e_sum (c : Dev nD) (t : Fin cfg0.N) (r : Fin 1024) (f : Fin 256) :
    k0_pay2 (F := Ideal) (iblk m c 2 t) (iblk m c 3 t) (ix2 r f) = emb (pa m c) (ua m c) (ix2 (row t r) (col t f)) := by
  pointwise [k0_pay2]
  simp only [p_blk, u_blk]
  rfl

theorem t_sum (c : Dev nD) (t : Fin cfg0.N) (r : Fin 1024) (f : Fin 256) :
    k0_pay3 (F := Ideal) (iblk m c 0 t) (iblk m c 1 t) (iblk m c 2 t) (iblk m c 3 t) (iblk m c 4 t) (ix2 r f)
      = tot (na m c) (wa m c) (pa m c) (ua m c) (ha m c) (ix2 (row t r) (col t f)) := by
  pointwise [k0_pay3]
  rw [g_sum, e_sum, h_blk]
  rfl

theorem p_sum (c : Dev nD) (t : Fin cfg0.N) (r : Fin 1024) (f : Fin 256) :
    k0_pay4 (F := Ideal) (iblk m c 2 t) (iblk m c 3 t) (ix2 r f) = emb (pa m c) (ua m c) (ix2 (row t r) (col t f)) := by
  pointwise [k0_pay4]
  exact e_sum m c t r f

theorem ix2_eta {a b : ℕ} (x : (⟨2, ![a, b]⟩ : Shape).Idx) : x = ix2 (x 0) (x 1) := by
  funext i
  fin_cases i <;> rfl

theorem final_tot (c : Dev nD) : (dats m 0 c).arrAt 5 (cfgs 0).N = tot (na m c) (wa m c) (pa m c) (ua m c) (ha m c) := by
  refine (dats m 0 c).arrAt_eq_of_covers 5 _ (by decide +kernel) fun t _ y => ?_
  blk_simp
  rw [after0_5]; frame_out
  rw [emb5]
  exact (congrArg _ (ix2_eta y)).trans (t_sum m c t (y 0) (y 1))

theorem final_gate (c : Dev nD) : (dats m 0 c).arrAt 6 (cfgs 0).N = gate (na m c) (wa m c) := by
  refine (dats m 0 c).arrAt_eq_of_covers 6 _ (by decide +kernel) fun t _ y => ?_
  blk_simp
  rw [after0_6]; frame_out
  rw [emb6]
  exact (congrArg _ (ix2_eta y)).trans (g_sum m c t (y 0) (y 1))

theorem final_emb (c : Dev nD) : (dats m 0 c).arrAt 7 (cfgs 0).N = emb (pa m c) (ua m c) := by
  refine (dats m 0 c).arrAt_eq_of_covers 7 _ (by decide +kernel) fun t _ y => ?_
  blk_simp
  rw [after0_7]; frame_out
  rw [emb7]
  exact (congrArg _ (ix2_eta y)).trans (p_sum m c t (y 0) (y 1))

open Cert.EmbedReferenceIdeal.Read in
/-- The reference's pre-activation. -/
theorem ref_gate (n w : FVec Ideal S2048x2048 .f32) : val_main_v0 (F := Ideal) n w = gate n w := by
  funext x
  obtain ⟨i, j, rfl⟩ : ∃ (i : Fin 2048) (j : Fin 2048), x = ix2 i j := ⟨x 0, x 1, ix2_eta x⟩
  pointwise [val_main_v0]
  rfl

open Cert.EmbedReferenceIdeal.Read in
/-- The reference's projected embeddings, before the cast. -/
theorem ref_pe (p : FVec Ideal S2048x256 .f32) (u : FVec Ideal S256x2048 .f32) (i j : Fin 2048) :
    val_main_v1 (F := Ideal) p u (ix2 i j) = emb p u (ix2 i j) := by
  pointwise [val_main_v1]
  rfl

open Cert.EmbedReferenceIdeal.Read in
theorem ref_emb (p : FVec Ideal S2048x256 .f32) (u : FVec Ideal S256x2048 .f32) : val_main_v10 (F := Ideal) p u = emb p u := by
  funext x
  obtain ⟨i, j, rfl⟩ : ∃ (i : Fin 2048) (j : Fin 2048), x = ix2 i j := ⟨x 0, x 1, ix2_eta x⟩
  pointwise [val_main_v10]
  exact ref_pe p u i j

open Cert.EmbedReferenceIdeal.Read in
/-- The reference's sum. -/
theorem ref_tot (n w : FVec Ideal S2048x2048 .f32) (p : FVec Ideal S2048x256 .f32) (u : FVec Ideal S256x2048 .f32)
    (h : FVec Ideal S2048x2048 .f32) : val_main_v9 (F := Ideal) n w p u h = tot n w p u h := by
  funext x
  obtain ⟨i, j, rfl⟩ : ∃ (i : Fin 2048) (j : Fin 2048), x = ix2 i j := ⟨x 0, x 1, ix2_eta x⟩
  show _ = h (ix2 i j) + Ideal.logistic (gate n w (ix2 i j)) * emb p u (ix2 i j)
  rw [← ref_pe, ← ref_gate]
  pointwise [val_main_v9, val_main_v8, val_main_v7, val_main_v6, val_main_v5, val_main_v4, val_main_v3, val_main_v2, val_main_cst,
    val_main_cst_0]
  rfl

end Cert.EmbedKernelIdeal.Value

namespace Cert.Proof.Embed

open Idealize.ShloMosaic Idealize.ShloMosaic.TcCoe Idealize.SL.Sem

/-- The kernel at the bit level runs, leaves its arguments unchanged and ends quiescent. -/
theorem frame_p : Cert.quiescent_EmbedKernel := fun m ρ _ => Cert.EmbedKernel.Gen.frame m ρ

/-- The same of the kernel over the extended reals. -/
theorem frame_pi : Cert.quiescent_EmbedKernelIdeal := fun m ρ _ => Cert.EmbedKernelIdeal.Gen.frame m ρ

/-- The reference runs, leaves its arguments unchanged and has no semaphore. -/
theorem frame_ri : Cert.quiescent_EmbedReferenceIdeal := fun m ρ _ =>
  (θ_run Cert.EmbedReferenceIdeal.defs _ _).mono (fun r h => ⟨fun c => (h c).2.2.2,
      Idealize.ShloMosaic.sem_eq_zero_of_no_sems (by decide) r.2⟩) (Cert.EmbedReferenceIdeal.Value.run (F := Ideal) m ρ)

/-- The stream with the gated embeddings, the gate and the embeddings are, over the extended reals, those of the reference's lines. -/
theorem value : Cert.algebraic_EmbedKernelIdeal_EmbedReferenceIdeal := by
  pair_intro
  · run_from Cert.EmbedKernelIdeal.Gen.run_main m g
  · run_from Cert.EmbedReferenceIdeal.Value.run m' g'
    · exact (Cert.EmbedKernelIdeal.Value.ref_tot _ _ _ _ _).trans (Cert.EmbedKernelIdeal.Value.final_tot m c).symm
    · exact (Cert.EmbedKernelIdeal.Value.ref_gate _ _).trans (Cert.EmbedKernelIdeal.Value.final_gate m c).symm
    · exact (Cert.EmbedKernelIdeal.Value.ref_emb _ _).trans (Cert.EmbedKernelIdeal.Value.final_emb m c).symm

end Cert.Proof.Embed

end
-- ==== Proof.Turn.lean ====
/- The rotary embedding, forward, as a fact about rows of extended reals. -/
module

public import proofs.«01_k».proof.Defs
public import proofs.«01_k».proof.Proof.Rope
public import Idealize.ShloMosaic.Lib.Pointwise
public import Idealize.ShloMosaic.Lib.Pipeline.ValueKit

@[expose] public section

set_option maxRecDepth 16384

noncomputable section

namespace Cert.Proof.Rope

open Idealize.ShloMosaic

/-- A row against the table of the quarter turn read by its columns: the first half takes the second's negative, the second the first. -/
theorem sum_quarter' (f : Fin 64 → EReal) (k : Fin 64) :
    ∑ l, f l * quarter k.val l.val = if h : k.val < 32 then -f ⟨32 + k.val, by omega⟩ else f ⟨k.val - 32, by omega⟩ := by
  by_cases h : k.val < 32
  · rw [dif_pos h, Finset.sum_eq_single ⟨32 + k.val, by omega⟩]
    · rw [quarter_eq, if_pos (by dsimp only; omega), mul_neg, mul_one]
    · intro l _ hl
      rw [quarter_eq, if_neg (fun e => hl (Fin.ext (by dsimp only; omega))), if_neg (by omega), mul_zero]
    · exact fun e => absurd (Finset.mem_univ _) e
  · rw [dif_neg h, Finset.sum_eq_single ⟨k.val - 32, by omega⟩]
    · rw [quarter_eq, if_neg (by dsimp only; omega), if_pos (by dsimp only; omega), mul_one]
    · intro l _ hl
      rw [quarter_eq, if_neg (by omega), if_neg (fun e => hl (Fin.ext (by dsimp only; omega))), mul_zero]
    · exact fun e => absurd (Finset.mem_univ _) e

/-- A row turned by the angles of row `r`. -/
def turn (r : ℕ) (x : Fin 64 → EReal) (k : Fin 64) : EReal :=
  if h : k.val < 32 then x ⟨k.val, by omega⟩ * Ideal.cos (angle r k.val) - x ⟨32 + k.val, by omega⟩ * Ideal.sin (angle r k.val)
  else x ⟨32 + (k.val - 32), by omega⟩ * Ideal.cos (angle r (k.val - 32)) + x ⟨k.val - 32, by omega⟩ * Ideal.sin (angle r (k.val - 32))

/-- The kernel's form: the cosines' product and the sines' product with the row against the table of the quarter turn. -/
theorem turn_eq (r : ℕ) (x : Fin 64 → EReal) (k : Fin 64) :
    x k * Ideal.cos (angle r (k.val % 32)) + (∑ l : Fin 64, x l * quarter k.val l.val) * Ideal.sin (angle r (k.val % 32)) = turn r x k := by
  unfold turn
  rw [sum_quarter']
  by_cases h : k.val < 32
  · rw [dif_pos h, dif_pos h, Nat.mod_eq_of_lt h, neg_mul, sub_eq_add_neg]
  · rw [dif_neg h, dif_neg h, show k.val % 32 = k.val - 32 by omega]
    exact congrArg (fun i => x i * _ + _) (Fin.ext (by dsimp only; omega))

end Cert.Proof.Rope

end
-- ==== Proof.Prep.lean ====
/- The two latents' norms and the rotary key part, forward. -/
module

public import proofs.«01_k».proof.Defs
public import proofs.«01_k».proof.Proof.Gen.PrepKernel.Frame
public import proofs.«01_k».proof.Proof.Gen.PrepKernelIdeal.Value
public import proofs.«01_k».proof.Proof.Gen.PrepReferenceIdeal.Read
public import proofs.«01_k».proof.Proof.Rms
public import proofs.«01_k».proof.Proof.Turn
public import Idealize.ShloMosaic.Lib.Pointwise
public import Idealize.ShloMosaic.Lib.Pipeline.ValueKit

@[expose] public section

set_option maxRecDepth 16384

noncomputable section

namespace Cert.PrepKernelIdeal.Value

open Cert.PrepKernelIdeal Cert.PrepKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is block `t` of the rows. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![t.val, 0] :=
  (by decide +kernel : ∀ t : Fin grid0.N, _)

/-- The row that row `r` of a grid point's block holds. -/
def row (t : Fin cfg0.N) (r : Fin 256) : Fin 2048 := ⟨t.val * 256 + r.val, by have := t.isLt; have hN : cfg0.N = 8 := N_0; omega⟩

/-- The arguments of a device: the joined latents and the weights of the two norms. -/
abbrev la (c : Dev nD) : FVec Ideal S2048x1088 .f32 := m ((c : Thread nD τ).loc main_arg0)
abbrev ga (c : Dev nD) : FVec Ideal S1x512 .f32 := m ((c : Thread nD τ).loc main_arg1)
abbrev ha (c : Dev nD) : FVec Ideal S1x512 .f32 := m ((c : Thread nD τ).loc main_arg2)

theorem l_blk (c : Dev nD) (t : Fin cfg0.N) (r : Fin 256) (k : Fin 1088) : iblk m c 0 t (ix2 r k) = la m c (ix2 (row t r) k) := by
  unfold row
  blk_point [iblk, V, idx t]

theorem g_blk (c : Dev nD) (t : Fin cfg0.N) (k : Fin 512) : iblk m c 1 t (ix2 0 k) = ga m c (ix2 0 k) := by
  blk_point [iblk, V, idx t]

theorem h_blk (c : Dev nD) (t : Fin cfg0.N) (k : Fin 512) : iblk m c 2 t (ix2 0 k) = ha m c (ix2 0 k) := by
  blk_point [iblk, V, idx t]

set_option maxHeartbeats 4000000 in
theorem cos_blk (c : Dev nD) (t : Fin cfg0.N) (r : Fin 256) (k : Fin 64) :
    iblk m c 3 t (ix2 r k) = Ideal.cos (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem sin_blk (c : Dev nD) (t : Fin cfg0.N) (r : Fin 256) (k : Fin 64) :
    iblk m c 4 t (ix2 r k) = Ideal.sin (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem turn_blk (c : Dev nD) (t : Fin cfg0.N) (l k : Fin 64) : iblk m c 5 t (ix2 l k) = Rope.quarter k.val l.val := by
  unfold Rope.quarter
  blk_point [iblk, V, idx t]

theorem emb6 (t : Fin cfg0.N) (y : S256x512.Idx) : ((View.whole main_v35_0).slice (win0_6.rect t)).emb y = ix2 (row t (y 0)) (y 1) := by
  unfold row
  blk_ext [idx t]

theorem emb7 (t : Fin cfg0.N) (y : S256x512.Idx) : ((View.whole main_v35_1).slice (win0_7.rect t)).emb y = ix2 (row t (y 0)) (y 1) := by
  unfold row
  blk_ext [idx t]

theorem emb8 (t : Fin cfg0.N) (y : S256x64.Idx) : ((View.whole main_v35_2).slice (win0_8.rect t)).emb y = ix2 (row t (y 0)) (y 1) := by
  unfold row
  blk_ext [idx t]

/-- The mean's divisor and the word added to the mean. -/
abbrev D : EReal := Ideal.ofBits .f32 0x44000000#32
abbrev E : EReal := Ideal.ofBits .f32 0x358637BD#32

/-- The three parts of a row of the joined latents. -/
def ql (l : FVec Ideal S2048x1088 .f32) (r : Fin 2048) (k : Fin 512) : EReal := l (ix2 r ⟨k.val, by omega⟩)
def kl (l : FVec Ideal S2048x1088 .f32) (r : Fin 2048) (k : Fin 512) : EReal := l (ix2 r ⟨512 + k.val, by omega⟩)
def rl (l : FVec Ideal S2048x1088 .f32) (r : Fin 2048) (k : Fin 64) : EReal := l (ix2 r ⟨1024 + k.val, by omega⟩)

/-- The two normed latents and the turned key part. -/
def qArr (l : FVec Ideal S2048x1088 .f32) (g : FVec Ideal S1x512 .f32) : FVec Ideal S2048x512 .bf16 :=
  fun x => ql l (x 0) (x 1) * Rms.inv D E (ql l (x 0)) * g (ix2 0 (x 1))
def kArr (l : FVec Ideal S2048x1088 .f32) (g : FVec Ideal S1x512 .f32) : FVec Ideal S2048x512 .bf16 :=
  fun x => kl l (x 0) (x 1) * Rms.inv D E (kl l (x 0)) * g (ix2 0 (x 1))
def rArr (l : FVec Ideal S2048x1088 .f32) : FVec Ideal S2048x64 .bf16 := fun x => Rope.turn (x 0).val (rl l (x 0)) (x 1)

/-- The three parts as the body loads them from its block. -/
abbrev qld (c : Dev nD) (t : Fin cfg0.N) := View.ld (iblk m c 0 t) (Rect.unit ![0, 0] ![256, 512] inb_S256x1088_S256x512_0_0)
abbrev kld (c : Dev nD) (t : Fin cfg0.N) := View.ld (iblk m c 0 t) (Rect.unit ![0, 512] ![256, 512] inb_S256x1088_S256x512_0_512)
abbrev rld (c : Dev nD) (t : Fin cfg0.N) := View.ld (iblk m c 0 t) (Rect.unit ![0, 1024] ![256, 64] inb_S256x1088_S256x64_0_1024)

theorem qld_row (c : Dev nD) (t : Fin cfg0.N) (r : Fin 256) (k : Fin 512) : qld m c t (ix2 r k) = ql (la m c) (row t r) k := by
  refine Eq.trans ?_ (l_blk m c t r ⟨k.val, by omega⟩)
  refine congrArg (iblk m c 0 t) ?_
  funext i
  match i with
  | ⟨0, _⟩ => exact Fin.ext (by show 0 + 1 * r.val = r.val; omega)
  | ⟨1, _⟩ => exact Fin.ext (by show 0 + 1 * k.val = k.val; omega)

theorem kld_row (c : Dev nD) (t : Fin cfg0.N) (r : Fin 256) (k : Fin 512) : kld m c t (ix2 r k) = kl (la m c) (row t r) k := by
  refine Eq.trans ?_ (l_blk m c t r ⟨512 + k.val, by omega⟩)
  refine congrArg (iblk m c 0 t) ?_
  funext i
  match i with
  | ⟨0, _⟩ => exact Fin.ext (by show 0 + 1 * r.val = r.val; omega)
  | ⟨1, _⟩ => exact Fin.ext (by show 512 + 1 * k.val = 512 + k.val; omega)

theorem rld_row (c : Dev nD) (t : Fin cfg0.N) (r : Fin 256) (k : Fin 64) : rld m c t (ix2 r k) = rl (la m c) (row t r) k := by
  refine Eq.trans ?_ (l_blk m c t r ⟨1024 + k.val, by omega⟩)
  refine congrArg (iblk m c 0 t) ?_
  funext i
  match i with
  | ⟨0, _⟩ => exact Fin.ext (by show 0 + 1 * r.val = r.val; omega)
  | ⟨1, _⟩ => exact Fin.ext (by show 1024 + 1 * k.val = 1024 + k.val; omega)

theorem q_blk (c : Dev nD) (t : Fin cfg0.N) (r : Fin 256) (k : Fin 512) :
    k0_pay2 (F := Ideal) (qld m c t) (iblk m c 1 t) (ix2 r k) = qArr (la m c) (ga m c) (ix2 (row t r) k) := by
  pointwise [k0_pay2]
  simp only [qld_row, g_blk]
  rfl

theorem k_blk (c : Dev nD) (t : Fin cfg0.N) (r : Fin 256) (k : Fin 512) :
    k0_pay3 (F := Ideal) (kld m c t) (iblk m c 2 t) (ix2 r k) = kArr (la m c) (ha m c) (ix2 (row t r) k) := by
  pointwise [k0_pay3]
  simp only [kld_row, h_blk]
  rfl

theorem r_blk (c : Dev nD) (t : Fin cfg0.N) (r : Fin 256) (k : Fin 64) :
    k0_pay1 (F := Ideal) (rld m c t) (k0_pay4 (iblk m c 3 t)) (iblk m c 4 t) (iblk m c 5 t) (ix2 r k) = rArr (la m c) (ix2 (row t r) k) := by
  pointwise [k0_pay1, k0_pay4]
  simp only [rld_row, cos_blk, sin_blk, turn_blk]
  exact Rope.turn_eq (row t r).val (rl (la m c) (row t r)) k

theorem eta2 {a b : ℕ} (y : (⟨2, ![a, b]⟩ : Shape).Idx) : y = ix2 (y 0) (y 1) := by
  funext i
  fin_cases i <;> rfl

theorem final_q (c : Dev nD) : (dats m 0 c).arrAt 6 (cfgs 0).N = qArr (la m c) (ga m c) := by
  refine (dats m 0 c).arrAt_eq_of_covers 6 _ (by decide +kernel) fun t _ y => ?_
  blk_simp
  rw [after0_6]; frame_out
  rw [emb6]
  exact (congrArg _ (eta2 y)).trans (q_blk m c t (y 0) (y 1))

theorem final_k (c : Dev nD) : (dats m 0 c).arrAt 7 (cfgs 0).N = kArr (la m c) (ha m c) := by
  refine (dats m 0 c).arrAt_eq_of_covers 7 _ (by decide +kernel) fun t _ y => ?_
  blk_simp
  rw [after0_7]; frame_out
  rw [emb7]
  exact (congrArg _ (eta2 y)).trans (k_blk m c t (y 0) (y 1))

theorem final_r (c : Dev nD) : (dats m 0 c).arrAt 8 (cfgs 0).N = rArr (la m c) := by
  refine (dats m 0 c).arrAt_eq_of_covers 8 _ (by decide +kernel) fun t _ y => ?_
  blk_simp
  rw [after0_8]; frame_out
  rw [emb8]
  exact (congrArg _ (eta2 y)).trans (r_blk m c t (y 0) (y 1))

section Reference

open Cert.PrepReferenceIdeal.Read

theorem ref_cos (r : Fin 2048) (k : Fin 32) : val_main_v20 (F := Ideal) (ix2 r k) = Ideal.cos (Rope.angle r k) := by
  pointwise [val_main_v20, val_main_v19, val_main_v18, val_main_v17, val_main_v16, val_main_v15, val_main_v14, val_main_v13,
    val_main_cst_3, val_main_v12, val_main_v11, val_main_cst_2, val_main_v10, val_main_v9, val_main_cst_1, val_main_v8, val_main_v7,
    val_main_cst_0, val_main_v6, val_main_v5, val_main_cst, val_main_v4, val_main_v3]
  rfl

theorem ref_sin (r : Fin 2048) (k : Fin 32) : val_main_v21 (F := Ideal) (ix2 r k) = Ideal.sin (Rope.angle r k) := by
  pointwise [val_main_v21, val_main_v19, val_main_v18, val_main_v17, val_main_v16, val_main_v15, val_main_v14, val_main_v13,
    val_main_cst_3, val_main_v12, val_main_v11, val_main_cst_2, val_main_v10, val_main_v9, val_main_cst_1, val_main_v8, val_main_v7,
    val_main_cst_0, val_main_v6, val_main_v5, val_main_cst, val_main_v4, val_main_v3]
  rfl

theorem ref_qs (l : FVec Ideal S2048x1088 .f32) (r : Fin 2048) : val_main_v30 (F := Ideal) l (ix2 r 0) = Rms.inv D E (ql l r) := by
  pointwise [val_main_v30, val_main_v29, val_main_v28, val_main_cst_6, val_main_v27, val_main_v26, val_main_cst_5, val_main_v25,
    val_main_v24, val_main_cst_4, val_main_v23, val_main_v0]
  rfl

theorem ref_ks (l : FVec Ideal S2048x1088 .f32) (r : Fin 2048) : val_main_v44 (F := Ideal) l (ix2 r 0) = Rms.inv D E (kl l r) := by
  pointwise [val_main_v44, val_main_v43, val_main_v42, val_main_cst_9, val_main_v41, val_main_v40, val_main_cst_8, val_main_v39,
    val_main_v38, val_main_cst_7, val_main_v37, val_main_v1]
  rfl

/-- The reference's three arrays. -/
theorem ref_q (l : FVec Ideal S2048x1088 .f32) (g : FVec Ideal S1x512 .f32) : val_main_v59 (F := Ideal) l g = qArr l g := by
  funext x
  obtain ⟨r, k, rfl⟩ : ∃ (r : Fin 2048) (k : Fin 512), x = ix2 r k := ⟨x 0, x 1, eta2 x⟩
  show _ = ql l r k * Rms.inv D E (ql l r) * g (ix2 0 k)
  pointwise [val_main_v59, val_main_v35, val_main_v34, val_main_v33, val_main_v32, val_main_v31, val_main_v22]
  rw [ref_qs]
  pointwise [val_main_v0]
  rfl

theorem ref_k (l : FVec Ideal S2048x1088 .f32) (g : FVec Ideal S1x512 .f32) : val_main_v60 (F := Ideal) l g = kArr l g := by
  funext x
  obtain ⟨r, k, rfl⟩ : ∃ (r : Fin 2048) (k : Fin 512), x = ix2 r k := ⟨x 0, x 1, eta2 x⟩
  show _ = kl l r k * Rms.inv D E (kl l r) * g (ix2 0 k)
  pointwise [val_main_v60, val_main_v49, val_main_v48, val_main_v47, val_main_v46, val_main_v45, val_main_v36]
  rw [ref_ks]
  pointwise [val_main_v1]
  rfl

theorem ref_r (l : FVec Ideal S2048x1088 .f32) : val_main_v61 (F := Ideal) l = rArr l := by
  funext x
  obtain ⟨r, k, rfl⟩ : ∃ (r : Fin 2048) (k : Fin 64), x = ix2 r k := ⟨x 0, x 1, eta2 x⟩
  show _ = Rope.turn r.val (rl l r) k
  unfold Rope.turn
  pointwise [val_main_v61, val_main_v58]
  by_cases hk : k.val < 32
  · rw [dif_pos hk, dif_pos hk]
    pointwise [val_main_v54, val_main_v53, val_main_v52, val_main_v51, val_main_v50, val_main_v2]
    simp only [ref_cos, ref_sin]
    rfl
  · rw [dif_neg hk, dif_neg hk]
    pointwise [val_main_v57, val_main_v56, val_main_v55, val_main_v51, val_main_v50, val_main_v2]
    simp only [ref_cos, ref_sin]
    rfl

end Reference

end Cert.PrepKernelIdeal.Value

namespace Cert.Proof.Prep

open Idealize.ShloMosaic Idealize.ShloMosaic.TcCoe Idealize.SL.Sem

/-- The kernel at the bit level runs, leaves its arguments unchanged and ends quiescent. -/
theorem frame_p : Cert.quiescent_PrepKernel := fun m ρ _ => Cert.PrepKernel.Gen.frame m ρ

/-- The same of the kernel over the extended reals. -/
theorem frame_pi : Cert.quiescent_PrepKernelIdeal := fun m ρ _ => Cert.PrepKernelIdeal.Gen.frame m ρ

/-- The reference runs, leaves its arguments unchanged and has no semaphore. -/
theorem frame_ri : Cert.quiescent_PrepReferenceIdeal := fun m ρ _ =>
  (θ_run Cert.PrepReferenceIdeal.defs _ _).mono (fun r h => ⟨fun c => (h c).2.2.2,
      Idealize.ShloMosaic.sem_eq_zero_of_no_sems (by decide) r.2⟩) (Cert.PrepReferenceIdeal.Value.run (F := Ideal) m ρ)

set_option maxHeartbeats 4000000 in
/-- The two normed latents and the turned key part are, over the extended reals, those of the reference's lines. -/
theorem value : Cert.algebraic_PrepKernelIdeal_PrepReferenceIdeal := by
  pair_intro
  · run_from Cert.PrepKernelIdeal.Gen.run_main m g
  · run_from Cert.PrepReferenceIdeal.Value.run m' g'
    · exact (Cert.PrepKernelIdeal.Value.ref_q _ _).trans (Cert.PrepKernelIdeal.Value.final_q m c).symm
    · exact (Cert.PrepKernelIdeal.Value.ref_k _ _).trans (Cert.PrepKernelIdeal.Value.final_k m c).symm
    · exact (Cert.PrepKernelIdeal.Value.ref_r _).trans (Cert.PrepKernelIdeal.Value.final_r m c).symm

end Cert.Proof.Prep

end
-- ==== Proof.Queries.lean ====
/- The queries of the latent attention: the up-projection, its rotary part turned. -/
module

public import proofs.«01_k».proof.Defs
public import proofs.«01_k».proof.Proof.Gen.QueriesKernel.Frame
public import proofs.«01_k».proof.Proof.Gen.QueriesKernelIdeal.Value
public import proofs.«01_k».proof.Proof.Gen.QueriesReferenceIdeal.Read
public import proofs.«01_k».proof.Proof.Turn
public import Idealize.ShloMosaic.Lib.Pointwise
public import Idealize.ShloMosaic.Lib.Pipeline.ValueKit

@[expose] public section

set_option maxRecDepth 16384

noncomputable section

namespace Cert.QueriesKernelIdeal.Value

open Cert.QueriesKernelIdeal Cert.QueriesKernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- Where each window's block lies: grid point `t` is head `t / 4`, block `t % 4` of the rows. -/
theorem idx : ∀ t : Fin cfg0.N, win0_0.index t = ![t.val % 4, 0] ∧ win0_1.index t = ![t.val / 4, 0, 0]
    ∧ win0_2.index t = ![t.val % 4, 0] ∧ win0_3.index t = ![t.val % 4, 0] ∧ win0_4.index t = ![0, 0]
    ∧ win0_5.index t = ![t.val / 4, t.val % 4, 0] :=
  (by decide +kernel : ∀ t : Fin grid0.N, _)

/-- The row that row `r` of a grid point's block holds, and the point's head. -/
def row (t : Fin cfg0.N) (r : Fin 512) : Fin 2048 := ⟨t.val % 4 * 512 + r.val, by omega⟩
def head (t : Fin cfg0.N) : Fin 8 := ⟨t.val / 4, by have := t.isLt; have hN : cfg0.N = 32 := N_0; omega⟩

/-- The arguments of a device: the normed query latents and the up-projection. -/
abbrev qa (c : Dev nD) : FVec Ideal S2048x512 .f32 := m ((c : Thread nD τ).loc main_arg0)
abbrev wa (c : Dev nD) : FVec Ideal S512x1536 .f32 := m ((c : Thread nD τ).loc main_arg1)

/-- Column `a` of head `h` in the joined columns. -/
def col (h : Fin 8) (a : Fin 192) : Fin 1536 := ⟨h.val * 192 + a.val, by omega⟩

theorem q_blk (c : Dev nD) (t : Fin cfg0.N) (r : Fin 512) (k : Fin 512) : iblk m c 0 t (ix2 r k) = qa m c (ix2 (row t r) k) := by
  unfold row
  blk_point [iblk, V, idx t]

theorem w_blk (c : Dev nD) (t : Fin cfg0.N) (a : Fin 192) (k : Fin 512) :
    iblk m c 1 t (ix3 0 a k) = wa m c (ix2 k (col (head t) a)) := by
  unfold col head
  blk_point [iblk, V, idx t]

set_option maxHeartbeats 4000000 in
theorem cos_blk (c : Dev nD) (t : Fin cfg0.N) (r : Fin 512) (k : Fin 64) :
    iblk m c 2 t (ix2 r k) = Ideal.cos (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem sin_blk (c : Dev nD) (t : Fin cfg0.N) (r : Fin 512) (k : Fin 64) :
    iblk m c 3 t (ix2 r k) = Ideal.sin (Rope.angle (row t r) (k.val % 32)) := by
  by_cases h : k.val < 32
  · rw [Nat.mod_eq_of_lt h]
    unfold row Rope.angle
    dsimp only
    blk_point [iblk, V, idx t, dif_pos h]
  · rw [show k.val % 32 = k.val - 32 by omega]
    unfold row Rope.angle
    dsimp only
    blk_point [iblk, V, idx t, dif_neg h]

set_option maxHeartbeats 4000000 in
theorem turn_blk (c : Dev nD) (t : Fin cfg0.N) (l k : Fin 64) : iblk m c 4 t (ix2 l k) = Rope.quarter k.val l.val := by
  unfold Rope.quarter
  blk_point [iblk, V, idx t]

theorem emb5 (t : Fin cfg0.N) (y : S1x512x192.Idx) :
    (win0_5.blk t).view.emb y = ix3 (head t) (row t (y 1)) (y 2) := by
  unfold row head
  blk_ext [idx t]

theorem eta3 {a b : ℕ} (y : (⟨3, ![1, a, b]⟩ : Shape).Idx) : y = ix3 0 (y 1) (y 2) := by
  funext i
  fin_cases i
  · exact Subsingleton.elim (α := Fin 1) _ _
  · rfl
  · rfl

/-- A query before it is turned: row `r` against column `a` of head `h`. -/
def proj (q : FVec Ideal S2048x512 .f32) (w : FVec Ideal S512x1536 .f32) (h : Fin 8) (r : Fin 2048) (a : Fin 192) : EReal :=
  ∑ k, q (ix2 r k) * w (ix2 k (col h a))

/-- The queries: the plain part as it is, the rotary part turned. -/
def qs (q : FVec Ideal S2048x512 .f32) (w : FVec Ideal S512x1536 .f32) (h : Fin 8) (r : Fin 2048) (a : Fin 192) : EReal :=
  if a.val < 128 then proj q w h r a
  else Rope.turn r.val (fun j => proj q w h r ⟨128 + j.val, by omega⟩) ⟨a.val - 128, by omega⟩

theorem proj_blk (c : Dev nD) (t : Fin cfg0.N) (r : Fin 512) (a : Fin 192) :
    k0_pay1 (F := Ideal) (iblk m c 0 t) (iblk m c 1 t) (ix2 r a) = proj (qa m c) (wa m c) (head t) (row t r) a := by
  pointwise [k0_pay1]
  simp only [q_blk, w_blk]
  rfl

theorem plain_blk (c : Dev nD) (t : Fin cfg0.N) (r : Fin 512) (k : Fin 128) :
    k0_pay2 (F := Ideal) (iblk m c 0 t) (iblk m c 1 t) (ix3 0 r k) = proj (qa m c) (wa m c) (head t) (row t r) ⟨k.val, by omega⟩ := by
  pointwise [k0_pay2]
  exact proj_blk m c t r ⟨k.val, by omega⟩

theorem turned_blk (c : Dev nD) (t : Fin cfg0.N) (r : Fin 512) (k : Fin 64) :
    k0_pay3 (F := Ideal) (iblk m c 0 t) (iblk m c 1 t) (iblk m c 2 t) (iblk m c 3 t) (iblk m c 4 t) (ix3 0 r k)
      = Rope.turn (row t r).val (fun j => proj (qa m c) (wa m c) (head t) (row t r) ⟨128 + j.val, by omega⟩) k := by
  pointwise [k0_pay3]
  simp only [proj_blk, cos_blk, sin_blk, turn_blk]
  exact Rope.turn_eq (row t r).val (fun j => proj (qa m c) (wa m c) (head t) (row t r) ⟨128 + j.val, by omega⟩) k

/-- The two stores of the queries' block. -/
theorem pieces5 (c : Dev nD) (t : Fin cfg0.N) (y : S1x512x192.Idx) :
    View.canon (Val := Elt Ideal) (s := S1x512x192) (e := .bf16)
      [⟨Rect.unit ![0, 0, 128] ![1, 512, 64] inb_S1x512x192_S1x512x64_0_0_128,
          k0_pay3 (iblk m c 0 t) (iblk m c 1 t) (iblk m c 2 t) (iblk m c 3 t) (iblk m c 4 t)⟩,
        ⟨Rect.unit ![0, 0, 0] ![1, 512, 128] inb_S1x512x192_S1x512x128_0_0_0, k0_pay2 (iblk m c 0 t) (iblk m c 1 t)⟩] y
      = qs (qa m c) (wa m c) (head t) (row t (y 1)) (y 2) := by
  have hy0 : (y 0).val < 1 := (y 0).isLt
  have hy1 : (y 1).val < 512 := (y 1).isLt
  have hy2 : (y 2).val < 192 := (y 2).isLt
  refine View.canon_apply_of_pieces (Val := Elt Ideal) (S := S1x512x192) (e := .bf16) (fun y => qs (qa m c) (wa m c) (head t) (row t (y 1)) (y 2)) _ ?_ y ?_
  · intro pc hpc x
    rcases List.mem_cons.mp hpc with rfl | hpc
    · have hx : (x 2).val < 64 := (x 2).isLt
      refine (congrArg _ (eta3 x)).trans ((turned_blk m c t (x 1) (x 2)).trans ?_)
      have e0 : row t (((Rect.unit (s := S1x512x192) ![0, 0, 128] ![1, 512, 64] inb_S1x512x192_S1x512x64_0_0_128).emb x) 1) = row t (x 1) :=
        congrArg (row t) (Fin.ext (by show 0 + 1 * (x 1).val = (x 1).val; omega))
      have e1 : (((Rect.unit (s := S1x512x192) ![0, 0, 128] ![1, 512, 64] inb_S1x512x192_S1x512x64_0_0_128).emb x) 2).val = 128 + (x 2).val := by
        show 128 + 1 * (x 2).val = _; omega
      dsimp only
      unfold qs
      rw [if_neg (by rw [e1]; omega), e0]
      exact congrArg _ (Fin.ext (by dsimp only; omega))
    rcases List.mem_cons.mp hpc with rfl | hpc
    · have hx : (x 2).val < 128 := (x 2).isLt
      refine (congrArg _ (eta3 x)).trans ((plain_blk m c t (x 1) (x 2)).trans ?_)
      have e0 : row t (((Rect.unit (s := S1x512x192) ![0, 0, 0] ![1, 512, 128] inb_S1x512x192_S1x512x128_0_0_0).emb x) 1) = row t (x 1) :=
        congrArg (row t) (Fin.ext (by show 0 + 1 * (x 1).val = (x 1).val; omega))
      have e1 : (((Rect.unit (s := S1x512x192) ![0, 0, 0] ![1, 512, 128] inb_S1x512x192_S1x512x128_0_0_0).emb x) 2).val = (x 2).val := by
        show 0 + 1 * (x 2).val = _; omega
      dsimp only
      unfold qs
      rw [if_pos (by rw [e1]; omega), e0]
      exact congrArg _ (Fin.ext (by dsimp only; omega))
    nomatch hpc
  · by_cases h0 : (y 2).val < 128
    · refine ⟨_, List.mem_cons_of_mem _ List.mem_cons_self, ?_⟩
      show y ∈ (Rect.unit (s := S1x512x192) ![0, 0, 0] ![1, 512, 128] inb_S1x512x192_S1x512x128_0_0_0).set
      rw [Rect.mem_set_unit]
      intro a
      match a with
      | ⟨0, _⟩ => show 0 ≤ (y 0).val ∧ (y 0).val < 0 + 1; omega
      | ⟨1, _⟩ => show 0 ≤ (y 1).val ∧ (y 1).val < 0 + 512; omega
      | ⟨2, _⟩ => show 0 ≤ (y 2).val ∧ (y 2).val < 0 + 128; omega
    · refine ⟨_, List.mem_cons_self, ?_⟩
      show y ∈ (Rect.unit (s := S1x512x192) ![0, 0, 128] ![1, 512, 64] inb_S1x512x192_S1x512x64_0_0_128).set
      rw [Rect.mem_set_unit]
      intro a
      match a with
      | ⟨0, _⟩ => show 0 ≤ (y 0).val ∧ (y 0).val < 0 + 1; omega
      | ⟨1, _⟩ => show 0 ≤ (y 1).val ∧ (y 1).val < 0 + 512; omega
      | ⟨2, _⟩ => show 128 ≤ (y 2).val ∧ (y 2).val < 128 + 64; omega

theorem final_q (c : Dev nD) : (dats m 0 c).arrAt 5 (cfgs 0).N = fun x => qs (qa m c) (wa m c) (x 0) (x 1) (x 2) := by
  refine (dats m 0 c).arrAt_eq_of_covers 5 _ (by decide +kernel) fun t _ y => ?_
  blk_simp
  rw [after0_5, emb5]
  unfold outsAt0
  frame_out
  exact pieces5 m c t y

section Reference

open Cert.QueriesReferenceIdeal.Read

theorem ref_cos (r : Fin 2048) (k : Fin 32) : val_main_v19 (F := Ideal) (ix2 r k) = Ideal.cos (Rope.angle r k) := by
  pointwise [val_main_v19, val_main_v18, val_main_v17, val_main_v16, val_main_v15, val_main_v14, val_main_v13, val_main_v12,
    val_main_cst_3, val_main_v11, val_main_v10, val_main_cst_2, val_main_v9, val_main_v8, val_main_cst_1, val_main_v7, val_main_v6,
    val_main_cst_0, val_main_v5, val_main_v4, val_main_cst, val_main_v3, val_main_v2]
  rfl

theorem ref_sin (r : Fin 2048) (k : Fin 32) : val_main_v20 (F := Ideal) (ix2 r k) = Ideal.sin (Rope.angle r k) := by
  pointwise [val_main_v20, val_main_v18, val_main_v17, val_main_v16, val_main_v15, val_main_v14, val_main_v13, val_main_v12,
    val_main_cst_3, val_main_v11, val_main_v10, val_main_cst_2, val_main_v9, val_main_v8, val_main_cst_1, val_main_v7, val_main_v6,
    val_main_cst_0, val_main_v5, val_main_v4, val_main_cst, val_main_v3, val_main_v2]
  rfl

theorem ref_proj (q : FVec Ideal S2048x512 .f32) (w : FVec Ideal S512x1536 .f32) (h : Fin 8) (r : Fin 2048) (a : Fin 192) :
    val_main_v1 (F := Ideal) q w (ix3 r h a) = proj q w h r a := by
  unfold proj col
  pointwise [val_main_v1, val_main_v0]

theorem ref_turn (q : FVec Ideal S2048x512 .f32) (w : FVec Ideal S512x1536 .f32) (h : Fin 8) (r : Fin 2048) (k : Fin 64) :
    val_main_v36 (F := Ideal) q w (ix3 r h k) = Rope.turn r.val (fun j => proj q w h r ⟨128 + j.val, by omega⟩) k := by
  unfold Rope.turn
  pointwise [val_main_v36]
  by_cases hk : k.val < 32
  · rw [dif_pos hk, dif_pos hk]
    pointwise [val_main_v30, val_main_v29, val_main_v28, val_main_v27, val_main_v26, val_main_v25, val_main_v24, val_main_v23,
      val_main_v22, val_main_v21]
    simp only [ref_cos, ref_sin, ref_proj]
  · rw [dif_neg hk, dif_neg hk]
    pointwise [val_main_v35, val_main_v34, val_main_v33, val_main_v32, val_main_v31, val_main_v25, val_main_v24, val_main_v23,
      val_main_v22, val_main_v21]
    simp only [ref_cos, ref_sin, ref_proj]

/-- The reference's queries, heads first. -/
theorem ref_q (q : FVec Ideal S2048x512 .f32) (w : FVec Ideal S512x1536 .f32) :
    val_main_v40 (F := Ideal) q w = fun x => qs q w (x 0) (x 1) (x 2) := by
  funext x
  obtain ⟨h, r, a, rfl⟩ : ∃ (h : Fin 8) (r : Fin 2048) (a : Fin 192), x = ix3 h r a :=
    ⟨x 0, x 1, x 2, by funext i; fin_cases i <;> rfl⟩
  show _ = qs q w h r a
  unfold qs
  pointwise [val_main_v40, val_main_v39, val_main_v38]
  by_cases ha : a.val < 128
  · rw [dif_pos ha, if_pos ha]
    pointwise [val_main_v37]
    exact ref_proj q w h r a
  · rw [dif_neg ha, if_neg ha]
    exact ref_turn q w h r ⟨a.val - 128, by omega⟩

end Reference

end Cert.QueriesKernelIdeal.Value

namespace Cert.Proof.Queries

open Idealize.ShloMosaic Idealize.ShloMosaic.TcCoe Idealize.SL.Sem

/-- The kernel at the bit level runs, leaves its arguments unchanged and ends quiescent. -/
theorem frame_p : Cert.quiescent_QueriesKernel := fun m ρ _ => Cert.QueriesKernel.Gen.frame m ρ

/-- The same of the kernel over the extended reals. -/
theorem frame_pi : Cert.quiescent_QueriesKernelIdeal := fun m ρ _ => Cert.QueriesKernelIdeal.Gen.frame m ρ

/-- The reference runs, leaves its arguments unchanged and has no semaphore. -/
theorem frame_ri : Cert.quiescent_QueriesReferenceIdeal := fun m ρ _ =>
  (θ_run Cert.QueriesReferenceIdeal.defs _ _).mono (fun r h => ⟨fun c => (h c).2,
      Idealize.ShloMosaic.sem_eq_zero_of_no_sems (by decide) r.2⟩) (Cert.QueriesReferenceIdeal.Value.run (F := Ideal) m ρ)

set_option maxHeartbeats 4000000 in
/-- The queries are, over the extended reals, those of the reference's lines. -/
theorem value : Cert.algebraic_QueriesKernelIdeal_QueriesReferenceIdeal := by
  pair_intro
  · run_from Cert.QueriesKernelIdeal.Gen.run_main m g
  · run_from Cert.QueriesReferenceIdeal.Value.run m' g'
    obtain ⟨h0, h1⟩ := hagree c
    rw [Cert.QueriesReferenceIdeal.Read.val_main_v40_eq, h0, h1]
    exact (Cert.QueriesKernelIdeal.Value.ref_q _ _).trans (Cert.QueriesKernelIdeal.Value.final_q m c).symm

end Cert.Proof.Queries

end
-- ==== Proof.Keys.lean ====
/- The keys and values of the latent attention: the up-projection and the shared rotary key. -/
module

public import proofs.«01_k».proof.Defs
public import proofs.«01_k».proof.Proof.Gen.KeysKernel.Frame
public import proofs.«01_k».proof.Proof.Gen.KeysKernelIdeal.Value
public import proofs.«01_k».proof.Proof.Gen.KeysReferenceIdeal.Read
public import Idealize.ShloMosaic.Lib.Pointwise
public import Idealize.ShloMosaic.Lib.Pipeline.ValueKit

@[expose] public section

set_option maxRecDepth 16384

noncomputable section

namespace Cert.KeysKernelIdeal.Value

open Cert.KeysKernelIdeal Cert.KeysKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is head `t / 4`, block `t % 4` of the rows. -/
theorem idx : ∀ t : Fin cfg0.N, win0_0.index t = ![t.val % 4, 0] ∧ win0_1.index t = ![t.val / 4, 0, 0]
    ∧ win0_2.index t = ![t.val % 4, 0] ∧ win0_3.index t = ![t.val / 4, t.val % 4, 0] ∧ win0_4.index t = ![t.val / 4, t.val % 4, 0] :=
  (by decide +kernel : ∀ t : Fin grid0.N, _)

/-- The row that row `r` of a grid point's block holds, and the point's head. -/
def row (t : Fin cfg0.N) (r : Fin 512) : Fin 2048 := ⟨t.val % 4 * 512 + r.val, by omega⟩
def head (t : Fin cfg0.N) : Fin 8 := ⟨t.val / 4, by have := t.isLt; have hN : cfg0.N = 32 := N_0; omega⟩

/-- The arguments of a device: the normed latents, the up-projection, the turned key part that the heads share. -/
abbrev qa (c : Dev nD) : FVec Ideal S2048x512 .f32 := m ((c : Thread nD τ).loc main_arg0)
abbrev wa (c : Dev nD) : FVec Ideal S512x2048 .f32 := m ((c : Thread nD τ).loc main_arg1)
abbrev ra (c : Dev nD) : FVec Ideal S2048x64 .f32 := m ((c : Thread nD τ).loc main_arg2)

/-- Column `a` of head `h` in the joined columns. -/
def col (h : Fin 8) (a : Fin 256) : Fin 2048 := ⟨h.val * 256 + a.val, by omega⟩

theorem q_blk (c : Dev nD) (t : Fin cfg0.N) (r : Fin 512) (k : Fin 512) : iblk m c 0 t (ix2 r k) = qa m c (ix2 (row t r) k) := by
  unfold row
  blk_point [iblk, V, idx t]

theorem w_blk (c : Dev nD) (t : Fin cfg0.N) (k : Fin 512) (a : Fin 256) :
    iblk m c 1 t (ix3 0 k a) = wa m c (ix2 k (col (head t) a)) := by
  unfold col head
  blk_point [iblk, V, idx t]

theorem r_blk (c : Dev nD) (t : Fin cfg0.N) (r : Fin 512) (k : Fin 64) : iblk m c 2 t (ix2 r k) = ra m c (ix2 (row t r) k) := by
  unfold row
  blk_point [iblk, V, idx t]

theorem emb3 (t : Fin cfg0.N) (y : S1x512x192.Idx) :
    ((View.whole main_v5_0).slice (win0_3.rect t)).emb y = ix3 (head t) (row t (y 1)) (y 2) := by
  unfold row head
  blk_ext [idx t]

theorem emb4 (t : Fin cfg0.N) (y : S1x512x128.Idx) :
    ((View.whole main_v5_1).slice (win0_4.rect t)).emb y = ix3 (head t) (row t (y 1)) (y 2) := by
  unfold row head
  blk_ext [idx t]

theorem eta3 {a b : ℕ} (y : (⟨3, ![1, a, b]⟩ : Shape).Idx) : y = ix3 0 (y 1) (y 2) := by
  funext i
  fin_cases i
  · exact Subsingleton.elim (α := Fin 1) _ _
  · rfl
  · rfl

/-- The up-projection's row `r` and column `a` of head `h`. -/
def proj (q : FVec Ideal S2048x512 .f32) (w : FVec Ideal S512x2048 .f32) (h : Fin 8) (r : Fin 2048) (a : Fin 256) : EReal :=
  ∑ k, q (ix2 r k) * w (ix2 k (col h a))

/-- The keys: the head's own part and the shared rotary part. -/
def ks (q : FVec Ideal S2048x512 .f32) (w : FVec Ideal S512x2048 .f32) (x : FVec Ideal S2048x64 .f32) (h : Fin 8) (r : Fin 2048) (a : Fin 192) : EReal :=
  if a.val < 128 then proj q w h r ⟨a.val, by omega⟩ else x (ix2 r ⟨a.val - 128, by omega⟩)

/-- The values: the columns after the keys'. -/
def vs (q : FVec Ideal S2048x512 .f32) (w : FVec Ideal S512x2048 .f32) : FVec Ideal S8x2048x128 .bf16 :=
  fun x => proj q w (x 0) (x 1) ⟨128 + (x 2).val, by have : (x 2).val < 128 := (x 2).isLt; omega⟩

theorem proj_blk (c : Dev nD) (t : Fin cfg0.N) (r : Fin 512) (a : Fin 256) :
    k0_pay1 (F := Ideal) (iblk m c 0 t) (iblk m c 1 t) (ix2 r a) = proj (qa m c) (wa m c) (head t) (row t r) a := by
  pointwise [k0_pay1]
  simp only [q_blk, w_blk]
  rfl

theorem key_blk (c : Dev nD) (t : Fin cfg0.N) (r : Fin 512) (k : Fin 128) :
    k0_pay2 (F := Ideal) (iblk m c 0 t) (iblk m c 1 t) (ix3 0 r k) = proj (qa m c) (wa m c) (head t) (row t r) ⟨k.val, by omega⟩ := by
  pointwise [k0_pay2]
  exact proj_blk m c t r ⟨k.val, by omega⟩

theorem shared_blk (c : Dev nD) (t : Fin cfg0.N) (r : Fin 512) (k : Fin 64) :
    k0_pay3 (F := Ideal) (iblk m c 2 t) (ix3 0 r k) = ra m c (ix2 (row t r) k) := by
  pointwise [k0_pay3]
  exact r_blk m c t r k

theorem v_blk (c : Dev nD) (t : Fin cfg0.N) (r : Fin 512) (k : Fin 128) :
    k0_pay4 (F := Ideal) (iblk m c 0 t) (iblk m c 1 t) (ix3 0 r k) = vs (qa m c) (wa m c) (ix3 (head t) (row t r) k) := by
  pointwise [k0_pay4]
  exact proj_blk m c t r ⟨128 + k.val, by omega⟩

/-- The two stores of the keys' block. -/
theorem pieces3 (c : Dev nD) (t : Fin cfg0.N) (y : S1x512x192.Idx) :
    View.canon (Val := Elt Ideal) (s := S1x512x192) (e := .bf16)
      [⟨Rect.unit ![0, 0, 128] ![1, 512, 64] inb_S1x512x192_S1x512x64_0_0_128,
          k0_pay3 (iblk m c 2 t)⟩,
        ⟨Rect.unit ![0, 0, 0] ![1, 512, 128] inb_S1x512x192_S1x512x128_0_0_0, k0_pay2 (iblk m c 0 t) (iblk m c 1 t)⟩] y
      = ks (qa m c) (wa m c) (ra m c) (head t) (row t (y 1)) (y 2) := by
  have hy0 : (y 0).val < 1 := (y 0).isLt
  have hy1 : (y 1).val < 512 := (y 1).isLt
  have hy2 : (y 2).val < 192 := (y 2).isLt
  refine View.canon_apply_of_pieces (Val := Elt Ideal) (S := S1x512x192) (e := .bf16) (fun y => ks (qa m c) (wa m c) (ra m c) (head t) (row t (y 1)) (y 2)) _ ?_ y ?_
  · intro pc hpc x
    rcases List.mem_cons.mp hpc with rfl | hpc
    · have hx : (x 2).val < 64 := (x 2).isLt
      refine (congrArg _ (eta3 x)).trans ((shared_blk m c t (x 1) (x 2)).trans ?_)
      have e0 : row t (((Rect.unit (s := S1x512x192) ![0, 0, 128] ![1, 512, 64] inb_S1x512x192_S1x512x64_0_0_128).emb x) 1) = row t (x 1) :=
        congrArg (row t) (Fin.ext (by show 0 + 1 * (x 1).val = (x 1).val; omega))
      have e1 : (((Rect.unit (s := S1x512x192) ![0, 0, 128] ![1, 512, 64] inb_S1x512x192_S1x512x64_0_0_128).emb x) 2).val = 128 + (x 2).val := by
        show 128 + 1 * (x 2).val = _; omega
      dsimp only
      unfold ks
      rw [if_neg (by rw [e1]; omega), e0]
      exact congrArg _ (congrArg (ix2 (row t (x 1))) (Fin.ext (by dsimp only; omega)))
    rcases List.mem_cons.mp hpc with rfl | hpc
    · have hx : (x 2).val < 128 := (x 2).isLt
      refine (congrArg _ (eta3 x)).trans ((key_blk m c t (x 1) (x 2)).trans ?_)
      have e0 : row t (((Rect.unit (s := S1x512x192) ![0, 0, 0] ![1, 512, 128] inb_S1x512x192_S1x512x128_0_0_0).emb x) 1) = row t (x 1) :=
        congrArg (row t) (Fin.ext (by show 0 + 1 * (x 1).val = (x 1).val; omega))
      have e1 : (((Rect.unit (s := S1x512x192) ![0, 0, 0] ![1, 512, 128] inb_S1x512x192_S1x512x128_0_0_0).emb x) 2).val = (x 2).val := by
        show 0 + 1 * (x 2).val = _; omega
      dsimp only
      unfold ks
      rw [if_pos (by rw [e1]; omega), e0]
      exact congrArg _ (Fin.ext (by dsimp only; omega))
    nomatch hpc
  · by_cases h0 : (y 2).val < 128
    · refine ⟨_, List.mem_cons_of_mem _ List.mem_cons_self, ?_⟩
      show y ∈ (Rect.unit (s := S1x512x192) ![0, 0, 0] ![1, 512, 128] inb_S1x512x192_S1x512x128_0_0_0).set
      rw [Rect.mem_set_unit]
      intro a
      match a with
      | ⟨0, _⟩ => show 0 ≤ (y 0).val ∧ (y 0).val < 0 + 1; omega
      | ⟨1, _⟩ => show 0 ≤ (y 1).val ∧ (y 1).val < 0 + 512; omega
      | ⟨2, _⟩ => show 0 ≤ (y 2).val ∧ (y 2).val < 0 + 128; omega
    · refine ⟨_, List.mem_cons_self, ?_⟩
      show y ∈ (Rect.unit (s := S1x512x192) ![0, 0, 128] ![1, 512, 64] inb_S1x512x192_S1x512x64_0_0_128).set
      rw [Rect.mem_set_unit]
      intro a
      match a with
      | ⟨0, _⟩ => show 0 ≤ (y 0).val ∧ (y 0).val < 0 + 1; omega
      | ⟨1, _⟩ => show 0 ≤ (y 1).val ∧ (y 1).val < 0 + 512; omega
      | ⟨2, _⟩ => show 128 ≤ (y 2).val ∧ (y 2).val < 128 + 64; omega

theorem final_k (c : Dev nD) : (dats m 0 c).arrAt 3 (cfgs 0).N = fun x => ks (qa m c) (wa m c) (ra m c) (x 0) (x 1) (x 2) := by
  refine (dats m 0 c).arrAt_eq_of_covers 3 _ (by decide +kernel) fun t _ y => ?_
  blk_simp
  rw [after0_3, emb3]
  unfold outsAt0
  frame_out
  exact pieces3 m c t y

theorem final_v (c : Dev nD) : (dats m 0 c).arrAt 4 (cfgs 0).N = vs (qa m c) (wa m c) := by
  refine (dats m 0 c).arrAt_eq_of_covers 4 _ (by decide +kernel) fun t _ y => ?_
  blk_simp
  rw [after0_4, emb4]
  unfold outsAt0
  frame_out
  exact (congrArg _ (eta3 y)).trans (v_blk m c t (y 1) (y 2))

section Reference

open Cert.KeysReferenceIdeal.Read

theorem ref_proj (q : FVec Ideal S2048x512 .f32) (w : FVec Ideal S512x2048 .f32) (h : Fin 8) (r : Fin 2048) (a : Fin 256) :
    val_main_v1 (F := Ideal) q w (ix3 r h a) = proj q w h r a := by
  unfold proj col
  pointwise [val_main_v1, val_main_v0]

/-- The reference's keys and values, heads first. -/
theorem ref_k (q : FVec Ideal S2048x512 .f32) (w : FVec Ideal S512x2048 .f32) (z : FVec Ideal S2048x64 .f32) :
    val_main_v8 (F := Ideal) q w z = fun x => ks q w z (x 0) (x 1) (x 2) := by
  funext x
  obtain ⟨h, r, a, rfl⟩ : ∃ (h : Fin 8) (r : Fin 2048) (a : Fin 192), x = ix3 h r a :=
    ⟨x 0, x 1, x 2, by funext i; fin_cases i <;> rfl⟩
  show _ = ks q w z h r a
  unfold ks
  pointwise [val_main_v8, val_main_v7, val_main_v6]
  by_cases ha : a.val < 128
  · rw [dif_pos ha, if_pos ha]
    pointwise [val_main_v2]
    exact ref_proj q w h r ⟨a.val, by omega⟩
  · rw [dif_neg ha, if_neg ha]
    pointwise [val_main_v5, val_main_v4]

theorem ref_v (q : FVec Ideal S2048x512 .f32) (w : FVec Ideal S512x2048 .f32) : val_main_v10 (F := Ideal) q w = vs q w := by
  funext x
  obtain ⟨h, r, a, rfl⟩ : ∃ (h : Fin 8) (r : Fin 2048) (a : Fin 128), x = ix3 h r a :=
    ⟨x 0, x 1, x 2, by funext i; fin_cases i <;> rfl⟩
  show _ = proj q w h r ⟨128 + a.val, by omega⟩
  pointwise [val_main_v10, val_main_v9, val_main_v3]
  exact ref_proj q w h r ⟨128 + a.val, by omega⟩

end Reference

end Cert.KeysKernelIdeal.Value

namespace Cert.Proof.Keys

open Idealize.ShloMosaic Idealize.ShloMosaic.TcCoe Idealize.SL.Sem

/-- The kernel at the bit level runs, leaves its arguments unchanged and ends quiescent. -/
theorem frame_p : Cert.quiescent_KeysKernel := fun m ρ _ => Cert.KeysKernel.Gen.frame m ρ

/-- The same of the kernel over the extended reals. -/
theorem frame_pi : Cert.quiescent_KeysKernelIdeal := fun m ρ _ => Cert.KeysKernelIdeal.Gen.frame m ρ

/-- The reference runs, leaves its arguments unchanged and has no semaphore. -/
theorem frame_ri : Cert.quiescent_KeysReferenceIdeal := fun m ρ _ =>
  (θ_run Cert.KeysReferenceIdeal.defs _ _).mono (fun r h => ⟨fun c => (h c).2.2,
      Idealize.ShloMosaic.sem_eq_zero_of_no_sems (by decide) r.2⟩) (Cert.KeysReferenceIdeal.Value.run (F := Ideal) m ρ)

set_option maxHeartbeats 4000000 in
/-- The keys and the values are, over the extended reals, those of the reference's lines. -/
theorem value : Cert.algebraic_KeysKernelIdeal_KeysReferenceIdeal := by
  pair_intro
  · run_from Cert.KeysKernelIdeal.Gen.run_main m g
  · run_from Cert.KeysReferenceIdeal.Value.run m' g'
    · obtain ⟨h0, h1, h2⟩ := hagree c
      refine (Cert.KeysKernelIdeal.Value.ref_k _ _ _).trans ?_
      rw [h2]
      exact (Cert.KeysKernelIdeal.Value.final_k m c).symm
    · exact (Cert.KeysKernelIdeal.Value.ref_v _ _).trans (Cert.KeysKernelIdeal.Value.final_v m c).symm

end Cert.Proof.Keys

end
-- ==== Proof.Parts.lean ====
/- Sums over groups and over stretches, added from the first. -/
module

public import Mathlib.Data.EReal.Basic
public import Mathlib.Algebra.BigOperators.Fin
public import Mathlib.Logic.Equiv.Fin.Basic
public import Idealize.ShloMosaic.Lib.Pointwise
public import Idealize.ShloMosaic.Lib.Pipeline.ValueKit

@[expose] public section

set_option maxRecDepth 16384

noncomputable section

namespace Cert.Proof.Parts

/-- A sum over eight groups of `n` terms, group by group and added from the first, is the sum over all. -/
theorem eight {n : ℕ} (f : Fin (8 * n) → EReal) (u : Fin 8 → Fin n → Fin (8 * n)) (hu : ∀ g i, (u g i).val = g.val * n + i.val) :
    (∑ i, f (u 0 i)) + (∑ i, f (u 1 i)) + (∑ i, f (u 2 i)) + (∑ i, f (u 3 i)) + (∑ i, f (u 4 i)) + (∑ i, f (u 5 i)) + (∑ i, f (u 6 i))
      + (∑ i, f (u 7 i)) = ∑ k, f k := by
  rw [← Fin.sum_univ_eight (fun g => ∑ i, f (u g i)), ← Fintype.sum_prod_type' (f := fun g i => f (u g i))]
  refine Fintype.sum_equiv finProdFinEquiv _ _ fun p => congrArg f (Fin.ext ?_)
  rw [hu]
  show p.1.val * n + p.2.val = p.2.val + n * p.1.val
  rw [mul_comm, add_comm]

/-- A sum over four stretches, added from the first, is the sum over all. -/
theorem four {a b c d n : ℕ} (h : n = a + b + c + d) (f : Fin n → EReal) :
    (∑ i : Fin a, f ⟨i.val, by omega⟩) + (∑ i : Fin b, f ⟨a + i.val, by omega⟩) + (∑ i : Fin c, f ⟨a + b + i.val, by omega⟩)
      + (∑ i : Fin d, f ⟨a + b + c + i.val, by omega⟩) = ∑ k, f k := by
  subst h
  rw [Fin.sum_univ_add, Fin.sum_univ_add, Fin.sum_univ_add]
  rfl

end Cert.Proof.Parts

end
-- ==== Proof.Down.lean ====
/- The down-projection of a half-step SwiGLU, added to its residual. -/
module

public import proofs.«01_k».proof.Defs
public import proofs.«01_k».proof.Proof.Gen.DownKernel.Frame
public import proofs.«01_k».proof.Proof.Gen.DownKernelIdeal.Value
public import proofs.«01_k».proof.Proof.Gen.DownReferenceIdeal.Read
public import proofs.«01_k».proof.Proof.Parts
public import Idealize.ShloMosaic.Lib.Pointwise
public import Idealize.ShloMosaic.Lib.Pipeline.ValueKit

@[expose] public section

set_option maxRecDepth 16384

noncomputable section

namespace Cert.DownKernelIdeal.Value

open Cert.DownKernelIdeal Cert.DownKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column block `t / 2`, half `t % 2` of the rows. -/
theorem idx : ∀ t : Fin cfg0.N, win0_0.index t = ![0, t.val % 2, 0] ∧ win0_1.index t = ![0, 0, t.val / 2]
    ∧ win0_2.index t = ![t.val % 2, t.val / 2] ∧ win0_3.index t = ![t.val % 2, t.val / 2] :=
  (by decide +kernel : ∀ t : Fin grid0.N, _)

/-- The row that row `r` of a grid point's block holds. -/
def row (t : Fin cfg0.N) (r : Fin 1024) : Fin 2048 := ⟨t.val % 2 * 1024 + r.val, by omega⟩

/-- The column that column `j` of a grid point's block holds. -/
def col (t : Fin cfg0.N) (j : Fin 512) : Fin 2048 :=
  ⟨t.val / 2 * 512 + j.val, by have := t.isLt; have hN : cfg0.N = 8 := N_0; omega⟩

/-- Hidden unit `f` of group `g`. -/
def unit (g : Fin 8) (f : Fin 704) : Fin 5632 := ⟨g.val * 704 + f.val, by omega⟩

/-- The arguments of a device: the hidden layer, the down-projection and the residual. -/
abbrev ha (c : Dev nD) : FVec Ideal S2048x5632 .f32 := m ((c : Thread nD τ).loc main_arg0)
abbrev wa (c : Dev nD) : FVec Ideal S5632x2048 .f32 := m ((c : Thread nD τ).loc main_arg1)
abbrev xa (c : Dev nD) : FVec Ideal S2048x2048 .f32 := m ((c : Thread nD τ).loc main_arg2)

theorem h_blk (c : Dev nD) (t : Fin cfg0.N) (g : Fin 8) (r : Fin 1024) (f : Fin 704) :
    iblk m c 0 t (ix3 g r f) = ha m c (ix2 (row t r) (unit g f)) := by
  unfold row unit
  blk_point [iblk, V, idx t]

theorem w_blk (c : Dev nD) (t : Fin cfg0.N) (g : Fin 8) (f : Fin 704) (j : Fin 512) :
    iblk m c 1 t (ix3 g f j) = wa m c (ix2 (unit g f) (col t j)) := by
  unfold col unit
  blk_point [iblk, V, idx t]

theorem x_blk (c : Dev nD) (t : Fin cfg0.N) (r : Fin 1024) (j : Fin 512) :
    iblk m c 2 t (ix2 r j) = xa m c (ix2 (row t r) (col t j)) := by
  unfold row col
  blk_point [iblk, V, idx t]

theorem emb3 (t : Fin cfg0.N) (y : S1024x512.Idx) : (win0_3.blk t).view.emb y = ix2 (row t (y 0)) (col t (y 1)) := by
  unfold col row
  blk_ext [idx t]

/-- One group's part of the product at row `r` and column `j`, and the whole product. -/
def part (h : FVec Ideal S2048x5632 .f32) (w : FVec Ideal S5632x2048 .f32) (r j : Fin 2048) (g : Fin 8) : EReal :=
  ∑ f, h (ix2 r (unit g f)) * w (ix2 (unit g f) j)
def prod (h : FVec Ideal S2048x5632 .f32) (w : FVec Ideal S5632x2048 .f32) (r j : Fin 2048) : EReal :=
  ∑ k, h (ix2 r k) * w (ix2 k j)

/-- The eight groups' parts, added from the first, are the whole product. -/
theorem parts (h : FVec Ideal S2048x5632 .f32) (w : FVec Ideal S5632x2048 .f32) (r j : Fin 2048) :
    part h w r j 0 + part h w r j 1 + part h w r j 2 + part h w r j 3 + part h w r j 4 + part h w r j 5 + part h w r j 6 + part h w r j 7
      = prod h w r j := by
  exact Cert.Proof.Parts.eight (n := 704) (fun k => h (ix2 r k) * w (ix2 k j)) unit fun _ _ => rfl

/-- The residual with half the product added. -/
def outArr (h : FVec Ideal S2048x5632 .f32) (w : FVec Ideal S5632x2048 .f32) (x : FVec Ideal S2048x2048 .f32) : FVec Ideal S2048x2048 .f32 :=
  fun y => x y + Ideal.ofBits .f32 0x3F000000#32 * prod h w (y 0) (y 1)

theorem eta2 (y : S1024x512.Idx) : y = ix2 (y 0) (y 1) := by
  funext i
  fin_cases i <;> rfl

theorem final (c : Dev nD) : (dats m 0 c).arrAt 3 (cfgs 0).N = outArr (ha m c) (wa m c) (xa m c) := by
  refine (dats m 0 c).arrAt_eq_of_covers 3 _ (by decide +kernel) fun t _ y => ?_
  blk_simp
  rw [after0_3, emb3]; frame_out
  obtain ⟨r, j, rfl⟩ : ∃ (r : Fin 1024) (j : Fin 512), y = ix2 r j := ⟨y 0, y 1, eta2 y⟩
  show _ = xa m c (ix2 (row t r) (col t j)) + Ideal.ofBits .f32 0x3F000000#32 * prod (ha m c) (wa m c) (row t r) (col t j)
  rw [← parts]
  pointwise [k0_pay1, k0_pay2, k0_pay3]
  simp only [h_blk, w_blk, x_blk]
  rfl

open Cert.DownReferenceIdeal.Read in
/-- The reference's sum. -/
theorem ref (h : FVec Ideal S2048x5632 .f32) (w : FVec Ideal S5632x2048 .f32) (x : FVec Ideal S2048x2048 .f32) :
    val_main_v3 (F := Ideal) h w x = outArr h w x := by
  funext y
  obtain ⟨r, j, rfl⟩ : ∃ (r : Fin 2048) (j : Fin 2048), y = ix2 r j := ⟨y 0, y 1, by funext i; fin_cases i <;> rfl⟩
  pointwise [val_main_v3, val_main_v2, val_main_v1, val_main_v0, val_main_cst]
  rfl

end Cert.DownKernelIdeal.Value

namespace Cert.Proof.Down

open Idealize.ShloMosaic Idealize.ShloMosaic.TcCoe Idealize.SL.Sem

/-- The kernel at the bit level runs, leaves its arguments unchanged and ends quiescent. -/
theorem frame_p : Cert.quiescent_DownKernel := fun m ρ _ => Cert.DownKernel.Gen.frame m ρ

/-- The same of the kernel over the extended reals. -/
theorem frame_pi : Cert.quiescent_DownKernelIdeal := fun m ρ _ => Cert.DownKernelIdeal.Gen.frame m ρ

/-- The reference runs, leaves its arguments unchanged and has no semaphore. -/
theorem frame_ri : Cert.quiescent_DownReferenceIdeal := fun m ρ _ =>
  (θ_run Cert.DownReferenceIdeal.defs _ _).mono (fun r h => ⟨fun c => (h c).2,
      Idealize.ShloMosaic.sem_eq_zero_of_no_sems (by decide) r.2⟩) (Cert.DownReferenceIdeal.Value.run (F := Ideal) m ρ)

/-- The residual with half the down-projection added is, over the extended reals, that of the reference's lines. -/
theorem value : Cert.algebraic_DownKernelIdeal_DownReferenceIdeal := by
  pair_intro
  · run_from Cert.DownKernelIdeal.Gen.run_main m g
  · run_from Cert.DownReferenceIdeal.Value.run m' g'
    exact (Cert.DownKernelIdeal.Value.ref _ _ _).trans (Cert.DownKernelIdeal.Value.final m c).symm

end Cert.Proof.Down

end
-- ==== Proof.Out.lean ====
/- The mixers' output projection, added to the residual. -/
module

public import proofs.«01_k».proof.Defs
public import proofs.«01_k».proof.Proof.Gen.OutKernel.Frame
public import proofs.«01_k».proof.Proof.Gen.OutKernelIdeal.Value
public import proofs.«01_k».proof.Proof.Gen.OutReferenceIdeal.Read
public import Idealize.ShloMosaic.Lib.Pointwise
public import Idealize.ShloMosaic.Lib.Pipeline.ValueKit

@[expose] public section

set_option maxRecDepth 16384

noncomputable section

namespace Cert.OutKernelIdeal.Value

open Cert.OutKernelIdeal Cert.OutKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column block `t / 2`, half `t % 2` of the rows. -/
theorem idx : ∀ t : Fin cfg0.N, win0_0.index t = ![0, t.val % 2, 0] ∧ win0_1.index t = ![0, 0, t.val / 2]
    ∧ win0_2.index t = ![t.val % 2, t.val / 2] ∧ win0_3.index t = ![t.val % 2, t.val / 2] :=
  (by decide +kernel : ∀ t : Fin grid0.N, _)

/-- The row that row `r` of a grid point's block holds. -/
def row (t : Fin cfg0.N) (r : Fin 1024) : Fin 2048 := ⟨t.val % 2 * 1024 + r.val, by omega⟩

/-- The column that column `j` of a grid point's block holds. -/
def col (t : Fin cfg0.N) (j : Fin 512) : Fin 2048 :=
  ⟨t.val / 2 * 512 + j.val, by have := t.isLt; have hN : cfg0.N = 8 := N_0; omega⟩

/-- Column `f` of the sum in group `g`. -/
def unit (g : Fin 8) (f : Fin 256) : Fin 2048 := ⟨g.val * 256 + f.val, by omega⟩

/-- The arguments of a device: the gated sum, the output projection and the residual. -/
abbrev ha (c : Dev nD) : FVec Ideal S2048x2048 .f32 := m ((c : Thread nD τ).loc main_arg0)
abbrev wa (c : Dev nD) : FVec Ideal S2048x2048 .f32 := m ((c : Thread nD τ).loc main_arg1)
abbrev xa (c : Dev nD) : FVec Ideal S2048x2048 .f32 := m ((c : Thread nD τ).loc main_arg2)

theorem h_blk (c : Dev nD) (t : Fin cfg0.N) (g : Fin 8) (r : Fin 1024) (f : Fin 256) :
    iblk m c 0 t (ix3 g r f) = ha m c (ix2 (row t r) (unit g f)) := by
  unfold row unit
  blk_point [iblk, V, idx t]

theorem w_blk (c : Dev nD) (t : Fin cfg0.N) (g : Fin 8) (f : Fin 256) (j : Fin 512) :
    iblk m c 1 t (ix3 g f j) = wa m c (ix2 (unit g f) (col t j)) := by
  unfold col unit
  blk_point [iblk, V, idx t]

theorem x_blk (c : Dev nD) (t : Fin cfg0.N) (r : Fin 1024) (j : Fin 512) :
    iblk m c 2 t (ix2 r j) = xa m c (ix2 (row t r) (col t j)) := by
  unfold row col
  blk_point [iblk, V, idx t]

theorem emb3 (t : Fin cfg0.N) (y : S1024x512.Idx) : (win0_3.blk t).view.emb y = ix2 (row t (y 0)) (col t (y 1)) := by
  unfold col row
  blk_ext [idx t]

/-- One group's part of the product at row `r` and column `j`, and the whole product. -/
def part (h : FVec Ideal S2048x2048 .f32) (w : FVec Ideal S2048x2048 .f32) (r j : Fin 2048) (g : Fin 8) : EReal :=
  ∑ f, h (ix2 r (unit g f)) * w (ix2 (unit g f) j)
def prod (h : FVec Ideal S2048x2048 .f32) (w : FVec Ideal S2048x2048 .f32) (r j : Fin 2048) : EReal :=
  ∑ k, h (ix2 r k) * w (ix2 k j)

/-- The eight groups' parts, added from the first, are the whole product. -/
theorem parts (h : FVec Ideal S2048x2048 .f32) (w : FVec Ideal S2048x2048 .f32) (r j : Fin 2048) :
    part h w r j 0 + part h w r j 1 + part h w r j 2 + part h w r j 3 + part h w r j 4 + part h w r j 5 + part h w r j 6 + part h w r j 7
      = prod h w r j := by
  rw [← Fin.sum_univ_eight (part h w r j)]
  unfold part prod
  rw [← Fintype.sum_prod_type' (f := fun (g : Fin 8) (f : Fin 256) => h (ix2 r (unit g f)) * w (ix2 (unit g f) j))]
  refine Fintype.sum_equiv (finProdFinEquiv (m := 8) (n := 256)) _ _ fun p => ?_
  have e : unit p.1 p.2 = finProdFinEquiv (m := 8) (n := 256) p := Fin.ext (by show p.1.val * 256 + p.2.val = p.2.val + 256 * p.1.val; omega)
  rw [e]

/-- The residual with the product added. -/
def outArr (h : FVec Ideal S2048x2048 .f32) (w : FVec Ideal S2048x2048 .f32) (x : FVec Ideal S2048x2048 .f32) : FVec Ideal S2048x2048 .f32 :=
  fun y => x y + prod h w (y 0) (y 1)

theorem eta2 (y : S1024x512.Idx) : y = ix2 (y 0) (y 1) := by
  funext i
  fin_cases i <;> rfl

theorem final (c : Dev nD) : (dats m 0 c).arrAt 3 (cfgs 0).N = outArr (ha m c) (wa m c) (xa m c) := by
  refine (dats m 0 c).arrAt_eq_of_covers 3 _ (by decide +kernel) fun t _ y => ?_
  blk_simp
  rw [after0_3, emb3]; frame_out
  obtain ⟨r, j, rfl⟩ : ∃ (r : Fin 1024) (j : Fin 512), y = ix2 r j := ⟨y 0, y 1, eta2 y⟩
  show _ = xa m c (ix2 (row t r) (col t j)) + prod (ha m c) (wa m c) (row t r) (col t j)
  rw [← parts]
  pointwise [k0_pay1, k0_pay2, k0_pay3]
  simp only [h_blk, w_blk, x_blk]
  rfl

open Cert.OutReferenceIdeal.Read in
/-- The reference's sum. -/
theorem ref (h : FVec Ideal S2048x2048 .f32) (w : FVec Ideal S2048x2048 .f32) (x : FVec Ideal S2048x2048 .f32) :
    val_main_v1 (F := Ideal) h w x = outArr h w x := by
  funext y
  obtain ⟨r, j, rfl⟩ : ∃ (r : Fin 2048) (j : Fin 2048), y = ix2 r j := ⟨y 0, y 1, by funext i; fin_cases i <;> rfl⟩
  pointwise [val_main_v1, val_main_v0]
  rfl

end Cert.OutKernelIdeal.Value

namespace Cert.Proof.Out

open Idealize.ShloMosaic Idealize.ShloMosaic.TcCoe Idealize.SL.Sem

/-- The kernel at the bit level runs, leaves its arguments unchanged and ends quiescent. -/
theorem frame_p : Cert.quiescent_OutKernel := fun m ρ _ => Cert.OutKernel.Gen.frame m ρ

/-- The same of the kernel over the extended reals. -/
theorem frame_pi : Cert.quiescent_OutKernelIdeal := fun m ρ _ => Cert.OutKernelIdeal.Gen.frame m ρ

/-- The reference runs, leaves its arguments unchanged and has no semaphore. -/
theorem frame_ri : Cert.quiescent_OutReferenceIdeal := fun m ρ _ =>
  (θ_run Cert.OutReferenceIdeal.defs _ _).mono (fun r h => ⟨fun c => (h c).2,
      Idealize.ShloMosaic.sem_eq_zero_of_no_sems (by decide) r.2⟩) (Cert.OutReferenceIdeal.Value.run (F := Ideal) m ρ)

/-- The residual with the output projection added is, over the extended reals, that of the reference's lines. -/
theorem value : Cert.algebraic_OutKernelIdeal_OutReferenceIdeal := by
  pair_intro
  · run_from Cert.OutKernelIdeal.Gen.run_main m g
  · run_from Cert.OutReferenceIdeal.Value.run m' g'
    exact (Cert.OutKernelIdeal.Value.ref _ _ _).trans (Cert.OutKernelIdeal.Value.final m c).symm

end Cert.Proof.Out

end
-- ==== Proof.Nafwd.lean ====
/- The forward neighbourhood attention: kernel and reference run and leave their arguments, and the
   idealized kernel is the kernel with its masked score named. -/
module

public import proofs.«01_k».proof.Defs
public import proofs.«01_k».proof.Proof.Gen.NafwdKernel.Frame
public import proofs.«01_k».proof.Proof.Gen.NafwdKernelIdeal.Frame
public import proofs.«01_k».proof.Proof.Gen.NafwdReferenceIdeal.Run
public import Idealize.ShloMosaic.Lib.Pointwise
public import Idealize.ShloMosaic.Lib.Pipeline.ValueKit

@[expose] public section

set_option maxRecDepth 16384

noncomputable section

namespace Cert.Proof.Nafwd

open Idealize.ShloMosaic Idealize.ShloMosaic.TcCoe Idealize.SL.Sem

/-- The kernel at the bit level runs, leaves its arguments unchanged and ends quiescent. -/
theorem frame_p : Cert.quiescent_NafwdKernel := fun m ρ _ => Cert.NafwdKernel.Gen.frame m ρ

/-- The same of the kernel over the extended reals. -/
theorem frame_pi : Cert.quiescent_NafwdKernelIdeal := fun m ρ _ => Cert.NafwdKernelIdeal.Gen.frame m ρ

/-- The reference runs, leaves its arguments unchanged and has no semaphore. -/
theorem frame_ri : Cert.quiescent_NafwdReferenceIdeal := fun m ρ _ =>
  (θ_run Cert.NafwdReferenceIdeal.defs _ _).mono (fun r h => ⟨fun c => (h c).2,
      Idealize.ShloMosaic.sem_eq_zero_of_no_sems (by decide) r.2⟩) (Cert.NafwdReferenceIdeal.Value.run (F := Ideal) m ρ)

/-- The idealized kernel differs from the kernel only in the masked score, which the table names minus infinity. -/
theorem preserves : Cert.preserves_NafwdKernel_NafwdKernelIdeal := IdealRules.named_const.statement _ _ _ _ _ rfl

end Cert.Proof.Nafwd

end
-- ==== Proof.Downdw.lean ====
/- The gradient of the down-projection: half of a plain product over the rows. -/
module

public import proofs.«01_k».proof.Defs
public import proofs.«01_k».proof.Proof.Gen.DowndwKernel.Frame
public import proofs.«01_k».proof.Proof.Gen.DowndwKernelIdeal.Value
public import proofs.«01_k».proof.Proof.Gen.DowndwReferenceIdeal.Read
public import proofs.«01_k».proof.Proof.Softmax
public import Idealize.ShloMosaic.Lib.Pointwise
public import Idealize.ShloMosaic.Lib.Pipeline.ValueKit

@[expose] public section

set_option maxRecDepth 16384

noncomputable section

namespace Cert.DowndwKernelIdeal.Value

open Cert.DowndwKernelIdeal Cert.DowndwKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is row group `t / 2`, half `t % 2` of the columns. -/
theorem idx : ∀ t : Fin cfg0.N, win0_0.index t = ![t.val / 2, 0, 0] ∧ win0_1.index t = ![0, t.val % 2]
    ∧ win0_2.index t = ![t.val / 2, 0, t.val % 2] :=
  (by decide +kernel : ∀ t : Fin grid0.N, _)

/-- The row group of a grid point. -/
def grp (t : Fin cfg0.N) : Fin 8 := ⟨t.val / 2, by have := t.isLt; have hN : cfg0.N = 16 := N_0; omega⟩

/-- The column that column `k` of a grid point's block holds. -/
def half (t : Fin cfg0.N) (k : Fin 1024) : Fin 2048 := ⟨t.val % 2 * 1024 + k.val, by omega⟩

/-- Row `f` of group `j`. -/
def col (j : Fin 8) (f : Fin 704) : Fin 5632 := ⟨j.val * 704 + f.val, by omega⟩

/-- The arguments of a device: the hidden layer and the residual stream's cotangent. -/
abbrev oa (c : Dev nD) : FVec Ideal S2048x5632 .f32 := m ((c : Thread nD τ).loc main_arg0)
abbrev ya (c : Dev nD) : FVec Ideal S2048x2048 .f32 := m ((c : Thread nD τ).loc main_arg1)

theorem o_blk (c : Dev nD) (t : Fin cfg0.N) (r : Fin 2048) (f : Fin 704) : iblk m c 0 t (ix3 0 r f) = oa m c (ix2 r (col (grp t) f)) := by
  unfold col grp
  blk_point [iblk, V, idx t]

theorem y_blk (c : Dev nD) (t : Fin cfg0.N) (r : Fin 2048) (k : Fin 1024) : iblk m c 1 t (ix2 r k) = ya m c (ix2 r (half t k)) := by
  unfold half
  blk_point [iblk, V, idx t]

theorem emb2 (t : Fin cfg0.N) (y : S1x704x1024.Idx) : (win0_2.blk t).view.emb y = ix3 (grp t) (y 1) (half t (y 2)) := by
  unfold grp half
  blk_ext [idx t]

/-- The gradient of the weight at row `f` and column `k`, and its layout in row groups. -/
def grad (o : FVec Ideal S2048x5632 .f32) (y : FVec Ideal S2048x2048 .f32) (f : Fin 5632) (k : Fin 2048) : EReal :=
  Ideal.ofBits .f32 0x3F000000#32 * ∑ r, o (ix2 r f) * y (ix2 r k)
def gradArr (o : FVec Ideal S2048x5632 .f32) (y : FVec Ideal S2048x2048 .f32) : FVec Ideal S8x704x2048 .bf16 :=
  fun x => grad o y (col (x 0) (x 1)) (x 2)

theorem final (c : Dev nD) : (dats m 0 c).arrAt 2 (cfgs 0).N = gradArr (oa m c) (ya m c) := by
  refine (dats m 0 c).arrAt_eq_of_covers 2 _ (by decide +kernel) fun t _ y => ?_
  blk_simp
  rw [after0_2, emb2]; frame_out
  obtain ⟨k, f, rfl⟩ : ∃ (k : Fin 1024) (f : Fin 704), y = ix3 0 f k :=
    ⟨y 2, y 1, by funext i; fin_cases i <;> first | rfl | exact Subsingleton.elim (α := Fin 1) _ _⟩
  pointwise [k0_pay1]
  simp only [o_blk, y_blk]
  rfl

open Cert.DowndwReferenceIdeal.Read in
/-- The reference's gradient. -/
theorem ref (o : FVec Ideal S2048x5632 .f32) (y : FVec Ideal S2048x2048 .f32) : val_main_v9 (F := Ideal) o y = gradArr o y := by
  funext x
  obtain ⟨j, k, f, rfl⟩ : ∃ (j : Fin 8) (k : Fin 2048) (f : Fin 704), x = ix3 j f k :=
    ⟨x 0, x 2, x 1, by funext i; fin_cases i <;> rfl⟩
  have e : val_main_v9 (F := Ideal) o y (ix3 j f k) = val_main_v6 (F := Ideal) o y (ix2 k (col j f)) := by
    unfold col
    pointwise [val_main_v9, val_main_v8, val_main_v7]
  rw [e]
  pointwise [val_main_v6, val_main_v5, val_main_v4, val_main_cst_1]
  show _ = Ideal.ofBits .f32 0x3F000000#32 * ∑ r, o (ix2 r (col j f)) * y (ix2 r k)
  obtain ⟨a, ha, e⟩ := Cert.Proof.Softmax.half
  rw [e, Cert.Proof.Softmax.mul_sum ha]
  exact Finset.sum_congr rfl fun r _ => by rw [mul_assoc, mul_comm (y _)]

end Cert.DowndwKernelIdeal.Value

namespace Cert.Proof.Downdw

open Idealize.ShloMosaic Idealize.ShloMosaic.TcCoe Idealize.SL.Sem

/-- The kernel at the bit level runs, leaves its arguments unchanged and ends quiescent. -/
theorem frame_p : Cert.quiescent_DowndwKernel := fun m ρ _ => Cert.DowndwKernel.Gen.frame m ρ

/-- The same of the kernel over the extended reals. -/
theorem frame_pi : Cert.quiescent_DowndwKernelIdeal := fun m ρ _ => Cert.DowndwKernelIdeal.Gen.frame m ρ

/-- The reference runs, leaves its arguments unchanged and has no semaphore. -/
theorem frame_ri : Cert.quiescent_DowndwReferenceIdeal := fun m ρ _ =>
  (θ_run Cert.DowndwReferenceIdeal.defs _ _).mono (fun r h => ⟨fun c => (h c).2,
      Idealize.ShloMosaic.sem_eq_zero_of_no_sems (by decide) r.2⟩) (Cert.DowndwReferenceIdeal.Value.run (F := Ideal) m ρ)

/-- The gradient of the down-projection, with its half, is, over the extended reals, the derivative of the reference's product. -/
theorem value : Cert.algebraic_DowndwKernelIdeal_DowndwReferenceIdeal := by
  pair_intro
  · run_from Cert.DowndwKernelIdeal.Gen.run_main m g
  · run_from Cert.DowndwReferenceIdeal.Value.run m' g'
    exact (Cert.DowndwKernelIdeal.Value.ref _ _).trans (Cert.DowndwKernelIdeal.Value.final m c).symm

end Cert.Proof.Downdw

end
-- ==== Proof.Updw.lean ====
/- The gradients of the gate's and up's weights: two plain products over the rows. -/
module

public import proofs.«01_k».proof.Defs
public import proofs.«01_k».proof.Proof.Gen.UpdwKernel.Frame
public import proofs.«01_k».proof.Proof.Gen.UpdwKernelIdeal.Value
public import proofs.«01_k».proof.Proof.Gen.UpdwReferenceIdeal.Read
public import Idealize.ShloMosaic.Lib.Pointwise
public import Idealize.ShloMosaic.Lib.Pipeline.ValueKit

@[expose] public section

set_option maxRecDepth 16384

noncomputable section

namespace Cert.UpdwKernelIdeal.Value

open Cert.UpdwKernelIdeal Cert.UpdwKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is group `t / 2` of the hidden units, half `t % 2` of the columns. -/
theorem idx : ∀ t : Fin cfg0.N, win0_0.index t = ![t.val / 2, 0, 0] ∧ win0_1.index t = ![0, t.val % 2]
    ∧ win0_2.index t = ![t.val / 2, 0, 0] ∧ win0_3.index t = ![0, t.val % 2] ∧ win0_4.index t = ![t.val / 2, 0, t.val % 2]
    ∧ win0_5.index t = ![t.val / 2, 0, t.val % 2] :=
  (by decide +kernel : ∀ t : Fin grid0.N, _)

/-- The group of a grid point. -/
def grp (t : Fin cfg0.N) : Fin 8 := ⟨t.val / 2, by have := t.isLt; have hN : cfg0.N = 16 := N_0; omega⟩

/-- The column that column `k` of a grid point's block holds. -/
def col (t : Fin cfg0.N) (k : Fin 1024) : Fin 2048 := ⟨t.val % 2 * 1024 + k.val, by omega⟩

/-- Hidden unit `f` of group `g`. -/
def unit (g : Fin 8) (f : Fin 704) : Fin 5632 := ⟨g.val * 704 + f.val, by omega⟩

/-- The arguments of a device: the normed rows and the cotangents of gate and up. -/
abbrev na (c : Dev nD) : FVec Ideal S2048x2048 .f32 := m ((c : Thread nD τ).loc main_arg0)
abbrev ga (c : Dev nD) : FVec Ideal S2048x5632 .f32 := m ((c : Thread nD τ).loc main_arg1)
abbrev ua (c : Dev nD) : FVec Ideal S2048x5632 .f32 := m ((c : Thread nD τ).loc main_arg2)

theorem g_blk (c : Dev nD) (t : Fin cfg0.N) (r : Fin 2048) (f : Fin 704) :
    iblk m c 0 t (ix3 0 r f) = ga m c (ix2 r (unit (grp t) f)) := by
  unfold unit grp
  blk_point [iblk, V, idx t]

theorem n_blk (c : Dev nD) (t : Fin cfg0.N) (r : Fin 2048) (k : Fin 1024) : iblk m c 1 t (ix2 r k) = na m c (ix2 r (col t k)) := by
  unfold col
  blk_point [iblk, V, idx t]

theorem u_blk (c : Dev nD) (t : Fin cfg0.N) (r : Fin 2048) (f : Fin 704) :
    iblk m c 2 t (ix3 0 r f) = ua m c (ix2 r (unit (grp t) f)) := by
  unfold unit grp
  blk_point [iblk, V, idx t]

theorem m_blk (c : Dev nD) (t : Fin cfg0.N) (r : Fin 2048) (k : Fin 1024) : iblk m c 3 t (ix2 r k) = na m c (ix2 r (col t k)) := by
  unfold col
  blk_point [iblk, V, idx t]

theorem emb4 (t : Fin cfg0.N) (y : S1x704x1024.Idx) :
    ((View.whole main_v7_0).slice (win0_4.rect t)).emb y = ix3 (grp t) (y 1) (col t (y 2)) := by
  unfold grp col
  blk_ext [idx t]

theorem emb5 (t : Fin cfg0.N) (y : S1x704x1024.Idx) :
    ((View.whole main_v7_1).slice (win0_5.rect t)).emb y = ix3 (grp t) (y 1) (col t (y 2)) := by
  unfold grp col
  blk_ext [idx t]

/-- The gradient of a weight: at group `y 0`, unit `y 1` and column `y 2`. -/
def dwArr (d : FVec Ideal S2048x5632 .f32) (n : FVec Ideal S2048x2048 .f32) : FVec Ideal S8x704x2048 .bf16 :=
  fun y => ∑ r, d (ix2 r (unit (y 0) (y 1))) * n (ix2 r (y 2))

theorem eta3 (y : S1x704x1024.Idx) : ∃ (f : Fin 704) (k : Fin 1024), y = ix3 0 f k :=
  ⟨y 1, y 2, by funext i; fin_cases i; exacts [Subsingleton.elim (α := Fin 1) _ _, rfl, rfl]⟩

theorem final4 (c : Dev nD) : (dats m 0 c).arrAt 4 (cfgs 0).N = dwArr (ga m c) (na m c) := by
  refine (dats m 0 c).arrAt_eq_of_covers 4 _ (by decide +kernel) fun t _ y => ?_
  blk_simp
  rw [after0_4, emb4]; frame_out
  obtain ⟨f, k, rfl⟩ := eta3 y
  pointwise [k0_pay1]
  simp only [g_blk, n_blk]
  rfl

theorem final5 (c : Dev nD) : (dats m 0 c).arrAt 5 (cfgs 0).N = dwArr (ua m c) (na m c) := by
  refine (dats m 0 c).arrAt_eq_of_covers 5 _ (by decide +kernel) fun t _ y => ?_
  blk_simp
  rw [after0_5, emb5]; frame_out
  obtain ⟨f, k, rfl⟩ := eta3 y
  pointwise [k0_pay2]
  simp only [u_blk, m_blk]
  rfl

open Cert.UpdwReferenceIdeal.Read in
/-- The reference's gradient of the gate's weight. -/
theorem ref_gate (n : FVec Ideal S2048x2048 .f32) (g : FVec Ideal S2048x5632 .f32) : val_main_v9 (F := Ideal) n g = dwArr g n := by
  funext y
  obtain ⟨j, f, k, rfl⟩ : ∃ (j : Fin 8) (f : Fin 704) (k : Fin 2048), y = ix3 j f k :=
    ⟨y 0, y 1, y 2, by funext i; fin_cases i <;> rfl⟩
  have e : val_main_v9 (F := Ideal) n g (ix3 j f k) = val_main_v5 (F := Ideal) n g (ix2 (unit j f) k) := by
    unfold unit
    pointwise [val_main_v9, val_main_v8, val_main_v7, val_main_v6]
  rw [e]
  pointwise [val_main_v5]
  rfl

open Cert.UpdwReferenceIdeal.Read in
/-- The reference's gradient of up's weight. -/
theorem ref_up (n : FVec Ideal S2048x2048 .f32) (u : FVec Ideal S2048x5632 .f32) : val_main_v12 (F := Ideal) n u = dwArr u n := by
  funext y
  obtain ⟨j, f, k, rfl⟩ : ∃ (j : Fin 8) (f : Fin 704) (k : Fin 2048), y = ix3 j f k :=
    ⟨y 0, y 1, y 2, by funext i; fin_cases i <;> rfl⟩
  have e : val_main_v12 (F := Ideal) n u (ix3 j f k) = val_main_v3 (F := Ideal) n u (ix2 (unit j f) k) := by
    unfold unit
    pointwise [val_main_v12, val_main_v11, val_main_v10, val_main_v4]
  rw [e]
  pointwise [val_main_v3]
  rfl

end Cert.UpdwKernelIdeal.Value

namespace Cert.Proof.Updw

open Idealize.ShloMosaic Idealize.ShloMosaic.TcCoe Idealize.SL.Sem

/-- The kernel at the bit level runs, leaves its arguments unchanged and ends quiescent. -/
theorem frame_p : Cert.quiescent_UpdwKernel := fun m ρ _ => Cert.UpdwKernel.Gen.frame m ρ

/-- The same of the kernel over the extended reals. -/
theorem frame_pi : Cert.quiescent_UpdwKernelIdeal := fun m ρ _ => Cert.UpdwKernelIdeal.Gen.frame m ρ

/-- The reference runs, leaves its arguments unchanged and has no semaphore. -/
theorem frame_ri : Cert.quiescent_UpdwReferenceIdeal := fun m ρ _ =>
  (θ_run Cert.UpdwReferenceIdeal.defs _ _).mono (fun r h => ⟨fun c => (h c).2.2,
      Idealize.ShloMosaic.sem_eq_zero_of_no_sems (by decide) r.2⟩) (Cert.UpdwReferenceIdeal.Value.run (F := Ideal) m ρ)

/-- The gradients of the gate's and up's weights are, over the extended reals, the derivatives of the reference's products. -/
theorem value : Cert.algebraic_UpdwKernelIdeal_UpdwReferenceIdeal := by
  pair_intro
  · run_from Cert.UpdwKernelIdeal.Gen.run_main m g
  · run_from Cert.UpdwReferenceIdeal.Value.run m' g'
    · exact (Cert.UpdwKernelIdeal.Value.ref_gate _ _).trans (Cert.UpdwKernelIdeal.Value.final4 m c).symm
    · exact (Cert.UpdwKernelIdeal.Value.ref_up _ _).trans (Cert.UpdwKernelIdeal.Value.final5 m c).symm

end Cert.Proof.Updw

end
-- ==== Proof.Updx.lean ====
/- The cotangent of the normed rows: two plain products, summed group by group. -/
module

public import proofs.«01_k».proof.Defs
public import proofs.«01_k».proof.Proof.Gen.UpdxKernel.Frame
public import proofs.«01_k».proof.Proof.Gen.UpdxKernelIdeal.Value
public import proofs.«01_k».proof.Proof.Gen.UpdxReferenceIdeal.Read
public import proofs.«01_k».proof.Proof.Parts
public import Idealize.ShloMosaic.Lib.Pointwise
public import Idealize.ShloMosaic.Lib.Pipeline.ValueKit

@[expose] public section

set_option maxRecDepth 16384

noncomputable section

namespace Cert.UpdxKernelIdeal.Value

open Cert.UpdxKernelIdeal Cert.UpdxKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column block `t / 4`, quarter `t % 4` of the rows. -/
theorem idx : ∀ t : Fin cfg0.N, win0_0.index t = ![0, t.val % 4, 0] ∧ win0_1.index t = ![0, 0, t.val / 4]
    ∧ win0_2.index t = ![0, t.val % 4, 0] ∧ win0_3.index t = ![0, 0, t.val / 4] ∧ win0_4.index t = ![t.val % 4, t.val / 4] :=
  (by decide +kernel : ∀ t : Fin grid0.N, _)

/-- The row that row `r` of a grid point's block holds. -/
def row (t : Fin cfg0.N) (r : Fin 512) : Fin 2048 := ⟨t.val % 4 * 512 + r.val, by omega⟩

/-- The column that column `j` of a grid point's block holds. -/
def col (t : Fin cfg0.N) (j : Fin 512) : Fin 2048 :=
  ⟨t.val / 4 * 512 + j.val, by have := t.isLt; have hN : cfg0.N = 16 := N_0; omega⟩

/-- Hidden unit `f` of group `g`. -/
def unit (g : Fin 8) (f : Fin 704) : Fin 5632 := ⟨g.val * 704 + f.val, by omega⟩

/-- The arguments of a device: the cotangents of gate and up and the two weights. -/
abbrev ga (c : Dev nD) : FVec Ideal S2048x5632 .f32 := m ((c : Thread nD τ).loc main_arg0)
abbrev ua (c : Dev nD) : FVec Ideal S2048x5632 .f32 := m ((c : Thread nD τ).loc main_arg1)
abbrev wa (c : Dev nD) : FVec Ideal S2048x5632 .f32 := m ((c : Thread nD τ).loc main_arg2)
abbrev va (c : Dev nD) : FVec Ideal S2048x5632 .f32 := m ((c : Thread nD τ).loc main_arg3)

theorem g_blk (c : Dev nD) (t : Fin cfg0.N) (g : Fin 8) (r : Fin 512) (f : Fin 704) :
    iblk m c 0 t (ix3 g r f) = ga m c (ix2 (row t r) (unit g f)) := by
  unfold row unit
  blk_point [iblk, V, idx t]

theorem w_blk (c : Dev nD) (t : Fin cfg0.N) (g : Fin 8) (f : Fin 704) (j : Fin 512) :
    iblk m c 1 t (ix3 g f j) = wa m c (ix2 (col t j) (unit g f)) := by
  unfold col unit
  blk_point [iblk, V, idx t]

theorem u_blk (c : Dev nD) (t : Fin cfg0.N) (g : Fin 8) (r : Fin 512) (f : Fin 704) :
    iblk m c 2 t (ix3 g r f) = ua m c (ix2 (row t r) (unit g f)) := by
  unfold row unit
  blk_point [iblk, V, idx t]

theorem v_blk (c : Dev nD) (t : Fin cfg0.N) (g : Fin 8) (f : Fin 704) (j : Fin 512) :
    iblk m c 3 t (ix3 g f j) = va m c (ix2 (col t j) (unit g f)) := by
  unfold col unit
  blk_point [iblk, V, idx t]

theorem emb4 (t : Fin cfg0.N) (y : S512x512.Idx) : (win0_4.blk t).view.emb y = ix2 (row t (y 0)) (col t (y 1)) := by
  unfold col row
  blk_ext [idx t]

/-- One cotangent's product with its weight at row `r` and column `j`. -/
def prod (d w : FVec Ideal S2048x5632 .f32) (r j : Fin 2048) : EReal := ∑ k, d (ix2 r k) * w (ix2 j k)

/-- The cotangent of the normed rows. -/
def dxArr (g u w v : FVec Ideal S2048x5632 .f32) : FVec Ideal S2048x2048 .f32 :=
  fun y => prod g w (y 0) (y 1) + prod u v (y 0) (y 1)

theorem final (c : Dev nD) : (dats m 0 c).arrAt 4 (cfgs 0).N = dxArr (ga m c) (ua m c) (wa m c) (va m c) := by
  refine (dats m 0 c).arrAt_eq_of_covers 4 _ (by decide +kernel) fun t _ y => ?_
  blk_simp
  rw [after0_4, emb4]; frame_out
  obtain ⟨r, j, rfl⟩ : ∃ (r : Fin 512) (j : Fin 512), y = ix2 r j := ⟨y 0, y 1, by funext i; fin_cases i <;> rfl⟩
  show _ = prod (ga m c) (wa m c) (row t r) (col t j) + prod (ua m c) (va m c) (row t r) (col t j)
  refine Eq.trans ?_ (congrArg₂ (· + ·)
    (Cert.Proof.Parts.eight (n := 704) (fun k => ga m c (ix2 (row t r) k) * wa m c (ix2 (col t j) k)) unit fun _ _ => rfl)
    (Cert.Proof.Parts.eight (n := 704) (fun k => ua m c (ix2 (row t r) k) * va m c (ix2 (col t j) k)) unit fun _ _ => rfl))
  pointwise [k0_pay1, k0_pay2, k0_pay3, k0_pay4, k0_pay5, k0_pay6, k0_pay7]
  simp only [g_blk, w_blk, u_blk, v_blk, add_assoc]

open Cert.UpdxReferenceIdeal.Read in
/-- The reference's cotangent. -/
theorem ref (g u w v : FVec Ideal S2048x5632 .f32) : val_main_v5 (F := Ideal) g u w v = dxArr g u w v := by
  funext y
  obtain ⟨r, j, rfl⟩ : ∃ (r : Fin 2048) (j : Fin 2048), y = ix2 r j := ⟨y 0, y 1, by funext i; fin_cases i <;> rfl⟩
  pointwise [val_main_v5, val_main_v4, val_main_v3]
  exact add_comm _ _

end Cert.UpdxKernelIdeal.Value

namespace Cert.Proof.Updx

open Idealize.ShloMosaic Idealize.ShloMosaic.TcCoe Idealize.SL.Sem

/-- The kernel at the bit level runs, leaves its arguments unchanged and ends quiescent. -/
theorem frame_p : Cert.quiescent_UpdxKernel := fun m ρ _ => Cert.UpdxKernel.Gen.frame m ρ

/-- The same of the kernel over the extended reals. -/
theorem frame_pi : Cert.quiescent_UpdxKernelIdeal := fun m ρ _ => Cert.UpdxKernelIdeal.Gen.frame m ρ

/-- The reference runs, leaves its arguments unchanged and has no semaphore. -/
theorem frame_ri : Cert.quiescent_UpdxReferenceIdeal := fun m ρ _ =>
  (θ_run Cert.UpdxReferenceIdeal.defs _ _).mono (fun r h => ⟨fun c => (h c).2,
      Idealize.ShloMosaic.sem_eq_zero_of_no_sems (by decide) r.2⟩) (Cert.UpdxReferenceIdeal.Value.run (F := Ideal) m ρ)

/-- The cotangent of the normed rows is, over the extended reals, the derivative of the reference's two products. -/
theorem value : Cert.algebraic_UpdxKernelIdeal_UpdxReferenceIdeal := by
  pair_intro
  · run_from Cert.UpdxKernelIdeal.Gen.run_main m g
  · run_from Cert.UpdxReferenceIdeal.Value.run m' g'
    exact (Cert.UpdxKernelIdeal.Value.ref _ _ _ _).trans (Cert.UpdxKernelIdeal.Value.final m c).symm

end Cert.Proof.Updx

end
-- ==== Proof.Inqkv.lean ====
/- The joined queries, keys and values: a plain product with part of the input weight. -/
module

public import proofs.«01_k».proof.Defs
public import proofs.«01_k».proof.Proof.Gen.InqkvKernel.Frame
public import proofs.«01_k».proof.Proof.Gen.InqkvKernelIdeal.Value
public import proofs.«01_k».proof.Proof.Gen.InqkvReferenceIdeal.Read
public import Idealize.ShloMosaic.Lib.Pointwise
public import Idealize.ShloMosaic.Lib.Pipeline.ValueKit

@[expose] public section

set_option maxRecDepth 16384

noncomputable section

namespace Cert.InqkvKernelIdeal.Value

open Cert.InqkvKernelIdeal Cert.InqkvKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column block `t / 4`, quarter `t % 4` of the rows. -/
theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

/-- The row that row `r` of a grid point's block holds. -/
def row (t : Fin cfg0.N) (r : Fin 512) : Fin 2048 := ⟨t.val % 4 * 512 + r.val, by omega⟩

/-- The column that column `f` of a grid point's block holds. -/
def col (t : Fin cfg0.N) (f : Fin 1024) : Fin 3072 :=
  ⟨t.val / 4 * 1024 + f.val, by have := t.isLt; have hN : cfg0.N = 12 := N_0; omega⟩

/-- The weight's column that holds a column of the result. -/
def wide (f : Fin 3072) : Fin 8256 := ⟨f.val, by omega⟩

/-- The arguments of a device: the normed rows and the input weight. -/
abbrev ua (c : Dev nD) : FVec Ideal S2048x2048 .f32 := m ((c : Thread nD τ).loc main_arg0)
abbrev wa (c : Dev nD) : FVec Ideal S2048x8256 .f32 := m ((c : Thread nD τ).loc main_arg1)

theorem u_blk (c : Dev nD) (t : Fin cfg0.N) (r : Fin 512) (k : Fin 2048) : iblk m c 0 t (ix2 r k) = ua m c (ix2 (row t r) k) := by
  unfold row
  blk_point [iblk, V, idx t]

/-- No block of the weight is cut, though the weight's rows are not a whole number of blocks. -/
theorem w_blk (c : Dev nD) (t : Fin cfg0.N) (f : Fin 1024) (k : Fin 2048) :
    X0_1 m c t (ix2 f k) = wa m c (ix2 k (wide (col t f))) := by
  unfold X0_1 Pipeline.Window.fill wide col
  rw [dif_pos (moved0_1 t _)]
  blk_point [iblk, V, idx t]

theorem emb2 (t : Fin cfg0.N) (y : S512x1024.Idx) : (win0_2.blk t).view.emb y = ix2 (row t (y 0)) (col t (y 1)) := by
  unfold row col
  blk_ext [idx t]

/-- The rows' product with the weight's first columns. -/
def proj (u : FVec Ideal S2048x2048 .f32) (w : FVec Ideal S2048x8256 .f32) : FVec Ideal S2048x3072 .bf16 :=
  fun y => ∑ k, u (ix2 (y 0) k) * w (ix2 k (wide (y 1)))

theorem final (c : Dev nD) : (dats m 0 c).arrAt 2 (cfgs 0).N = proj (ua m c) (wa m c) := by
  refine (dats m 0 c).arrAt_eq_of_covers 2 _ (by decide +kernel) fun t _ y => ?_
  blk_simp
  rw [after0_2, emb2]
  unfold outsAt0
  frame_out
  obtain ⟨r, f, rfl⟩ : ∃ (r : Fin 512) (f : Fin 1024), y = ix2 r f := ⟨y 0, y 1, by funext i; fin_cases i <;> rfl⟩
  pointwise [k0_pay1]
  simp only [u_blk, w_blk]
  rfl

open Cert.InqkvReferenceIdeal.Read in
/-- The reference's product. -/
theorem ref (u : FVec Ideal S2048x2048 .f32) (w : FVec Ideal S2048x8256 .f32) : val_main_v2 (F := Ideal) u w = proj u w := by
  funext y
  obtain ⟨r, f, rfl⟩ : ∃ (r : Fin 2048) (f : Fin 3072), y = ix2 r f := ⟨y 0, y 1, by funext i; fin_cases i <;> rfl⟩
  have e : val_main_v2 (F := Ideal) u w (ix2 r f) = val_main_v0 (F := Ideal) u w (ix2 r (wide f)) := by
    unfold wide
    pointwise [val_main_v2, val_main_v1]
  rw [e]
  pointwise [val_main_v0]
  rfl

end Cert.InqkvKernelIdeal.Value

namespace Cert.Proof.Inqkv

open Idealize.ShloMosaic Idealize.ShloMosaic.TcCoe Idealize.SL.Sem

/-- The kernel at the bit level runs, leaves its arguments unchanged and ends quiescent. -/
theorem frame_p : Cert.quiescent_InqkvKernel := fun m ρ _ => Cert.InqkvKernel.Gen.frame m ρ

/-- The same of the kernel over the extended reals. -/
theorem frame_pi : Cert.quiescent_InqkvKernelIdeal := fun m ρ _ => Cert.InqkvKernelIdeal.Gen.frame m ρ

/-- The reference runs, leaves its arguments unchanged and has no semaphore. -/
theorem frame_ri : Cert.quiescent_InqkvReferenceIdeal := fun m ρ _ =>
  (θ_run Cert.InqkvReferenceIdeal.defs _ _).mono (fun r h => ⟨fun c => (h c).2,
      Idealize.ShloMosaic.sem_eq_zero_of_no_sems (by decide) r.2⟩) (Cert.InqkvReferenceIdeal.Value.run (F := Ideal) m ρ)

/-- The joined queries, keys and values are, over the extended reals, the reference's product. -/
theorem value : Cert.algebraic_InqkvKernelIdeal_InqkvReferenceIdeal := by
  pair_intro
  · run_from Cert.InqkvKernelIdeal.Gen.run_main m g
  · run_from Cert.InqkvReferenceIdeal.Value.run m' g'
    exact (Cert.InqkvKernelIdeal.Value.ref _ _).trans (Cert.InqkvKernelIdeal.Value.final m c).symm

end Cert.Proof.Inqkv

end
-- ==== Proof.Branchdw.lean ====
/- The gradient of a branch's weight: a plain product over the rows. -/
module

public import proofs.«01_k».proof.Defs
public import proofs.«01_k».proof.Proof.Gen.BranchdwKernel.Frame
public import proofs.«01_k».proof.Proof.Gen.BranchdwKernelIdeal.Value
public import proofs.«01_k».proof.Proof.Gen.BranchdwReferenceIdeal.Read
public import Idealize.ShloMosaic.Lib.Pointwise
public import Idealize.ShloMosaic.Lib.Pipeline.ValueKit

@[expose] public section

set_option maxRecDepth 16384

noncomputable section

namespace Cert.BranchdwKernelIdeal.Value

open Cert.BranchdwKernelIdeal Cert.BranchdwKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column group `t`. -/
theorem idx : ∀ t : Fin cfg0.N, win0_0.index t = ![0, 0] ∧ win0_1.index t = ![t.val, 0, 0] ∧ win0_2.index t = ![t.val, 0, 0] :=
  (by decide +kernel : ∀ t : Fin grid0.N, _)

/-- The column group of a grid point. -/
def grp (t : Fin cfg0.N) : Fin 8 := ⟨t.val, t.isLt.trans_eq N_0⟩

/-- Column `f` of group `j`. -/
def col (j : Fin 8) (f : Fin 256) : Fin 2048 := ⟨j.val * 256 + f.val, by omega⟩

/-- The arguments of a device: the branch's output and the cotangent of its product. -/
abbrev oa (c : Dev nD) : FVec Ideal S2048x1024 .f32 := m ((c : Thread nD τ).loc main_arg0)
abbrev ya (c : Dev nD) : FVec Ideal S2048x2048 .f32 := m ((c : Thread nD τ).loc main_arg1)

theorem o_blk (c : Dev nD) (t : Fin cfg0.N) (r : Fin 2048) (k : Fin 1024) : iblk m c 0 t (ix2 r k) = oa m c (ix2 r k) := by
  blk_point [iblk, V, idx t]

theorem y_blk (c : Dev nD) (t : Fin cfg0.N) (r : Fin 2048) (f : Fin 256) : iblk m c 1 t (ix3 0 r f) = ya m c (ix2 r (col (grp t) f)) := by
  unfold col grp
  blk_point [iblk, V, idx t]

theorem emb2 (t : Fin cfg0.N) (y : S1x1024x256.Idx) : (win0_2.blk t).view.emb y = ix3 (grp t) (y 1) (y 2) := by
  unfold grp
  blk_ext [idx t]

/-- The gradient of the weight at row `k` and column `f`, and its layout in column groups. -/
def grad (o : FVec Ideal S2048x1024 .f32) (y : FVec Ideal S2048x2048 .f32) (k : Fin 1024) (f : Fin 2048) : EReal :=
  ∑ r, o (ix2 r k) * y (ix2 r f)
def gradArr (o : FVec Ideal S2048x1024 .f32) (y : FVec Ideal S2048x2048 .f32) : FVec Ideal S8x1024x256 .bf16 :=
  fun x => grad o y (x 1) (col (x 0) (x 2))

theorem final (c : Dev nD) : (dats m 0 c).arrAt 2 (cfgs 0).N = gradArr (oa m c) (ya m c) := by
  refine (dats m 0 c).arrAt_eq_of_covers 2 _ (by decide +kernel) fun t _ y => ?_
  blk_simp
  rw [after0_2, emb2]; frame_out
  obtain ⟨k, f, rfl⟩ : ∃ (k : Fin 1024) (f : Fin 256), y = ix3 0 k f :=
    ⟨y 1, y 2, by funext i; fin_cases i <;> first | rfl | exact Subsingleton.elim (α := Fin 1) _ _⟩
  pointwise [k0_pay1]
  simp only [o_blk, y_blk]
  rfl

open Cert.BranchdwReferenceIdeal.Read in
/-- The reference's gradient. -/
theorem ref (o : FVec Ideal S2048x1024 .f32) (y : FVec Ideal S2048x2048 .f32) : val_main_v6 (F := Ideal) o y = gradArr o y := by
  funext x
  obtain ⟨j, k, f, rfl⟩ : ∃ (j : Fin 8) (k : Fin 1024) (f : Fin 256), x = ix3 j k f :=
    ⟨x 0, x 1, x 2, by funext i; fin_cases i <;> rfl⟩
  have e : val_main_v6 (F := Ideal) o y (ix3 j k f) = val_main_v2 (F := Ideal) o y (ix2 (col j f) k) := by
    unfold col
    pointwise [val_main_v6, val_main_v5, val_main_v4, val_main_v3]
  rw [e]
  pointwise [val_main_v2]
  exact Finset.sum_congr rfl fun _ _ => mul_comm _ _

end Cert.BranchdwKernelIdeal.Value

namespace Cert.Proof.Branchdw

open Idealize.ShloMosaic Idealize.ShloMosaic.TcCoe Idealize.SL.Sem

/-- The kernel at the bit level runs, leaves its arguments unchanged and ends quiescent. -/
theorem frame_p : Cert.quiescent_BranchdwKernel := fun m ρ _ => Cert.BranchdwKernel.Gen.frame m ρ

/-- The same of the kernel over the extended reals. -/
theorem frame_pi : Cert.quiescent_BranchdwKernelIdeal := fun m ρ _ => Cert.BranchdwKernelIdeal.Gen.frame m ρ

/-- The reference runs, leaves its arguments unchanged and has no semaphore. -/
theorem frame_ri : Cert.quiescent_BranchdwReferenceIdeal := fun m ρ _ =>
  (θ_run Cert.BranchdwReferenceIdeal.defs _ _).mono (fun r h => ⟨fun c => (h c).2,
      Idealize.ShloMosaic.sem_eq_zero_of_no_sems (by decide) r.2⟩) (Cert.BranchdwReferenceIdeal.Value.run (F := Ideal) m ρ)

/-- The gradient of a branch's weight is, over the extended reals, the derivative of the reference's product. -/
theorem value : Cert.algebraic_BranchdwKernelIdeal_BranchdwReferenceIdeal := by
  pair_intro
  · run_from Cert.BranchdwKernelIdeal.Gen.run_main m g
  · run_from Cert.BranchdwReferenceIdeal.Value.run m' g'
    exact (Cert.BranchdwKernelIdeal.Value.ref _ _).trans (Cert.BranchdwKernelIdeal.Value.final m c).symm

end Cert.Proof.Branchdw

end
-- ==== Proof.Queriesdw.lean ====
/- The gradient of the queries' weight: a plain product over the rows. -/
module

public import proofs.«01_k».proof.Defs
public import proofs.«01_k».proof.Proof.Gen.QueriesdwKernel.Frame
public import proofs.«01_k».proof.Proof.Gen.QueriesdwKernelIdeal.Value
public import proofs.«01_k».proof.Proof.Gen.QueriesdwReferenceIdeal.Read
public import Idealize.ShloMosaic.Lib.Pointwise
public import Idealize.ShloMosaic.Lib.Pipeline.ValueKit

@[expose] public section

set_option maxRecDepth 16384

noncomputable section

namespace Cert.QueriesdwKernelIdeal.Value

open Cert.QueriesdwKernelIdeal Cert.QueriesdwKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is head `t`. -/
theorem idx : ∀ t : Fin cfg0.N, win0_0.index t = ![t.val, 0, 0] ∧ win0_1.index t = ![0, 0] ∧ win0_2.index t = ![t.val, 0, 0] :=
  (by decide +kernel : ∀ t : Fin grid0.N, _)

/-- The head of a grid point. -/
def grp (t : Fin cfg0.N) : Fin 8 := ⟨t.val, t.isLt.trans_eq N_0⟩

/-- Column `f` of head `j`. -/
def col (j : Fin 8) (f : Fin 192) : Fin 1536 := ⟨j.val * 192 + f.val, by omega⟩

/-- The arguments of a device: the queries' cotangent and their latent. -/
abbrev ya (c : Dev nD) : FVec Ideal S2048x1536 .f32 := m ((c : Thread nD τ).loc main_arg0)
abbrev oa (c : Dev nD) : FVec Ideal S2048x512 .f32 := m ((c : Thread nD τ).loc main_arg1)

theorem o_blk (c : Dev nD) (t : Fin cfg0.N) (r : Fin 2048) (k : Fin 512) : iblk m c 1 t (ix2 r k) = oa m c (ix2 r k) := by
  blk_point [iblk, V, idx t]

theorem y_blk (c : Dev nD) (t : Fin cfg0.N) (r : Fin 2048) (f : Fin 192) : iblk m c 0 t (ix3 0 r f) = ya m c (ix2 r (col (grp t) f)) := by
  unfold col grp
  blk_point [iblk, V, idx t]

theorem emb2 (t : Fin cfg0.N) (y : S1x192x512.Idx) : (win0_2.blk t).view.emb y = ix3 (grp t) (y 1) (y 2) := by
  unfold grp
  blk_ext [idx t]

/-- The gradient of the weight at row `k` and column `f`, and its layout in heads. -/
def grad (o : FVec Ideal S2048x512 .f32) (y : FVec Ideal S2048x1536 .f32) (k : Fin 512) (f : Fin 1536) : EReal :=
  ∑ r, y (ix2 r f) * o (ix2 r k)
def gradArr (o : FVec Ideal S2048x512 .f32) (y : FVec Ideal S2048x1536 .f32) : FVec Ideal S8x192x512 .bf16 :=
  fun x => grad o y (x 2) (col (x 0) (x 1))

theorem final (c : Dev nD) : (dats m 0 c).arrAt 2 (cfgs 0).N = gradArr (oa m c) (ya m c) := by
  refine (dats m 0 c).arrAt_eq_of_covers 2 _ (by decide +kernel) fun t _ y => ?_
  blk_simp
  rw [after0_2, emb2]; frame_out
  obtain ⟨k, f, rfl⟩ : ∃ (k : Fin 512) (f : Fin 192), y = ix3 0 f k :=
    ⟨y 2, y 1, by funext i; fin_cases i <;> first | rfl | exact Subsingleton.elim (α := Fin 1) _ _⟩
  pointwise [k0_pay1]
  simp only [o_blk, y_blk]
  rfl

open Cert.QueriesdwReferenceIdeal.Read in
/-- The reference's gradient. -/
theorem ref (o : FVec Ideal S2048x512 .f32) (y : FVec Ideal S2048x1536 .f32) : val_main_v6 (F := Ideal) y o = gradArr o y := by
  funext x
  obtain ⟨j, k, f, rfl⟩ : ∃ (j : Fin 8) (k : Fin 512) (f : Fin 192), x = ix3 j f k :=
    ⟨x 0, x 2, x 1, by funext i; fin_cases i <;> rfl⟩
  have e : val_main_v6 (F := Ideal) y o (ix3 j f k) = val_main_v2 (F := Ideal) y o (ix2 (col j f) k) := by
    unfold col
    pointwise [val_main_v6, val_main_v5, val_main_v4, val_main_v3]
  rw [e]
  pointwise [val_main_v2]
  rfl

end Cert.QueriesdwKernelIdeal.Value

namespace Cert.Proof.Queriesdw

open Idealize.ShloMosaic Idealize.ShloMosaic.TcCoe Idealize.SL.Sem

/-- The kernel at the bit level runs, leaves its arguments unchanged and ends quiescent. -/
theorem frame_p : Cert.quiescent_QueriesdwKernel := fun m ρ _ => Cert.QueriesdwKernel.Gen.frame m ρ

/-- The same of the kernel over the extended reals. -/
theorem frame_pi : Cert.quiescent_QueriesdwKernelIdeal := fun m ρ _ => Cert.QueriesdwKernelIdeal.Gen.frame m ρ

/-- The reference runs, leaves its arguments unchanged and has no semaphore. -/
theorem frame_ri : Cert.quiescent_QueriesdwReferenceIdeal := fun m ρ _ =>
  (θ_run Cert.QueriesdwReferenceIdeal.defs _ _).mono (fun r h => ⟨fun c => (h c).2,
      Idealize.ShloMosaic.sem_eq_zero_of_no_sems (by decide) r.2⟩) (Cert.QueriesdwReferenceIdeal.Value.run (F := Ideal) m ρ)

/-- The gradient of the queries' weight is, over the extended reals, the derivative of the reference's product. -/
theorem value : Cert.algebraic_QueriesdwKernelIdeal_QueriesdwReferenceIdeal := by
  pair_intro
  · run_from Cert.QueriesdwKernelIdeal.Gen.run_main m g
  · run_from Cert.QueriesdwReferenceIdeal.Value.run m' g'
    exact (Cert.QueriesdwKernelIdeal.Value.ref _ _).trans (Cert.QueriesdwKernelIdeal.Value.final m c).symm

end Cert.Proof.Queriesdw

end
-- ==== Proof.Queriesdx.lean ====
/- The cotangent of the queries' latent: a plain product, summed head by head. -/
module

public import proofs.«01_k».proof.Defs
public import proofs.«01_k».proof.Proof.Gen.QueriesdxKernel.Frame
public import proofs.«01_k».proof.Proof.Gen.QueriesdxKernelIdeal.Value
public import proofs.«01_k».proof.Proof.Gen.QueriesdxReferenceIdeal.Read
public import proofs.«01_k».proof.Proof.Parts
public import Idealize.ShloMosaic.Lib.Pointwise
public import Idealize.ShloMosaic.Lib.Pipeline.ValueKit

@[expose] public section

set_option maxRecDepth 16384

noncomputable section

namespace Cert.QueriesdxKernelIdeal.Value

open Cert.QueriesdxKernelIdeal Cert.QueriesdxKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is quarter `t` of the rows. -/
theorem idx : ∀ t : Fin cfg0.N, win0_0.index t = ![0, t.val, 0] ∧ win0_1.index t = ![0, 0, 0] ∧ win0_2.index t = ![t.val, 0] :=
  (by decide +kernel : ∀ t : Fin grid0.N, _)

/-- The row that row `r` of a grid point's block holds. -/
def row (t : Fin cfg0.N) (r : Fin 512) : Fin 2048 :=
  ⟨t.val * 512 + r.val, by have := t.isLt; have hN : cfg0.N = 4 := N_0; omega⟩

/-- Column `f` of head `g`. -/
def col (g : Fin 8) (f : Fin 192) : Fin 1536 := ⟨g.val * 192 + f.val, by omega⟩

/-- The arguments of a device: the queries' cotangent and their weight. -/
abbrev qa (c : Dev nD) : FVec Ideal S2048x1536 .f32 := m ((c : Thread nD τ).loc main_arg0)
abbrev wa (c : Dev nD) : FVec Ideal S512x1536 .f32 := m ((c : Thread nD τ).loc main_arg1)

theorem q_blk (c : Dev nD) (t : Fin cfg0.N) (g : Fin 8) (r : Fin 512) (f : Fin 192) :
    iblk m c 0 t (ix3 g r f) = qa m c (ix2 (row t r) (col g f)) := by
  unfold row col
  blk_point [iblk, V, idx t]

theorem w_blk (c : Dev nD) (t : Fin cfg0.N) (g : Fin 8) (f : Fin 192) (k : Fin 512) :
    iblk m c 1 t (ix3 g f k) = wa m c (ix2 k (col g f)) := by
  unfold col
  blk_point [iblk, V, idx t]

theorem emb2 (t : Fin cfg0.N) (y : S512x512.Idx) : (win0_2.blk t).view.emb y = ix2 (row t (y 0)) (y 1) := by
  unfold row
  blk_ext [idx t]

/-- The cotangent of the queries' latent. -/
def dxArr (q : FVec Ideal S2048x1536 .f32) (w : FVec Ideal S512x1536 .f32) : FVec Ideal S2048x512 .f32 :=
  fun y => ∑ k, q (ix2 (y 0) k) * w (ix2 (y 1) k)

theorem final (c : Dev nD) : (dats m 0 c).arrAt 2 (cfgs 0).N = dxArr (qa m c) (wa m c) := by
  refine (dats m 0 c).arrAt_eq_of_covers 2 _ (by decide +kernel) fun t _ y => ?_
  blk_simp
  rw [after0_2, emb2]; frame_out
  obtain ⟨r, k, rfl⟩ : ∃ (r : Fin 512) (k : Fin 512), y = ix2 r k := ⟨y 0, y 1, by funext i; fin_cases i <;> rfl⟩
  pointwise [k0_pay1, k0_pay2, k0_pay3]
  simp only [q_blk, w_blk]
  exact Cert.Proof.Parts.eight (n := 192) (fun f => qa m c (ix2 (row t r) f) * wa m c (ix2 k f)) col fun _ _ => rfl

open Cert.QueriesdxReferenceIdeal.Read in
/-- The reference's cotangent. -/
theorem ref (q : FVec Ideal S2048x1536 .f32) (w : FVec Ideal S512x1536 .f32) : val_main_v2 (F := Ideal) q w = dxArr q w := by
  funext y
  obtain ⟨r, k, rfl⟩ : ∃ (r : Fin 2048) (k : Fin 512), y = ix2 r k := ⟨y 0, y 1, by funext i; fin_cases i <;> rfl⟩
  pointwise [val_main_v2]
  rfl

end Cert.QueriesdxKernelIdeal.Value

namespace Cert.Proof.Queriesdx

open Idealize.ShloMosaic Idealize.ShloMosaic.TcCoe Idealize.SL.Sem

/-- The kernel at the bit level runs, leaves its arguments unchanged and ends quiescent. -/
theorem frame_p : Cert.quiescent_QueriesdxKernel := fun m ρ _ => Cert.QueriesdxKernel.Gen.frame m ρ

/-- The same of the kernel over the extended reals. -/
theorem frame_pi : Cert.quiescent_QueriesdxKernelIdeal := fun m ρ _ => Cert.QueriesdxKernelIdeal.Gen.frame m ρ

/-- The reference runs, leaves its arguments unchanged and has no semaphore. -/
theorem frame_ri : Cert.quiescent_QueriesdxReferenceIdeal := fun m ρ _ =>
  (θ_run Cert.QueriesdxReferenceIdeal.defs _ _).mono (fun r h => ⟨fun c => (h c).2,
      Idealize.ShloMosaic.sem_eq_zero_of_no_sems (by decide) r.2⟩) (Cert.QueriesdxReferenceIdeal.Value.run (F := Ideal) m ρ)

/-- The cotangent of the queries' latent is, over the extended reals, the derivative of the reference's product. -/
theorem value : Cert.algebraic_QueriesdxKernelIdeal_QueriesdxReferenceIdeal := by
  pair_intro
  · run_from Cert.QueriesdxKernelIdeal.Gen.run_main m g
  · run_from Cert.QueriesdxReferenceIdeal.Value.run m' g'
    exact (Cert.QueriesdxKernelIdeal.Value.ref _ _).trans (Cert.QueriesdxKernelIdeal.Value.final m c).symm

end Cert.Proof.Queriesdx

end
-- ==== Proof.Branchdx.lean ====
/- The cotangent of a branch: a plain product, summed group by group. -/
module

public import proofs.«01_k».proof.Defs
public import proofs.«01_k».proof.Proof.Gen.BranchdxKernel.Frame
public import proofs.«01_k».proof.Proof.Gen.BranchdxKernelIdeal.Value
public import proofs.«01_k».proof.Proof.Gen.BranchdxReferenceIdeal.Read
public import proofs.«01_k».proof.Proof.Parts
public import Idealize.ShloMosaic.Lib.Pointwise
public import Idealize.ShloMosaic.Lib.Pipeline.ValueKit

@[expose] public section

set_option maxRecDepth 16384

noncomputable section

namespace Cert.BranchdxKernelIdeal.Value

open Cert.BranchdxKernelIdeal Cert.BranchdxKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column half `t / 4`, quarter `t % 4` of the rows. -/
theorem idx : ∀ t : Fin cfg0.N, win0_0.index t = ![0, t.val % 4, 0] ∧ win0_1.index t = ![0, t.val / 4, 0]
    ∧ win0_2.index t = ![t.val % 4, t.val / 4] :=
  (by decide +kernel : ∀ t : Fin grid0.N, _)

/-- The row that row `r` of a grid point's block holds. -/
def row (t : Fin cfg0.N) (r : Fin 512) : Fin 2048 := ⟨t.val % 4 * 512 + r.val, by omega⟩

/-- The column that column `j` of a grid point's block holds. -/
def col (t : Fin cfg0.N) (j : Fin 512) : Fin 1024 :=
  ⟨t.val / 4 * 512 + j.val, by have := t.isLt; have hN : cfg0.N = 8 := N_0; omega⟩

/-- Term `f` of group `g`. -/
def term (g : Fin 8) (f : Fin 256) : Fin 2048 := ⟨g.val * 256 + f.val, by omega⟩

/-- The arguments of a device: the cotangent and the branch's weight. -/
abbrev da (c : Dev nD) : FVec Ideal S2048x2048 .f32 := m ((c : Thread nD τ).loc main_arg0)
abbrev wa (c : Dev nD) : FVec Ideal S1024x2048 .f32 := m ((c : Thread nD τ).loc main_arg1)

theorem d_blk (c : Dev nD) (t : Fin cfg0.N) (g : Fin 8) (r : Fin 512) (f : Fin 256) :
    iblk m c 0 t (ix3 g r f) = da m c (ix2 (row t r) (term g f)) := by
  unfold row term
  blk_point [iblk, V, idx t]

theorem w_blk (c : Dev nD) (t : Fin cfg0.N) (g : Fin 8) (j : Fin 512) (f : Fin 256) :
    iblk m c 1 t (ix3 g j f) = wa m c (ix2 (col t j) (term g f)) := by
  unfold col term
  blk_point [iblk, V, idx t]

theorem emb2 (t : Fin cfg0.N) (y : S512x512.Idx) : (win0_2.blk t).view.emb y = ix2 (row t (y 0)) (col t (y 1)) := by
  unfold row col
  blk_ext [idx t]

/-- The cotangent of the branch. -/
def dxArr (d : FVec Ideal S2048x2048 .f32) (w : FVec Ideal S1024x2048 .f32) : FVec Ideal S2048x1024 .bf16 :=
  fun y => ∑ k, d (ix2 (y 0) k) * w (ix2 (y 1) k)

theorem final (c : Dev nD) : (dats m 0 c).arrAt 2 (cfgs 0).N = dxArr (da m c) (wa m c) := by
  refine (dats m 0 c).arrAt_eq_of_covers 2 _ (by decide +kernel) fun t _ y => ?_
  blk_simp
  rw [after0_2, emb2]; frame_out
  obtain ⟨r, j, rfl⟩ : ∃ (r : Fin 512) (j : Fin 512), y = ix2 r j := ⟨y 0, y 1, by funext i; fin_cases i <;> rfl⟩
  pointwise [k0_pay1, k0_pay2, k0_pay3]
  simp only [d_blk, w_blk]
  exact Cert.Proof.Parts.eight (n := 256) (fun k => da m c (ix2 (row t r) k) * wa m c (ix2 (col t j) k)) term fun _ _ => rfl

open Cert.BranchdxReferenceIdeal.Read in
/-- The reference's cotangent. -/
theorem ref (d : FVec Ideal S2048x2048 .f32) (w : FVec Ideal S1024x2048 .f32) : val_main_v3 (F := Ideal) d w = dxArr d w := by
  funext y
  obtain ⟨r, j, rfl⟩ : ∃ (r : Fin 2048) (j : Fin 1024), y = ix2 r j := ⟨y 0, y 1, by funext i; fin_cases i <;> rfl⟩
  pointwise [val_main_v3, val_main_v2]
  rfl

end Cert.BranchdxKernelIdeal.Value

namespace Cert.Proof.Branchdx

open Idealize.ShloMosaic Idealize.ShloMosaic.TcCoe Idealize.SL.Sem

/-- The kernel at the bit level runs, leaves its arguments unchanged and ends quiescent. -/
theorem frame_p : Cert.quiescent_BranchdxKernel := fun m ρ _ => Cert.BranchdxKernel.Gen.frame m ρ

/-- The same of the kernel over the extended reals. -/
theorem frame_pi : Cert.quiescent_BranchdxKernelIdeal := fun m ρ _ => Cert.BranchdxKernelIdeal.Gen.frame m ρ

/-- The reference runs, leaves its arguments unchanged and has no semaphore. -/
theorem frame_ri : Cert.quiescent_BranchdxReferenceIdeal := fun m ρ _ =>
  (θ_run Cert.BranchdxReferenceIdeal.defs _ _).mono (fun r h => ⟨fun c => (h c).2,
      Idealize.ShloMosaic.sem_eq_zero_of_no_sems (by decide) r.2⟩) (Cert.BranchdxReferenceIdeal.Value.run (F := Ideal) m ρ)

/-- The cotangent of the branch is, over the extended reals, the derivative of the reference's product. -/
theorem value : Cert.algebraic_BranchdxKernelIdeal_BranchdxReferenceIdeal := by
  pair_intro
  · run_from Cert.BranchdxKernelIdeal.Gen.run_main m g
  · run_from Cert.BranchdxReferenceIdeal.Value.run m' g'
    exact (Cert.BranchdxKernelIdeal.Value.ref _ _).trans (Cert.BranchdxKernelIdeal.Value.final m c).symm

end Cert.Proof.Branchdx

end
-- ==== Proof.Gatedw.lean ====
/- The gradient of the gate's weight: a plain product over the rows. -/
module

public import proofs.«01_k».proof.Defs
public import proofs.«01_k».proof.Proof.Gen.GatedwKernel.Frame
public import proofs.«01_k».proof.Proof.Gen.GatedwKernelIdeal.Value
public import proofs.«01_k».proof.Proof.Gen.GatedwReferenceIdeal.Read
public import Idealize.ShloMosaic.Lib.Pointwise
public import Idealize.ShloMosaic.Lib.Pipeline.ValueKit

@[expose] public section

set_option maxRecDepth 16384

noncomputable section

namespace Cert.GatedwKernelIdeal.Value

open Cert.GatedwKernelIdeal Cert.GatedwKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is row group `t`. -/
theorem idx : ∀ t : Fin cfg0.N, win0_0.index t = ![0, t.val] ∧ win0_1.index t = ![0, 0] ∧ win0_2.index t = ![t.val, 0, 0] :=
  (by decide +kernel : ∀ t : Fin grid0.N, _)

/-- The row group of a grid point. -/
def grp (t : Fin cfg0.N) : Fin 8 := ⟨t.val, t.isLt.trans_eq N_0⟩

/-- Row `f` of group `j`. -/
def col (j : Fin 8) (f : Fin 256) : Fin 2048 := ⟨j.val * 256 + f.val, by omega⟩

/-- The arguments of a device: the normed rows and the cotangent of the gate's product. -/
abbrev oa (c : Dev nD) : FVec Ideal S2048x2048 .f32 := m ((c : Thread nD τ).loc main_arg0)
abbrev ya (c : Dev nD) : FVec Ideal S2048x2048 .f32 := m ((c : Thread nD τ).loc main_arg1)

theorem o_blk (c : Dev nD) (t : Fin cfg0.N) (r : Fin 2048) (f : Fin 256) : iblk m c 0 t (ix2 r f) = oa m c (ix2 r (col (grp t) f)) := by
  unfold col grp
  blk_point [iblk, V, idx t]

theorem y_blk (c : Dev nD) (t : Fin cfg0.N) (r : Fin 2048) (k : Fin 2048) : iblk m c 1 t (ix2 r k) = ya m c (ix2 r k) := by
  blk_point [iblk, V, idx t]

theorem emb2 (t : Fin cfg0.N) (y : S1x256x2048.Idx) : (win0_2.blk t).view.emb y = ix3 (grp t) (y 1) (y 2) := by
  unfold grp
  blk_ext [idx t]

/-- The gradient of the weight at row `f` and column `k`, and its layout in row groups. -/
def grad (o : FVec Ideal S2048x2048 .f32) (y : FVec Ideal S2048x2048 .f32) (f k : Fin 2048) : EReal :=
  ∑ r, o (ix2 r f) * y (ix2 r k)
def gradArr (o : FVec Ideal S2048x2048 .f32) (y : FVec Ideal S2048x2048 .f32) : FVec Ideal S8x256x2048 .bf16 :=
  fun x => grad o y (col (x 0) (x 1)) (x 2)

theorem final (c : Dev nD) : (dats m 0 c).arrAt 2 (cfgs 0).N = gradArr (oa m c) (ya m c) := by
  refine (dats m 0 c).arrAt_eq_of_covers 2 _ (by decide +kernel) fun t _ y => ?_
  blk_simp
  rw [after0_2, emb2]; frame_out
  obtain ⟨k, f, rfl⟩ : ∃ (k : Fin 2048) (f : Fin 256), y = ix3 0 f k :=
    ⟨y 2, y 1, by funext i; fin_cases i <;> first | rfl | exact Subsingleton.elim (α := Fin 1) _ _⟩
  pointwise [k0_pay1]
  simp only [o_blk, y_blk]
  rfl

open Cert.GatedwReferenceIdeal.Read in
/-- The reference's gradient. -/
theorem ref (o : FVec Ideal S2048x2048 .f32) (y : FVec Ideal S2048x2048 .f32) : val_main_v5 (F := Ideal) o y = gradArr o y := by
  funext x
  obtain ⟨j, k, f, rfl⟩ : ∃ (j : Fin 8) (k : Fin 2048) (f : Fin 256), x = ix3 j f k :=
    ⟨x 0, x 2, x 1, by funext i; fin_cases i <;> rfl⟩
  have e : val_main_v5 (F := Ideal) o y (ix3 j f k) = val_main_v2 (F := Ideal) o y (ix2 k (col j f)) := by
    unfold col
    pointwise [val_main_v5, val_main_v4, val_main_v3]
  rw [e]
  pointwise [val_main_v2]
  exact Finset.sum_congr rfl fun _ _ => mul_comm _ _

end Cert.GatedwKernelIdeal.Value

namespace Cert.Proof.Gatedw

open Idealize.ShloMosaic Idealize.ShloMosaic.TcCoe Idealize.SL.Sem

/-- The kernel at the bit level runs, leaves its arguments unchanged and ends quiescent. -/
theorem frame_p : Cert.quiescent_GatedwKernel := fun m ρ _ => Cert.GatedwKernel.Gen.frame m ρ

/-- The same of the kernel over the extended reals. -/
theorem frame_pi : Cert.quiescent_GatedwKernelIdeal := fun m ρ _ => Cert.GatedwKernelIdeal.Gen.frame m ρ

/-- The reference runs, leaves its arguments unchanged and has no semaphore. -/
theorem frame_ri : Cert.quiescent_GatedwReferenceIdeal := fun m ρ _ =>
  (θ_run Cert.GatedwReferenceIdeal.defs _ _).mono (fun r h => ⟨fun c => (h c).2,
      Idealize.ShloMosaic.sem_eq_zero_of_no_sems (by decide) r.2⟩) (Cert.GatedwReferenceIdeal.Value.run (F := Ideal) m ρ)

/-- The gradient of the gate's weight is, over the extended reals, the derivative of the reference's product. -/
theorem value : Cert.algebraic_GatedwKernelIdeal_GatedwReferenceIdeal := by
  pair_intro
  · run_from Cert.GatedwKernelIdeal.Gen.run_main m g
  · run_from Cert.GatedwReferenceIdeal.Value.run m' g'
    exact (Cert.GatedwKernelIdeal.Value.ref _ _).trans (Cert.GatedwKernelIdeal.Value.final m c).symm

end Cert.Proof.Gatedw

end
-- ==== Proof.Gatedx.lean ====
/- The cotangent of the gate's rows: a plain product with the weight's rows in groups. -/
module

public import proofs.«01_k».proof.Defs
public import proofs.«01_k».proof.Proof.Gen.GatedxKernel.Frame
public import proofs.«01_k».proof.Proof.Gen.GatedxKernelIdeal.Value
public import proofs.«01_k».proof.Proof.Gen.GatedxReferenceIdeal.Read
public import Idealize.ShloMosaic.Lib.Pointwise
public import Idealize.ShloMosaic.Lib.Pipeline.ValueKit

@[expose] public section

set_option maxRecDepth 16384

noncomputable section

namespace Cert.GatedxKernelIdeal.Value

open Cert.GatedxKernelIdeal Cert.GatedxKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is row group `t / 2` of the weight, half `t % 2` of the rows. -/
theorem idx : ∀ t : Fin cfg0.N, win0_0.index t = ![t.val % 2, 0] ∧ win0_1.index t = ![t.val / 2, 0, 0]
    ∧ win0_2.index t = ![t.val % 2, t.val / 2] :=
  (by decide +kernel : ∀ t : Fin grid0.N, _)

/-- The row that row `r` of a grid point's block holds. -/
def row (t : Fin cfg0.N) (r : Fin 1024) : Fin 2048 := ⟨t.val % 2 * 1024 + r.val, by omega⟩

/-- The column that column `f` of a grid point's block holds. -/
def col (t : Fin cfg0.N) (f : Fin 256) : Fin 2048 :=
  ⟨t.val / 2 * 256 + f.val, by have := t.isLt; have hN : cfg0.N = 16 := N_0; omega⟩

/-- The arguments of a device: the cotangent of the gate's product and the gate's weight. -/
abbrev ta (c : Dev nD) : FVec Ideal S2048x2048 .f32 := m ((c : Thread nD τ).loc main_arg0)
abbrev wa (c : Dev nD) : FVec Ideal S2048x2048 .f32 := m ((c : Thread nD τ).loc main_arg1)

theorem t_blk (c : Dev nD) (t : Fin cfg0.N) (r : Fin 1024) (k : Fin 2048) : iblk m c 0 t (ix2 r k) = ta m c (ix2 (row t r) k) := by
  unfold row
  blk_point [iblk, V, idx t]

theorem w_blk (c : Dev nD) (t : Fin cfg0.N) (f : Fin 256) (k : Fin 2048) : iblk m c 1 t (ix3 0 f k) = wa m c (ix2 (col t f) k) := by
  unfold col
  blk_point [iblk, V, idx t]

theorem emb2 (t : Fin cfg0.N) (y : S1024x256.Idx) : (win0_2.blk t).view.emb y = ix2 (row t (y 0)) (col t (y 1)) := by
  unfold row col
  blk_ext [idx t]

/-- The cotangent of the rows. -/
def dxArr (d w : FVec Ideal S2048x2048 .f32) : FVec Ideal S2048x2048 .f32 := fun y => ∑ k, d (ix2 (y 0) k) * w (ix2 (y 1) k)

theorem final (c : Dev nD) : (dats m 0 c).arrAt 2 (cfgs 0).N = dxArr (ta m c) (wa m c) := by
  refine (dats m 0 c).arrAt_eq_of_covers 2 _ (by decide +kernel) fun t _ y => ?_
  blk_simp
  rw [after0_2, emb2]; frame_out
  obtain ⟨r, f, rfl⟩ : ∃ (r : Fin 1024) (f : Fin 256), y = ix2 r f := ⟨y 0, y 1, by funext i; fin_cases i <;> rfl⟩
  pointwise [k0_pay1]
  simp only [t_blk, w_blk]
  rfl

open Cert.GatedxReferenceIdeal.Read in
/-- The reference's cotangent. -/
theorem ref (d w : FVec Ideal S2048x2048 .f32) : val_main_v2 (F := Ideal) d w = dxArr d w := by
  funext y
  obtain ⟨r, f, rfl⟩ : ∃ (r : Fin 2048) (f : Fin 2048), y = ix2 r f := ⟨y 0, y 1, by funext i; fin_cases i <;> rfl⟩
  pointwise [val_main_v2]
  rfl

end Cert.GatedxKernelIdeal.Value

namespace Cert.Proof.Gatedx

open Idealize.ShloMosaic Idealize.ShloMosaic.TcCoe Idealize.SL.Sem

/-- The kernel at the bit level runs, leaves its arguments unchanged and ends quiescent. -/
theorem frame_p : Cert.quiescent_GatedxKernel := fun m ρ _ => Cert.GatedxKernel.Gen.frame m ρ

/-- The same of the kernel over the extended reals. -/
theorem frame_pi : Cert.quiescent_GatedxKernelIdeal := fun m ρ _ => Cert.GatedxKernelIdeal.Gen.frame m ρ

/-- The reference runs, leaves its arguments unchanged and has no semaphore. -/
theorem frame_ri : Cert.quiescent_GatedxReferenceIdeal := fun m ρ _ =>
  (θ_run Cert.GatedxReferenceIdeal.defs _ _).mono (fun r h => ⟨fun c => (h c).2,
      Idealize.ShloMosaic.sem_eq_zero_of_no_sems (by decide) r.2⟩) (Cert.GatedxReferenceIdeal.Value.run (F := Ideal) m ρ)

/-- The cotangent of the gate's rows is, over the extended reals, the derivative of the reference's product. -/
theorem value : Cert.algebraic_GatedxKernelIdeal_GatedxReferenceIdeal := by
  pair_intro
  · run_from Cert.GatedxKernelIdeal.Gen.run_main m g
  · run_from Cert.GatedxReferenceIdeal.Value.run m' g'
    exact (Cert.GatedxKernelIdeal.Value.ref _ _).trans (Cert.GatedxKernelIdeal.Value.final m c).symm

end Cert.Proof.Gatedx

end
-- ==== Proof.Indx.lean ====
/- The cotangent of the normed rows through the input weight: four plain products, summed. -/
module

public import proofs.«01_k».proof.Defs
public import proofs.«01_k».proof.Proof.Gen.IndxKernel.Frame
public import proofs.«01_k».proof.Proof.Gen.IndxKernelIdeal.Value
public import proofs.«01_k».proof.Proof.Gen.IndxReferenceIdeal.Read
public import proofs.«01_k».proof.Proof.Parts
public import Idealize.ShloMosaic.Lib.Pointwise
public import Idealize.ShloMosaic.Lib.Pipeline.ValueKit

@[expose] public section

set_option maxRecDepth 16384

noncomputable section

namespace Cert.IndxKernelIdeal.Value

open Cert.IndxKernelIdeal Cert.IndxKernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies: grid point `t` is column block `t / 4`, quarter `t % 4` of the rows. -/
theorem idx : ∀ t : Fin cfg0.N, (win0_0.index t = ![t.val % 4, 0] ∧ win0_1.index t = ![0, t.val / 4] ∧ win0_2.index t = ![t.val % 4, 0]
    ∧ win0_3.index t = ![0, t.val / 4]) ∧ win0_4.index t = ![t.val % 4, 0] ∧ win0_5.index t = ![0, t.val / 4]
    ∧ win0_6.index t = ![t.val % 4, 0] ∧ win0_7.index t = ![0, t.val / 4] ∧ win0_8.index t = ![t.val % 4, t.val / 4] :=
  (by decide +kernel : ∀ t : Fin grid0.N, _)

/-- The row that row `r` of a grid point's block holds. -/
def row (t : Fin cfg0.N) (r : Fin 512) : Fin 2048 := ⟨t.val % 4 * 512 + r.val, by omega⟩

/-- The column that column `j` of a grid point's block holds. -/
def col (t : Fin cfg0.N) (j : Fin 512) : Fin 2048 :=
  ⟨t.val / 4 * 512 + j.val, by have := t.isLt; have hN : cfg0.N = 16 := N_0; omega⟩

/-- The arguments of a device: the joined cotangents and the input weight. -/
abbrev da (c : Dev nD) : FVec Ideal S2048x8256 .f32 := m ((c : Thread nD τ).loc main_arg0)
abbrev wa (c : Dev nD) : FVec Ideal S2048x8256 .f32 := m ((c : Thread nD τ).loc main_arg1)

theorem d0_blk (c : Dev nD) (t : Fin cfg0.N) (r : Fin 512) (k : Fin 3072) :
    iblk m c 0 t (ix2 r k) = da m c (ix2 (row t r) ⟨k.val, by omega⟩) := by
  unfold row
  blk_point [iblk, V, (idx t).1]

/-- No block of the whole weight is cut, though its rows are not a whole number of blocks. -/
theorem w0_blk (c : Dev nD) (t : Fin cfg0.N) (k : Fin 3072) (j : Fin 512) :
    X0_1 m c t (ix2 k j) = wa m c (ix2 (col t j) ⟨k.val, by omega⟩) := by
  unfold X0_1 Pipeline.Window.fill col
  rw [dif_pos (moved0_1 t _)]
  blk_point [iblk, V, (idx t).1]

theorem d1_blk (c : Dev nD) (t : Fin cfg0.N) (r : Fin 512) (k : Fin 1088) :
    iblk m c 2 t (ix2 r k) = da m c (ix2 (row t r) ⟨3072 + k.val, by omega⟩) := by
  unfold row
  blk_point [iblk, V, (idx t).1]

theorem w1_blk (c : Dev nD) (t : Fin cfg0.N) (k : Fin 1088) (j : Fin 512) :
    iblk m c 3 t (ix2 k j) = wa m c (ix2 (col t j) ⟨3072 + k.val, by omega⟩) := by
  unfold col
  blk_point [iblk, V, (idx t).1]

theorem d2_blk (c : Dev nD) (t : Fin cfg0.N) (r : Fin 512) (k : Fin 2048) :
    iblk m c 4 t (ix2 r k) = da m c (ix2 (row t r) ⟨3072 + 1088 + k.val, by omega⟩) := by
  unfold row
  blk_point [iblk, V, (idx t).2]

theorem w2_blk (c : Dev nD) (t : Fin cfg0.N) (k : Fin 2048) (j : Fin 512) :
    iblk m c 5 t (ix2 k j) = wa m c (ix2 (col t j) ⟨3072 + 1088 + k.val, by omega⟩) := by
  unfold col
  blk_point [iblk, V, (idx t).2]

theorem d3_blk (c : Dev nD) (t : Fin cfg0.N) (r : Fin 512) (k : Fin 2048) :
    iblk m c 6 t (ix2 r k) = da m c (ix2 (row t r) ⟨3072 + 1088 + 2048 + k.val, by omega⟩) := by
  unfold row
  blk_point [iblk, V, (idx t).2]

theorem w3_blk (c : Dev nD) (t : Fin cfg0.N) (k : Fin 2048) (j : Fin 512) :
    iblk m c 7 t (ix2 k j) = wa m c (ix2 (col t j) ⟨3072 + 1088 + 2048 + k.val, by omega⟩) := by
  unfold col
  blk_point [iblk, V, (idx t).2]

theorem emb8 (t : Fin cfg0.N) (y : S512x512.Idx) : (win0_8.blk t).view.emb y = ix2 (row t (y 0)) (col t (y 1)) := by
  unfold row col
  blk_ext [(idx t).2]

/-- The cotangent of the normed rows. -/
def dxArr (d w : FVec Ideal S2048x8256 .f32) : FVec Ideal S2048x2048 .f32 := fun y => ∑ k, d (ix2 (y 0) k) * w (ix2 (y 1) k)

theorem final (c : Dev nD) : (dats m 0 c).arrAt 8 (cfgs 0).N = dxArr (da m c) (wa m c) := by
  refine (dats m 0 c).arrAt_eq_of_covers 8 _ (by decide +kernel) fun t _ y => ?_
  blk_simp
  rw [after0_8, emb8]
  unfold outsAt0
  frame_out
  obtain ⟨r, j, rfl⟩ : ∃ (r : Fin 512) (j : Fin 512), y = ix2 r j := ⟨y 0, y 1, by funext i; fin_cases i <;> rfl⟩
  pointwise [k0_pay1]
  simp only [d0_blk, w0_blk, d1_blk, w1_blk, d2_blk, w2_blk, d3_blk, w3_blk]
  exact Cert.Proof.Parts.four (a := 3072) (b := 1088) (c := 2048) (d := 2048) rfl
    fun k => da m c (ix2 (row t r) k) * wa m c (ix2 (col t j) k)

open Cert.IndxReferenceIdeal.Read in
/-- The reference's cotangent. -/
theorem ref (d w : FVec Ideal S2048x8256 .f32) : val_main_v2 (F := Ideal) d w = dxArr d w := by
  funext y
  obtain ⟨r, j, rfl⟩ : ∃ (r : Fin 2048) (j : Fin 2048), y = ix2 r j := ⟨y 0, y 1, by funext i; fin_cases i <;> rfl⟩
  pointwise [val_main_v2]
  rfl

end Cert.IndxKernelIdeal.Value

namespace Cert.Proof.Indx

open Idealize.ShloMosaic Idealize.ShloMosaic.TcCoe Idealize.SL.Sem

/-- The kernel at the bit level runs, leaves its arguments unchanged and ends quiescent. -/
theorem frame_p : Cert.quiescent_IndxKernel := fun m ρ _ => Cert.IndxKernel.Gen.frame m ρ

/-- The same of the kernel over the extended reals. -/
theorem frame_pi : Cert.quiescent_IndxKernelIdeal := fun m ρ _ => Cert.IndxKernelIdeal.Gen.frame m ρ

/-- The reference runs, leaves its arguments unchanged and has no semaphore. -/
theorem frame_ri : Cert.quiescent_IndxReferenceIdeal := fun m ρ _ =>
  (θ_run Cert.IndxReferenceIdeal.defs _ _).mono (fun r h => ⟨fun c => (h c).2,
      Idealize.ShloMosaic.sem_eq_zero_of_no_sems (by decide) r.2⟩) (Cert.IndxReferenceIdeal.Value.run (F := Ideal) m ρ)

/-- The cotangent of the normed rows is, over the extended reals, the derivative of the reference's product. -/
theorem value : Cert.algebraic_IndxKernelIdeal_IndxReferenceIdeal := by
  pair_intro
  · run_from Cert.IndxKernelIdeal.Gen.run_main m g
  · run_from Cert.IndxReferenceIdeal.Value.run m' g'
    exact (Cert.IndxKernelIdeal.Value.ref _ _).trans (Cert.IndxKernelIdeal.Value.final m c).symm

end Cert.Proof.Indx

end
-- ==== Proof.Adam.lean ====
/- The optimiser's step: the chip's gradient from its own and its three peers' parts, and the new weight and moments. -/
module

public import proofs.«01_k».proof.Defs
public import proofs.«01_k».proof.Proof.Gen.AdamKernel.Frame
public import proofs.«01_k».proof.Proof.Gen.AdamKernelIdeal.Frame
public import proofs.«01_k».proof.Proof.Gen.AdamReferenceIdeal.Read
public import proofs.«01_k».proof.Proof.Gen.AdamReferenceIdeal.Run
public import proofs.«01_k».proof.Proof.Gen.Pre_chip_in_range
public import Idealize.ShloMosaic.Lib.Pointwise
public import Idealize.ShloMosaic.Lib.Pipeline.ValueKit

@[expose] public section

set_option maxRecDepth 16384

noncomputable section

namespace Cert.AdamKernelIdeal.Value

open Cert.AdamKernelIdeal Cert.AdamKernelIdeal.Gen Idealize.ShloMosaic Idealize.ShloMosaic.TcCoe Idealize.SL.Sem
open Idealize.ShloMosaic.Pipeline (Dat)

variable (m : (ℓ : Loc nD τ sig) → Buf (Elt Ideal) ℓ)

/-- The chip's number as the launch memory holds it. -/
def chip : ℕ := (V m 0 main_arg5 (ix1 0) : BitVec 32).toNat

/-- The grid is four row groups. -/
theorem coords : ∀ t : Fin grid0.N, (grid0.coords t 0).val = t.val ∧ (grid0.coords t 1).val = 0 := by decide +kernel

/-- Where each window's block lies: grid point `t` is row group `t`; the first window reads the chip's slice. -/
theorem idx0 (hO : Ok m) (t : Fin (cfgM m hO).N) : ((cfgM m hO).win 0).index t = ![chip m, t.val, 0] := by
  have e := coords t
  show cc0_transform_0 inb_S1_S1_0 numel1_S1 (tbl m) (grid0.coords t) = _
  funext a
  fin_cases a
  · refine congrArg (fun i => (V m 0 main_arg5 i : BitVec 32).toNat) ?_
    funext b; fin_cases b; rfl
  · show (BitVec.ofNat 32 (grid0.coords t 0).val).toNat = t.val
    have := t.isLt
    have hN : (cfgM m hO).N = 4 := N_0
    rw [e.1, BitVec.toNat_ofNat, Nat.mod_eq_of_lt (by omega)]
  · show (BitVec.ofNat 32 (grid0.coords t 1).val).toNat = 0
    rw [e.2]; rfl

theorem idx1 (hO : Ok m) (t : Fin (cfgM m hO).N) : ((cfgM m hO).win 1).index t = ![0, t.val, 0] :=
  (by decide +kernel : ∀ t : Fin grid0.N, cc0_transform_1 (grid0.coords t) = ![0, t.val, 0]) t

/-- The windows of the weight, its moments and the four results. -/
theorem idxs : ∀ t : Fin grid0.N, cc0_transform_2 (grid0.coords t) = ![t.val, 0] := by decide +kernel
theorem idx2 (hO : Ok m) (t : Fin (cfgM m hO).N) : ((cfgM m hO).win 2).index t = ![t.val, 0] := idxs t
theorem idx3 (hO : Ok m) (t : Fin (cfgM m hO).N) : ((cfgM m hO).win 3).index t = ![t.val, 0] := idxs t
theorem idx4 (hO : Ok m) (t : Fin (cfgM m hO).N) : ((cfgM m hO).win 4).index t = ![t.val, 0] := idxs t
theorem idx5 (hO : Ok m) (t : Fin (cfgM m hO).N) : ((cfgM m hO).win 5).index t = ![t.val, 0] := idxs t
theorem idx6 (hO : Ok m) (t : Fin (cfgM m hO).N) : ((cfgM m hO).win 6).index t = ![t.val, 0] := idxs t
theorem idx7 (hO : Ok m) (t : Fin (cfgM m hO).N) : ((cfgM m hO).win 7).index t = ![t.val, 0] := idxs t
theorem idx8 (hO : Ok m) (t : Fin (cfgM m hO).N) : ((cfgM m hO).win 8).index t = ![t.val, 0] := idxs t

/-- The row of a grid point. -/
def row (hO : Ok m) (t : Fin (cfgM m hO).N) (r : Fin 176) : Fin 704 :=
  ⟨t.val * 176 + r.val, by have := t.isLt; have hN : (cfgM m hO).N = 4 := N_0; omega⟩

/-- The arguments of a device: the chips' sums, what the peers sent, the weight and its moments. -/
abbrev sa (c : Dev nD) : FVec Ideal S4x704x2048 .f32 := m ((c : Thread nD τ).loc main_arg0)
abbrev la (c : Dev nD) : FVec Ideal S3x704x2048 .f32 := m ((c : Thread nD τ).loc main_arg1)
abbrev wa (c : Dev nD) : FVec Ideal S704x2048 .f32 := m ((c : Thread nD τ).loc main_arg2)
abbrev ma (c : Dev nD) : FVec Ideal S704x2048 .f32 := m ((c : Thread nD τ).loc main_arg3)
abbrev va (c : Dev nD) : FVec Ideal S704x2048 .f32 := m ((c : Thread nD τ).loc main_arg4)

theorem s_blk (hO : Ok m) (hc : chip m < 4) (c : Dev nD) (t : Fin (cfgM m hO).N) (r : Fin 176) (k : Fin 2048) :
    iblk m hO c 0 t (ix3 0 r k) = sa m c (ix3 ⟨chip m, hc⟩ (row m hO t r) k) := by
  unfold row
  blk_point [iblk, V, idx0 m hO t]

theorem l_blk (hO : Ok m) (c : Dev nD) (t : Fin (cfgM m hO).N) (j : Fin 3) (r : Fin 176) (k : Fin 2048) :
    iblk m hO c 1 t (ix3 j r k) = la m c (ix3 j (row m hO t r) k) := by
  unfold row
  blk_point [iblk, V, idx1 m hO t]

theorem w_blk (hO : Ok m) (c : Dev nD) (t : Fin (cfgM m hO).N) (r : Fin 176) (k : Fin 2048) :
    iblk m hO c 2 t (ix2 r k) = wa m c (ix2 (row m hO t r) k) := by
  unfold row
  blk_point [iblk, V, idx2 m hO t]

theorem m_blk (hO : Ok m) (c : Dev nD) (t : Fin (cfgM m hO).N) (r : Fin 176) (k : Fin 2048) :
    iblk m hO c 3 t (ix2 r k) = ma m c (ix2 (row m hO t r) k) := by
  unfold row
  blk_point [iblk, V, idx3 m hO t]

theorem v_blk (hO : Ok m) (c : Dev nD) (t : Fin (cfgM m hO).N) (r : Fin 176) (k : Fin 2048) :
    iblk m hO c 4 t (ix2 r k) = va m c (ix2 (row m hO t r) k) := by
  unfold row
  blk_point [iblk, V, idx4 m hO t]

theorem emb5 (hO : Ok m) (t : Fin (cfgM m hO).N) (y : S176x2048.Idx) :
    (((cfgM m hO).win 5).blk t).view.emb y = ix2 (row m hO t (y 0)) (y 1) := by
  unfold row
  blk_ext [idx5 m hO t]
theorem emb6 (hO : Ok m) (t : Fin (cfgM m hO).N) (y : S176x2048.Idx) :
    (((cfgM m hO).win 6).blk t).view.emb y = ix2 (row m hO t (y 0)) (y 1) := by
  unfold row
  blk_ext [idx6 m hO t]
theorem emb7 (hO : Ok m) (t : Fin (cfgM m hO).N) (y : S176x2048.Idx) :
    (((cfgM m hO).win 7).blk t).view.emb y = ix2 (row m hO t (y 0)) (y 1) := by
  unfold row
  blk_ext [idx7 m hO t]
theorem emb8 (hO : Ok m) (t : Fin (cfgM m hO).N) (y : S176x2048.Idx) :
    (((cfgM m hO).win 8).blk t).view.emb y = ix2 (row m hO t (y 0)) (y 1) := by
  unfold row
  blk_ext [idx8 m hO t]

/-- The gradient of chip `n` at an element: its own part and its three peers'. -/
def grad (n : Fin 4) (s : FVec Ideal S4x704x2048 .f32) (l : FVec Ideal S3x704x2048 .f32) : FVec Ideal S704x2048 .f32 :=
  fun x => s (ix3 n (x 0) (x 1)) + l (ix3 0 (x 0) (x 1)) + l (ix3 1 (x 0) (x 1)) + l (ix3 2 (x 0) (x 1))

/-- The moments and the step from a gradient, at an element and over the array. -/
def mom1 (g a : EReal) : EReal := Ideal.ofBits .f32 0x3F666666#32 * a + Ideal.ofBits .f32 0x3DCCCCCD#32 * g
def var1 (g b : EReal) : EReal := Ideal.ofBits .f32 0x3F7FBE77#32 * b + Ideal.ofBits .f32 0x3A83126F#32 * (g * g)
def step1 (g w a b : EReal) : EReal :=
  Ideal.ofBits .f32 0xBA83126F#32 * (Ideal.div (Ideal.div (mom1 g a) (Ideal.ofBits .f32 0x3F26BD02#32))
    (Ideal.sqrt (Ideal.div (var1 g b) (Ideal.ofBits .f32 0x3C231ACC#32)) + Ideal.ofBits .f32 0x322BCC77#32)
    + Ideal.ofBits .f32 0x3C23D70A#32 * w)
def mom (g a : FVec Ideal S704x2048 .f32) : FVec Ideal S704x2048 .f32 := fun x => mom1 (g x) (a x)
def var (g b : FVec Ideal S704x2048 .f32) : FVec Ideal S704x2048 .f32 := fun x => var1 (g x) (b x)
def step (g w a b : FVec Ideal S704x2048 .f32) : FVec Ideal S704x2048 .f32 := fun x => step1 (g x) (w x) (a x) (b x)

/-- Every block of a result is some grid point's. -/
theorem reach (hO : Ok m) (a b : ℕ) (ha : a < (704 + 176 - 1) / 176) (hb : b < (2048 + 2048 - 1) / 2048) : ∃ t : Fin (cfgM m hO).N, t.val = a ∧ 0 = b :=
  ⟨⟨a, by have hN : (cfgM m hO).N = 4 := N_0; omega⟩, rfl, by omega⟩

theorem cover5 (hO : Ok m) : ((cfgM m hO).win 5).Covers := by
  refine ⟨fun a => (by decide : ∀ a : Fin 2, 0 < S176x2048.size a) a, fun β => ?_⟩
  obtain ⟨t, h0, h1⟩ := reach m hO (β (0 : Fin 2)).val (β (1 : Fin 2)).val (β (0 : Fin 2)).isLt (β (1 : Fin 2)).isLt
  refine ⟨t, flush0_5 (adm m hO) _, fun a => ⟨(congrFun (idx5 m hO t) a).trans ?_, Or.inl rfl⟩⟩
  fin_cases a
  exacts [h0, h1]

theorem cover6 (hO : Ok m) : ((cfgM m hO).win 6).Covers := by
  refine ⟨fun a => (by decide : ∀ a : Fin 2, 0 < S176x2048.size a) a, fun β => ?_⟩
  obtain ⟨t, h0, h1⟩ := reach m hO (β (0 : Fin 2)).val (β (1 : Fin 2)).val (β (0 : Fin 2)).isLt (β (1 : Fin 2)).isLt
  refine ⟨t, flush0_6 (adm m hO) _, fun a => ⟨(congrFun (idx6 m hO t) a).trans ?_, Or.inl rfl⟩⟩
  fin_cases a
  exacts [h0, h1]

theorem cover7 (hO : Ok m) : ((cfgM m hO).win 7).Covers := by
  refine ⟨fun a => (by decide : ∀ a : Fin 2, 0 < S176x2048.size a) a, fun β => ?_⟩
  obtain ⟨t, h0, h1⟩ := reach m hO (β (0 : Fin 2)).val (β (1 : Fin 2)).val (β (0 : Fin 2)).isLt (β (1 : Fin 2)).isLt
  refine ⟨t, flush0_7 (adm m hO) _, fun a => ⟨(congrFun (idx7 m hO t) a).trans ?_, Or.inl rfl⟩⟩
  fin_cases a
  exacts [h0, h1]

theorem cover8 (hO : Ok m) : ((cfgM m hO).win 8).Covers := by
  refine ⟨fun a => (by decide : ∀ a : Fin 2, 0 < S176x2048.size a) a, fun β => ?_⟩
  obtain ⟨t, h0, h1⟩ := reach m hO (β (0 : Fin 2)).val (β (1 : Fin 2)).val (β (0 : Fin 2)).isLt (β (1 : Fin 2)).isLt
  refine ⟨t, flush0_8 (adm m hO) _, fun a => ⟨(congrFun (idx8 m hO t) a).trans ?_, Or.inl rfl⟩⟩
  fin_cases a
  exacts [h0, h1]

section
variable (c : Dev nD) (i : grid0.Coords) (a3 : Memref sig .tc .vmem S1x176x2048 .bf16) (h3 : a3.IsWhole) (a4 : Memref sig .tc .vmem S3x176x2048 .bf16) (h4 : a4.IsWhole)
  (a5 : Memref sig .tc .vmem S176x2048 .f32) (h5 : a5.IsWhole) (a6 : Memref sig .tc .vmem S176x2048 .f32) (h6 : a6.IsWhole)
  (a7 : Memref sig .tc .vmem S176x2048 .f32) (h7 : a7.IsWhole) (a8 : Memref sig .tc .vmem S176x2048 .f32) (h8 : a8.IsWhole)
  (a9 : Memref sig .tc .vmem S176x2048 .f32) (h9 : a9.IsWhole) (a10 : Memref sig .tc .vmem S176x2048 .f32) (h10 : a10.IsWhole)
  (a11 : Memref sig .tc .vmem S176x2048 .f32) (h11 : a11.IsWhole)
  (x0 : Vec Ideal S1x176x2048 .bf16) (x1 : Vec Ideal S3x176x2048 .bf16) (x2 x3 x4 : Vec Ideal S176x2048 .f32) (xt : TbBuf0 (F := Ideal) c tbM0_0)
  (r : Fin 176) (k : Fin 2048)

/-- The gradient of a grid point's block at an element. -/
def bgrad : EReal := x0 (ix3 0 r k) + x1 (ix3 0 r k) + x1 (ix3 1 r k) + x1 (ix3 2 r k)

/-- What the body leaves of the gradient, of the moments and of the step. -/
theorem out5 : out0_A_5 c i a3 h3 a4 h4 a5 h5 a6 h6 a7 h7 a8 h8 a9 h9 a10 h10 a11 h11 x0 x1 x2 x3 x4 xt (ix2 r k) = bgrad x0 x1 r k := by
  frame_out
  pointwise [k0_pay2]
  rfl

/-- The first moment. -/
theorem out7 : out0_A_7 c i a3 h3 a4 h4 a5 h5 a6 h6 a7 h7 a8 h8 a9 h9 a10 h10 a11 h11 x0 x1 x2 x3 x4 xt (ix2 r k) = mom1 (bgrad x0 x1 r k) (x3 (ix2 r k)) := by
  frame_out
  pointwise [k0_pay3, k0_pay2]
  rfl

/-- The second moment. -/
theorem out8 : out0_A_8 c i a3 h3 a4 h4 a5 h5 a6 h6 a7 h7 a8 h8 a9 h9 a10 h10 a11 h11 x0 x1 x2 x3 x4 xt (ix2 r k) = var1 (bgrad x0 x1 r k) (x4 (ix2 r k)) := by
  frame_out
  pointwise [k0_pay4, k0_pay2]
  rfl

/-- The step. -/
theorem out6 : out0_A_6 c i a3 h3 a4 h4 a5 h5 a6 h6 a7 h7 a8 h8 a9 h9 a10 h10 a11 h11 x0 x1 x2 x3 x4 xt (ix2 r k) = step1 (bgrad x0 x1 r k) (x2 (ix2 r k)) (x3 (ix2 r k)) (x4 (ix2 r k)) := by
  frame_out
  pointwise [k0_pay1, k0_pay5, k0_pay4, k0_pay3, k0_pay2]
  rfl

end

/-- The gradient of a block is the gradient of its rows. -/
theorem bgrad_blk (hO : Ok m) (hc : chip m < 4) (c : Dev nD) (t : Fin (cfgM m hO).N) (r : Fin 176) (k : Fin 2048) :
    bgrad (iblk m hO c 0 t) (iblk m hO c 1 t) r k = grad ⟨chip m, hc⟩ (sa m c) (la m c) (ix2 (row m hO t r) k) := by
  unfold bgrad
  rw [s_blk m hO hc, l_blk, l_blk, l_blk]
  rfl

/-- An index of a block by its coordinates. -/
theorem eta (y : S176x2048.Idx) : y = ix2 (y 0) (y 1) := by funext i; fin_cases i <;> rfl

theorem left5 (hO : Ok m) (hc : chip m < 4) (c : Dev nD) (t : Fin (cfgM m hO).N) (r : Fin 176) (k : Fin 2048) :
    (outsAt0 m hO c t).1 (ix2 r k) = grad ⟨chip m, hc⟩ (sa m c) (la m c) (ix2 (row m hO t r) k) := by
  have e := out5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k
  unfold outsAt0
  dsimp only
  refine e.trans ?_
  rw [bgrad_blk m hO hc]

theorem final5 (hO : Ok m) (hc : chip m < 4) (c : Dev nD) :
    (dats m hO 0 c).arrAt 5 (cfgM m hO).N = grad ⟨chip m, hc⟩ (sa m c) (la m c) := by
  refine (dats m hO 0 c).arrAt_eq_of_covers 5 _ (cover5 m hO) fun t _ y => ?_
  blk_simp
  rw [after0_5]
  exact (congrArg (outsAt0 m hO c t).1 (eta y)).trans ((left5 m hO hc c t _ _).trans (congrArg _ (emb5 m hO t y).symm))

theorem left7 (hO : Ok m) (hc : chip m < 4) (c : Dev nD) (t : Fin (cfgM m hO).N) (r : Fin 176) (k : Fin 2048) :
    (outsAt0 m hO c t).2.2.1 (ix2 r k) = mom (grad ⟨chip m, hc⟩ (sa m c) (la m c)) (ma m c) (ix2 (row m hO t r) k) := by
  have e := out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k
  unfold outsAt0
  dsimp only
  refine e.trans ?_
  rw [bgrad_blk m hO hc, m_blk]
  rfl

theorem final7 (hO : Ok m) (hc : chip m < 4) (c : Dev nD) :
    (dats m hO 0 c).arrAt 7 (cfgM m hO).N = mom (grad ⟨chip m, hc⟩ (sa m c) (la m c)) (ma m c) := by
  refine (dats m hO 0 c).arrAt_eq_of_covers 7 _ (cover7 m hO) fun t _ y => ?_
  blk_simp
  rw [after0_7]
  exact (congrArg (outsAt0 m hO c t).2.2.1 (eta y)).trans ((left7 m hO hc c t _ _).trans (congrArg _ (emb7 m hO t y).symm))

theorem left8 (hO : Ok m) (hc : chip m < 4) (c : Dev nD) (t : Fin (cfgM m hO).N) (r : Fin 176) (k : Fin 2048) :
    (outsAt0 m hO c t).2.2.2 (ix2 r k) = var (grad ⟨chip m, hc⟩ (sa m c) (la m c)) (va m c) (ix2 (row m hO t r) k) := by
  have e := out8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k
  unfold outsAt0
  dsimp only
  refine e.trans ?_
  rw [bgrad_blk m hO hc, v_blk]
  rfl

theorem final8 (hO : Ok m) (hc : chip m < 4) (c : Dev nD) :
    (dats m hO 0 c).arrAt 8 (cfgM m hO).N = var (grad ⟨chip m, hc⟩ (sa m c) (la m c)) (va m c) := by
  refine (dats m hO 0 c).arrAt_eq_of_covers 8 _ (cover8 m hO) fun t _ y => ?_
  blk_simp
  rw [after0_8]
  exact (congrArg (outsAt0 m hO c t).2.2.2 (eta y)).trans ((left8 m hO hc c t _ _).trans (congrArg _ (emb8 m hO t y).symm))

theorem left6 (hO : Ok m) (hc : chip m < 4) (c : Dev nD) (t : Fin (cfgM m hO).N) (r : Fin 176) (k : Fin 2048) :
    (outsAt0 m hO c t).2.1 (ix2 r k) = step (grad ⟨chip m, hc⟩ (sa m c) (la m c)) (wa m c) (ma m c) (va m c) (ix2 (row m hO t r) k) := by
  have e := out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r k
  unfold outsAt0
  dsimp only
  refine e.trans ?_
  rw [bgrad_blk m hO hc, w_blk, m_blk, v_blk]
  rfl

theorem final6 (hO : Ok m) (hc : chip m < 4) (c : Dev nD) :
    (dats m hO 0 c).arrAt 6 (cfgM m hO).N = step (grad ⟨chip m, hc⟩ (sa m c) (la m c)) (wa m c) (ma m c) (va m c) := by
  refine (dats m hO 0 c).arrAt_eq_of_covers 6 _ (cover6 m hO) fun t _ y => ?_
  blk_simp
  rw [after0_6]
  exact (congrArg (outsAt0 m hO c t).2.1 (eta y)).trans ((left6 m hO hc c t _ _).trans (congrArg _ (emb6 m hO t y).symm))

section
open Cert.AdamReferenceIdeal.Read

/-- The reference's gradient: the sum over the chips of the chip's own part, plus the sum of its peers'. -/
theorem ref_grad (s : FVec Ideal S4x704x2048 .f32) (l : FVec Ideal S3x704x2048 .f32) (n : IVec S1 32) (hn : (n (ix1 0)).toNat < 4) :
    val_main_v8 (F := Ideal) s l n = grad ⟨(n (ix1 0)).toNat, hn⟩ s l := by
  funext x
  obtain ⟨k, r, rfl⟩ : ∃ (k : Fin 2048) (r : Fin 704), x = ix2 r k := ⟨x 1, x 0, by funext i; fin_cases i <;> rfl⟩
  pointwise [val_main_v8, val_main_v7, val_main_v6, val_main_v5, val_main_call0_v1, val_main_call0_v2, val_main_call0_v0, val_main_v4, val_main_v3, val_main_v2, val_main_v1, val_main_v0, val_main_cst, val_main_cst_0, val_main_cst_1]
  have z : id (constant (F := Ideal) Cert.AdamReferenceIdeal.S_ FTy.f32 0#32) Idealize.ShloMosaic.ix0 = 0 := Ideal.ofBits_zero .f32
  rw [z]
  unfold grad
  generalize n (ix1 0) = v at hn ⊢
  rw [Fin.sum_univ_four, Fin.sum_univ_three]
  obtain ⟨j, rfl⟩ : ∃ j : Fin 4, v = BitVec.ofNat 32 j.val := ⟨⟨v.toNat, hn⟩, by simp⟩
  fin_cases j
  · show s (ix3 0 r k) + 0 + 0 + 0 + (l (ix3 0 r k) + l (ix3 1 r k) + l (ix3 2 r k)) = s (ix3 0 r k) + l (ix3 0 r k) + l (ix3 1 r k) + l (ix3 2 r k)
    simp only [add_zero, add_assoc]
  · show 0 + s (ix3 1 r k) + 0 + 0 + (l (ix3 0 r k) + l (ix3 1 r k) + l (ix3 2 r k)) = s (ix3 1 r k) + l (ix3 0 r k) + l (ix3 1 r k) + l (ix3 2 r k)
    simp only [add_zero, zero_add, add_assoc]
  · show 0 + 0 + s (ix3 2 r k) + 0 + (l (ix3 0 r k) + l (ix3 1 r k) + l (ix3 2 r k)) = s (ix3 2 r k) + l (ix3 0 r k) + l (ix3 1 r k) + l (ix3 2 r k)
    simp only [add_zero, zero_add, add_assoc]
  · show 0 + 0 + 0 + s (ix3 3 r k) + (l (ix3 0 r k) + l (ix3 1 r k) + l (ix3 2 r k)) = s (ix3 3 r k) + l (ix3 0 r k) + l (ix3 1 r k) + l (ix3 2 r k)
    simp only [zero_add, add_assoc]

theorem ref_mom (s : FVec Ideal S4x704x2048 .f32) (l : FVec Ideal S3x704x2048 .f32) (a : FVec Ideal S704x2048 .f32) (n : IVec S1 32) :
    val_main_v13 (F := Ideal) s l a n = mom (val_main_v8 (F := Ideal) s l n) a := by
  funext x
  pointwise [val_main_v13, val_main_v12, val_main_v11, val_main_v10, val_main_v9, val_main_cst_2, val_main_cst_3]
  rfl

theorem ref_var (s : FVec Ideal S4x704x2048 .f32) (l : FVec Ideal S3x704x2048 .f32) (b : FVec Ideal S704x2048 .f32) (n : IVec S1 32) :
    val_main_v19 (F := Ideal) s l b n = var (val_main_v8 (F := Ideal) s l n) b := by
  funext x
  pointwise [val_main_v19, val_main_v18, val_main_v17, val_main_v16, val_main_v15, val_main_v14, val_main_cst_4, val_main_cst_5]
  rfl

theorem ref_step (s : FVec Ideal S4x704x2048 .f32) (l : FVec Ideal S3x704x2048 .f32) (w a b : FVec Ideal S704x2048 .f32) (n : IVec S1 32) :
    val_main_v32 (F := Ideal) s l w a b n = step (val_main_v8 (F := Ideal) s l n) w a b := by
  funext x
  pointwise [val_main_v32, val_main_v31, val_main_v30, val_main_v29, val_main_v28, val_main_v27, val_main_v26, val_main_v25, val_main_v24, val_main_v23, val_main_v22, val_main_v21, val_main_v20, val_main_cst_6, val_main_cst_7, val_main_cst_8, val_main_cst_9, val_main_cst_10, ref_mom, ref_var]
  rfl

end

/-- The first window's block is inside the array for every chip in range. -/
theorem fits (n : ℕ) (hn : n < 4) (i : grid0.Coords) (a : Fin 3) :
    (![n, (BitVec.ofNat 32 (i 0).val).toNat, (BitVec.ofNat 32 (i 1).val).toNat] a + 1) * S1x176x2048.size a ≤ S4x704x2048.size a := by
  have h0 : (i 0).val < 4 := (i 0).isLt
  have h1 : (i 1).val < 1 := (i 1).isLt
  fin_cases a
  · show (n + 1) * 1 ≤ 4
    omega
  · show ((BitVec.ofNat 32 (i 0).val).toNat + 1) * 176 ≤ 704
    rw [BitVec.toNat_ofNat, Nat.mod_eq_of_lt (by omega)]; omega
  · show ((BitVec.ofNat 32 (i 1).val).toNat + 1) * 2048 ≤ 2048
    rw [BitVec.toNat_ofNat, Nat.mod_eq_of_lt (by omega)]; omega

end Cert.AdamKernelIdeal.Value

namespace Cert.Proof.Adam

open Idealize.ShloMosaic Idealize.ShloMosaic.TcCoe Idealize.SL.Sem

/-- A word from 0 to below 4, as the precondition states it. -/
theorem lt_four (v : BitVec 32) (e : IntOp.andi (IntOp.cmpi .sge v 0#32) (IntOp.cmpi .slt v 4#32) = 1#1) : v.toNat < 4 := by
  have e' := IntOp.andi_eq_one.mp e
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at e'
  omega

/-- The precondition, read: the chip's number is below 4, so the blocks lie inside their arrays. -/
theorem ok_p (m : (ℓ : Loc Cert.AdamKernel.nD Cert.AdamKernel.τ Cert.AdamKernel.sig) → Buf (Elt Bits) ℓ)
    (h : Cert.Pre_AdamKernel m) : Cert.AdamKernel.Gen.Ok m := by
  have e : ∀ x, (Cert.AdamKernel.Gen.V m 0 Cert.AdamKernel.main_arg5 x : BitVec 32).toNat < 4 := fun x => by
    rw [Cert.AdamKernel.Gen.V_main_arg5]
    exact lt_four _ (congrFun (h 0) x)
  exact fun i => ⟨Cert.AdamKernelIdeal.Value.fits _ (e _) i, .inr (Affine.block_words_dvd (of_decide_eq_true rfl) (by decide))⟩

/-- The same over the extended reals. -/
theorem chip_lt (m : (ℓ : Loc Cert.AdamKernelIdeal.nD Cert.AdamKernelIdeal.τ Cert.AdamKernelIdeal.sig) → Buf (Elt Ideal) ℓ)
    (h : Cert.Pre_AdamKernelIdeal m) (x : Cert.AdamKernelIdeal.S1.Idx) : (Cert.AdamKernelIdeal.Gen.V m 0 Cert.AdamKernelIdeal.main_arg5 x : BitVec 32).toNat < 4 := by
  rw [Cert.AdamKernelIdeal.Gen.V_main_arg5]
  exact lt_four _ (congrFun (h 0) x)

theorem ok_pi (m : (ℓ : Loc Cert.AdamKernelIdeal.nD Cert.AdamKernelIdeal.τ Cert.AdamKernelIdeal.sig) → Buf (Elt Ideal) ℓ)
    (h : Cert.Pre_AdamKernelIdeal m) : Cert.AdamKernelIdeal.Gen.Ok m :=
  fun i => ⟨Cert.AdamKernelIdeal.Value.fits _ (chip_lt m h _) i, .inr (Affine.block_words_dvd (of_decide_eq_true rfl) (by decide))⟩

/-- The kernel at the bit level runs, leaves its arguments unchanged and ends quiescent. -/
theorem frame_p : Cert.quiescent_AdamKernel := fun m ρ h => Cert.AdamKernel.Gen.frame m ρ (ok_p m h)

/-- The same of the kernel over the extended reals. -/
theorem frame_pi : Cert.quiescent_AdamKernelIdeal := fun m ρ h => Cert.AdamKernelIdeal.Gen.frame m ρ (ok_pi m h)

/-- The reference runs, leaves its arguments unchanged and has no semaphore. -/
theorem frame_ri : Cert.quiescent_AdamReferenceIdeal := fun m ρ _ =>
  (θ_run Cert.AdamReferenceIdeal.defs _ _).mono (fun r h => ⟨fun c => (h c).2.2.2.2,
      Idealize.ShloMosaic.sem_eq_zero_of_no_sems (by decide) r.2⟩) (Cert.AdamReferenceIdeal.Value.run (F := Ideal) m ρ)

open Cert.AdamKernelIdeal.Value in
/-- The gradient, the step and the moments are, over the extended reals, those of the reference's optimiser. -/
theorem value : Cert.algebraic_AdamKernelIdeal_AdamReferenceIdeal := by
  intro m g m' g' hpre hagree
  have hO := ok_pi m hpre
  have hc : chip m < 4 := chip_lt m hpre _
  refine ⟨fun c => grad ⟨chip m, hc⟩ (sa m c) (la m c), fun c => step (grad ⟨chip m, hc⟩ (sa m c) (la m c)) (wa m c) (ma m c) (va m c),
    fun c => mom (grad ⟨chip m, hc⟩ (sa m c) (la m c)) (ma m c), fun c => var (grad ⟨chip m, hc⟩ (sa m c) (la m c)) (va m c), ?_, ?_⟩
  · refine θ_run_mono (Cert.AdamKernelIdeal.Gen.run_main m g hO) fun r h c => ?_
    exact ⟨((h c).1 5).trans (final5 m hO hc c), ((h c).1 6).trans (final6 m hO hc c), ((h c).1 7).trans (final7 m hO hc c), ((h c).1 8).trans (final8 m hO hc c),
      ((h c).2 Cert.AdamKernelIdeal.main_arg0 (by decide : Cert.AdamKernelIdeal.main_arg0 ∈ Pipeline.restRefs Cert.AdamKernelIdeal.sig Cert.AdamKernelIdeal.spec0)).trans (Cert.AdamKernelIdeal.Gen.V_main_arg0 m c),
      ((h c).2 Cert.AdamKernelIdeal.main_arg1 (by decide : Cert.AdamKernelIdeal.main_arg1 ∈ Pipeline.restRefs Cert.AdamKernelIdeal.sig Cert.AdamKernelIdeal.spec0)).trans (Cert.AdamKernelIdeal.Gen.V_main_arg1 m c),
      ((h c).1 2).trans (((Cert.AdamKernelIdeal.Gen.dats m hO 0 c).arrAt_in 2 rfl _).trans (Cert.AdamKernelIdeal.Gen.V_main_arg2 m c)),
      ((h c).1 3).trans (((Cert.AdamKernelIdeal.Gen.dats m hO 0 c).arrAt_in 3 rfl _).trans (Cert.AdamKernelIdeal.Gen.V_main_arg3 m c)),
      ((h c).1 4).trans (((Cert.AdamKernelIdeal.Gen.dats m hO 0 c).arrAt_in 4 rfl _).trans (Cert.AdamKernelIdeal.Gen.V_main_arg4 m c)),
      ((h c).2 Cert.AdamKernelIdeal.main_arg5 (by decide : Cert.AdamKernelIdeal.main_arg5 ∈ Pipeline.restRefs Cert.AdamKernelIdeal.sig Cert.AdamKernelIdeal.spec0)).trans (Cert.AdamKernelIdeal.Gen.V_main_arg5 m c)⟩
  · refine θ_run_mono (Cert.AdamReferenceIdeal.Value.run m' g') fun r h c => ?_
    obtain ⟨h0, h1, h2, h3, h4, h5⟩ := hagree c
    obtain ⟨e8, e32, e13, e19, ea⟩ := h c
    obtain rfl : c = 0 := Subsingleton.elim _ _
    have ec : chip m = ((m ((0 : Dev Cert.AdamKernelIdeal.nD).tc.loc Cert.AdamKernelIdeal.main_arg5) : IVec Cert.AdamKernelIdeal.S1 32) (ix1 0)).toNat := by
      unfold chip; rw [Cert.AdamKernelIdeal.Gen.V_main_arg5]
    have hn := hc
    rw [ec] at hn
    have hg := ref_grad (sa m 0) (la m 0) (m ((0 : Dev Cert.AdamKernelIdeal.nD).tc.loc Cert.AdamKernelIdeal.main_arg5)) hn
    rw [← show (⟨chip m, hc⟩ : Fin 4) = ⟨_, hn⟩ from Fin.ext ec] at hg
    rw [h0, h1, h5] at e8
    rw [h0, h1, h2, h3, h4, h5] at e32
    rw [h0, h1, h3, h5] at e13
    rw [h0, h1, h4, h5] at e19
    exact ⟨e8.trans hg, (e32.trans (ref_step _ _ _ _ _ _)).trans (congrArg (fun g => step g (wa m 0) (ma m 0) (va m 0)) hg),
      (e13.trans (ref_mom _ _ _ _)).trans (congrArg (fun g => mom g (ma m 0)) hg), (e19.trans (ref_var _ _ _ _)).trans (congrArg (fun g => var g (va m 0)) hg), ea⟩

end Cert.Proof.Adam

end
-- ==== Proof.lean ====
module

public import proofs.«01_k».proof.Defs
public import proofs.«01_k».proof.Proof.Gate
public import proofs.«01_k».proof.Proof.Mla
public import proofs.«01_k».proof.Proof.Na
public import proofs.«01_k».proof.Proof.Columns
public import proofs.«01_k».proof.Proof.Table
public import proofs.«01_k».proof.Proof.Ffn
public import proofs.«01_k».proof.Proof.Mix
public import proofs.«01_k».proof.Proof.Loss
public import proofs.«01_k».proof.Proof.Norm
public import proofs.«01_k».proof.Proof.Post
public import proofs.«01_k».proof.Proof.Latent
public import proofs.«01_k».proof.Proof.Mlafwd
public import proofs.«01_k».proof.Proof.Rmsfwd
public import proofs.«01_k».proof.Proof.Up
public import proofs.«01_k».proof.Proof.Merge
public import proofs.«01_k».proof.Proof.Embed
public import proofs.«01_k».proof.Proof.Prep
public import proofs.«01_k».proof.Proof.Queries
public import proofs.«01_k».proof.Proof.Keys
public import proofs.«01_k».proof.Proof.Down
public import proofs.«01_k».proof.Proof.Out
public import proofs.«01_k».proof.Proof.Nafwd
public import proofs.«01_k».proof.Proof.Downdw
public import proofs.«01_k».proof.Proof.Updw
public import proofs.«01_k».proof.Proof.Updx
public import proofs.«01_k».proof.Proof.Inqkv
public import proofs.«01_k».proof.Proof.Branchdw
public import proofs.«01_k».proof.Proof.Queriesdw
public import proofs.«01_k».proof.Proof.Queriesdx
public import proofs.«01_k».proof.Proof.Branchdx
public import proofs.«01_k».proof.Proof.Gatedw
public import proofs.«01_k».proof.Proof.Gatedx
public import proofs.«01_k».proof.Proof.Indx
public import proofs.«01_k».proof.Proof.Adam

@[expose] public section

noncomputable section

namespace Cert.Proof

open Idealize.ShloMosaic Idealize.SL.Sem

theorem claim : Cert.Claim :=
  ⟨Cert.GateKernel.Gen.facts, Cert.GateKernelIdeal.Gen.facts, Cert.GateReferenceIdeal.Gen.facts,
    Cert.MlaKernel.Gen.facts, Cert.MlaKernelIdeal.Gen.facts, Cert.MlaReferenceIdeal.Gen.facts,
    Cert.NaKernel.Gen.facts, Cert.NaKernelIdeal.Gen.facts, Cert.NaReferenceIdeal.Gen.facts,
    Cert.ColumnsKernel.Gen.facts, Cert.ColumnsKernelIdeal.Gen.facts, Cert.ColumnsReferenceIdeal.Gen.facts,
    Cert.TableKernel.Gen.facts, Cert.TableKernelIdeal.Gen.facts, Cert.TableReferenceIdeal.Gen.facts,
    Cert.FfnKernel.Gen.facts, Cert.FfnKernelIdeal.Gen.facts, Cert.FfnReferenceIdeal.Gen.facts,
    Cert.MixKernel.Gen.facts, Cert.MixKernelIdeal.Gen.facts, Cert.MixReferenceIdeal.Gen.facts,
    Cert.LossKernel.Gen.facts, Cert.LossKernelIdeal.Gen.facts, Cert.LossReferenceIdeal.Gen.facts,
    Cert.NormKernel.Gen.facts, Cert.NormKernelIdeal.Gen.facts, Cert.NormReferenceIdeal.Gen.facts,
    Cert.PostKernel.Gen.facts, Cert.PostKernelIdeal.Gen.facts, Cert.PostReferenceIdeal.Gen.facts,
    Cert.LatentKernel.Gen.facts, Cert.LatentKernelIdeal.Gen.facts, Cert.LatentReferenceIdeal.Gen.facts,
    Cert.MlafwdKernel.Gen.facts, Cert.MlafwdKernelIdeal.Gen.facts, Cert.MlafwdReferenceIdeal.Gen.facts,
    Cert.RmsfwdKernel.Gen.facts, Cert.RmsfwdKernelIdeal.Gen.facts, Cert.RmsfwdReferenceIdeal.Gen.facts,
    Cert.UpKernel.Gen.facts, Cert.UpKernelIdeal.Gen.facts, Cert.UpReferenceIdeal.Gen.facts,
    Cert.MergeKernel.Gen.facts, Cert.MergeKernelIdeal.Gen.facts, Cert.MergeReferenceIdeal.Gen.facts,
    Cert.EmbedKernel.Gen.facts, Cert.EmbedKernelIdeal.Gen.facts, Cert.EmbedReferenceIdeal.Gen.facts,
    Cert.PrepKernel.Gen.facts, Cert.PrepKernelIdeal.Gen.facts, Cert.PrepReferenceIdeal.Gen.facts,
    Cert.QueriesKernel.Gen.facts, Cert.QueriesKernelIdeal.Gen.facts, Cert.QueriesReferenceIdeal.Gen.facts,
    Cert.KeysKernel.Gen.facts, Cert.KeysKernelIdeal.Gen.facts, Cert.KeysReferenceIdeal.Gen.facts,
    Cert.DownKernel.Gen.facts, Cert.DownKernelIdeal.Gen.facts, Cert.DownReferenceIdeal.Gen.facts,
    Cert.OutKernel.Gen.facts, Cert.OutKernelIdeal.Gen.facts, Cert.OutReferenceIdeal.Gen.facts,
    Cert.NafwdKernel.Gen.facts, Cert.NafwdKernelIdeal.Gen.facts, Cert.NafwdReferenceIdeal.Gen.facts,
    Cert.DowndwKernel.Gen.facts, Cert.DowndwKernelIdeal.Gen.facts, Cert.DowndwReferenceIdeal.Gen.facts,
    Cert.UpdwKernel.Gen.facts, Cert.UpdwKernelIdeal.Gen.facts, Cert.UpdwReferenceIdeal.Gen.facts,
    Cert.UpdxKernel.Gen.facts, Cert.UpdxKernelIdeal.Gen.facts, Cert.UpdxReferenceIdeal.Gen.facts,
    Cert.InqkvKernel.Gen.facts, Cert.InqkvKernelIdeal.Gen.facts, Cert.InqkvReferenceIdeal.Gen.facts,
    Cert.BranchdwKernel.Gen.facts, Cert.BranchdwKernelIdeal.Gen.facts, Cert.BranchdwReferenceIdeal.Gen.facts,
    Cert.QueriesdwKernel.Gen.facts, Cert.QueriesdwKernelIdeal.Gen.facts, Cert.QueriesdwReferenceIdeal.Gen.facts,
    Cert.QueriesdxKernel.Gen.facts, Cert.QueriesdxKernelIdeal.Gen.facts, Cert.QueriesdxReferenceIdeal.Gen.facts,
    Cert.BranchdxKernel.Gen.facts, Cert.BranchdxKernelIdeal.Gen.facts, Cert.BranchdxReferenceIdeal.Gen.facts,
    Cert.GatedwKernel.Gen.facts, Cert.GatedwKernelIdeal.Gen.facts, Cert.GatedwReferenceIdeal.Gen.facts,
    Cert.GatedxKernel.Gen.facts, Cert.GatedxKernelIdeal.Gen.facts, Cert.GatedxReferenceIdeal.Gen.facts,
    Cert.IndxKernel.Gen.facts, Cert.IndxKernelIdeal.Gen.facts, Cert.IndxReferenceIdeal.Gen.facts,
    Cert.AdamKernel.Gen.facts, Cert.AdamKernelIdeal.Gen.facts, Cert.AdamReferenceIdeal.Gen.facts,
    Cert.Pre_queries_and_keys_finite.Gen.facts, Cert.Pre_all_but_gate_finite.Gen.facts,
    Cert.Pre_chip_in_range.Gen.facts, Gate.frame_p, Gate.frame_pi, Gate.frame_ri, Mla.frame_p, Mla.frame_pi,
    (fun m ρ _ => Mla.frame_pi m ρ trivial), Mla.frame_ri, (fun m ρ _ => Mla.frame_ri m ρ trivial), Na.frame_p,
    Na.frame_pi, Na.frame_ri, Columns.frame_p, Columns.frame_pi, Columns.frame_ri, Table.frame_p, Table.frame_pi,
    Table.frame_ri, Ffn.frame_p, Ffn.frame_pi, (fun m ρ _ => Ffn.frame_pi m ρ trivial), Ffn.frame_ri,
    (fun m ρ _ => Ffn.frame_ri m ρ trivial), Mix.frame_p, Mix.frame_pi, Mix.frame_ri, Loss.frame_p, Loss.frame_pi,
    Loss.frame_ri, Norm.frame_p, Norm.frame_pi, Norm.frame_ri, Post.frame_p, Post.frame_pi, Post.frame_ri,
    Latent.frame_p, Latent.frame_pi, Latent.frame_ri, Mlafwd.frame_p, Mlafwd.frame_pi, Mlafwd.frame_ri,
    Rmsfwd.frame_p, Rmsfwd.frame_pi, Rmsfwd.frame_ri, Up.frame_p, Up.frame_pi, Up.frame_ri, Merge.frame_p,
    Merge.frame_pi, Merge.frame_ri, Embed.frame_p, Embed.frame_pi, Embed.frame_ri, Prep.frame_p, Prep.frame_pi,
    Prep.frame_ri, Queries.frame_p, Queries.frame_pi, Queries.frame_ri, Keys.frame_p, Keys.frame_pi, Keys.frame_ri,
    Down.frame_p, Down.frame_pi, Down.frame_ri, Out.frame_p, Out.frame_pi, Out.frame_ri, Nafwd.frame_p,
    Nafwd.frame_pi, Nafwd.frame_ri, Downdw.frame_p, Downdw.frame_pi, Downdw.frame_ri, Updw.frame_p, Updw.frame_pi,
    Updw.frame_ri, Updx.frame_p, Updx.frame_pi, Updx.frame_ri, Inqkv.frame_p, Inqkv.frame_pi, Inqkv.frame_ri,
    Branchdw.frame_p, Branchdw.frame_pi, Branchdw.frame_ri, Queriesdw.frame_p, Queriesdw.frame_pi,
    Queriesdw.frame_ri, Queriesdx.frame_p, Queriesdx.frame_pi, Queriesdx.frame_ri, Branchdx.frame_p,
    Branchdx.frame_pi, Branchdx.frame_ri, Gatedw.frame_p, Gatedw.frame_pi, Gatedw.frame_ri, Gatedx.frame_p,
    Gatedx.frame_pi, Gatedx.frame_ri, Indx.frame_p, Indx.frame_pi, Indx.frame_ri, Adam.frame_p, Adam.frame_pi,
    Adam.frame_ri, (fun m ρ _ => Adam.frame_ri m ρ trivial), trivial, Gate.value, trivial, Mla.value, Na.preserves,
    trivial, Columns.value, trivial, Table.value, trivial, Ffn.value, trivial, Mix.value, trivial, Loss.value,
    trivial, Norm.value, trivial, Post.value, trivial, Latent.value, trivial, Mlafwd.value, trivial, Rmsfwd.value,
    trivial, Up.value, trivial, Merge.value, trivial, Embed.value, trivial, Prep.value, trivial, Queries.value,
    trivial, Keys.value, trivial, Down.value, trivial, Out.value, Nafwd.preserves, trivial, Downdw.value, trivial,
    Updw.value, trivial, Updx.value, trivial, Inqkv.value, trivial, Branchdw.value, trivial, Queriesdw.value,
    trivial, Queriesdx.value, trivial, Branchdx.value, trivial, Gatedw.value, trivial, Gatedx.value, trivial,
    Indx.value, trivial, Adam.value⟩

end Cert.Proof

end
